-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.2.2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))).2.2.2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.2.2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))).2.2.2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v20_11) = v1 c
          ∧ r.2.mem ((c.tc : Thread Cert.ReferenceIdeal.nD Cert.ReferenceIdeal.τ).loc Cert.ReferenceIdeal.main_v20_12) = v2 c
          ∧ r.2.mem ((c.tc : Thread Cert.ReferenceIdeal.nD Cert.ReferenceIdeal.τ).loc Cert.ReferenceIdeal.main_v20_13) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v43) = v0 c
          ∧ r.2.mem ((c.tc : Thread Cert.Reference9Ideal.nD Cert.Reference9Ideal.τ).loc Cert.Reference9Ideal.main_v21) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v14) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v46) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v41) = v0 c
          ∧ r.2.mem ((c.tc : Thread Cert.Reference14Ideal.nD Cert.Reference14Ideal.τ).loc Cert.Reference14Ideal.main_v42) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v49) = v0 c
          ∧ r.2.mem ((c.tc : Thread Cert.Reference15Ideal.nD Cert.Reference15Ideal.τ).loc Cert.Reference15Ideal.main_v33) = v1 c
          ∧ r.2.mem ((c.tc : Thread Cert.Reference15Ideal.nD Cert.Reference15Ideal.τ).loc Cert.Reference15Ideal.main_v50) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts) (hPre_finite9 : Cert.Pre_finite9.Facts) (hPre_finite13 : Cert.Pre_finite13.Facts) (hPre_finite14 : Cert.Pre_finite14.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
-- ==== Pre_finite.lean ====
abbrev S4160x1024 : Shape := ⟨2, ![4160, 1024]⟩
abbrev S1024x1024 : Shape := ⟨2, ![1024, 1024]⟩
abbrev S4160x3200 : Shape := ⟨2, ![4160, 3200]⟩
abbrev S65x1024x128 : Shape := ⟨3, ![65, 1024, 128]⟩
abbrev S128x512 : Shape := ⟨2, ![128, 512]⟩
abbrev S1x512 : Shape := ⟨2, ![1, 512]⟩
abbrev S1x256 : Shape := ⟨2, ![1, 256]⟩
abbrev S_ : Shape := ⟨0, ![]⟩

class Facts : Prop where
  bcast_S_S4160x1024 : S_.BroadcastsInDim S4160x1024 (![] : Fin 0 → Fin S4160x1024.rank)
  bitsLt_bf16_f32 : FTy.bits .bf16 < FTy.bits .f32
  bcast_S_S1024x1024 : S_.BroadcastsInDim S1024x1024 (![] : Fin 0 → Fin S1024x1024.rank)
  bcast_S_S4160x3200 : S_.BroadcastsInDim S4160x3200 (![] : Fin 0 → Fin S4160x3200.rank)
  bcast_S_S65x1024x128 : S_.BroadcastsInDim S65x1024x128 (![] : Fin 0 → Fin S65x1024x128.rank)
  bcast_S_S128x512 : S_.BroadcastsInDim S128x512 (![] : Fin 0 → Fin S128x512.rank)
  bcast_S_S1x512 : S_.BroadcastsInDim S1x512 (![] : Fin 0 → Fin S1x512.rank)
  bcast_S_S1x256 : S_.BroadcastsInDim S1x256 (![] : Fin 0 → Fin S1x256.rank)

variable [Facts]

def fn_part1 {F : FTy → Type} [FloatOps F] (main_arg5 : FVec F S128x512 .bf16) (main_arg6 : FVec F S1x512 .f32) (main_arg7 : FVec F S1x256 .f32) (main_v2 : IVec S4160x1024 1) (main_v6 : IVec S1024x1024 1) (main_v10 : IVec S4160x1024 1) (main_v14 : IVec S4160x3200 1) (main_v18 : IVec S65x1024x128 1) : IVec S4160x1024 1 × IVec S1024x1024 1 × IVec S4160x1024 1 × IVec S4160x3200 1 × IVec S65x1024x128 1 × IVec S128x512 1 × IVec S1x512 1 × IVec S1x256 1 :=
  let main_v19 : FVec F S128x512 .f32 := (extf .f32 · bitsLt_bf16_f32) main_arg5
  let main_v20 : FVec F S128x512 .f32 := Host.absf main_v19
  let main_cst_4 : FVec F S_ .f32 := constant S_ .f32 0x7F800000#32
  let main_v21 : FVec F S128x512 .f32 := broadcastInDim S128x512 ![] bcast_S_S128x512 main_cst_4
  let main_v22 : IVec S128x512 1 := cmpf .olt main_v20 main_v21
  let main_v23 : FVec F S1x512 .f32 := Host.absf main_arg6
  let main_cst_5 : FVec F S_ .f32 := constant S_ .f32 0x7F800000#32
  let main_v24 : FVec F S1x512 .f32 := broadcastInDim S1x512 ![] bcast_S_S1x512 main_cst_5
  let main_v25 : IVec S1x512 1 := cmpf .olt main_v23 main_v24
  let main_v26 : FVec F S1x256 .f32 := Host.absf main_arg7
  let main_cst_6 : FVec F S_ .f32 := constant S_ .f32 0x7F800000#32
  let main_v27 : FVec F S1x256 .f32 := broadcastInDim S1x256 ![] bcast_S_S1x256 main_cst_6
  let main_v28 : IVec S1x256 1 := cmpf .olt main_v26 main_v27
  (main_v2, main_v6, main_v10, main_v14, main_v18, main_v22, main_v25, main_v28)

def fn {F : FTy → Type} [FloatOps F] (main_arg0 : FVec F S4160x1024 .f32) (main_arg1 : FVec F S1024x1024 .bf16) (main_arg2 : FVec F S4160x1024 .bf16) (main_arg3 : FVec F S4160x3200 .bf16) (main_arg4 : FVec F S65x1024x128 .bf16) (main_arg5 : FVec F S128x512 .bf16) (main_arg6 : FVec F S1x512 .f32) (main_arg7 : FVec F S1x256 .f32) : IVec S4160x1024 1 × IVec S1024x1024 1 × IVec S4160x1024 1 × IVec S4160x3200 1 × IVec S65x1024x128 1 × IVec S128x512 1 × IVec S1x512 1 × IVec S1x256 1 :=
  let main_v0 : FVec F S4160x1024 .f32 := Host.absf main_arg0
  let main_cst : FVec F S_ .f32 := constant S_ .f32 0x7F800000#32
  let main_v1 : FVec F S4160x1024 .f32 := broadcastInDim S4160x1024 ![] bcast_S_S4160x1024 main_cst
  let main_v2 : IVec S4160x1024 1 := cmpf .olt main_v0 main_v1
  let main_v3 : FVec F S1024x1024 .f32 := (extf .f32 · bitsLt_bf16_f32) main_arg1
  let main_v4 : FVec F S1024x1024 .f32 := Host.absf main_v3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_v7 : FVec F S4160x1024 .f32 := (extf .f32 · bitsLt_bf16_f32) main_arg2
  let main_v8 : FVec F S4160x1024 .f32 := Host.absf main_v7
  let main_cst_1 : FVec F S_ .f32 := constant S_ .f32 0x7F800000#32
  let main_v9 : FVec F S4160x1024 .f32 := broadcastInDim S4160x1024 ![] bcast_S_S4160x1024 main_cst_1
  let main_v10 : IVec S4160x1024 1 := cmpf .olt main_v8 main_v9
  let main_v11 : FVec F S4160x3200 .f32 := (extf .f32 · bitsLt_bf16_f32) main_arg3
  let main_v12 : FVec F S4160x3200 .f32 := Host.absf main_v11
  let main_cst_2 : FVec F S_ .f32 := constant S_ .f32 0x7F800000#32
  let main_v13 : FVec F S4160x3200 .f32 := broadcastInDim S4160x3200 ![] bcast_S_S4160x3200 main_cst_2
  let main_v14 : IVec S4160x3200 1 := cmpf .olt main_v12 main_v13
  let main_v15 : FVec F S65x1024x128 .f32 := (extf .f32 · bitsLt_bf16_f32) main_arg4
  let main_v16 : FVec F S65x1024x128 .f32 := Host.absf main_v15
  let main_cst_3 : FVec F S_ .f32 := constant S_ .f32 0x7F800000#32
  let main_v17 : FVec F S65x1024x128 .f32 := broadcastInDim S65x1024x128 ![] bcast_S_S65x1024x128 main_cst_3
  let main_v18 : IVec S65x1024x128 1 := cmpf .olt main_v16 main_v17
  fn_part1 (F := F) main_arg5 main_arg6 main_arg7 main_v2 main_v6 main_v10 main_v14 main_v18
-- ==== Pre_finite13.lean ====
abbrev S4160x1536 : Shape := ⟨2, ![4160, 1536]⟩
abbrev S1024x1536 : Shape := ⟨2, ![1024, 1536]⟩
abbrev S4160x1024 : Shape := ⟨2, ![4160, 1024]⟩
abbrev S1x1024 : Shape := ⟨2, ![1, 1024]⟩
abbrev S_ : Shape := ⟨0, ![]⟩

class Facts : Prop where
  bitsLt_bf16_f32 : FTy.bits .bf16 < FTy.bits .f32
  bcast_S_S4160x1536 : S_.BroadcastsInDim S4160x1536 (![] : Fin 0 → Fin S4160x1536.rank)
  bcast_S_S1024x1536 : S_.BroadcastsInDim S1024x1536 (![] : Fin 0 → Fin S1024x1536.rank)
  bcast_S_S4160x1024 : S_.BroadcastsInDim S4160x1024 (![] : Fin 0 → Fin S4160x1024.rank)
  bcast_S_S1x1024 : S_.BroadcastsInDim S1x1024 (![] : Fin 0 → Fin S1x1024.rank)

variable [Facts]

def fn {F : FTy → Type} [FloatOps F] (main_arg0 : FVec F S4160x1536 .bf16) (main_arg1 : FVec F S1024x1536 .bf16) (main_arg2 : FVec F S4160x1024 .f32) (main_arg3 : FVec F S1x1024 .f32) (main_arg4 : FVec F S4160x1024 .f32) : IVec S4160x1536 1 × IVec S1024x1536 1 × IVec S4160x1024 1 × IVec S1x1024 1 × IVec S4160x1024 1 :=
  let main_v0 : FVec F S4160x1536 .f32 := (extf .f32 · bitsLt_bf16_f32) main_arg0
  let main_v1 : FVec F S4160x1536 .f32 := Host.absf main_v0
  let main_cst : FVec F S_ .f32 := constant S_ .f32 0x7F800000#32
  let main_v2 : FVec F S4160x1536 .f32 := broadcastInDim S4160x1536 ![] bcast_S_S4160x1536 main_cst
  let main_v3 : IVec S4160x1536 1 := cmpf .olt main_v1 main_v2
  let main_v4 : FVec F S1024x1536 .f32 := (extf .f32 · bitsLt_bf16_f32) main_arg1
  let main_v5 : FVec F S1024x1536 .f32 := Host.absf main_v4
  let main_cst_0 : FVec F S_ .f32 := constant S_ .f32 0x7F800000#32
  let main_v6 : FVec F S1024x1536 .f32 := broadcastInDim S1024x1536 ![] bcast_S_S1024x1536 main_cst_0
  let main_v7 : IVec S1024x1536 1 := cmpf .olt main_v5 main_v6
  let main_v8 : FVec F S4160x1024 .f32 := Host.absf main_arg2
  let main_cst_1 : FVec F S_ .f32 := constant S_ .f32 0x7F800000#32
  let main_v9 : FVec F S4160x1024 .f32 := broadcastInDim S4160x1024 ![] bcast_S_S4160x1024 main_cst_1
  let main_v10 : IVec S4160x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S4160x1024 .f32 := Host.absf main_arg4
  let main_cst_3 : FVec F S_ .f32 := constant S_ .f32 0x7F800000#32
  let main_v15 : FVec F S4160x1024 .f32 := broadcastInDim S4160x1024 ![] bcast_S_S4160x1024 main_cst_3
  let main_v16 : IVec S4160x1024 1 := cmpf .olt main_v14 main_v15
  (main_v3, main_v7, main_v10, main_v13, main_v16)
-- ==== Pre_finite14.lean ====
abbrev S4160x1536 : Shape := ⟨2, ![4160, 1536]⟩
abbrev S1024x1536 : Shape := ⟨2, ![1024, 1536]⟩
abbrev S4160x1024 : Shape := ⟨2, ![4160, 1024]⟩
abbrev S1x1024 : Shape := ⟨2, ![1, 1024]⟩
abbrev S_ : Shape := ⟨0, ![]⟩

class Facts : Prop where
  bitsLt_bf16_f32 : FTy.bits .bf16 < FTy.bits .f32
  bcast_S_S4160x1536 : S_.BroadcastsInDim S4160x1536 (![] : Fin 0 → Fin S4160x1536.rank)
  bcast_S_S1024x1536 : S_.BroadcastsInDim S1024x1536 (![] : Fin 0 → Fin S1024x1536.rank)
  bcast_S_S4160x1024 : S_.BroadcastsInDim S4160x1024 (![] : Fin 0 → Fin S4160x1024.rank)
  bcast_S_S1x1024 : S_.BroadcastsInDim S1x1024 (![] : Fin 0 → Fin S1x1024.rank)

variable [Facts]

def fn_part1 {F : FTy → Type} [FloatOps F] (main_v3 : IVec S4160x1536 1) (main_v7 : IVec S1024x1536 1) (main_v10 : IVec S4160x1024 1) (main_v13 : IVec S1x1024 1) (main_v16 : IVec S4160x1024 1) (main_v17 : FVec F S1x1024 .f32) (main_cst_4 : FVec F S_ .f32) : IVec S4160x1536 1 × IVec S1024x1536 1 × IVec S4160x1024 1 × IVec S1x1024 1 × IVec S4160x1024 1 × IVec S1x1024 1 :=
  let main_v18 : FVec F S1x1024 .f32 := broadcastInDim S1x1024 ![] bcast_S_S1x1024 main_cst_4
  let main_v19 : IVec S1x1024 1 := cmpf .olt main_v17 main_v18
  (main_v3, main_v7, main_v10, main_v13, main_v16, main_v19)

def fn {F : FTy → Type} [FloatOps F] (main_arg0 : FVec F S4160x1536 .bf16) (main_arg1 : FVec F S1024x1536 .bf16) (main_arg2 : FVec F S4160x1024 .f32) (main_arg3 : FVec F S1x1024 .f32) (main_arg4 : FVec F S4160x1024 .f32) (main_arg5 : FVec F S1x1024 .f32) : IVec S4160x1536 1 × IVec S1024x1536 1 × IVec S4160x1024 1 × IVec S1x1024 1 × IVec S4160x1024 1 × IVec S1x1024 1 :=
  let main_v0 : FVec F S4160x1536 .f32 := (extf .f32 · bitsLt_bf16_f32) main_arg0
  let main_v1 : FVec F S4160x1536 .f32 := Host.absf main_v0
  let main_cst : FVec F S_ .f32 := constant S_ .f32 0x7F800000#32
  let main_v2 : FVec F S4160x1536 .f32 := broadcastInDim S4160x1536 ![] bcast_S_S4160x1536 main_cst
  let main_v3 : IVec S4160x1536 1 := cmpf .olt main_v1 main_v2
  let main_v4 : FVec F S1024x1536 .f32 := (extf .f32 · bitsLt_bf16_f32) main_arg1
  let main_v5 : FVec F S1024x1536 .f32 := Host.absf main_v4
  let main_cst_0 : FVec F S_ .f32 := constant S_ .f32 0x7F800000#32
  let main_v6 : FVec F S1024x1536 .f32 := broadcastInDim S1024x1536 ![] bcast_S_S1024x1536 main_cst_0
  let main_v7 : IVec S1024x1536 1 := cmpf .olt main_v5 main_v6
  let main_v8 : FVec F S4160x1024 .f32 := Host.absf main_arg2
  let main_cst_1 : FVec F S_ .f32 := constant S_ .f32 0x7F800000#32
  let main_v9 : FVec F S4160x1024 .f32 := broadcastInDim S4160x1024 ![] bcast_S_S4160x1024 main_cst_1
  let main_v10 : IVec S4160x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S4160x1024 .f32 := Host.absf main_arg4
  let main_cst_3 : FVec F S_ .f32 := constant S_ .f32 0x7F800000#32
  let main_v15 : FVec F S4160x1024 .f32 := broadcastInDim S4160x1024 ![] bcast_S_S4160x1024 main_cst_3
  let main_v16 : IVec S4160x1024 1 := cmpf .olt main_v14 main_v15
  let main_v17 : FVec F S1x1024 .f32 := Host.absf main_arg5
  let main_cst_4 : FVec F S_ .f32 := constant S_ .f32 0x7F800000#32
  fn_part1 (F := F) main_v3 main_v7 main_v10 main_v13 main_v16 main_v17 main_cst_4
-- ==== Pre_finite15.lean ====
abbrev S4160x1024 : Shape := ⟨2, ![4160, 1024]⟩
abbrev S1x1024 : Shape := ⟨2, ![1, 1024]⟩
abbrev S4096x1024 : Shape := ⟨2, ![4096, 1024]⟩
abbrev S_ : Shape := ⟨0, ![]⟩

class Facts : Prop where
  bcast_S_S4160x1024 : S_.BroadcastsInDim S4160x1024 (![] : Fin 0 → Fin S4160x1024.rank)
  bcast_S_S1x1024 : S_.BroadcastsInDim S1x1024 (![] : Fin 0 → Fin S1x1024.rank)
  bcast_S_S4096x1024 : S_.BroadcastsInDim S4096x1024 (![] : Fin 0 → Fin S4096x1024.rank)

variable [Facts]

def fn {F : FTy → Type} [FloatOps F] (main_arg0 : FVec F S4160x1024 .f32) (main_arg1 : FVec F S1x1024 .f32) (main_arg2 : FVec F S4096x1024 .f32) : IVec S4160x1024 1 × IVec S1x1024 1 × IVec S4096x1024 1 :=
  let main_v0 : FVec F S4160x1024 .f32 := Host.absf main_arg0
  let main_cst : FVec F S_ .f32 := constant S_ .f32 0x7F800000#32
  let main_v1 : FVec F S4160x1024 .f32 := broadcastInDim S4160x1024 ![] bcast_S_S4160x1024 main_cst
  let main_v2 : IVec S4160x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite2.lean ====
abbrev S4160x1024 : Shape := ⟨2, ![4160, 1024]⟩
abbrev S1x1024 : Shape := ⟨2, ![1, 1024]⟩
abbrev S4160x4096 : Shape := ⟨2, ![4160, 4096]⟩
abbrev S4x1024x1024 : Shape := ⟨3, ![4, 1024, 1024]⟩
abbrev S_ : Shape := ⟨0, ![]⟩

class Facts : Prop where
  bcast_S_S4160x1024 : S_.BroadcastsInDim S4160x1024 (![] : Fin 0 → Fin S4160x1024.rank)
  bcast_S_S1x1024 : S_.BroadcastsInDim S1x1024 (![] : Fin 0 → Fin S1x1024.rank)
  bitsLt_bf16_f32 : FTy.bits .bf16 < FTy.bits .f32
  bcast_S_S4160x4096 : S_.BroadcastsInDim S4160x4096 (![] : Fin 0 → Fin S4160x4096.rank)
  bcast_S_S4x1024x1024 : S_.BroadcastsInDim S4x1024x1024 (![] : Fin 0 → Fin S4x1024x1024.rank)

variable [Facts]

def fn_part1 {F : FTy → Type} [FloatOps F] (main_v2 : IVec S4160x1024 1) (main_v5 : IVec S4160x1024 1) (main_v8 : IVec S1x1024 1) (main_v12 : IVec S4160x4096 1) (main_v16 : IVec S4x1024x1024 1) (main_v18 : FVec F S4x1024x1024 .f32) : IVec S4160x1024 1 × IVec S4160x1024 1 × IVec S1x1024 1 × IVec S4160x4096 1 × IVec S4x1024x1024 1 × IVec S4x1024x1024 1 :=
  let main_cst_4 : FVec F S_ .f32 := constant S_ .f32 0x7F800000#32
  let main_v19 : FVec F S4x1024x1024 .f32 := broadcastInDim S4x1024x1024 ![] bcast_S_S4x1024x1024 main_cst_4
  let main_v20 : IVec S4x1024x1024 1 := cmpf .olt main_v18 main_v19
  (main_v2, main_v5, main_v8, main_v12, main_v16, main_v20)

def fn {F : FTy → Type} [FloatOps F] (main_arg0 : FVec F S4160x1024 .f32) (main_arg1 : FVec F S4160x1024 .f32) (main_arg2 : FVec F S1x1024 .f32) (main_arg3 : FVec F S4160x4096 .bf16) (main_arg4 : FVec F S4x1024x1024 .bf16) (main_arg5 : FVec F S4x1024x1024 .bf16) : IVec S4160x1024 1 × IVec S4160x1024 1 × IVec S1x1024 1 × IVec S4160x4096 1 × IVec S4x1024x1024 1 × IVec S4x1024x1024 1 :=
  let main_v0 : FVec F S4160x1024 .f32 := Host.absf main_arg0
  let main_cst : FVec F S_ .f32 := constant S_ .f32 0x7F800000#32
  let main_v1 : FVec F S4160x1024 .f32 := broadcastInDim S4160x1024 ![] bcast_S_S4160x1024 main_cst
  let main_v2 : IVec S4160x1024 1 := cmpf .olt main_v0 main_v1
  let main_v3 : FVec F S4160x1024 .f32 := Host.absf main_arg1
  let main_cst_0 : FVec F S_ .f32 := constant S_ .f32 0x7F800000#32
  let main_v4 : FVec F S4160x1024 .f32 := broadcastInDim S4160x1024 ![] bcast_S_S4160x1024 main_cst_0
  let main_v5 : IVec S4160x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4160x4096 .f32 := (extf .f32 · bitsLt_bf16_f32) main_arg3
  let main_v10 : FVec F S4160x4096 .f32 := Host.absf main_v9
  let main_cst_2 : FVec F S_ .f32 := constant S_ .f32 0x7F800000#32
  let main_v11 : FVec F S4160x4096 .f32 := broadcastInDim S4160x4096 ![] bcast_S_S4160x4096 main_cst_2
  let main_v12 : IVec S4160x4096 1 := cmpf .olt main_v10 main_v11
  let main_v13 : FVec F S4x1024x1024 .f32 := (extf .f32 · bitsLt_bf16_f32) main_arg4
  let main_v14 : FVec F S4x1024x1024 .f32 := Host.absf main_v13
  let main_cst_3 : FVec F S_ .f32 := constant S_ .f32 0x7F800000#32
  let main_v15 : FVec F S4x1024x1024 .f32 := broadcastInDim S4x1024x1024 ![] bcast_S_S4x1024x1024 main_cst_3
  let main_v16 : IVec S4x1024x1024 1 := cmpf .olt main_v14 main_v15
  let main_v17 : FVec F S4x1024x1024 .f32 := (extf .f32 · bitsLt_bf16_f32) main_arg5
  let main_v18 : FVec F S4x1024x1024 .f32 := Host.absf main_v17
  fn_part1 (F := F) main_v2 main_v5 main_v8 main_v12 main_v16 main_v18
-- ==== Pre_finite9.lean ====
abbrev S4160x3200 : Shape := ⟨2, ![4160, 3200]⟩
abbrev S1024x3200 : Shape := ⟨2, ![1024, 3200]⟩
abbrev S4160x1024 : Shape := ⟨2, ![4160, 1024]⟩
abbrev S1x1024 : Shape := ⟨2, ![1, 1024]⟩
abbrev S_ : Shape := ⟨0, ![]⟩

class Facts : Prop where
  bitsLt_bf16_f32 : FTy.bits .bf16 < FTy.bits .f32
  bcast_S_S4160x3200 : S_.BroadcastsInDim S4160x3200 (![] : Fin 0 → Fin S4160x3200.rank)
  bcast_S_S1024x3200 : S_.BroadcastsInDim S1024x3200 (![] : Fin 0 → Fin S1024x3200.rank)
  bcast_S_S4160x1024 : S_.BroadcastsInDim S4160x1024 (![] : Fin 0 → Fin S4160x1024.rank)
  bcast_S_S1x1024 : S_.BroadcastsInDim S1x1024 (![] : Fin 0 → Fin S1x1024.rank)

variable [Facts]

def fn {F : FTy → Type} [FloatOps F] (main_arg0 : FVec F S4160x3200 .bf16) (main_arg1 : FVec F S1024x3200 .bf16) (main_arg2 : FVec F S4160x1024 .f32) (main_arg3 : FVec F S1x1024 .f32) (main_arg4 : FVec F S4160x1024 .f32) : IVec S4160x3200 1 × IVec S1024x3200 1 × IVec S4160x1024 1 × IVec S1x1024 1 × IVec S4160x1024 1 :=
  let main_v0 : FVec F S4160x3200 .f32 := (extf .f32 · bitsLt_bf16_f32) main_arg0
  let main_v1 : FVec F S4160x3200 .f32 := Host.absf main_v0
  let main_cst : FVec F S_ .f32 := constant S_ .f32 0x7F800000#32
  let main_v2 : FVec F S4160x3200 .f32 := broadcastInDim S4160x3200 ![] bcast_S_S4160x3200 main_cst
  let main_v3 : IVec S4160x3200 1 := cmpf .olt main_v1 main_v2
  let main_v4 : FVec F S1024x3200 .f32 := (extf .f32 · bitsLt_bf16_f32) main_arg1
  let main_v5 : FVec F S1024x3200 .f32 := Host.absf main_v4
  let main_cst_0 : FVec F S_ .f32 := constant S_ .f32 0x7F800000#32
  let main_v6 : FVec F S1024x3200 .f32 := broadcastInDim S1024x3200 ![] bcast_S_S1024x3200 main_cst_0
  let main_v7 : IVec S1024x3200 1 := cmpf .olt main_v5 main_v6
  let main_v8 : FVec F S4160x1024 .f32 := Host.absf main_arg2
  let main_cst_1 : FVec F S_ .f32 := constant S_ .f32 0x7F800000#32
  let main_v9 : FVec F S4160x1024 .f32 := broadcastInDim S4160x1024 ![] bcast_S_S4160x1024 main_cst_1
  let main_v10 : IVec S4160x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S4160x1024 .f32 := Host.absf main_arg4
  let main_cst_3 : FVec F S_ .f32 := constant S_ .f32 0x7F800000#32
  let main_v15 : FVec F S4160x1024 .f32 := broadcastInDim S4160x1024 ![] bcast_S_S4160x1024 main_cst_3
  let main_v16 : IVec S4160x1024 1 := cmpf .olt main_v14 main_v15
  (main_v3, main_v7, main_v10, main_v13, main_v16)
-- ==== Kernel.lean ====
abbrev S4160x1024 : Shape := ⟨2, ![4160, 1024]⟩
abbrev S1024x1024 : Shape := ⟨2, ![1024, 1024]⟩
abbrev S4160x3200 : Shape := ⟨2, ![4160, 3200]⟩
abbrev S65x1024x128 : Shape := ⟨3, ![65, 1024, 128]⟩
abbrev S128x512 : Shape := ⟨2, ![128, 512]⟩
abbrev S1x512 : Shape := ⟨2, ![1, 512]⟩
abbrev S1x256 : Shape := ⟨2, ![1, 256]⟩
abbrev S832x1024 : Shape := ⟨2, ![832, 1024]⟩
abbrev S832x3200 : Shape := ⟨2, ![832, 3200]⟩
abbrev S13x1024x128 : Shape := ⟨3, ![13, 1024, 128]⟩
abbrev S1024x128 : Shape := ⟨2, ![1024, 128]⟩
abbrev S832x512 : Shape := ⟨2, ![832, 512]⟩
abbrev S104x512 : Shape := ⟨2, ![104, 512]⟩
abbrev S832x128 : Shape := ⟨2, ![832, 128]⟩
abbrev S64x64 : Shape := ⟨2, ![64, 64]⟩
abbrev S1x64x64 : Shape := ⟨3, ![1, 64, 64]⟩
abbrev S13x64x64 : Shape := ⟨3, ![13, 64, 64]⟩
abbrev S13x64x512 : Shape := ⟨3, ![13, 64, 512]⟩
abbrev S13x1x512 : Shape := ⟨3, ![13, 1, 512]⟩
abbrev S13x8x512 : Shape := ⟨3, ![13, 8, 512]⟩
abbrev S832x256 : Shape := ⟨2, ![832, 256]⟩
abbrev S256x1024 : Shape := ⟨2, ![256, 1024]⟩
abbrev S832 : Shape := ⟨1, ![832]⟩
abbrev S832x1 : Shape := ⟨2, ![832, 1]⟩
abbrev S256 : Shape := ⟨1, ![256]⟩
abbrev S13x64x256 : Shape := ⟨3, ![13, 64, 256]⟩
abbrev S13x64x128 : Shape := ⟨3, ![13, 64, 128]⟩
abbrev S13x256x128 : Shape := ⟨3, ![13, 256, 128]⟩
abbrev S13x1x128 : Shape := ⟨3, ![13, 1, 128]⟩
abbrev S8x512 : Shape := ⟨2, ![8, 512]⟩
abbrev S1x128 : Shape := ⟨2, ![1, 128]⟩
abbrev S64x128 : Shape := ⟨2, ![64, 128]⟩
abbrev S64x256 : Shape := ⟨2, ![64, 256]⟩
abbrev S1x256x128 : Shape := ⟨3, ![1, 256, 128]⟩
abbrev S256x128 : Shape := ⟨2, ![256, 128]⟩
abbrev S128 : Shape := ⟨1, ![128]⟩
abbrev S8x128 : Shape := ⟨2, ![8, 128]⟩
abbrev S512 : Shape := ⟨1, ![512]⟩

abbrev nBuf : Space → Nat
  | .hbm => 12
  | .vmem => 24
  | .smem => 0
  | _ => 0

abbrev bufTy : (tb : Table) → Fin (tcTables nBuf tb) → BufTy
  | .hbm, ⟨0, _⟩ => ⟨S4160x1024, .f32⟩
  | .hbm, ⟨1, _⟩ => ⟨S1024x1024, .bf16⟩
  | .hbm, ⟨2, _⟩ => ⟨S4160x1024, .bf16⟩
  | .hbm, ⟨3, _⟩ => ⟨S4160x3200, .bf16⟩
  | .hbm, ⟨4, _⟩ => ⟨S65x1024x128, .bf16⟩
  | .hbm, ⟨5, _⟩ => ⟨S128x512, .bf16⟩
  | .hbm, ⟨6, _⟩ => ⟨S1x512, .f32⟩
  | .hbm, ⟨7, _⟩ => ⟨S1x256, .f32⟩
  | .hbm, ⟨8, _⟩ => ⟨S4160x3200, .bf16⟩
  | .hbm, ⟨9, _⟩ => ⟨S128x512, .f32⟩
  | .hbm, ⟨10, _⟩ => ⟨S1x512, .f32⟩
  | .hbm, ⟨11, _⟩ => ⟨S1x256, .f32⟩
  | .local _ .vmem, ⟨0, _⟩ => ⟨S832x1024, .f32⟩
  | .local _ .vmem, ⟨1, _⟩ => ⟨S832x1024, .f32⟩
  | .local _ .vmem, ⟨2, _⟩ => ⟨S1024x1024, .bf16⟩
  | .local _ .vmem, ⟨3, _⟩ => ⟨S832x1024, .bf16⟩
  | .local _ .vmem, ⟨4, _⟩ => ⟨S832x1024, .bf16⟩
  | .local _ .vmem, ⟨5, _⟩ => ⟨S832x3200, .bf16⟩
  | .local _ .vmem, ⟨6, _⟩ => ⟨S832x3200, .bf16⟩
  | .local _ .vmem, ⟨7, _⟩ => ⟨S13x1024x128, .bf16⟩
  | .local _ .vmem, ⟨8, _⟩ => ⟨S13x1024x128, .bf16⟩
  | .local _ .vmem, ⟨9, _⟩ => ⟨S128x512, .bf16⟩
  | .local _ .vmem, ⟨10, _⟩ => ⟨S1x512, .f32⟩
  | .local _ .vmem, ⟨11, _⟩ => ⟨S1x256, .f32⟩
  | .local _ .vmem, ⟨12, _⟩ => ⟨S832x3200, .bf16⟩
  | .local _ .vmem, ⟨13, _⟩ => ⟨S832x3200, .bf16⟩
  | .local _ .vmem, ⟨14, _⟩ => ⟨S128x512, .f32⟩
  | .local _ .vmem, ⟨15, _⟩ => ⟨S1x512, .f32⟩
  | .local _ .vmem, ⟨16, _⟩ => ⟨S1x256, .f32⟩
  | .local _ .vmem, ⟨17, _⟩ => ⟨S1024x128, .f32⟩
  | .local _ .vmem, ⟨18, _⟩ => ⟨S832x512, .f32⟩
  | .local _ .vmem, ⟨19, _⟩ => ⟨S832x512, .f32⟩
  | .local _ .vmem, ⟨20, _⟩ => ⟨S832x512, .f32⟩
  | .local _ .vmem, ⟨21, _⟩ => ⟨S832x1024, .bf16⟩
  | .local _ .vmem, ⟨22, _⟩ => ⟨S104x512, .f32⟩
  | .local _ .vmem, ⟨23, _⟩ => ⟨S104x512, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![5], ![false]⟩

def k0_mult1 : BitVec 32 :=
  let c12_i32 : BitVec 32 := 12#32
  let c0_i32_146 : BitVec 32 := 0#32
  let v364 : BitVec 32 := Scalar.subi c12_i32 c0_i32_146
  let c64_i32 : BitVec 32 := 64#32
  let v365 : BitVec 32 := Scalar.muli v364 c64_i32
  v365
def k0_mult2 : BitVec 32 :=
  let c12_i32 : BitVec 32 := 12#32
  let c0_i32_146 : BitVec 32 := 0#32
  let v364 : BitVec 32 := Scalar.subi c12_i32 c0_i32_146
  let c8_i32 : BitVec 32 := 8#32
  let v367 : BitVec 32 := Scalar.muli v364 c8_i32
  v367
def k0_off1 (c0_i32_146 : BitVec 32) : Fin 2 → Nat :=
  let c12_i32 : BitVec 32 := 12#32
  let v364 : BitVec 32 := Scalar.subi c12_i32 c0_i32_146
  let c8_i32 : BitVec 32 := 8#32
  let v367 : BitVec 32 := Scalar.muli v364 c8_i32
  let v368 : BitVec 32 := v367
  let v369 : Index := Scalar.indexCast v368
  let c0_147 : Index := 0#32
  ![v369.toNat, 0]
def k0_off2 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v373 : Index := Scalar.indexCast v366
  let c0_148 : Index := 0#32
  ![v373.toNat, 0]
def k0_off3 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v376 : Index := Scalar.indexCast v366
  let c1024_149 : Index := 1024#32
  ![v376.toNat, 1024]
def k0_off4 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v378 : Index := Scalar.indexCast v366
  let c0_150 : Index := 0#32
  ![v378.toNat, 0]
def k0_off5 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v380 : Index := Scalar.indexCast v366
  let c0_151 : Index := 0#32
  ![v380.toNat, 0]
def k0_off6 (c0_i32_146 : BitVec 32) : Fin 3 → Nat :=
  let c12_i32 : BitVec 32 := 12#32
  let v364 : BitVec 32 := Scalar.subi c12_i32 c0_i32_146
  let v382 : Index := Scalar.indexCast v364
  let c0_152 : Index := 0#32
  let c0_153 : Index := 0#32
  ![v382.toNat, 0, 0]
def k0_off7 (c0_i32_146 : BitVec 32) : Fin 2 → Nat :=
  let c12_i32 : BitVec 32 := 12#32
  let v364 : BitVec 32 := Scalar.subi c12_i32 c0_i32_146
  let c8_i32 : BitVec 32 := 8#32
  let v367 : BitVec 32 := Scalar.muli v364 c8_i32
  let v368 : BitVec 32 := v367
  let v405 : Index := Scalar.indexCast v368
  let c0_162 : Index := 0#32
  ![v405.toNat, 0]
def k0_off8 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v415 : Index := Scalar.indexCast v366
  let c128_165 : Index := 128#32
  ![v415.toNat, 128]
def k0_off9 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v418 : Index := Scalar.indexCast v366
  let c1280_166 : Index := 1280#32
  ![v418.toNat, 1280]
def k0_off10 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v420 : Index := Scalar.indexCast v366
  let c128_167 : Index := 128#32
  ![v420.toNat, 128]
def k0_off11 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v422 : Index := Scalar.indexCast v366
  let c256_168 : Index := 256#32
  ![v422.toNat, 256]
def k0_off12 (c0_i32_146 : BitVec 32) : Fin 3 → Nat :=
  let c12_i32 : BitVec 32 := 12#32
  let v364 : BitVec 32 := Scalar.subi c12_i32 c0_i32_146
  let v424 : Index := Scalar.indexCast v364
  let c256_169 : Index := 256#32
  let c0_170 : Index := 0#32
  ![v424.toNat, 256, 0]
def k0_off13 (c0_i32_146 : BitVec 32) : Fin 2 → Nat :=
  let c12_i32 : BitVec 32 := 12#32
  let v364 : BitVec 32 := Scalar.subi c12_i32 c0_i32_146
  let c8_i32 : BitVec 32 := 8#32
  let v367 : BitVec 32 := Scalar.muli v364 c8_i32
  let v368 : BitVec 32 := v367
  let v447 : Index := Scalar.indexCast v368
  let c128_179 : Index := 128#32
  ![v447.toNat, 128]
def k0_off14 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v457 : Index := Scalar.indexCast v366
  let c256_182 : Index := 256#32
  ![v457.toNat, 256]
def k0_off15 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v460 : Index := Scalar.indexCast v366
  let c1536_183 : Index := 1536#32
  ![v460.toNat, 1536]
def k0_off16 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v462 : Index := Scalar.indexCast v366
  let c256_184 : Index := 256#32
  ![v462.toNat, 256]
def k0_off17 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v464 : Index := Scalar.indexCast v366
  let c512_185 : Index := 512#32
  ![v464.toNat, 512]
def k0_off18 (c0_i32_146 : BitVec 32) : Fin 3 → Nat :=
  let c12_i32 : BitVec 32 := 12#32
  let v364 : BitVec 32 := Scalar.subi c12_i32 c0_i32_146
  let v466 : Index := Scalar.indexCast v364
  let c512_186 : Index := 512#32
  let c0_187 : Index := 0#32
  ![v466.toNat, 512, 0]
def k0_off19 (c0_i32_146 : BitVec 32) : Fin 2 → Nat :=
  let c12_i32 : BitVec 32 := 12#32
  let v364 : BitVec 32 := Scalar.subi c12_i32 c0_i32_146
  let c8_i32 : BitVec 32 := 8#32
  let v367 : BitVec 32 := Scalar.muli v364 c8_i32
  let v368 : BitVec 32 := v367
  let v489 : Index := Scalar.indexCast v368
  let c256_196 : Index := 256#32
  ![v489.toNat, 256]
def k0_off20 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v499 : Index := Scalar.indexCast v366
  let c384_199 : Index := 384#32
  ![v499.toNat, 384]
def k0_off21 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v502 : Index := Scalar.indexCast v366
  let c1792_200 : Index := 1792#32
  ![v502.toNat, 1792]
def k0_off22 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v504 : Index := Scalar.indexCast v366
  let c384_201 : Index := 384#32
  ![v504.toNat, 384]
def k0_off23 (c0_i32_146 : BitVec 32) : Fin 2 → Nat :=
  let c12_i32 : BitVec 32 := 12#32
  let v364 : BitVec 32 := Scalar.subi c12_i32 c0_i32_146
  let c64_i32 : BitVec 32 := 64#32
  let v365 : BitVec 32 := Scalar.muli v364 c64_i32
  let v366 : BitVec 32 := v365
  let v506 : Index := Scalar.indexCast v366
  let c768_202 : Index := 768#32
  ![v506.toNat, 768]
def k0_off24 (c0_i32_146 : BitVec 32) : Fin 3 → Nat :=
  let c12_i32 : BitVec 32 := 12#32
  let v364 : BitVec 32 := Scalar.subi c12_i32 c0_i32_146
  let v508 : Index := Scalar.indexCast v364
  let c768_203 : Index := 768#32
  let c0_204 : Index := 0#32
  ![v508.toNat, 768, 0]
def k0_off25 (c0_i32_146 : BitVec 32) : Fin 2 → Nat :=
  let c12_i32 : BitVec 32 := 12#32
  let v364 : BitVec 32 := Scalar.subi c12_i32 c0_i32_146
  let c8_i32 : BitVec 32 := 8#32
  let v367 : BitVec 32 := Scalar.muli v364 c8_i32
  let v368 : BitVec 32 := v367
  let v531 : Index := Scalar.indexCast v368
  let c384_213 : Index := 384#32
  ![v531.toNat, 384]
def k0_mult3 : BitVec 32 :=
  let c12_i32_216 : BitVec 32 := 12#32
  let c1_i32 : BitVec 32 := 1#32
  let v540 : BitVec 32 := Scalar.subi c12_i32_216 c1_i32
  let c64_i32_217 : BitVec 32 := 64#32
  let v541 : BitVec 32 := Scalar.muli v540 c64_i32_217
  v541
def k0_mult4 : BitVec 32 :=
  let c12_i32_216 : BitVec 32 := 12#32
  let c1_i32 : BitVec 32 := 1#32
  let v540 : BitVec 32 := Scalar.subi c12_i32_216 c1_i32
  let c8_i32_218 : BitVec 32 := 8#32
  let v543 : BitVec 32 := Scalar.muli v540 c8_i32_218
  v543
def k0_mult5 : BitVec 32 :=
  let c12_i32_288 : BitVec 32 := 12#32
  let c2_i32 : BitVec 32 := 2#32
  let v716 : BitVec 32 := Scalar.subi c12_i32_288 c2_i32
  let c64_i32_289 : BitVec 32 := 64#32
  let v717 : BitVec 32 := Scalar.muli v716 c64_i32_289
  v717
def k0_mult6 : BitVec 32 :=
  let c12_i32_288 : BitVec 32 := 12#32
  let c2_i32 : BitVec 32 := 2#32
  let v716 : BitVec 32 := Scalar.subi c12_i32_288 c2_i32
  let c8_i32_290 : BitVec 32 := 8#32
  let v719 : BitVec 32 := Scalar.muli v716 c8_i32_290
  v719
def k0_mult7 : BitVec 32 :=
  let c12_i32_360 : BitVec 32 := 12#32
  let c3_i32 : BitVec 32 := 3#32
  let v892 : BitVec 32 := Scalar.subi c12_i32_360 c3_i32
  let c64_i32_361 : BitVec 32 := 64#32
  let v893 : BitVec 32 := Scalar.muli v892 c64_i32_361
  v893
def k0_mult8 : BitVec 32 :=
  let c12_i32_360 : BitVec 32 := 12#32
  let c3_i32 : BitVec 32 := 3#32
  let v892 : BitVec 32 := Scalar.subi c12_i32_360 c3_i32
  let c8_i32_362 : BitVec 32 := 8#32
  let v895 : BitVec 32 := Scalar.muli v892 c8_i32_362
  v895
def k0_mult9 : BitVec 32 :=
  let c12_i32_432 : BitVec 32 := 12#32
  let c4_i32 : BitVec 32 := 4#32
  let v1068 : BitVec 32 := Scalar.subi c12_i32_432 c4_i32
  let c64_i32_433 : BitVec 32 := 64#32
  let v1069 : BitVec 32 := Scalar.muli v1068 c64_i32_433
  v1069
def k0_mult10 : BitVec 32 :=
  let c12_i32_432 : BitVec 32 := 12#32
  let c4_i32 : BitVec 32 := 4#32
  let v1068 : BitVec 32 := Scalar.subi c12_i32_432 c4_i32
  let c8_i32_434 : BitVec 32 := 8#32
  let v1071 : BitVec 32 := Scalar.muli v1068 c8_i32_434
  v1071
def k0_mult11 : BitVec 32 :=
  let c12_i32_504 : BitVec 32 := 12#32
  let c5_i32 : BitVec 32 := 5#32
  let v1244 : BitVec 32 := Scalar.subi c12_i32_504 c5_i32
  let c64_i32_505 : BitVec 32 := 64#32
  let v1245 : BitVec 32 := Scalar.muli v1244 c64_i32_505
  v1245
def k0_mult12 : BitVec 32 :=
  let c12_i32_504 : BitVec 32 := 12#32
  let c5_i32 : BitVec 32 := 5#32
  let v1244 : BitVec 32 := Scalar.subi c12_i32_504 c5_i32
  let c8_i32_506 : BitVec 32 := 8#32
  let v1247 : BitVec 32 := Scalar.muli v1244 c8_i32_506
  v1247
def k0_mult13 : BitVec 32 :=
  let c12_i32_576 : BitVec 32 := 12#32
  let c6_i32 : BitVec 32 := 6#32
  let v1420 : BitVec 32 := Scalar.subi c12_i32_576 c6_i32
  let c64_i32_577 : BitVec 32 := 64#32
  let v1421 : BitVec 32 := Scalar.muli v1420 c64_i32_577
  v1421
def k0_mult14 : BitVec 32 :=
  let c12_i32_576 : BitVec 32 := 12#32
  let c6_i32 : BitVec 32 := 6#32
  let v1420 : BitVec 32 := Scalar.subi c12_i32_576 c6_i32
  let c8_i32_578 : BitVec 32 := 8#32
  let v1423 : BitVec 32 := Scalar.muli v1420 c8_i32_578
  v1423
def k0_mult15 : BitVec 32 :=
  let c12_i32_648 : BitVec 32 := 12#32
  let c7_i32 : BitVec 32 := 7#32
  let v1596 : BitVec 32 := Scalar.subi c12_i32_648 c7_i32
  let c64_i32_649 : BitVec 32 := 64#32
  let v1597 : BitVec 32 := Scalar.muli v1596 c64_i32_649
  v1597
def k0_mult16 : BitVec 32 :=
  let c12_i32_648 : BitVec 32 := 12#32
  let c7_i32 : BitVec 32 := 7#32
  let v1596 : BitVec 32 := Scalar.subi c12_i32_648 c7_i32
  let c8_i32_650 : BitVec 32 := 8#32
  let v1599 : BitVec 32 := Scalar.muli v1596 c8_i32_650
  v1599
def k0_mult17 : BitVec 32 :=
  let c12_i32_721 : BitVec 32 := 12#32
  let c8_i32_720 : BitVec 32 := 8#32
  let v1772 : BitVec 32 := Scalar.subi c12_i32_721 c8_i32_720
  let c64_i32_722 : BitVec 32 := 64#32
  let v1773 : BitVec 32 := Scalar.muli v1772 c64_i32_722
  v1773
def k0_mult18 : BitVec 32 :=
  let c12_i32_721 : BitVec 32 := 12#32
  let c8_i32_720 : BitVec 32 := 8#32
  let v1772 : BitVec 32 := Scalar.subi c12_i32_721 c8_i32_720
  let c8_i32_723 : BitVec 32 := 8#32
  let v1775 : BitVec 32 := Scalar.muli v1772 c8_i32_723
  v1775
def k0_mult19 : BitVec 32 :=
  let c12_i32_793 : BitVec 32 := 12#32
  let c9_i32 : BitVec 32 := 9#32
  let v1948 : BitVec 32 := Scalar.subi c12_i32_793 c9_i32
  let c64_i32_794 : BitVec 32 := 64#32
  let v1949 : BitVec 32 := Scalar.muli v1948 c64_i32_794
  v1949
def k0_mult20 : BitVec 32 :=
  let c12_i32_793 : BitVec 32 := 12#32
  let c9_i32 : BitVec 32 := 9#32
  let v1948 : BitVec 32 := Scalar.subi c12_i32_793 c9_i32
  let c8_i32_795 : BitVec 32 := 8#32
  let v1951 : BitVec 32 := Scalar.muli v1948 c8_i32_795
  v1951
def k0_mult21 : BitVec 32 :=
  let c12_i32_865 : BitVec 32 := 12#32
  let c10_i32 : BitVec 32 := 10#32
  let v2124 : BitVec 32 := Scalar.subi c12_i32_865 c10_i32
  let c64_i32_866 : BitVec 32 := 64#32
  let v2125 : BitVec 32 := Scalar.muli v2124 c64_i32_866
  v2125
def k0_mult22 : BitVec 32 :=
  let c12_i32_865 : BitVec 32 := 12#32
  let c10_i32 : BitVec 32 := 10#32
  let v2124 : BitVec 32 := Scalar.subi c12_i32_865 c10_i32
  let c8_i32_867 : BitVec 32 := 8#32
  let v2127 : BitVec 32 := Scalar.muli v2124 c8_i32_867
  v2127
def k0_mult23 : BitVec 32 :=
  let c12_i32_937 : BitVec 32 := 12#32
  let c11_i32 : BitVec 32 := 11#32
  let v2300 : BitVec 32 := Scalar.subi c12_i32_937 c11_i32
  let c64_i32_938 : BitVec 32 := 64#32
  let v2301 : BitVec 32 := Scalar.muli v2300 c64_i32_938
  v2301
def k0_mult24 : BitVec 32 :=
  let c12_i32_937 : BitVec 32 := 12#32
  let c11_i32 : BitVec 32 := 11#32
  let v2300 : BitVec 32 := Scalar.subi c12_i32_937 c11_i32
  let c8_i32_939 : BitVec 32 := 8#32
  let v2303 : BitVec 32 := Scalar.muli v2300 c8_i32_939
  v2303
def k0_mult25 : BitVec 32 :=
  let c12_i32_1010 : BitVec 32 := 12#32
  let c12_i32_1009 : BitVec 32 := 12#32
  let v2476 : BitVec 32 := Scalar.subi c12_i32_1010 c12_i32_1009
  let c64_i32_1011 : BitVec 32 := 64#32
  let v2477 : BitVec 32 := Scalar.muli v2476 c64_i32_1011
  v2477
def k0_mult26 : BitVec 32 :=
  let c12_i32_1010 : BitVec 32 := 12#32
  let c12_i32_1009 : BitVec 32 := 12#32
  let v2476 : BitVec 32 := Scalar.subi c12_i32_1010 c12_i32_1009
  let c8_i32_1012 : BitVec 32 := 8#32
  let v2479 : BitVec 32 := Scalar.muli v2476 c8_i32_1012
  v2479
def cc0_transform_0 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let v0 : BitVec 32 := Scalar.subi c4_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S832x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S832x3200 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S13x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S832x3200 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4160x1024 : Shape := ⟨2, ![4160, 1024]⟩
abbrev S1024x1024 : Shape := ⟨2, ![1024, 1024]⟩
abbrev S4160x3200 : Shape := ⟨2, ![4160, 3200]⟩
abbrev S65x1024x128 : Shape := ⟨3, ![65, 1024, 128]⟩
abbrev S128x512 : Shape := ⟨2, ![128, 512]⟩
abbrev S1x512 : Shape := ⟨2, ![1, 512]⟩
abbrev S1x256 : Shape := ⟨2, ![1, 256]⟩
abbrev S65x4x256x128 : Shape := ⟨4, ![65, 4, 256, 128]⟩
abbrev S65x4x128x256 : Shape := ⟨4, ![65, 4, 128, 256]⟩
abbrev S_ : Shape := ⟨0, ![]⟩
abbrev S4x128x256 : Shape := ⟨3, ![4, 128, 256]⟩
abbrev S65x64x512 : Shape := ⟨3, ![65, 64, 512]⟩
abbrev S65x64x1024 : Shape := ⟨3, ![65, 64, 1024]⟩
abbrev S65x64x128 : Shape := ⟨3, ![65, 64, 128]⟩
abbrev S65 : Shape := ⟨1, ![65]⟩
abbrev S65x64x3200 : Shape := ⟨3, ![65, 64, 3200]⟩
abbrev S1 : Shape := ⟨1, ![1]⟩
abbrev S1x64x1024 : Shape := ⟨3, ![1, 64, 1024]⟩
abbrev S64x1024 : Shape := ⟨2, ![64, 1024]⟩
abbrev S1x64x3200 : Shape := ⟨3, ![1, 64, 3200]⟩
abbrev S64x3200 : Shape := ⟨2, ![64, 3200]⟩
abbrev S1x4x128x256 : Shape := ⟨4, ![1, 4, 128, 256]⟩
abbrev S64x512 : Shape := ⟨2, ![64, 512]⟩
abbrev S64x128 : Shape := ⟨2, ![64, 128]⟩
abbrev S64x4x256 : Shape := ⟨3, ![64, 4, 256]⟩
abbrev S64x4 : Shape := ⟨2, ![64, 4]⟩
abbrev S64x4x1 : Shape := ⟨3, ![64, 4, 1]⟩
abbrev S1x1x256 : Shape := ⟨3, ![1, 1, 256]⟩
abbrev S256 : Shape := ⟨1, ![256]⟩
abbrev S64x4x128 : Shape := ⟨3, ![64, 4, 128]⟩
abbrev S4x64x128 : Shape := ⟨3, ![4, 64, 128]⟩
abbrev S4x64x256 : Shape := ⟨3, ![4, 64, 256]⟩
abbrev S4x128 : Shape := ⟨2, ![4, 128]⟩
abbrev S4x128x1 : Shape := ⟨3, ![4, 128, 1]⟩
abbrev S4x256x128 : Shape := ⟨3, ![4, 256, 128]⟩
abbrev S4x256x64 : Shape := ⟨3, ![4, 256, 64]⟩
abbrev S4x128x64 : Shape := ⟨3, ![4, 128, 64]⟩
abbrev S512 : Shape := ⟨1, ![512]⟩
abbrev S512x128 : Shape := ⟨2, ![512, 128]⟩
abbrev S65x1x1 : Shape := ⟨3, ![65, 1, 1]⟩
abbrev S1x64x512 : Shape := ⟨3, ![1, 64, 512]⟩
abbrev S1x64x128 : Shape := ⟨3, ![1, 64, 128]⟩
abbrev S4160x512 : Shape := ⟨2, ![4160, 512]⟩
abbrev S4160x128 : Shape := ⟨2, ![4160, 128]⟩

abbrev nBuf : Space → Nat
  | .hbm => 329
  | .vmem => 0
  | .smem => 0
  | _ => 0

abbrev hbmTy0_0 (i : Nat) : BufTy := match i % 128 with
  | 0 => ⟨S4160x1024, .f32⟩
  | 1 => ⟨S1024x1024, .bf16⟩
  | 2 => ⟨S4160x1024, .bf16⟩
  | 3 => ⟨S4160x3200, .bf16⟩
  | 4 => ⟨S65x1024x128, .bf16⟩
  | 5 => ⟨S128x512, .bf16⟩
  | 6 => ⟨S1x512, .f32⟩
  | 7 => ⟨S1x256, .f32⟩
  | 8 => ⟨S1024x1024, .f32⟩
  | 9 => ⟨S4160x1024, .f32⟩
  | 10 => ⟨S4160x3200, .f32⟩
  | 11 => ⟨S65x1024x128, .f32⟩
  | 12 => ⟨S128x512, .f32⟩
  | 13 => ⟨S65x4x256x128, .f32⟩
  | 14 => ⟨S65x4x128x256, .f32⟩
  | 15 => ⟨S_, .f32⟩
  | 16 => ⟨S4x128x256, .f32⟩
  | 17 => ⟨S_, .f32⟩
  | 18 => ⟨S128x512, .f32⟩
  | 19 => ⟨S_, .f32⟩
  | 20 => ⟨S1x512, .f32⟩
  | 21 => ⟨S_, .f32⟩
  | 22 => ⟨S1x256, .f32⟩
  | 23 => ⟨S_, .f32⟩
  | 24 => ⟨S65x64x512, .f32⟩
  | 25 => ⟨S_, .f32⟩
  | 26 => ⟨S65x64x512, .f32⟩
  | 27 => ⟨S_, .f32⟩
  | 28 => ⟨S65x64x1024, .f32⟩
  | 29 => ⟨S_, .f32⟩
  | 30 => ⟨S65x64x1024, .f32⟩
  | 31 => ⟨S_, .f32⟩
  | 32 => ⟨S65x64x128, .f32⟩
  | 33 => ⟨S65, .i32⟩
  | 34 => ⟨S65x64x1024, .f32⟩
  | 35 => ⟨S65x64x1024, .f32⟩
  | 36 => ⟨S65x64x3200, .f32⟩
  | 37 => ⟨S_, .i32⟩
  | 38 => ⟨S65, .i32⟩
  | 39 => ⟨S65x64x1024, .f32⟩
  | 40 => ⟨S65x64x1024, .f32⟩
  | 41 => ⟨S65x64x3200, .f32⟩
  | 42 => ⟨S65x4x128x256, .f32⟩
  | 43 => ⟨S1x256, .f32⟩
  | 44 => ⟨S1024x1024, .f32⟩
  | 45 => ⟨S128x512, .f32⟩
  | 46 => ⟨S1x512, .f32⟩
  | 47 => ⟨S_, .i32⟩
  | 48 => ⟨S4x128x256, .f32⟩
  | 49 => ⟨S128x512, .f32⟩
  | 50 => ⟨S1x512, .f32⟩
  | 51 => ⟨S1x256, .f32⟩
  | 52 => ⟨S65x64x512, .f32⟩
  | 53 => ⟨S65x64x512, .f32⟩
  | 54 => ⟨S65x64x1024, .f32⟩
  | 55 => ⟨S65x64x1024, .f32⟩
  | 56 => ⟨S65x64x128, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S1, .i32⟩
  | 64 => ⟨S_, .i32⟩
  | 65 => ⟨S_, .i32⟩
  | 66 => ⟨S_, .i32⟩
  | 67 => ⟨S1x64x1024, .f32⟩
  | 68 => ⟨S64x1024, .f32⟩
  | 69 => ⟨S_, .i32⟩
  | 70 => ⟨S_, .i32⟩
  | 71 => ⟨S1x64x1024, .f32⟩
  | 72 => ⟨S64x1024, .f32⟩
  | 73 => ⟨S_, .i32⟩
  | 74 => ⟨S_, .i32⟩
  | 75 => ⟨S1x64x3200, .f32⟩
  | 76 => ⟨S64x3200, .f32⟩
  | 77 => ⟨S_, .i32⟩
  | 78 => ⟨S_, .i32⟩
  | 79 => ⟨S_, .i32⟩
  | 80 => ⟨S1x4x128x256, .f32⟩
  | 81 => ⟨S4x128x256, .f32⟩
  | 82 => ⟨S64x512, .f32⟩
  | 83 => ⟨S64x512, .f32⟩
  | 84 => ⟨S64x1024, .f32⟩
  | 85 => ⟨S64x1024, .f32⟩
  | 86 => ⟨S64x128, .f32⟩
  | 87 => ⟨S64x4x256, .f32⟩
  | 88 => ⟨S64x4x256, .f32⟩
  | 89 => ⟨S_, .f32⟩
  | 90 => ⟨S64x4, .f32⟩
  | 91 => ⟨S64x4x1, .f32⟩
  | 92 => ⟨S_, .f32⟩
  | 93 => ⟨S64x4x1, .f32⟩
  | 94 => ⟨S64x4x1, .f32⟩
  | 95 => ⟨S_, .f32⟩
  | 96 => ⟨S64x4x1, .f32⟩
  | 97 => ⟨S64x4x1, .f32⟩
  | 98 => ⟨S64x4x1, .f32⟩
  | 99 => ⟨S64x4x1, .f32⟩
  | 100 => ⟨S_, .f32⟩
  | 101 => ⟨S64x4x1, .f32⟩
  | 102 => ⟨S64x4x1, .f32⟩
  | 103 => ⟨S64x4x256, .f32⟩
  | 104 => ⟨S64x4x256, .f32⟩
  | 105 => ⟨S1x1x256, .f32⟩
  | 106 => ⟨S64x4x256, .f32⟩
  | 107 => ⟨S64x4x256, .f32⟩
  | 108 => ⟨S64x1024, .f32⟩
  | 109 => ⟨S64x1024, .f32⟩
  | 110 => ⟨S64x1024, .f32⟩
  | 111 => ⟨S_, .f32⟩
  | 112 => ⟨S64x1024, .f32⟩
  | 113 => ⟨S64x1024, .f32⟩
  | 114 => ⟨S_, .f32⟩
  | 115 => ⟨S64x1024, .f32⟩
  | 116 => ⟨S64x1024, .f32⟩
  | 117 => ⟨S_, .f32⟩
  | 118 => ⟨S64x1024, .f32⟩
  | 119 => ⟨S64x1024, .f32⟩
  | 120 => ⟨S64x1024, .f32⟩
  | 121 => ⟨S64x1024, .f32⟩
  | 122 => ⟨S64x1024, .f32⟩
  | 123 => ⟨S64x1024, .f32⟩
  | 124 => ⟨S64x1024, .f32⟩
  | 125 => ⟨S64x1024, .f32⟩
  | 126 => ⟨S64x1024, .f32⟩
  | 127 => ⟨S64x1024, .f32⟩
  | _ => ⟨S4160x1024, .f32⟩

abbrev hbmTy0_1 (i : Nat) : BufTy := match i % 128 with
  | 0 => ⟨S64x1024, .f32⟩
  | 1 => ⟨S64x1024, .f32⟩
  | 2 => ⟨S64x1024, .f32⟩
  | 3 => ⟨S64x4x256, .f32⟩
  | 4 => ⟨S64x4x256, .f32⟩
  | 5 => ⟨S_, .f32⟩
  | 6 => ⟨S256, .f32⟩
  | 7 => ⟨S1x1x256, .f32⟩
  | 8 => ⟨S64x4x256, .f32⟩
  | 9 => ⟨S64x4x256, .f32⟩
  | 10 => ⟨S_, .f32⟩
  | 11 => ⟨S256, .f32⟩
  | 12 => ⟨S1x256, .f32⟩
  | 13 => ⟨S64x4x256, .f32⟩
  | 14 => ⟨S_, .f32⟩
  | 15 => ⟨S64x4, .f32⟩
  | 16 => ⟨S64x4x1, .f32⟩
  | 17 => ⟨S64x4x256, .f32⟩
  | 18 => ⟨S64x4x256, .f32⟩
  | 19 => ⟨S64x4x1, .f32⟩
  | 20 => ⟨S_, .f32⟩
  | 21 => ⟨S64x4x1, .f32⟩
  | 22 => ⟨S64x4x1, .f32⟩
  | 23 => ⟨S_, .f32⟩
  | 24 => ⟨S64x4, .f32⟩
  | 25 => ⟨S64x4x256, .f32⟩
  | 26 => ⟨S64x4x256, .f32⟩
  | 27 => ⟨S64x4x256, .f32⟩
  | 28 => ⟨S64x4x256, .f32⟩
  | 29 => ⟨S64x4x256, .f32⟩
  | 30 => ⟨S64x1024, .f32⟩
  | 31 => ⟨S64x512, .f32⟩
  | 32 => ⟨S64x512, .f32⟩
  | 33 => ⟨S64x512, .f32⟩
  | 34 => ⟨S64x512, .f32⟩
  | 35 => ⟨S_, .f32⟩
  | 36 => ⟨S64x512, .f32⟩
  | 37 => ⟨S64x512, .f32⟩
  | 38 => ⟨S64x512, .f32⟩
  | 39 => ⟨S64x512, .f32⟩
  | 40 => ⟨S64x512, .i1⟩
  | 41 => ⟨S64x512, .f32⟩
  | 42 => ⟨S64x512, .f32⟩
  | 43 => ⟨S64x512, .f32⟩
  | 44 => ⟨S64x512, .f32⟩
  | 45 => ⟨S64x512, .f32⟩
  | 46 => ⟨S64x512, .f32⟩
  | 47 => ⟨S64x512, .f32⟩
  | 48 => ⟨S64x512, .f32⟩
  | 49 => ⟨S_, .f32⟩
  | 50 => ⟨S64x512, .f32⟩
  | 51 => ⟨S64x512, .i1⟩
  | 52 => ⟨S_, .f32⟩
  | 53 => ⟨S64x512, .f32⟩
  | 54 => ⟨S64x512, .f32⟩
  | 55 => ⟨S_, .f32⟩
  | 56 => ⟨S64x512, .f32⟩
  | 57 => ⟨S64x512, .i1⟩
  | 58 => ⟨S_, .f32⟩
  | 59 => ⟨S64x512, .f32⟩
  | 60 => ⟨S64x512, .f32⟩
  | 61 => ⟨S64x512, .f32⟩
  | 62 => ⟨S64x512, .f32⟩
  | 63 => ⟨S_, .f32⟩
  | 64 => ⟨S_, .f32⟩
  | 65 => ⟨S_, .i1⟩
  | 66 => ⟨S_, .f32⟩
  | 67 => ⟨S_, .f32⟩
  | 68 => ⟨S_, .f32⟩
  | 69 => ⟨S_, .f32⟩
  | 70 => ⟨S64x512, .f32⟩
  | 71 => ⟨S64x512, .i1⟩
  | 72 => ⟨S_, .f32⟩
  | 73 => ⟨S64x512, .f32⟩
  | 74 => ⟨S64x512, .f32⟩
  | 75 => ⟨S64x512, .f32⟩
  | 76 => ⟨S64x512, .f32⟩
  | 77 => ⟨S64x512, .f32⟩
  | 78 => ⟨S_, .f32⟩
  | 79 => ⟨S64x512, .f32⟩
  | 80 => ⟨S64x512, .f32⟩
  | 81 => ⟨S64x512, .f32⟩
  | 82 => ⟨S_, .f32⟩
  | 83 => ⟨S64x512, .f32⟩
  | 84 => ⟨S64x512, .f32⟩
  | 85 => ⟨S_, .f32⟩
  | 86 => ⟨S_, .f32⟩
  | 87 => ⟨S64x512, .f32⟩
  | 88 => ⟨S1x512, .f32⟩
  | 89 => ⟨S64x512, .f32⟩
  | 90 => ⟨S64x512, .f32⟩
  | 91 => ⟨S64x512, .f32⟩
  | 92 => ⟨S64x512, .f32⟩
  | 93 => ⟨S_, .f32⟩
  | 94 => ⟨S64x512, .f32⟩
  | 95 => ⟨S64x512, .f32⟩
  | 96 => ⟨S64x4x128, .f32⟩
  | 97 => ⟨S4x64x128, .f32⟩
  | 98 => ⟨S64x4x128, .f32⟩
  | 99 => ⟨S4x64x128, .f32⟩
  | 100 => ⟨S64x4x256, .f32⟩
  | 101 => ⟨S4x64x256, .f32⟩
  | 102 => ⟨S4x128, .f32⟩
  | 103 => ⟨S4x128, .f32⟩
  | 104 => ⟨S4x128x1, .f32⟩
  | 105 => ⟨S4x128x256, .f32⟩
  | 106 => ⟨S4x128x256, .f32⟩
  | 107 => ⟨S4x128x256, .f32⟩
  | 108 => ⟨S4x128x256, .f32⟩
  | 109 => ⟨S4x64x256, .f32⟩
  | 110 => ⟨S64x4x256, .f32⟩
  | 111 => ⟨S4x64x256, .f32⟩
  | 112 => ⟨S4x256x128, .f32⟩
  | 113 => ⟨S4x128x256, .f32⟩
  | 114 => ⟨S4x128x256, .f32⟩
  | 115 => ⟨S4x64x128, .f32⟩
  | 116 => ⟨S4x256x64, .f32⟩
  | 117 => ⟨S4x64x256, .f32⟩
  | 118 => ⟨S4x128x64, .f32⟩
  | 119 => ⟨S4x64x128, .f32⟩
  | 120 => ⟨S4x128x256, .f32⟩
  | 121 => ⟨S4x128x256, .f32⟩
  | 122 => ⟨S4x128x256, .f32⟩
  | 123 => ⟨S_, .f32⟩
  | 124 => ⟨S4x128, .f32⟩
  | 125 => ⟨S4x128x1, .f32⟩
  | 126 => ⟨S_, .f32⟩
  | 127 => ⟨S4x128, .f32⟩
  | _ => ⟨S4160x1024, .f32⟩

abbrev hbmTy0_2 (i : Nat) : BufTy := match i % 128 with
  | 0 => ⟨S4x128, .f32⟩
  | 1 => ⟨S1x512, .f32⟩
  | 2 => ⟨S64x4x256, .f32⟩
  | 3 => ⟨S64x1024, .f32⟩
  | 4 => ⟨S64x4x128, .f32⟩
  | 5 => ⟨S64x512, .f32⟩
  | 6 => ⟨S64x4x128, .f32⟩
  | 7 => ⟨S64x512, .f32⟩
  | 8 => ⟨S_, .f32⟩
  | 9 => ⟨S64x512, .f32⟩
  | 10 => ⟨S64x512, .f32⟩
  | 11 => ⟨S64x512, .f32⟩
  | 12 => ⟨S64x512, .f32⟩
  | 13 => ⟨S64x512, .f32⟩
  | 14 => ⟨S_, .f32⟩
  | 15 => ⟨S512, .f32⟩
  | 16 => ⟨S1x512, .f32⟩
  | 17 => ⟨S64x512, .f32⟩
  | 18 => ⟨S1x512, .f32⟩
  | 19 => ⟨S_, .f32⟩
  | 20 => ⟨S64x512, .f32⟩
  | 21 => ⟨S64x512, .f32⟩
  | 22 => ⟨S_, .f32⟩
  | 23 => ⟨S_, .f32⟩
  | 24 => ⟨S64x512, .f32⟩
  | 25 => ⟨S_, .f32⟩
  | 26 => ⟨S64x512, .f32⟩
  | 27 => ⟨S64x512, .f32⟩
  | 28 => ⟨S64x512, .f32⟩
  | 29 => ⟨S64x512, .f32⟩
  | 30 => ⟨S64x512, .f32⟩
  | 31 => ⟨S_, .f32⟩
  | 32 => ⟨S512, .f32⟩
  | 33 => ⟨S1x512, .f32⟩
  | 34 => ⟨S512x128, .f32⟩
  | 35 => ⟨S128x512, .f32⟩
  | 36 => ⟨S64x128, .f32⟩
  | 37 => ⟨S65, .i32⟩
  | 38 => ⟨S65, .i32⟩
  | 39 => ⟨S65, .i1⟩
  | 40 => ⟨S65x1x1, .i1⟩
  | 41 => ⟨S1x64x512, .f32⟩
  | 42 => ⟨S65x64x512, .i1⟩
  | 43 => ⟨S65x64x512, .f32⟩
  | 44 => ⟨S65x64x512, .f32⟩
  | 45 => ⟨S1x64x512, .f32⟩
  | 46 => ⟨S65x64x512, .i1⟩
  | 47 => ⟨S65x64x512, .f32⟩
  | 48 => ⟨S65x64x512, .f32⟩
  | 49 => ⟨S1x64x1024, .f32⟩
  | 50 => ⟨S65x64x1024, .i1⟩
  | 51 => ⟨S65x64x1024, .f32⟩
  | 52 => ⟨S65x64x1024, .f32⟩
  | 53 => ⟨S1x64x1024, .f32⟩
  | 54 => ⟨S65x64x1024, .i1⟩
  | 55 => ⟨S65x64x1024, .f32⟩
  | 56 => ⟨S65x64x1024, .f32⟩
  | 57 => ⟨S1x64x128, .f32⟩
  | 58 => ⟨S65x64x128, .i1⟩
  | 59 => ⟨S65x64x128, .f32⟩
  | 60 => ⟨S65x64x128, .f32⟩
  | 61 => ⟨S128x512, .f32⟩
  | 62 => ⟨S1x512, .f32⟩
  | 63 => ⟨S1x256, .f32⟩
  | 64 => ⟨S_, .i32⟩
  | 65 => ⟨S_, .i32⟩
  | 66 => ⟨S4160x512, .f32⟩
  | 67 => ⟨S4160x512, .f32⟩
  | 68 => ⟨S4160x1024, .f32⟩
  | 69 => ⟨S4160x1024, .f32⟩
  | 70 => ⟨S4160x128, .f32⟩
  | 71 => ⟨S4160x3200, .f32⟩
  | 72 => ⟨S4160x3200, .bf16⟩
  | _ => ⟨S4160x1024, .f32⟩

abbrev hbmTy (i : Nat) : BufTy := match i / 128 with
  | 0 => hbmTy0_0 i
  | 1 => hbmTy0_1 i
  | 2 => hbmTy0_2 i
  | _ => ⟨S4160x1024, .f32⟩

abbrev bufTy : (tb : Table) → Fin (tcTables nBuf tb) → BufTy
  | .hbm, ⟨i, _⟩ => hbmTy i
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_cst_7 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20_0 : Ref sig .tc := ⟨.hbm, 38, rfl⟩
abbrev main_v20_1 : Ref sig .tc := ⟨.hbm, 39, rfl⟩
abbrev main_v20_2 : Ref sig .tc := ⟨.hbm, 40, rfl⟩
abbrev main_v20_3 : Ref sig .tc := ⟨.hbm, 41, rfl⟩
abbrev main_v20_4 : Ref sig .tc := ⟨.hbm, 42, rfl⟩
abbrev main_v20_5 : Ref sig .tc := ⟨.hbm, 43, rfl⟩
abbrev main_v20_6 : Ref sig .tc := ⟨.hbm, 44, rfl⟩
abbrev main_v20_7 : Ref sig .tc := ⟨.hbm, 45, rfl⟩
abbrev main_v20_8 : Ref sig .tc := ⟨.hbm, 46, rfl⟩
abbrev main_v20_9 : Ref sig .tc := ⟨.hbm, 47, rfl⟩
abbrev main_v20_10 : Ref sig .tc := ⟨.hbm, 48, rfl⟩
abbrev main_v20_11 : Ref sig .tc := ⟨.hbm, 49, rfl⟩
abbrev main_v20_12 : Ref sig .tc := ⟨.hbm, 50, rfl⟩
abbrev main_v20_13 : Ref sig .tc := ⟨.hbm, 51, rfl⟩
abbrev main_v20_14 : Ref sig .tc := ⟨.hbm, 52, rfl⟩
abbrev main_v20_15 : Ref sig .tc := ⟨.hbm, 53, rfl⟩
abbrev main_v20_16 : Ref sig .tc := ⟨.hbm, 54, rfl⟩
abbrev main_v20_17 : Ref sig .tc := ⟨.hbm, 55, rfl⟩
abbrev main_v20_18 : Ref sig .tc := ⟨.hbm, 56, rfl⟩
abbrev main_while0c_c_26 : Ref sig .tc := ⟨.hbm, 57, rfl⟩
abbrev main_while0c_v28 : Ref sig .tc := ⟨.hbm, 58, rfl⟩
abbrev main_while0b_c_26 : Ref sig .tc := ⟨.hbm, 59, rfl⟩
abbrev main_while0b_v28 : Ref sig .tc := ⟨.hbm, 60, rfl⟩
abbrev main_while0b_c_27 : Ref sig .tc := ⟨.hbm, 61, rfl⟩
abbrev main_while0b_v29 : Ref sig .tc := ⟨.hbm, 62, rfl⟩
abbrev main_while0b_call0_v0 : Ref sig .tc := ⟨.hbm, 63, rfl⟩
abbrev main_while0b_v30 : Ref sig .tc := ⟨.hbm, 64, rfl⟩
abbrev main_while0b_call1_c : Ref sig .tc := ⟨.hbm, 65, rfl⟩
abbrev main_while0b_call1_c_0 : Ref sig .tc := ⟨.hbm, 66, rfl⟩
abbrev main_while0b_call1_v0 : Ref sig .tc := ⟨.hbm, 67, rfl⟩
abbrev main_while0b_v31 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_v0 : Ref sig .tc := ⟨.hbm, 71, rfl⟩
abbrev main_while0b_v32 : Ref sig .tc := ⟨.hbm, 72, rfl⟩
abbrev main_while0b_call3_c : Ref sig .tc := ⟨.hbm, 73, rfl⟩
abbrev main_while0b_call3_c_0 : Ref sig .tc := ⟨.hbm, 74, rfl⟩
abbrev main_while0b_call3_v0 : Ref sig .tc := ⟨.hbm, 75, rfl⟩
abbrev main_while0b_v33 : Ref sig .tc := ⟨.hbm, 76, rfl⟩
abbrev main_while0b_call4_c : Ref sig .tc := ⟨.hbm, 77, rfl⟩
abbrev main_while0b_call4_c_0 : Ref sig .tc := ⟨.hbm, 78, rfl⟩
abbrev main_while0b_call4_c_1 : Ref sig .tc := ⟨.hbm, 79, rfl⟩
abbrev main_while0b_call4_v0 : Ref sig .tc := ⟨.hbm, 80, rfl⟩
abbrev main_while0b_v34 : Ref sig .tc := ⟨.hbm, 81, rfl⟩
abbrev main_while0b_v35 : Ref sig .tc := ⟨.hbm, 82, rfl⟩
abbrev main_while0b_v36 : Ref sig .tc := ⟨.hbm, 83, rfl⟩
abbrev main_while0b_v37 : Ref sig .tc := ⟨.hbm, 84, rfl⟩
abbrev main_while0b_v38 : Ref sig .tc := ⟨.hbm, 85, rfl⟩
abbrev main_while0b_v39 : Ref sig .tc := ⟨.hbm, 86, rfl⟩
abbrev main_while0b_v40 : Ref sig .tc := ⟨.hbm, 87, rfl⟩
abbrev main_while0b_v41 : Ref sig .tc := ⟨.hbm, 88, rfl⟩
abbrev main_while0b_cst_28 : Ref sig .tc := ⟨.hbm, 89, rfl⟩
abbrev main_while0b_v42 : Ref sig .tc := ⟨.hbm, 90, rfl⟩
abbrev main_while0b_v43 : Ref sig .tc := ⟨.hbm, 91, rfl⟩
abbrev main_while0b_cst_29 : Ref sig .tc := ⟨.hbm, 92, rfl⟩
abbrev main_while0b_v44 : Ref sig .tc := ⟨.hbm, 93, rfl⟩
abbrev main_while0b_v45 : Ref sig .tc := ⟨.hbm, 94, rfl⟩
abbrev main_while0b_cst_30 : Ref sig .tc := ⟨.hbm, 95, rfl⟩
abbrev main_while0b_v46 : Ref sig .tc := ⟨.hbm, 96, rfl⟩
abbrev main_while0b_v47 : Ref sig .tc := ⟨.hbm, 97, rfl⟩
abbrev main_while0b_v48 : Ref sig .tc := ⟨.hbm, 98, rfl⟩
abbrev main_while0b_v49 : Ref sig .tc := ⟨.hbm, 99, rfl⟩
abbrev main_while0b_cst_31 : Ref sig .tc := ⟨.hbm, 100, rfl⟩
abbrev main_while0b_v50 : Ref sig .tc := ⟨.hbm, 101, rfl⟩
abbrev main_while0b_v51 : Ref sig .tc := ⟨.hbm, 102, rfl⟩
abbrev main_while0b_v52 : Ref sig .tc := ⟨.hbm, 103, rfl⟩
abbrev main_while0b_v53 : Ref sig .tc := ⟨.hbm, 104, rfl⟩
abbrev main_while0b_v54 : Ref sig .tc := ⟨.hbm, 105, rfl⟩
abbrev main_while0b_v55 : Ref sig .tc := ⟨.hbm, 106, rfl⟩
abbrev main_while0b_v56 : Ref sig .tc := ⟨.hbm, 107, rfl⟩
abbrev main_while0b_v57 : Ref sig .tc := ⟨.hbm, 108, rfl⟩
abbrev main_while0b_call5_v0 : Ref sig .tc := ⟨.hbm, 109, rfl⟩
abbrev main_while0b_call5_v1 : Ref sig .tc := ⟨.hbm, 110, rfl⟩
abbrev main_while0b_call5_cst : Ref sig .tc := ⟨.hbm, 111, rfl⟩
abbrev main_while0b_call5_v2 : Ref sig .tc := ⟨.hbm, 112, rfl⟩
abbrev main_while0b_call5_v3 : Ref sig .tc := ⟨.hbm, 113, rfl⟩
abbrev main_while0b_call5_cst_0 : Ref sig .tc := ⟨.hbm, 114, rfl⟩
abbrev main_while0b_call5_v4 : Ref sig .tc := ⟨.hbm, 115, rfl⟩
abbrev main_while0b_v58_2 : Ref sig .tc := ⟨.hbm, 116, rfl⟩
abbrev main_while0b_call5_cst_1 : Ref sig .tc := ⟨.hbm, 117, rfl⟩
abbrev main_while0b_call5_v6 : Ref sig .tc := ⟨.hbm, 118, rfl⟩
abbrev main_while0b_call5_v7 : Ref sig .tc := ⟨.hbm, 119, rfl⟩
abbrev main_while0b_v58_1 : Ref sig .tc := ⟨.hbm, 120, rfl⟩
abbrev main_while0b_v58_0 : Ref sig .tc := ⟨.hbm, 121, rfl⟩
abbrev main_while0b_v59 : Ref sig .tc := ⟨.hbm, 122, rfl⟩
abbrev main_while0b_v60 : Ref sig .tc := ⟨.hbm, 123, rfl⟩
abbrev main_while0b_v61 : Ref sig .tc := ⟨.hbm, 124, rfl⟩
abbrev main_while0b_v62 : Ref sig .tc := ⟨.hbm, 125, rfl⟩
abbrev main_while0b_v63 : Ref sig .tc := ⟨.hbm, 126, rfl⟩
abbrev main_while0b_call6_v0 : Ref sig .tc := ⟨.hbm, 127, rfl⟩
abbrev main_while0b_call6_v1 : Ref sig .tc := ⟨.hbm, 128, rfl⟩
abbrev main_while0b_call6_v2 : Ref sig .tc := ⟨.hbm, 129, rfl⟩
abbrev main_while0b_v64 : Ref sig .tc := ⟨.hbm, 130, rfl⟩
abbrev main_while0b_v65 : Ref sig .tc := ⟨.hbm, 131, rfl⟩
abbrev main_while0b_v66 : Ref sig .tc := ⟨.hbm, 132, rfl⟩
abbrev main_while0b_cst_32 : Ref sig .tc := ⟨.hbm, 133, rfl⟩
abbrev main_while0b_v67 : Ref sig .tc := ⟨.hbm, 134, rfl⟩
abbrev main_while0b_v68 : Ref sig .tc := ⟨.hbm, 135, rfl⟩
abbrev main_while0b_v69 : Ref sig .tc := ⟨.hbm, 136, rfl⟩
abbrev main_while0b_v70 : Ref sig .tc := ⟨.hbm, 137, rfl⟩
abbrev main_while0b_cst_33 : Ref sig .tc := ⟨.hbm, 138, rfl⟩
abbrev main_while0b_v71 : Ref sig .tc := ⟨.hbm, 139, rfl⟩
abbrev main_while0b_v72 : Ref sig .tc := ⟨.hbm, 140, rfl⟩
abbrev main_while0b_v73 : Ref sig .tc := ⟨.hbm, 141, rfl⟩
abbrev main_while0b_cst_34 : Ref sig .tc := ⟨.hbm, 142, rfl⟩
abbrev main_while0b_v74 : Ref sig .tc := ⟨.hbm, 143, rfl⟩
abbrev main_while0b_v75 : Ref sig .tc := ⟨.hbm, 144, rfl⟩
abbrev main_while0b_v76 : Ref sig .tc := ⟨.hbm, 145, rfl⟩
abbrev main_while0b_v77 : Ref sig .tc := ⟨.hbm, 146, rfl⟩
abbrev main_while0b_v78 : Ref sig .tc := ⟨.hbm, 147, rfl⟩
abbrev main_while0b_cst_35 : Ref sig .tc := ⟨.hbm, 148, rfl⟩
abbrev main_while0b_v79 : Ref sig .tc := ⟨.hbm, 149, rfl⟩
abbrev main_while0b_v80 : Ref sig .tc := ⟨.hbm, 150, rfl⟩
abbrev main_while0b_cst_36 : Ref sig .tc := ⟨.hbm, 151, rfl⟩
abbrev main_while0b_v81 : Ref sig .tc := ⟨.hbm, 152, rfl⟩
abbrev main_while0b_v82 : Ref sig .tc := ⟨.hbm, 153, rfl⟩
abbrev main_while0b_v83 : Ref sig .tc := ⟨.hbm, 154, rfl⟩
abbrev main_while0b_v84 : Ref sig .tc := ⟨.hbm, 155, rfl⟩
abbrev main_while0b_v85 : Ref sig .tc := ⟨.hbm, 156, rfl⟩
abbrev main_while0b_v86 : Ref sig .tc := ⟨.hbm, 157, rfl⟩
abbrev main_while0b_v87 : Ref sig .tc := ⟨.hbm, 158, rfl⟩
abbrev main_while0b_v88 : Ref sig .tc := ⟨.hbm, 159, rfl⟩
abbrev main_while0b_v89 : Ref sig .tc := ⟨.hbm, 160, rfl⟩
abbrev main_while0b_v90 : Ref sig .tc := ⟨.hbm, 161, rfl⟩
abbrev main_while0b_v91 : Ref sig .tc := ⟨.hbm, 162, rfl⟩
abbrev main_while0b_call7_cst : Ref sig .tc := ⟨.hbm, 163, rfl⟩
abbrev main_while0b_call7_v0 : Ref sig .tc := ⟨.hbm, 164, rfl⟩
abbrev main_while0b_call7_v1 : Ref sig .tc := ⟨.hbm, 165, rfl⟩
abbrev main_while0b_call7_v2 : Ref sig .tc := ⟨.hbm, 166, rfl⟩
abbrev main_while0b_call7_v3 : Ref sig .tc := ⟨.hbm, 167, rfl⟩
abbrev main_while0b_call7_v4 : Ref sig .tc := ⟨.hbm, 168, rfl⟩
abbrev main_while0b_call7_v5 : Ref sig .tc := ⟨.hbm, 169, rfl⟩
abbrev main_while0b_call7_v6 : Ref sig .tc := ⟨.hbm, 170, rfl⟩
abbrev main_while0b_call7_v7 : Ref sig .tc := ⟨.hbm, 171, rfl⟩
abbrev main_while0b_call7_v8 : Ref sig .tc := ⟨.hbm, 172, rfl⟩
abbrev main_while0b_call7_v9 : Ref sig .tc := ⟨.hbm, 173, rfl⟩
abbrev main_while0b_call7_v10 : Ref sig .tc := ⟨.hbm, 174, rfl⟩
abbrev main_while0b_call7_v11 : Ref sig .tc := ⟨.hbm, 175, rfl⟩
abbrev main_while0b_v92_0 : Ref sig .tc := ⟨.hbm, 176, rfl⟩
abbrev main_while0b_call7_cst_0 : Ref sig .tc := ⟨.hbm, 177, rfl⟩
abbrev main_while0b_call7_v13 : Ref sig .tc := ⟨.hbm, 178, rfl⟩
abbrev main_while0b_call7_v14 : Ref sig .tc := ⟨.hbm, 179, rfl⟩
abbrev main_while0b_call7_cst_1 : Ref sig .tc := ⟨.hbm, 180, rfl⟩
abbrev main_while0b_call7_v15 : Ref sig .tc := ⟨.hbm, 181, rfl⟩
abbrev main_while0b_call7_v16 : Ref sig .tc := ⟨.hbm, 182, rfl⟩
abbrev main_while0b_call7_cst_2 : Ref sig .tc := ⟨.hbm, 183, rfl⟩
abbrev main_while0b_call7_v17 : Ref sig .tc := ⟨.hbm, 184, rfl⟩
abbrev main_while0b_call7_v18 : Ref sig .tc := ⟨.hbm, 185, rfl⟩
abbrev main_while0b_call7_cst_3 : Ref sig .tc := ⟨.hbm, 186, rfl⟩
abbrev main_while0b_call7_v19 : Ref sig .tc := ⟨.hbm, 187, rfl⟩
abbrev main_while0b_call7_v20 : Ref sig .tc := ⟨.hbm, 188, rfl⟩
abbrev main_while0b_call7_v21 : Ref sig .tc := ⟨.hbm, 189, rfl⟩
abbrev main_while0b_v92_1 : Ref sig .tc := ⟨.hbm, 190, rfl⟩
abbrev main_while0b_call7_cst_4 : Ref sig .tc := ⟨.hbm, 191, rfl⟩
abbrev main_while0b_call7_cst_5 : Ref sig .tc := ⟨.hbm, 192, rfl⟩
abbrev main_while0b_call7_v23 : Ref sig .tc := ⟨.hbm, 193, rfl⟩
abbrev main_while0b_call7_cst_6 : Ref sig .tc := ⟨.hbm, 194, rfl⟩
abbrev main_while0b_call7_cst_7 : Ref sig .tc := ⟨.hbm, 195, rfl⟩
abbrev main_while0b_call7_v24 : Ref sig .tc := ⟨.hbm, 196, rfl⟩
abbrev main_while0b_call7_cst_8 : Ref sig .tc := ⟨.hbm, 197, rfl⟩
abbrev main_while0b_call7_v25 : Ref sig .tc := ⟨.hbm, 198, rfl⟩
abbrev main_while0b_call7_v26 : Ref sig .tc := ⟨.hbm, 199, rfl⟩
abbrev main_while0b_call7_cst_9 : Ref sig .tc := ⟨.hbm, 200, rfl⟩
abbrev main_while0b_call7_v27 : Ref sig .tc := ⟨.hbm, 201, rfl⟩
abbrev main_while0b_call7_v28 : Ref sig .tc := ⟨.hbm, 202, rfl⟩
abbrev main_while0b_call7_v29 : Ref sig .tc := ⟨.hbm, 203, rfl⟩
abbrev main_while0b_call7_v30 : Ref sig .tc := ⟨.hbm, 204, rfl⟩
abbrev main_while0b_call7_v31 : Ref sig .tc := ⟨.hbm, 205, rfl⟩
abbrev main_while0b_call7_cst_10 : Ref sig .tc := ⟨.hbm, 206, rfl⟩
abbrev main_while0b_call7_v32 : Ref sig .tc := ⟨.hbm, 207, rfl⟩
abbrev main_while0b_v92_2 : Ref sig .tc := ⟨.hbm, 208, rfl⟩
abbrev main_while0b_v93 : Ref sig .tc := ⟨.hbm, 209, rfl⟩
abbrev main_while0b_cst_37 : Ref sig .tc := ⟨.hbm, 210, rfl⟩
abbrev main_while0b_v94 : Ref sig .tc := ⟨.hbm, 211, rfl⟩
abbrev main_while0b_v95 : Ref sig .tc := ⟨.hbm, 212, rfl⟩
abbrev main_while0b_call8_call0_cst : Ref sig .tc := ⟨.hbm, 213, rfl⟩
abbrev main_while0b_call8_call0_v0 : Ref sig .tc := ⟨.hbm, 214, rfl⟩
abbrev main_while0b_v96 : Ref sig .tc := ⟨.hbm, 215, rfl⟩
abbrev main_while0b_v97 : Ref sig .tc := ⟨.hbm, 216, rfl⟩
abbrev main_while0b_v98 : Ref sig .tc := ⟨.hbm, 217, rfl⟩
abbrev main_while0b_v99 : Ref sig .tc := ⟨.hbm, 218, rfl⟩
abbrev main_while0b_v100 : Ref sig .tc := ⟨.hbm, 219, rfl⟩
abbrev main_while0b_v101 : Ref sig .tc := ⟨.hbm, 220, rfl⟩
abbrev main_while0b_cst_38 : Ref sig .tc := ⟨.hbm, 221, rfl⟩
abbrev main_while0b_v102 : Ref sig .tc := ⟨.hbm, 222, rfl⟩
abbrev main_while0b_v103 : Ref sig .tc := ⟨.hbm, 223, rfl⟩
abbrev main_while0b_v104 : Ref sig .tc := ⟨.hbm, 224, rfl⟩
abbrev main_while0b_v105 : Ref sig .tc := ⟨.hbm, 225, rfl⟩
abbrev main_while0b_v106 : Ref sig .tc := ⟨.hbm, 226, rfl⟩
abbrev main_while0b_v107 : Ref sig .tc := ⟨.hbm, 227, rfl⟩
abbrev main_while0b_v108 : Ref sig .tc := ⟨.hbm, 228, rfl⟩
abbrev main_while0b_v109 : Ref sig .tc := ⟨.hbm, 229, rfl⟩
abbrev main_while0b_v110 : Ref sig .tc := ⟨.hbm, 230, rfl⟩
abbrev main_while0b_v111 : Ref sig .tc := ⟨.hbm, 231, rfl⟩
abbrev main_while0b_v112 : Ref sig .tc := ⟨.hbm, 232, rfl⟩
abbrev main_while0b_v113 : Ref sig .tc := ⟨.hbm, 233, rfl⟩
abbrev main_while0b_v114 : Ref sig .tc := ⟨.hbm, 234, rfl⟩
abbrev main_while0b_v115 : Ref sig .tc := ⟨.hbm, 235, rfl⟩
abbrev main_while0b_v116 : Ref sig .tc := ⟨.hbm, 236, rfl⟩
abbrev main_while0b_v117 : Ref sig .tc := ⟨.hbm, 237, rfl⟩
abbrev main_while0b_v118 : Ref sig .tc := ⟨.hbm, 238, rfl⟩
abbrev main_while0b_v119 : Ref sig .tc := ⟨.hbm, 239, rfl⟩
abbrev main_while0b_v120 : Ref sig .tc := ⟨.hbm, 240, rfl⟩
abbrev main_while0b_v121 : Ref sig .tc := ⟨.hbm, 241, rfl⟩
abbrev main_while0b_v122 : Ref sig .tc := ⟨.hbm, 242, rfl⟩
abbrev main_while0b_v123 : Ref sig .tc := ⟨.hbm, 243, rfl⟩
abbrev main_while0b_v124 : Ref sig .tc := ⟨.hbm, 244, rfl⟩
abbrev main_while0b_v125 : Ref sig .tc := ⟨.hbm, 245, rfl⟩
abbrev main_while0b_v126 : Ref sig .tc := ⟨.hbm, 246, rfl⟩
abbrev main_while0b_v127 : Ref sig .tc := ⟨.hbm, 247, rfl⟩
abbrev main_while0b_v128 : Ref sig .tc := ⟨.hbm, 248, rfl⟩
abbrev main_while0b_v129 : Ref sig .tc := ⟨.hbm, 249, rfl⟩
abbrev main_while0b_v130 : Ref sig .tc := ⟨.hbm, 250, rfl⟩
abbrev main_while0b_cst_39 : Ref sig .tc := ⟨.hbm, 251, rfl⟩
abbrev main_while0b_v131 : Ref sig .tc := ⟨.hbm, 252, rfl⟩
abbrev main_while0b_v132 : Ref sig .tc := ⟨.hbm, 253, rfl⟩
abbrev main_while0b_cst_40 : Ref sig .tc := ⟨.hbm, 254, rfl⟩
abbrev main_while0b_v133 : Ref sig .tc := ⟨.hbm, 255, rfl⟩
abbrev main_while0b_v134 : Ref sig .tc := ⟨.hbm, 256, rfl⟩
abbrev main_while0b_v135 : Ref sig .tc := ⟨.hbm, 257, rfl⟩
abbrev main_while0b_v136 : Ref sig .tc := ⟨.hbm, 258, rfl⟩
abbrev main_while0b_v137 : Ref sig .tc := ⟨.hbm, 259, rfl⟩
abbrev main_while0b_v138 : Ref sig .tc := ⟨.hbm, 260, rfl⟩
abbrev main_while0b_v139 : Ref sig .tc := ⟨.hbm, 261, rfl⟩
abbrev main_while0b_v140 : Ref sig .tc := ⟨.hbm, 262, rfl⟩
abbrev main_while0b_v141 : Ref sig .tc := ⟨.hbm, 263, rfl⟩
abbrev main_while0b_cst_41 : Ref sig .tc := ⟨.hbm, 264, rfl⟩
abbrev main_while0b_v142 : Ref sig .tc := ⟨.hbm, 265, rfl⟩
abbrev main_while0b_v143 : Ref sig .tc := ⟨.hbm, 266, rfl⟩
abbrev main_while0b_v144 : Ref sig .tc := ⟨.hbm, 267, rfl⟩
abbrev main_while0b_v145 : Ref sig .tc := ⟨.hbm, 268, rfl⟩
abbrev main_while0b_v146 : Ref sig .tc := ⟨.hbm, 269, rfl⟩
abbrev main_while0b_cst_42 : Ref sig .tc := ⟨.hbm, 270, rfl⟩
abbrev main_while0b_v147 : Ref sig .tc := ⟨.hbm, 271, rfl⟩
abbrev main_while0b_v148 : Ref sig .tc := ⟨.hbm, 272, rfl⟩
abbrev main_while0b_v149 : Ref sig .tc := ⟨.hbm, 273, rfl⟩
abbrev main_while0b_v150 : Ref sig .tc := ⟨.hbm, 274, rfl⟩
abbrev main_while0b_cst_43 : Ref sig .tc := ⟨.hbm, 275, rfl⟩
abbrev main_while0b_v151 : Ref sig .tc := ⟨.hbm, 276, rfl⟩
abbrev main_while0b_v152 : Ref sig .tc := ⟨.hbm, 277, rfl⟩
abbrev main_while0b_call9_call0_cst : Ref sig .tc := ⟨.hbm, 278, rfl⟩
abbrev main_while0b_call9_call0_v0 : Ref sig .tc := ⟨.hbm, 279, rfl⟩
abbrev main_while0b_v153 : Ref sig .tc := ⟨.hbm, 280, rfl⟩
abbrev main_while0b_cst_44 : Ref sig .tc := ⟨.hbm, 281, rfl⟩
abbrev main_while0b_v154 : Ref sig .tc := ⟨.hbm, 282, rfl⟩
abbrev main_while0b_v155 : Ref sig .tc := ⟨.hbm, 283, rfl⟩
abbrev main_while0b_v156 : Ref sig .tc := ⟨.hbm, 284, rfl⟩
abbrev main_while0b_v157 : Ref sig .tc := ⟨.hbm, 285, rfl⟩
abbrev main_while0b_v158 : Ref sig .tc := ⟨.hbm, 286, rfl⟩
abbrev main_while0b_cst_45 : Ref sig .tc := ⟨.hbm, 287, rfl⟩
abbrev main_while0b_v159 : Ref sig .tc := ⟨.hbm, 288, rfl⟩
abbrev main_while0b_v160 : Ref sig .tc := ⟨.hbm, 289, rfl⟩
abbrev main_while0b_v161 : Ref sig .tc := ⟨.hbm, 290, rfl⟩
abbrev main_while0b_v162 : Ref sig .tc := ⟨.hbm, 291, rfl⟩
abbrev main_while0b_v163 : Ref sig .tc := ⟨.hbm, 292, rfl⟩
abbrev main_while0b_v164 : Ref sig .tc := ⟨.hbm, 293, rfl⟩
abbrev main_while0b_v165 : Ref sig .tc := ⟨.hbm, 294, rfl⟩
abbrev main_while0b_v166 : Ref sig .tc := ⟨.hbm, 295, rfl⟩
abbrev main_while0b_v167 : Ref sig .tc := ⟨.hbm, 296, rfl⟩
abbrev main_while0b_v168 : Ref sig .tc := ⟨.hbm, 297, rfl⟩
abbrev main_while0b_call11_v0 : Ref sig .tc := ⟨.hbm, 298, rfl⟩
abbrev main_while0b_call11_v1 : Ref sig .tc := ⟨.hbm, 299, rfl⟩
abbrev main_while0b_v169 : Ref sig .tc := ⟨.hbm, 300, rfl⟩
abbrev main_while0b_v170 : Ref sig .tc := ⟨.hbm, 301, rfl⟩
abbrev main_while0b_call12_v0 : Ref sig .tc := ⟨.hbm, 302, rfl⟩
abbrev main_while0b_call12_v1 : Ref sig .tc := ⟨.hbm, 303, rfl⟩
abbrev main_while0b_v171 : Ref sig .tc := ⟨.hbm, 304, rfl⟩
abbrev main_while0b_v172 : Ref sig .tc := ⟨.hbm, 305, rfl⟩
abbrev main_while0b_call13_v0 : Ref sig .tc := ⟨.hbm, 306, rfl⟩
abbrev main_while0b_call13_v1 : Ref sig .tc := ⟨.hbm, 307, rfl⟩
abbrev main_while0b_v173 : Ref sig .tc := ⟨.hbm, 308, rfl⟩
abbrev main_while0b_v174 : Ref sig .tc := ⟨.hbm, 309, rfl⟩
abbrev main_while0b_call14_v0 : Ref sig .tc := ⟨.hbm, 310, rfl⟩
abbrev main_while0b_call14_v1 : Ref sig .tc := ⟨.hbm, 311, rfl⟩
abbrev main_while0b_v175 : Ref sig .tc := ⟨.hbm, 312, rfl⟩
abbrev main_while0b_v176 : Ref sig .tc := ⟨.hbm, 313, rfl⟩
abbrev main_while0b_call15_v0 : Ref sig .tc := ⟨.hbm, 314, rfl⟩
abbrev main_while0b_call15_v1 : Ref sig .tc := ⟨.hbm, 315, rfl⟩
abbrev main_while0b_v177 : Ref sig .tc := ⟨.hbm, 316, rfl⟩
abbrev main_while0b_v178 : Ref sig .tc := ⟨.hbm, 317, rfl⟩
abbrev main_while0b_v179 : Ref sig .tc := ⟨.hbm, 318, rfl⟩
abbrev main_while0b_v180 : Ref sig .tc := ⟨.hbm, 319, rfl⟩
abbrev main_while0b_c_46 : Ref sig .tc := ⟨.hbm, 320, rfl⟩
abbrev main_while0b_v181 : Ref sig .tc := ⟨.hbm, 321, rfl⟩
abbrev main_v21 : Ref sig .tc := ⟨.hbm, 322, rfl⟩
abbrev main_v22 : Ref sig .tc := ⟨.hbm, 323, rfl⟩
abbrev main_v23 : Ref sig .tc := ⟨.hbm, 324, rfl⟩
abbrev main_v24 : Ref sig .tc := ⟨.hbm, 325, rfl⟩
abbrev main_v25 : Ref sig .tc := ⟨.hbm, 326, rfl⟩
abbrev main_v26 : Ref sig .tc := ⟨.hbm, 327, rfl⟩
abbrev main_v27 : Ref sig .tc := ⟨.hbm, 328, rfl⟩

abbrev nD : Nat := 1
abbrev τ : Topo := Topo.v7x

variable {F : FTy → Type} [FloatOps F]

abbrev main_while0_count : Scf.Loop 32 := ⟨0#32, 65#32, 1#32⟩
-- ==== Kernel2.lean ====
abbrev S4160x1024 : Shape := ⟨2, ![4160, 1024]⟩
abbrev S1x1024 : Shape := ⟨2, ![1, 1024]⟩
abbrev S4160x4096 : Shape := ⟨2, ![4160, 4096]⟩
abbrev S4x1024x1024 : Shape := ⟨3, ![4, 1024, 1024]⟩
abbrev S832x1024 : Shape := ⟨2, ![832, 1024]⟩
abbrev S1x1024x1024 : Shape := ⟨3, ![1, 1024, 1024]⟩
abbrev S1024x1024 : Shape := ⟨2, ![1024, 1024]⟩
abbrev S832 : Shape := ⟨1, ![832]⟩
abbrev S832x1 : Shape := ⟨2, ![832, 1]⟩
abbrev S1024 : Shape := ⟨1, ![1024]⟩

abbrev nBuf : Space → Nat
  | .hbm => 9
  | .vmem => 17
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1x1024, .f32⟩
  | .hbm, ⟨3, _⟩ => ⟨S4160x4096, .bf16⟩
  | .hbm, ⟨4, _⟩ => ⟨S4x1024x1024, .bf16⟩
  | .hbm, ⟨5, _⟩ => ⟨S4x1024x1024, .bf16⟩
  | .hbm, ⟨6, _⟩ => ⟨S4160x1024, .f32⟩
  | .hbm, ⟨7, _⟩ => ⟨S4160x4096, .bf16⟩
  | .hbm, ⟨8, _⟩ => ⟨S1x1024, .f32⟩
  | .local _ .vmem, ⟨0, _⟩ => ⟨S832x1024, .f32⟩
  | .local _ .vmem, ⟨1, _⟩ => ⟨S832x1024, .f32⟩
  | .local _ .vmem, ⟨2, _⟩ => ⟨S832x1024, .f32⟩
  | .local _ .vmem, ⟨3, _⟩ => ⟨S832x1024, .f32⟩
  | .local _ .vmem, ⟨4, _⟩ => ⟨S1x1024, .f32⟩
  | .local _ .vmem, ⟨5, _⟩ => ⟨S832x1024, .bf16⟩
  | .local _ .vmem, ⟨6, _⟩ => ⟨S832x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S832x1024, .f32⟩
  | .local _ .vmem, ⟨12, _⟩ => ⟨S832x1024, .f32⟩
  | .local _ .vmem, ⟨13, _⟩ => ⟨S832x1024, .bf16⟩
  | .local _ .vmem, ⟨14, _⟩ => ⟨S832x1024, .bf16⟩
  | .local _ .vmem, ⟨15, _⟩ => ⟨S1x1024, .f32⟩
  | .local _ .vmem, ⟨16, _⟩ => ⟨S832x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![5, 4], ![false, false]⟩

def k0_cond3 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_16 : BitVec 32 := 0#32
  let v25 : BitVec 1 := Scalar.cmpi .ne v24 c0_i32_16
  v25

def k0_cond4 (i : grid0.Coords) : BitVec 1 :=
  let arg0 : BitVec 32 := BitVec.ofNat 32 (i 0).val
  let c0_i32_34 : BitVec 32 := 0#32
  let v67 : BitVec 1 := Scalar.cmpi .eq arg0 c0_i32_34
  let v68 : BitVec 32 := Scalar.extui v67
  let c0_i32_35 : BitVec 32 := 0#32
  let v69 : BitVec 1 := Scalar.cmpi .ne v68 c0_i32_35
  v69

def k0_cond5 (i : grid0.Coords) : BitVec 1 :=
  let arg0 : BitVec 32 := BitVec.ofNat 32 (i 0).val
  let c0_i32_34 : BitVec 32 := 0#32
  let v67 : BitVec 1 := Scalar.cmpi .eq arg0 c0_i32_34
  let true_36 : BitVec 1 := 1#1
  let v70 : BitVec 1 := Scalar.xori v67 true_36
  let v71 : BitVec 32 := Scalar.extui v70
  let c0_i32_37 : BitVec 32 := 0#32
  let v72 : BitVec 1 := Scalar.cmpi .ne v71 c0_i32_37
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S832x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S832x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S832x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S832x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference2Ideal.lean ====
abbrev S4160x1024 : Shape := ⟨2, ![4160, 1024]⟩
abbrev S1x1024 : Shape := ⟨2, ![1, 1024]⟩
abbrev S4160x4096 : Shape := ⟨2, ![4160, 4096]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x1024 : Shape := ⟨2, ![4096, 1024]⟩
abbrev S_ : Shape := ⟨0, ![]⟩
abbrev S4160 : Shape := ⟨1, ![4160]⟩
abbrev S4160x1 : Shape := ⟨2, ![4160, 1]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S1x1024, .f32⟩
  | .hbm, ⟨3, _⟩ => ⟨S4160x4096, .bf16⟩
  | .hbm, ⟨4, _⟩ => ⟨S4x1024x1024, .bf16⟩
  | .hbm, ⟨5, _⟩ => ⟨S4x1024x1024, .bf16⟩
  | .hbm, ⟨6, _⟩ => ⟨S4160x4096, .f32⟩
  | .hbm, ⟨7, _⟩ => ⟨S4x1024x1024, .f32⟩
  | .hbm, ⟨8, _⟩ => ⟨S4x1024x1024, .f32⟩
  | .hbm, ⟨9, _⟩ => ⟨S1024x4x1024, .f32⟩
  | .hbm, ⟨10, _⟩ => ⟨S1024x4096, .f32⟩
  | .hbm, ⟨11, _⟩ => ⟨S4096x1024, .f32⟩
  | .hbm, ⟨12, _⟩ => ⟨S_, .f32⟩
  | .hbm, ⟨13, _⟩ => ⟨S4160x4096, .f32⟩
  | .hbm, ⟨14, _⟩ => ⟨S4160x4096, .f32⟩
  | .hbm, ⟨15, _⟩ => ⟨S_, .f32⟩
  | .hbm, ⟨16, _⟩ => ⟨S4160x4096, .f32⟩
  | .hbm, ⟨17, _⟩ => ⟨S4160x4096, .i1⟩
  | .hbm, ⟨18, _⟩ => ⟨S_, .f32⟩
  | .hbm, ⟨19, _⟩ => ⟨S4160x4096, .f32⟩
  | .hbm, ⟨20, _⟩ => ⟨S4160x4096, .f32⟩
  | .hbm, ⟨21, _⟩ => ⟨S4160x1024, .f32⟩
  | .hbm, ⟨22, _⟩ => ⟨S4160x4096, .f32⟩
  | .hbm, ⟨23, _⟩ => ⟨S4160x4096, .f32⟩
  | .hbm, ⟨24, _⟩ => ⟨S4160x4096, .f32⟩
  | .hbm, ⟨25, _⟩ => ⟨S4160x4096, .f32⟩
  | .hbm, ⟨26, _⟩ => ⟨S_, .f32⟩
  | .hbm, ⟨27, _⟩ => ⟨S4160x4096, .f32⟩
  | .hbm, ⟨28, _⟩ => ⟨S4160x4096, .f32⟩
  | .hbm, ⟨29, _⟩ => ⟨S4160x1024, .f32⟩
  | .hbm, ⟨30, _⟩ => ⟨S_, .f32⟩
  | .hbm, ⟨31, _⟩ => ⟨S4160, .f32⟩
  | .hbm, ⟨32, _⟩ => ⟨S4160x1, .f32⟩
  | .hbm, ⟨33, _⟩ => ⟨S_, .f32⟩
  | .hbm, ⟨34, _⟩ => ⟨S4160x1, .f32⟩
  | .hbm, ⟨35, _⟩ => ⟨S4160x1, .f32⟩
  | .hbm, ⟨36, _⟩ => ⟨S_, .f32⟩
  | .hbm, ⟨37, _⟩ => ⟨S4160x1, .f32⟩
  | .hbm, ⟨38, _⟩ => ⟨S4160x1, .f32⟩
  | .hbm, ⟨39, _⟩ => ⟨S4160x1, .f32⟩
  | .hbm, ⟨40, _⟩ => ⟨S4160x1, .f32⟩
  | .hbm, ⟨41, _⟩ => ⟨S_, .f32⟩
  | .hbm, ⟨42, _⟩ => ⟨S4160x1, .f32⟩
  | .hbm, ⟨43, _⟩ => ⟨S4160x1, .f32⟩
  | .hbm, ⟨44, _⟩ => ⟨S4160x1024, .f32⟩
  | .hbm, ⟨45, _⟩ => ⟨S4160x1024, .f32⟩
  | .hbm, ⟨46, _⟩ => ⟨S4160x1024, .f32⟩
  | .hbm, ⟨47, _⟩ => ⟨S4160x1024, .f32⟩
  | .hbm, ⟨48, _⟩ => ⟨S4160x4096, .f32⟩
  | .hbm, ⟨49, _⟩ => ⟨S4160x1024, .f32⟩
  | .hbm, ⟨50, _⟩ => ⟨S4160x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4160x1024, .f32⟩
  | .hbm, ⟨55, _⟩ => ⟨S4160x1024, .f32⟩
  | .hbm, ⟨56, _⟩ => ⟨S4160x1024, .f32⟩
  | .hbm, ⟨57, _⟩ => ⟨S_, .f32⟩
  | .hbm, ⟨58, _⟩ => ⟨S4160, .f32⟩
  | .hbm, ⟨59, _⟩ => ⟨S4160x1, .f32⟩
  | .hbm, ⟨60, _⟩ => ⟨S4160x1024, .f32⟩
  | .hbm, ⟨61, _⟩ => ⟨S4160x1024, .f32⟩
  | .hbm, ⟨62, _⟩ => ⟨S4160x1, .f32⟩
  | .hbm, ⟨63, _⟩ => ⟨S_, .f32⟩
  | .hbm, ⟨64, _⟩ => ⟨S4160x1, .f32⟩
  | .hbm, ⟨65, _⟩ => ⟨S4160x1, .f32⟩
  | .hbm, ⟨66, _⟩ => ⟨S_, .f32⟩
  | .hbm, ⟨67, _⟩ => ⟨S4160, .f32⟩
  | .hbm, ⟨68, _⟩ => ⟨S4160x1024, .f32⟩
  | .hbm, ⟨69, _⟩ => ⟨S4160x1024, .f32⟩
  | .hbm, ⟨70, _⟩ => ⟨S4160x1024, .f32⟩
  | .hbm, ⟨71, _⟩ => ⟨S4160x1024, .f32⟩
  | .hbm, ⟨72, _⟩ => ⟨S4160x1024, .f32⟩
  | .hbm, ⟨73, _⟩ => ⟨S4160, .i32⟩
  | .hbm, ⟨74, _⟩ => ⟨S_, .i32⟩
  | .hbm, ⟨75, _⟩ => ⟨S4160, .i32⟩
  | .hbm, ⟨76, _⟩ => ⟨S4160, .i1⟩
  | .hbm, ⟨77, _⟩ => ⟨S4160x1, .i1⟩
  | .hbm, ⟨78, _⟩ => ⟨S4160x1024, .f32⟩
  | .hbm, ⟨79, _⟩ => ⟨S_, .f32⟩
  | .hbm, ⟨80, _⟩ => ⟨S_, .f32⟩
  | .hbm, ⟨81, _⟩ => ⟨S4160x1024, .i1⟩
  | .hbm, ⟨82, _⟩ => ⟨S4160x1024, .f32⟩
  | .hbm, ⟨83, _⟩ => ⟨S4160x1024, .f32⟩
  | .hbm, ⟨84, _⟩ => ⟨S4160x4096, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Kernel3.lean ====
abbrev S4160x1024 : Shape := ⟨2, ![4160, 1024]⟩
abbrev S4160x4096 : Shape := ⟨2, ![4160, 4096]⟩
abbrev S4x1024x1024 : Shape := ⟨3, ![4, 1024, 1024]⟩
abbrev S64x1024 : Shape := ⟨2, ![64, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 9
  | .smem => 0
  | _ => 0

abbrev bufTy : (tb : Table) → Fin (tcTables nBuf tb) → BufTy
  | .hbm, ⟨0, _⟩ => ⟨S4160x1024, .bf16⟩
  | .hbm, ⟨1, _⟩ => ⟨S4160x4096, .bf16⟩
  | .hbm, ⟨2, _⟩ => ⟨S4x1024x1024, .bf16⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def k0_mult1 (i : grid0.Coords) : BitVec 32 :=
  let c64_i32 : BitVec 32 := 64#32
  let arg1 : BitVec 32 := BitVec.ofNat 32 (i 1).val
  let c4096_i32 : BitVec 32 := 4096#32
  let v0 : BitVec 32 := Scalar.muli arg1 c4096_i32
  let v1 : BitVec 32 := Scalar.addi c64_i32 v0
  v1
def k0_mult2 (i : grid0.Coords) : BitVec 32 :=
  let c64_i32 : BitVec 32 := 64#32
  let arg1 : BitVec 32 := BitVec.ofNat 32 (i 1).val
  let c4096_i32 : BitVec 32 := 4096#32
  let v0 : BitVec 32 := Scalar.muli arg1 c4096_i32
  let v1 : BitVec 32 := Scalar.addi c64_i32 v0
  v1
def k0_mult3 (i : grid0.Coords) : BitVec 32 :=
  let arg0 : BitVec 32 := BitVec.ofNat 32 (i 0).val
  let c1024_i32 : BitVec 32 := 1024#32
  let v3 : BitVec 32 := Scalar.muli arg0 c1024_i32
  v3
def k0_cond3 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg1 c4096_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg1 c4096_i32
  let c64_i32 : BitVec 32 := 64#32
  let v1 : BitVec 32 := Scalar.addi c64_i32 v0
  let v2 : BitVec 32 := v1
  let c1024_i32 : BitVec 32 := 1024#32
  let v3 : BitVec 32 := Scalar.muli arg0 c1024_i32
  let v4 : BitVec 32 := v3
  let c0_i32 : BitVec 32 := 0#32
  ![v2.toNat, v4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S4096x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S4160x1024 : Shape := ⟨2, ![4160, 1024]⟩
abbrev S4160x4096 : Shape := ⟨2, ![4160, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S4160x4096, .bf16⟩
  | .hbm, ⟨2, _⟩ => ⟨S4160x1024, .f32⟩
  | .hbm, ⟨3, _⟩ => ⟨S4160x4096, .f32⟩
  | .hbm, ⟨4, _⟩ => ⟨S_, .f32⟩
  | .hbm, ⟨5, _⟩ => ⟨S1024x4096, .f32⟩
  | .hbm, ⟨6, _⟩ => ⟨S4160x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4160x4096 : Shape := ⟨2, ![4160, 4096]⟩
abbrev S4160x1024 : Shape := ⟨2, ![4160, 1024]⟩
abbrev S4x1024x1024 : Shape := ⟨3, ![4, 1024, 1024]⟩
abbrev S64x1024 : Shape := ⟨2, ![64, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 10
  | .smem => 0
  | _ => 0

abbrev bufTy : (tb : Table) → Fin (tcTables nBuf tb) → BufTy
  | .hbm, ⟨0, _⟩ => ⟨S4160x4096, .bf16⟩
  | .hbm, ⟨1, _⟩ => ⟨S4160x1024, .f32⟩
  | .hbm, ⟨2, _⟩ => ⟨S4x1024x1024, .bf16⟩
  | .local _ .vmem, ⟨0, _⟩ => ⟨S64x1024, .bf16⟩
  | .local _ .vmem, ⟨1, _⟩ => ⟨S64x1024, .bf16⟩
  | .local _ .vmem, ⟨2, _⟩ => ⟨S64x1024, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | .local _ .vmem, ⟨6, _⟩ => ⟨S2048x1024, .f32⟩
  | .local _ .vmem, ⟨7, _⟩ => ⟨S1x1024x1024, .bf16⟩
  | .local _ .vmem, ⟨8, _⟩ => ⟨S1x1024x1024, .bf16⟩
  | .local _ .vmem, ⟨9, _⟩ => ⟨S1024x1024, .f32⟩
  | _, _ => ⟨S4160x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let c64_i32 : BitVec 32 := 64#32
  let arg1 : BitVec 32 := BitVec.ofNat 32 (i 1).val
  let c2048_i32 : BitVec 32 := 2048#32
  let v0 : BitVec 32 := Scalar.muli arg1 c2048_i32
  let v1 : BitVec 32 := Scalar.addi c64_i32 v0
  v1
def k0_mult2 (i : grid0.Coords) : BitVec 32 :=
  let arg0 : BitVec 32 := BitVec.ofNat 32 (i 0).val
  let c1024_i32 : BitVec 32 := 1024#32
  let v3 : BitVec 32 := Scalar.muli arg0 c1024_i32
  v3
def k0_mult3 (i : grid0.Coords) : BitVec 32 :=
  let c64_i32 : BitVec 32 := 64#32
  let arg1 : BitVec 32 := BitVec.ofNat 32 (i 1).val
  let c2048_i32 : BitVec 32 := 2048#32
  let v0 : BitVec 32 := Scalar.muli arg1 c2048_i32
  let v1 : BitVec 32 := Scalar.addi c64_i32 v0
  v1
def k0_cond3 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c64_i32 : BitVec 32 := 64#32
  let v1 : BitVec 32 := Scalar.addi c64_i32 v0
  let v2 : BitVec 32 := v1
  let c1024_i32 : BitVec 32 := 1024#32
  let v3 : BitVec 32 := Scalar.muli arg0 c1024_i32
  let v4 : BitVec 32 := v3
  let c0_i32 : BitVec 32 := 0#32
  ![v2.toNat, v4.toNat]

def cc0_transform_3 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S4160x4096 : Shape := ⟨2, ![4160, 4096]⟩
abbrev S4160x1024 : Shape := ⟨2, ![4160, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4160x4096, .bf16⟩
  | .hbm, ⟨1, _⟩ => ⟨S4160x1024, .f32⟩
  | .hbm, ⟨2, _⟩ => ⟨S4160x4096, .f32⟩
  | .hbm, ⟨3, _⟩ => ⟨S_, .f32⟩
  | .hbm, ⟨4, _⟩ => ⟨S4160x4096, .f32⟩
  | .hbm, ⟨5, _⟩ => ⟨S4160x4096, .f32⟩
  | .hbm, ⟨6, _⟩ => ⟨S_, .f32⟩
  | .hbm, ⟨7, _⟩ => ⟨S4096x1024, .f32⟩
  | .hbm, ⟨8, _⟩ => ⟨S4160x4096, .f32⟩
  | .hbm, ⟨9, _⟩ => ⟨S4160x1024, .f32⟩
  | .hbm, ⟨10, _⟩ => ⟨S1024x4096, .f32⟩
  | .hbm, ⟨11, _⟩ => ⟨S4096x1024, .f32⟩
  | .hbm, ⟨12, _⟩ => ⟨S4x1024x1024, .f32⟩
  | .hbm, ⟨13, _⟩ => ⟨S4x1024x1024, .bf16⟩
  | _, _ => ⟨S4160x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S4160x1024 : Shape := ⟨2, ![4160, 1024]⟩
abbrev S1x1024x1024 : Shape := ⟨3, ![1, 1024, 1024]⟩
abbrev S64x1024 : Shape := ⟨2, ![64, 1024]⟩
abbrev S2048x1024 : Shape := ⟨2, ![2048, 1024]⟩
abbrev S1024x1024 : Shape := ⟨2, ![1024, 1024]⟩

abbrev nBuf : Space → Nat
  | .hbm => 3
  | .vmem => 8
  | .smem => 0
  | _ => 0

abbrev bufTy : (tb : Table) → Fin (tcTables nBuf tb) → BufTy
  | .hbm, ⟨0, _⟩ => ⟨S4160x1024, .bf16⟩
  | .hbm, ⟨1, _⟩ => ⟨S4160x1024, .f32⟩
  | .hbm, ⟨2, _⟩ => ⟨S1x1024x1024, .bf16⟩
  | .local _ .vmem, ⟨0, _⟩ => ⟨S64x1024, .bf16⟩
  | .local _ .vmem, ⟨1, _⟩ => ⟨S64x1024, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .f32⟩
  | .local _ .vmem, ⟨5, _⟩ => ⟨S2048x1024, .f32⟩
  | .local _ .vmem, ⟨6, _⟩ => ⟨S1x1024x1024, .bf16⟩
  | .local _ .vmem, ⟨7, _⟩ => ⟨S1024x1024, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 2], ![false, false]⟩

def k0_mult1 (i : grid0.Coords) : BitVec 32 :=
  let c64_i32 : BitVec 32 := 64#32
  let arg1 : BitVec 32 := BitVec.ofNat 32 (i 1).val
  let c2048_i32 : BitVec 32 := 2048#32
  let v0 : BitVec 32 := Scalar.muli arg1 c2048_i32
  let v1 : BitVec 32 := Scalar.addi c64_i32 v0
  v1
def k0_mult2 (i : grid0.Coords) : BitVec 32 :=
  let c64_i32 : BitVec 32 := 64#32
  let arg1 : BitVec 32 := BitVec.ofNat 32 (i 1).val
  let c2048_i32 : BitVec 32 := 2048#32
  let v0 : BitVec 32 := Scalar.muli arg1 c2048_i32
  let v1 : BitVec 32 := Scalar.addi c64_i32 v0
  v1
def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference5Ideal.lean ====
abbrev S4160x1024 : Shape := ⟨2, ![4160, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S4160x1024, .f32⟩
  | .hbm, ⟨2, _⟩ => ⟨S_, .f32⟩
  | .hbm, ⟨3, _⟩ => ⟨S1024x1024, .f32⟩
  | .hbm, ⟨4, _⟩ => ⟨S4160x1024, .f32⟩
  | .hbm, ⟨5, _⟩ => ⟨S4160x1024, .f32⟩
  | .hbm, ⟨6, _⟩ => ⟨S1024x1024, .f32⟩
  | .hbm, ⟨7, _⟩ => ⟨S1024x1024, .f32⟩
  | .hbm, ⟨8, _⟩ => ⟨S1x1024x1024, .f32⟩
  | .hbm, ⟨9, _⟩ => ⟨S1x1024x1024, .bf16⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4160x1024 : Shape := ⟨2, ![4160, 1024]⟩
abbrev S4160x3200 : Shape := ⟨2, ![4160, 3200]⟩
abbrev S5x1024x640 : Shape := ⟨3, ![5, 1024, 640]⟩
abbrev S64x1024 : Shape := ⟨2, ![64, 1024]⟩
abbrev S64x640 : Shape := ⟨2, ![64, 640]⟩
abbrev S4096x1024 : Shape := ⟨2, ![4096, 1024]⟩
abbrev S4096x640 : Shape := ⟨2, ![4096, 640]⟩
abbrev S1x1024x640 : Shape := ⟨3, ![1, 1024, 640]⟩
abbrev S1024x640 : Shape := ⟨2, ![1024, 640]⟩

abbrev nBuf : Space → Nat
  | .hbm => 3
  | .vmem => 9
  | .smem => 0
  | _ => 0

abbrev bufTy : (tb : Table) → Fin (tcTables nBuf tb) → BufTy
  | .hbm, ⟨0, _⟩ => ⟨S4160x1024, .bf16⟩
  | .hbm, ⟨1, _⟩ => ⟨S4160x3200, .bf16⟩
  | .hbm, ⟨2, _⟩ => ⟨S5x1024x640, .bf16⟩
  | .local _ .vmem, ⟨0, _⟩ => ⟨S64x1024, .bf16⟩
  | .local _ .vmem, ⟨1, _⟩ => ⟨S64x640, .bf16⟩
  | .local _ .vmem, ⟨2, _⟩ => ⟨S64x640, .bf16⟩
  | .local _ .vmem, ⟨3, _⟩ => ⟨S4096x1024, .bf16⟩
  | .local _ .vmem, ⟨4, _⟩ => ⟨S4096x640, .bf16⟩
  | .local _ .vmem, ⟨5, _⟩ => ⟨S4096x640, .bf16⟩
  | .local _ .vmem, ⟨6, _⟩ => ⟨S1x1024x640, .bf16⟩
  | .local _ .vmem, ⟨7, _⟩ => ⟨S1x1024x640, .bf16⟩
  | .local _ .vmem, ⟨8, _⟩ => ⟨S1024x640, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![5, 1], ![false, false]⟩

def k0_mult1 (i : grid0.Coords) : BitVec 32 :=
  let c64_i32 : BitVec 32 := 64#32
  let arg1 : BitVec 32 := BitVec.ofNat 32 (i 1).val
  let c4096_i32 : BitVec 32 := 4096#32
  let v0 : BitVec 32 := Scalar.muli arg1 c4096_i32
  let v1 : BitVec 32 := Scalar.addi c64_i32 v0
  v1
def k0_mult2 (i : grid0.Coords) : BitVec 32 :=
  let c64_i32 : BitVec 32 := 64#32
  let arg1 : BitVec 32 := BitVec.ofNat 32 (i 1).val
  let c4096_i32 : BitVec 32 := 4096#32
  let v0 : BitVec 32 := Scalar.muli arg1 c4096_i32
  let v1 : BitVec 32 := Scalar.addi c64_i32 v0
  v1
def k0_mult3 (i : grid0.Coords) : BitVec 32 :=
  let arg0 : BitVec 32 := BitVec.ofNat 32 (i 0).val
  let c640_i32 : BitVec 32 := 640#32
  let v3 : BitVec 32 := Scalar.muli arg0 c640_i32
  v3
def k0_cond3 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg1 c4096_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg1 c4096_i32
  let c64_i32 : BitVec 32 := 64#32
  let v1 : BitVec 32 := Scalar.addi c64_i32 v0
  let v2 : BitVec 32 := v1
  let c640_i32 : BitVec 32 := 640#32
  let v3 : BitVec 32 := Scalar.muli arg0 c640_i32
  let v4 : BitVec 32 := v3
  let c0_i32 : BitVec 32 := 0#32
  ![v2.toNat, v4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S4096x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S4160x1024 : Shape := ⟨2, ![4160, 1024]⟩
abbrev S4160x3200 : Shape := ⟨2, ![4160, 3200]⟩
abbrev S_ : Shape := ⟨0, ![]⟩
abbrev S1024x3200 : Shape := ⟨2, ![1024, 3200]⟩
abbrev S3200x1024 : Shape := ⟨2, ![3200, 1024]⟩
abbrev S1024x5x640 : Shape := ⟨3, ![1024, 5, 640]⟩
abbrev S5x1024x640 : Shape := ⟨3, ![5, 1024, 640]⟩

abbrev nBuf : Space → Nat
  | .hbm => 12
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S4160x3200, .bf16⟩
  | .hbm, ⟨2, _⟩ => ⟨S_, .f32⟩
  | .hbm, ⟨3, _⟩ => ⟨S1024x3200, .f32⟩
  | .hbm, ⟨4, _⟩ => ⟨S4160x1024, .f32⟩
  | .hbm, ⟨5, _⟩ => ⟨S4160x3200, .f32⟩
  | .hbm, ⟨6, _⟩ => ⟨S4160x3200, .f32⟩
  | .hbm, ⟨7, _⟩ => ⟨S3200x1024, .f32⟩
  | .hbm, ⟨8, _⟩ => ⟨S1024x3200, .f32⟩
  | .hbm, ⟨9, _⟩ => ⟨S1024x5x640, .f32⟩
  | .hbm, ⟨10, _⟩ => ⟨S5x1024x640, .f32⟩
  | .hbm, ⟨11, _⟩ => ⟨S5x1024x640, .bf16⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4160x1024 : Shape := ⟨2, ![4160, 1024]⟩
abbrev S4160x1536 : Shape := ⟨2, ![4160, 1536]⟩
abbrev S1x1024x1536 : Shape := ⟨3, ![1, 1024, 1536]⟩
abbrev S64x1024 : Shape := ⟨2, ![64, 1024]⟩
abbrev S64x1536 : Shape := ⟨2, ![64, 1536]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 8
  | .smem => 0
  | _ => 0

abbrev bufTy : (tb : Table) → Fin (tcTables nBuf tb) → BufTy
  | .hbm, ⟨0, _⟩ => ⟨S4160x1024, .bf16⟩
  | .hbm, ⟨1, _⟩ => ⟨S4160x1536, .bf16⟩
  | .hbm, ⟨2, _⟩ => ⟨S1x1024x1536, .bf16⟩
  | .local _ .vmem, ⟨0, _⟩ => ⟨S64x1024, .bf16⟩
  | .local _ .vmem, ⟨1, _⟩ => ⟨S64x1536, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1536, .bf16⟩
  | .local _ .vmem, ⟨5, _⟩ => ⟨S2048x1536, .bf16⟩
  | .local _ .vmem, ⟨6, _⟩ => ⟨S1x1024x1536, .bf16⟩
  | .local _ .vmem, ⟨7, _⟩ => ⟨S1024x1536, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 2], ![false, false]⟩

def k0_mult1 (i : grid0.Coords) : BitVec 32 :=
  let c64_i32 : BitVec 32 := 64#32
  let arg1 : BitVec 32 := BitVec.ofNat 32 (i 1).val
  let c2048_i32 : BitVec 32 := 2048#32
  let v0 : BitVec 32 := Scalar.muli arg1 c2048_i32
  let v1 : BitVec 32 := Scalar.addi c64_i32 v0
  v1
def k0_mult2 (i : grid0.Coords) : BitVec 32 :=
  let c64_i32 : BitVec 32 := 64#32
  let arg1 : BitVec 32 := BitVec.ofNat 32 (i 1).val
  let c2048_i32 : BitVec 32 := 2048#32
  let v0 : BitVec 32 := Scalar.muli arg1 c2048_i32
  let v1 : BitVec 32 := Scalar.addi c64_i32 v0
  v1
def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.muli arg1 c2048_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference7Ideal.lean ====
abbrev S4160x1024 : Shape := ⟨2, ![4160, 1024]⟩
abbrev S4160x1536 : Shape := ⟨2, ![4160, 1536]⟩
abbrev S_ : Shape := ⟨0, ![]⟩
abbrev S1024x1536 : Shape := ⟨2, ![1024, 1536]⟩
abbrev S1536x1024 : Shape := ⟨2, ![1536, 1024]⟩
abbrev S1x1024x1536 : Shape := ⟨3, ![1, 1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S4160x1536, .bf16⟩
  | .hbm, ⟨2, _⟩ => ⟨S_, .f32⟩
  | .hbm, ⟨3, _⟩ => ⟨S1024x1536, .f32⟩
  | .hbm, ⟨4, _⟩ => ⟨S4160x1024, .f32⟩
  | .hbm, ⟨5, _⟩ => ⟨S4160x1536, .f32⟩
  | .hbm, ⟨6, _⟩ => ⟨S4160x1536, .f32⟩
  | .hbm, ⟨7, _⟩ => ⟨S1536x1024, .f32⟩
  | .hbm, ⟨8, _⟩ => ⟨S1024x1536, .f32⟩
  | .hbm, ⟨9, _⟩ => ⟨S1x1024x1536, .f32⟩
  | .hbm, ⟨10, _⟩ => ⟨S1x1024x1536, .bf16⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4160x3200 : Shape := ⟨2, ![4160, 3200]⟩
abbrev S1024x3200 : Shape := ⟨2, ![1024, 3200]⟩
abbrev S4160x1024 : Shape := ⟨2, ![4160, 1024]⟩
abbrev S1x1024 : Shape := ⟨2, ![1, 1024]⟩
abbrev S416x3200 : Shape := ⟨2, ![416, 3200]⟩
abbrev S416x1024 : Shape := ⟨2, ![416, 1024]⟩
abbrev S416x1280 : Shape := ⟨2, ![416, 1280]⟩
abbrev S1024x1280 : Shape := ⟨2, ![1024, 1280]⟩
abbrev S416x640 : Shape := ⟨2, ![416, 640]⟩
abbrev S1024x640 : Shape := ⟨2, ![1024, 640]⟩
abbrev S416 : Shape := ⟨1, ![416]⟩
abbrev S416x1 : Shape := ⟨2, ![416, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4160x3200, .bf16⟩
  | .hbm, ⟨1, _⟩ => ⟨S1024x3200, .bf16⟩
  | .hbm, ⟨2, _⟩ => ⟨S4160x1024, .f32⟩
  | .hbm, ⟨3, _⟩ => ⟨S1x1024, .f32⟩
  | .hbm, ⟨4, _⟩ => ⟨S4160x1024, .f32⟩
  | .hbm, ⟨5, _⟩ => ⟨S4160x1024, .f32⟩
  | .hbm, ⟨6, _⟩ => ⟨S1x1024, .f32⟩
  | .local _ .vmem, ⟨0, _⟩ => ⟨S416x3200, .bf16⟩
  | .local _ .vmem, ⟨1, _⟩ => ⟨S416x3200, .bf16⟩
  | .local _ .vmem, ⟨2, _⟩ => ⟨S1024x3200, .bf16⟩
  | .local _ .vmem, ⟨3, _⟩ => ⟨S416x1024, .f32⟩
  | .local _ .vmem, ⟨4, _⟩ => ⟨S416x1024, .f32⟩
  | .local _ .vmem, ⟨5, _⟩ => ⟨S1x1024, .f32⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S416x1024, .f32⟩
  | .local _ .vmem, ⟨10, _⟩ => ⟨S1x1024, .f32⟩
  | _, _ => ⟨S4160x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_27 : BitVec 32 := 0#32
  let v55 : BitVec 1 := Scalar.cmpi .ne v54 c0_i32_27
  v55

def k0_cond2 (i : grid0.Coords) : BitVec 1 :=
  let arg0 : BitVec 32 := BitVec.ofNat 32 (i 0).val
  let c0_i32 : BitVec 32 := 0#32
  let v53 : BitVec 1 := Scalar.cmpi .eq arg0 c0_i32
  let v_true : BitVec 1 := 1#1
  let v56 : BitVec 1 := Scalar.xori v53 v_true
  let v57 : BitVec 32 := Scalar.extui v56
  let c0_i32_28 : BitVec 32 := 0#32
  let v58 : BitVec 1 := Scalar.cmpi .ne v57 c0_i32_28
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S4160x3200 : Shape := ⟨2, ![4160, 3200]⟩
abbrev S1024x3200 : Shape := ⟨2, ![1024, 3200]⟩
abbrev S4160x1024 : Shape := ⟨2, ![4160, 1024]⟩
abbrev S1x1024 : Shape := ⟨2, ![1, 1024]⟩
abbrev S_ : Shape := ⟨0, ![]⟩
abbrev S4160 : Shape := ⟨1, ![4160]⟩
abbrev S4160x1 : Shape := ⟨2, ![4160, 1]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S4160x3200, .bf16⟩
  | .hbm, ⟨1, _⟩ => ⟨S1024x3200, .bf16⟩
  | .hbm, ⟨2, _⟩ => ⟨S4160x1024, .f32⟩
  | .hbm, ⟨3, _⟩ => ⟨S1x1024, .f32⟩
  | .hbm, ⟨4, _⟩ => ⟨S4160x1024, .f32⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S_, .f32⟩
  | .hbm, ⟨18, _⟩ => ⟨S4160x1, .f32⟩
  | .hbm, ⟨19, _⟩ => ⟨S4160x1, .f32⟩
  | .hbm, ⟨20, _⟩ => ⟨S4160x1024, .f32⟩
  | .hbm, ⟨21, _⟩ => ⟨S4160x1024, .f32⟩
  | .hbm, ⟨22, _⟩ => ⟨S4160x1024, .f32⟩
  | .hbm, ⟨23, _⟩ => ⟨S4160x1024, .f32⟩
  | .hbm, ⟨24, _⟩ => ⟨S1024x3200, .f32⟩
  | .hbm, ⟨25, _⟩ => ⟨S4160x3200, .f32⟩
  | .hbm, ⟨26, _⟩ => ⟨S4160x3200, .f32⟩
  | .hbm, ⟨27, _⟩ => ⟨S4160x1024, .f32⟩
  | .hbm, ⟨28, _⟩ => ⟨S4160x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4160x1024, .f32⟩
  | .hbm, ⟨33, _⟩ => ⟨S4160x1024, .f32⟩
  | .hbm, ⟨34, _⟩ => ⟨S4160x1024, .f32⟩
  | .hbm, ⟨35, _⟩ => ⟨S_, .f32⟩
  | .hbm, ⟨36, _⟩ => ⟨S4160, .f32⟩
  | .hbm, ⟨37, _⟩ => ⟨S4160x1, .f32⟩
  | .hbm, ⟨38, _⟩ => ⟨S4160x1024, .f32⟩
  | .hbm, ⟨39, _⟩ => ⟨S4160x1024, .f32⟩
  | .hbm, ⟨40, _⟩ => ⟨S4160x1, .f32⟩
  | .hbm, ⟨41, _⟩ => ⟨S_, .f32⟩
  | .hbm, ⟨42, _⟩ => ⟨S4160x1, .f32⟩
  | .hbm, ⟨43, _⟩ => ⟨S4160x1, .f32⟩
  | .hbm, ⟨44, _⟩ => ⟨S_, .f32⟩
  | .hbm, ⟨45, _⟩ => ⟨S4160, .f32⟩
  | .hbm, ⟨46, _⟩ => ⟨S4160x1024, .f32⟩
  | .hbm, ⟨47, _⟩ => ⟨S4160x1024, .f32⟩
  | .hbm, ⟨48, _⟩ => ⟨S4160x1024, .f32⟩
  | .hbm, ⟨49, _⟩ => ⟨S4160x1024, .f32⟩
  | .hbm, ⟨50, _⟩ => ⟨S4160x1024, .f32⟩
  | .hbm, ⟨51, _⟩ => ⟨S4160, .i32⟩
  | .hbm, ⟨52, _⟩ => ⟨S_, .i32⟩
  | .hbm, ⟨53, _⟩ => ⟨S4160, .i32⟩
  | .hbm, ⟨54, _⟩ => ⟨S4160, .i1⟩
  | .hbm, ⟨55, _⟩ => ⟨S4160x1, .i1⟩
  | .hbm, ⟨56, _⟩ => ⟨S4160x1024, .f32⟩
  | .hbm, ⟨57, _⟩ => ⟨S_, .f32⟩
  | .hbm, ⟨58, _⟩ => ⟨S_, .f32⟩
  | .hbm, ⟨59, _⟩ => ⟨S4160x1024, .i1⟩
  | .hbm, ⟨60, _⟩ => ⟨S4160x1024, .f32⟩
  | .hbm, ⟨61, _⟩ => ⟨S4160x1024, .f32⟩
  | _, _ => ⟨S4160x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel10.lean ====
abbrev S4160x1024 : Shape := ⟨2, ![4160, 1024]⟩
abbrev S1x1024 : Shape := ⟨2, ![1, 1024]⟩
abbrev S1024x3200 : Shape := ⟨2, ![1024, 3200]⟩
abbrev S4160x3200 : Shape := ⟨2, ![4160, 3200]⟩
abbrev S1040x1024 : Shape := ⟨2, ![1040, 1024]⟩
abbrev S1040x3200 : Shape := ⟨2, ![1040, 3200]⟩
abbrev S1040 : Shape := ⟨1, ![1040]⟩
abbrev S1040x1 : Shape := ⟨2, ![1040, 1]⟩
abbrev S1024x1280 : Shape := ⟨2, ![1024, 1280]⟩
abbrev S1040x1280 : Shape := ⟨2, ![1040, 1280]⟩
abbrev S1024x640 : Shape := ⟨2, ![1024, 640]⟩
abbrev S1040x640 : Shape := ⟨2, ![1040, 640]⟩

abbrev nBuf : Space → Nat
  | .hbm => 5
  | .vmem => 8
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x3200, .bf16⟩
  | .hbm, ⟨3, _⟩ => ⟨S4160x3200, .bf16⟩
  | .hbm, ⟨4, _⟩ => ⟨S4160x1024, .bf16⟩
  | .local _ .vmem, ⟨0, _⟩ => ⟨S1040x1024, .f32⟩
  | .local _ .vmem, ⟨1, _⟩ => ⟨S1040x1024, .f32⟩
  | .local _ .vmem, ⟨2, _⟩ => ⟨S1x1024, .f32⟩
  | .local _ .vmem, ⟨3, _⟩ => ⟨S1024x3200, .bf16⟩
  | .local _ .vmem, ⟨4, _⟩ => ⟨S1040x3200, .bf16⟩
  | .local _ .vmem, ⟨5, _⟩ => ⟨S1040x3200, .bf16⟩
  | .local _ .vmem, ⟨6, _⟩ => ⟨S1040x1024, .bf16⟩
  | .local _ .vmem, ⟨7, _⟩ => ⟨S1040x1024, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1040x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1040x3200 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1040x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4160x1024 : Shape := ⟨2, ![4160, 1024]⟩
abbrev S1x1024 : Shape := ⟨2, ![1, 1024]⟩
abbrev S1024x3200 : Shape := ⟨2, ![1024, 3200]⟩
abbrev S_ : Shape := ⟨0, ![]⟩
abbrev S4160 : Shape := ⟨1, ![4160]⟩
abbrev S4160x1 : Shape := ⟨2, ![4160, 1]⟩
abbrev S4160x3200 : Shape := ⟨2, ![4160, 3200]⟩

abbrev nBuf : Space → Nat
  | .hbm => 22
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x3200, .bf16⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S1024x3200, .f32⟩
  | .hbm, ⟨19, _⟩ => ⟨S4160x3200, .f32⟩
  | .hbm, ⟨20, _⟩ => ⟨S4160x3200, .bf16⟩
  | .hbm, ⟨21, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel11.lean ====
abbrev S4160x1024 : Shape := ⟨2, ![4160, 1024]⟩
abbrev S1x1024 : Shape := ⟨2, ![1, 1024]⟩
abbrev S1024x1536 : Shape := ⟨2, ![1024, 1536]⟩
abbrev S4160x1536 : Shape := ⟨2, ![4160, 1536]⟩
abbrev S1040x1024 : Shape := ⟨2, ![1040, 1024]⟩
abbrev S1040x1536 : Shape := ⟨2, ![1040, 1536]⟩
abbrev S1040 : Shape := ⟨1, ![1040]⟩
abbrev S1040x1 : Shape := ⟨2, ![1040, 1]⟩
abbrev S1024x512 : Shape := ⟨2, ![1024, 512]⟩
abbrev S1040x512 : Shape := ⟨2, ![1040, 512]⟩

abbrev nBuf : Space → Nat
  | .hbm => 5
  | .vmem => 8
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x1536, .bf16⟩
  | .hbm, ⟨3, _⟩ => ⟨S4160x1536, .bf16⟩
  | .hbm, ⟨4, _⟩ => ⟨S4160x1024, .bf16⟩
  | .local _ .vmem, ⟨0, _⟩ => ⟨S1040x1024, .f32⟩
  | .local _ .vmem, ⟨1, _⟩ => ⟨S1040x1024, .f32⟩
  | .local _ .vmem, ⟨2, _⟩ => ⟨S1x1024, .f32⟩
  | .local _ .vmem, ⟨3, _⟩ => ⟨S1024x1536, .bf16⟩
  | .local _ .vmem, ⟨4, _⟩ => ⟨S1040x1536, .bf16⟩
  | .local _ .vmem, ⟨5, _⟩ => ⟨S1040x1536, .bf16⟩
  | .local _ .vmem, ⟨6, _⟩ => ⟨S1040x1024, .bf16⟩
  | .local _ .vmem, ⟨7, _⟩ => ⟨S1040x1024, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1040x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1040x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1040x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S4160x1024 : Shape := ⟨2, ![4160, 1024]⟩
abbrev S1x1024 : Shape := ⟨2, ![1, 1024]⟩
abbrev S1024x1536 : Shape := ⟨2, ![1024, 1536]⟩
abbrev S_ : Shape := ⟨0, ![]⟩
abbrev S4160 : Shape := ⟨1, ![4160]⟩
abbrev S4160x1 : Shape := ⟨2, ![4160, 1]⟩
abbrev S4160x1536 : Shape := ⟨2, ![4160, 1536]⟩

abbrev nBuf : Space → Nat
  | .hbm => 22
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S1024x1536, .bf16⟩
  | .hbm, ⟨3, _⟩ => ⟨S4160x1024, .f32⟩
  | .hbm, ⟨4, _⟩ => ⟨S_, .f32⟩
  | .hbm, ⟨5, _⟩ => ⟨S4160, .f32⟩
  | .hbm, ⟨6, _⟩ => ⟨S4160x1, .f32⟩
  | .hbm, ⟨7, _⟩ => ⟨S_, .f32⟩
  | .hbm, ⟨8, _⟩ => ⟨S4160x1, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S4160x1, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S1024x1536, .f32⟩
  | .hbm, ⟨19, _⟩ => ⟨S4160x1536, .f32⟩
  | .hbm, ⟨20, _⟩ => ⟨S4160x1536, .bf16⟩
  | .hbm, ⟨21, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel12.lean ====
abbrev S4160x1024 : Shape := ⟨2, ![4160, 1024]⟩
abbrev S1024x1024 : Shape := ⟨2, ![1024, 1024]⟩
abbrev S1040x1024 : Shape := ⟨2, ![1040, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4160x1024, .bf16⟩
  | .hbm, ⟨1, _⟩ => ⟨S1024x1024, .bf16⟩
  | .hbm, ⟨2, _⟩ => ⟨S4160x1024, .f32⟩
  | .hbm, ⟨3, _⟩ => ⟨S4160x1024, .f32⟩
  | .local _ .vmem, ⟨0, _⟩ => ⟨S1040x1024, .bf16⟩
  | .local _ .vmem, ⟨1, _⟩ => ⟨S1040x1024, .bf16⟩
  | .local _ .vmem, ⟨2, _⟩ => ⟨S1024x1024, .bf16⟩
  | .local _ .vmem, ⟨3, _⟩ => ⟨S1040x1024, .f32⟩
  | .local _ .vmem, ⟨4, _⟩ => ⟨S1040x1024, .f32⟩
  | .local _ .vmem, ⟨5, _⟩ => ⟨S1040x1024, .f32⟩
  | .local _ .vmem, ⟨6, _⟩ => ⟨S1040x1024, .f32⟩
  | _, _ => ⟨S4160x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1040x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1040x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4160x1024 : Shape := ⟨2, ![4160, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4160x1024, .bf16⟩
  | .hbm, ⟨1, _⟩ => ⟨S1024x1024, .bf16⟩
  | .hbm, ⟨2, _⟩ => ⟨S4160x1024, .f32⟩
  | .hbm, ⟨3, _⟩ => ⟨S4160x1024, .f32⟩
  | .hbm, ⟨4, _⟩ => ⟨S1024x1024, .f32⟩
  | .hbm, ⟨5, _⟩ => ⟨S4160x1024, .f32⟩
  | .hbm, ⟨6, _⟩ => ⟨S4160x1024, .f32⟩
  | _, _ => ⟨S4160x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4160x1536 : Shape := ⟨2, ![4160, 1536]⟩
abbrev S1024x1536 : Shape := ⟨2, ![1024, 1536]⟩
abbrev S4160x1024 : Shape := ⟨2, ![4160, 1024]⟩
abbrev S1x1024 : Shape := ⟨2, ![1, 1024]⟩
abbrev S64x1024 : Shape := ⟨2, ![64, 1024]⟩
abbrev S64x1536 : Shape := ⟨2, ![64, 1536]⟩
abbrev S64x512 : Shape := ⟨2, ![64, 512]⟩
abbrev S1024x512 : Shape := ⟨2, ![1024, 512]⟩
abbrev S64 : Shape := ⟨1, ![64]⟩
abbrev S64x1 : Shape := ⟨2, ![64, 1]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S4160x1536, .bf16⟩
  | .hbm, ⟨1, _⟩ => ⟨S1024x1536, .bf16⟩
  | .hbm, ⟨2, _⟩ => ⟨S4160x1024, .f32⟩
  | .hbm, ⟨3, _⟩ => ⟨S1x1024, .f32⟩
  | .hbm, ⟨4, _⟩ => ⟨S4160x1024, .f32⟩
  | .hbm, ⟨5, _⟩ => ⟨S64x1024, .f32⟩
  | .hbm, ⟨6, _⟩ => ⟨S1x1024, .f32⟩
  | .local _ .vmem, ⟨0, _⟩ => ⟨S64x1536, .bf16⟩
  | .local _ .vmem, ⟨1, _⟩ => ⟨S1024x1536, .bf16⟩
  | .local _ .vmem, ⟨2, _⟩ => ⟨S64x1024, .f32⟩
  | .local _ .vmem, ⟨3, _⟩ => ⟨S1x1024, .f32⟩
  | .local _ .vmem, ⟨4, _⟩ => ⟨S64x1024, .f32⟩
  | .local _ .vmem, ⟨5, _⟩ => ⟨S64x1024, .f32⟩
  | .local _ .vmem, ⟨6, _⟩ => ⟨S1x1024, .f32⟩
  | _, _ => ⟨S4160x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S4160x1536 : Shape := ⟨2, ![4160, 1536]⟩
abbrev S1024x1536 : Shape := ⟨2, ![1024, 1536]⟩
abbrev S4160x1024 : Shape := ⟨2, ![4160, 1024]⟩
abbrev S1x1024 : Shape := ⟨2, ![1, 1024]⟩
abbrev S64x1024 : Shape := ⟨2, ![64, 1024]⟩
abbrev S_ : Shape := ⟨0, ![]⟩
abbrev S64 : Shape := ⟨1, ![64]⟩
abbrev S64x1 : Shape := ⟨2, ![64, 1]⟩
abbrev S64x1536 : Shape := ⟨2, ![64, 1536]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S4160x1536, .bf16⟩
  | .hbm, ⟨1, _⟩ => ⟨S1024x1536, .bf16⟩
  | .hbm, ⟨2, _⟩ => ⟨S4160x1024, .f32⟩
  | .hbm, ⟨3, _⟩ => ⟨S1x1024, .f32⟩
  | .hbm, ⟨4, _⟩ => ⟨S4160x1024, .f32⟩
  | .hbm, ⟨5, _⟩ => ⟨S64x1024, .f32⟩
  | .hbm, ⟨6, _⟩ => ⟨S64x1024, .f32⟩
  | .hbm, ⟨7, _⟩ => ⟨S_, .f32⟩
  | .hbm, ⟨8, _⟩ => ⟨S64, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x1024, .f32⟩
  | .hbm, ⟨22, _⟩ => ⟨S64x1024, .f32⟩
  | .hbm, ⟨23, _⟩ => ⟨S64x1024, .f32⟩
  | .hbm, ⟨24, _⟩ => ⟨S64x1024, .f32⟩
  | .hbm, ⟨25, _⟩ => ⟨S1024x1536, .f32⟩
  | .hbm, ⟨26, _⟩ => ⟨S64x1536, .f32⟩
  | .hbm, ⟨27, _⟩ => ⟨S64x1536, .bf16⟩
  | .hbm, ⟨28, _⟩ => ⟨S64x1536, .f32⟩
  | .hbm, ⟨29, _⟩ => ⟨S64x1024, .f32⟩
  | .hbm, ⟨30, _⟩ => ⟨S64x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S64x1024, .f32⟩
  | .hbm, ⟨35, _⟩ => ⟨S64x1024, .f32⟩
  | .hbm, ⟨36, _⟩ => ⟨S64x1024, .f32⟩
  | .hbm, ⟨37, _⟩ => ⟨S_, .f32⟩
  | .hbm, ⟨38, _⟩ => ⟨S64, .f32⟩
  | .hbm, ⟨39, _⟩ => ⟨S64x1, .f32⟩
  | .hbm, ⟨40, _⟩ => ⟨S64x1024, .f32⟩
  | .hbm, ⟨41, _⟩ => ⟨S64x1024, .f32⟩
  | .hbm, ⟨42, _⟩ => ⟨S64x1, .f32⟩
  | .hbm, ⟨43, _⟩ => ⟨S_, .f32⟩
  | .hbm, ⟨44, _⟩ => ⟨S64x1, .f32⟩
  | .hbm, ⟨45, _⟩ => ⟨S64x1, .f32⟩
  | .hbm, ⟨46, _⟩ => ⟨S_, .f32⟩
  | .hbm, ⟨47, _⟩ => ⟨S64, .f32⟩
  | .hbm, ⟨48, _⟩ => ⟨S64x1024, .f32⟩
  | .hbm, ⟨49, _⟩ => ⟨S64x1024, .f32⟩
  | .hbm, ⟨50, _⟩ => ⟨S64x1024, .f32⟩
  | .hbm, ⟨51, _⟩ => ⟨S64x1024, .f32⟩
  | .hbm, ⟨52, _⟩ => ⟨S64x1024, .f32⟩
  | .hbm, ⟨53, _⟩ => ⟨S64, .i32⟩
  | .hbm, ⟨54, _⟩ => ⟨S_, .i32⟩
  | .hbm, ⟨55, _⟩ => ⟨S64, .i32⟩
  | .hbm, ⟨56, _⟩ => ⟨S64, .i1⟩
  | .hbm, ⟨57, _⟩ => ⟨S64x1, .i1⟩
  | .hbm, ⟨58, _⟩ => ⟨S64x1024, .f32⟩
  | .hbm, ⟨59, _⟩ => ⟨S64x1024, .f32⟩
  | .hbm, ⟨60, _⟩ => ⟨S_, .f32⟩
  | .hbm, ⟨61, _⟩ => ⟨S_, .f32⟩
  | .hbm, ⟨62, _⟩ => ⟨S64x1024, .i1⟩
  | .hbm, ⟨63, _⟩ => ⟨S64x1024, .f32⟩
  | .hbm, ⟨64, _⟩ => ⟨S64x1024, .f32⟩
  | _, _ => ⟨S4160x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel14.lean ====
abbrev S4160x1536 : Shape := ⟨2, ![4160, 1536]⟩
abbrev S1024x1536 : Shape := ⟨2, ![1024, 1536]⟩
abbrev S4160x1024 : Shape := ⟨2, ![4160, 1024]⟩
abbrev S1x1024 : Shape := ⟨2, ![1, 1024]⟩
abbrev S4096x1024 : Shape := ⟨2, ![4096, 1024]⟩
abbrev S512x1536 : Shape := ⟨2, ![512, 1536]⟩
abbrev S512x1024 : Shape := ⟨2, ![512, 1024]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4160x1536, .bf16⟩
  | .hbm, ⟨1, _⟩ => ⟨S1024x1536, .bf16⟩
  | .hbm, ⟨2, _⟩ => ⟨S4160x1024, .f32⟩
  | .hbm, ⟨3, _⟩ => ⟨S1x1024, .f32⟩
  | .hbm, ⟨4, _⟩ => ⟨S4160x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | _, _ => ⟨S4160x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_mult1 (i : grid0.Coords) : BitVec 32 :=
  let c64_i32 : BitVec 32 := 64#32
  let arg0 : BitVec 32 := BitVec.ofNat 32 (i 0).val
  let c512_i32 : BitVec 32 := 512#32
  let v0 : BitVec 32 := Scalar.muli arg0 c512_i32
  let v1 : BitVec 32 := Scalar.addi c64_i32 v0
  v1
def k0_mult2 (i : grid0.Coords) : BitVec 32 :=
  let c64_i32 : BitVec 32 := 64#32
  let arg0 : BitVec 32 := BitVec.ofNat 32 (i 0).val
  let c512_i32 : BitVec 32 := 512#32
  let v0 : BitVec 32 := Scalar.muli arg0 c512_i32
  let v1 : BitVec 32 := Scalar.addi c64_i32 v0
  v1
def k0_mult3 (i : grid0.Coords) : BitVec 32 :=
  let c64_i32 : BitVec 32 := 64#32
  let arg0 : BitVec 32 := BitVec.ofNat 32 (i 0).val
  let c512_i32 : BitVec 32 := 512#32
  let v0 : BitVec 32 := Scalar.muli arg0 c512_i32
  let v1 : BitVec 32 := Scalar.addi c64_i32 v0
  v1
def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_26 : BitVec 32 := 0#32
  let v45 : BitVec 1 := Scalar.cmpi .ne v44 c0_i32_26
  v45

def k0_cond2 (i : grid0.Coords) : BitVec 1 :=
  let arg0 : BitVec 32 := BitVec.ofNat 32 (i 0).val
  let c0_i32_27 : BitVec 32 := 0#32
  let v46 : BitVec 1 := Scalar.cmpi .sgt arg0 c0_i32_27
  let v47 : BitVec 32 := Scalar.extui v46
  let c0_i32_28 : BitVec 32 := 0#32
  let v48 : BitVec 1 := Scalar.cmpi .ne v47 c0_i32_28
  v48

def cc0_transform_0 (i : grid0.Coords) : Fin 2 → Nat :=
  let arg0 : BitVec 32 := BitVec.ofNat 32 (i 0).val
  let c512_i32 : BitVec 32 := 512#32
  let v0 : BitVec 32 := Scalar.muli arg0 c512_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c512_i32 : BitVec 32 := 512#32
  let v0 : BitVec 32 := Scalar.muli arg0 c512_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c512_i32 : BitVec 32 := 512#32
  let v0 : BitVec 32 := Scalar.muli arg0 c512_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S4160x1536 : Shape := ⟨2, ![4160, 1536]⟩
abbrev S1024x1536 : Shape := ⟨2, ![1024, 1536]⟩
abbrev S4160x1024 : Shape := ⟨2, ![4160, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4160x1536, .bf16⟩
  | .hbm, ⟨1, _⟩ => ⟨S1024x1536, .bf16⟩
  | .hbm, ⟨2, _⟩ => ⟨S4160x1024, .f32⟩
  | .hbm, ⟨3, _⟩ => ⟨S1x1024, .f32⟩
  | .hbm, ⟨4, _⟩ => ⟨S4160x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x1536, .f32⟩
  | .hbm, ⟨27, _⟩ => ⟨S4096x1536, .f32⟩
  | .hbm, ⟨28, _⟩ => ⟨S4096x1536, .bf16⟩
  | .hbm, ⟨29, _⟩ => ⟨S4096x1536, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4160x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel15.lean ====
abbrev S4160x1024 : Shape := ⟨2, ![4160, 1024]⟩
abbrev S1x1024 : Shape := ⟨2, ![1, 1024]⟩
abbrev S4096x1024 : Shape := ⟨2, ![4096, 1024]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S8x128, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_mult1 (i : grid0.Coords) : BitVec 32 :=
  let c64_i32 : BitVec 32 := 64#32
  let arg0 : BitVec 32 := BitVec.ofNat 32 (i 0).val
  let c1024_i32 : BitVec 32 := 1024#32
  let v0 : BitVec 32 := Scalar.muli arg0 c1024_i32
  let v1 : BitVec 32 := Scalar.addi c64_i32 v0
  v1
def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_20 : BitVec 32 := 0#32
  let v55 : BitVec 1 := Scalar.cmpi .ne v54 c0_i32_20
  v55

def k0_cond2 (i : grid0.Coords) : BitVec 1 :=
  let arg0 : BitVec 32 := BitVec.ofNat 32 (i 0).val
  let c0_i32 : BitVec 32 := 0#32
  let v53 : BitVec 1 := Scalar.cmpi .eq arg0 c0_i32
  let v_true : BitVec 1 := 1#1
  let v56 : BitVec 1 := Scalar.xori v53 v_true
  let v57 : BitVec 32 := Scalar.extui v56
  let c0_i32_21 : BitVec 32 := 0#32
  let v58 : BitVec 1 := Scalar.cmpi .ne v57 c0_i32_21
  v58

def k0_cond3 (i : grid0.Coords) : BitVec 1 :=
  let arg0 : BitVec 32 := BitVec.ofNat 32 (i 0).val
  let c0_i32_22 : BitVec 32 := 0#32
  let v61 : BitVec 1 := Scalar.cmpi .eq arg0 c0_i32_22
  let v62 : BitVec 32 := Scalar.extui v61
  let c0_i32_23 : BitVec 32 := 0#32
  let v63 : BitVec 1 := Scalar.cmpi .ne v62 c0_i32_23
  v63

def k0_cond4 (i : grid0.Coords) : BitVec 1 :=
  let arg0 : BitVec 32 := BitVec.ofNat 32 (i 0).val
  let c0_i32_22 : BitVec 32 := 0#32
  let v61 : BitVec 1 := Scalar.cmpi .eq arg0 c0_i32_22
  let true_24 : BitVec 1 := 1#1
  let v64 : BitVec 1 := Scalar.xori v61 true_24
  let v65 : BitVec 32 := Scalar.extui v64
  let c0_i32_25 : BitVec 32 := 0#32
  let v66 : BitVec 1 := Scalar.cmpi .ne v65 c0_i32_25
  v66

def cc0_transform_0 (i : grid0.Coords) : Fin 2 → Nat :=
  let arg0 : BitVec 32 := BitVec.ofNat 32 (i 0).val
  let c1024_i32 : BitVec 32 := 1024#32
  let v0 : BitVec 32 := Scalar.muli arg0 c1024_i32
  let c64_i32 : BitVec 32 := 64#32
  let v1 : BitVec 32 := Scalar.addi c64_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S4160x1024 : Shape := ⟨2, ![4160, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 70
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S8x128, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.Spec.lean ====
/- What the backward pass of the gated linear attention's sequence computes, over the real numbers: the arrays as
   functions of natural numbers, a chunk `C` of 64 rows, a row `i` of a chunk, a head `h`, a place `v < 256` of a value
   head and a place `k < 128` of a key head. -/
module

public import Mathlib.Analysis.SpecialFunctions.Log.Basic
public import Mathlib.Analysis.SpecialFunctions.Pow.Real
public import Mathlib.Algebra.BigOperators.Fin

@[expose] public section

noncomputable section

namespace Cert.Proof.Gla

/-- The arguments as real numbers, and the two constants of the layer. -/
structure Data where
  dh : ℕ → ℕ → ℝ
  wo : ℕ → ℕ → ℝ
  o : ℕ → ℕ → ℝ
  z : ℕ → ℕ → ℝ
  st : ℕ → ℕ → ℕ → ℝ
  gw : ℕ → ℕ → ℝ
  gb : ℕ → ℝ
  hg : ℕ → ℝ
  eps : ℝ
  scale : ℝ
  eps_pos : 0 < eps

variable (D : Data)

/-- The gate's linear map. -/
def lin (C i m : ℕ) : ℝ := (∑ j : Fin 128, D.z (64 * C + i) (3072 + j) * D.gw j m) + D.gb m

/-- The logarithm of the decay of one row: the logarithm of the sigmoid over the normaliser 16. -/
def la (C i m : ℕ) : ℝ := -Real.log (1 + Real.exp (-lin D C i m)) / 16

/-- The running sum of the logarithms in a chunk. -/
def cum (C i m : ℕ) : ℝ := ∑ j ∈ Finset.range (i + 1), la D C j m

/-- A chunk's whole sum. -/
def tot (C m : ℕ) : ℝ := cum D C 63 m

/-- The decay from a row to the end of its chunk. -/
def dec (C i m : ℕ) : ℝ := Real.exp (tot D C m - cum D C i m)

/-- The decay of a whole chunk. -/
def ec (C m : ℕ) : ℝ := Real.exp (tot D C m)

/-- The key, decayed to the end of its chunk. -/
def kd (C i h k : ℕ) : ℝ := D.z (64 * C + i) (512 + (128 * h + k)) * dec D C i (128 * h + k)

/-- The mean square of a head's output and the small constant. -/
def ms (C i h : ℕ) : ℝ :=
  (∑ v : Fin 256, D.o (64 * C + i) (256 * h + v) * D.o (64 * C + i) (256 * h + v)) / 256 + D.eps

theorem ms_pos (C i h : ℕ) : 0 < ms D C i h := by
  have : 0 ≤ ∑ v : Fin 256, D.o (64 * C + i) (256 * h + v) * D.o (64 * C + i) (256 * h + v) :=
    Finset.sum_nonneg fun v _ => mul_self_nonneg _
  have := D.eps_pos
  unfold ms; positivity

/-- One over the root mean square. -/
def rr (C i h : ℕ) : ℝ := (Real.sqrt (ms D C i h))⁻¹

theorem rr_sq (C i h : ℕ) : rr D C i h * rr D C i h = 1 / ms D C i h := by
  rw [rr, ← mul_inv, Real.mul_self_sqrt (ms_pos D C i h).le, one_div]

/-- The normalised output. -/
def xh (C i h v : ℕ) : ℝ := D.o (64 * C + i) (256 * h + v) * rr D C i h

/-- The output gate. -/
def gt (C i h v : ℕ) : ℝ := D.z (64 * C + i) (2048 + (256 * h + v))

/-- The sigmoid of the output gate. -/
def sg (C i h v : ℕ) : ℝ := (1 + Real.exp (-gt D C i h v))⁻¹

/-- The gradient of the gated output. -/
def dm (C i h v : ℕ) : ℝ := ∑ j : Fin 1024, D.dh (64 * C + i) j * D.wo (256 * h + v) j

/-- The gradient of the scaled normalised output. -/
def don (C i h v : ℕ) : ℝ := dm D C i h v * (gt D C i h v * sg D C i h v)

/-- The gradient of the normalised output. -/
def dxh (C i h v : ℕ) : ℝ := don D C i h v * D.hg v

/-- The gradient of the output. -/
def dou (C i h v : ℕ) : ℝ :=
  rr D C i h * (dxh D C i h v - xh D C i h v * ((∑ w : Fin 256, dxh D C i h w * xh D C i h w) / 256))

/-- The gradient of the output, with the query's scale. -/
def dO (C i h v : ℕ) : ℝ := dou D C i h v * D.scale

/-- The gradient of the output gate. -/
def dg (C i h v : ℕ) : ℝ :=
  dm D C i h v * (xh D C i h v * D.hg v) * (sg D C i h v * (1 + gt D C i h v * (1 - sg D C i h v)))

/-- The state after chunk `C`. -/
def S (C h v k : ℕ) : ℝ :=
  D.st C (256 * h + v) k * ec D C (128 * h + k)
    + ∑ i : Fin 64, D.z (64 * C + i) (1024 + (256 * h + v)) * kd D C i h k

/-- The gradient of the query. -/
def dq (C i h k : ℕ) : ℝ := ∑ v : Fin 256, dO D C i h v * S D C h v k

/-- The gradient of the state that chunk `64 - n` hands on: what the chunks after it leave. -/
def Ds : ℕ → ℕ → ℕ → ℕ → ℝ
  | 0, _, _, _ => 0
  | n + 1, h, v, k =>
    (Ds n h v k + ∑ i : Fin 64, dO D (64 - n) i h v * D.z (64 * (64 - n) + i) (128 * h + k))
      * ec D (64 - n) (128 * h + k)

/-- The gradient of the state after chunk `C`. -/
def G (C h v k : ℕ) : ℝ :=
  Ds D (64 - C) h v k + ∑ i : Fin 64, dO D C i h v * D.z (64 * C + i) (128 * h + k)

theorem Ds_succ (C h v k : ℕ) (hC : C ≤ 64) :
    Ds D (64 - C + 1) h v k = G D C h v k * ec D C (128 * h + k) := by
  simp only [Ds, G, Nat.sub_sub_self hC]

/-- The gradient of the decayed key. -/
def dkd (C i h k : ℕ) : ℝ := ∑ v : Fin 256, D.z (64 * C + i) (1024 + (256 * h + v)) * G D C h v k

/-- The gradient of the value. -/
def dv (C i h v : ℕ) : ℝ := ∑ k : Fin 128, kd D C i h k * G D C h v k

/-- The gradient of a chunk's whole sum that comes from the state. -/
def dtot (C h k : ℕ) : ℝ := (∑ v : Fin 256, G D C h v k * D.st C (256 * h + v) k) * ec D C (128 * h + k)

/-- The gradient of the key. -/
def dk (C i h k : ℕ) : ℝ := dkd D C i h k * dec D C i (128 * h + k)

/-- The gradient of a row's logarithm of the decay, at key place `k` of head `h`. -/
def dla (C i h k : ℕ) : ℝ := dtot D C h k + ∑ j ∈ Finset.range i, dkd D C j h k * kd D C j h k

/-- The gradient of the gate's linear map, at column `m`. -/
def dpre (C i m : ℕ) : ℝ :=
  dla D C i (m / 128) (m % 128) * (1 / 16) * (1 - (1 + Real.exp (-lin D C i m))⁻¹)

/-- The gradient of the gate's input. -/
def dr (C i j : ℕ) : ℝ := ∑ m : Fin 512, dpre D C i m * D.gw j m

/-- One chunk's part of the gradient of the gate's weight. -/
def dgwC (C j m : ℕ) : ℝ := ∑ i : Fin 64, D.z (64 * C + i) (3072 + j) * dpre D C i m

/-- One chunk's part of the gradient of the gate's bias. -/
def dgbC (C m : ℕ) : ℝ := ∑ i : Fin 64, dpre D C i m

/-- One chunk's part of the gradient of the head's gain. -/
def dhgC (C v : ℕ) : ℝ := ∑ i : Fin 64, ∑ h : Fin 4, don D C i h v * xh D C i h v

/-- The gradient of the projected row, column by column. -/
def dz (C i c : ℕ) : ℝ :=
  if c < 512 then dq D C i (c / 128) (c % 128)
  else if c < 1024 then dk D C i ((c - 512) / 128) ((c - 512) % 128)
  else if c < 2048 then dv D C i ((c - 1024) / 256) ((c - 1024) % 256)
  else if c < 3072 then dg D C i ((c - 2048) / 256) ((c - 2048) % 256)
  else dr D C i (c - 3072)

end Cert.Proof.Gla

end
-- ==== Proof.Push.lean ====
/- The ideal scalar operations on real numbers: an extended real that is a real number stays one. -/
module

public import Idealize.ShloMosaic.Lib.Pointwise
public import Idealize.ShloMosaic.Lib.IdealHost
public import proofs.«01_k».proof.Proof.Spec

@[expose] public section

noncomputable section

namespace Cert.Proof.Gla

open Idealize.ShloMosaic

theorem cadd (a b : ℝ) : (a : EReal) + (b : EReal) = ((a + b : ℝ) : EReal) := (EReal.coe_add a b).symm
theorem csub (a b : ℝ) : (a : EReal) - (b : EReal) = ((a - b : ℝ) : EReal) := (EReal.coe_sub a b).symm
theorem cmul (a b : ℝ) : (a : EReal) * (b : EReal) = ((a * b : ℝ) : EReal) := (EReal.coe_mul a b).symm
theorem cneg (a : ℝ) : -(a : EReal) = ((-a : ℝ) : EReal) := (EReal.coe_neg a).symm
theorem czero : (0 : EReal) = ((0 : ℝ) : EReal) := rfl
theorem cone : (1 : EReal) = ((1 : ℝ) : EReal) := rfl
theorem cmax (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]
theorem cmin (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]
theorem csum {ι : Type*} (s : Finset ι) (f : ι → ℝ) :
    ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]
theorem cdiv (a b : ℝ) (h : b ≠ 0) : Ideal.div (a : EReal) (b : EReal) = ((a / b : ℝ) : EReal) := by
  rw [Ideal.div_coe h, cmul, mul_one_div]
theorem crsqrt (a : ℝ) (h : 0 < a) : Ideal.rsqrt (a : EReal) = (((Real.sqrt a)⁻¹ : ℝ) : EReal) := by
  rw [Ideal.rsqrt_coe, if_neg (not_lt.2 h.le), if_neg h.ne']
theorem clog (a : ℝ) (h : 0 < a) : Ideal.log (a : EReal) = ((Real.log a : ℝ) : EReal) := by
  rw [Ideal.log_coe, if_neg (not_le.2 h)]

/-- The word of 256. -/
theorem word_256 : Ideal.ofBits .f32 0x43800000#32 = ((256 : ℝ) : EReal) := by
  simp [Ideal.ofBits, Ideal.ieee, -EReal.coe_mul]; norm_num

/-- The word of minus one half. -/
theorem word_neg_half : Ideal.ofBits .f32 0xBF000000#32 = ((-(1 / 2) : ℝ) : EReal) := by
  simp [Ideal.ofBits, Ideal.ieee, -EReal.coe_mul, -EReal.coe_neg]; norm_num

/-- The word of one half. -/
theorem word_half : Ideal.ofBits .f32 0x3F000000#32 = ((1 / 2 : ℝ) : EReal) := by
  simp [Ideal.ofBits, Ideal.ieee, -EReal.coe_mul]; norm_num

/-- The word of 16. -/
theorem word_16 : Ideal.ofBits .f32 0x41800000#32 = ((16 : ℝ) : EReal) := by
  simp [Ideal.ofBits, Ideal.ieee, -EReal.coe_mul]; norm_num

/-- The word of one sixteenth. -/
theorem word_sixteenth : Ideal.ofBits .f32 0x3D800000#32 = ((1 / 16 : ℝ) : EReal) := by
  simp [Ideal.ofBits, Ideal.ieee, -EReal.coe_mul]; norm_num

theorem one_add_exp_pos (x : ℝ) : 0 < 1 + Real.exp x := by positivity

/-- The sigmoid as a quotient. -/
theorem csig (x : ℝ) :
    Ideal.div 1 (1 + Ideal.exp ((-x : ℝ) : EReal)) = (((1 + Real.exp (-x))⁻¹ : ℝ) : EReal) := by
  rw [Ideal.exp_coe, cone, cadd, cdiv _ _ (one_add_exp_pos _).ne', one_div]

end Cert.Proof.Gla

end
-- ==== Proof.Window.lean ====
/- Two sums of the host read at an index: a sum over the first two of three axes, and a running sum down the 64 rows of a
   chunk, from the top or from the bottom. -/
module

public import proofs.«01_k».proof.Proof.Push

@[expose] public section

set_option maxRecDepth 16384

noncomputable section

namespace Cert.Proof.Gla

open Idealize.ShloMosaic

/-- A sum over the first two axes of three. -/
theorem sum_first_two {n0 n1 n2 : ℕ} (h : (⟨3, ![n0, n1, n2]⟩ : Shape).ReducesTo [0, 1] ⟨1, ![n2]⟩)
    (x : (⟨3, ![n0, n1, n2]⟩ : Shape).Idx → EReal) (init : EReal) (v : Fin n2) :
    Ideal.hostReduceAdd h x init (ix1 v) = init + ∑ a : Fin n0, ∑ b : Fin n1, x (ix3 a b v) := by
  unfold Ideal.hostReduceAdd
  congr 1
  refine (Finset.sum_filter_eq_sum_of_fiber _ (fun k : Fin n0 × Fin n1 => ix3 k.1 k.2 v)
    (fun _ _ e => Prod.ext (congrFun e 0) (congrFun e 1)) ?_ x).trans ?_
  · intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

theorem foldl_add {ι : Type*} (g : ι → EReal) (l : List ι) (v : EReal) :
    l.foldl (fun r n => r + g n) v = v + (l.map g).sum := by
  induction l generalizing v with
  | nil => simp
  | cons a l ih => simp only [List.foldl_cons, ih, List.map_cons, List.sum_cons, add_assoc]

theorem foldl_finRange {n : ℕ} (g : Fin n → EReal) (v : EReal) :
    (List.finRange n).foldl (fun r n => r + g n) v = v + ∑ i, g i := by
  rw [foldl_add, ← List.ofFn_eq_map, List.sum_ofFn]

/-- The window sum as one sum over the window's rows. -/
theorem window_sum {lo hi : ℕ} (x : (⟨2, ![64, 512]⟩ : Shape).Idx → EReal)
    (h : (⟨2, ![64, 512]⟩ : Shape).ReduceWindows ![64, 1] ![1, 1] ![lo, 0] ![hi, 0] ⟨2, ![64, 512]⟩)
    (i : Fin 64) (m : Fin 512) :
    Ideal.hostReduceWindowAdd ![64, 1] ![1, 1] ![lo, 0] ![hi, 0] h x 0 (ix2 i m)
      = ∑ w : Fin 64, if hw : lo ≤ i + w ∧ i + w - lo < 64 then x (ix2 ⟨i + w - lo, hw.2⟩ m) else 0 := by
  unfold Ideal.hostReduceWindowAdd Host.reduceWindow
  rw [foldl_finRange, zero_add]
  refine (Equiv.sum_comp (Shape.rowMajor ⟨2, ![64, 1]⟩).symm (fun w : (⟨2, ![64, 1]⟩ : Shape).Idx =>
    @dite EReal (∀ a : Fin 2, (![lo, 0] : Fin 2 → ℕ) a ≤ (ix2 i m (a.cast h.1.symm)).val * (![1, 1] : Fin 2 → ℕ) a + (w a).val
      ∧ (ix2 i m (a.cast h.1.symm)).val * (![1, 1] : Fin 2 → ℕ) a + (w a).val - (![lo, 0] : Fin 2 → ℕ) a
        < (⟨2, ![64, 512]⟩ : Shape).size a) (Nat.decidableForallFin _)
    (fun hin => x (fun a => ⟨_, (hin a).2⟩)) (fun _ => 0))).trans ?_
  rw [sum_idx2]
  refine Finset.sum_congr rfl fun w _ => ?_
  rw [Fin.sum_univ_one]
  by_cases hw : lo ≤ i.val + w.val ∧ i.val + w.val - lo < 64
  · rw [dif_pos hw, dif_pos]
    · refine congrArg x (funext fun a => Fin.ext ?_)
      match a with
      | ⟨0, _⟩ => show i.val * 1 + w.val - lo = i.val + w.val - lo; rw [mul_one]
      | ⟨1, _⟩ => show m.val * 1 + 0 - 0 = m.val; omega
    · intro a
      match a with
      | ⟨0, _⟩ => show lo ≤ i.val * 1 + w.val ∧ i.val * 1 + w.val - lo < 64; rw [mul_one]; exact hw
      | ⟨1, _⟩ => show 0 ≤ m.val * 1 + 0 ∧ m.val * 1 + 0 - 0 < 512; omega
  · rw [dif_neg hw, dif_neg]
    intro hin
    have := hin 0
    change lo ≤ i.val * 1 + w.val ∧ i.val * 1 + w.val - lo < 64 at this
    rw [mul_one] at this
    exact hw this

/-- The running sum from the top. -/
theorem running_sum (x : (⟨2, ![64, 512]⟩ : Shape).Idx → EReal)
    (h : (⟨2, ![64, 512]⟩ : Shape).ReduceWindows ![64, 1] ![1, 1] ![63, 0] ![0, 0] ⟨2, ![64, 512]⟩)
    (init : FVec Ideal ⟨0, ![]⟩ .f32) (hu : 0 < (⟨0, ![]⟩ : Shape).numel) (h0 : init (Shape.Idx.first hu) = 0)
    (f : ℕ → ℕ → ℝ) (hf : ∀ (i : Fin 64) (m : Fin 512), x (ix2 i m) = ((f i m : ℝ) : EReal)) (i : Fin 64) (m : Fin 512) :
    Host.reduceWindowAdd (F := Ideal) (φ := .f32) ![64, 1] ![1, 1] ![63, 0] ![0, 0] x init h hu (ix2 i m)
      = ((∑ k ∈ Finset.range (i + 1), f k m : ℝ) : EReal) := by
  unfold Host.reduceWindowAdd
  rw [h0]
  refine (window_sum _ _ _ _).trans ?_
  rw [← csum]
  rw [← Fin.sum_univ_eq_sum_range (fun k => ((f k m : ℝ) : EReal)), ]
  symm
  refine Finset.sum_bij_ne_zero (fun (k : Fin (i.val + 1)) _ _ => (⟨63 - i.val + k.val, by omega⟩ : Fin 64))
    (fun _ _ _ => Finset.mem_univ _) ?_ ?_ ?_
  · intro a _ _ b _ _ e
    have := congrArg Fin.val e
    apply Fin.ext; simp only at this; omega
  · intro w _ hw
    by_cases hc : 63 ≤ i.val + w.val ∧ i.val + w.val - 63 < 64
    · rw [dif_pos hc, hf] at hw
      exact ⟨⟨i.val + w.val - 63, by omega⟩, Finset.mem_univ _, hw, Fin.ext (by simp only; omega)⟩
    · rw [dif_neg hc] at hw; exact absurd rfl hw
  · intro k _ _
    rw [dif_pos (by simp only; omega), hf]
    congr 2; simp only; omega

/-- The running sum from the bottom. -/
theorem running_sum_rev (x : (⟨2, ![64, 512]⟩ : Shape).Idx → EReal)
    (h : (⟨2, ![64, 512]⟩ : Shape).ReduceWindows ![64, 1] ![1, 1] ![0, 0] ![63, 0] ⟨2, ![64, 512]⟩)
    (init : FVec Ideal ⟨0, ![]⟩ .f32) (hu : 0 < (⟨0, ![]⟩ : Shape).numel) (h0 : init (Shape.Idx.first hu) = 0)
    (f : ℕ → ℕ → ℝ) (hf : ∀ (i : Fin 64) (m : Fin 512), x (ix2 i m) = ((f i m : ℝ) : EReal)) (i : Fin 64) (m : Fin 512) :
    Host.reduceWindowAdd (F := Ideal) (φ := .f32) ![64, 1] ![1, 1] ![0, 0] ![63, 0] x init h hu (ix2 i m)
      = ((∑ k ∈ Finset.range (64 - i), f (i + k) m : ℝ) : EReal) := by
  unfold Host.reduceWindowAdd
  rw [h0]
  refine (window_sum _ _ _ _).trans ?_
  rw [← csum]
  rw [← Fin.sum_univ_eq_sum_range (fun k => ((f (i.val + k) m : ℝ) : EReal))]
  symm
  refine Finset.sum_bij_ne_zero (fun (k : Fin (64 - i.val)) _ _ => (⟨k.val, by omega⟩ : Fin 64))
    (fun _ _ _ => Finset.mem_univ _) ?_ ?_ ?_
  · intro a _ _ b _ _ e
    have := congrArg Fin.val e
    apply Fin.ext; simp only at this; omega
  · intro w _ hw
    by_cases hc : 0 ≤ i.val + w.val ∧ i.val + w.val - 0 < 64
    · rw [dif_pos hc, hf] at hw
      exact ⟨⟨w.val, by omega⟩, Finset.mem_univ _, hw, Fin.ext (by simp only)⟩
    · rw [dif_neg hc] at hw; exact absurd rfl hw
  · intro k _ _
    rw [dif_pos (by simp only; omega), hf]
    congr 2

end Cert.Proof.Gla

end
-- ==== Proof.RefOut.lean ====
/- One trip of the reference's loop, up to the gradient of the output: each value at an index is the real number of the
   specification. -/
module

public import proofs.«01_k».proof.Proof.Window
public import proofs.«01_k».proof.Proof.Gen.ReferenceIdeal.Step

@[expose] public section

set_option maxRecDepth 16384

noncomputable section

namespace Cert.Proof.Gla

open Idealize.ShloMosaic Cert.ReferenceIdeal Cert.ReferenceIdeal.Step

/-- The loop's constants are the data. -/
structure Tied (D : Data) (s : State Ideal) : Prop where
  dh : ∀ (c : Fin 65) (i : Fin 64) (m : Fin 1024), s.main_v20_1 (ix3 c i m) = ((D.dh (64 * c + i) m : ℝ) : EReal)
  o : ∀ (c : Fin 65) (i : Fin 64) (m : Fin 1024), s.main_v20_2 (ix3 c i m) = ((D.o (64 * c + i) m : ℝ) : EReal)
  z : ∀ (c : Fin 65) (i : Fin 64) (m : Fin 3200), s.main_v20_3 (ix3 c i m) = ((D.z (64 * c + i) m : ℝ) : EReal)
  st : ∀ (c : Fin 65) (h : Fin 4) (k : Fin 128) (v : Fin 256),
    s.main_v20_4 (ix4 c h k v) = ((D.st c (256 * h + v) k : ℝ) : EReal)
  hg : ∀ (v : Fin 256), s.main_v20_5 (ix2 0 v) = ((D.hg v : ℝ) : EReal)
  wo : ∀ (a b : Fin 1024), s.main_v20_6 (ix2 a b) = ((D.wo a b : ℝ) : EReal)
  gw : ∀ (a : Fin 128) (b : Fin 512), s.main_v20_7 (ix2 a b) = ((D.gw a b : ℝ) : EReal)
  gb : ∀ (b : Fin 512), s.main_v20_8 (ix2 0 b) = ((D.gb b : ℝ) : EReal)
  eps : Ideal.ofBits .f32 0x3727C5AC#32 = ((D.eps : ℝ) : EReal)
  scale : Ideal.ofBits .f32 0x3DB504F3#32 = ((D.scale : ℝ) : EReal)

variable {D : Data} {s : State Ideal} {j : ℕ}

theorem chunk_start : ∀ j : Fin 65, (b3 (F := Ideal) j s (Shape.Idx.first Gen.h_S_)).toInt = ((64 - j : ℕ) : ℤ) := by
  intro j
  show (65#32 - BitVec.ofNat 32 j - 1#32).toInt = _
  revert j; decide

theorem dynSlice3 {a b c : ℕ} (x : FVec Ideal ⟨3, ![a, b, c]⟩ .f32) (C : ℕ) (hC : C < a) (st : Fin 3 → ℤ)
    (h : (⟨3, ![a, b, c]⟩ : Shape).Slices (fun _ => 0) ⟨3, ![1, b, c]⟩) (h0 : st 0 = C) (h1 : st 1 = 0) (h2 : st 2 = 0)
    (i : Fin b) (m : Fin c) :
    Host.dynamicSlice ⟨3, ![1, b, c]⟩ x st h (ix3 0 i m) = x (ix3 ⟨C, hC⟩ i m) := by
  unfold Host.dynamicSlice
  refine congrArg x (funext fun k => Fin.ext ?_)
  match k with
  | ⟨0, _⟩ =>
    show (min (max (st 0) 0) ((a - 1 : ℕ) : ℤ)).toNat + 0 = C
    rw [h0]; omega
  | ⟨1, _⟩ =>
    show (min (max (st 1) 0) ((b - b : ℕ) : ℤ)).toNat + i.val = i.val
    rw [h1]; omega
  | ⟨2, _⟩ =>
    show (min (max (st 2) 0) ((c - c : ℕ) : ℤ)).toNat + m.val = m.val
    rw [h2]; omega

theorem dynSlice4 {a b c d : ℕ} (x : FVec Ideal ⟨4, ![a, b, c, d]⟩ .f32) (C : ℕ) (hC : C < a) (st : Fin 4 → ℤ)
    (h : (⟨4, ![a, b, c, d]⟩ : Shape).Slices (fun _ => 0) ⟨4, ![1, b, c, d]⟩) (h0 : st 0 = C) (h1 : st 1 = 0) (h2 : st 2 = 0)
    (h3 : st 3 = 0) (i : Fin b) (m : Fin c) (n : Fin d) :
    Host.dynamicSlice ⟨4, ![1, b, c, d]⟩ x st h (ix4 0 i m n) = x (ix4 ⟨C, hC⟩ i m n) := by
  unfold Host.dynamicSlice
  refine congrArg x (funext fun k => Fin.ext ?_)
  match k with
  | ⟨0, _⟩ =>
    show (min (max (st 0) 0) ((a - 1 : ℕ) : ℤ)).toNat + 0 = C
    rw [h0]; omega
  | ⟨1, _⟩ =>
    show (min (max (st 1) 0) ((b - b : ℕ) : ℤ)).toNat + i.val = i.val
    rw [h1]; omega
  | ⟨2, _⟩ =>
    show (min (max (st 2) 0) ((c - c : ℕ) : ℤ)).toNat + m.val = m.val
    rw [h2]; omega
  | ⟨3, _⟩ =>
    show (min (max (st 3) 0) ((d - d : ℕ) : ℤ)).toNat + n.val = n.val
    rw [h3]; omega

section
variable (T : Tied D s) (hj : j < 65)
include T hj

theorem b9_at (i : Fin 64) (m : Fin 1024) : b9 j s (ix2 i m) = ((D.dh (64 * (64 - j) + i) m : ℝ) : EReal) := by
  pointwise [b9]
  rw [b8, ← T.dh ⟨64 - j, by omega⟩]
  exact dynSlice3 _ (64 - j) (by omega) _ Gen.sliceFits_S65x64x1024_S1x64x1024 (chunk_start ⟨j, hj⟩) rfl rfl i m

theorem b13_at (i : Fin 64) (m : Fin 1024) : b13 j s (ix2 i m) = ((D.o (64 * (64 - j) + i) m : ℝ) : EReal) := by
  pointwise [b13]
  rw [b12, ← T.o ⟨64 - j, by omega⟩]
  exact dynSlice3 _ (64 - j) (by omega) _ Gen.sliceFits_S65x64x1024_S1x64x1024 (chunk_start ⟨j, hj⟩) rfl rfl i m

theorem b17_at (i : Fin 64) (m : Fin 3200) : b17 j s (ix2 i m) = ((D.z (64 * (64 - j) + i) m : ℝ) : EReal) := by
  pointwise [b17]
  rw [b16, ← T.z ⟨64 - j, by omega⟩]
  exact dynSlice3 _ (64 - j) (by omega) _ Gen.sliceFits_S65x64x3200_S1x64x3200 (chunk_start ⟨j, hj⟩) rfl rfl i m

theorem b22_at (h : Fin 4) (k : Fin 128) (v : Fin 256) :
    b22 j s (ix3 h k v) = ((D.st (64 - j) (256 * h + v) k : ℝ) : EReal) := by
  pointwise [b22]
  rw [b21, ← T.st ⟨64 - j, by omega⟩]
  exact dynSlice4 _ (64 - j) (by omega) _ Gen.sliceFits_S65x4x128x256_S1x4x128x256 (chunk_start ⟨j, hj⟩) rfl rfl rfl h k v

theorem b26_at (i : Fin 64) (m : Fin 1024) :
    b26 j s (ix2 i m) = ((gt D (64 - j) i (m / 256) (m % 256) : ℝ) : EReal) := by
  pointwise [b26]
  rw [b17_at T hj]
  simp only [gt, Nat.div_add_mod]

theorem b28_at (i : Fin 64) (h : Fin 4) (v : Fin 256) :
    b28 j s (ix3 i h v) = ((D.o (64 * (64 - j) + i) (256 * h + v) : ℝ) : EReal) := by
  pointwise [b28]
  rw [b13_at T hj]
  simp only [mul_comm]

theorem b38_at (i : Fin 64) (h : Fin 4) : b38 j s (ix3 i h 0) = ((ms D (64 - j) i h : ℝ) : EReal) := by
  pointwise [b38, b37, b36, b35, b34, b33, b32, b31, b30, b29]
  simp only [b28_at T hj, T.eps, word_256, cmul, csum, cadd, cdiv _ _ (by norm_num : (256 : ℝ) ≠ 0), ms]

theorem b39_at (i : Fin 64) (h : Fin 4) : b39 j s (ix3 i h 0) = ((rr D (64 - j) i h : ℝ) : EReal) := by
  pointwise [b39]
  simp only [b38_at T hj, crsqrt _ (ms_pos _ _ _ _), rr]

theorem b43_at (i : Fin 64) (h : Fin 4) :
    b43 j s (ix3 i h 0) = ((-(1 / 2) * (rr D (64 - j) i h / ms D (64 - j) i h) : ℝ) : EReal) := by
  pointwise [b43, b42, b41, b40]
  simp only [b38_at T hj, b39_at T hj, cdiv _ _ (ms_pos _ _ _ _).ne', word_neg_half, cmul]

theorem b45_at (i : Fin 64) (h : Fin 4) (v : Fin 256) :
    b45 j s (ix3 i h v) = ((xh D (64 - j) i h v : ℝ) : EReal) := by
  pointwise [b45, b44]
  simp only [b28_at T hj, b39_at T hj, cmul, xh]

theorem b49_at (i : Fin 64) (m : Fin 1024) :
    b49 j s (ix2 i m) = ((xh D (64 - j) i (m / 256) (m % 256) * D.hg (m % 256) : ℝ) : EReal) := by
  pointwise [b49, b48, b47, b46]
  simp only [b45_at T hj, T.hg, cmul]

theorem b57_at (i : Fin 64) (m : Fin 1024) :
    b57 j s (ix2 i m) = ((sg D (64 - j) i (m / 256) (m % 256) : ℝ) : EReal) := by
  pointwise [b57, b56, b55, b54, b53, b52, b51, b50]
  simp only [b26_at T hj, cneg, csig, sg]

theorem b65_at (i : Fin 64) (m : Fin 1024) :
    b65 j s (ix2 i m) = ((dm D (64 - j) i (m / 256) (m % 256) : ℝ) : EReal) := by
  pointwise [b65]
  simp only [b9_at T hj, T.wo, cmul, csum, dm, Nat.div_add_mod]

theorem b71_at (i : Fin 64) (m : Fin 1024) :
    b71 j s (ix2 i m) = ((dg D (64 - j) i (m / 256) (m % 256) : ℝ) : EReal) := by
  pointwise [b71, b70, b69, b68, b66, b61, b60, b59, b58]
  simp only [b26_at T hj, b49_at T hj, b57_at T hj, b65_at T hj, cone, cmul, cadd, csub, dg]
  congr 1; ring

theorem b72_at (i : Fin 64) (h : Fin 4) (v : Fin 256) :
    b72 j s (ix3 i h v) = ((don D (64 - j) i h v : ℝ) : EReal) := by
  pointwise [b72, b67, b62]
  simp only [b26_at T hj, b57_at T hj, b65_at T hj, cmul, don]
  rw [show ((h : ℕ) * 256 + v) / 256 = h by omega, show ((h : ℕ) * 256 + v) % 256 = v by omega]

theorem b81_at (v : Fin 256) : b81 j s (ix2 0 v) = ((dhgC D (64 - j) v : ℝ) : EReal) := by
  pointwise [b81, b80, b79, b76, b75, b74, b73]
  refine (sum_first_two _ _ _ _).trans ?_
  pointwise
  simp only [Finset.univ_unique, Fin.default_eq_zero, Finset.sum_singleton]
  refine (sum_first_two _ _ _ _).trans ?_
  pointwise
  simp only [b45_at T hj, b72_at T hj, cmul, csum, dhgC, mul_comm]

theorem b78_at (i : Fin 64) (h : Fin 4) (v : Fin 256) :
    b78 j s (ix3 i h v) = ((dxh D (64 - j) i h v : ℝ) : EReal) := by
  pointwise [b78, b77, b46]
  simp only [b72_at T hj, T.hg, cmul, dxh]

theorem b93_at (i : Fin 64) (h : Fin 4) :
    b93 j s (ix2 i h) = (((∑ w : Fin 256, D.o (64 * (64 - j) + i) (256 * h + w) * dxh D (64 - j) i h w)
      * (-(1 / 2) * (rr D (64 - j) i h / ms D (64 - j) i h)) / 256 : ℝ) : EReal) := by
  pointwise [b93, b92, b91, b90, b89, b88, b85, b84, b83, b82]
  simp only [Finset.univ_unique, Fin.default_eq_zero, Finset.sum_singleton]
  simp only [b28_at T hj, b78_at T hj, b43_at T hj, word_256, cmul, csum, cdiv _ _ (by norm_num : (256 : ℝ) ≠ 0)]

theorem b99_at (i : Fin 64) (m : Fin 1024) :
    b99 j s (ix2 i m) = ((dou D (64 - j) i (m / 256) (m % 256) : ℝ) : EReal) := by
  pointwise [b99, b98, b97, b96, b95, b94, b87, b86]
  simp only [b28_at T hj, b78_at T hj, b39_at T hj, b93_at T hj, cadd, cmul]
  congr 1
  have e := rr_sq D (64 - j) i (m / 256)
  simp only [dou, xh, ← mul_assoc, ← Finset.sum_mul]
  rw [div_eq_mul_one_div _ (ms D (64 - j) i (m / 256)), ← e]
  simp only [mul_comm (D.o _ _)]
  ring

end

end Cert.Proof.Gla

end
-- ==== Proof.RefGate.lean ====
/- One trip of the reference's loop: the gate, the decays and the keys. -/
module

public import proofs.«01_k».proof.Proof.RefOut

@[expose] public section

set_option maxRecDepth 16384

noncomputable section

namespace Cert.Proof.Gla

open Idealize.ShloMosaic Cert.ReferenceIdeal Cert.ReferenceIdeal.Step

variable {D : Data} {s : State Ideal} {j : ℕ}

theorem softplus_real (y : ℝ) : max y 0 + Real.log (1 + Real.exp (-max y (-y))) = Real.log (1 + Real.exp y) := by
  rcases le_total 0 y with h | h
  · rw [max_eq_left h, max_eq_left (by linarith), ← Real.log_exp y, ← Real.log_mul (by positivity) (by positivity),
      Real.log_exp, mul_add, mul_one, ← Real.exp_add, add_neg_cancel, Real.exp_zero, add_comm]
  · rw [max_eq_right h, max_eq_right (by linarith), zero_add, neg_neg]

theorem sigmoid_real (y : ℝ) : Real.exp (y - Real.log (1 + Real.exp y)) = 1 - (1 + Real.exp y)⁻¹ := by
  rw [Real.exp_sub, Real.exp_log (one_add_exp_pos y)]
  have := (one_add_exp_pos y).ne'
  field_simp
  ring

theorem word_inf : Ideal.ofBits .f32 0x7F800000#32 = ⊤ := by simp [Ideal.ofBits, Ideal.ieee]

theorem clog1p (a : ℝ) (h : 0 < 1 + a) : Ideal.log1p (a : EReal) = ((Real.log (1 + a) : ℝ) : EReal) := by
  rw [Ideal.log1p, cone, cadd, clog _ h]

theorem cabs (a : ℝ) : FloatOps.absf (F := Ideal) (φ := .f32) (a : EReal) = ((max a (-a) : ℝ) : EReal) :=
  (congrArg (max _) (cneg _)).trans (cmax _ _)

section
variable (T : Tied D s) (hj : j < 65)
include T hj

theorem b103_at (i : Fin 64) (m : Fin 512) :
    b103 j s (ix2 i m) = ((-lin D (64 - j) i m : ℝ) : EReal) := by
  pointwise [b103, b102, b101, b100, b27]
  simp only [b17_at T hj, T.gw, T.gb, cmul, csum, cadd, cneg, lin]

theorem b117_at (i : Fin 64) (m : Fin 512) :
    b117 j s (ix2 i m) = ((Real.log (1 + Real.exp (-lin D (64 - j) i m)) : ℝ) : EReal) := by
  pointwise [b117, b116, b115, b114, b113, b112, b111, b110, b109, b108, b107, b106, b105, b104]
  simp only [b103_at T hj, ne_eq, not_true_eq_false, if_false]
  rw [cabs, cneg, Ideal.exp_coe, clog1p _ (one_add_exp_pos _), czero, cmax, cadd, softplus_real]

/-- One minus the gate's sigmoid. -/
theorem b131_at (i : Fin 64) (m : Fin 512) :
    b131 j s (ix2 i m) = ((1 - (1 + Real.exp (-lin D (64 - j) i m))⁻¹ : ℝ) : EReal) := by
  pointwise [b131, b130, b129, b128, b127, b126, b125, b124, b123, b122, b121, b120, b119, b118]
  simp only [b103_at T hj, b117_at T hj, word_inf, EReal.coe_ne_top, if_false, csub, Ideal.exp_coe, sigmoid_real]

theorem b153_at (i : Fin 64) (m : Fin 512) : b153 j s (ix2 i m) = ((la D (64 - j) i m : ℝ) : EReal) := by
  pointwise [b153, b152, b151, b150]
  simp only [b117_at T hj, word_16, cneg, cdiv _ _ (by norm_num : (16 : ℝ) ≠ 0), la]

theorem b156_at (i : Fin 64) (m : Fin 512) : b156 j s (ix2 i m) = ((cum D (64 - j) i m : ℝ) : EReal) := by
  rw [b156]
  exact running_sum _ _ _ _ (by pointwise [b155, b154]) (la D (64 - j)) (b153_at T hj) i m

theorem b157_at (m : Fin 512) : b157 j s (ix2 0 m) = ((tot D (64 - j) m : ℝ) : EReal) := by
  pointwise [b157]
  exact b156_at T hj 63 m

theorem b160_at (i : Fin 64) (m : Fin 512) : b160 j s (ix2 i m) = ((dec D (64 - j) i m : ℝ) : EReal) := by
  pointwise [b160, b159, b158]
  simp only [b156_at T hj, b157_at T hj, csub, Ideal.exp_coe, dec]

theorem b24_at (i : Fin 64) (m : Fin 512) :
    b24 j s (ix2 i m) = ((D.z (64 * (64 - j) + i) (512 + m) : ℝ) : EReal) := by
  pointwise [b24]
  simp only [b17_at T hj]

theorem b161_at (i : Fin 64) (m : Fin 512) :
    b161 j s (ix2 i m) = ((kd D (64 - j) i (m / 128) (m % 128) : ℝ) : EReal) := by
  pointwise [b161]
  simp only [b24_at T hj, b160_at T hj, cmul, kd, Nat.div_add_mod]

theorem b166_at (h : Fin 4) (i : Fin 64) (k : Fin 128) :
    b166 j s (ix3 h i k) = ((D.z (64 * (64 - j) + i) (128 * h + k) * D.scale : ℝ) : EReal) := by
  pointwise [b166, b165, b164, b163, b162, b23]
  simp only [b17_at T hj, T.scale, cmul, mul_comm (128 : ℕ)]

theorem b168_at (h : Fin 4) (i : Fin 64) (k : Fin 128) :
    b168 j s (ix3 h i k) = ((kd D (64 - j) i h k : ℝ) : EReal) := by
  pointwise [b168, b167]
  simp only [b161_at T hj]
  rw [show ((h : ℕ) * 128 + k) / 128 = h by omega, show ((h : ℕ) * 128 + k) % 128 = k by omega]

theorem b170_at (h : Fin 4) (i : Fin 64) (v : Fin 256) :
    b170 j s (ix3 h i v) = ((D.z (64 * (64 - j) + i) (1024 + (256 * h + v)) : ℝ) : EReal) := by
  pointwise [b170, b169, b25]
  simp only [b17_at T hj, mul_comm (256 : ℕ)]

theorem b172_at (h : Fin 4) (k : Fin 128) :
    b172 j s (ix2 h k) = ((ec D (64 - j) (128 * h + k) : ℝ) : EReal) := by
  pointwise [b172, b171]
  simp only [b157_at T hj, Ideal.exp_coe, ec, mul_comm (128 : ℕ)]

theorem b177_at (h : Fin 4) (k : Fin 128) (v : Fin 256) :
    b177 j s (ix3 h k v) = ((S D (64 - j) h v k : ℝ) : EReal) := by
  pointwise [b177, b176, b175, b174, b173]
  simp only [b172_at T hj, b22_at T hj, b168_at T hj, b170_at T hj, cmul, csum, cadd, S]
  simp only [mul_comm]

theorem b180_at (h : Fin 4) (i : Fin 64) (v : Fin 256) :
    b180 j s (ix3 h i v) = ((dou D (64 - j) i h v : ℝ) : EReal) := by
  pointwise [b180, b179]
  simp only [b99_at T hj]
  rw [show ((h : ℕ) * 256 + v) / 256 = h by omega, show ((h : ℕ) * 256 + v) % 256 = v by omega]

end

end Cert.Proof.Gla

end
-- ==== Proof.KerGate.lean ====
/- The kernel's gate at an index: the running sums of the logarithms of the decay, the decays and the decayed keys of a tile
   of 13 chunks. -/
module

public import proofs.«01_k».proof.Proof.RefGate
public import proofs.«01_k».proof.Proof.Gen.KernelIdeal.Value

@[expose] public section

set_option maxRecDepth 16384

noncomputable section

namespace Cert.Proof.Gla

open Idealize.ShloMosaic Cert.KernelIdeal Cert.KernelIdeal.Gen

variable {D : Data} {τ : ℕ}

theorem logsig_real (y : ℝ) : min y 0 - Real.log (1 + Real.exp (0 - max y (-y))) = -Real.log (1 + Real.exp (-y)) := by
  have h := softplus_real (-y)
  rw [neg_neg, max_comm (-y) y] at h
  rw [zero_sub, ← h]
  rcases le_total 0 y with h1 | h1
  · rw [min_eq_right h1, max_eq_right (by linarith : -y ≤ 0)]; ring
  · rw [min_eq_left h1, max_eq_left (by linarith : 0 ≤ -y)]; ring

theorem row_div (c : ℕ) (i : Fin 64) : (c * 64 + i) / 64 = c := by omega
theorem row_mod (c : ℕ) (i : Fin 64) : (c * 64 + i) % 64 = i := by omega
theorem row_split (r : ℕ) : 832 * τ + r = 64 * (13 * τ + r / 64) + r % 64 := by omega

/-- One where a comparison of two small numbers holds, and zero elsewhere. -/
theorem one_of_sge (i j : Fin 64) :
    FloatOps.sitofp (F := Ideal) FTy.f32
      (BitVec.setWidth 32 (IntOp.cmpi .sge (BitVec.ofNat 32 i) (BitVec.ofNat 32 j)))
      = ((if j ≤ i then 1 else 0 : ℝ) : EReal) := by
  have e : BitVec.sle (BitVec.ofNat 32 j) (BitVec.ofNat 32 i) = decide (j ≤ i) := by
    have := i.isLt; have := j.isLt
    rw [BitVec.sle_eq_decide, BitVec.toInt_ofNat', BitVec.toInt_ofNat']
    simp only [decide_eq_decide, Fin.le_def]
    rw [Int.bmod_eq_of_le (by omega) (by omega), Int.bmod_eq_of_le (by omega) (by omega)]
    omega
  simp only [IntOp.cmpi, e]
  by_cases h : j ≤ i <;> simp [h, FloatOps.sitofp]

theorem one_of_sgt (i j : Fin 64) :
    FloatOps.sitofp (F := Ideal) FTy.f32
      (BitVec.setWidth 32 (IntOp.cmpi .sgt (BitVec.ofNat 32 i) (BitVec.ofNat 32 j)))
      = ((if j < i then 1 else 0 : ℝ) : EReal) := by
  have e : BitVec.slt (BitVec.ofNat 32 j) (BitVec.ofNat 32 i) = decide (j < i) := by
    have := i.isLt; have := j.isLt
    rw [BitVec.slt_eq_decide, BitVec.toInt_ofNat', BitVec.toInt_ofNat']
    simp only [decide_eq_decide, Fin.lt_def]
    rw [Int.bmod_eq_of_le (by omega) (by omega), Int.bmod_eq_of_le (by omega) (by omega)]
    omega
  simp only [IntOp.cmpi, e]
  by_cases h : j < i <;> simp [h, FloatOps.sitofp]

/-- A sum over the places up to `i`, and one over the places before it. -/
theorem sum_le_real (f : ℕ → ℝ) (i : Fin 64) :
    ∑ x : Fin 64, (if x ≤ i then 1 else 0) * f x = ∑ j ∈ Finset.range (i + 1), f j := by
  simp only [ite_mul, one_mul, zero_mul, Fin.le_def]
  rw [Fin.sum_univ_eq_sum_range (fun x => if x ≤ (i : ℕ) then f x else 0) 64, ← Finset.sum_filter]
  congr 1
  ext x
  simp only [Finset.mem_filter, Finset.mem_range]
  omega

theorem sum_lt_real (f : ℕ → ℝ) (i : Fin 64) :
    ∑ x : Fin 64, (if x < i then 1 else 0) * f x = ∑ j ∈ Finset.range i, f j := by
  simp only [ite_mul, one_mul, zero_mul, Fin.lt_def]
  rw [Fin.sum_univ_eq_sum_range (fun x => if x < (i : ℕ) then f x else 0) 64, ← Finset.sum_filter]
  congr 1
  ext x
  simp only [Finset.mem_filter, Finset.mem_range]
  omega

section
variable {v3 : Vec Ideal S832x128 .bf16} {v4 : Vec Ideal S128x512 .bf16} {v6 : Vec Ideal S1x512 .f32}
  (h3 : ∀ (r : Fin 832) (j : Fin 128), v3 (ix2 r j) = ((D.z (64 * (13 * τ + r / 64) + r % 64) (3072 + j) : ℝ) : EReal))
  (h4 : ∀ (a : Fin 128) (b : Fin 512), v4 (ix2 a b) = ((D.gw a b : ℝ) : EReal))
  (h6 : ∀ b : Fin 512, v6 (ix2 0 b) = ((D.gb b : ℝ) : EReal))
include h3 h4 h6

theorem pay7_at (c : Fin 13) (i : Fin 64) (m : Fin 512) :
    k0_pay7 v3 v4 v6 (ix3 c i m) = ((la D (13 * τ + c) i m : ℝ) : EReal) := by
  pointwise [k0_pay7]
  simp only [h3, h4, h6, row_div, row_mod, cmul, csum, cadd, cabs, czero, cmin, csub, Ideal.exp_coe, word_sixteenth]
  rw [cone, cadd, clog _ (one_add_exp_pos _), csub, cmul, logsig_real, la, lin]
  congr 1
  ring

omit h3 h4 h6 in
theorem tri_at (c : Fin 13) (i j : Fin 64) :
    k0_pay6 (F := Ideal) (ix3 c i j) = ((if j ≤ i then 1 else 0 : ℝ) : EReal) := by
  pointwise [k0_pay6]
  exact one_of_sge i j

theorem pay13_at (c : Fin 13) (i : Fin 64) (m : Fin 512) :
    k0_pay13 (k0_pay11 v3 v4 v6) (k0_pay12 v3 v4 v6) (ix3 c i m) = ((cum D (13 * τ + c) i m : ℝ) : EReal) := by
  pointwise [k0_pay13, k0_pay11, k0_pay12, k0_pay8, k0_pay10, k0_pay9]
  simp only [pay7_at h3 h4 h6, tri_at, csub, cmul, csum, cadd, sub_self, mul_zero, Finset.sum_const_zero, add_zero]
  rw [sum_le_real (fun x => la D (13 * τ + c) x m), cum]

theorem pay14_at (c : Fin 13) (m : Fin 512) :
    k0_pay14 (k0_pay11 v3 v4 v6) (k0_pay12 v3 v4 v6) (ix3 c 0 m) = ((tot D (13 * τ + c) m : ℝ) : EReal) := by
  pointwise [k0_pay14]
  exact pay13_at h3 h4 h6 c 63 m

theorem pay15_at (r : Fin 832) (m : Fin 512) :
    k0_pay15 (k0_pay11 v3 v4 v6) (k0_pay12 v3 v4 v6) (ix2 r m)
      = ((dec D (13 * τ + r / 64) (r % 64) m : ℝ) : EReal) := by
  pointwise [k0_pay15]
  simp only [pay13_at h3 h4 h6, pay14_at h3 h4 h6, csub, Ideal.exp_coe, dec]

theorem pay16_at (r : Fin 832) (m : Fin 512) :
    k0_pay16 (k0_pay11 v3 v4 v6) (k0_pay12 v3 v4 v6) (ix2 r m)
      = ((dec D (13 * τ + r / 64) (r % 64) m : ℝ) : EReal) := by
  pointwise [k0_pay16]
  exact pay15_at h3 h4 h6 r m

theorem pay17_at {v52 : Vec Ideal S832x512 .bf16}
    (h52 : ∀ (r : Fin 832) (m : Fin 512), v52 (ix2 r m) = ((D.z (64 * (13 * τ + r / 64) + r % 64) (512 + m) : ℝ) : EReal))
    (r : Fin 832) (m : Fin 512) :
    k0_pay17 (k0_pay11 v3 v4 v6) (k0_pay12 v3 v4 v6) v52 (ix2 r m)
      = ((kd D (13 * τ + r / 64) (r % 64) (m / 128) (m % 128) : ℝ) : EReal) := by
  pointwise [k0_pay17]
  simp only [h52, pay15_at h3 h4 h6, cmul, kd, Nat.div_add_mod]

theorem pay18_at {v52 : Vec Ideal S832x512 .bf16}
    (h52 : ∀ (r : Fin 832) (m : Fin 512), v52 (ix2 r m) = ((D.z (64 * (13 * τ + r / 64) + r % 64) (512 + m) : ℝ) : EReal))
    (r : Fin 832) (m : Fin 512) :
    k0_pay18 (k0_pay11 v3 v4 v6) (k0_pay12 v3 v4 v6) v52 (ix2 r m)
      = ((kd D (13 * τ + r / 64) (r % 64) (m / 128) (m % 128) : ℝ) : EReal) := by
  pointwise [k0_pay18]
  exact pay17_at h3 h4 h6 h52 r m

theorem pay19_at (c : Fin 13) (m : Fin 512) :
    k0_pay19 (k0_pay11 v3 v4 v6) (k0_pay12 v3 v4 v6) (ix3 c 0 m) = ((ec D (13 * τ + c) m : ℝ) : EReal) := by
  pointwise [k0_pay19]
  simp only [pay14_at h3 h4 h6, Ideal.exp_coe, ec]

theorem pay20_at (r : Fin 104) (m : Fin 512) :
    k0_pay20 (k0_pay11 v3 v4 v6) (k0_pay12 v3 v4 v6) (ix2 r m) = ((ec D (13 * τ + r / 8) m : ℝ) : EReal) := by
  pointwise [k0_pay20]
  simp only [pay19_at h3 h4 h6]
end

end Cert.Proof.Gla

end
-- ==== Proof.KerHead.lean ====
/- The kernel's part of one head at an index: the gradients of the output, of the output gate and of the query, and the
   head's part of the gradient of the gain. -/
module

public import proofs.«01_k».proof.Proof.KerGate

@[expose] public section

set_option maxRecDepth 16384

noncomputable section

namespace Cert.Proof.Gla

open Idealize.ShloMosaic Cert.KernelIdeal Cert.KernelIdeal.Gen

variable {D : Data} {τ h : ℕ}

/-- One over the root mean square of a head's rows. -/
def rrOf (o : Vec Ideal S832x256 .bf16) : FVec Ideal S832x1 .f32 := k0_pay29 (k0_pay27 o) k0_pay28

/-- A head's normalised output. -/
def xhOf (o : Vec Ideal S832x256 .bf16) : FVec Ideal S832x256 .f32 := k0_pay30 (k0_pay23 o) (k0_pay27 o) k0_pay28

/-- The gradient of a head's scaled normalised output. -/
def donOf (x : Vec Ideal S832x1024 .f32) (g : Vec Ideal S832x256 .bf16) (w : Vec Ideal S256x1024 .bf16) :
    FVec Ideal S832x256 .f32 := k0_pay31 (k0_pay24 g) (k0_pay25 x w) (k0_pay26 g)

/-- The gradient of a head's output gate. -/
def dgOf (x : Vec Ideal S832x1024 .f32) (o g : Vec Ideal S832x256 .bf16) (w : Vec Ideal S256x1024 .bf16)
    (n : Vec Ideal S1x256 .f32) : FVec Ideal S832x256 .bf16 :=
  k0_pay32 (k0_pay23 o) (k0_pay24 g) (k0_pay25 x w) (k0_pay26 g) (k0_pay27 o) k0_pay28 n

/-- The gradient of a head's output, scaled. -/
def doOf (x : Vec Ideal S832x1024 .f32) (o g : Vec Ideal S832x256 .bf16) (w : Vec Ideal S256x1024 .bf16)
    (n : Vec Ideal S1x256 .f32) : FVec Ideal S832x256 .bf16 :=
  k0_pay34 (k0_pay23 o) (k0_pay24 g) (k0_pay25 x w) (k0_pay26 g) (k0_pay27 o) k0_pay28 n

/-- The gradient of the gain with one more head's part. -/
def dhgOf (a : FVec Ideal S1x256 .f32) (x : Vec Ideal S832x1024 .f32) (o g : Vec Ideal S832x256 .bf16)
    (w : Vec Ideal S256x1024 .bf16) : FVec Ideal S1x256 .f32 :=
  k0_pay33 a (k0_pay23 o) (k0_pay24 g) (k0_pay25 x w) (k0_pay26 g) (k0_pay27 o) k0_pay28

/-- A head's blocks hold the data. -/
structure HeadIn (D : Data) (τ h : ℕ) (x : Vec Ideal S832x1024 .f32) (o g : Vec Ideal S832x256 .bf16)
    (w : Vec Ideal S256x1024 .bf16) (n : Vec Ideal S1x256 .f32) : Prop where
  x : ∀ (r : Fin 832) (m : Fin 1024), x (ix2 r m) = ((D.dh (64 * (13 * τ + r / 64) + r % 64) m : ℝ) : EReal)
  o : ∀ (r : Fin 832) (v : Fin 256), o (ix2 r v) = ((D.o (64 * (13 * τ + r / 64) + r % 64) (256 * h + v) : ℝ) : EReal)
  g : ∀ (r : Fin 832) (v : Fin 256), g (ix2 r v) = ((gt D (13 * τ + r / 64) (r % 64) h v : ℝ) : EReal)
  w : ∀ (v : Fin 256) (m : Fin 1024), w (ix2 v m) = ((D.wo (256 * h + v) m : ℝ) : EReal)
  n : ∀ v : Fin 256, n (ix2 0 v) = ((D.hg v : ℝ) : EReal)
  eps : Ideal.ofBits .f32 0x3727C5AC#32 = ((D.eps : ℝ) : EReal)
  scale : Ideal.ofBits .f32 0x3DB504F3#32 = ((D.scale : ℝ) : EReal)

section
variable {x : Vec Ideal S832x1024 .f32} {o g : Vec Ideal S832x256 .bf16} {w : Vec Ideal S256x1024 .bf16}
  {n : Vec Ideal S1x256 .f32} (H : HeadIn D τ h x o g w n)
include H

theorem rr_at (r : Fin 832) : rrOf o (ix2 r 0) = ((rr D (13 * τ + r / 64) (r % 64) h : ℝ) : EReal) := by
  pointwise [rrOf, k0_pay29, k0_pay27, k0_pay28, k0_pay23]
  simp only [H.o, H.eps, word_256, cmul, csum, cadd, cdiv _ _ (by norm_num : (256 : ℝ) ≠ 0)]
  rw [← ms, crsqrt _ (ms_pos _ _ _ _), rr]

theorem xh_at (r : Fin 832) (v : Fin 256) :
    xhOf o (ix2 r v) = ((xh D (13 * τ + r / 64) (r % 64) h v : ℝ) : EReal) := by
  have e := rr_at H r
  rw [rrOf] at e
  pointwise [xhOf, k0_pay30, k0_pay23]
  simp only [e, H.o, cmul, xh]

theorem dm_at (r : Fin 832) (v : Fin 256) :
    k0_pay25 x w (ix2 r v) = ((dm D (13 * τ + r / 64) (r % 64) h v : ℝ) : EReal) := by
  pointwise [k0_pay25, k0_pay22]
  simp only [H.x, H.w, cmul, csum, dm]

theorem sg_at (r : Fin 832) (v : Fin 256) :
    k0_pay26 g (ix2 r v) = ((sg D (13 * τ + r / 64) (r % 64) h v : ℝ) : EReal) := by
  pointwise [k0_pay26, k0_pay24]
  simp only [H.g, Ideal.logistic_coe, sg]

theorem don_at (r : Fin 832) (v : Fin 256) :
    donOf x g w (ix2 r v) = ((don D (13 * τ + r / 64) (r % 64) h v : ℝ) : EReal) := by
  pointwise [donOf, k0_pay31, k0_pay24]
  simp only [H.g, dm_at H, sg_at H, cmul, don]

theorem dg_at (r : Fin 832) (v : Fin 256) :
    dgOf x o g w n (ix2 r v) = ((dg D (13 * τ + r / 64) (r % 64) h v : ℝ) : EReal) := by
  have e := xh_at H r v
  rw [xhOf] at e
  pointwise [dgOf, k0_pay32, k0_pay24]
  simp only [e, H.g, H.n, dm_at H, sg_at H, cmul, cone, csub, cadd, dg]

theorem dhg_at (a : FVec Ideal S1x256 .f32) (v : Fin 256) :
    dhgOf a x o g w (ix2 0 v)
      = a (ix2 0 v) + ((∑ r : Fin 832, don D (13 * τ + r / 64) (r % 64) h v * xh D (13 * τ + r / 64) (r % 64) h v : ℝ) : EReal) := by
  have e := fun r => xh_at H r v
  have e' := fun r => don_at H r v
  simp only [xhOf, donOf] at e e'
  pointwise [dhgOf, k0_pay33]
  simp only [e, e', cmul, csum]

theorem do_at (r : Fin 832) (v : Fin 256) :
    doOf x o g w n (ix2 r v) = ((dO D (13 * τ + r / 64) (r % 64) h v : ℝ) : EReal) := by
  have e := fun v => xh_at H r v
  have e' := fun v => don_at H r v
  have e2 := rr_at H r
  simp only [xhOf, donOf, rrOf] at e e' e2
  pointwise [doOf, k0_pay34]
  simp only [e, e', e2, H.n, H.scale, word_256, cmul, csum, cdiv _ _ (by norm_num : (256 : ℝ) ≠ 0), csub]
  rfl

end

section
variable {kdv : FVec Ideal S832x512 .f32} {ev : FVec Ideal S13x1x512 .f32} {dov vv : FVec Ideal S832x256 .bf16}
  {stv : Vec Ideal S13x256x128 .bf16}
  (hk : ∀ (r : Fin 832) (m : Fin 512), kdv (ix2 r m) = ((kd D (13 * τ + r / 64) (r % 64) (m / 128) (m % 128) : ℝ) : EReal))
  (he : ∀ (c : Fin 13) (m : Fin 512), ev (ix3 c 0 m) = ((ec D (13 * τ + c) m : ℝ) : EReal))
  (hd : ∀ (r : Fin 832) (v : Fin 256), dov (ix2 r v) = ((dO D (13 * τ + r / 64) (r % 64) h v : ℝ) : EReal))
  (hv : ∀ (r : Fin 832) (v : Fin 256),
    vv (ix2 r v) = ((D.z (64 * (13 * τ + r / 64) + r % 64) (1024 + (256 * h + v)) : ℝ) : EReal))
  (hs : ∀ (c : Fin 13) (v : Fin 256) (k : Fin 128), stv (ix3 c v k) = ((D.st (13 * τ + c) (256 * h + v) k : ℝ) : EReal))
include hk he hd hv hs

theorem dq0_at (h0 : h = 0) (r : Fin 832) (k : Fin 128) :
    k0_pay36 kdv ev dov vv stv (ix2 r k) = ((dq D (13 * τ + r / 64) (r % 64) h k : ℝ) : EReal) := by
  subst h0
  pointwise [k0_pay36]
  simp only [hk, he, hd, hv, hs, cmul, csum, cadd, row_div, row_mod]
  rw [show (k : ℕ) / 128 = 0 by omega, show (k : ℕ) % 128 = k by omega]
  simp only [dq, S, Nat.mul_zero, Nat.zero_add]

theorem dq1_at (h0 : h = 1) (r : Fin 832) (k : Fin 128) :
    k0_pay50 ev dov (k0_pay48 vv) (k0_pay49 kdv) stv (ix2 r k) = ((dq D (13 * τ + r / 64) (r % 64) h k : ℝ) : EReal) := by
  subst h0
  pointwise [k0_pay50, k0_pay48, k0_pay49]
  simp only [hk, he, hd, hv, hs, cmul, csum, cadd, row_div, row_mod]
  rw [show (128 + (k : ℕ)) / 128 = 1 by omega, show (128 + (k : ℕ)) % 128 = k by omega]
  rfl

theorem dq2_at {t : FVec Ideal S13x64x256 .bf16} (ht : ∀ (c : Fin 13) (i : Fin 64) (v : Fin 256),
      t (ix3 c i v) = ((dO D (13 * τ + c) i h v : ℝ) : EReal)) (h0 : h = 2) (r : Fin 832) (k : Fin 128) :
    k0_pay66 t (k0_pay65 kdv ev vv stv) (constant S13x64x128 FTy.f32 0#32) (ix2 r k)
      = ((dq D (13 * τ + r / 64) (r % 64) h k : ℝ) : EReal) := by
  subst h0
  pointwise [k0_pay66, k0_pay65]
  simp only [hk, he, ht, hv, hs, cmul, csum, cadd, row_div, row_mod]
  rw [show (256 + (k : ℕ)) / 128 = 2 by omega, show (256 + (k : ℕ)) % 128 = k by omega]
  rfl

theorem dq3_at {o : Vec Ideal S832x256 .bf16} {n : Vec Ideal S1x256 .f32} {t : FVec Ideal S832x256 .f32}
    (ht : ∀ (r : Fin 832) (v : Fin 256),
      k0_pay77 (k0_pay71 o) (k0_pay72 o) t n (ix2 r v) = ((dO D (13 * τ + r / 64) (r % 64) h v : ℝ) : EReal))
    (h0 : h = 3) (r : Fin 832) (k : Fin 128) :
    k0_pay79 kdv ev (k0_pay71 o) (k0_pay72 o) t n vv stv (ix2 r k)
      = ((dq D (13 * τ + r / 64) (r % 64) h k : ℝ) : EReal) := by
  subst h0
  pointwise [k0_pay79]
  simp only [hk, he, ht, hv, hs, cmul, csum, cadd, row_div, row_mod]
  rw [show (384 + (k : ℕ)) / 128 = 3 by omega, show (384 + (k : ℕ)) % 128 = k by omega]
  rfl

end

end Cert.Proof.Gla

end
-- ==== Proof.KerStep.lean ====
/- The kernel's step of one head of one chunk at an index, and what it makes of all of a tile's chunks at the end: the
   gradients of the keys, of the gate's linear map, of its input, and the tile's parts of the gradients of its weights. -/
module

public import proofs.«01_k».proof.Proof.KerHead

@[expose] public section

set_option maxRecDepth 16384

noncomputable section

namespace Cert.Proof.Gla

open Idealize.ShloMosaic Cert.KernelIdeal Cert.KernelIdeal.Gen

variable {D : Data} {τ C h : ℕ}

/-- A head's part of a chunk's decay. -/
def esl (h : ℕ) (v : Vec Ideal S8x512 .f32) : FVec Ideal S1x128 .f32 :=
  match h with
  | 0 => k0_pay83 v
  | 1 => k0_pay91 (k0_pay82 v)
  | 2 => k0_pay99 (k0_pay82 v)
  | _ => k0_pay108 (k0_pay82 v)

/-- The gradient of the state before the chunk. -/
def newSt (e : FVec Ideal S1x128 .f32) (q : Vec Ideal S64x128 .bf16) (d : Vec Ideal S64x256 .bf16)
    (s : Vec Ideal S256x128 .f32) : FVec Ideal S256x128 .f32 := k0_pay90 e (k0_pay85 q d s)

/-- The gradient of the decayed keys. -/
def dkOf (v : Vec Ideal S64x256 .bf16) (q : Vec Ideal S64x128 .bf16) (d : Vec Ideal S64x256 .bf16)
    (s : Vec Ideal S256x128 .f32) : FVec Ideal S64x128 .f32 := k0_pay87 v q d s

/-- The gradient of the values. -/
def dvOf (k : Vec Ideal S64x128 .f32) (q : Vec Ideal S64x128 .bf16) (d : Vec Ideal S64x256 .bf16)
    (s : Vec Ideal S256x128 .f32) : FVec Ideal S64x256 .bf16 := k0_pay88 k q d s

/-- The gradient of the chunk's whole sum. -/
def dtOf (e : FVec Ideal S1x128 .f32) (a : Vec Ideal S1x256x128 .bf16) (q : Vec Ideal S64x128 .bf16)
    (d : Vec Ideal S64x256 .bf16) (s : Vec Ideal S256x128 .f32) : FVec Ideal S8x128 .f32 :=
  k0_pay89 e (k0_pay84 a) (k0_pay85 q d s)

theorem esl_at {v : Vec Ideal S8x512 .f32} (hv : ∀ m : Fin 512, v (ix2 0 m) = ((ec D C m : ℝ) : EReal))
    (hh : h < 4) (k : Fin 128) : esl h v (ix2 0 k) = ((ec D C (128 * h + k) : ℝ) : EReal) := by
  interval_cases h
  · pointwise [esl, k0_pay83, k0_pay82]
    simp only [hv, Nat.mul_zero, Nat.zero_add]
  · pointwise [esl, k0_pay91, k0_pay82]
    simp only [hv]
  · pointwise [esl, k0_pay99, k0_pay82]
    simp only [hv]
  · pointwise [esl, k0_pay108, k0_pay82]
    simp only [hv]

section
variable {e : FVec Ideal S1x128 .f32} {q : Vec Ideal S64x128 .bf16} {d v : Vec Ideal S64x256 .bf16}
  {s : Vec Ideal S256x128 .f32} {kdv : Vec Ideal S64x128 .f32} {a : Vec Ideal S1x256x128 .bf16}
  (hq : ∀ (i : Fin 64) (k : Fin 128), q (ix2 i k) = ((D.z (64 * C + i) (128 * h + k) : ℝ) : EReal))
  (hd : ∀ (i : Fin 64) (v : Fin 256), d (ix2 i v) = ((dO D C i h v : ℝ) : EReal))
  (hs : ∀ (v : Fin 256) (k : Fin 128), s (ix2 v k) = ((Ds D (64 - C) h v k : ℝ) : EReal))
include hq hd hs

theorem dst_at (v : Fin 256) (k : Fin 128) : k0_pay85 q d s (ix2 v k) = ((G D C h v k : ℝ) : EReal) := by
  pointwise [k0_pay85]
  simp only [hq, hd, hs, cmul, csum, cadd, G]

theorem newSt_at (hC : C ≤ 64) (he : ∀ k : Fin 128, e (ix2 0 k) = ((ec D C (128 * h + k) : ℝ) : EReal))
    (v : Fin 256) (k : Fin 128) : newSt e q d s (ix2 v k) = ((Ds D (64 - C + 1) h v k : ℝ) : EReal) := by
  pointwise [newSt, k0_pay90]
  simp only [dst_at hq hd hs, he, cmul, Ds_succ D C h _ _ hC]

theorem dkOf_at
    (hv : ∀ (i : Fin 64) (w : Fin 256), v (ix2 i w) = ((D.z (64 * C + i) (1024 + (256 * h + w)) : ℝ) : EReal))
    (i : Fin 64) (k : Fin 128) : dkOf v q d s (ix2 i k) = ((dkd D C i h k : ℝ) : EReal) := by
  pointwise [dkOf, k0_pay87, k0_pay86]
  simp only [dst_at hq hd hs, hv, cmul, csum, dkd]

theorem dvOf_at (hk : ∀ (i : Fin 64) (k : Fin 128), kdv (ix2 i k) = ((kd D C i h k : ℝ) : EReal))
    (i : Fin 64) (w : Fin 256) : dvOf kdv q d s (ix2 i w) = ((dv D C i h w : ℝ) : EReal) := by
  pointwise [dvOf, k0_pay88, k0_pay86]
  simp only [dst_at hq hd hs, hk, cmul, csum, dv]

theorem dtOf_at (he : ∀ k : Fin 128, e (ix2 0 k) = ((ec D C (128 * h + k) : ℝ) : EReal))
    (ha : ∀ (v : Fin 256) (k : Fin 128), a (ix3 0 v k) = ((D.st C (256 * h + v) k : ℝ) : EReal))
    (b : Fin 8) (k : Fin 128) : dtOf e a q d s (ix2 b k) = ((dtot D C h k : ℝ) : EReal) := by
  pointwise [dtOf, k0_pay89, k0_pay84]
  simp only [dst_at hq hd hs, he, ha, cmul, csum, dtot]
end

section
variable {dkv dcv kv : Vec Ideal S832x512 .f32} {tv : Vec Ideal S104x512 .f32}
  {v3 : Vec Ideal S832x128 .bf16} {v4 : Vec Ideal S128x512 .bf16} {v6 : Vec Ideal S1x512 .f32}
  (hdk : ∀ (r : Fin 832) (m : Fin 512), dkv (ix2 r m) = ((dkd D (13 * τ + r / 64) (r % 64) (m / 128) (m % 128) : ℝ) : EReal))
  (hkd : ∀ (r : Fin 832) (m : Fin 512), kv (ix2 r m) = ((kd D (13 * τ + r / 64) (r % 64) (m / 128) (m % 128) : ℝ) : EReal))
  (hdc : ∀ (r : Fin 832) (m : Fin 512), dcv (ix2 r m) = ((dec D (13 * τ + r / 64) (r % 64) m : ℝ) : EReal))
  (ht : ∀ (r : Fin 104) (m : Fin 512), tv (ix2 r m) = ((dtot D (13 * τ + r / 8) (m / 128) (m % 128) : ℝ) : EReal))
  (h3 : ∀ (r : Fin 832) (j : Fin 128), v3 (ix2 r j) = ((D.z (64 * (13 * τ + r / 64) + r % 64) (3072 + j) : ℝ) : EReal))
  (h4 : ∀ (a : Fin 128) (b : Fin 512), v4 (ix2 a b) = ((D.gw a b : ℝ) : EReal))
  (h6 : ∀ b : Fin 512, v6 (ix2 0 b) = ((D.gb b : ℝ) : EReal))

include hdk hdc in
theorem dk_at (r : Fin 832) (m : Fin 512) :
    k0_pay529 dkv dcv (ix2 r m) = ((dk D (13 * τ + r / 64) (r % 64) (m / 128) (m % 128) : ℝ) : EReal) := by
  pointwise [k0_pay529]
  simp only [hdk, hdc, cmul, dk, Nat.div_add_mod]

theorem tri'_at (c : Fin 13) (i j : Fin 64) :
    k0_pay530 (F := Ideal) (ix3 c i j) = ((if j < i then 1 else 0 : ℝ) : EReal) := by
  pointwise [k0_pay530]
  exact one_of_sgt i j

/-- The gradient of the gate's linear map. -/
def dpreOf (dkv kv : Vec Ideal S832x512 .f32) (tv : Vec Ideal S104x512 .f32) (v3 : Vec Ideal S832x128 .bf16)
    (v4 : Vec Ideal S128x512 .bf16) (v6 : Vec Ideal S1x512 .f32) : FVec Ideal S832x512 .f32 :=
  k0_pay534 k0_pay530 (k0_pay532 dkv kv) (k0_pay533 dkv kv) tv v3 v4 v6

include hdk hkd ht h3 h4 h6 in
theorem dpre_at (r : Fin 832) (m : Fin 512) :
    dpreOf dkv kv tv v3 v4 v6 (ix2 r m) = ((dpre D (13 * τ + r / 64) (r % 64) m : ℝ) : EReal) := by
  pointwise [dpreOf, k0_pay534, k0_pay533, k0_pay532, k0_pay531]
  simp only [hdk, hkd, ht, h3, h4, h6, tri'_at, row_div, row_mod, cmul, csub, csum, cadd, sub_self, mul_zero,
    Finset.sum_const_zero, add_zero, Ideal.logistic_coe, word_sixteenth, cone, Nat.mul_div_cancel _ (by norm_num : 0 < 8)]
  rw [sum_lt_real (fun i => dkd D (13 * τ + r / 64) i (m / 128) (m % 128) * kd D (13 * τ + r / 64) i (m / 128) (m % 128))]
  rfl

include hdk hkd ht h3 h4 h6 in
theorem dr_at (r : Fin 832) (j : Fin 128) :
    k0_pay536 k0_pay530 (k0_pay532 dkv kv) (k0_pay533 dkv kv) tv v3 v4 v6 v4 (ix2 r j)
      = ((dr D (13 * τ + r / 64) (r % 64) j : ℝ) : EReal) := by
  have e := dpre_at hdk hkd ht h3 h4 h6 r
  simp only [dpreOf] at e
  pointwise [k0_pay536, k0_pay535]
  simp only [e, h4, cmul, csum, dr]

include hdk hkd ht h3 h4 h6 in
theorem dgw_at (x : Vec Ideal S128x512 .f32) (j : Fin 128) (m : Fin 512) :
    k0_pay537 k0_pay530 (k0_pay532 dkv kv) (k0_pay533 dkv kv) tv v3 v4 v6 x v3 (ix2 j m)
      = x (ix2 j m) + ((∑ r : Fin 832, D.z (64 * (13 * τ + r / 64) + r % 64) (3072 + j)
          * dpre D (13 * τ + r / 64) (r % 64) m : ℝ) : EReal) := by
  have e := fun r => dpre_at hdk hkd ht h3 h4 h6 r m
  simp only [dpreOf] at e
  pointwise [k0_pay537, k0_pay535]
  simp only [e, h3, cmul, csum]

include hdk hkd ht h3 h4 h6 in
theorem dgb_at (x : Vec Ideal S1x512 .f32) (m : Fin 512) :
    k0_pay1 (dpreOf dkv kv tv v3 v4 v6) x (ix2 0 m)
      = x (ix2 0 m) + ((∑ r : Fin 832, dpre D (13 * τ + r / 64) (r % 64) m : ℝ) : EReal) := by
  pointwise [k0_pay1]
  simp only [dpre_at hdk hkd ht h3 h4 h6, csum]

end

/-- A sum over a tile's rows is a sum over its chunks of sums over their rows. -/
theorem tile_sum (f : ℕ → ℕ → ℝ) :
    ∑ r : Fin 832, f (13 * τ + r / 64) (r % 64) = ∑ c ∈ Finset.range 13, ∑ i : Fin 64, f (13 * τ + c) i := by
  rw [Finset.sum_range, ← Finset.sum_product']
  refine (Fintype.sum_equiv (finProdFinEquiv (m := 13) (n := 64)) _ _ fun p => ?_).symm
  obtain ⟨c, i⟩ := p
  simp only [finProdFinEquiv_apply_val]
  rw [show ((i : ℕ) + 64 * c) / 64 = c by omega, show ((i : ℕ) + 64 * c) % 64 = i by omega]

end Cert.Proof.Gla

end
-- ==== Proof.KerBuf.lean ====
/- Reading a block of an array, and a block of what a list of writes leaves, at an index. -/
module

public import proofs.«01_k».proof.Proof.KerStep

@[expose] public section

set_option maxRecDepth 16384

noncomputable section

namespace Cert.Proof.Gla

open Idealize.ShloMosaic Cert.KernelIdeal Cert.KernelIdeal.Gen

variable {e : EltTy} {A B n m : ℕ} {off : Fin 2 → ℕ} {sz : Fin 2 → ℕ}

/-- The place of a block's index in the array. -/
theorem emb2 (inb : ∀ a, off a + sz a ≤ (⟨2, ![A, B]⟩ : Shape).size a)
    (x : (Rect.unit (s := ⟨2, ![A, B]⟩) off sz inb).shape.Idx) (i : Fin A) (j : Fin B)
    (h0 : (i : ℕ) = off 0 + (x 0 : ℕ)) (h1 : (j : ℕ) = off 1 + (x 1 : ℕ)) :
    (Rect.unit (s := ⟨2, ![A, B]⟩) off sz inb).idx x = ix2 i j := by
  funext a
  refine Fin.ext ?_
  match a with
  | ⟨0, _⟩ => show off 0 + 1 * (x 0 : ℕ) = i; omega
  | ⟨1, _⟩ => show off 1 + 1 * (x 1 : ℕ) = j; omega

theorem emb3 {A B C : ℕ} {off sz : Fin 3 → ℕ} (inb : ∀ a, off a + sz a ≤ (⟨3, ![A, B, C]⟩ : Shape).size a)
    (x : (Rect.unit (s := ⟨3, ![A, B, C]⟩) off sz inb).shape.Idx) (i : Fin A) (j : Fin B) (k : Fin C)
    (h0 : (i : ℕ) = off 0 + (x 0 : ℕ)) (h1 : (j : ℕ) = off 1 + (x 1 : ℕ)) (h2 : (k : ℕ) = off 2 + (x 2 : ℕ)) :
    (Rect.unit (s := ⟨3, ![A, B, C]⟩) off sz inb).idx x = ix3 i j k := by
  funext a
  refine Fin.ext ?_
  match a with
  | ⟨0, _⟩ => show off 0 + 1 * (x 0 : ℕ) = i; omega
  | ⟨1, _⟩ => show off 1 + 1 * (x 1 : ℕ) = j; omega
  | ⟨2, _⟩ => show off 2 + 1 * (x 2 : ℕ) = k; omega

/-- A load of a block of a whole buffer. -/
theorem rd2 {a : Memref sig .tc .vmem ⟨2, ![A, B]⟩ e} (h : a.IsWhole) (X : Vec Ideal ⟨2, ![A, B]⟩ e)
    (inb : ∀ a, off a + sz a ≤ (⟨2, ![A, B]⟩ : Shape).size a)
    (x : (Rect.unit (s := ⟨2, ![A, B]⟩) off sz inb).shape.Idx) (i : Fin A) (j : Fin B)
    (h0 : (i : ℕ) = off 0 + (x 0 : ℕ)) (h1 : (j : ℕ) = off 1 + (x 1 : ℕ)) :
    View.readAt (Elt Ideal) a.view (Rect.unit (s := ⟨2, ![A, B]⟩) off sz inb).toLoadRect (h.unread X) x = X (ix2 i j) := by
  have : View.readAt (Elt Ideal) a.view (Rect.unit (s := ⟨2, ![A, B]⟩) off sz inb).toLoadRect (h.unread X) x
      = (a.view.read (Elt Ideal) (h.unread X)) ((Rect.unit (s := ⟨2, ![A, B]⟩) off sz inb).idx x) := rfl
  rw [this, h.read_unread, emb2 inb x i j h0 h1]

theorem rd3 {A B C : ℕ} {off sz : Fin 3 → ℕ} {a : Memref sig .tc .vmem ⟨3, ![A, B, C]⟩ e} (h : a.IsWhole)
    (X : Vec Ideal ⟨3, ![A, B, C]⟩ e) (inb : ∀ a, off a + sz a ≤ (⟨3, ![A, B, C]⟩ : Shape).size a)
    (x : (Rect.unit (s := ⟨3, ![A, B, C]⟩) off sz inb).shape.Idx) (i : Fin A) (j : Fin B) (k : Fin C)
    (h0 : (i : ℕ) = off 0 + (x 0 : ℕ)) (h1 : (j : ℕ) = off 1 + (x 1 : ℕ)) (h2 : (k : ℕ) = off 2 + (x 2 : ℕ)) :
    View.readAt (Elt Ideal) a.view (Rect.unit (s := ⟨3, ![A, B, C]⟩) off sz inb).toLoadRect (h.unread X) x
      = X (ix3 i j k) := by
  have : View.readAt (Elt Ideal) a.view (Rect.unit (s := ⟨3, ![A, B, C]⟩) off sz inb).toLoadRect (h.unread X) x
      = (a.view.read (Elt Ideal) (h.unread X)) ((Rect.unit (s := ⟨3, ![A, B, C]⟩) off sz inb).idx x) := rfl
  rw [this, h.read_unread, emb3 inb x i j k h0 h1 h2]

/-- A load of a block of what writes left. -/
theorem rc2 (a : Memref sig .tc .vmem ⟨2, ![A, B]⟩ e) (L : List (View.Piece (Elt Ideal) ⟨2, ![A, B]⟩ e))
    (inb : ∀ a, off a + sz a ≤ (⟨2, ![A, B]⟩ : Shape).size a)
    (x : (Rect.unit (s := ⟨2, ![A, B]⟩) off sz inb).shape.Idx) (i : Fin A) (j : Fin B)
    (h0 : (i : ℕ) = off 0 + (x 0 : ℕ)) (h1 : (j : ℕ) = off 1 + (x 1 : ℕ)) :
    View.readCov a.view L (Rect.unit (s := ⟨2, ![A, B]⟩) off sz inb).toLoadRect x = View.canon L (ix2 i j) := by
  rw [View.readCov_eq_canon']
  exact congrArg (View.canon L) (emb2 inb x i j h0 h1)

theorem hit2 (inb : ∀ a, off a + sz a ≤ (⟨2, ![A, B]⟩ : Shape).size a)
    (w : (Rect.unit (s := ⟨2, ![A, B]⟩) off sz inb).shape.Idx → Elt Ideal e)
    (L : List (View.Piece (Elt Ideal) ⟨2, ![A, B]⟩ e))
    (x : (Rect.unit (s := ⟨2, ![A, B]⟩) off sz inb).shape.Idx) (i : Fin A) (j : Fin B)
    (h0 : (i : ℕ) = off 0 + (x 0 : ℕ)) (h1 : (j : ℕ) = off 1 + (x 1 : ℕ)) :
    View.canon (⟨Rect.unit off sz inb, w⟩ :: L) (ix2 i j) = w x := by
  rw [← emb2 inb x i j h0 h1]
  exact View.canon_cons_emb _ w L x

theorem mem2 (inb : ∀ a, off a + sz a ≤ (⟨2, ![A, B]⟩ : Shape).size a) {y : (⟨2, ![A, B]⟩ : Shape).Idx}
    (h : y ∈ (Rect.unit (s := ⟨2, ![A, B]⟩) off sz inb).set) :
    (off 0 ≤ (y 0 : ℕ) ∧ (y 0 : ℕ) < off 0 + sz 0) ∧ (off 1 ≤ (y 1 : ℕ) ∧ (y 1 : ℕ) < off 1 + sz 1) := by
  obtain ⟨x, rfl⟩ := (Rect.unit (s := ⟨2, ![A, B]⟩) off sz inb).exists_idx_of_mem h
  have h0 : (x 0 : ℕ) < sz 0 := (x 0).isLt
  have h1 : (x 1 : ℕ) < sz 1 := (x 1).isLt
  refine ⟨⟨?_, ?_⟩, ?_, ?_⟩
  · show off 0 ≤ off 0 + 1 * (x 0 : ℕ); omega
  · show off 0 + 1 * (x 0 : ℕ) < _; omega
  · show off 1 ≤ off 1 + 1 * (x 1 : ℕ); omega
  · show off 1 + 1 * (x 1 : ℕ) < _; omega

theorem mem2_of (inb : ∀ a, off a + sz a ≤ (⟨2, ![A, B]⟩ : Shape).size a) (i : Fin A) (j : Fin B)
    (h0 : off 0 ≤ (i : ℕ)) (h0' : (i : ℕ) < off 0 + sz 0) (h1 : off 1 ≤ (j : ℕ)) (h1' : (j : ℕ) < off 1 + sz 1) :
    ix2 i j ∈ (Rect.unit (s := ⟨2, ![A, B]⟩) off sz inb).set := by
  have e := emb2 inb (fun a => match a with
    | ⟨0, _⟩ => ⟨i - off 0, by show _ < sz 0; omega⟩
    | ⟨1, _⟩ => ⟨j - off 1, by show _ < sz 1; omega⟩) i j (by show (i : ℕ) = off 0 + (i - off 0); omega)
      (by show (j : ℕ) = off 1 + (j - off 1); omega)
  rw [← e]
  exact (Rect.unit (s := ⟨2, ![A, B]⟩) off sz inb).toLoadRect.idx_mem _

theorem miss2 (inb : ∀ a, off a + sz a ≤ (⟨2, ![A, B]⟩ : Shape).size a)
    (w : (Rect.unit (s := ⟨2, ![A, B]⟩) off sz inb).shape.Idx → Elt Ideal e)
    (L : List (View.Piece (Elt Ideal) ⟨2, ![A, B]⟩ e)) (i : Fin A) (j : Fin B)
    (h : (i : ℕ) < off 0 ∨ off 0 + sz 0 ≤ i ∨ (j : ℕ) < off 1 ∨ off 1 + sz 1 ≤ j) :
    View.canon (⟨Rect.unit off sz inb, w⟩ :: L) (ix2 i j) = View.canon L (ix2 i j) := by
  refine View.canon_cons_of_not_mem _ L fun hm => ?_
  have := mem2 inb hm
  simp only [show ((ix2 i j : (⟨2, ![A, B]⟩ : Shape).Idx) 0 : ℕ) = i from rfl,
    show ((ix2 i j : (⟨2, ![A, B]⟩ : Shape).Idx) 1 : ℕ) = j from rfl] at this
  omega

/-- Pieces one after another on top of a list. -/
def pl {α : Type} (f : ℕ → α) (T : List α) : ℕ → List α
  | 0 => T
  | n + 1 => f n :: pl f T n

theorem mem_pl {α : Type} {f : ℕ → α} {T : List α} {p : α} : ∀ {n : ℕ}, p ∈ pl f T n → p ∈ T ∨ ∃ k, k < n ∧ p = f k
  | 0, h => .inl h
  | n + 1, h => by
    rcases List.mem_cons.1 h with h | h
    · exact .inr ⟨n, by omega, h⟩
    · rcases mem_pl h with h | ⟨k, hk, h⟩
      · exact .inl h
      · exact .inr ⟨k, by omega, h⟩

theorem pl_mem {α : Type} {f : ℕ → α} {T : List α} {k : ℕ} : ∀ {n : ℕ}, k < n → f k ∈ pl f T n
  | n + 1, h => by
    rcases Nat.lt_succ_iff_lt_or_eq.1 h with h | rfl
    · exact List.mem_cons_of_mem _ (pl_mem h)
    · exact List.mem_cons_self

theorem tail_pl {α : Type} {f : ℕ → α} {T : List α} {p : α} (h : p ∈ T) : ∀ {n : ℕ}, p ∈ pl f T n
  | 0 => h
  | n + 1 => List.mem_cons_of_mem _ (tail_pl h)

/-- The states that the steps of a tile read, when each step writes the state it makes over its head's rows. -/
theorem chain {D : Data} {τ : ℕ} (hτ : τ ≤ 4) (L : ℕ → List (View.Piece (Elt Ideal) S1024x128 .f32))
    (st : ℕ → Vec Ideal S256x128 .f32) (e : ℕ → FVec Ideal S1x128 .f32) (q : ℕ → Vec Ideal S64x128 .bf16)
    (d : ℕ → Vec Ideal S64x256 .bf16)
    (inb : ∀ n, ∀ a, (![256 * (n % 4), 0] : Fin 2 → ℕ) a + S256x128.size a ≤ S1024x128.size a)
    (hL : ∀ n, n < 52 → L (n + 1) =
      ⟨Rect.unit ![256 * (n % 4), 0] S256x128.size (inb n), newSt (e n) (q n) (d n) (st n)⟩ :: L n)
    (h0 : ∀ n, n < 4 → ∀ (v : Fin 256) (k : Fin 128), st n (ix2 v k) = ((Ds D (64 - (13 * τ + 12)) n v k : ℝ) : EReal))
    (hst : ∀ n, n < 52 → 4 ≤ n → ∀ (v : Fin 256) (k : Fin 128),
      st n (ix2 v k) = View.canon (L n) (ix2 ⟨256 * (n % 4) + v, by have := v.isLt; omega⟩ k))
    (he : ∀ n, n < 52 → ∀ k : Fin 128, e n (ix2 0 k) = ((ec D (13 * τ + (12 - n / 4)) (128 * (n % 4) + k) : ℝ) : EReal))
    (hq : ∀ n, n < 52 → ∀ (i : Fin 64) (k : Fin 128),
      q n (ix2 i k) = ((D.z (64 * (13 * τ + (12 - n / 4)) + i) (128 * (n % 4) + k) : ℝ) : EReal))
    (hd : ∀ n, n < 52 → ∀ (i : Fin 64) (v : Fin 256),
      d n (ix2 i v) = ((dO D (13 * τ + (12 - n / 4)) i (n % 4) v : ℝ) : EReal)) :
    (∀ n, n < 52 → ∀ (v : Fin 256) (k : Fin 128),
      st n (ix2 v k) = ((Ds D (64 - (13 * τ + (12 - n / 4))) (n % 4) v k : ℝ) : EReal))
    ∧ ∀ (r : Fin 1024) (k : Fin 128),
      View.canon (L 52) (ix2 r k) = ((Ds D (64 - 13 * τ + 1) (r / 256) (r % 256) k : ℝ) : EReal) := by
  have key : ∀ n, n ≤ 52 → ∀ (r : Fin 1024) (k : Fin 128), (r : ℕ) / 256 < n →
      View.canon (L n) (ix2 r k)
        = ((Ds D (64 - (13 * τ + 12) + (n + 3 - r / 256) / 4) (r / 256) (r % 256) k : ℝ) : EReal) := by
    intro n
    induction n with
    | zero => intro _ r k h; omega
    | succ n ih =>
      intro hn r k hr
      have hs : ∀ (v : Fin 256) (k : Fin 128),
          st n (ix2 v k) = ((Ds D (64 - (13 * τ + (12 - n / 4))) (n % 4) v k : ℝ) : EReal) := by
        intro v k
        by_cases h4 : n < 4
        · rw [h0 n h4, show n / 4 = 0 by omega, show n % 4 = n by omega]
        · rw [hst n (by omega) (by omega), ih (by omega) _ _ (by show (256 * (n % 4) + (v : ℕ)) / 256 < n; omega)]
          show ((Ds D (64 - (13 * τ + 12) + (n + 3 - (256 * (n % 4) + v) / 256) / 4) ((256 * (n % 4) + v) / 256)
            ((256 * (n % 4) + v) % 256) k : ℝ) : EReal) = _
          rw [show (256 * (n % 4) + (v : ℕ)) / 256 = n % 4 by omega, show (256 * (n % 4) + (v : ℕ)) % 256 = v by omega,
            show 64 - (13 * τ + 12) + (n + 3 - n % 4) / 4 = 64 - (13 * τ + (12 - n / 4)) by omega]
      rw [hL n (by omega)]
      by_cases hm : (r : ℕ) / 256 = n % 4
      · rw [hit2 (inb n) _ _ (ix2 ⟨r % 256, by omega⟩ k) r k (by show (r : ℕ) = 256 * (n % 4) + r % 256; omega)
          (by show (k : ℕ) = 0 + k; omega)]
        rw [newSt_at (hq n (by omega)) (hd n (by omega)) hs (by omega) (he n (by omega))]
        rw [hm, show 64 - (13 * τ + (12 - n / 4)) + 1 = 64 - (13 * τ + 12) + (n + 1 + 3 - n % 4) / 4 by omega]
      · rw [miss2 (inb n) _ _ r k (by
          show (r : ℕ) < 256 * (n % 4) ∨ 256 * (n % 4) + 256 ≤ r ∨ _
          omega), ih (by omega) r k (by omega)]
        rw [show (n + 3 - (r : ℕ) / 256) / 4 = (n + 1 + 3 - r / 256) / 4 by omega]
  refine ⟨fun n hn v k => ?_, fun r k => ?_⟩
  · by_cases h4 : n < 4
    · rw [h0 n h4, show n / 4 = 0 by omega, show n % 4 = n by omega]
    · rw [hst n (by omega) (by omega), key n (by omega) _ _ (by show (256 * (n % 4) + (v : ℕ)) / 256 < n; omega)]
      show ((Ds D (64 - (13 * τ + 12) + (n + 3 - (256 * (n % 4) + v) / 256) / 4) ((256 * (n % 4) + v) / 256)
        ((256 * (n % 4) + v) % 256) k : ℝ) : EReal) = _
      rw [show (256 * (n % 4) + (v : ℕ)) / 256 = n % 4 by omega, show (256 * (n % 4) + (v : ℕ)) % 256 = v by omega,
        show 64 - (13 * τ + 12) + (n + 3 - n % 4) / 4 = 64 - (13 * τ + (12 - n / 4)) by omega]
  · rw [key 52 (by omega) r k (by omega), show 64 - (13 * τ + 12) + (52 + 3 - (r : ℕ) / 256) / 4 = 64 - 13 * τ + 1 by omega]

end Cert.Proof.Gla

end
-- ==== Proof.KerTile.lean ====
/- The blocks one grid point reads, the pieces it writes, and the pieces' values: everything the point leaves, at an index, for
   any states that the steps read. -/
module

public import proofs.«01_k».proof.Proof.KerBuf

@[expose] public section

set_option maxRecDepth 16384

noncomputable section

namespace Cert.Proof.Gla

open Idealize.ShloMosaic Cert.KernelIdeal Cert.KernelIdeal.Gen

/-- The buffers of a grid point and their contents. -/
structure Env where
  c : Dev nD
  i : grid0.Coords
  arg1 : Memref sig .tc .vmem S832x1024 .f32
  harg1 : arg1.IsWhole
  arg2 : Memref sig .tc .vmem S1024x1024 .bf16
  harg2 : arg2.IsWhole
  arg3 : Memref sig .tc .vmem S832x1024 .bf16
  harg3 : arg3.IsWhole
  arg4 : Memref sig .tc .vmem S832x3200 .bf16
  harg4 : arg4.IsWhole
  arg5 : Memref sig .tc .vmem S13x1024x128 .bf16
  harg5 : arg5.IsWhole
  arg6 : Memref sig .tc .vmem S128x512 .bf16
  harg6 : arg6.IsWhole
  arg7 : Memref sig .tc .vmem S1x512 .f32
  harg7 : arg7.IsWhole
  arg8 : Memref sig .tc .vmem S1x256 .f32
  harg8 : arg8.IsWhole
  arg9 : Memref sig .tc .vmem S832x3200 .bf16
  harg9 : arg9.IsWhole
  arg10 : Memref sig .tc .vmem S128x512 .f32
  harg10 : arg10.IsWhole
  arg11 : Memref sig .tc .vmem S1x512 .f32
  harg11 : arg11.IsWhole
  arg12 : Memref sig .tc .vmem S1x256 .f32
  harg12 : arg12.IsWhole
  arg13 : Memref sig .tc .vmem S1024x128 .f32
  harg13 : arg13.IsWhole
  arg14 : Memref sig .tc .vmem S832x512 .f32
  harg14 : arg14.IsWhole
  arg15 : Memref sig .tc .vmem S832x512 .f32
  harg15 : arg15.IsWhole
  arg16 : Memref sig .tc .vmem S832x512 .f32
  harg16 : arg16.IsWhole
  arg17 : Memref sig .tc .vmem S832x1024 .bf16
  harg17 : arg17.IsWhole
  arg18 : Memref sig .tc .vmem S104x512 .f32
  harg18 : arg18.IsWhole
  arg19 : Memref sig .tc .vmem S104x512 .f32
  harg19 : arg19.IsWhole
  x0 : Vec Ideal S832x1024 .f32
  x1 : Vec Ideal S1024x1024 .bf16
  x2 : Vec Ideal S832x1024 .bf16
  x3 : Vec Ideal S832x3200 .bf16
  x4 : Vec Ideal S13x1024x128 .bf16
  x5 : Vec Ideal S128x512 .bf16
  x6 : Vec Ideal S1x512 .f32
  x7 : Vec Ideal S1x256 .f32
  xo9 : Vec Ideal S128x512 .f32
  xo10 : Vec Ideal S1x512 .f32
  xo11 : Vec Ideal S1x256 .f32
  xs0 : Vec Ideal S1024x128 .f32

/-- The gradient of a head's output as it is stored. -/
def doOf' (x : Vec Ideal S832x1024 .f32) (o g : Vec Ideal S832x256 .bf16) (w : Vec Ideal S256x1024 .bf16)
    (n : Vec Ideal S1x256 .f32) : FVec Ideal S832x256 .bf16 :=
  k0_pay35 (k0_pay23 o) (k0_pay24 g) (k0_pay25 x w) (k0_pay26 g) (k0_pay27 o) k0_pay28 n

theorem do'_at {D : Data} {τ h : ℕ} {x : Vec Ideal S832x1024 .f32} {o g : Vec Ideal S832x256 .bf16}
    {w : Vec Ideal S256x1024 .bf16} {n : Vec Ideal S1x256 .f32} (H : HeadIn D τ h x o g w n) (r : Fin 832) (v : Fin 256) :
    doOf' x o g w n (ix2 r v) = ((dO D (13 * τ + r / 64) (r % 64) h v : ℝ) : EReal) := by
  have e := do_at H r v
  rw [doOf] at e
  pointwise [doOf', k0_pay35]
  exact e

/-- The gate's input. -/
def rR (E : Env) : Vec Ideal S832x128 .bf16 :=
  View.readAt (Elt Ideal) E.arg4.view (Rect.unit (s := S832x3200) ![0, 3072] S832x128.size (by
    intro a; match a with | ⟨0, _⟩ => (show 0 + 832 ≤ 832; omega) | ⟨1, _⟩ => (show 3072 + 128 ≤ 3200; omega))).toLoadRect (E.harg4.unread E.x3)

/-- The gate's weight. -/
def gwR (E : Env) : Vec Ideal S128x512 .bf16 :=
  View.readAt (Elt Ideal) E.arg6.view (Rect.unit (s := S128x512) ![0, 0] S128x512.size (by
    intro a; match a with | ⟨0, _⟩ => (show 0 + 128 ≤ 128; omega) | ⟨1, _⟩ => (show 0 + 512 ≤ 512; omega))).toLoadRect (E.harg6.unread E.x5)

/-- The gate's bias. -/
def gbR (E : Env) : Vec Ideal S1x512 .f32 :=
  View.readAt (Elt Ideal) E.arg7.view (Rect.unit (s := S1x512) ![0, 0] S1x512.size (by
    intro a; match a with | ⟨0, _⟩ => (show 0 + 1 ≤ 1; omega) | ⟨1, _⟩ => (show 0 + 512 ≤ 512; omega))).toLoadRect (E.harg7.unread E.x6)

/-- The keys. -/
def keyR (E : Env) : Vec Ideal S832x512 .bf16 :=
  View.readAt (Elt Ideal) E.arg4.view (Rect.unit (s := S832x3200) ![0, 512] S832x512.size (by
    intro a; match a with | ⟨0, _⟩ => (show 0 + 832 ≤ 832; omega) | ⟨1, _⟩ => (show 512 + 512 ≤ 3200; omega))).toLoadRect (E.harg4.unread E.x3)

/-- The gradient that comes in. -/
def xR (E : Env) : Vec Ideal S832x1024 .f32 :=
  View.readAt (Elt Ideal) E.arg1.view (Rect.unit (s := S832x1024) ![0, 0] S832x1024.size (by
    intro a; match a with | ⟨0, _⟩ => (show 0 + 832 ≤ 832; omega) | ⟨1, _⟩ => (show 0 + 1024 ≤ 1024; omega))).toLoadRect (E.harg1.unread E.x0)

/-- The gain. -/
def nR (E : Env) : Vec Ideal S1x256 .f32 :=
  View.readAt (Elt Ideal) E.arg8.view (Rect.unit (s := S1x256) ![0, 0] S1x256.size (by
    intro a; match a with | ⟨0, _⟩ => (show 0 + 1 ≤ 1; omega) | ⟨1, _⟩ => (show 0 + 256 ≤ 256; omega))).toLoadRect (E.harg8.unread E.x7)

/-- A head's output. -/
def oR (E : Env) (h : ℕ) : Vec Ideal S832x256 .bf16 :=
  View.readAt (Elt Ideal) E.arg3.view (Rect.unit (s := S832x1024) ![0, 256 * (h % 4)] S832x256.size (by
    intro a; match a with | ⟨0, _⟩ => (show 0 + 832 ≤ 832; omega) | ⟨1, _⟩ => (show 256 * (h % 4) + 256 ≤ 1024; omega))).toLoadRect (E.harg3.unread E.x2)

/-- A head's output gate. -/
def gR (E : Env) (h : ℕ) : Vec Ideal S832x256 .bf16 :=
  View.readAt (Elt Ideal) E.arg4.view (Rect.unit (s := S832x3200) ![0, 2048 + 256 * (h % 4)] S832x256.size (by
    intro a; match a with | ⟨0, _⟩ => (show 0 + 832 ≤ 832; omega) | ⟨1, _⟩ => (show 2048 + 256 * (h % 4) + 256 ≤ 3200; omega))).toLoadRect (E.harg4.unread E.x3)

/-- A head's output weight. -/
def wR (E : Env) (h : ℕ) : Vec Ideal S256x1024 .bf16 :=
  View.readAt (Elt Ideal) E.arg2.view (Rect.unit (s := S1024x1024) ![256 * (h % 4), 0] S256x1024.size (by
    intro a; match a with | ⟨0, _⟩ => (show 256 * (h % 4) + 256 ≤ 1024; omega) | ⟨1, _⟩ => (show 0 + 1024 ≤ 1024; omega))).toLoadRect (E.harg2.unread E.x1)

/-- A head's values. -/
def valR (E : Env) (h : ℕ) : Vec Ideal S832x256 .bf16 :=
  View.readAt (Elt Ideal) E.arg4.view (Rect.unit (s := S832x3200) ![0, 1024 + 256 * (h % 4)] S832x256.size (by
    intro a; match a with | ⟨0, _⟩ => (show 0 + 832 ≤ 832; omega) | ⟨1, _⟩ => (show 1024 + 256 * (h % 4) + 256 ≤ 3200; omega))).toLoadRect (E.harg4.unread E.x3)

/-- A head's states. -/
def stR (E : Env) (h : ℕ) : Vec Ideal S13x256x128 .bf16 :=
  View.readAt (Elt Ideal) E.arg5.view (Rect.unit (s := S13x1024x128) ![0, 256 * (h % 4), 0] S13x256x128.size (by
    intro a; match a with | ⟨0, _⟩ => (show 0 + 13 ≤ 13; omega) | ⟨1, _⟩ => (show 256 * (h % 4) + 256 ≤ 1024; omega) | ⟨2, _⟩ => (show 0 + 128 ≤ 128; omega))).toLoadRect (E.harg5.unread E.x4)

/-- A step's keys of the memory. -/
def qR (E : Env) (n : ℕ) : Vec Ideal S64x128 .bf16 :=
  View.readAt (Elt Ideal) E.arg4.view (Rect.unit (s := S832x3200) ![64 * (12 - n / 4), 128 * (n % 4)] S64x128.size (by
    intro a; match a with | ⟨0, _⟩ => (show 64 * (12 - n / 4) + 64 ≤ 832; omega) | ⟨1, _⟩ => (show 128 * (n % 4) + 128 ≤ 3200; omega))).toLoadRect (E.harg4.unread E.x3)

/-- A step's values. -/
def vR (E : Env) (n : ℕ) : Vec Ideal S64x256 .bf16 :=
  View.readAt (Elt Ideal) E.arg4.view (Rect.unit (s := S832x3200) ![64 * (12 - n / 4), 1024 + 256 * (n % 4)] S64x256.size (by
    intro a; match a with | ⟨0, _⟩ => (show 64 * (12 - n / 4) + 64 ≤ 832; omega) | ⟨1, _⟩ => (show 1024 + 256 * (n % 4) + 256 ≤ 3200; omega))).toLoadRect (E.harg4.unread E.x3)

/-- A step's state. -/
def aR (E : Env) (n : ℕ) : Vec Ideal S1x256x128 .bf16 :=
  View.readAt (Elt Ideal) E.arg5.view (Rect.unit (s := S13x1024x128) ![12 - n / 4, 256 * (n % 4), 0] S1x256x128.size (by
    intro a; match a with | ⟨0, _⟩ => (show 12 - n / 4 + 1 ≤ 13; omega) | ⟨1, _⟩ => (show 256 * (n % 4) + 256 ≤ 1024; omega) | ⟨2, _⟩ => (show 0 + 128 ≤ 128; omega))).toLoadRect (E.harg5.unread E.x4)

/-- The running sums of the logarithms of the decay, in two parts. -/
def c1 (E : Env) : FVec Ideal S13x64x512 .f32 := k0_pay11 (rR E) (gwR E) (gbR E)
def c2 (E : Env) : FVec Ideal S13x64x512 .f32 := k0_pay12 (rR E) (gwR E) (gbR E)

/-- What the buffers of the decays, of the decayed keys, of the outputs' gradients and of the chunks' decays hold. -/
def L1 (E : Env) : List (View.Piece (Elt Ideal) S832x512 .f32) :=
  [⟨Rect.unit (s := S832x512) ![0, 0] S832x512.size (by
    intro a; match a with | ⟨0, _⟩ => (show 0 + 832 ≤ 832; omega) | ⟨1, _⟩ => (show 0 + 512 ≤ 512; omega)), k0_pay16 (c1 E) (c2 E)⟩]
def L2 (E : Env) : List (View.Piece (Elt Ideal) S832x512 .f32) :=
  [⟨Rect.unit (s := S832x512) ![0, 0] S832x512.size (by
    intro a; match a with | ⟨0, _⟩ => (show 0 + 832 ≤ 832; omega) | ⟨1, _⟩ => (show 0 + 512 ≤ 512; omega)), k0_pay18 (c1 E) (c2 E) (keyR E)⟩]
def L5 (E : Env) : List (View.Piece (Elt Ideal) S104x512 .f32) :=
  [⟨Rect.unit (s := S104x512) ![0, 0] S104x512.size (by
    intro a; match a with | ⟨0, _⟩ => (show 0 + 104 ≤ 104; omega) | ⟨1, _⟩ => (show 0 + 512 ≤ 512; omega)), k0_pay20 (c1 E) (c2 E)⟩]
def P4 (E : Env) (h : ℕ) : View.Piece (Elt Ideal) S832x1024 .bf16 :=
  ⟨Rect.unit (s := S832x1024) ![0, 256 * (h % 4)] S832x256.size (by
    intro a; match a with | ⟨0, _⟩ => (show 0 + 832 ≤ 832; omega) | ⟨1, _⟩ => (show 256 * (h % 4) + 256 ≤ 1024; omega)), doOf' (xR E) (oR E h) (gR E h) (wR E h) (nR E)⟩
def L4 (E : Env) : List (View.Piece (Elt Ideal) S832x1024 .bf16) := pl (P4 E) [] 4

/-- A step's gradient of the output. -/
def dR (E : Env) (n : ℕ) : Vec Ideal S64x256 .bf16 :=
  View.readCov E.arg17.view (L4 E) (Rect.unit (s := S832x1024) ![64 * (12 - n / 4), 256 * (n % 4)] S64x256.size (by
    intro a; match a with | ⟨0, _⟩ => (show 64 * (12 - n / 4) + 64 ≤ 832; omega) | ⟨1, _⟩ => (show 256 * (n % 4) + 256 ≤ 1024; omega))).toLoadRect

/-- A step's decayed keys. -/
def kR (E : Env) (n : ℕ) : Vec Ideal S64x128 .f32 :=
  View.readCov E.arg15.view (L2 E) (Rect.unit (s := S832x512) ![64 * (12 - n / 4), 128 * (n % 4)] S64x128.size (by
    intro a; match a with | ⟨0, _⟩ => (show 64 * (12 - n / 4) + 64 ≤ 832; omega) | ⟨1, _⟩ => (show 128 * (n % 4) + 128 ≤ 512; omega))).toLoadRect

/-- A step's decay. -/
def eR (E : Env) (n : ℕ) : Vec Ideal S8x512 .f32 :=
  View.readCov E.arg18.view (L5 E) (Rect.unit (s := S104x512) ![8 * (12 - n / 4), 0] S8x512.size (by
    intro a; match a with | ⟨0, _⟩ => (show 8 * (12 - n / 4) + 8 ≤ 104; omega) | ⟨1, _⟩ => (show 0 + 512 ≤ 512; omega))).toLoadRect

/-- The pieces a step writes: the gradients of its values, of its decayed keys, of its whole sum. -/
def P8 (E : Env) (st : ℕ → Vec Ideal S256x128 .f32) (n : ℕ) : View.Piece (Elt Ideal) S832x3200 .bf16 :=
  ⟨Rect.unit (s := S832x3200) ![64 * (12 - n / 4), 1024 + 256 * (n % 4)] S64x256.size (by
    intro a; match a with | ⟨0, _⟩ => (show 64 * (12 - n / 4) + 64 ≤ 832; omega) | ⟨1, _⟩ => (show 1024 + 256 * (n % 4) + 256 ≤ 3200; omega)), dvOf (kR E n) (qR E n) (dR E n) (st n)⟩
def P3 (E : Env) (st : ℕ → Vec Ideal S256x128 .f32) (n : ℕ) : View.Piece (Elt Ideal) S832x512 .f32 :=
  ⟨Rect.unit (s := S832x512) ![64 * (12 - n / 4), 128 * (n % 4)] S64x128.size (by
    intro a; match a with | ⟨0, _⟩ => (show 64 * (12 - n / 4) + 64 ≤ 832; omega) | ⟨1, _⟩ => (show 128 * (n % 4) + 128 ≤ 512; omega)), dkOf (vR E n) (qR E n) (dR E n) (st n)⟩
def P6 (E : Env) (st : ℕ → Vec Ideal S256x128 .f32) (n : ℕ) : View.Piece (Elt Ideal) S104x512 .f32 :=
  ⟨Rect.unit (s := S104x512) ![8 * (12 - n / 4), 128 * (n % 4)] S8x128.size (by
    intro a; match a with | ⟨0, _⟩ => (show 8 * (12 - n / 4) + 8 ≤ 104; omega) | ⟨1, _⟩ => (show 128 * (n % 4) + 128 ≤ 512; omega)), dtOf (esl (n % 4) (eR E n)) (aR E n) (qR E n) (dR E n) (st n)⟩
def P0 (E : Env) (st : ℕ → Vec Ideal S256x128 .f32) (n : ℕ) : View.Piece (Elt Ideal) S1024x128 .f32 :=
  ⟨Rect.unit (s := S1024x128) ![256 * (n % 4), 0] S256x128.size (by
    intro a; match a with | ⟨0, _⟩ => (show 256 * (n % 4) + 256 ≤ 1024; omega) | ⟨1, _⟩ => (show 0 + 128 ≤ 128; omega)), newSt (esl (n % 4) (eR E n)) (qR E n) (dR E n) (st n)⟩
def L3 (E : Env) (st : ℕ → Vec Ideal S256x128 .f32) : List (View.Piece (Elt Ideal) S832x512 .f32) := pl (P3 E st) [] 52
def L6 (E : Env) (st : ℕ → Vec Ideal S256x128 .f32) : List (View.Piece (Elt Ideal) S104x512 .f32) := pl (P6 E st) [] 52

/-- The gradients of all the tile's decayed keys. -/
def dkAll (E : Env) (st : ℕ → Vec Ideal S256x128 .f32) : Vec Ideal S832x512 .f32 :=
  View.readCov E.arg16.view (L3 E st) (Rect.unit (s := S832x512) ![0, 0] S832x512.size (by
    intro a; match a with | ⟨0, _⟩ => (show 0 + 832 ≤ 832; omega) | ⟨1, _⟩ => (show 0 + 512 ≤ 512; omega))).toLoadRect

/-- All the tile's decays. -/
def decAll (E : Env) : Vec Ideal S832x512 .f32 :=
  View.readCov E.arg14.view (L1 E) (Rect.unit (s := S832x512) ![0, 0] S832x512.size (by
    intro a; match a with | ⟨0, _⟩ => (show 0 + 832 ≤ 832; omega) | ⟨1, _⟩ => (show 0 + 512 ≤ 512; omega))).toLoadRect

/-- All the tile's decayed keys. -/
def kdAll (E : Env) : Vec Ideal S832x512 .f32 :=
  View.readCov E.arg15.view (L2 E) (Rect.unit (s := S832x512) ![0, 0] S832x512.size (by
    intro a; match a with | ⟨0, _⟩ => (show 0 + 832 ≤ 832; omega) | ⟨1, _⟩ => (show 0 + 512 ≤ 512; omega))).toLoadRect

/-- The gradients of all the tile's whole sums. -/
def dtAll (E : Env) (st : ℕ → Vec Ideal S256x128 .f32) : Vec Ideal S104x512 .f32 :=
  View.readCov E.arg19.view (L6 E st) (Rect.unit (s := S104x512) ![0, 0] S104x512.size (by
    intro a; match a with | ⟨0, _⟩ => (show 0 + 104 ≤ 104; omega) | ⟨1, _⟩ => (show 0 + 512 ≤ 512; omega))).toLoadRect

/-- The pieces of the heads: the gradients of the queries and of the output gates. -/
def H8 (E : Env) : List (View.Piece (Elt Ideal) S832x3200 .bf16) := [
  ⟨Rect.unit (s := S832x3200) ![0, 384] S832x128.size (by
    intro a; match a with | ⟨0, _⟩ => (show 0 + 832 ≤ 832; omega) | ⟨1, _⟩ => (show 384 + 128 ≤ 3200; omega)), k0_pay79 (k0_pay17 (c1 E) (c2 E) (keyR E)) (k0_pay19 (c1 E) (c2 E)) (k0_pay71 (oR E 3)) (k0_pay72 (oR E 3)) (donOf (xR E) (gR E 3) (wR E 3)) (nR E) (valR E 3) (stR E 3)⟩,
  ⟨Rect.unit (s := S832x3200) ![0, 2816] S832x256.size (by
    intro a; match a with | ⟨0, _⟩ => (show 0 + 832 ≤ 832; omega) | ⟨1, _⟩ => (show 2816 + 256 ≤ 3200; omega)), dgOf (xR E) (oR E 3) (gR E 3) (wR E 3) (nR E)⟩,
  ⟨Rect.unit (s := S832x3200) ![0, 256] S832x128.size (by
    intro a; match a with | ⟨0, _⟩ => (show 0 + 832 ≤ 832; omega) | ⟨1, _⟩ => (show 256 + 128 ≤ 3200; omega)), k0_pay66 (k0_pay64 (k0_pay55 (oR E 2)) (k0_pay56 (oR E 2)) (donOf (xR E) (gR E 2) (wR E 2)) (nR E)) (k0_pay65 (k0_pay17 (c1 E) (c2 E) (keyR E)) (k0_pay19 (c1 E) (c2 E)) (valR E 2) (stR E 2)) (constant S13x64x128 FTy.f32 0#32)⟩,
  ⟨Rect.unit (s := S832x3200) ![0, 2560] S832x256.size (by
    intro a; match a with | ⟨0, _⟩ => (show 0 + 832 ≤ 832; omega) | ⟨1, _⟩ => (show 2560 + 256 ≤ 3200; omega)), dgOf (xR E) (oR E 2) (gR E 2) (wR E 2) (nR E)⟩,
  ⟨Rect.unit (s := S832x3200) ![0, 128] S832x128.size (by
    intro a; match a with | ⟨0, _⟩ => (show 0 + 832 ≤ 832; omega) | ⟨1, _⟩ => (show 128 + 128 ≤ 3200; omega)), k0_pay50 (k0_pay19 (c1 E) (c2 E)) (doOf (xR E) (oR E 1) (gR E 1) (wR E 1) (nR E)) (k0_pay48 (valR E 1)) (k0_pay49 (k0_pay17 (c1 E) (c2 E) (keyR E))) (stR E 1)⟩,
  ⟨Rect.unit (s := S832x3200) ![0, 2304] S832x256.size (by
    intro a; match a with | ⟨0, _⟩ => (show 0 + 832 ≤ 832; omega) | ⟨1, _⟩ => (show 2304 + 256 ≤ 3200; omega)), dgOf (xR E) (oR E 1) (gR E 1) (wR E 1) (nR E)⟩,
  ⟨Rect.unit (s := S832x3200) ![0, 0] S832x128.size (by
    intro a; match a with | ⟨0, _⟩ => (show 0 + 832 ≤ 832; omega) | ⟨1, _⟩ => (show 0 + 128 ≤ 3200; omega)), k0_pay36 (k0_pay17 (c1 E) (c2 E) (keyR E)) (k0_pay19 (c1 E) (c2 E)) (doOf (xR E) (oR E 0) (gR E 0) (wR E 0) (nR E)) (valR E 0) (stR E 0)⟩,
  ⟨Rect.unit (s := S832x3200) ![0, 2048] S832x256.size (by
    intro a; match a with | ⟨0, _⟩ => (show 0 + 832 ≤ 832; omega) | ⟨1, _⟩ => (show 2048 + 256 ≤ 3200; omega)), dgOf (xR E) (oR E 0) (gR E 0) (wR E 0) (nR E)⟩]

/-- All the pieces of the gradient of the projected rows. -/
def L8 (E : Env) (st : ℕ → Vec Ideal S256x128 .f32) : List (View.Piece (Elt Ideal) S832x3200 .bf16) :=
  ⟨Rect.unit (s := S832x3200) ![0, 3072] S832x128.size (by
    intro a; match a with | ⟨0, _⟩ => (show 0 + 832 ≤ 832; omega) | ⟨1, _⟩ => (show 3072 + 128 ≤ 3200; omega)), k0_pay536 k0_pay530 (k0_pay532 (dkAll E st) (kdAll E)) (k0_pay533 (dkAll E st) (kdAll E)) (dtAll E st) (rR E) (gwR E) (gbR E) (gwR E)⟩
  :: ⟨Rect.unit (s := S832x3200) ![0, 512] S832x512.size (by
    intro a; match a with | ⟨0, _⟩ => (show 0 + 832 ≤ 832; omega) | ⟨1, _⟩ => (show 512 + 512 ≤ 3200; omega)), k0_pay529 (dkAll E st) (decAll E)⟩
  :: pl (P8 E st) (H8 E) 52

/-- What the point adds to the gradient of the gain. -/
def dhgAll (E : Env) : FVec Ideal S1x256 .f32 :=
  dhgOf (dhgOf (dhgOf (dhgOf k0_pay21 (xR E) (oR E 0) (gR E 0) (wR E 0)) (xR E) (oR E 1) (gR E 1) (wR E 1))
    (xR E) (oR E 2) (gR E 2) (wR E 2)) (xR E) (oR E 3) (gR E 3) (wR E 3)

/-- What the point makes of the gradient of the gate's weight, and of its bias and the gain, from what they held. -/
def dgwNew (E : Env) (st : ℕ → Vec Ideal S256x128 .f32) (x : Vec Ideal S128x512 .f32) : FVec Ideal S128x512 .f32 :=
  k0_pay537 k0_pay530 (k0_pay532 (dkAll E st) (kdAll E)) (k0_pay533 (dkAll E st) (kdAll E)) (dtAll E st) (rR E) (gwR E)
    (gbR E) x (rR E)
def dgbNew (E : Env) (st : ℕ → Vec Ideal S256x128 .f32) (x : Vec Ideal S1x512 .f32) : FVec Ideal S1x512 .f32 :=
  k0_pay1 (dpreOf (dkAll E st) (kdAll E) (dtAll E st) (rR E) (gwR E) (gbR E)) x
def dhgNew (E : Env) (x : Vec Ideal S1x256 .f32) : FVec Ideal S1x256 .f32 := k0_pay81 (dhgAll E) (k0_pay80 x)

end Cert.Proof.Gla

end
-- ==== Proof.KerFacts.lean ====
/- What one grid point's pieces hold, when its blocks hold the data and the states that its steps read are the
   specification's. -/
module

public import proofs.«01_k».proof.Proof.KerTile

@[expose] public section

set_option maxRecDepth 16384

noncomputable section

namespace Cert.Proof.Gla

open Idealize.ShloMosaic Cert.KernelIdeal Cert.KernelIdeal.Gen

/-- The blocks of a point hold the rows of tile `τ`. -/
structure Tile (D : Data) (τ : ℕ) (E : Env) : Prop where
  lt : τ ≤ 4
  dh : ∀ (r : Fin 832) (m : Fin 1024), E.x0 (ix2 r m) = ((D.dh (64 * (13 * τ + r / 64) + r % 64) m : ℝ) : EReal)
  wo : ∀ (a b : Fin 1024), E.x1 (ix2 a b) = ((D.wo a b : ℝ) : EReal)
  o : ∀ (r : Fin 832) (m : Fin 1024), E.x2 (ix2 r m) = ((D.o (64 * (13 * τ + r / 64) + r % 64) m : ℝ) : EReal)
  z : ∀ (r : Fin 832) (m : Fin 3200), E.x3 (ix2 r m) = ((D.z (64 * (13 * τ + r / 64) + r % 64) m : ℝ) : EReal)
  st : ∀ (c : Fin 13) (a : Fin 1024) (k : Fin 128), E.x4 (ix3 c a k) = ((D.st (13 * τ + c) a k : ℝ) : EReal)
  gw : ∀ (a : Fin 128) (b : Fin 512), E.x5 (ix2 a b) = ((D.gw a b : ℝ) : EReal)
  gb : ∀ b : Fin 512, E.x6 (ix2 0 b) = ((D.gb b : ℝ) : EReal)
  hg : ∀ v : Fin 256, E.x7 (ix2 0 v) = ((D.hg v : ℝ) : EReal)
  eps : Ideal.ofBits .f32 0x3727C5AC#32 = ((D.eps : ℝ) : EReal)
  scale : Ideal.ofBits .f32 0x3DB504F3#32 = ((D.scale : ℝ) : EReal)

theorem fz {n : ℕ} (i : Fin n) (h : 0 + (i : ℕ) < n) : (⟨0 + i, h⟩ : Fin n) = i := Fin.ext (Nat.zero_add _)

theorem crow_div (c : ℕ) (i : Fin 64) : (64 * c + i) / 64 = c := by omega
theorem crow_mod (c : ℕ) (i : Fin 64) : (64 * c + i) % 64 = i := by omega

/-- A function of an array's index that is one of its two numbers. -/
def Gx {A B : ℕ} {α : Type} (G : ℕ → ℕ → α) (y : (⟨2, ![A, B]⟩ : Shape).Idx) : α := G (y 0) (y 1)

theorem inb2 {A B n m a b : ℕ} (h0 : a + n ≤ A) (h1 : b + m ≤ B) (x : Fin 2) :
    (![a, b] : Fin 2 → ℕ) x + (⟨2, ![n, m]⟩ : Shape).size x ≤ (⟨2, ![A, B]⟩ : Shape).size x :=
  match x with
  | ⟨0, _⟩ => h0
  | ⟨1, _⟩ => h1

theorem memG {A B n m a b : ℕ} (h0 : a + n ≤ A) (h1 : b + m ≤ B) (i : Fin A) (j : Fin B) (h : a ≤ i) (h' : (i : ℕ) < a + n)
    (k : b ≤ j) (k' : (j : ℕ) < b + m) :
    ix2 i j ∈ (Rect.unit (s := ⟨2, ![A, B]⟩) ![a, b] (⟨2, ![n, m]⟩ : Shape).size (inb2 h0 h1)).set :=
  mem2_of _ i j h h' k k'

theorem pieceG {e : EltTy} {A B n m : ℕ} {off : Fin 2 → ℕ}
    (inb : ∀ a, off a + (⟨2, ![n, m]⟩ : Shape).size a ≤ (⟨2, ![A, B]⟩ : Shape).size a)
    (w : Vec Ideal ⟨2, ![n, m]⟩ e) (G : ℕ → ℕ → Elt Ideal e)
    (h : ∀ (i : Fin n) (j : Fin m), w (ix2 i j) = G (off 0 + i) (off 1 + j))
    (x : (Rect.unit (s := ⟨2, ![A, B]⟩) off (⟨2, ![n, m]⟩ : Shape).size inb).shape.Idx) :
    w x = Gx G ((Rect.unit (s := ⟨2, ![A, B]⟩) off (⟨2, ![n, m]⟩ : Shape).size inb).emb x) := by
  have e : x = ix2 (n0 := n) (n1 := m) (x 0) (x 1) := by
    funext a; match a with
    | ⟨0, _⟩ => rfl
    | ⟨1, _⟩ => rfl
  have h' := h (x 0) (x 1)
  rw [← e] at h'
  rw [h']
  show _ = G (off 0 + 1 * (x 0 : ℕ)) (off 1 + 1 * (x 1 : ℕ))
  rw [one_mul, one_mul]

theorem canonG {e : EltTy} {A B : ℕ} (L : List (View.Piece (Elt Ideal) ⟨2, ![A, B]⟩ e)) (G : ℕ → ℕ → Elt Ideal e)
    (hp : ∀ p ∈ L, ∀ x, p.2 x = Gx G (p.1.emb x)) (i : Fin A) (j : Fin B) (hc : ∃ p ∈ L, ix2 i j ∈ p.1.set) :
    View.canon L (ix2 i j) = G i j :=
  View.canon_apply_of_pieces (Gx G) L hp (ix2 i j) hc

section
variable {e : EltTy} {A B n m : ℕ} {off : Fin 2 → ℕ}

theorem rd2' {a : Memref sig .tc .vmem ⟨2, ![A, B]⟩ e} (h : a.IsWhole) (X : Vec Ideal ⟨2, ![A, B]⟩ e)
    (inb : ∀ a, off a + (⟨2, ![n, m]⟩ : Shape).size a ≤ (⟨2, ![A, B]⟩ : Shape).size a) (p : Fin n) (q : Fin m)
    (i : Fin A) (j : Fin B) (h0 : (i : ℕ) = off 0 + p) (h1 : (j : ℕ) = off 1 + q) :
    View.readAt (Elt Ideal) a.view (Rect.unit (s := ⟨2, ![A, B]⟩) off (⟨2, ![n, m]⟩ : Shape).size inb).toLoadRect
      (h.unread X) (ix2 p q) = X (ix2 i j) := rd2 h X inb (ix2 p q) i j h0 h1

theorem rd3' {A B C n m l : ℕ} {off : Fin 3 → ℕ} {a : Memref sig .tc .vmem ⟨3, ![A, B, C]⟩ e} (h : a.IsWhole)
    (X : Vec Ideal ⟨3, ![A, B, C]⟩ e)
    (inb : ∀ a, off a + (⟨3, ![n, m, l]⟩ : Shape).size a ≤ (⟨3, ![A, B, C]⟩ : Shape).size a) (p : Fin n) (q : Fin m) (s : Fin l)
    (i : Fin A) (j : Fin B) (k : Fin C) (h0 : (i : ℕ) = off 0 + p) (h1 : (j : ℕ) = off 1 + q) (h2 : (k : ℕ) = off 2 + s) :
    View.readAt (Elt Ideal) a.view (Rect.unit (s := ⟨3, ![A, B, C]⟩) off (⟨3, ![n, m, l]⟩ : Shape).size inb).toLoadRect
      (h.unread X) (ix3 p q s) = X (ix3 i j k) := rd3 h X inb (ix3 p q s) i j k h0 h1 h2

theorem rc2' (a : Memref sig .tc .vmem ⟨2, ![A, B]⟩ e) (L : List (View.Piece (Elt Ideal) ⟨2, ![A, B]⟩ e))
    (inb : ∀ a, off a + (⟨2, ![n, m]⟩ : Shape).size a ≤ (⟨2, ![A, B]⟩ : Shape).size a) (p : Fin n) (q : Fin m)
    (i : Fin A) (j : Fin B) (h0 : (i : ℕ) = off 0 + p) (h1 : (j : ℕ) = off 1 + q) :
    View.readCov a.view L (Rect.unit (s := ⟨2, ![A, B]⟩) off (⟨2, ![n, m]⟩ : Shape).size inb).toLoadRect (ix2 p q)
      = View.canon L (ix2 i j) := rc2 a L inb (ix2 p q) i j h0 h1

theorem hit2' (inb : ∀ a, off a + (⟨2, ![n, m]⟩ : Shape).size a ≤ (⟨2, ![A, B]⟩ : Shape).size a)
    (w : Vec Ideal ⟨2, ![n, m]⟩ e) (L : List (View.Piece (Elt Ideal) ⟨2, ![A, B]⟩ e)) (p : Fin n) (q : Fin m)
    (i : Fin A) (j : Fin B) (h0 : (i : ℕ) = off 0 + p) (h1 : (j : ℕ) = off 1 + q) :
    View.canon (⟨Rect.unit (s := ⟨2, ![A, B]⟩) off (⟨2, ![n, m]⟩ : Shape).size inb, w⟩ :: L) (ix2 i j) = w (ix2 p q) :=
  hit2 inb w L (ix2 p q) i j h0 h1
end

variable {D : Data} {τ : ℕ} {E : Env}

section
variable (T : Tile D τ E)
include T

theorem rR_at (r : Fin 832) (j : Fin 128) :
    rR E (ix2 r j) = ((D.z (64 * (13 * τ + r / 64) + r % 64) (3072 + j) : ℝ) : EReal) := by
  rw [rR, rd2' E.harg4 E.x3 _ r j r ⟨3072 + j, by omega⟩ (Nat.zero_add _).symm rfl, T.z]

theorem gwR_at (a : Fin 128) (b : Fin 512) : gwR E (ix2 a b) = ((D.gw a b : ℝ) : EReal) := by
  rw [gwR, rd2' E.harg6 E.x5 _ a b a b (Nat.zero_add _).symm (Nat.zero_add _).symm, T.gw]

theorem gbR_at (b : Fin 512) : gbR E (ix2 0 b) = ((D.gb b : ℝ) : EReal) := by
  rw [gbR, rd2' E.harg7 E.x6 _ 0 b 0 b (Nat.zero_add _).symm (Nat.zero_add _).symm, T.gb]

theorem keyR_at (r : Fin 832) (m : Fin 512) :
    keyR E (ix2 r m) = ((D.z (64 * (13 * τ + r / 64) + r % 64) (512 + m) : ℝ) : EReal) := by
  rw [keyR, rd2' E.harg4 E.x3 _ r m r ⟨512 + m, by omega⟩ (Nat.zero_add _).symm rfl, T.z]

theorem headIn (h : ℕ) (hh : h < 4) : HeadIn D τ h (xR E) (oR E h) (gR E h) (wR E h) (nR E) where
  x r m := by rw [xR, rd2' E.harg1 E.x0 _ r m r m (Nat.zero_add _).symm (Nat.zero_add _).symm, T.dh]
  o r v := by
    rw [oR, rd2' E.harg3 E.x2 _ r v r ⟨256 * (h % 4) + v, by omega⟩ (Nat.zero_add _).symm rfl, T.o]; simp only [Nat.mod_eq_of_lt hh]
  g r v := by
    rw [gR, rd2' E.harg4 E.x3 _ r v r ⟨2048 + 256 * (h % 4) + v, by omega⟩ (Nat.zero_add _).symm rfl, T.z]
    simp only [Nat.mod_eq_of_lt hh, gt, Nat.add_assoc]
  w v m := by
    rw [wR, rd2' E.harg2 E.x1 _ v m ⟨256 * (h % 4) + v, by omega⟩ m rfl (Nat.zero_add _).symm, T.wo]; simp only [Nat.mod_eq_of_lt hh]
  n v := by rw [nR, rd2' E.harg8 E.x7 _ 0 v 0 v (Nat.zero_add _).symm (Nat.zero_add _).symm, T.hg]
  eps := T.eps
  scale := T.scale

theorem valR_at (h : ℕ) (hh : h < 4) (r : Fin 832) (v : Fin 256) :
    valR E h (ix2 r v) = ((D.z (64 * (13 * τ + r / 64) + r % 64) (1024 + (256 * h + v)) : ℝ) : EReal) := by
  rw [valR, rd2' E.harg4 E.x3 _ r v r ⟨1024 + 256 * (h % 4) + v, by omega⟩ (Nat.zero_add _).symm rfl, T.z]
  simp only [Nat.mod_eq_of_lt hh, Nat.add_assoc]

theorem stR_at (h : ℕ) (hh : h < 4) (c : Fin 13) (v : Fin 256) (k : Fin 128) :
    stR E h (ix3 c v k) = ((D.st (13 * τ + c) (256 * h + v) k : ℝ) : EReal) := by
  rw [stR, rd3' E.harg5 E.x4 _ c v k c ⟨256 * (h % 4) + v, by omega⟩ k (Nat.zero_add _).symm rfl (Nat.zero_add _).symm,
    T.st]; simp only [Nat.mod_eq_of_lt hh]

theorem qR_at (n : ℕ) (i : Fin 64) (k : Fin 128) :
    qR E n (ix2 i k) = ((D.z (64 * (13 * τ + (12 - n / 4)) + i) (128 * (n % 4) + k) : ℝ) : EReal) := by
  rw [qR, rd2' E.harg4 E.x3 _ i k ⟨64 * (12 - n / 4) + i, by omega⟩ ⟨128 * (n % 4) + k, by omega⟩ rfl rfl, T.z]
  simp only [crow_div, crow_mod]

theorem vR_at (n : ℕ) (i : Fin 64) (v : Fin 256) :
    vR E n (ix2 i v) = ((D.z (64 * (13 * τ + (12 - n / 4)) + i) (1024 + (256 * (n % 4) + v)) : ℝ) : EReal) := by
  rw [vR, rd2' E.harg4 E.x3 _ i v ⟨64 * (12 - n / 4) + i, by omega⟩ ⟨1024 + 256 * (n % 4) + v, by omega⟩ rfl rfl, T.z]
  simp only [crow_div, crow_mod, Nat.add_assoc]

theorem aR_at (n : ℕ) (v : Fin 256) (k : Fin 128) :
    aR E n (ix3 0 v k) = ((D.st (13 * τ + (12 - n / 4)) (256 * (n % 4) + v) k : ℝ) : EReal) := by
  rw [aR, rd3' E.harg5 E.x4 _ 0 v k ⟨12 - n / 4, by omega⟩ ⟨256 * (n % 4) + v, by omega⟩ k rfl rfl
    (Nat.zero_add _).symm, T.st]

theorem L1_at (r : Fin 832) (m : Fin 512) :
    View.canon (L1 E) (ix2 r m) = ((dec D (13 * τ + r / 64) (r % 64) m : ℝ) : EReal) := by
  rw [L1, hit2' _ _ _ r m r m (Nat.zero_add _).symm (Nat.zero_add _).symm]
  exact pay16_at (rR_at T) (gwR_at T) (gbR_at T) r m

theorem L2_at (r : Fin 832) (m : Fin 512) :
    View.canon (L2 E) (ix2 r m) = ((kd D (13 * τ + r / 64) (r % 64) (m / 128) (m % 128) : ℝ) : EReal) := by
  rw [L2, hit2' _ _ _ r m r m (Nat.zero_add _).symm (Nat.zero_add _).symm]
  exact pay18_at (rR_at T) (gwR_at T) (gbR_at T) (keyR_at T) r m

theorem L5_at (r : Fin 104) (m : Fin 512) :
    View.canon (L5 E) (ix2 r m) = ((ec D (13 * τ + r / 8) m : ℝ) : EReal) := by
  rw [L5, hit2' _ _ _ r m r m (Nat.zero_add _).symm (Nat.zero_add _).symm]
  exact pay20_at (rR_at T) (gwR_at T) (gbR_at T) r m

theorem L4_at (r : Fin 832) (m : Fin 1024) :
    View.canon (L4 E) (ix2 r m) = ((dO D (13 * τ + r / 64) (r % 64) (m / 256) (m % 256) : ℝ) : EReal) := by
  refine canonG (L4 E) (fun r m => ((dO D (13 * τ + r / 64) (r % 64) (m / 256) (m % 256) : ℝ) : EReal)) (fun p hp => ?_) r m
    ⟨_, pl_mem (k := (m : ℕ) / 256) (by omega), ?_⟩
  · rcases mem_pl hp with h | ⟨h, hh, rfl⟩
    · simp at h
    · refine pieceG (inb2 (by omega) (by omega)) _ _ fun i v => ?_
      refine (do'_at (headIn T h hh) i v).trans ?_
      show _ = ((dO D (13 * τ + (0 + i) / 64) ((0 + i) % 64) ((256 * (h % 4) + v) / 256) ((256 * (h % 4) + v) % 256) : ℝ) : EReal)
      rw [Nat.zero_add, show (256 * (h % 4) + (v : ℕ)) / 256 = h by omega, show (256 * (h % 4) + (v : ℕ)) % 256 = v by omega]
  · exact memG (by omega) (by omega) r m (by omega) (by omega) (by omega) (by omega)

theorem dR_at (n : ℕ) (i : Fin 64) (v : Fin 256) :
    dR E n (ix2 i v) = ((dO D (13 * τ + (12 - n / 4)) i (n % 4) v : ℝ) : EReal) := by
  rw [dR, rc2' E.arg17 _ _ i v ⟨64 * (12 - n / 4) + i, by omega⟩ ⟨256 * (n % 4) + v, by omega⟩ rfl rfl, L4_at T]
  simp only [crow_div, crow_mod]
  rw [show (256 * (n % 4) + (v : ℕ)) / 256 = n % 4 by omega, show (256 * (n % 4) + (v : ℕ)) % 256 = v by omega]

theorem kR_at (n : ℕ) (i : Fin 64) (k : Fin 128) :
    kR E n (ix2 i k) = ((kd D (13 * τ + (12 - n / 4)) i (n % 4) k : ℝ) : EReal) := by
  rw [kR, rc2' E.arg15 _ _ i k ⟨64 * (12 - n / 4) + i, by omega⟩ ⟨128 * (n % 4) + k, by omega⟩ rfl rfl, L2_at T]
  simp only [crow_div, crow_mod]
  rw [show (128 * (n % 4) + (k : ℕ)) / 128 = n % 4 by omega, show (128 * (n % 4) + (k : ℕ)) % 128 = k by omega]

theorem eR_at (n : ℕ) (m : Fin 512) : eR E n (ix2 0 m) = ((ec D (13 * τ + (12 - n / 4)) m : ℝ) : EReal) := by
  rw [eR, rc2' E.arg18 _ _ 0 m ⟨8 * (12 - n / 4) + 0, by omega⟩ ⟨0 + m, by omega⟩ rfl rfl, fz, L5_at T]
  show ((ec D (13 * τ + (8 * (12 - n / 4) + 0) / 8) m : ℝ) : EReal) = _
  rw [show (8 * (12 - n / 4) + 0) / 8 = 12 - n / 4 by omega]

theorem esl_eR (n : ℕ) (k : Fin 128) :
    esl (n % 4) (eR E n) (ix2 0 k) = ((ec D (13 * τ + (12 - n / 4)) (128 * (n % 4) + k) : ℝ) : EReal) :=
  esl_at (eR_at T n) (by omega) k

section
variable {st : ℕ → Vec Ideal S256x128 .f32} (hst : ∀ n, n < 52 → ∀ (v : Fin 256) (k : Fin 128),
  st n (ix2 v k) = ((Ds D (64 - (13 * τ + (12 - n / 4))) (n % 4) v k : ℝ) : EReal))
include hst

theorem dkAll_at (r : Fin 832) (m : Fin 512) :
    dkAll E st (ix2 r m) = ((dkd D (13 * τ + r / 64) (r % 64) (m / 128) (m % 128) : ℝ) : EReal) := by
  rw [dkAll, rc2' E.arg16 _ _ r m r m (Nat.zero_add _).symm (Nat.zero_add _).symm]
  refine canonG (L3 E st) (fun r m => ((dkd D (13 * τ + r / 64) (r % 64) (m / 128) (m % 128) : ℝ) : EReal)) (fun p hp => ?_) r m
    ⟨_, pl_mem (k := 4 * (12 - (r : ℕ) / 64) + (m : ℕ) / 128) (by omega), ?_⟩
  · rcases mem_pl hp with h | ⟨n, hn, rfl⟩
    · simp at h
    · refine pieceG (inb2 (by omega) (by omega)) _ _ fun i k => ?_
      refine (dkOf_at (qR_at T n) (dR_at T n) (hst n hn) (vR_at T n) i k).trans ?_
      show _ = ((dkd D (13 * τ + (64 * (12 - n / 4) + i) / 64) ((64 * (12 - n / 4) + i) % 64)
        ((128 * (n % 4) + k) / 128) ((128 * (n % 4) + k) % 128) : ℝ) : EReal)
      rw [crow_div, crow_mod, show (128 * (n % 4) + (k : ℕ)) / 128 = n % 4 by omega,
        show (128 * (n % 4) + (k : ℕ)) % 128 = k by omega]
  · exact memG (by omega) (by omega) r m (by omega) (by omega) (by omega) (by omega)

theorem dtAll_at (r : Fin 104) (m : Fin 512) :
    dtAll E st (ix2 r m) = ((dtot D (13 * τ + r / 8) (m / 128) (m % 128) : ℝ) : EReal) := by
  rw [dtAll, rc2' E.arg19 _ _ r m r m (Nat.zero_add _).symm (Nat.zero_add _).symm]
  refine canonG (L6 E st) (fun r m => ((dtot D (13 * τ + r / 8) (m / 128) (m % 128) : ℝ) : EReal)) (fun p hp => ?_) r m
    ⟨_, pl_mem (k := 4 * (12 - (r : ℕ) / 8) + (m : ℕ) / 128) (by omega), ?_⟩
  · rcases mem_pl hp with h | ⟨n, hn, rfl⟩
    · simp at h
    · refine pieceG (inb2 (by omega) (by omega)) _ _ fun i k => ?_
      refine (dtOf_at (qR_at T n) (dR_at T n) (hst n hn) (esl_eR T n) (aR_at T n) i k).trans ?_
      show _ = ((dtot D (13 * τ + (8 * (12 - n / 4) + i) / 8) ((128 * (n % 4) + k) / 128) ((128 * (n % 4) + k) % 128) : ℝ) : EReal)
      rw [show (8 * (12 - n / 4) + (i : ℕ)) / 8 = 12 - n / 4 by omega, show (128 * (n % 4) + (k : ℕ)) / 128 = n % 4 by omega,
        show (128 * (n % 4) + (k : ℕ)) % 128 = k by omega]
  · exact memG (by omega) (by omega) r m (by omega) (by omega) (by omega) (by omega)

omit hst in
theorem decAll_at (r : Fin 832) (m : Fin 512) :
    decAll E (ix2 r m) = ((dec D (13 * τ + r / 64) (r % 64) m : ℝ) : EReal) := by
  rw [decAll, rc2' E.arg14 _ _ r m r m (Nat.zero_add _).symm (Nat.zero_add _).symm, L1_at T]

omit hst in
theorem kdAll_at (r : Fin 832) (m : Fin 512) :
    kdAll E (ix2 r m) = ((kd D (13 * τ + r / 64) (r % 64) (m / 128) (m % 128) : ℝ) : EReal) := by
  rw [kdAll, rc2' E.arg15 _ _ r m r m (Nat.zero_add _).symm (Nat.zero_add _).symm, L2_at T]

/-- What the point adds to the gradients of the gate's weight and bias. -/
theorem dgwNew_at (x : Vec Ideal S128x512 .f32) (j : Fin 128) (m : Fin 512) :
    dgwNew E st x (ix2 j m) = x (ix2 j m) + ((∑ c ∈ Finset.range 13, dgwC D (13 * τ + c) j m : ℝ) : EReal) := by
  rw [dgwNew, dgw_at (dkAll_at T hst) (kdAll_at T) (dtAll_at T hst) (rR_at T) (gwR_at T) (gbR_at T),
    tile_sum (fun C i => D.z (64 * C + i) (3072 + j) * dpre D C i m)]
  rfl

theorem dgbNew_at (x : Vec Ideal S1x512 .f32) (m : Fin 512) :
    dgbNew E st x (ix2 0 m) = x (ix2 0 m) + ((∑ c ∈ Finset.range 13, dgbC D (13 * τ + c) m : ℝ) : EReal) := by
  rw [dgbNew, dgb_at (dkAll_at T hst) (kdAll_at T) (dtAll_at T hst) (rR_at T) (gwR_at T) (gbR_at T),
    tile_sum (fun C i => dpre D C i m)]
  rfl

omit hst in
theorem dhgNew_at (x : Vec Ideal S1x256 .f32) (v : Fin 256) :
    dhgNew E x (ix2 0 v) = x (ix2 0 v) + ((∑ c ∈ Finset.range 13, dhgC D (13 * τ + c) v : ℝ) : EReal) := by
  have e : dhgAll E (ix2 0 v) = ((∑ c ∈ Finset.range 13, dhgC D (13 * τ + c) v : ℝ) : EReal) := by
    rw [dhgAll, dhg_at (headIn T 3 (by omega)), dhg_at (headIn T 2 (by omega)), dhg_at (headIn T 1 (by omega)),
      dhg_at (headIn T 0 (by omega))]
    pointwise [k0_pay21]
    simp only [fun h => tile_sum (τ := τ) (fun C i => don D C i h v * xh D C i h v), czero, cadd, dhgC]
    simp only [Fin.sum_univ_four, Finset.sum_add_distrib, zero_add]
    rfl
  pointwise [dhgNew, k0_pay81, k0_pay80]
  rw [e]

/-- The pieces that hold the gradient of the projected rows where they lie. -/
def GoodZ (D : Data) (τ : ℕ) (p : View.Piece (Elt Ideal) S832x3200 .bf16) : Prop :=
  ∀ x, p.2 x = Gx (A := 832) (B := 3200) (fun r c => ((dz D (13 * τ + r / 64) (r % 64) c : ℝ) : EReal)) (p.1.emb x)

omit T hst in
theorem goodZ_rows {n b : ℕ} {w : Vec Ideal ⟨2, ![832, n]⟩ .bf16} (h1 : b + n ≤ 3200)
    (h : ∀ (r : Fin 832) (j : Fin n), w (ix2 r j) = ((dz D (13 * τ + r / 64) (r % 64) (b + j) : ℝ) : EReal)) :
    GoodZ D τ ⟨Rect.unit (s := ⟨2, ![832, 3200]⟩) ![0, b] (⟨2, ![832, n]⟩ : Shape).size (inb2 (by omega) h1), w⟩ :=
  pieceG (inb2 (by omega) h1) w (fun r c => ((dz D (13 * τ + r / 64) (r % 64) c : ℝ) : EReal)) fun i j => by
    show _ = ((dz D (13 * τ + (0 + i) / 64) ((0 + i) % 64) (b + j) : ℝ) : EReal)
    rw [Nat.zero_add]
    exact h i j

omit T hst in
theorem dz_dq (C i h k : ℕ) (hh : h < 4) (hk : k < 128) : dz D C i (128 * h + k) = dq D C i h k := by
  rw [dz, if_pos (by omega), show (128 * h + k) / 128 = h by omega, show (128 * h + k) % 128 = k by omega]

omit T hst in
theorem dz_dk (C i m : ℕ) (hm : m < 512) : dz D C i (512 + m) = dk D C i (m / 128) (m % 128) := by
  rw [dz, if_neg (by omega), if_pos (by omega), show 512 + m - 512 = m by omega]

omit T hst in
theorem dz_dv (C i h v : ℕ) (hh : h < 4) (hv : v < 256) : dz D C i (1024 + 256 * h + v) = dv D C i h v := by
  rw [dz, if_neg (by omega), if_neg (by omega), if_pos (by omega), show (1024 + 256 * h + v - 1024) / 256 = h by omega,
    show (1024 + 256 * h + v - 1024) % 256 = v by omega]

omit T hst in
theorem dz_dg (C i h v : ℕ) (hh : h < 4) (hv : v < 256) : dz D C i (2048 + 256 * h + v) = dg D C i h v := by
  rw [dz, if_neg (by omega), if_neg (by omega), if_neg (by omega), if_pos (by omega),
    show (2048 + 256 * h + v - 2048) / 256 = h by omega, show (2048 + 256 * h + v - 2048) % 256 = v by omega]

omit T hst in
theorem dz_dr (C i j : ℕ) : dz D C i (3072 + j) = dr D C i j := by
  rw [dz, if_neg (by omega), if_neg (by omega), if_neg (by omega), if_neg (by omega), show 3072 + j - 3072 = j by omega]

omit hst in
theorem goodZ_dg {b : ℕ} (h : ℕ) (hh : h < 4) (hb : b = 2048 + 256 * h) (h1 : b + 256 ≤ 3200) :
    GoodZ D τ ⟨Rect.unit (s := ⟨2, ![832, 3200]⟩) ![0, b] (⟨2, ![832, 256]⟩ : Shape).size (inb2 (by omega) h1),
      dgOf (xR E) (oR E h) (gR E h) (wR E h) (nR E)⟩ := by
  subst hb
  exact goodZ_rows h1 fun r j => by rw [dg_at (headIn T h hh), dz_dg _ _ _ _ hh j.isLt]

omit hst in
theorem goodZ_H8 : ∀ p ∈ H8 E, GoodZ D τ p := by
  have hk := pay17_at (rR_at T) (gwR_at T) (gbR_at T) (keyR_at T)
  have he := pay19_at (rR_at T) (gwR_at T) (gbR_at T)
  have hd := fun h hh => do_at (headIn T h hh)
  simp only [H8, List.forall_mem_cons, List.not_mem_nil, false_implies, implies_true, and_true]
  refine ⟨?_, ?_, ?_, ?_, ?_, ?_, ?_, ?_⟩
  · exact goodZ_rows (by omega) fun r j => by
      refine (dq3_at hk he (hd 3 (by omega)) (valR_at T 3 (by omega)) (stR_at T 3 (by omega)) (hd 3 (by omega)) rfl r j).trans ?_
      rw [← dz_dq _ _ _ _ (by omega) j.isLt]
  · exact goodZ_dg T 3 (by omega) rfl (by omega)
  · exact goodZ_rows (by omega) fun r j => by
      refine (dq2_at hk he (hd 2 (by omega)) (valR_at T 2 (by omega)) (stR_at T 2 (by omega)) (fun c i v => ?_) rfl r j).trans ?_
      · pointwise [k0_pay64]
        refine (hd 2 (by omega) ⟨c * 64 + i, _⟩ v).trans ?_
        simp only [row_div, row_mod]
      rw [← dz_dq _ _ _ _ (by omega) j.isLt]
  · exact goodZ_dg T 2 (by omega) rfl (by omega)
  · exact goodZ_rows (by omega) fun r j => by
      refine (dq1_at hk he (hd 1 (by omega)) (valR_at T 1 (by omega)) (stR_at T 1 (by omega)) rfl r j).trans ?_
      rw [← dz_dq _ _ _ _ (by omega) j.isLt]
  · exact goodZ_dg T 1 (by omega) rfl (by omega)
  · exact goodZ_rows (by omega) fun r j => by
      refine (dq0_at hk he (hd 0 (by omega)) (valR_at T 0 (by omega)) (stR_at T 0 (by omega)) rfl r j).trans ?_
      rw [← dz_dq _ _ _ _ (by omega) j.isLt, Nat.mul_zero]
  · exact goodZ_dg T 0 (by omega) rfl (by omega)

theorem goodZ_dv (n : ℕ) (hn : n < 52) : GoodZ D τ (P8 E st n) := by
  refine pieceG (e := .bf16) (A := 832) (B := 3200) (n := 64) (m := 256)
    (off := ![64 * (12 - n / 4), 1024 + 256 * (n % 4)]) (inb2 (by omega) (by omega))
    (dvOf (kR E n) (qR E n) (dR E n) (st n)) (fun r c => ((dz D (13 * τ + r / 64) (r % 64) c : ℝ) : EReal)) fun i v => ?_
  · skip
    refine (dvOf_at (qR_at T n) (dR_at T n) (hst n hn) (kR_at T n) i v).trans ?_
    show _ = ((dz D (13 * τ + (64 * (12 - n / 4) + i) / 64) ((64 * (12 - n / 4) + i) % 64)
      (1024 + 256 * (n % 4) + v) : ℝ) : EReal)
    rw [crow_div, crow_mod, dz_dv _ _ _ _ (by omega) v.isLt]

/-- The gradient of the projected rows. -/
theorem L8_at (r : Fin 832) (c : Fin 3200) :
    View.canon (L8 E st) (ix2 r c) = ((dz D (13 * τ + r / 64) (r % 64) c : ℝ) : EReal) := by
  refine canonG (L8 E st) (fun r c => ((dz D (13 * τ + r / 64) (r % 64) c : ℝ) : EReal)) (fun p hp => ?_) r c ?_
  · show GoodZ D τ p
    rcases List.mem_cons.1 hp with rfl | hp
    · exact goodZ_rows (by omega) fun r j => by
        rw [dz_dr]
        exact dr_at (dkAll_at T hst) (kdAll_at T) (dtAll_at T hst) (rR_at T) (gwR_at T) (gbR_at T) r j
    rcases List.mem_cons.1 hp with rfl | hp
    · exact goodZ_rows (by omega) fun r m => by
        rw [dz_dk _ _ _ m.isLt]
        exact dk_at (dkAll_at T hst) (decAll_at T) r m
    rcases mem_pl hp with hp | ⟨n, hn, rfl⟩
    · exact goodZ_H8 T p hp
    · exact goodZ_dv T hst n hn
  · by_cases h5 : 3072 ≤ (c : ℕ)
    · exact ⟨_, List.mem_cons_self, memG (by omega) (by omega) r c (by omega) (by omega) (by omega) (by omega)⟩
    by_cases hk : 512 ≤ (c : ℕ) ∧ (c : ℕ) < 1024
    · exact ⟨_, List.mem_cons_of_mem _ List.mem_cons_self,
        memG (by omega) (by omega) r c (by omega) (by omega) (by omega) (by omega)⟩
    by_cases hv : 1024 ≤ (c : ℕ) ∧ (c : ℕ) < 2048
    · exact ⟨P8 E st (4 * (12 - (r : ℕ) / 64) + ((c : ℕ) - 1024) / 256), List.mem_cons_of_mem _ (List.mem_cons_of_mem _ (pl_mem (by omega))),
        memG (by omega) (by omega) r c (by omega) (by omega) (by omega) (by omega)⟩
    have : ∃ p ∈ H8 E, ix2 r c ∈ p.1.set := by
      by_cases c1 : (c : ℕ) < 128
      · exact ⟨(H8 E)[6]'(show 6 < 8 by omega), List.getElem_mem _, memG (by omega) (by omega) r c (by omega) (by omega) (by omega) (by omega)⟩
      by_cases c2 : (c : ℕ) < 256
      · exact ⟨(H8 E)[4]'(show 4 < 8 by omega), List.getElem_mem _, memG (by omega) (by omega) r c (by omega) (by omega) (by omega) (by omega)⟩
      by_cases c3 : (c : ℕ) < 384
      · exact ⟨(H8 E)[2]'(show 2 < 8 by omega), List.getElem_mem _, memG (by omega) (by omega) r c (by omega) (by omega) (by omega) (by omega)⟩
      by_cases c4 : (c : ℕ) < 512
      · exact ⟨(H8 E)[0]'(show 0 < 8 by omega), List.getElem_mem _, memG (by omega) (by omega) r c (by omega) (by omega) (by omega) (by omega)⟩
      by_cases c5 : (c : ℕ) < 2304
      · exact ⟨(H8 E)[7]'(show 7 < 8 by omega), List.getElem_mem _, memG (by omega) (by omega) r c (by omega) (by omega) (by omega) (by omega)⟩
      by_cases c6 : (c : ℕ) < 2560
      · exact ⟨(H8 E)[5]'(show 5 < 8 by omega), List.getElem_mem _, memG (by omega) (by omega) r c (by omega) (by omega) (by omega) (by omega)⟩
      by_cases c7 : (c : ℕ) < 2816
      · exact ⟨(H8 E)[3]'(show 3 < 8 by omega), List.getElem_mem _, memG (by omega) (by omega) r c (by omega) (by omega) (by omega) (by omega)⟩
      · exact ⟨(H8 E)[1]'(show 1 < 8 by omega), List.getElem_mem _, memG (by omega) (by omega) r c (by omega) (by omega) (by omega) (by omega)⟩
    obtain ⟨p, hp, hm⟩ := this
    exact ⟨p, List.mem_cons_of_mem _ (List.mem_cons_of_mem _ (tail_pl hp)), hm⟩
end
end

end Cert.Proof.Gla

end
-- ==== Proof.KerRunA.lean ====
/- The first grid point: the lists of pieces it leaves are the lists of the tile. -/
module

public import proofs.«01_k».proof.Proof.KerTile
import all proofs.«01_k».proof.Proof.Gen.KernelIdeal.Frame.RunA

@[expose] public section

set_option maxRecDepth 65536

noncomputable section

namespace Cert.Proof.Gla

open Idealize.ShloMosaic Cert.KernelIdeal Cert.KernelIdeal.Gen

/-- The states' buffer after `n` steps. -/
def LA (E : Env) (hc : cond0_0 E.i) : ℕ → List (View.Piece (Elt Ideal) S1024x128 .f32)
  | 0 => kernelRun0_A.sl.HS0_1 (F := Ideal)
  | 1 => kernelRun0_A.sl.HS0_2 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 2 => kernelRun0_A.sl.HS0_3 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 3 => kernelRun0_A.sl.HS0_4 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 4 => kernelRun0_A.sl.HS0_5 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 5 => kernelRun0_A.sl.HS0_6 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 6 => kernelRun0_A.sl.HS0_7 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 7 => kernelRun0_A.sl.HS0_8 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 8 => kernelRun0_A.sl.HS0_9 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 9 => kernelRun0_A.sl.HS0_10 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 10 => kernelRun0_A.sl.HS0_11 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 11 => kernelRun0_A.sl.HS0_12 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 12 => kernelRun0_A.sl.HS0_13 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 13 => kernelRun0_A.sl.HS0_14 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 14 => kernelRun0_A.sl.HS0_15 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 15 => kernelRun0_A.sl.HS0_16 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 16 => kernelRun0_A.sl.HS0_17 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 17 => kernelRun0_A.sl.HS0_18 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 18 => kernelRun0_A.sl.HS0_19 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 19 => kernelRun0_A.sl.HS0_20 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 20 => kernelRun0_A.sl.HS0_21 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 21 => kernelRun0_A.sl.HS0_22 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 22 => kernelRun0_A.sl.HS0_23 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 23 => kernelRun0_A.sl.HS0_24 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 24 => kernelRun0_A.sl.HS0_25 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 25 => kernelRun0_A.sl.HS0_26 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 26 => kernelRun0_A.sl.HS0_27 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 27 => kernelRun0_A.sl.HS0_28 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 28 => kernelRun0_A.sl.HS0_29 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 29 => kernelRun0_A.sl.HS0_30 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 30 => kernelRun0_A.sl.HS0_31 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 31 => kernelRun0_A.sl.HS0_32 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 32 => kernelRun0_A.sl.HS0_33 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 33 => kernelRun0_A.sl.HS0_34 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 34 => kernelRun0_A.sl.HS0_35 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 35 => kernelRun0_A.sl.HS0_36 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 36 => kernelRun0_A.sl.HS0_37 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 37 => kernelRun0_A.sl.HS0_38 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 38 => kernelRun0_A.sl.HS0_39 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 39 => kernelRun0_A.sl.HS0_40 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 40 => kernelRun0_A.sl.HS0_41 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 41 => kernelRun0_A.sl.HS0_42 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 42 => kernelRun0_A.sl.HS0_43 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 43 => kernelRun0_A.sl.HS0_44 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 44 => kernelRun0_A.sl.HS0_45 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 45 => kernelRun0_A.sl.HS0_46 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 46 => kernelRun0_A.sl.HS0_47 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 47 => kernelRun0_A.sl.HS0_48 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 48 => kernelRun0_A.sl.HS0_49 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 49 => kernelRun0_A.sl.HS0_50 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 50 => kernelRun0_A.sl.HS0_51 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 51 => kernelRun0_A.sl.HS0_52 (F := Ideal) E.c E.arg1 E.harg1 E.arg2 E.harg2 E.arg3 E.harg3 E.arg4 E.harg4 E.arg6 E.harg6 E.arg7 E.harg7 E.arg8 E.harg8 E.arg13 E.arg17 E.arg18 E.x0 E.x1 E.x2 E.x3 E.x5 E.x6 E.x7
  | 52 => (kernelRun0_A (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7).2.2.2.2.1
  | _ => []

/-- The state that step `n` reads. -/
def stA (E : Env) (hc : cond0_0 E.i) (n : ℕ) : Vec Ideal S256x128 .f32 :=
  View.readCov E.arg13.view (LA E hc n) (Rect.unit (s := S1024x128) ![256 * (n % 4), 0] S256x128.size (by
    intro a; match a with | ⟨0, _⟩ => (show 256 * (n % 4) + 256 ≤ 1024; omega) | ⟨1, _⟩ => (show 0 + 128 ≤ 128; omega))).toLoadRect

theorem LA_zero (E : Env) (hc : cond0_0 E.i) : LA E hc 0 = [⟨Rect.unit (s := S1024x128) ![0, 0] S1024x128.size (by
    intro a; match a with | ⟨0, _⟩ => (show 0 + 1024 ≤ 1024; omega) | ⟨1, _⟩ => (show 0 + 128 ≤ 128; omega)), k0_pay2 (F := Ideal)⟩] := rfl

theorem LA_succ (E : Env) (hc : cond0_0 E.i) : ∀ n, n < 52 → LA E hc (n + 1) = P0 E (stA E hc) n :: LA E hc n
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | n + 52, h => absurd h (by omega)

theorem L8A (E : Env) (hc : cond0_0 E.i) : (kernelRun0_A (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7).1 = L8 E (stA E hc) := rfl

theorem L9A (E : Env) (hc : cond0_0 E.i) : (kernelRun0_A (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7).2.1
    = [⟨Rect.unit (s := S128x512) ![0, 0] S128x512.size (by
    intro a; match a with | ⟨0, _⟩ => (show 0 + 128 ≤ 128; omega) | ⟨1, _⟩ => (show 0 + 512 ≤ 512; omega)), dgwNew E (stA E hc) (View.readCov E.arg10.view [⟨Rect.unit (s := S128x512) ![0, 0] S128x512.size (by
    intro a; match a with | ⟨0, _⟩ => (show 0 + 128 ≤ 128; omega) | ⟨1, _⟩ => (show 0 + 512 ≤ 512; omega)), k0_pay3 (F := Ideal)⟩] (Rect.unit (s := S128x512) ![0, 0] S128x512.size (by
    intro a; match a with | ⟨0, _⟩ => (show 0 + 128 ≤ 128; omega) | ⟨1, _⟩ => (show 0 + 512 ≤ 512; omega))).toLoadRect)⟩, ⟨Rect.unit (s := S128x512) ![0, 0] S128x512.size (by
    intro a; match a with | ⟨0, _⟩ => (show 0 + 128 ≤ 128; omega) | ⟨1, _⟩ => (show 0 + 512 ≤ 512; omega)), k0_pay3 (F := Ideal)⟩] := rfl

theorem L10A (E : Env) (hc : cond0_0 E.i) : (kernelRun0_A (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7).2.2.1
    = [⟨Rect.unit (s := S1x512) ![0, 0] S1x512.size (by
    intro a; match a with | ⟨0, _⟩ => (show 0 + 1 ≤ 1; omega) | ⟨1, _⟩ => (show 0 + 512 ≤ 512; omega)), dgbNew E (stA E hc) (View.readCov E.arg11.view [⟨Rect.unit (s := S1x512) ![0, 0] S1x512.size (by
    intro a; match a with | ⟨0, _⟩ => (show 0 + 1 ≤ 1; omega) | ⟨1, _⟩ => (show 0 + 512 ≤ 512; omega)), k0_pay4 (F := Ideal)⟩] (Rect.unit (s := S1x512) ![0, 0] S1x512.size (by
    intro a; match a with | ⟨0, _⟩ => (show 0 + 1 ≤ 1; omega) | ⟨1, _⟩ => (show 0 + 512 ≤ 512; omega))).toLoadRect)⟩, ⟨Rect.unit (s := S1x512) ![0, 0] S1x512.size (by
    intro a; match a with | ⟨0, _⟩ => (show 0 + 1 ≤ 1; omega) | ⟨1, _⟩ => (show 0 + 512 ≤ 512; omega)), k0_pay4 (F := Ideal)⟩] := rfl

theorem L11A (E : Env) (hc : cond0_0 E.i) : (kernelRun0_A (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7).2.2.2.1
    = [⟨Rect.unit (s := S1x256) ![0, 0] S1x256.size (by
    intro a; match a with | ⟨0, _⟩ => (show 0 + 1 ≤ 1; omega) | ⟨1, _⟩ => (show 0 + 256 ≤ 256; omega)), dhgNew E (View.readCov E.arg12.view [⟨Rect.unit (s := S1x256) ![0, 0] S1x256.size (by
    intro a; match a with | ⟨0, _⟩ => (show 0 + 1 ≤ 1; omega) | ⟨1, _⟩ => (show 0 + 256 ≤ 256; omega)), k0_pay5 (F := Ideal)⟩] (Rect.unit (s := S1x256) ![0, 0] S1x256.size (by
    intro a; match a with | ⟨0, _⟩ => (show 0 + 1 ≤ 1; omega) | ⟨1, _⟩ => (show 0 + 256 ≤ 256; omega))).toLoadRect)⟩, ⟨Rect.unit (s := S1x256) ![0, 0] S1x256.size (by
    intro a; match a with | ⟨0, _⟩ => (show 0 + 1 ≤ 1; omega) | ⟨1, _⟩ => (show 0 + 256 ≤ 256; omega)), k0_pay5 (F := Ideal)⟩] := rfl

theorem L0A (E : Env) (hc : cond0_0 E.i) : (kernelRun0_A (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7).2.2.2.2.1 = LA E hc 52 := rfl

end Cert.Proof.Gla

end
-- ==== Proof.KerRunB.lean ====
/- A grid point after the first: the lists of pieces it leaves are the lists of the tile. -/
module

public import proofs.«01_k».proof.Proof.KerTile
import all proofs.«01_k».proof.Proof.Gen.KernelIdeal.Frame.RunB

@[expose] public section

set_option maxRecDepth 65536

noncomputable section

namespace Cert.Proof.Gla

open Idealize.ShloMosaic Cert.KernelIdeal Cert.KernelIdeal.Gen

/-- The states' buffer after `n` steps. -/
def LB (E : Env) (hc : ¬cond0_0 E.i) : ℕ → List (View.Piece (Elt Ideal) S1024x128 .f32)
  | 1 => (kernelRun0_B.sl.HS0_4 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0).drop 3
  | 2 => (kernelRun0_B.sl.HS0_4 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0).drop 2
  | 3 => (kernelRun0_B.sl.HS0_4 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0).drop 1
  | 4 => kernelRun0_B.sl.HS0_4 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 5 => kernelRun0_B.sl.HS0_5 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 6 => kernelRun0_B.sl.HS0_6 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 7 => kernelRun0_B.sl.HS0_7 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 8 => kernelRun0_B.sl.HS0_8 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 9 => kernelRun0_B.sl.HS0_9 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 10 => kernelRun0_B.sl.HS0_10 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 11 => kernelRun0_B.sl.HS0_11 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 12 => kernelRun0_B.sl.HS0_12 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 13 => kernelRun0_B.sl.HS0_13 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 14 => kernelRun0_B.sl.HS0_14 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 15 => kernelRun0_B.sl.HS0_15 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 16 => kernelRun0_B.sl.HS0_16 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 17 => kernelRun0_B.sl.HS0_17 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 18 => kernelRun0_B.sl.HS0_18 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 19 => kernelRun0_B.sl.HS0_19 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 20 => kernelRun0_B.sl.HS0_20 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 21 => kernelRun0_B.sl.HS0_21 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 22 => kernelRun0_B.sl.HS0_22 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 23 => kernelRun0_B.sl.HS0_23 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 24 => kernelRun0_B.sl.HS0_24 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 25 => kernelRun0_B.sl.HS0_25 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 26 => kernelRun0_B.sl.HS0_26 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 27 => kernelRun0_B.sl.HS0_27 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 28 => kernelRun0_B.sl.HS0_28 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 29 => kernelRun0_B.sl.HS0_29 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 30 => kernelRun0_B.sl.HS0_30 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 31 => kernelRun0_B.sl.HS0_31 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 32 => kernelRun0_B.sl.HS0_32 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 33 => kernelRun0_B.sl.HS0_33 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 34 => kernelRun0_B.sl.HS0_34 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 35 => kernelRun0_B.sl.HS0_35 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 36 => kernelRun0_B.sl.HS0_36 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 37 => kernelRun0_B.sl.HS0_37 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 38 => kernelRun0_B.sl.HS0_38 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 39 => kernelRun0_B.sl.HS0_39 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 40 => kernelRun0_B.sl.HS0_40 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 41 => kernelRun0_B.sl.HS0_41 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 42 => kernelRun0_B.sl.HS0_42 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 43 => kernelRun0_B.sl.HS0_43 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 44 => kernelRun0_B.sl.HS0_44 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 45 => kernelRun0_B.sl.HS0_45 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 46 => kernelRun0_B.sl.HS0_46 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 47 => kernelRun0_B.sl.HS0_47 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 48 => kernelRun0_B.sl.HS0_48 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 49 => kernelRun0_B.sl.HS0_49 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 50 => kernelRun0_B.sl.HS0_50 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 51 => kernelRun0_B.sl.HS0_51 (F := Ideal) E.c E.arg1 E.harg1 E.arg2 E.harg2 E.arg3 E.harg3 E.arg4 E.harg4 E.arg6 E.harg6 E.arg7 E.harg7 E.arg8 E.harg8 E.arg13 E.harg13 E.arg17 E.arg18 E.x0 E.x1 E.x2 E.x3 E.x5 E.x6 E.x7 E.xs0
  | 52 => (kernelRun0_B (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 E.xo9 E.xo10 E.xo11 E.xs0).2.2.2.2.1
  | _ => []

/-- The state that step `n` reads. -/
def stB (E : Env) (hc : ¬cond0_0 E.i) (n : ℕ) : Vec Ideal S256x128 .f32 :=
  if n < 4 then View.readAt (Elt Ideal) E.arg13.view (Rect.unit (s := S1024x128) ![256 * (n % 4), 0] S256x128.size (by
    intro a; match a with | ⟨0, _⟩ => (show 256 * (n % 4) + 256 ≤ 1024; omega) | ⟨1, _⟩ => (show 0 + 128 ≤ 128; omega))).toLoadRect (E.harg13.unread E.xs0)
  else View.readCov E.arg13.view (LB E hc n) (Rect.unit (s := S1024x128) ![256 * (n % 4), 0] S256x128.size (by
    intro a; match a with | ⟨0, _⟩ => (show 256 * (n % 4) + 256 ≤ 1024; omega) | ⟨1, _⟩ => (show 0 + 128 ≤ 128; omega))).toLoadRect

theorem LB_succ (E : Env) (hc : ¬cond0_0 E.i) : ∀ n, n < 52 → LB E hc (n + 1) = P0 E (stB E hc) n :: LB E hc n
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | 16, _ => rfl
  | 17, _ => rfl
  | 18, _ => rfl
  | 19, _ => rfl
  | 20, _ => rfl
  | 21, _ => rfl
  | 22, _ => rfl
  | 23, _ => rfl
  | 24, _ => rfl
  | 25, _ => rfl
  | 26, _ => rfl
  | 27, _ => rfl
  | 28, _ => rfl
  | 29, _ => rfl
  | 30, _ => rfl
  | 31, _ => rfl
  | 32, _ => rfl
  | 33, _ => rfl
  | 34, _ => rfl
  | 35, _ => rfl
  | 36, _ => rfl
  | 37, _ => rfl
  | 38, _ => rfl
  | 39, _ => rfl
  | 40, _ => rfl
  | 41, _ => rfl
  | 42, _ => rfl
  | 43, _ => rfl
  | 44, _ => rfl
  | 45, _ => rfl
  | 46, _ => rfl
  | 47, _ => rfl
  | 48, _ => rfl
  | 49, _ => rfl
  | 50, _ => rfl
  | 51, _ => rfl
  | n + 52, h => absurd h (by omega)

theorem L8B (E : Env) (hc : ¬cond0_0 E.i) : (kernelRun0_B (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 E.xo9 E.xo10 E.xo11 E.xs0).1 = L8 E (stB E hc) := rfl

theorem L9B (E : Env) (hc : ¬cond0_0 E.i) : (kernelRun0_B (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 E.xo9 E.xo10 E.xo11 E.xs0).2.1
    = [⟨Rect.unit (s := S128x512) ![0, 0] S128x512.size (by
    intro a; match a with | ⟨0, _⟩ => (show 0 + 128 ≤ 128; omega) | ⟨1, _⟩ => (show 0 + 512 ≤ 512; omega)), dgwNew E (stB E hc) (View.readAt (Elt Ideal) E.arg10.view (Rect.unit (s := S128x512) ![0, 0] S128x512.size (by
    intro a; match a with | ⟨0, _⟩ => (show 0 + 128 ≤ 128; omega) | ⟨1, _⟩ => (show 0 + 512 ≤ 512; omega))).toLoadRect (E.harg10.unread E.xo9))⟩] := rfl

theorem L10B (E : Env) (hc : ¬cond0_0 E.i) : (kernelRun0_B (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 E.xo9 E.xo10 E.xo11 E.xs0).2.2.1
    = [⟨Rect.unit (s := S1x512) ![0, 0] S1x512.size (by
    intro a; match a with | ⟨0, _⟩ => (show 0 + 1 ≤ 1; omega) | ⟨1, _⟩ => (show 0 + 512 ≤ 512; omega)), dgbNew E (stB E hc) (View.readAt (Elt Ideal) E.arg11.view (Rect.unit (s := S1x512) ![0, 0] S1x512.size (by
    intro a; match a with | ⟨0, _⟩ => (show 0 + 1 ≤ 1; omega) | ⟨1, _⟩ => (show 0 + 512 ≤ 512; omega))).toLoadRect (E.harg11.unread E.xo10))⟩] := rfl

theorem L11B (E : Env) (hc : ¬cond0_0 E.i) : (kernelRun0_B (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 E.xo9 E.xo10 E.xo11 E.xs0).2.2.2.1
    = [⟨Rect.unit (s := S1x256) ![0, 0] S1x256.size (by
    intro a; match a with | ⟨0, _⟩ => (show 0 + 1 ≤ 1; omega) | ⟨1, _⟩ => (show 0 + 256 ≤ 256; omega)), dhgNew E (View.readAt (Elt Ideal) E.arg12.view (Rect.unit (s := S1x256) ![0, 0] S1x256.size (by
    intro a; match a with | ⟨0, _⟩ => (show 0 + 1 ≤ 1; omega) | ⟨1, _⟩ => (show 0 + 256 ≤ 256; omega))).toLoadRect (E.harg12.unread E.xo11))⟩] := rfl

theorem L0B (E : Env) (hc : ¬cond0_0 E.i) : (kernelRun0_B (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 E.xo9 E.xo10 E.xo11 E.xs0).2.2.2.2.1 = LB E hc 52 := rfl

end Cert.Proof.Gla

end
-- ==== Proof.KerOut.lean ====
/- What each grid point leaves, as the contents of the tile's lists of pieces. -/
module

public import proofs.«01_k».proof.Proof.KerRunA
public import proofs.«01_k».proof.Proof.KerRunB
public import proofs.«01_k».proof.Proof.Gen.KernelIdeal.Value

@[expose] public section

set_option maxRecDepth 16384

noncomputable section

namespace Cert.Proof.Gla

open Idealize.ShloMosaic Cert.KernelIdeal Cert.KernelIdeal.Gen

theorem z2 : (![0, 0] : Fin 2 → ℕ) = fun _ => 0 := by
  funext a
  match a with
  | ⟨0, _⟩ => rfl
  | ⟨1, _⟩ => rfl

theorem outA_8 (E : Env) (hc : cond0_0 E.i) : out0_A_8 (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 = View.canon (L8 E (stA E hc)) := by
  rw [out0_A_8, View.read_writes_junk_eq_canon, L8A]

theorem outA_s (E : Env) (hc : cond0_0 E.i) : sout0_A_0 (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 = View.canon (LA E hc 52) := by
  rw [sout0_A_0, View.read_writes_junk_eq_canon, L0A]

theorem outA_9 (E : Env) (hc : cond0_0 E.i) : out0_A_9 (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 = dgwNew E (stA E hc) (k0_pay3 (F := Ideal)) := by
  rw [out0_A_9, View.read_writes_junk_eq_canon, L9A, View.canon_cons_unit_zero z2, View.readCov_unit_zero _ z2]

theorem outA_10 (E : Env) (hc : cond0_0 E.i) : out0_A_10 (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 = dgbNew E (stA E hc) (k0_pay4 (F := Ideal)) := by
  rw [out0_A_10, View.read_writes_junk_eq_canon, L10A, View.canon_cons_unit_zero z2, View.readCov_unit_zero _ z2]

theorem outA_11 (E : Env) (hc : cond0_0 E.i) : out0_A_11 (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 = dhgNew E (k0_pay5 (F := Ideal)) := by
  rw [out0_A_11, View.read_writes_junk_eq_canon, L11A, View.canon_cons_unit_zero z2, View.readCov_unit_zero _ z2]

theorem outB_8 (E : Env) (hc : ¬cond0_0 E.i) : out0_B_8 (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 E.xo9 E.xo10 E.xo11 E.xs0 = View.canon (L8 E (stB E hc)) := by
  rw [out0_B_8, View.read_writes_junk_eq_canon, L8B]

theorem outB_s (E : Env) (hc : ¬cond0_0 E.i) : sout0_B_0 (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 E.xo9 E.xo10 E.xo11 E.xs0 = View.canon (LB E hc 52) := by
  rw [sout0_B_0, View.read_writes_junk_eq_canon, L0B]

theorem outB_9 (E : Env) (hc : ¬cond0_0 E.i) : out0_B_9 (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 E.xo9 E.xo10 E.xo11 E.xs0 = dgwNew E (stB E hc) E.xo9 := by
  rw [out0_B_9, View.read_writes_junk_eq_canon, L9B, View.canon_unit_zero z2, View.readAt_eq_ld, E.harg10.read_unread, View.ld_unit_zero z2]

theorem outB_10 (E : Env) (hc : ¬cond0_0 E.i) : out0_B_10 (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 E.xo9 E.xo10 E.xo11 E.xs0 = dgbNew E (stB E hc) E.xo10 := by
  rw [out0_B_10, View.read_writes_junk_eq_canon, L10B, View.canon_unit_zero z2, View.readAt_eq_ld, E.harg11.read_unread, View.ld_unit_zero z2]

theorem outB_11 (E : Env) (hc : ¬cond0_0 E.i) : out0_B_11 (F := Ideal) E.c E.i E.arg1 E.harg1 E.arg2 E.harg2 E.arg3 E.harg3 E.arg4 E.harg4 E.arg5 E.harg5 E.arg6 E.harg6 E.arg7 E.harg7 E.arg8 E.harg8 E.arg9 E.harg9 E.arg10 E.harg10 E.arg11 E.harg11 E.arg12 E.harg12 E.arg13 E.harg13 E.arg14 E.harg14 E.arg15 E.harg15 E.arg16 E.harg16 E.arg17 E.harg17 E.arg18 E.harg18 E.arg19 E.harg19 hc E.x0 E.x1 E.x2 E.x3 E.x4 E.x5 E.x6 E.x7 E.xo9 E.xo10 E.xo11 E.xs0 = dhgNew E E.xo11 := by
  rw [out0_B_11, View.read_writes_junk_eq_canon, L11B, View.canon_unit_zero z2, View.readAt_eq_ld, E.harg12.read_unread, View.ld_unit_zero z2]

end Cert.Proof.Gla

end
-- ==== Proof.KerPoint.lean ====
/- The grid's points: what each leaves in the blocks it writes and in the states' buffer. -/
module

public import proofs.«01_k».proof.Proof.KerFacts
public import proofs.«01_k».proof.Proof.KerOut

@[expose] public section

set_option maxRecDepth 16384

noncomputable section

namespace Cert.Proof.Gla

open Idealize.ShloMosaic Cert.KernelIdeal Cert.KernelIdeal.Gen

variable {D : Data}

section
variable {τ : ℕ} {E : Env}

/-- Before a head's first step the first point's buffer holds zero in the head's rows. -/
theorem LA_head (E : Env) (hc : cond0_0 E.i) (r : Fin 1024) (k : Fin 128) :
    ∀ n, n ≤ 4 → 256 * n ≤ (r : ℕ) → View.canon (LA E hc n) (ix2 r k) = ((0 : ℝ) : EReal)
  | 0, _, _ => by
    rw [LA_zero]
    refine (hit2' (e := .f32) (A := 1024) (B := 128) (n := 1024) (m := 128) (off := ![0, 0]) _ _ _ r k r k
      (Nat.zero_add _).symm (Nat.zero_add _).symm).trans ?_
    pointwise [k0_pay2]
    simp
  | n + 1, hn, h => by
    rw [LA_succ E hc n (by omega), P0, miss2 _ _ _ r k (by
      show (r : ℕ) < 256 * (n % 4) ∨ 256 * (n % 4) + 256 ≤ r ∨ _
      omega)]
    exact LA_head E hc r k n (by omega) (by omega)

/-- The states of the first point. -/
theorem chainA (T : Tile D 4 E) (hc : cond0_0 E.i) :
    (∀ n, n < 52 → ∀ (v : Fin 256) (k : Fin 128),
      stA E hc n (ix2 v k) = ((Ds D (64 - (13 * 4 + (12 - n / 4))) (n % 4) v k : ℝ) : EReal))
    ∧ ∀ (r : Fin 1024) (k : Fin 128),
      View.canon (LA E hc 52) (ix2 r k) = ((Ds D (64 - 13 * 4 + 1) (r / 256) (r % 256) k : ℝ) : EReal) := by
  refine chain (τ := 4) (by omega) (LA E hc) (stA E hc) (fun n => esl (n % 4) (eR E n)) (qR E) (dR E) _
    (fun n hn => LA_succ E hc n hn) (fun n hn v k => ?_) (fun n hn h4 v k => ?_)
    (fun n hn k => esl_eR T n k) (fun n hn i k => qR_at T n i k) (fun n hn i v => dR_at T n i v)
  · have := v.isLt
    rw [stA, rc2' E.arg13 _ _ v k ⟨256 * (n % 4) + v, by omega⟩ k rfl (Nat.zero_add _).symm,
      LA_head E hc _ _ n (by omega) (by show 256 * n ≤ 256 * (n % 4) + v; omega)]
    rfl
  · rw [stA, rc2' E.arg13 _ _ v k ⟨256 * (n % 4) + v, by omega⟩ k rfl (Nat.zero_add _).symm]

/-- The states of a later point, which starts from what the point before left. -/
theorem chainB (T : Tile D τ E) (hc : ¬cond0_0 E.i)
    (hx : ∀ (r : Fin 1024) (k : Fin 128), E.xs0 (ix2 r k) = ((Ds D (64 - (13 * τ + 12)) (r / 256) (r % 256) k : ℝ) : EReal)) :
    (∀ n, n < 52 → ∀ (v : Fin 256) (k : Fin 128),
      stB E hc n (ix2 v k) = ((Ds D (64 - (13 * τ + (12 - n / 4))) (n % 4) v k : ℝ) : EReal))
    ∧ ∀ (r : Fin 1024) (k : Fin 128),
      View.canon (LB E hc 52) (ix2 r k) = ((Ds D (64 - 13 * τ + 1) (r / 256) (r % 256) k : ℝ) : EReal) := by
  refine chain (τ := τ) T.lt (LB E hc) (stB E hc) (fun n => esl (n % 4) (eR E n)) (qR E) (dR E) _
    (fun n hn => LB_succ E hc n hn) (fun n hn v k => ?_) (fun n hn h4 v k => ?_)
    (fun n hn k => esl_eR T n k) (fun n hn i k => qR_at T n i k) (fun n hn i v => dR_at T n i v)
  · have := v.isLt
    rw [stB, if_pos hn, rd2' E.harg13 E.xs0 _ v k ⟨256 * (n % 4) + v, by omega⟩ k rfl (Nat.zero_add _).symm, hx]
    show ((Ds D _ ((256 * (n % 4) + v) / 256) ((256 * (n % 4) + v) % 256) k : ℝ) : EReal) = _
    rw [show (256 * (n % 4) + (v : ℕ)) / 256 = n by omega, show (256 * (n % 4) + (v : ℕ)) % 256 = v by omega]
  · rw [stB, if_neg (by omega), rc2' E.arg13 _ _ v k ⟨256 * (n % 4) + v, by omega⟩ k rfl (Nat.zero_add _).symm]
end

variable (m : (ℓ : Loc nD τ sig) → Buf (Elt Ideal) ℓ) (c : Dev nD)

/-- A point's buffers and blocks, and what the point before left in the buffers it carries. -/
def env (t : Fin cfg0.N) (p9 : Vec Ideal S128x512 .f32) (p10 : Vec Ideal S1x512 .f32) (p11 : Vec Ideal S1x256 .f32)
    (ps : Vec Ideal S1024x128 .f32) : Env where
  c := c
  i := grid0.coords t
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := ms0_8 t
  harg9 := hs0_8 t
  arg10 := ms0_9 t
  harg10 := hs0_9 t
  arg11 := ms0_10 t
  harg11 := hs0_10 t
  arg12 := ms0_11 t
  harg12 := hs0_11 t
  arg13 := scM0_0
  harg13 := Memref.isWhole_whole _
  arg14 := scM0_1
  harg14 := Memref.isWhole_whole _
  arg15 := scM0_2
  harg15 := Memref.isWhole_whole _
  arg16 := scM0_3
  harg16 := Memref.isWhole_whole _
  arg17 := scM0_4
  harg17 := Memref.isWhole_whole _
  arg18 := scM0_5
  harg18 := Memref.isWhole_whole _
  arg19 := scM0_6
  harg19 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t
  xo9 := p9
  xo10 := p10
  xo11 := p11
  xs0 := ps

section
variable {m c}

/-- What a point's five written blocks hold. -/
structure Holds (D : Data) (n : ℕ) (O : Vec Ideal S832x3200 .bf16 × Vec Ideal S128x512 .f32 × Vec Ideal S1x512 .f32
    × Vec Ideal S1x256 .f32 × Vec Ideal S1024x128 .f32) : Prop where
  z : ∀ (r : Fin 832) (k : Fin 3200), O.1 (ix2 r k) = ((dz D (13 * (4 - n) + r / 64) (r % 64) k : ℝ) : EReal)
  gw : ∀ (j : Fin 128) (k : Fin 512),
    O.2.1 (ix2 j k) = ((∑ t ∈ Finset.range (13 * n + 13), dgwC D (64 - t) j k : ℝ) : EReal)
  gb : ∀ k : Fin 512, O.2.2.1 (ix2 0 k) = ((∑ t ∈ Finset.range (13 * n + 13), dgbC D (64 - t) k : ℝ) : EReal)
  hg : ∀ v : Fin 256, O.2.2.2.1 (ix2 0 v) = ((∑ t ∈ Finset.range (13 * n + 13), dhgC D (64 - t) v : ℝ) : EReal)
  s : ∀ (r : Fin 1024) (k : Fin 128),
    O.2.2.2.2 (ix2 r k) = ((Ds D (64 - 13 * (4 - n) + 1) (r / 256) (r % 256) k : ℝ) : EReal)

/-- The sum over a tile's chunks is the next thirteen terms of the sum from the last chunk back. -/
theorem tile_range (f : ℕ → ℝ) (n : ℕ) (hn : n ≤ 4) :
    ∑ t ∈ Finset.range (13 * n + 13), f (64 - t)
      = ∑ t ∈ Finset.range (13 * n), f (64 - t) + ∑ c ∈ Finset.range 13, f (13 * (4 - n) + c) := by
  rw [Finset.sum_range_add, ← Finset.sum_range_reflect (fun c => f (13 * (4 - n) + c)) 13]
  refine congrArg _ (Finset.sum_congr rfl fun t ht => ?_)
  have := Finset.mem_range.1 ht
  refine congrArg f ?_
  omega

theorem atA_8 (t : Fin cfg0.N) (h0 : t.val % 5 = 0) (p9 : Vec Ideal S128x512 .f32) (p10 : Vec Ideal S1x512 .f32) (p11 : Vec Ideal S1x256 .f32) (ps : Vec Ideal S1024x128 .f32) (hc : cond0_0 (env m c t p9 p10 p11 ps).i) :
    (outsAt0 m c t.val t.isLt).1 = View.canon (L8 (env m c t p9 p10 p11 ps) (stA (env m c t p9 p10 p11 ps) hc)) := by
  simp only [outsAt0_A m c t h0]
  exact outA_8 (env m c t p9 p10 p11 ps) hc

theorem atA_9 (t : Fin cfg0.N) (h0 : t.val % 5 = 0) (p9 : Vec Ideal S128x512 .f32) (p10 : Vec Ideal S1x512 .f32) (p11 : Vec Ideal S1x256 .f32) (ps : Vec Ideal S1024x128 .f32) (hc : cond0_0 (env m c t p9 p10 p11 ps).i) :
    (outsAt0 m c t.val t.isLt).2.1 = dgwNew (env m c t p9 p10 p11 ps) (stA (env m c t p9 p10 p11 ps) hc) (k0_pay3 (F := Ideal)) := by
  simp only [outsAt0_A m c t h0]
  exact outA_9 (env m c t p9 p10 p11 ps) hc

theorem atA_10 (t : Fin cfg0.N) (h0 : t.val % 5 = 0) (p9 : Vec Ideal S128x512 .f32) (p10 : Vec Ideal S1x512 .f32) (p11 : Vec Ideal S1x256 .f32) (ps : Vec Ideal S1024x128 .f32) (hc : cond0_0 (env m c t p9 p10 p11 ps).i) :
    (outsAt0 m c t.val t.isLt).2.2.1 = dgbNew (env m c t p9 p10 p11 ps) (stA (env m c t p9 p10 p11 ps) hc) (k0_pay4 (F := Ideal)) := by
  simp only [outsAt0_A m c t h0]
  exact outA_10 (env m c t p9 p10 p11 ps) hc

theorem atA_11 (t : Fin cfg0.N) (h0 : t.val % 5 = 0) (p9 : Vec Ideal S128x512 .f32) (p10 : Vec Ideal S1x512 .f32) (p11 : Vec Ideal S1x256 .f32) (ps : Vec Ideal S1024x128 .f32) (hc : cond0_0 (env m c t p9 p10 p11 ps).i) :
    (outsAt0 m c t.val t.isLt).2.2.2.1 = dhgNew (env m c t p9 p10 p11 ps) (k0_pay5 (F := Ideal)) := by
  simp only [outsAt0_A m c t h0]
  exact outA_11 (env m c t p9 p10 p11 ps) hc

theorem atA_s (t : Fin cfg0.N) (h0 : t.val % 5 = 0) (p9 : Vec Ideal S128x512 .f32) (p10 : Vec Ideal S1x512 .f32) (p11 : Vec Ideal S1x256 .f32) (ps : Vec Ideal S1024x128 .f32) (hc : cond0_0 (env m c t p9 p10 p11 ps).i) :
    (outsAt0 m c t.val t.isLt).2.2.2.2 = View.canon (LA (env m c t p9 p10 p11 ps) hc 52) := by
  simp only [outsAt0_A m c t h0]
  exact outA_s (env m c t p9 p10 p11 ps) hc

/-- The first point. -/
theorem holdsA (t : Fin cfg0.N) (h0 : t.val % 5 = 0) {p9 p10 p11 ps} (T : Tile D 4 (env m c t p9 p10 p11 ps)) :
    Holds D 0 (outsAt0 m c t.val t.isLt) := by
  have hc : cond0_0 (env m c t p9 p10 p11 ps).i := (hcond0_0 t).mpr h0
  have S := chainA T hc
  constructor
  · intro r k
    exact (congrFun (atA_8 t h0 p9 p10 p11 ps hc) (ix2 r k)).trans (L8_at T S.1 r k)
  · intro j k
    refine (congrFun (atA_9 t h0 p9 p10 p11 ps hc) (ix2 j k)).trans ?_
    rw [dgwNew_at T S.1, tile_range (fun C => dgwC D C j k) 0 (by omega)]
    pointwise [k0_pay3]
    simp
  · intro k
    refine (congrFun (atA_10 t h0 p9 p10 p11 ps hc) (ix2 0 k)).trans ?_
    rw [dgbNew_at T S.1, tile_range (fun C => dgbC D C k) 0 (by omega)]
    pointwise [k0_pay4]
    simp
  · intro v
    refine (congrFun (atA_11 t h0 p9 p10 p11 ps hc) (ix2 0 v)).trans ?_
    rw [dhgNew_at T, tile_range (fun C => dhgC D C v) 0 (by omega)]
    pointwise [k0_pay5]
    simp
  · intro r k
    exact (congrFun (atA_s t h0 p9 p10 p11 ps hc) (ix2 r k)).trans (S.2 r k)

/-- What the point before `t` left. -/
abbrev prev (m : (ℓ : Loc nD τ sig) → Buf (Elt Ideal) ℓ) (c : Dev nD) (t : Fin cfg0.N) :=
  outsAt0 m c (t.val - 1) (Nat.lt_of_le_of_lt (Nat.sub_le _ _) t.isLt)

/-- The environment of a later point. -/
abbrev envB (m : (ℓ : Loc nD τ sig) → Buf (Elt Ideal) ℓ) (c : Dev nD) (t : Fin cfg0.N) : Env :=
  env m c t (prev m c t).2.1 (prev m c t).2.2.1 (prev m c t).2.2.2.1 (prev m c t).2.2.2.2

theorem atB_8 (t : Fin cfg0.N) (h0 : ¬t.val % 5 = 0) (hc : ¬cond0_0 (envB m c t).i) :
    (outsAt0 m c t.val t.isLt).1 = View.canon (L8 (envB m c t) (stB (envB m c t) hc)) := by
  simp only [outsAt0_B m c t h0]
  exact outB_8 (envB m c t) hc

theorem atB_9 (t : Fin cfg0.N) (h0 : ¬t.val % 5 = 0) (hc : ¬cond0_0 (envB m c t).i) :
    (outsAt0 m c t.val t.isLt).2.1 = dgwNew (envB m c t) (stB (envB m c t) hc) (prev m c t).2.1 := by
  simp only [outsAt0_B m c t h0]
  exact outB_9 (envB m c t) hc

theorem atB_10 (t : Fin cfg0.N) (h0 : ¬t.val % 5 = 0) (hc : ¬cond0_0 (envB m c t).i) :
    (outsAt0 m c t.val t.isLt).2.2.1 = dgbNew (envB m c t) (stB (envB m c t) hc) (prev m c t).2.2.1 := by
  simp only [outsAt0_B m c t h0]
  exact outB_10 (envB m c t) hc

theorem atB_11 (t : Fin cfg0.N) (h0 : ¬t.val % 5 = 0) (hc : ¬cond0_0 (envB m c t).i) :
    (outsAt0 m c t.val t.isLt).2.2.2.1 = dhgNew (envB m c t) (prev m c t).2.2.2.1 := by
  simp only [outsAt0_B m c t h0]
  exact outB_11 (envB m c t) hc

theorem atB_s (t : Fin cfg0.N) (h0 : ¬t.val % 5 = 0) (hc : ¬cond0_0 (envB m c t).i) :
    (outsAt0 m c t.val t.isLt).2.2.2.2 = View.canon (LB (envB m c t) hc 52) := by
  simp only [outsAt0_B m c t h0]
  exact outB_s (envB m c t) hc

/-- A later point. -/
theorem holdsB (t : Fin cfg0.N) (n : ℕ) (h0 : ¬t.val % 5 = 0) (hn : n + 1 ≤ 4)
    (T : Tile D (4 - (n + 1)) (envB m c t)) (H : Holds D n (prev m c t)) :
    Holds D (n + 1) (outsAt0 m c t.val t.isLt) := by
  have hc : ¬cond0_0 (envB m c t).i := fun h => h0 ((hcond0_0 t).mp h)
  have S := chainB T hc (fun r k => (H.s r k).trans (by
    rw [show 64 - 13 * (4 - n) + 1 = 64 - (13 * (4 - (n + 1)) + 12) by omega]))
  constructor
  · intro r k
    exact (congrFun (atB_8 t h0 hc) (ix2 r k)).trans (L8_at T S.1 r k)
  · intro j k
    refine (congrFun (atB_9 t h0 hc) (ix2 j k)).trans ?_
    rw [dgwNew_at T S.1, tile_range (fun C => dgwC D C j k) (n + 1) hn, ← cadd]
    exact congrArg (· + _) (H.gw j k)
  · intro k
    refine (congrFun (atB_10 t h0 hc) (ix2 0 k)).trans ?_
    rw [dgbNew_at T S.1, tile_range (fun C => dgbC D C k) (n + 1) hn, ← cadd]
    exact congrArg (· + _) (H.gb k)
  · intro v
    refine (congrFun (atB_11 t h0 hc) (ix2 0 v)).trans ?_
    rw [dhgNew_at T, tile_range (fun C => dhgC D C v) (n + 1) hn, ← cadd]
    exact congrArg (· + _) (H.hg v)
  · intro r k
    exact (congrFun (atB_s t h0 hc) (ix2 r k)).trans (S.2 r k)
end

end Cert.Proof.Gla

end
-- ==== Proof.RefTrip.lean ====
/- One trip of the reference's loop: the gradients of the chunk's rows, of the state and of the weights. -/
module

public import proofs.«01_k».proof.Proof.RefGate

@[expose] public section

set_option maxRecDepth 16384

noncomputable section

namespace Cert.Proof.Gla

open Idealize.ShloMosaic Cert.ReferenceIdeal Cert.ReferenceIdeal.Step

variable {D : Data} {s : State Ideal} {j : ℕ}

/-- The running sum from the bottom of what the chunk's last row and the rows leave. -/
theorem back_sum (x : ℕ → ℝ) (t : ℝ) (i : ℕ) (hi : i < 64) :
    ∑ k ∈ Finset.range (64 - i), (-x (i + k) + if i + k = 63 then t + ∑ r ∈ Finset.range 64, x r else 0)
      = t + ∑ r ∈ Finset.range i, x r := by
  rw [Finset.sum_add_distrib, Finset.sum_neg_distrib]
  have h1 : ∑ k ∈ Finset.range (64 - i), (if i + k = 63 then t + ∑ r ∈ Finset.range 64, x r else 0)
      = t + ∑ r ∈ Finset.range 64, x r := by
    rw [Finset.sum_eq_single (63 - i)]
    · rw [if_pos (by omega)]
    · intro k _ hk; rw [if_neg (by omega)]
    · intro hk; exact absurd (Finset.mem_range.2 (by omega)) hk
  have h2 : ∑ r ∈ Finset.range 64, x r = ∑ r ∈ Finset.range i, x r + ∑ k ∈ Finset.range (64 - i), x (i + k) := by
    rw [← Finset.sum_range_add x i (64 - i), Nat.add_sub_cancel' hi.le]
  rw [h1, h2]; ring

section
variable (T : Tied D s) (hj : j < 65)
  (hD : ∀ (h : Fin 4) (k : Fin 128) (v : Fin 256), s.main_v20_10 (ix3 h k v) = ((Ds D j h v k : ℝ) : EReal))

theorem back_chunk (hj : j < 65) : 64 - (64 - j) = j := by omega

include T hj hD

theorem b183_at (h : Fin 4) (k : Fin 128) (v : Fin 256) :
    b183 j s (ix3 h k v) = ((G D (64 - j) h v k : ℝ) : EReal) := by
  pointwise [b183, b182, b181]
  simp only [hD, b180_at T hj, b166_at T hj, cmul, csum, cadd, G, dO, back_chunk hj]
  congr 2
  exact Finset.sum_congr rfl fun _ _ => by ring

theorem b190_at (h : Fin 4) (k : Fin 128) (v : Fin 256) :
    b190 j s (ix3 h k v) = ((Ds D (j + 1) h v k : ℝ) : EReal) := by
  pointwise [b190, b189, b173]
  have e := Ds_succ D (64 - j) h v k (by omega)
  rw [back_chunk hj] at e
  simp only [b172_at T hj, b183_at T hj hD, cmul, e]
  rw [mul_comm]

theorem b207_at (i : Fin 64) (m : Fin 512) :
    b207 j s (ix2 i m) = ((dq D (64 - j) i (m / 128) (m % 128) : ℝ) : EReal) := by
  pointwise [b207, b206, b205, b204, b203, b184]
  simp only [b180_at T hj, b177_at T hj, T.scale, cmul, csum, dq, dO, Finset.sum_mul]
  congr 1
  exact Finset.sum_congr rfl fun _ _ => by ring

theorem b200_at (i : Fin 64) (m : Fin 1024) :
    b200 j s (ix2 i m) = ((dv D (64 - j) i (m / 256) (m % 256) : ℝ) : EReal) := by
  pointwise [b200, b199, b186, b185]
  simp only [b183_at T hj hD, b168_at T hj, cmul, csum, dv]
  congr 1
  exact Finset.sum_congr rfl fun _ _ => by ring

theorem b202_at (i : Fin 64) (m : Fin 512) :
    b202 j s (ix2 i m) = ((dkd D (64 - j) i (m / 128) (m % 128) : ℝ) : EReal) := by
  pointwise [b202, b201, b188, b187]
  simp only [b183_at T hj hD, b170_at T hj, cmul, csum, dkd]
  congr 1
  exact Finset.sum_congr rfl fun _ _ => by ring

theorem b209_at (i : Fin 64) (m : Fin 512) :
    b209 j s (ix2 i m) = ((dk D (64 - j) i (m / 128) (m % 128) : ℝ) : EReal) := by
  pointwise [b209]
  simp only [b202_at T hj hD, b160_at T hj, cmul, dk, Nat.div_add_mod]

/-- What a row takes from the logarithm's gradient. -/
def xr (D : Data) (C i m : ℕ) : ℝ := dkd D C i (m / 128) (m % 128) * kd D C i (m / 128) (m % 128)

theorem b210_at (i : Fin 64) (m : Fin 512) : b210 j s (ix2 i m) = ((xr D (64 - j) i m : ℝ) : EReal) := by
  pointwise [b210, b208]
  simp only [b24_at T hj, b202_at T hj hD, b160_at T hj, cmul, xr, kd, Nat.div_add_mod]
  congr 1; ring

theorem b198_at (m : Fin 512) :
    b198 j s (ix2 0 m) = ((dtot D (64 - j) (m / 128) (m % 128) : ℝ) : EReal) := by
  pointwise [b198, b197, b196, b195, b194, b193, b192, b191]
  simp only [Finset.univ_unique, Fin.default_eq_zero, Finset.sum_singleton]
  simp only [b183_at T hj hD, b22_at T hj, b172_at T hj, cmul, csum, dtot]

theorem b218_at (i : Fin 64) (m : Fin 512) :
    b218 j s (ix2 i m) = ((-xr D (64 - j) i m + if (i : ℕ) = 63 then dtot D (64 - j) (m / 128) (m % 128)
      + ∑ r ∈ Finset.range 64, xr D (64 - j) r m else 0 : ℝ) : EReal) := by
  pointwise [b218, b217, b216, b215, b214, b213, b212, b211]
  have e : ∑ x : Fin 64, b210 j s (ix2 x m) = ((∑ r ∈ Finset.range 64, xr D (64 - j) r m : ℝ) : EReal) := by
    simp only [b210_at T hj hD, csum]
    rw [Fin.sum_univ_eq_sum_range (fun r => xr D (64 - j) r m)]
  rw [b210_at T hj hD, cneg, e]
  by_cases h : (i : ℕ) = 63
  · rw [dif_pos (by omega), if_pos h, show (⟨(i : ℕ) - 63, by omega⟩ : Fin 1) = 0 from Subsingleton.elim _ _,
      b198_at T hj hD, cadd, cadd]
  · rw [dif_neg (by omega), if_neg h, czero, cadd]

theorem b221_at (i : Fin 64) (m : Fin 512) :
    b221 j s (ix2 i m) = ((dla D (64 - j) i (m / 128) (m % 128) : ℝ) : EReal) := by
  rw [b221]
  refine (running_sum_rev _ _ _ _ (by pointwise [b220, b219]) (fun i m => -xr D (64 - j) i m + if (i : ℕ) = 63 then
    dtot D (64 - j) (m / 128) (m % 128) + ∑ r ∈ Finset.range 64, xr D (64 - j) r m else 0) (b218_at T hj hD) i m).trans ?_
  congr 1
  exact back_sum (fun r => xr D (64 - j) r m) _ i i.isLt

theorem b227_at (i : Fin 64) (m : Fin 512) : b227 j s (ix2 i m) = ((dpre D (64 - j) i m : ℝ) : EReal) := by
  pointwise [b227, b226, b225, b224, b223, b222]
  simp only [b221_at T hj hD, b131_at T hj, word_16, cneg, cdiv _ _ (by norm_num : (16 : ℝ) ≠ 0), cmul, dpre]
  congr 1; ring

theorem b230_at (m : Fin 512) : b230 j s (ix2 0 m) = ((dgbC D (64 - j) m : ℝ) : EReal) := by
  pointwise [b230, b229, b228]
  simp only [b227_at T hj hD, csum, dgbC]

theorem b232_at (a : Fin 128) (m : Fin 512) : b232 j s (ix2 a m) = ((dgwC D (64 - j) a m : ℝ) : EReal) := by
  pointwise [b232, b231, b27]
  simp only [b227_at T hj hD, b17_at T hj, cmul, csum, dgwC]
  congr 1
  exact Finset.sum_congr rfl fun _ _ => by ring

theorem b233_at (i : Fin 64) (a : Fin 128) : b233 j s (ix2 i a) = ((dr D (64 - j) i a : ℝ) : EReal) := by
  pointwise [b233]
  simp only [b227_at T hj hD, T.gw, cmul, csum, dr]

theorem b237_at (c : Fin 65) :
    b237 j s (ix3 c 0 0) = if (c : ℕ) = 64 - j then 1#1 else 0#1 := by
  pointwise [b237, b236, b235, b234, b5, b4, K_main_v16]
  have e : Host.clampedStart S65 S1 (by decide) (fun _ => BitVec.toInt (b3 j s (Shape.Idx.first Gen.h_S_))) 0 = 64 - j := by
    show (min (max (BitVec.toInt (b3 j s (Shape.Idx.first Gen.h_S_))) 0) ((65 - 1 : ℕ) : ℤ)).toNat = 64 - j
    rw [chunk_start ⟨j, hj⟩]
    show (min (max ((64 - j : ℕ) : ℤ) 0) ((65 - 1 : ℕ) : ℤ)).toNat = 64 - j
    omega
  rw [e]
  have : ∀ a b : Fin 65, IntOp.cmpi .eq (BitVec.ofNat 32 a) (BitVec.ofNat 32 b) = if (a : ℕ) = b then 1#1 else 0#1 := by
    decide
  exact this c ⟨64 - j, by omega⟩

end

end Cert.Proof.Gla

end
-- ==== Proof.RefRun.lean ====
/- The reference's loop: what its 65 trips leave, and its four results at an index. -/
module

public import proofs.«01_k».proof.Proof.RefTrip

@[expose] public section

set_option maxRecDepth 16384

noncomputable section

namespace Cert.Proof.Gla

open Idealize.ShloMosaic Cert.ReferenceIdeal Cert.ReferenceIdeal.Step

/-- The arguments hold the data. -/
structure Args (D : Data) (a0 : FVec Ideal ⟨2, ![4160, 1024]⟩ .f32) (a1 : FVec Ideal ⟨2, ![1024, 1024]⟩ .bf16)
    (a2 : FVec Ideal ⟨2, ![4160, 1024]⟩ .bf16) (a3 : FVec Ideal ⟨2, ![4160, 3200]⟩ .bf16)
    (a4 : FVec Ideal ⟨3, ![65, 1024, 128]⟩ .bf16) (a5 : FVec Ideal ⟨2, ![128, 512]⟩ .bf16)
    (a6 : FVec Ideal ⟨2, ![1, 512]⟩ .f32) (a7 : FVec Ideal ⟨2, ![1, 256]⟩ .f32) : Prop where
  dh : ∀ (r : Fin 4160) (m : Fin 1024), a0 (ix2 r m) = ((D.dh r m : ℝ) : EReal)
  wo : ∀ (a b : Fin 1024), a1 (ix2 a b) = ((D.wo a b : ℝ) : EReal)
  o : ∀ (r : Fin 4160) (m : Fin 1024), a2 (ix2 r m) = ((D.o r m : ℝ) : EReal)
  z : ∀ (r : Fin 4160) (m : Fin 3200), a3 (ix2 r m) = ((D.z r m : ℝ) : EReal)
  st : ∀ (c : Fin 65) (r : Fin 1024) (k : Fin 128), a4 (ix3 c r k) = ((D.st c r k : ℝ) : EReal)
  gw : ∀ (a : Fin 128) (b : Fin 512), a5 (ix2 a b) = ((D.gw a b : ℝ) : EReal)
  gb : ∀ (b : Fin 512), a6 (ix2 0 b) = ((D.gb b : ℝ) : EReal)
  hg : ∀ (v : Fin 256), a7 (ix2 0 v) = ((D.hg v : ℝ) : EReal)
  eps : Ideal.ofBits .f32 0x3727C5AC#32 = ((D.eps : ℝ) : EReal)
  scale : Ideal.ofBits .f32 0x3DB504F3#32 = ((D.scale : ℝ) : EReal)

/-- What the loop holds after `n` trips. -/
structure Done (D : Data) (n : ℕ) (s : State Ideal) : Prop where
  tied : Tied D s
  state : ∀ (h : Fin 4) (k : Fin 128) (v : Fin 256), s.main_v20_10 (ix3 h k v) = ((Ds D n h v k : ℝ) : EReal)
  gw : ∀ (a : Fin 128) (m : Fin 512),
    s.main_v20_11 (ix2 a m) = ((∑ t ∈ Finset.range n, dgwC D (64 - t) a m : ℝ) : EReal)
  gb : ∀ (m : Fin 512), s.main_v20_12 (ix2 0 m) = ((∑ t ∈ Finset.range n, dgbC D (64 - t) m : ℝ) : EReal)
  hg : ∀ (v : Fin 256), s.main_v20_13 (ix2 0 v) = ((∑ t ∈ Finset.range n, dhgC D (64 - t) v : ℝ) : EReal)
  q : ∀ (c : Fin 65) (i : Fin 64) (m : Fin 512), 64 - (c : ℕ) < n →
    s.main_v20_14 (ix3 c i m) = ((dq D c i (m / 128) (m % 128) : ℝ) : EReal)
  k : ∀ (c : Fin 65) (i : Fin 64) (m : Fin 512), 64 - (c : ℕ) < n →
    s.main_v20_15 (ix3 c i m) = ((dk D c i (m / 128) (m % 128) : ℝ) : EReal)
  v : ∀ (c : Fin 65) (i : Fin 64) (m : Fin 1024), 64 - (c : ℕ) < n →
    s.main_v20_16 (ix3 c i m) = ((dv D c i (m / 256) (m % 256) : ℝ) : EReal)
  g : ∀ (c : Fin 65) (i : Fin 64) (m : Fin 1024), 64 - (c : ℕ) < n →
    s.main_v20_17 (ix3 c i m) = ((dg D c i (m / 256) (m % 256) : ℝ) : EReal)
  r : ∀ (c : Fin 65) (i : Fin 64) (m : Fin 128), 64 - (c : ℕ) < n →
    s.main_v20_18 (ix3 c i m) = ((dr D c i m : ℝ) : EReal)

variable {D : Data}

theorem select_one {a b : EReal} : Scalar.select (1#1) a b = a := rfl
theorem select_zero {a b : EReal} : Scalar.select (0#1) a b = b := rfl

theorem done_step {n : ℕ} {s : State Ideal} (hn : n < 65) (H : Done D n s) : Done D (n + 1) (step n s) := by
  have T := H.tied
  have hD := H.state
  constructor
  · exact ⟨T.dh, T.o, T.z, T.st, T.hg, T.wo, T.gw, T.gb, T.eps, T.scale⟩
  · intro h k v
    rw [step_main_v20_10]; exact b190_at T hn hD h k v
  · intro a m
    rw [step_main_v20_11]; pointwise [b258]
    rw [H.gw, b232_at T hn hD, cadd, Finset.sum_range_succ]
  · intro m
    rw [step_main_v20_12]; pointwise [b259]
    rw [H.gb, b230_at T hn hD, cadd, Finset.sum_range_succ]
  · intro m
    rw [step_main_v20_13]; pointwise [b260]
    rw [H.hg, b81_at T hn, cadd, Finset.sum_range_succ]
  · intro c i m hc
    rw [step_main_v20_14]; pointwise [b241, b240, b239, b238]
    rw [b237_at T hn hD]
    by_cases h : (c : ℕ) = 64 - n
    · rw [if_pos h, select_one, b207_at T hn hD, h]
    · rw [if_neg h, select_zero]; exact H.q c i m (by omega)
  · intro c i m hc
    rw [step_main_v20_15]; pointwise [b245, b244, b243, b242]
    rw [b237_at T hn hD]
    by_cases h : (c : ℕ) = 64 - n
    · rw [if_pos h, select_one, b209_at T hn hD, h]
    · rw [if_neg h, select_zero]; exact H.k c i m (by omega)
  · intro c i m hc
    rw [step_main_v20_16]; pointwise [b249, b248, b247, b246]
    rw [b237_at T hn hD]
    by_cases h : (c : ℕ) = 64 - n
    · rw [if_pos h, select_one, b200_at T hn hD, h]
    · rw [if_neg h, select_zero]; exact H.v c i m (by omega)
  · intro c i m hc
    rw [step_main_v20_17]; pointwise [b253, b252, b251, b250]
    rw [b237_at T hn hD]
    by_cases h : (c : ℕ) = 64 - n
    · rw [if_pos h, select_one, b71_at T hn, h]
    · rw [if_neg h, select_zero]; exact H.g c i m (by omega)
  · intro c i m hc
    rw [step_main_v20_18]; pointwise [b257, b256, b255, b254]
    rw [b237_at T hn hD]
    by_cases h : (c : ℕ) = 64 - n
    · rw [if_pos h, select_one, b233_at T hn hD, h]
    · rw [if_neg h, select_zero]; exact H.r c i m (by omega)

/-- The reference's states, from its arguments. -/
def refIter (a0 : FVec Ideal ⟨2, ![4160, 1024]⟩ .f32) (a1 : FVec Ideal ⟨2, ![1024, 1024]⟩ .bf16)
    (a2 : FVec Ideal ⟨2, ![4160, 1024]⟩ .bf16) (a3 : FVec Ideal ⟨2, ![4160, 3200]⟩ .bf16)
    (a4 : FVec Ideal ⟨3, ![65, 1024, 128]⟩ .bf16) (a5 : FVec Ideal ⟨2, ![128, 512]⟩ .bf16)
    (a6 : FVec Ideal ⟨2, ![1, 512]⟩ .f32) (a7 : FVec Ideal ⟨2, ![1, 256]⟩ .f32) : ℕ → State Ideal
  | 0 => init a7 a6 a0 a1 a2 a3 a4 a5
  | n + 1 => step n (refIter a0 a1 a2 a3 a4 a5 a6 a7 n)

section
variable {a0 : FVec Ideal ⟨2, ![4160, 1024]⟩ .f32} {a1 : FVec Ideal ⟨2, ![1024, 1024]⟩ .bf16}
  {a2 : FVec Ideal ⟨2, ![4160, 1024]⟩ .bf16} {a3 : FVec Ideal ⟨2, ![4160, 3200]⟩ .bf16}
  {a4 : FVec Ideal ⟨3, ![65, 1024, 128]⟩ .bf16} {a5 : FVec Ideal ⟨2, ![128, 512]⟩ .bf16}
  {a6 : FVec Ideal ⟨2, ![1, 512]⟩ .f32} {a7 : FVec Ideal ⟨2, ![1, 256]⟩ .f32}

theorem done_init (H : Args D a0 a1 a2 a3 a4 a5 a6 a7) : Done D 0 (init a7 a6 a0 a1 a2 a3 a4 a5) := by
  constructor
  · constructor
    · intro c i m
      show A_main_v17 (F := Ideal) a0 a1 a2 a3 a4 a5 (ix3 c i m) = _
      pointwise [A_main_v17]
      simp only [H.dh, mul_comm]
    · intro c i m
      show A_main_v18 (F := Ideal) a0 a1 a2 a3 a4 a5 (ix3 c i m) = _
      pointwise [A_main_v18, A_main_v1]
      simp only [H.o, mul_comm]
    · intro c i m
      show A_main_v19 (F := Ideal) a0 a1 a2 a3 a4 a5 (ix3 c i m) = _
      pointwise [A_main_v19, A_main_v2]
      simp only [H.z, mul_comm]
    · intro c h k v
      show A_main_v6 (F := Ideal) a0 a1 a2 a3 a4 a5 (ix4 c h k v) = _
      pointwise [A_main_v6, A_main_v5, A_main_v3]
      simp only [H.st, mul_comm]
    · exact H.hg
    · intro a b
      show A_main_v0 (F := Ideal) a0 a1 a2 a3 a4 a5 (ix2 a b) = _
      pointwise [A_main_v0]
      exact H.wo a b
    · intro a b
      show A_main_v4 (F := Ideal) a0 a1 a2 a3 a4 a5 (ix2 a b) = _
      pointwise [A_main_v4]
      exact H.gw a b
    · exact H.gb
    · exact H.eps
    · exact H.scale
  · intro h k v
    show K_main_v7 (F := Ideal) (ix3 h k v) = _
    pointwise [K_main_v7, K_main_cst]; rfl
  · intro a m
    show K_main_v8 (F := Ideal) (ix2 a m) = _
    pointwise [K_main_v8, K_main_cst_0]; simp
  · intro m
    show K_main_v9 (F := Ideal) (ix2 0 m) = _
    pointwise [K_main_v9, K_main_cst_1]; simp
  · intro v
    show K_main_v10 (F := Ideal) (ix2 0 v) = _
    pointwise [K_main_v10, K_main_cst_2]; simp
  all_goals intro c i m hc; exact absurd hc (Nat.not_lt_zero _)

theorem done_iter (H : Args D a0 a1 a2 a3 a4 a5 a6 a7) :
    ∀ n ≤ 65, Done D n (refIter a0 a1 a2 a3 a4 a5 a6 a7 n)
  | 0, _ => done_init H
  | n + 1, h => done_step h (done_iter H n (by omega))

/-- The first result at an index. -/
theorem ref_dz {s : State Ideal} (H : Done D 65 s) (r : Fin 4160) (c : Fin 3200) :
    R_main_v27 s (ix2 r c) = ((dz D (r / 64) (r % 64) c : ℝ) : EReal) := by
  pointwise [R_main_v27]
  have hr : ∀ h : (r : ℕ) / 64 < 65, 64 - ((⟨(r : ℕ) / 64, h⟩ : Fin 65) : ℕ) < 65 := fun h => by
    show 64 - (r : ℕ) / 64 < 65
    omega
  unfold dz
  by_cases h1 : (c : ℕ) < 512
  · rw [dif_pos h1, if_pos h1, H.q _ _ _ (hr _)]
  rw [dif_neg h1, if_neg h1]
  by_cases h2 : (c : ℕ) < 1024
  · rw [dif_pos (by omega), if_pos h2, H.k _ _ _ (hr _)]
  rw [dif_neg (by omega), if_neg h2]
  by_cases h3 : (c : ℕ) < 2048
  · rw [dif_pos (by omega), if_pos h3, H.v _ _ _ (hr _)]
    simp only [Nat.sub_sub, Nat.reduceAdd]
  rw [dif_neg (by omega), if_neg h3]
  by_cases h4 : (c : ℕ) < 3072
  · rw [dif_pos (by omega), if_pos h4, H.g _ _ _ (hr _)]
    simp only [Nat.sub_sub, Nat.reduceAdd]
  rw [dif_neg (by omega), if_neg h4, H.r _ _ _ (hr _)]
  simp only [Nat.sub_sub, Nat.reduceAdd]

end

end Cert.Proof.Gla

end
-- ==== Proof.KerGrid.lean ====
/- The whole run of the grid: the blocks each point reads are the data's tile, and the result arrays it leaves. -/
module

public import proofs.«01_k».proof.Proof.KerPoint
public import proofs.«01_k».proof.Proof.RefRun

@[expose] public section

set_option maxRecDepth 16384

noncomputable section

namespace Cert.Proof.Gla

open Idealize.ShloMosaic Idealize.SL.Sem Cert.KernelIdeal Cert.KernelIdeal.Gen

variable {D : Data} {m : (ℓ : Loc nD τ sig) → Buf (Elt Ideal) ℓ} {c : Dev nD}

theorem wi0 (t : Fin cfg0.N) : win0_0.index t 0 = 4 - t.val ∧ win0_0.index t 1 = 0 := by
  rcases fin_N0 t with rfl | rfl | rfl | rfl | rfl <;> decide

theorem blk0 (t : Fin cfg0.N) (r : Fin 832) (k : Fin 1024) :
    iblk m c 0 t (ix2 r k) = m ((c.tc : Thread nD τ).loc main_arg0) (ix2 (⟨832 * (4 - t.val) + r, by omega⟩ : Fin 4160) k) := by
  have hi := wi0 t
  unfold iblk
  rw [View.read_apply]
  show V m c main_arg0 _ = m (c.tc.loc main_arg0) _
  unfold V
  congr 1
  funext a
  apply Fin.ext
  match a with
  | ⟨0, _⟩ => show win0_0.index t 0 * 832 + 1 * (r : ℕ) = 832 * (4 - t.val) + (r : ℕ); rw [hi.1]; omega
  | ⟨1, _⟩ => show win0_0.index t 1 * 1024 + 1 * (k : ℕ) = k; rw [hi.2]; omega

theorem wi1 (t : Fin cfg0.N) : win0_1.index t 0 = 0 ∧ win0_1.index t 1 = 0 := by
  rcases fin_N0 t with rfl | rfl | rfl | rfl | rfl <;> decide

theorem blk1 (t : Fin cfg0.N) (r : Fin 1024) (k : Fin 1024) :
    iblk m c 1 t (ix2 r k) = m ((c.tc : Thread nD τ).loc main_arg1) (ix2 r k) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 1024 + 1 * (r : ℕ) = r; rw [hi.1]; omega
  | ⟨1, _⟩ => show win0_1.index t 1 * 1024 + 1 * (k : ℕ) = k; rw [hi.2]; omega

theorem wi2 (t : Fin cfg0.N) : win0_2.index t 0 = 4 - t.val ∧ win0_2.index t 1 = 0 := by
  rcases fin_N0 t with rfl | rfl | rfl | rfl | rfl <;> decide

theorem blk2 (t : Fin cfg0.N) (r : Fin 832) (k : Fin 1024) :
    iblk m c 2 t (ix2 r k) = m ((c.tc : Thread nD τ).loc main_arg2) (ix2 (⟨832 * (4 - t.val) + r, by omega⟩ : Fin 4160) k) := by
  have hi := wi2 t
  unfold iblk
  rw [View.read_apply]
  show V m c main_arg2 _ = m (c.tc.loc main_arg2) _
  unfold V
  congr 1
  funext a
  apply Fin.ext
  match a with
  | ⟨0, _⟩ => show win0_2.index t 0 * 832 + 1 * (r : ℕ) = 832 * (4 - t.val) + (r : ℕ); rw [hi.1]; omega
  | ⟨1, _⟩ => show win0_2.index t 1 * 1024 + 1 * (k : ℕ) = k; rw [hi.2]; omega

theorem wi3 (t : Fin cfg0.N) : win0_3.index t 0 = 4 - t.val ∧ win0_3.index t 1 = 0 := by
  rcases fin_N0 t with rfl | rfl | rfl | rfl | rfl <;> decide

theorem blk3 (t : Fin cfg0.N) (r : Fin 832) (k : Fin 3200) :
    iblk m c 3 t (ix2 r k) = m ((c.tc : Thread nD τ).loc main_arg3) (ix2 (⟨832 * (4 - t.val) + r, by omega⟩ : Fin 4160) k) := by
  have hi := wi3 t
  unfold iblk
  rw [View.read_apply]
  show V m c main_arg3 _ = m (c.tc.loc main_arg3) _
  unfold V
  congr 1
  funext a
  apply Fin.ext
  match a with
  | ⟨0, _⟩ => show win0_3.index t 0 * 832 + 1 * (r : ℕ) = 832 * (4 - t.val) + (r : ℕ); rw [hi.1]; omega
  | ⟨1, _⟩ => show win0_3.index t 1 * 3200 + 1 * (k : ℕ) = k; rw [hi.2]; omega

theorem wi4 (t : Fin cfg0.N) : win0_4.index t 0 = 4 - t.val ∧ win0_4.index t 1 = 0 ∧ win0_4.index t 2 = 0 := by
  rcases fin_N0 t with rfl | rfl | rfl | rfl | rfl <;> decide

theorem blk4 (t : Fin cfg0.N) (r : Fin 13) (k : Fin 1024) (l : Fin 128) :
    iblk m c 4 t (ix3 r k l) = m ((c.tc : Thread nD τ).loc main_arg4) (ix3 (⟨13 * (4 - t.val) + r, by omega⟩ : Fin 65) k l) := by
  have hi := wi4 t
  unfold iblk
  rw [View.read_apply]
  show V m c main_arg4 _ = m (c.tc.loc main_arg4) _
  unfold V
  congr 1
  funext a
  apply Fin.ext
  match a with
  | ⟨0, _⟩ => show win0_4.index t 0 * 13 + 1 * (r : ℕ) = 13 * (4 - t.val) + (r : ℕ); rw [hi.1]; omega
  | ⟨1, _⟩ => show win0_4.index t 1 * 1024 + 1 * (k : ℕ) = k; rw [hi.2.1]; omega
  | ⟨2, _⟩ => show win0_4.index t 2 * 128 + 1 * (l : ℕ) = l; rw [hi.2.2]; omega

theorem wi5 (t : Fin cfg0.N) : win0_5.index t 0 = 0 ∧ win0_5.index t 1 = 0 := by
  rcases fin_N0 t with rfl | rfl | rfl | rfl | rfl <;> decide

theorem blk5 (t : Fin cfg0.N) (r : Fin 128) (k : Fin 512) :
    iblk m c 5 t (ix2 r k) = m ((c.tc : Thread nD τ).loc main_arg5) (ix2 r k) := by
  have hi := wi5 t
  unfold iblk
  rw [View.read_apply]
  show V m c main_arg5 _ = m (c.tc.loc main_arg5) _
  unfold V
  congr 1
  funext a
  apply Fin.ext
  match a with
  | ⟨0, _⟩ => show win0_5.index t 0 * 128 + 1 * (r : ℕ) = r; rw [hi.1]; omega
  | ⟨1, _⟩ => show win0_5.index t 1 * 512 + 1 * (k : ℕ) = k; rw [hi.2]; omega

theorem wi6 (t : Fin cfg0.N) : win0_6.index t 0 = 0 ∧ win0_6.index t 1 = 0 := by
  rcases fin_N0 t with rfl | rfl | rfl | rfl | rfl <;> decide

theorem blk6 (t : Fin cfg0.N) (r : Fin 1) (k : Fin 512) :
    iblk m c 6 t (ix2 r k) = m ((c.tc : Thread nD τ).loc main_arg6) (ix2 r k) := by
  have hi := wi6 t
  unfold iblk
  rw [View.read_apply]
  show V m c main_arg6 _ = m (c.tc.loc main_arg6) _
  unfold V
  congr 1
  funext a
  apply Fin.ext
  match a with
  | ⟨0, _⟩ => show win0_6.index t 0 * 1 + 1 * (r : ℕ) = r; rw [hi.1]; omega
  | ⟨1, _⟩ => show win0_6.index t 1 * 512 + 1 * (k : ℕ) = k; rw [hi.2]; omega

theorem wi7 (t : Fin cfg0.N) : win0_7.index t 0 = 0 ∧ win0_7.index t 1 = 0 := by
  rcases fin_N0 t with rfl | rfl | rfl | rfl | rfl <;> decide

theorem blk7 (t : Fin cfg0.N) (r : Fin 1) (k : Fin 256) :
    iblk m c 7 t (ix2 r k) = m ((c.tc : Thread nD τ).loc main_arg7) (ix2 r k) := by
  have hi := wi7 t
  unfold iblk
  rw [View.read_apply]
  show V m c main_arg7 _ = m (c.tc.loc main_arg7) _
  unfold V
  congr 1
  funext a
  apply Fin.ext
  match a with
  | ⟨0, _⟩ => show win0_7.index t 0 * 1 + 1 * (r : ℕ) = r; rw [hi.1]; omega
  | ⟨1, _⟩ => show win0_7.index t 1 * 256 + 1 * (k : ℕ) = k; rw [hi.2]; omega

/-- A core's arguments hold the data. -/
abbrev KArgs (D : Data) (m : (ℓ : Loc nD τ sig) → Buf (Elt Ideal) ℓ) (c : Dev nD) : Prop :=
  Args D (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

theorem grow (τ : ℕ) (r : Fin 832) : 832 * τ + (r : ℕ) = 64 * (13 * τ + r / 64) + r % 64 := by omega

section
variable (H : KArgs D m c)
include H

theorem tile_at (t : Fin cfg0.N) (p9 p10 p11 ps) : Tile D (4 - t.val) (env m c t p9 p10 p11 ps) where
  lt := Nat.sub_le _ _
  dh r k := by rw [← grow]; exact (blk0 t r k).trans (H.dh _ _)
  wo r k := (blk1 t r k).trans (H.wo _ _)
  o r k := by rw [← grow]; exact (blk2 t r k).trans (H.o _ _)
  z r k := by rw [← grow]; exact (blk3 t r k).trans (H.z _ _)
  st r k l := (blk4 t r k l).trans (H.st _ _ _)
  gw r k := (blk5 t r k).trans (H.gw _ _)
  gb k := (blk6 t 0 k).trans (H.gb _)
  hg k := (blk7 t 0 k).trans (H.hg _)
  eps := H.eps
  scale := H.scale

theorem holds_at : ∀ (n : ℕ) (hn : n < cfg0.N), Holds D n (outsAt0 m c n hn)
  | 0, hn => holdsA ⟨0, hn⟩ rfl (p9 := fun _ => 0) (p10 := fun _ => 0) (p11 := fun _ => 0) (ps := fun _ => 0)
      (tile_at H ⟨0, hn⟩ _ _ _ _)
  | n + 1, hn => by
    have hN : cfg0.N = 5 := N_0
    exact holdsB ⟨n + 1, hn⟩ n (by show ¬(n + 1) % 5 = 0; omega) (by omega) (tile_at H ⟨n + 1, hn⟩ _ _ _ _)
      (holds_at n (Nat.lt_of_succ_lt hn))

/-- The result arrays. -/
def G8 (D : Data) : S4160x3200.Idx → EReal := fun y => ((dz D ((y 0 : ℕ) / 64) ((y 0 : ℕ) % 64) (y 1) : ℝ) : EReal)
def G9 (D : Data) : S128x512.Idx → EReal := fun y => ((∑ t ∈ Finset.range 65, dgwC D (64 - t) (y 0) (y 1) : ℝ) : EReal)
def G10 (D : Data) : S1x512.Idx → EReal := fun y => ((∑ t ∈ Finset.range 65, dgbC D (64 - t) (y 1) : ℝ) : EReal)
def G11 (D : Data) : S1x256.Idx → EReal := fun y => ((∑ t ∈ Finset.range 65, dhgC D (64 - t) (y 1) : ℝ) : EReal)

omit H in
theorem wi8 (t : Fin cfg0.N) : win0_8.index t 0 = 4 - t.val ∧ win0_8.index t 1 = 0 := by
  rcases fin_N0 t with rfl | rfl | rfl | rfl | rfl <;> decide

omit H in
theorem eta2 {A B : ℕ} (y : (⟨2, ![A, B]⟩ : Shape).Idx) : y = ix2 (n0 := A) (n1 := B) (y 0) (y 1) := by
  funext a
  match a with
  | ⟨0, _⟩ => rfl
  | ⟨1, _⟩ => rfl

omit H in
theorem emb8 (t : Fin cfg0.N) (r : Fin 832) (k : Fin 3200) :
    ((cfg0.win 8).blk t).view.emb (ix2 r k) = (ix2 (⟨832 * (4 - t.val) + r, by omega⟩ : Fin 4160) k : S4160x3200.Idx) := by
  have hi := wi8 t
  funext a
  apply Fin.ext
  match a with
  | ⟨0, _⟩ => show win0_8.index t 0 * 832 + 1 * (r : ℕ) = 832 * (4 - t.val) + (r : ℕ); rw [hi.1]; omega
  | ⟨1, _⟩ => show win0_8.index t 1 * 3200 + 1 * (k : ℕ) = k; rw [hi.2]; omega

theorem flushed8_eq (t : Fin cfg0.N) (hf : (cfg0.win 8).flush t = true) :
    (dats m 0 c).flushed 8 t = ((cfg0.win 8).blk t).view.read (Elt Ideal) (G8 D) := by
  rw [Value.flushed8]
  funext j
  have O := holds_at H t.val t.isLt
  obtain ⟨r, k, rfl⟩ : ∃ (r : Fin 832) (k : Fin 3200), j = ix2 r k := ⟨j 0, j 1, eta2 j⟩
  rw [View.read_apply, emb8]
  refine (O.z r k).trans ?_
  show _ = ((dz D ((832 * (4 - t.val) + (r : ℕ)) / 64) ((832 * (4 - t.val) + (r : ℕ)) % 64) k : ℝ) : EReal)
  rw [show (832 * (4 - t.val) + (r : ℕ)) / 64 = 13 * (4 - t.val) + r / 64 by omega,
    show (832 * (4 - t.val) + (r : ℕ)) % 64 = r % 64 by omega]

omit H in
theorem e8 (a : ℕ) (h : a < 4160) : 832 * (4 - (4 - a / 832)) + a % 832 = a := by omega

theorem final8 : (dats m 0 c).arrAt 8 cfg0.N = G8 D :=
  (dats m 0 c).arrAt_eq_of_cover 8 (G8 D) (flushed8_eq H) fun i => by
    have hN : cfg0.N = 5 := N_0
    have h0 : (i 0 : ℕ) < 4160 := (i 0).isLt
    have h1 : (i 1 : ℕ) < 3200 := (i 1).isLt
    refine ⟨⟨4 - (i 0 : ℕ) / 832, by omega⟩, flush0_8 _, ?_⟩
    have h := ((cfg0.win 8).blk (⟨4 - (i 0 : ℕ) / 832, by omega⟩ : Fin cfg0.N)).view.emb_mem_set
      (ix2 (⟨(i 0 : ℕ) % 832, Nat.mod_lt _ (by decide)⟩ : Fin 832) (⟨i 1, h1⟩ : Fin 3200))
    rw [emb8] at h
    refine Eq.mp (congrArg (· ∈ _) ?_) h
    funext a
    apply Fin.ext
    match a with
    | ⟨0, _⟩ => show 832 * (4 - (4 - (i 0 : ℕ) / 832)) + (i 0 : ℕ) % 832 = i 0; exact e8 (i 0) h0
    | ⟨1, _⟩ => rfl

omit H in
theorem emb9 (r : Fin 128) (k : Fin 512) :
    ((cfg0.win 9).blk t0_4).view.emb (ix2 r k) = (ix2 r k : S128x512.Idx) := by
  have hi : win0_9.index t0_4 0 = 0 ∧ win0_9.index t0_4 1 = 0 := by decide
  funext a
  apply Fin.ext
  match a with
  | ⟨0, _⟩ => show win0_9.index t0_4 0 * 128 + 1 * (r : ℕ) = r; rw [hi.1]; omega
  | ⟨1, _⟩ => show win0_9.index t0_4 1 * 512 + 1 * (k : ℕ) = k; rw [hi.2]; omega

theorem flushed9_eq (t : Fin cfg0.N) (hf : (cfg0.win 9).flush t = true) :
    (dats m 0 c).flushed 9 t = ((cfg0.win 9).blk t).view.read (Elt Ideal) (G9 D) := by
  have hN : cfg0.N = 5 := N_0
  have h3 : t.val = 4 := by have := (flush0_9 t).mp hf; have := t.isLt; omega
  obtain rfl : t = t0_4 := Fin.ext h3
  rw [Value.flushed9]
  funext j
  have O := holds_at H t0_4.val t0_4.isLt
  obtain ⟨r, k, rfl⟩ : ∃ (r : Fin 128) (k : Fin 512), j = ix2 r k := ⟨j 0, j 1, eta2 j⟩
  rw [View.read_apply, emb9]
  exact O.gw r k

theorem final9 : (dats m 0 c).arrAt 9 cfg0.N = G9 D :=
  (dats m 0 c).arrAt_eq_of_cover 9 (G9 D) (flushed9_eq H) fun i => by
    refine ⟨t0_4, (flush0_9 t0_4).mpr rfl, ?_⟩
    obtain ⟨r, k, rfl⟩ : ∃ (r : Fin 128) (k : Fin 512), i = ix2 r k := ⟨i 0, i 1, eta2 i⟩
    have h := ((cfg0.win 9).blk t0_4).view.emb_mem_set (ix2 r k)
    rwa [emb9] at h

omit H in
theorem emb10 (r : Fin 1) (k : Fin 512) :
    ((cfg0.win 10).blk t0_4).view.emb (ix2 r k) = (ix2 r k : S1x512.Idx) := by
  have hi : win0_10.index t0_4 0 = 0 ∧ win0_10.index t0_4 1 = 0 := by decide
  funext a
  apply Fin.ext
  match a with
  | ⟨0, _⟩ => show win0_10.index t0_4 0 * 1 + 1 * (r : ℕ) = r; rw [hi.1]; omega
  | ⟨1, _⟩ => show win0_10.index t0_4 1 * 512 + 1 * (k : ℕ) = k; rw [hi.2]; omega

theorem flushed10_eq (t : Fin cfg0.N) (hf : (cfg0.win 10).flush t = true) :
    (dats m 0 c).flushed 10 t = ((cfg0.win 10).blk t).view.read (Elt Ideal) (G10 D) := by
  have hN : cfg0.N = 5 := N_0
  have h3 : t.val = 4 := by have := (flush0_10 t).mp hf; have := t.isLt; omega
  obtain rfl : t = t0_4 := Fin.ext h3
  rw [Value.flushed10]
  funext j
  have O := holds_at H t0_4.val t0_4.isLt
  obtain ⟨r, k, rfl⟩ : ∃ (r : Fin 1) (k : Fin 512), j = ix2 r k := ⟨j 0, j 1, eta2 j⟩
  rw [View.read_apply, emb10]
  obtain rfl : r = 0 := Subsingleton.elim _ _
  exact O.gb k

theorem final10 : (dats m 0 c).arrAt 10 cfg0.N = G10 D :=
  (dats m 0 c).arrAt_eq_of_cover 10 (G10 D) (flushed10_eq H) fun i => by
    refine ⟨t0_4, (flush0_10 t0_4).mpr rfl, ?_⟩
    obtain ⟨r, k, rfl⟩ : ∃ (r : Fin 1) (k : Fin 512), i = ix2 r k := ⟨i 0, i 1, eta2 i⟩
    have h := ((cfg0.win 10).blk t0_4).view.emb_mem_set (ix2 r k)
    rwa [emb10] at h

omit H in
theorem emb11 (r : Fin 1) (k : Fin 256) :
    ((cfg0.win 11).blk t0_4).view.emb (ix2 r k) = (ix2 r k : S1x256.Idx) := by
  have hi : win0_11.index t0_4 0 = 0 ∧ win0_11.index t0_4 1 = 0 := by decide
  funext a
  apply Fin.ext
  match a with
  | ⟨0, _⟩ => show win0_11.index t0_4 0 * 1 + 1 * (r : ℕ) = r; rw [hi.1]; omega
  | ⟨1, _⟩ => show win0_11.index t0_4 1 * 256 + 1 * (k : ℕ) = k; rw [hi.2]; omega

theorem flushed11_eq (t : Fin cfg0.N) (hf : (cfg0.win 11).flush t = true) :
    (dats m 0 c).flushed 11 t = ((cfg0.win 11).blk t).view.read (Elt Ideal) (G11 D) := by
  have hN : cfg0.N = 5 := N_0
  have h3 : t.val = 4 := by have := (flush0_11 t).mp hf; have := t.isLt; omega
  obtain rfl : t = t0_4 := Fin.ext h3
  rw [Value.flushed11]
  funext j
  have O := holds_at H t0_4.val t0_4.isLt
  obtain ⟨r, k, rfl⟩ : ∃ (r : Fin 1) (k : Fin 256), j = ix2 r k := ⟨j 0, j 1, eta2 j⟩
  rw [View.read_apply, emb11]
  obtain rfl : r = 0 := Subsingleton.elim _ _
  exact O.hg k

theorem final11 : (dats m 0 c).arrAt 11 cfg0.N = G11 D :=
  (dats m 0 c).arrAt_eq_of_cover 11 (G11 D) (flushed11_eq H) fun i => by
    refine ⟨t0_4, (flush0_11 t0_4).mpr rfl, ?_⟩
    obtain ⟨r, k, rfl⟩ : ∃ (r : Fin 1) (k : Fin 256), i = ix2 r k := ⟨i 0, i 1, eta2 i⟩
    have h := ((cfg0.win 11).blk t0_4).view.emb_mem_set (ix2 r k)
    rwa [emb11] at h

end

end Cert.Proof.Gla

end
-- ==== Proof.Finite.lean ====
/- Arguments that satisfy the precondition hold data: real numbers. -/
module

public import proofs.«01_k».proof.Defs
public import proofs.«01_k».proof.Proof.RefRun

@[expose] public section

noncomputable section

namespace Cert.Proof.Gla

open Idealize.ShloMosaic

theorem finite_facts : Cert.Pre_finite.Facts :=
  ⟨by decide, by decide, by decide, by decide, by decide, by decide, by decide, by decide⟩

theorem ofBits_inf : Ideal.ofBits .f32 0x7F800000#32 = ⊤ := by simp [Ideal.ofBits, Ideal.ieee]
theorem ofBits_eps : Ideal.ofBits .f32 0x3727C5AC#32 = ((10995116 / 1099511627776 : ℝ) : EReal) := by
  simp [Ideal.ofBits, Ideal.ieee, -EReal.coe_mul]; norm_num
theorem ofBits_scale : Ideal.ofBits .f32 0x3DB504F3#32 = ((11863283 / 134217728 : ℝ) : EReal) := by
  simp [Ideal.ofBits, Ideal.ieee, -EReal.coe_mul]; norm_num

/-- An extended real whose absolute value is below the infinity is a real. -/
theorem real_of_lt {x : EReal} (h : Ideal.cmp .olt (max x (-x)) (Ideal.ofBits .f32 0x7F800000#32) = 1#1) :
    ((x.toReal : ℝ) : EReal) = x := by
  rw [ofBits_inf] at h
  have hlt : max x (-x) < ⊤ := by
    by_contra hn
    rw [Ideal.cmp, decide_eq_false hn] at h
    exact absurd h (by decide)
  refine EReal.coe_toReal (fun e => ?_) (fun e => ?_)
  · subst e; simp at hlt
  · subst e; simp at hlt

/-- The real numbers of an array of two axes. -/
def arr2 {A B : ℕ} (a : (⟨2, ![A, B]⟩ : Shape).Idx → EReal) (r m : ℕ) : ℝ :=
  if h : r < A ∧ m < B then (a (ix2 ⟨r, h.1⟩ ⟨m, h.2⟩)).toReal else 0

theorem arr2_at {A B : ℕ} {a : (⟨2, ![A, B]⟩ : Shape).Idx → EReal} (h : ∀ y, (((a y).toReal : ℝ) : EReal) = a y)
    (r : Fin A) (m : Fin B) : a (ix2 r m) = ((arr2 a r m : ℝ) : EReal) := by
  rw [arr2, dif_pos ⟨r.isLt, m.isLt⟩, h]

/-- The real numbers of an array of three axes. -/
def arr3 {A B C : ℕ} (a : (⟨3, ![A, B, C]⟩ : Shape).Idx → EReal) (r m k : ℕ) : ℝ :=
  if h : r < A ∧ m < B ∧ k < C then (a (ix3 ⟨r, h.1⟩ ⟨m, h.2.1⟩ ⟨k, h.2.2⟩)).toReal else 0

theorem arr3_at {A B C : ℕ} {a : (⟨3, ![A, B, C]⟩ : Shape).Idx → EReal} (h : ∀ y, (((a y).toReal : ℝ) : EReal) = a y)
    (r : Fin A) (m : Fin B) (k : Fin C) : a (ix3 r m k) = ((arr3 a r m k : ℝ) : EReal) := by
  rw [arr3, dif_pos ⟨r.isLt, m.isLt, k.isLt⟩, h]

variable {a0 : FVec Ideal ⟨2, ![4160, 1024]⟩ .f32} {a1 : FVec Ideal ⟨2, ![1024, 1024]⟩ .bf16}
  {a2 : FVec Ideal ⟨2, ![4160, 1024]⟩ .bf16} {a3 : FVec Ideal ⟨2, ![4160, 3200]⟩ .bf16}
  {a4 : FVec Ideal ⟨3, ![65, 1024, 128]⟩ .bf16} {a5 : FVec Ideal ⟨2, ![128, 512]⟩ .bf16}
  {a6 : FVec Ideal ⟨2, ![1, 512]⟩ .f32} {a7 : FVec Ideal ⟨2, ![1, 256]⟩ .f32}

/-- The data the arguments hold. -/
def dataOf (a0 : FVec Ideal ⟨2, ![4160, 1024]⟩ .f32) (a1 : FVec Ideal ⟨2, ![1024, 1024]⟩ .bf16)
    (a2 : FVec Ideal ⟨2, ![4160, 1024]⟩ .bf16) (a3 : FVec Ideal ⟨2, ![4160, 3200]⟩ .bf16)
    (a4 : FVec Ideal ⟨3, ![65, 1024, 128]⟩ .bf16) (a5 : FVec Ideal ⟨2, ![128, 512]⟩ .bf16)
    (a6 : FVec Ideal ⟨2, ![1, 512]⟩ .f32) (a7 : FVec Ideal ⟨2, ![1, 256]⟩ .f32) : Data where
  dh := arr2 a0
  wo := arr2 a1
  o := arr2 a2
  z := arr2 a3
  st := arr3 a4
  gw := arr2 a5
  gb := arr2 a6 0
  hg := arr2 a7 0
  eps := 10995116 / 1099511627776
  scale := 11863283 / 134217728
  eps_pos := by norm_num

theorem args_of (h0 : ∀ y, (((a0 y).toReal : ℝ) : EReal) = a0 y) (h1 : ∀ y, (((a1 y).toReal : ℝ) : EReal) = a1 y)
    (h2 : ∀ y, (((a2 y).toReal : ℝ) : EReal) = a2 y) (h3 : ∀ y, (((a3 y).toReal : ℝ) : EReal) = a3 y)
    (h4 : ∀ y, (((a4 y).toReal : ℝ) : EReal) = a4 y) (h5 : ∀ y, (((a5 y).toReal : ℝ) : EReal) = a5 y)
    (h6 : ∀ y, (((a6 y).toReal : ℝ) : EReal) = a6 y) (h7 : ∀ y, (((a7 y).toReal : ℝ) : EReal) = a7 y) :
    Args (dataOf a0 a1 a2 a3 a4 a5 a6 a7) a0 a1 a2 a3 a4 a5 a6 a7 where
  dh := arr2_at h0
  wo := arr2_at h1
  o := arr2_at h2
  z := arr2_at h3
  st := arr3_at h4
  gw := arr2_at h5
  gb := arr2_at h6 0
  hg := arr2_at h7 0
  eps := ofBits_eps
  scale := ofBits_scale

/-- The precondition read: every element of every argument is a real. -/
theorem args_of_finite (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) :
    ∃ D : Data, Args D (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) := by
  obtain ⟨h0, h1, h2, h3, h4, h5, h6, h7⟩ := h c
  exact ⟨_, args_of (fun y => real_of_lt (congrFun h0 y)) (fun y => real_of_lt (congrFun h1 y))
    (fun y => real_of_lt (congrFun h2 y)) (fun y => real_of_lt (congrFun h3 y)) (fun y => real_of_lt (congrFun h4 y))
    (fun y => real_of_lt (congrFun h5 y)) (fun y => real_of_lt (congrFun h6 y)) (fun y => real_of_lt (congrFun h7 y))⟩

end Cert.Proof.Gla

end
-- ==== Proof.FfPoint.lean ====
/- The feed-forward layer's data gradient: what a grid point leaves, from the blocks it reads. -/
module

public import proofs.«01_k».proof.Proof.Gen.Kernel2Ideal.Value
public import proofs.«01_k».proof.Proof.Push

@[expose] public section

set_option maxRecDepth 16384

noncomputable section

namespace Cert.Proof.Ff

open Idealize.ShloMosaic Idealize.SL.Sem Cert.Kernel2Ideal Cert.Kernel2Ideal.Gen

theorem z2 : (![0, 0] : Fin 2 → ℕ) = fun _ => 0 := by
  funext a
  match a with
  | ⟨0, _⟩ => rfl
  | ⟨1, _⟩ => rfl

theorem z3 : (![0, 0, 0] : Fin 3 → ℕ) = fun _ => 0 := by
  funext a
  match a with
  | ⟨0, _⟩ => rfl
  | ⟨1, _⟩ => rfl
  | ⟨2, _⟩ => rfl

theorem dp_A (m : (ℓ : Loc nD τ sig) → Buf (Elt Ideal) ℓ) (c : Dev nD) (t : Fin cfg0.N) (h : t.val % 4 = 0) :
    (outsAt0 m c t.val t.isLt).2.1 = k0_pay1 (iblk m c 0 t) (iblk m c 5 t) (iblk m c 3 t) := by
  rw [outsAt0_A m c t h (by omega) (by omega)]
  dsimp only
  unfold out0_A_7
  rw [View.read_writes_junk_eq_canon]
  unfold kernelRun0_A
  dsimp only
  rw [View.canon_unit_zero z2]
  repeat rw [View.readAt_eq_ld]
  rw [(hs0_0 t).read_unread, (hs0_3 t).read_unread, (hs0_5 t).read_unread]
  repeat (first | rw [View.ld_unit_zero z2] | rw [View.ld_unit_zero z3])

theorem dp_B (m : (ℓ : Loc nD τ sig) → Buf (Elt Ideal) ℓ) (c : Dev nD) (t : Fin cfg0.N) (h : t.val % 4 ≠ 0) (h' : t.val % 4 ≠ 3) :
    (outsAt0 m c t.val t.isLt).2.1 = k0_pay1 (iblk m c 0 t) (iblk m c 5 t) (iblk m c 3 t) := by
  rw [outsAt0_B m c t h (by omega) h']
  dsimp only
  unfold out0_B_7
  rw [View.read_writes_junk_eq_canon]
  unfold kernelRun0_B
  dsimp only
  rw [View.canon_unit_zero z2]
  repeat rw [View.readAt_eq_ld]
  rw [(hs0_0 t).read_unread, (hs0_3 t).read_unread, (hs0_5 t).read_unread]
  repeat (first | rw [View.ld_unit_zero z2] | rw [View.ld_unit_zero z3])

theorem dp_C (m : (ℓ : Loc nD τ sig) → Buf (Elt Ideal) ℓ) (c : Dev nD) (t : Fin cfg0.N) (h : t.val = 3) :
    (outsAt0 m c t.val t.isLt).2.1 = k0_pay1 (iblk m c 0 t) (iblk m c 5 t) (iblk m c 3 t) := by
  rw [outsAt0_C m c t (by omega) (by omega) (by omega) (by omega) (by omega)]
  dsimp only
  unfold out0_C_7
  rw [View.read_writes_junk_eq_canon]
  unfold kernelRun0_C
  dsimp only
  rw [View.canon_unit_zero z2]
  repeat rw [View.readAt_eq_ld]
  rw [(hs0_0 t).read_unread, (hs0_3 t).read_unread, (hs0_5 t).read_unread]
  repeat (first | rw [View.ld_unit_zero z2] | rw [View.ld_unit_zero z3])

theorem dp_D (m : (ℓ : Loc nD τ sig) → Buf (Elt Ideal) ℓ) (c : Dev nD) (t : Fin cfg0.N) (h : t.val % 4 = 3) (h' : t.val ≠ 3) :
    (outsAt0 m c t.val t.isLt).2.1 = k0_pay1 (iblk m c 0 t) (iblk m c 5 t) (iblk m c 3 t) := by
  rw [outsAt0_D m c t (by omega) (by omega) h (by omega) (by omega)]
  dsimp only
  unfold out0_D_7
  rw [View.read_writes_junk_eq_canon]
  unfold kernelRun0_D
  dsimp only
  rw [View.canon_unit_zero z2]
  repeat rw [View.readAt_eq_ld]
  rw [(hs0_0 t).read_unread, (hs0_3 t).read_unread, (hs0_5 t).read_unread]
  repeat (first | rw [View.ld_unit_zero z2] | rw [View.ld_unit_zero z3])

theorem acc_A (m : (ℓ : Loc nD τ sig) → Buf (Elt Ideal) ℓ) (c : Dev nD) (t : Fin cfg0.N) (h : t.val % 4 = 0) :
    (outsAt0 m c t.val t.isLt).2.2.2 = k0_pay3 (iblk m c 0 t) (iblk m c 5 t) (iblk m c 3 t) (iblk m c 4 t) := by
  rw [outsAt0_A m c t h (by omega) (by omega)]
  dsimp only
  unfold sout0_A_0
  rw [View.read_writes_junk_eq_canon]
  unfold kernelRun0_A
  dsimp only
  rw [View.canon_unit_zero z2]
  repeat rw [View.readAt_eq_ld]
  rw [(hs0_0 t).read_unread, (hs0_3 t).read_unread, (hs0_4 t).read_unread, (hs0_5 t).read_unread]
  repeat (first | rw [View.ld_unit_zero z2] | rw [View.ld_unit_zero z3])

theorem acc_B (m : (ℓ : Loc nD τ sig) → Buf (Elt Ideal) ℓ) (c : Dev nD) (t : Fin cfg0.N) (h : t.val % 4 ≠ 0) (h' : t.val % 4 ≠ 3) :
    (outsAt0 m c t.val t.isLt).2.2.2 = k0_pay4 (iblk m c 0 t) (iblk m c 5 t) (iblk m c 3 t) (iblk m c 4 t) (outsAt0 m c (t.val - 1) (Nat.lt_of_le_of_lt (Nat.sub_le _ _) t.isLt)).2.2.2 := by
  rw [outsAt0_B m c t h (by omega) h']
  dsimp only
  unfold sout0_B_0
  rw [View.read_writes_junk_eq_canon]
  unfold kernelRun0_B
  dsimp only
  rw [View.canon_unit_zero z2]
  repeat rw [View.readAt_eq_ld]
  rw [(hs0_0 t).read_unread, (hs0_3 t).read_unread, (hs0_4 t).read_unread, (hs0_5 t).read_unread]
  rw [(Memref.isWhole_whole cc0_scratch0).read_unread]
  repeat (first | rw [View.ld_unit_zero z2] | rw [View.ld_unit_zero z3])

theorem acc_C (m : (ℓ : Loc nD τ sig) → Buf (Elt Ideal) ℓ) (c : Dev nD) (t : Fin cfg0.N) (h : t.val = 3) :
    (outsAt0 m c t.val t.isLt).2.2.2 = k0_pay4 (iblk m c 0 t) (iblk m c 5 t) (iblk m c 3 t) (iblk m c 4 t) (outsAt0 m c (t.val - 1) (Nat.lt_of_le_of_lt (Nat.sub_le _ _) t.isLt)).2.2.2 := by
  rw [outsAt0_C m c t (by omega) (by omega) (by omega) (by omega) (by omega)]
  dsimp only
  unfold sout0_C_0
  rw [View.read_writes_junk_eq_canon]
  unfold kernelRun0_C
  dsimp only
  unfold kernelRun0_C.sl.HS0_1
  rw [View.canon_unit_zero z2]
  repeat rw [View.readAt_eq_ld]
  rw [(hs0_0 t).read_unread, (hs0_3 t).read_unread, (hs0_4 t).read_unread, (hs0_5 t).read_unread]
  rw [(Memref.isWhole_whole cc0_scratch0).read_unread]
  repeat (first | rw [View.ld_unit_zero z2] | rw [View.ld_unit_zero z3])

theorem acc_D (m : (ℓ : Loc nD τ sig) → Buf (Elt Ideal) ℓ) (c : Dev nD) (t : Fin cfg0.N) (h : t.val % 4 = 3) (h' : t.val ≠ 3) :
    (outsAt0 m c t.val t.isLt).2.2.2 = k0_pay4 (iblk m c 0 t) (iblk m c 5 t) (iblk m c 3 t) (iblk m c 4 t) (outsAt0 m c (t.val - 1) (Nat.lt_of_le_of_lt (Nat.sub_le _ _) t.isLt)).2.2.2 := by
  rw [outsAt0_D m c t (by omega) (by omega) h (by omega) (by omega)]
  dsimp only
  unfold sout0_D_0
  rw [View.read_writes_junk_eq_canon]
  unfold kernelRun0_D
  dsimp only
  unfold kernelRun0_D.sl.HS0_1
  rw [View.canon_unit_zero z2]
  repeat rw [View.readAt_eq_ld]
  rw [(hs0_0 t).read_unread, (hs0_3 t).read_unread, (hs0_4 t).read_unread, (hs0_5 t).read_unread]
  rw [(Memref.isWhole_whole cc0_scratch0).read_unread]
  repeat (first | rw [View.ld_unit_zero z2] | rw [View.ld_unit_zero z3])

theorem out_C (m : (ℓ : Loc nD τ sig) → Buf (Elt Ideal) ℓ) (c : Dev nD) (t : Fin cfg0.N) (h : t.val = 3) :
    (outsAt0 m c t.val t.isLt).1 = k0_pay9 (BitVec.ofNat 32 (grid0.coords t 0).val) (iblk m c 1 t) (iblk m c 2 t)
      (k0_pay4 (iblk m c 0 t) (iblk m c 5 t) (iblk m c 3 t) (iblk m c 4 t) (outsAt0 m c (t.val - 1) (Nat.lt_of_le_of_lt (Nat.sub_le _ _) t.isLt)).2.2.2) (iblk m c 0 t) := by
  rw [outsAt0_C m c t (by omega) (by omega) (by omega) (by omega) (by omega)]
  dsimp only
  unfold out0_C_6
  rw [View.read_writes_junk_eq_canon]
  unfold kernelRun0_C
  dsimp only
  rw [View.canon_unit_zero z2]
  unfold kernelRun0_C.sl.v28 kernelRun0_C.sl.HS0_1
  rw [View.readCov_unit_zero _ z2]
  repeat rw [View.readAt_eq_ld]
  rw [(hs0_0 t).read_unread, (hs0_1 t).read_unread, (hs0_2 t).read_unread, (hs0_3 t).read_unread, (hs0_4 t).read_unread, (hs0_5 t).read_unread]
  rw [(Memref.isWhole_whole cc0_scratch0).read_unread]
  repeat (first | rw [View.ld_unit_zero z2] | rw [View.ld_unit_zero z3])

theorem out_D (m : (ℓ : Loc nD τ sig) → Buf (Elt Ideal) ℓ) (c : Dev nD) (t : Fin cfg0.N) (h : t.val % 4 = 3) (h' : t.val ≠ 3) :
    (outsAt0 m c t.val t.isLt).1 = k0_pay9 (BitVec.ofNat 32 (grid0.coords t 0).val) (iblk m c 1 t) (iblk m c 2 t)
      (k0_pay4 (iblk m c 0 t) (iblk m c 5 t) (iblk m c 3 t) (iblk m c 4 t) (outsAt0 m c (t.val - 1) (Nat.lt_of_le_of_lt (Nat.sub_le _ _) t.isLt)).2.2.2) (iblk m c 0 t) := by
  rw [outsAt0_D m c t (by omega) (by omega) h (by omega) (by omega)]
  dsimp only
  unfold out0_D_6
  rw [View.read_writes_junk_eq_canon]
  unfold kernelRun0_D
  dsimp only
  rw [View.canon_unit_zero z2]
  unfold kernelRun0_D.sl.v28 kernelRun0_D.sl.HS0_1
  rw [View.readCov_unit_zero _ z2]
  repeat rw [View.readAt_eq_ld]
  rw [(hs0_0 t).read_unread, (hs0_1 t).read_unread, (hs0_2 t).read_unread, (hs0_3 t).read_unread, (hs0_4 t).read_unread, (hs0_5 t).read_unread]
  rw [(Memref.isWhole_whole cc0_scratch0).read_unread]
  repeat (first | rw [View.ld_unit_zero z2] | rw [View.ld_unit_zero z3])

theorem dg_C (m : (ℓ : Loc nD τ sig) → Buf (Elt Ideal) ℓ) (c : Dev nD) (t : Fin cfg0.N) (h : t.val = 3) :
    (outsAt0 m c t.val t.isLt).2.2.1 = k0_pay5 (k0_pay10 (iblk m c 1 t) (k0_pay4 (iblk m c 0 t) (iblk m c 5 t) (iblk m c 3 t) (iblk m c 4 t) (outsAt0 m c (t.val - 1) (Nat.lt_of_le_of_lt (Nat.sub_le _ _) t.isLt)).2.2.2)) := by
  rw [outsAt0_C m c t (by omega) (by omega) (by omega) (by omega) (by omega)]
  dsimp only
  unfold out0_C_8
  rw [View.read_writes_junk_eq_canon]
  unfold kernelRun0_C
  dsimp only
  rw [View.canon_unit_zero z2]
  unfold kernelRun0_C.sl.r
  try unfold kernelRun0_C.sl.v28
  unfold kernelRun0_C.sl.HS0_1
  rw [View.readCov_unit_zero _ z2]
  repeat rw [View.readAt_eq_ld]
  rw [(hs0_0 t).read_unread, (hs0_1 t).read_unread, (hs0_3 t).read_unread, (hs0_4 t).read_unread, (hs0_5 t).read_unread]
  rw [(Memref.isWhole_whole cc0_scratch0).read_unread]
  repeat (first | rw [View.ld_unit_zero z2] | rw [View.ld_unit_zero z3])

theorem dg_D (m : (ℓ : Loc nD τ sig) → Buf (Elt Ideal) ℓ) (c : Dev nD) (t : Fin cfg0.N) (h : t.val % 4 = 3) (h' : t.val ≠ 3) :
    (outsAt0 m c t.val t.isLt).2.2.1 = k0_pay6 (k0_pay10 (iblk m c 1 t) (k0_pay4 (iblk m c 0 t) (iblk m c 5 t) (iblk m c 3 t) (iblk m c 4 t) (outsAt0 m c (t.val - 1) (Nat.lt_of_le_of_lt (Nat.sub_le _ _) t.isLt)).2.2.2)) (outsAt0 m c (t.val - 1) (Nat.lt_of_le_of_lt (Nat.sub_le _ _) t.isLt)).2.2.1 := by
  rw [outsAt0_D m c t (by omega) (by omega) h (by omega) (by omega)]
  dsimp only
  unfold out0_D_8
  rw [View.read_writes_junk_eq_canon]
  unfold kernelRun0_D
  dsimp only
  rw [View.canon_unit_zero z2]
  unfold kernelRun0_D.sl.r
  try unfold kernelRun0_D.sl.v28
  unfold kernelRun0_D.sl.HS0_1
  rw [View.readCov_unit_zero _ z2]
  repeat rw [View.readAt_eq_ld]
  rw [(hs0_0 t).read_unread, (hs0_1 t).read_unread, (hs0_3 t).read_unread, (hs0_4 t).read_unread, (hs0_5 t).read_unread, (hs0_8 t).read_unread]
  rw [(Memref.isWhole_whole cc0_scratch0).read_unread]
  repeat (first | rw [View.ld_unit_zero z2] | rw [View.ld_unit_zero z3])

theorem dg_A (m : (ℓ : Loc nD τ sig) → Buf (Elt Ideal) ℓ) (c : Dev nD) (t : Fin cfg0.N) (h : t.val % 4 = 0) :
    (outsAt0 m c t.val t.isLt).2.2.1 = (outsAt0 m c (t.val - 1) (Nat.lt_of_le_of_lt (Nat.sub_le _ _) t.isLt)).2.2.1 := by
  rw [outsAt0_A m c t h (by omega) (by omega)]
  dsimp only
  unfold out0_A_8
  rfl

theorem dg_B (m : (ℓ : Loc nD τ sig) → Buf (Elt Ideal) ℓ) (c : Dev nD) (t : Fin cfg0.N) (h : t.val % 4 ≠ 0) (h' : t.val % 4 ≠ 3) :
    (outsAt0 m c t.val t.isLt).2.2.1 = (outsAt0 m c (t.val - 1) (Nat.lt_of_le_of_lt (Nat.sub_le _ _) t.isLt)).2.2.1 := by
  rw [outsAt0_B m c t h (by omega) h']
  dsimp only
  unfold out0_B_8
  rfl

end Cert.Proof.Ff

end
-- ==== Proof.FfSpec.lean ====
/- The backward pass of the feed-forward layer on real numbers: the gradient of the values before the activation, of the
   layer's input through the normalisation, and of the normalisation's gain. -/
module

public import proofs.«01_k».proof.Proof.Finite

@[expose] public section

noncomputable section

namespace Cert.Proof.Ff

open Idealize.ShloMosaic

/-- The real numbers the arguments hold. -/
structure Data where
  dh : ℕ → ℕ → ℝ
  h : ℕ → ℕ → ℝ
  g : ℕ → ℝ
  hp : ℕ → ℕ → ℝ
  w1 : ℕ → ℕ → ℕ → ℝ
  w2 : ℕ → ℕ → ℕ → ℝ
  eps : ℝ
  eps_pos : 0 < eps

variable (D : Data)

/-- The gradient of the activation. -/
def da (r f : ℕ) : ℝ := ∑ c : Fin 1024, D.dh r c * D.w2 (f / 1024) (f % 1024) c

/-- The gradient of the value before the activation. -/
def dp (r f : ℕ) : ℝ := da D r f * (2 * max (D.hp r f) 0)

/-- One block of columns' part of the gradient of the scaled normalised input. -/
def part (k r c : ℕ) : ℝ := ∑ j : Fin 1024, dp D r (1024 * k + j) * D.w1 k c j

/-- The first blocks' part. -/
def accN (n r c : ℕ) : ℝ := ∑ k ∈ Finset.range n, part D k r c

/-- The gradient of the scaled normalised input. -/
def acc (r c : ℕ) : ℝ := accN D 4 r c

/-- The mean square of a row. -/
def ms (r : ℕ) : ℝ := (∑ c : Fin 1024, D.h r c * D.h r c) / 1024 + D.eps

theorem ms_pos (r : ℕ) : 0 < ms D r := by
  have : 0 ≤ ∑ c : Fin 1024, D.h r c * D.h r c := Finset.sum_nonneg fun c _ => mul_self_nonneg _
  have := D.eps_pos
  unfold ms; positivity

/-- One over the root mean square. -/
def rr (r : ℕ) : ℝ := (Real.sqrt (ms D r))⁻¹

theorem rr_sq (r : ℕ) : rr D r * rr D r = 1 / ms D r := by
  rw [rr, ← mul_inv, Real.mul_self_sqrt (ms_pos D r).le, one_div]

/-- The normalised input. -/
def xh (r c : ℕ) : ℝ := D.h r c * rr D r

/-- The mean of the gradient along the normalised input. -/
def proj (r : ℕ) : ℝ := (∑ c : Fin 1024, acc D r c * D.g c * xh D r c) / 1024

/-- The gradient of the layer's input: what came from above and what came through the layer; zero on the padding rows. -/
def out (r c : ℕ) : ℝ :=
  if 48 ≤ r then D.dh r c + rr D r * (acc D r c * D.g c - xh D r c * proj D r) else 0

/-- A block of rows' part of the gradient of the gain. -/
def dgB (i c : ℕ) : ℝ := ∑ r : Fin 832, acc D (832 * i + r) c * xh D (832 * i + r) c

/-- The first blocks' part. -/
def dgN (n c : ℕ) : ℝ := ∑ i ∈ Finset.range n, dgB D i c

/-- The gradient of the gain. -/
def dg (c : ℕ) : ℝ := dgN D 5 c

/-- A sum in equal blocks. -/
theorem sum_blocks (f : ℕ → ℝ) (a n : ℕ) :
    ∑ i ∈ Finset.range n, ∑ r : Fin a, f (a * i + r) = ∑ x : Fin (n * a), f x := by
  rw [Fin.sum_univ_eq_sum_range]
  induction n with
  | zero => simp
  | succ n ih =>
    rw [Finset.sum_range_succ, ih, Nat.succ_mul, Finset.sum_range_add, Fin.sum_univ_eq_sum_range (fun r => f (a * n + r)),
      mul_comm a n]

theorem acc_eq (r c : ℕ) : acc D r c = ∑ f : Fin 4096, dp D r f * D.w1 (f / 1024) c (f % 1024) := by
  rw [acc, accN, ← sum_blocks (fun f => dp D r f * D.w1 (f / 1024) c (f % 1024)) 1024 4]
  refine Finset.sum_congr rfl fun k _ => Finset.sum_congr rfl fun j _ => ?_
  have := j.isLt
  rw [show (1024 * k + (j : ℕ)) / 1024 = k by omega, show (1024 * k + (j : ℕ)) % 1024 = j by omega]

theorem dg_eq (c : ℕ) : dg D c = ∑ r : Fin 4160, acc D r c * xh D r c :=
  sum_blocks (fun r => acc D r c * xh D r c) 832 5

/-- The word of 1024. -/
theorem word_0 : Ideal.ofBits .f32 0x00000000#32 = (0 : EReal) := by
  rw [Ideal.ofBits_zero]

theorem word_1024 : Ideal.ofBits .f32 0x44800000#32 = ((1024 : ℝ) : EReal) := by
  simp [Ideal.ofBits, Ideal.ieee, -EReal.coe_mul]; norm_num

/-- The word of 2. -/
theorem word_2 : Ideal.ofBits .f32 0x40000000#32 = ((2 : ℝ) : EReal) := by
  simp [Ideal.ofBits, Ideal.ieee, -EReal.coe_mul]; norm_num

/-- A small number against 48, as words. -/
theorem sge_48 (n : ℕ) (hn : n < 4160) :
    IntOp.cmpi .sge (BitVec.ofNat 32 n) 48#32 = if 48 ≤ n then 1#1 else 0#1 := by
  have e : BitVec.sle 48#32 (BitVec.ofNat 32 n) = decide (48 ≤ n) := by
    rw [BitVec.sle_eq_decide, BitVec.toInt_ofNat', BitVec.toInt_ofNat']
    simp only [decide_eq_decide]
    rw [Int.bmod_eq_of_le (by omega) (by omega), Int.bmod_eq_of_le (by omega) (by omega)]
    omega
  simp only [IntOp.cmpi, e]
  by_cases h : 48 ≤ n <;> simp [h]

/-- A choice on a condition's word. -/
theorem select_48 (n : ℕ) (hn : n < 4160) (x : ℝ) :
    Scalar.select (IntOp.cmpi .sge (BitVec.ofNat 32 n) 48#32) (x : EReal) 0 = ((if 48 ≤ n then x else 0 : ℝ) : EReal) := by
  rw [sge_48 n hn]
  by_cases h : 48 ≤ n
  · rw [if_pos h, if_pos h]; rfl
  · rw [if_neg h, if_neg h]; rfl

/-- Arguments that hold the data. -/
structure Args (D : Data) (a0 a1 : FVec Ideal ⟨2, ![4160, 1024]⟩ .f32) (a2 : FVec Ideal ⟨2, ![1, 1024]⟩ .f32)
    (a3 : FVec Ideal ⟨2, ![4160, 4096]⟩ .bf16) (a4 a5 : FVec Ideal ⟨3, ![4, 1024, 1024]⟩ .bf16) : Prop where
  dh : ∀ (r : Fin 4160) (c : Fin 1024), a0 (ix2 r c) = ((D.dh r c : ℝ) : EReal)
  h : ∀ (r : Fin 4160) (c : Fin 1024), a1 (ix2 r c) = ((D.h r c : ℝ) : EReal)
  g : ∀ c : Fin 1024, a2 (ix2 0 c) = ((D.g c : ℝ) : EReal)
  hp : ∀ (r : Fin 4160) (f : Fin 4096), a3 (ix2 r f) = ((D.hp r f : ℝ) : EReal)
  w1 : ∀ (k : Fin 4) (c j : Fin 1024), a4 (ix3 k c j) = ((D.w1 k c j : ℝ) : EReal)
  w2 : ∀ (k : Fin 4) (j c : Fin 1024), a5 (ix3 k j c) = ((D.w2 k j c : ℝ) : EReal)
  eps : Ideal.ofBits .f32 0x3727C5AC#32 = ((D.eps : ℝ) : EReal)

/-- The data the arguments hold. -/
def dataOf (a0 a1 : FVec Ideal ⟨2, ![4160, 1024]⟩ .f32) (a2 : FVec Ideal ⟨2, ![1, 1024]⟩ .f32)
    (a3 : FVec Ideal ⟨2, ![4160, 4096]⟩ .bf16) (a4 a5 : FVec Ideal ⟨3, ![4, 1024, 1024]⟩ .bf16) : Data where
  dh := Gla.arr2 a0
  h := Gla.arr2 a1
  g := Gla.arr2 a2 0
  hp := Gla.arr2 a3
  w1 := Gla.arr3 a4
  w2 := Gla.arr3 a5
  eps := 10995116 / 1099511627776
  eps_pos := by norm_num

theorem args_of {a0 a1 : FVec Ideal ⟨2, ![4160, 1024]⟩ .f32} {a2 : FVec Ideal ⟨2, ![1, 1024]⟩ .f32}
    {a3 : FVec Ideal ⟨2, ![4160, 4096]⟩ .bf16} {a4 a5 : FVec Ideal ⟨3, ![4, 1024, 1024]⟩ .bf16}
    (h0 : ∀ y, (((a0 y).toReal : ℝ) : EReal) = a0 y) (h1 : ∀ y, (((a1 y).toReal : ℝ) : EReal) = a1 y)
    (h2 : ∀ y, (((a2 y).toReal : ℝ) : EReal) = a2 y) (h3 : ∀ y, (((a3 y).toReal : ℝ) : EReal) = a3 y)
    (h4 : ∀ y, (((a4 y).toReal : ℝ) : EReal) = a4 y) (h5 : ∀ y, (((a5 y).toReal : ℝ) : EReal) = a5 y) :
    Args (dataOf a0 a1 a2 a3 a4 a5) a0 a1 a2 a3 a4 a5 where
  dh := Gla.arr2_at h0
  h := Gla.arr2_at h1
  g := Gla.arr2_at h2 0
  hp := Gla.arr2_at h3
  w1 := Gla.arr3_at h4
  w2 := Gla.arr3_at h5
  eps := Gla.ofBits_eps

theorem finite2_facts : Cert.Pre_finite2.Facts :=
  ⟨by decide, by decide, by decide, by decide, by decide⟩

/-- The precondition read: every element of every argument is a real. -/
theorem args_of_finite2 (m : (ℓ : Loc Cert.Kernel2Ideal.nD Cert.Kernel2Ideal.τ Cert.Kernel2Ideal.sig) → Buf (Elt Ideal) ℓ)
    (h : Cert.Pre_Kernel2Ideal_finite2 (hPre_finite2 := finite2_facts) m) (c : Dev Cert.Kernel2Ideal.nD) :
    ∃ D : Data, Args D (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)) := by
  obtain ⟨h0, h1, h2, h3, h4, h5⟩ := h c
  exact ⟨_, args_of (fun y => Gla.real_of_lt (congrFun h0 y)) (fun y => Gla.real_of_lt (congrFun h1 y))
    (fun y => Gla.real_of_lt (congrFun h2 y)) (fun y => Gla.real_of_lt (congrFun h3 y))
    (fun y => Gla.real_of_lt (congrFun h4 y)) (fun y => Gla.real_of_lt (congrFun h5 y))⟩

/-- An index of two axes from its coordinates. -/
theorem eta {A B : ℕ} (y : (⟨2, ![A, B]⟩ : Shape).Idx) : y = ix2 (n0 := A) (n1 := B) (y 0) (y 1) := by
  funext a
  match a with
  | ⟨0, _⟩ => rfl
  | ⟨1, _⟩ => rfl

/-- The three results, as arrays. -/
def G0 : FVec Ideal ⟨2, ![4160, 1024]⟩ .f32 := fun y => ((out D (y 0 : ℕ) (y 1 : ℕ) : ℝ) : EReal)
def G1 : FVec Ideal ⟨2, ![4160, 4096]⟩ .bf16 := fun y => ((dp D (y 0 : ℕ) (y 1 : ℕ) : ℝ) : EReal)
def G2 : FVec Ideal ⟨2, ![1, 1024]⟩ .f32 := fun y => ((dg D (y 1 : ℕ) : ℝ) : EReal)

end Cert.Proof.Ff

end
-- ==== Proof.FfPay.lean ====
/- The feed-forward backward kernel's values at an index, of blocks that hold the data. -/
module

public import proofs.«01_k».proof.Proof.FfPoint
public import proofs.«01_k».proof.Proof.FfSpec

@[expose] public section

set_option maxRecDepth 16384

noncomputable section

namespace Cert.Proof.Ff

open Idealize.ShloMosaic Cert.Kernel2Ideal Cert.Kernel2Ideal.Gen Cert.Proof.Gla

/-- The blocks of row block `i` and column block `k` hold the data. -/
structure In (D : Data) (i k : ℕ) (b0 b1 : Vec Ideal S832x1024 .f32) (b2 : Vec Ideal S1x1024 .f32)
    (b3 : Vec Ideal S832x1024 .bf16) (b4 b5 : Vec Ideal S1x1024x1024 .bf16) : Prop where
  dh : ∀ (r : Fin 832) (c : Fin 1024), b0 (ix2 r c) = ((D.dh (832 * i + r) c : ℝ) : EReal)
  h : ∀ (r : Fin 832) (c : Fin 1024), b1 (ix2 r c) = ((D.h (832 * i + r) c : ℝ) : EReal)
  g : ∀ c : Fin 1024, b2 (ix2 0 c) = ((D.g c : ℝ) : EReal)
  hp : ∀ (r : Fin 832) (j : Fin 1024), b3 (ix2 r j) = ((D.hp (832 * i + r) (1024 * k + j) : ℝ) : EReal)
  w1 : ∀ (c j : Fin 1024), b4 (ix3 0 c j) = ((D.w1 k c j : ℝ) : EReal)
  w2 : ∀ (j c : Fin 1024), b5 (ix3 0 j c) = ((D.w2 k j c : ℝ) : EReal)
  eps : Ideal.ofBits .f32 0x3727C5AC#32 = ((D.eps : ℝ) : EReal)

section
variable {D : Data} {i k : ℕ} {b0 b1 : Vec Ideal S832x1024 .f32} {b2 : Vec Ideal S1x1024 .f32}
  {b3 : Vec Ideal S832x1024 .bf16} {b4 b5 : Vec Ideal S1x1024x1024 .bf16} (H : In D i k b0 b1 b2 b3 b4 b5)
include H

theorem pay1_at (r : Fin 832) (j : Fin 1024) :
    k0_pay1 b0 b5 b3 (ix2 r j) = ((dp D (832 * i + r) (1024 * k + j) : ℝ) : EReal) := by
  pointwise [k0_pay1]
  simp only [H.dh, H.hp, H.w2, word_2, czero, cmax, cmul, csum, dp, da]
  rw [show (1024 * k + (j : ℕ)) / 1024 = k by omega, show (1024 * k + (j : ℕ)) % 1024 = j by omega]

theorem pay2_at (r : Fin 832) (c : Fin 1024) :
    k0_pay2 b0 b5 b3 b4 (ix2 r c) = ((part D k (832 * i + r) c : ℝ) : EReal) := by
  pointwise [k0_pay2]
  simp only [pay1_at H, H.w1, cmul, csum, part]

theorem pay3_at (h0 : k = 0) (r : Fin 832) (c : Fin 1024) :
    k0_pay3 b0 b5 b3 b4 (ix2 r c) = ((accN D (k + 1) (832 * i + r) c : ℝ) : EReal) := by
  pointwise [k0_pay3]
  rw [pay2_at H, accN, h0, Finset.sum_range_one]

theorem pay4_at {a : Vec Ideal S832x1024 .f32}
    (ha : ∀ (r : Fin 832) (c : Fin 1024), a (ix2 r c) = ((accN D k (832 * i + r) c : ℝ) : EReal)) (r : Fin 832) (c : Fin 1024) :
    k0_pay4 b0 b5 b3 b4 a (ix2 r c) = ((accN D (k + 1) (832 * i + r) c : ℝ) : EReal) := by
  pointwise [k0_pay4]
  rw [pay2_at H, ha, cadd, accN, accN, Finset.sum_range_succ]

theorem pay7_at (r : Fin 832) : k0_pay7 b1 (ix2 r 0) = ((rr D (832 * i + r) : ℝ) : EReal) := by
  pointwise [k0_pay7]
  simp only [H.h, H.eps, word_1024, cmul, csum, cadd, cdiv _ _ (by norm_num : (1024 : ℝ) ≠ 0)]
  rw [← ms, crsqrt _ (ms_pos _ _), rr]

theorem pay8_at (r : Fin 832) (c : Fin 1024) : k0_pay8 b1 (ix2 r c) = ((xh D (832 * i + r) c : ℝ) : EReal) := by
  pointwise [k0_pay8]
  simp only [pay7_at H, H.h, cmul, xh]

theorem pay10_at {a : Vec Ideal S832x1024 .f32}
    (ha : ∀ (r : Fin 832) (c : Fin 1024), a (ix2 r c) = ((acc D (832 * i + r) c : ℝ) : EReal)) (c : Fin 1024) :
    k0_pay5 (k0_pay10 b1 a) (ix2 0 c) = ((dgB D i c : ℝ) : EReal) := by
  pointwise [k0_pay5, k0_pay10]
  simp only [pay8_at H, ha, cmul, csum, dgB]

theorem pay6_at {a : Vec Ideal S832x1024 .f32} {p : Vec Ideal S1x1024 .f32}
    (ha : ∀ (r : Fin 832) (c : Fin 1024), a (ix2 r c) = ((acc D (832 * i + r) c : ℝ) : EReal))
    (hp : ∀ c : Fin 1024, p (ix2 0 c) = ((dgN D i c : ℝ) : EReal)) (c : Fin 1024) :
    k0_pay6 (k0_pay10 b1 a) p (ix2 0 c) = ((dgN D (i + 1) c : ℝ) : EReal) := by
  pointwise [k0_pay6]
  rw [pay10_at H ha, hp, cadd, dgN, dgN, Finset.sum_range_succ]

theorem pay9_at (hi : i < 5) {a : Vec Ideal S832x1024 .f32}
    (ha : ∀ (r : Fin 832) (c : Fin 1024), a (ix2 r c) = ((acc D (832 * i + r) c : ℝ) : EReal)) (r : Fin 832) (c : Fin 1024) :
    k0_pay9 (BitVec.ofNat 32 i) b1 b2 a b0 (ix2 r c) = ((out D (832 * i + r) c : ℝ) : EReal) := by
  have e : BitVec.ofNat 32 i * 832#32 + BitVec.ofNat 32 (r : ℕ) = BitVec.ofNat 32 (832 * i + r) := by
    apply BitVec.eq_of_toNat_eq
    simp only [BitVec.toNat_add, BitVec.toNat_mul, BitVec.toNat_ofNat]
    omega
  pointwise [k0_pay9]
  simp only [pay7_at H, pay8_at H, ha, H.dh, H.g, word_1024, cmul, csum, cadd, csub, cdiv _ _ (by norm_num : (1024 : ℝ) ≠ 0)]
  rw [show IntOp.addi (Scalar.muli (BitVec.ofNat 32 i) 832#32) (BitVec.ofNat 32 (r : ℕ)) = BitVec.ofNat 32 (832 * i + r) from e,
    select_48 _ (by omega)]
  rfl
end

end Cert.Proof.Ff

end
-- ==== Proof.FfGrid.lean ====
/- The feed-forward backward kernel over its grid: the running sums after each point, and what the grid leaves. -/
module

public import proofs.«01_k».proof.Proof.FfPay

@[expose] public section

set_option maxRecDepth 16384

noncomputable section

namespace Cert.Proof.Ff

open Idealize.ShloMosaic Idealize.SL.Sem Cert.Kernel2Ideal Cert.Kernel2Ideal.Gen

theorem lt20 (t : Fin cfg0.N) : t.val < 20 := t.isLt
theorem lt5 (t : Fin cfg0.N) : t.val / 4 < 5 := by have := lt20 t; omega
theorem row_lt (t : Fin cfg0.N) (r : Fin 832) : 832 * (t.val / 4) + (r : ℕ) < 4160 := by have := lt5 t; omega
theorem col_lt (t : Fin cfg0.N) (j : Fin 1024) : 1024 * (t.val % 4) + (j : ℕ) < 4096 := by omega

theorem wi0 : ∀ t : Fin cfg0.N, win0_0.index t 0 = t.val / 4 ∧ win0_0.index t 1 = 0 :=
  (by decide +kernel : ∀ t : Fin grid0.N, win0_0.index t 0 = t.val / 4 ∧ win0_0.index t 1 = 0)
theorem wi1 : ∀ t : Fin cfg0.N, win0_1.index t 0 = t.val / 4 ∧ win0_1.index t 1 = 0 :=
  (by decide +kernel : ∀ t : Fin grid0.N, win0_1.index t 0 = t.val / 4 ∧ win0_1.index t 1 = 0)
theorem wi2 : ∀ t : Fin cfg0.N, win0_2.index t 0 = 0 ∧ win0_2.index t 1 = 0 :=
  (by decide +kernel : ∀ t : Fin grid0.N, win0_2.index t 0 = 0 ∧ win0_2.index t 1 = 0)
theorem wi3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)
theorem wi4 : ∀ t : Fin cfg0.N, win0_4.index t 0 = t.val % 4 ∧ win0_4.index t 1 = 0 ∧ win0_4.index t 2 = 0 :=
  (by decide +kernel : ∀ t : Fin grid0.N, win0_4.index t 0 = t.val % 4 ∧ win0_4.index t 1 = 0 ∧ win0_4.index t 2 = 0)
theorem wi5 : ∀ t : Fin cfg0.N, win0_5.index t 0 = t.val % 4 ∧ win0_5.index t 1 = 0 ∧ win0_5.index t 2 = 0 :=
  (by decide +kernel : ∀ t : Fin grid0.N, win0_5.index t 0 = t.val % 4 ∧ win0_5.index t 1 = 0 ∧ win0_5.index t 2 = 0)
theorem wi6 : ∀ t : Fin cfg0.N, win0_6.index t 0 = t.val / 4 ∧ win0_6.index t 1 = 0 :=
  (by decide +kernel : ∀ t : Fin grid0.N, win0_6.index t 0 = t.val / 4 ∧ win0_6.index t 1 = 0)
theorem wi7 : ∀ t : Fin cfg0.N, win0_7.index t 0 = t.val / 4 ∧ win0_7.index t 1 = t.val % 4 :=
  (by decide +kernel : ∀ t : Fin grid0.N, win0_7.index t 0 = t.val / 4 ∧ win0_7.index t 1 = t.val % 4)
theorem wi8 : ∀ t : Fin cfg0.N, win0_8.index t 0 = 0 ∧ win0_8.index t 1 = 0 :=
  (by decide +kernel : ∀ t : Fin grid0.N, win0_8.index t 0 = 0 ∧ win0_8.index t 1 = 0)
theorem row_coord : ∀ t : Fin cfg0.N, (grid0.coords t 0).val = t.val / 4 :=
  (by decide +kernel : ∀ t : Fin grid0.N, (grid0.coords t 0).val = t.val / 4)

section blocks
variable (m : (ℓ : Loc nD τ sig) → Buf (Elt Ideal) ℓ) (c : Dev nD) (t : Fin cfg0.N)

theorem blk0 (r : Fin 832) (k : Fin 1024) : iblk m c 0 t (ix2 r k)
    = m ((c.tc : Thread nD τ).loc main_arg0) (ix2 (⟨832 * (t.val / 4) + r, row_lt t r⟩ : Fin 4160) k) := by
  have hi := wi0 t
  unfold iblk
  rw [View.read_apply]
  show V m c main_arg0 _ = m (c.tc.loc main_arg0) _
  unfold V
  congr 1
  funext a
  apply Fin.ext
  match a with
  | ⟨0, _⟩ => show win0_0.index t 0 * 832 + 1 * (r : ℕ) = 832 * (t.val / 4) + (r : ℕ); rw [hi.1]; omega
  | ⟨1, _⟩ => show win0_0.index t 1 * 1024 + 1 * (k : ℕ) = k; rw [hi.2]; omega

theorem blk1 (r : Fin 832) (k : Fin 1024) : iblk m c 1 t (ix2 r k)
    = m ((c.tc : Thread nD τ).loc main_arg1) (ix2 (⟨832 * (t.val / 4) + r, row_lt t r⟩ : Fin 4160) k) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 832 + 1 * (r : ℕ) = 832 * (t.val / 4) + (r : ℕ); rw [hi.1]; omega
  | ⟨1, _⟩ => show win0_1.index t 1 * 1024 + 1 * (k : ℕ) = k; rw [hi.2]; omega

theorem blk2 (k : Fin 1024) : iblk m c 2 t (ix2 (0 : Fin 1) k)
    = m ((c.tc : Thread nD τ).loc main_arg2) (ix2 (0 : Fin 1) k) := by
  have hi := wi2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = 0; rw [hi.1]
  | ⟨1, _⟩ => show win0_2.index t 1 * 1024 + 1 * (k : ℕ) = k; rw [hi.2]; omega

theorem blk3 (r : Fin 832) (k : Fin 1024) : iblk m c 3 t (ix2 r k)
    = m ((c.tc : Thread nD τ).loc main_arg3) (ix2 (⟨832 * (t.val / 4) + r, row_lt t r⟩ : Fin 4160)
      (⟨1024 * (t.val % 4) + k, col_lt t k⟩ : Fin 4096)) := by
  have hi := wi3 t
  unfold iblk
  rw [View.read_apply]
  show V m c main_arg3 _ = m (c.tc.loc main_arg3) _
  unfold V
  congr 1
  funext a
  apply Fin.ext
  match a with
  | ⟨0, _⟩ => show win0_3.index t 0 * 832 + 1 * (r : ℕ) = 832 * (t.val / 4) + (r : ℕ); rw [hi.1]; omega
  | ⟨1, _⟩ => show win0_3.index t 1 * 1024 + 1 * (k : ℕ) = 1024 * (t.val % 4) + k; rw [hi.2]; omega

theorem blk4 (i j : Fin 1024) : iblk m c 4 t (ix3 (0 : Fin 1) i j)
    = m ((c.tc : Thread nD τ).loc main_arg4) (ix3 (⟨t.val % 4, by omega⟩ : Fin 4) i j) := by
  have hi := wi4 t
  unfold iblk
  rw [View.read_apply]
  show V m c main_arg4 _ = m (c.tc.loc main_arg4) _
  unfold V
  congr 1
  funext a
  apply Fin.ext
  match a with
  | ⟨0, _⟩ => show win0_4.index t 0 * 1 + 1 * 0 = t.val % 4; rw [hi.1]; omega
  | ⟨1, _⟩ => show win0_4.index t 1 * 1024 + 1 * (i : ℕ) = i; rw [hi.2.1]; omega
  | ⟨2, _⟩ => show win0_4.index t 2 * 1024 + 1 * (j : ℕ) = j; rw [hi.2.2]; omega

theorem blk5 (i j : Fin 1024) : iblk m c 5 t (ix3 (0 : Fin 1) i j)
    = m ((c.tc : Thread nD τ).loc main_arg5) (ix3 (⟨t.val % 4, by omega⟩ : Fin 4) i j) := by
  have hi := wi5 t
  unfold iblk
  rw [View.read_apply]
  show V m c main_arg5 _ = m (c.tc.loc main_arg5) _
  unfold V
  congr 1
  funext a
  apply Fin.ext
  match a with
  | ⟨0, _⟩ => show win0_5.index t 0 * 1 + 1 * 0 = t.val % 4; rw [hi.1]; omega
  | ⟨1, _⟩ => show win0_5.index t 1 * 1024 + 1 * (i : ℕ) = i; rw [hi.2.1]; omega
  | ⟨2, _⟩ => show win0_5.index t 2 * 1024 + 1 * (j : ℕ) = j; rw [hi.2.2]; omega

end blocks

theorem emb6 (t : Fin cfg0.N) (r : Fin 832) (k : Fin 1024) : ((cfg0.win 6).blk t).view.emb (ix2 r k)
    = (ix2 (⟨832 * (t.val / 4) + r, row_lt t r⟩ : Fin 4160) k : S4160x1024.Idx) := by
  have hi := wi6 t
  funext a
  apply Fin.ext
  match a with
  | ⟨0, _⟩ => show win0_6.index t 0 * 832 + 1 * (r : ℕ) = 832 * (t.val / 4) + (r : ℕ); rw [hi.1]; omega
  | ⟨1, _⟩ => show win0_6.index t 1 * 1024 + 1 * (k : ℕ) = k; rw [hi.2]; omega

theorem emb7 (t : Fin cfg0.N) (r : Fin 832) (k : Fin 1024) : ((cfg0.win 7).blk t).view.emb (ix2 r k)
    = (ix2 (⟨832 * (t.val / 4) + r, row_lt t r⟩ : Fin 4160) (⟨1024 * (t.val % 4) + k, col_lt t k⟩ : Fin 4096)
      : S4160x4096.Idx) := by
  have hi := wi7 t
  funext a
  apply Fin.ext
  match a with
  | ⟨0, _⟩ => show win0_7.index t 0 * 832 + 1 * (r : ℕ) = 832 * (t.val / 4) + (r : ℕ); rw [hi.1]; omega
  | ⟨1, _⟩ => show win0_7.index t 1 * 1024 + 1 * (k : ℕ) = 1024 * (t.val % 4) + k; rw [hi.2]; omega

theorem emb8 (t : Fin cfg0.N) (k : Fin 1024) : ((cfg0.win 8).blk t).view.emb (ix2 (0 : Fin 1) k)
    = (ix2 (0 : Fin 1) k : S1x1024.Idx) := by
  have hi := wi8 t
  funext a
  apply Fin.ext
  match a with
  | ⟨0, _⟩ => show win0_8.index t 0 * 1 + 1 * 0 = 0; rw [hi.1]
  | ⟨1, _⟩ => show win0_8.index t 1 * 1024 + 1 * (k : ℕ) = k; rw [hi.2]; omega

section run
variable {m : (ℓ : Loc nD τ sig) → Buf (Elt Ideal) ℓ} {c : Dev nD} {D : Data}
  (H : Args D (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5)))
include H

/-- The blocks a point reads hold the data. -/
theorem inAt (t : Fin cfg0.N) : In D (t.val / 4) (t.val % 4) (iblk m c 0 t) (iblk m c 1 t) (iblk m c 2 t) (iblk m c 3 t)
    (iblk m c 4 t) (iblk m c 5 t) where
  dh := fun r k => (blk0 m c t r k).trans (H.dh _ k)
  h := fun r k => (blk1 m c t r k).trans (H.h _ k)
  g := fun k => (blk2 m c t k).trans (H.g k)
  hp := fun r k => (blk3 m c t r k).trans (H.hp _ _)
  w1 := fun i j => (blk4 m c t i j).trans (H.w1 _ i j)
  w2 := fun i j => (blk5 m c t i j).trans (H.w2 _ i j)
  eps := H.eps

omit H in
theorem dp_pay (t : Fin cfg0.N) :
    (outsAt0 m c t.val t.isLt).2.1 = k0_pay1 (iblk m c 0 t) (iblk m c 5 t) (iblk m c 3 t) := by
  by_cases h0 : t.val % 4 = 0
  · exact dp_A m c t h0
  by_cases h3 : t.val % 4 = 3
  · by_cases h : t.val = 3
    · exact dp_C m c t h
    · exact dp_D m c t h3 h
  · exact dp_B m c t h0 h3

omit H in
theorem acc_pay (t : Fin cfg0.N) (h0 : t.val % 4 ≠ 0) : (outsAt0 m c t.val t.isLt).2.2.2
    = k0_pay4 (iblk m c 0 t) (iblk m c 5 t) (iblk m c 3 t) (iblk m c 4 t)
      (outsAt0 m c (t.val - 1) (Nat.lt_of_le_of_lt (Nat.sub_le _ _) t.isLt)).2.2.2 := by
  by_cases h3 : t.val % 4 = 3
  · by_cases h : t.val = 3
    · exact acc_C m c t h
    · exact acc_D m c t h3 h
  · exact acc_B m c t h0 h3

/-- The running sum over the column blocks. -/
theorem acc_run (n : ℕ) : ∀ (hn : n < cfg0.N) (r : Fin 832) (k : Fin 1024),
    (outsAt0 m c n hn).2.2.2 (ix2 r k) = ((accN D (n % 4 + 1) (832 * (n / 4) + r) k : ℝ) : EReal) := by
  induction n with
  | zero =>
    intro hn r k
    have e := acc_A m c ⟨0, hn⟩ rfl
    dsimp only at e
    rw [e]
    exact pay3_at (inAt H ⟨0, hn⟩) rfl r k
  | succ n ih =>
    intro hn r k
    by_cases h0 : (n + 1) % 4 = 0
    · have e := acc_A m c ⟨n + 1, hn⟩ h0
      dsimp only at e
      rw [e]
      exact pay3_at (inAt H ⟨n + 1, hn⟩) h0 r k
    · have e := acc_pay (m := m) (c := c) ⟨n + 1, hn⟩ h0
      dsimp only at e
      rw [e]
      refine pay4_at (inAt H ⟨n + 1, hn⟩) (fun r k => ?_) r k
      refine (ih (Nat.lt_of_succ_lt hn) r k).trans ?_
      show _ = ((accN D ((n + 1) % 4) (832 * ((n + 1) / 4) + r) k : ℝ) : EReal)
      rw [show (n + 1) % 4 = n % 4 + 1 by omega, show (n + 1) / 4 = n / 4 by omega]

/-- The sum a row block's last point has. -/
theorem acc_last (t : Fin cfg0.N) (h3 : t.val % 4 = 3) (r : Fin 832) (k : Fin 1024) :
    k0_pay4 (iblk m c 0 t) (iblk m c 5 t) (iblk m c 3 t) (iblk m c 4 t)
      (outsAt0 m c (t.val - 1) (Nat.lt_of_le_of_lt (Nat.sub_le _ _) t.isLt)).2.2.2 (ix2 r k)
      = ((acc D (832 * (t.val / 4) + r) k : ℝ) : EReal) := by
  rw [← acc_pay t (by omega), acc_run H t.val t.isLt r k, h3]
  rfl

theorem dg_run (n : ℕ) : ∀ (hn : n < cfg0.N) (h3 : 3 ≤ n) (k : Fin 1024),
    (outsAt0 m c n hn).2.2.1 (ix2 (0 : Fin 1) k) = ((dgN D ((n + 1) / 4) k : ℝ) : EReal) := by
  induction n with
  | zero => intro hn h3; omega
  | succ n ih =>
    intro hn h3 k
    by_cases hl : (n + 1) % 4 = 3
    · by_cases hf : n + 1 = 3
      · have e := dg_C m c ⟨n + 1, hn⟩ hf
        dsimp only at e
        rw [e]
        refine (pay10_at (inAt H ⟨n + 1, hn⟩) (acc_last H ⟨n + 1, hn⟩ hl) k).trans ?_
        show ((dgB D ((n + 1) / 4) k : ℝ) : EReal) = _
        rw [hf, dgN, Finset.sum_range_one]
      · have e := dg_D m c ⟨n + 1, hn⟩ hl hf
        dsimp only at e
        rw [e]
        refine (pay6_at (inAt H ⟨n + 1, hn⟩) (acc_last H ⟨n + 1, hn⟩ hl)
          (ih (Nat.lt_of_succ_lt hn) (by omega)) k).trans ?_
        show ((dgN D ((n + 1) / 4 + 1) k : ℝ) : EReal) = _
        rw [show (n + 1 + 1) / 4 = (n + 1) / 4 + 1 by omega]
    · have e : (outsAt0 m c (n + 1) hn).2.2.1 = (outsAt0 m c n (Nat.lt_of_succ_lt hn)).2.2.1 := by
        by_cases h0 : (n + 1) % 4 = 0
        · exact dg_A m c ⟨n + 1, hn⟩ h0
        · exact dg_B m c ⟨n + 1, hn⟩ h0 hl
      rw [e, ih (Nat.lt_of_succ_lt hn) (by omega), show (n + 1 + 1) / 4 = (n + 1) / 4 by omega]

theorem out_at (t : Fin cfg0.N) (h3 : t.val % 4 = 3) (r : Fin 832) (k : Fin 1024) :
    (outsAt0 m c t.val t.isLt).1 (ix2 r k) = ((out D (832 * (t.val / 4) + r) k : ℝ) : EReal) := by
  have e : (outsAt0 m c t.val t.isLt).1 = k0_pay9 (BitVec.ofNat 32 (grid0.coords t 0).val) (iblk m c 1 t) (iblk m c 2 t)
      (k0_pay4 (iblk m c 0 t) (iblk m c 5 t) (iblk m c 3 t) (iblk m c 4 t)
        (outsAt0 m c (t.val - 1) (Nat.lt_of_le_of_lt (Nat.sub_le _ _) t.isLt)).2.2.2) (iblk m c 0 t) := by
    by_cases h : t.val = 3
    · exact out_C m c t h
    · exact out_D m c t h3 h
  rw [e, row_coord t]
  exact pay9_at (inAt H t) (lt5 t) (acc_last H t h3) r k

theorem flushed6_eq (t : Fin cfg0.N) (hf : (cfg0.win 6).flush t = true) :
    (dats m 0 c).flushed 6 t = ((cfg0.win 6).blk t).view.read (Elt Ideal) (G0 D) := by
  rw [Value.flushed6]
  funext y
  obtain ⟨r, k, rfl⟩ : ∃ (r : Fin 832) (k : Fin 1024), y = ix2 r k := ⟨y 0, y 1, eta y⟩
  rw [View.read_apply, emb6]
  exact out_at H t ((flush0_6 t).mp hf) r k

theorem flushed7_eq (t : Fin cfg0.N) (hf : (cfg0.win 7).flush t = true) :
    (dats m 0 c).flushed 7 t = ((cfg0.win 7).blk t).view.read (Elt Ideal) (G1 D) := by
  rw [Value.flushed7, dp_pay t]
  funext y
  obtain ⟨r, k, rfl⟩ : ∃ (r : Fin 832) (k : Fin 1024), y = ix2 r k := ⟨y 0, y 1, eta y⟩
  rw [View.read_apply, emb7]
  exact pay1_at (inAt H t) r k

theorem flushed8_eq (t : Fin cfg0.N) (hf : (cfg0.win 8).flush t = true) :
    (dats m 0 c).flushed 8 t = ((cfg0.win 8).blk t).view.read (Elt Ideal) (G2 D) := by
  have h := (flush0_8 t).mp hf
  have hl := lt20 t
  rw [Value.flushed8]
  funext y
  obtain ⟨r, k, rfl⟩ : ∃ (r : Fin 1) (k : Fin 1024), y = ix2 r k := ⟨y 0, y 1, eta y⟩
  obtain rfl : r = 0 := Subsingleton.elim _ _
  rw [View.read_apply, emb8]
  refine (dg_run H t.val t.isLt (by omega) k).trans ?_
  rw [show (t.val + 1) / 4 = 5 by omega]
  rfl

theorem final6 : (dats m 0 c).arrAt 6 cfg0.N = G0 D :=
  (dats m 0 c).arrAt_eq_of_cover 6 _ (flushed6_eq H) fun y => by
    have h0 : (y 0 : ℕ) < 4160 := (y 0).isLt
    have hN : 4 * ((y 0 : ℕ) / 832) + 3 < cfg0.N := by show _ < 20; omega
    refine ⟨⟨4 * ((y 0 : ℕ) / 832) + 3, hN⟩, (flush0_6 _).mpr (by show (4 * ((y 0 : ℕ) / 832) + 3) % 4 = 3; omega), ?_⟩
    have h := ((cfg0.win 6).blk (⟨4 * ((y 0 : ℕ) / 832) + 3, hN⟩ : Fin cfg0.N)).view.emb_mem_set
      (ix2 (⟨(y 0 : ℕ) % 832, Nat.mod_lt _ (by decide)⟩ : Fin 832) (⟨y 1, (y 1).isLt⟩ : Fin 1024))
    rw [emb6] at h
    refine Eq.mp (congrArg (· ∈ _) ?_) h
    funext a
    apply Fin.ext
    match a with
    | ⟨0, _⟩ => show 832 * ((4 * ((y 0 : ℕ) / 832) + 3) / 4) + (y 0 : ℕ) % 832 = y 0; omega
    | ⟨1, _⟩ => rfl

theorem final7 : (dats m 0 c).arrAt 7 cfg0.N = G1 D :=
  (dats m 0 c).arrAt_eq_of_cover 7 _ (flushed7_eq H) fun y => by
    have h0 : (y 0 : ℕ) < 4160 := (y 0).isLt
    have h1 : (y 1 : ℕ) < 4096 := (y 1).isLt
    have hN : 4 * ((y 0 : ℕ) / 832) + (y 1 : ℕ) / 1024 < cfg0.N := by show _ < 20; omega
    refine ⟨⟨4 * ((y 0 : ℕ) / 832) + (y 1 : ℕ) / 1024, hN⟩, flush0_7 _, ?_⟩
    have h := ((cfg0.win 7).blk (⟨4 * ((y 0 : ℕ) / 832) + (y 1 : ℕ) / 1024, hN⟩ : Fin cfg0.N)).view.emb_mem_set
      (ix2 (⟨(y 0 : ℕ) % 832, Nat.mod_lt _ (by decide)⟩ : Fin 832) (⟨(y 1 : ℕ) % 1024, Nat.mod_lt _ (by decide)⟩ : Fin 1024))
    rw [emb7] at h
    refine Eq.mp (congrArg (· ∈ _) ?_) h
    funext a
    apply Fin.ext
    match a with
    | ⟨0, _⟩ => show 832 * ((4 * ((y 0 : ℕ) / 832) + (y 1 : ℕ) / 1024) / 4) + (y 0 : ℕ) % 832 = y 0; omega
    | ⟨1, _⟩ => show 1024 * ((4 * ((y 0 : ℕ) / 832) + (y 1 : ℕ) / 1024) % 4) + (y 1 : ℕ) % 1024 = y 1; omega

theorem final8 : (dats m 0 c).arrAt 8 cfg0.N = G2 D :=
  (dats m 0 c).arrAt_eq_of_cover 8 _ (flushed8_eq H) fun y => by
    have hN : 19 < cfg0.N := by show _ < 20; omega
    refine ⟨⟨19, hN⟩, (flush0_8 _).mpr rfl, ?_⟩
    have h := ((cfg0.win 8).blk (⟨19, hN⟩ : Fin cfg0.N)).view.emb_mem_set (ix2 (0 : Fin 1) (⟨y 1, (y 1).isLt⟩ : Fin 1024))
    rw [emb8] at h
    refine Eq.mp (congrArg (· ∈ _) ?_) h
    funext a
    match a with
    | ⟨0, _⟩ => exact Subsingleton.elim (α := Fin 1) _ _
    | ⟨1, _⟩ => rfl

end run

end Cert.Proof.Ff

end
-- ==== Proof.FfRef.lean ====
/- The reference's backward pass of the feed-forward layer at an index: each value is the real number of the specification. -/
module

public import proofs.«01_k».proof.Proof.FfSpec
public import proofs.«01_k».proof.Proof.Gen.Reference2Ideal.Run

@[expose] public section

set_option maxRecDepth 16384

noncomputable section

namespace Cert.Proof.Ff

open Idealize.ShloMosaic Cert.Reference2Ideal Cert.Reference2Ideal.Gen Cert.Proof.Gla

/-- The gradient of the values before the activation. -/
def rDp (a0 : FVec Ideal S4160x1024 .f32) (a3 : FVec Ideal S4160x4096 .bf16) (a5 : FVec Ideal S4x1024x1024 .bf16) :
    FVec Ideal S4160x4096 .f32 :=
  select (cmpf .ogt (extf .f32 a3 bitsLt_bf16_f32) (broadcastInDim S4160x4096 ![] bcast_S_S4160x4096 (constant S_ .f32
    0x00000000#32))) (addf (mulf (maximumf (extf .f32 a3 bitsLt_bf16_f32) (broadcastInDim S4160x4096 ![]
    bcast_S_S4160x4096 (constant S_ .f32 0x00000000#32))) (Host.dotGeneral
    dot_S4160x1024_S4096x1024_S4160x4096_1_1_0_0_n_n none a0 (shapeCast _ (extf .f32 a5 bitsLt_bf16_f32)
    shapeCasts_S4x1024x1024_S4096x1024))) (mulf (Host.dotGeneral dot_S4160x1024_S4096x1024_S4160x4096_1_1_0_0_n_n none
    a0 (shapeCast _ (extf .f32 a5 bitsLt_bf16_f32) shapeCasts_S4x1024x1024_S4096x1024)) (maximumf (extf .f32 a3
    bitsLt_bf16_f32) (broadcastInDim S4160x4096 ![] bcast_S_S4160x4096 (constant S_ .f32 0x00000000#32)))))
    (broadcastInDim S4160x4096 ![] bcast_S_S4160x4096 (constant S_ .f32 0x00000000#32))

/-- The gradient of the scaled normalised input. -/
def rAcc (a0 : FVec Ideal S4160x1024 .f32) (a3 : FVec Ideal S4160x4096 .bf16) (a4 a5 : FVec Ideal S4x1024x1024 .bf16) :
    FVec Ideal S4160x1024 .f32 :=
  Host.dotGeneral dot_S4160x4096_S1024x4096_S4160x1024_1_1_0_0_n_n none (rDp a0 a3 a5) (shapeCast _ (transpose
    S1024x4x1024 [1, 0, 2] (extf .f32 a4 bitsLt_bf16_f32) transposes_S4x1024x1024_S1024x4x1024_1_0_2)
    shapeCasts_S1024x4x1024_S1024x4096)

/-- The mean square of each row. -/
def rMs (a1 : FVec Ideal S4160x1024 .f32) : FVec Ideal S4160x1 .f32 :=
  addf (Host.divf (broadcastInDim S4160x1 ![0] bcast_S4160_S4160x1_0 (Host.reduceAdd (mulf a1 a1) (constant S_ .f32
    0x00000000#32) reducesTo_S4160x1024_S4160_d1 h_S_)) (broadcastInDim S4160x1 ![] bcast_S_S4160x1 (constant S_ .f32
    0x44800000#32))) (broadcastInDim S4160x1 ![] bcast_S_S4160x1 (constant S_ .f32 0x3727C5AC#32))

/-- The gradient through the mean square, of half of each element. -/
def rTan (a0 a1 : FVec Ideal S4160x1024 .f32) (a2 : FVec Ideal S1x1024 .f32) (a3 : FVec Ideal S4160x4096 .bf16) (a4 a5 : FVec Ideal S4x1024x1024 .bf16) : FVec Ideal S4160 .f32 :=
  Host.reduceAdd (Host.divf (mulf (shapeCast _ (Host.reduceAdd (mulf a1 (mulf (rAcc a0 a3 a4 a5) (broadcastInDim
    S4160x1024 ![0, 1] bcast_S1x1024_S4160x1024_0_1 a2))) (constant S_ .f32 0x00000000#32)
    reducesTo_S4160x1024_S4160_d1 h_S_) shapeCasts_S4160_S4160x1) (mulf (broadcastInDim S4160x1 ![] bcast_S_S4160x1
    (constant S_ .f32 0xBF000000#32)) (Host.divf (Host.rsqrt (rMs a1)) (rMs a1)))) (broadcastInDim S4160x1 ![]
    bcast_S_S4160x1 (constant S_ .f32 0x44800000#32))) (constant S_ .f32 0x00000000#32) reducesTo_S4160x1_S4160_d1 h_S_

/-- The gradient of the layer's input. -/
def rOut (a0 a1 : FVec Ideal S4160x1024 .f32) (a2 : FVec Ideal S1x1024 .f32) (a3 : FVec Ideal S4160x4096 .bf16) (a4 a5 : FVec Ideal S4x1024x1024 .bf16) : FVec Ideal S4160x1024 .f32 :=
  select (broadcastInDim S4160x1024 ![0, 1] bcast_S4160x1_S4160x1024_0_1 (broadcastInDim S4160x1 ![0]
    bcast_S4160_S4160x1_0 (cmpi .sge (iotaInDim S4160 32 0) (broadcastInDim S4160 ![] bcast_S_S4160 (constantI S_ 32
    48#32))))) (addf a0 (addf (addf (mulf (mulf (rAcc a0 a3 a4 a5) (broadcastInDim S4160x1024 ![0, 1]
    bcast_S1x1024_S4160x1024_0_1 a2)) (broadcastInDim S4160x1024 ![0, 1] bcast_S4160x1_S4160x1024_0_1 (Host.rsqrt (rMs
    a1)))) (mulf a1 (broadcastInDim S4160x1024 ![0] bcast_S4160_S4160x1024_0 (rTan a0 a1 a2 a3 a4 a5)))) (mulf
    (broadcastInDim S4160x1024 ![0] bcast_S4160_S4160x1024_0 (rTan a0 a1 a2 a3 a4 a5)) a1))) (broadcastInDim S4160x1024
    ![] bcast_S_S4160x1024 (id (constant S_ .f32 0x00000000#32)))

/-- The gradient of the gain. -/
def rDg (a0 a1 : FVec Ideal S4160x1024 .f32) (a3 : FVec Ideal S4160x4096 .bf16) (a4 a5 : FVec Ideal S4x1024x1024 .bf16) : FVec Ideal S1x1024 .f32 :=
  shapeCast _ (Host.reduceAdd (mulf (mulf a1 (broadcastInDim S4160x1024 ![0, 1] bcast_S4160x1_S4160x1024_0_1
    (Host.rsqrt (rMs a1)))) (rAcc a0 a3 a4 a5)) (constant S_ .f32 0x00000000#32) reducesTo_S4160x1024_S1024_d0 h_S_)
    shapeCasts_S1024_S1x1024

section
variable {D : Data} {a0 a1 : FVec Ideal S4160x1024 .f32} {a2 : FVec Ideal S1x1024 .f32} {a3 : FVec Ideal S4160x4096 .bf16}
  {a4 a5 : FVec Ideal S4x1024x1024 .bf16} (H : Args D a0 a1 a2 a3 a4 a5)
include H

theorem rDp_at (r : Fin 4160) (f : Fin 4096) : rDp a0 a3 a5 (ix2 r f) = ((dp D r f : ℝ) : EReal) := by
  pointwise [rDp]
  simp only [H.dh, H.hp, H.w2, czero, cmax, cmul, csum, cadd, EReal.coe_lt_coe_iff]
  rw [← da]
  by_cases hx : 0 < D.hp r f
  · rw [if_pos hx, dp]
    congr 1; ring
  · rw [if_neg hx, dp, max_eq_right (not_lt.1 hx), mul_zero, mul_zero]

theorem rAcc_at (r : Fin 4160) (c : Fin 1024) : rAcc a0 a3 a4 a5 (ix2 r c) = ((acc D r c : ℝ) : EReal) := by
  pointwise [rAcc]
  simp only [rDp_at H, H.w1, cmul, csum, acc_eq]

theorem rMs_at (r : Fin 4160) : rMs a1 (ix2 r 0) = ((ms D r : ℝ) : EReal) := by
  pointwise [rMs]
  simp only [H.h, H.eps, word_1024, cmul, csum, cadd, cdiv _ _ (by norm_num : (1024 : ℝ) ≠ 0), ms]

theorem rTan_at (r : Fin 4160) : rTan a0 a1 a2 a3 a4 a5 (ix1 r)
    = (((∑ c : Fin 1024, D.h r c * (acc D r c * D.g c)) * (-(1 / 2) * (rr D r / ms D r)) / 1024 : ℝ) : EReal) := by
  pointwise [rTan]
  simp only [Finset.univ_unique, Fin.default_eq_zero, Finset.sum_singleton]
  simp only [rMs_at H, rAcc_at H, H.h, H.g, crsqrt _ (ms_pos _ _), cdiv _ _ (ms_pos _ _).ne', word_neg_half, word_1024, cmul,
    csum, cdiv _ _ (by norm_num : (1024 : ℝ) ≠ 0)]
  rfl

theorem rOut_at (r : Fin 4160) (c : Fin 1024) :
    rOut a0 a1 a2 a3 a4 a5 (ix2 r c) = ((out D r c : ℝ) : EReal) := by
  pointwise [rOut]
  simp only [rMs_at H, rAcc_at H, rTan_at H, H.dh, H.h, H.g, crsqrt _ (ms_pos _ _), cmul, cadd]
  rw [show id (constant (F := Ideal) S_ FTy.f32 0#32) ix0 = (0 : EReal) from word_0]
  refine (select_48 _ r.isLt _).trans ?_
  rw [out]
  by_cases hr : 48 ≤ (r : ℕ)
  · rw [if_pos hr, if_pos hr, ← rr]
    have e := rr_sq D r
    have e2 : proj D r = (∑ c : Fin 1024, D.h r c * (acc D r c * D.g c)) * rr D r / 1024 := by
      rw [proj, Finset.sum_mul]
      congr 2
      funext c
      rw [xh]; ring
    rw [e2, xh, div_eq_mul_one_div (rr D r), ← e]
    congr 1; ring
  · rw [if_neg hr, if_neg hr]

theorem rDg_at (c : Fin 1024) : rDg a0 a1 a3 a4 a5 (ix2 0 c) = ((dg D c : ℝ) : EReal) := by
  pointwise [rDg]
  simp only [rMs_at H, rAcc_at H, H.h, crsqrt _ (ms_pos _ _), cmul, csum, dg_eq, xh, rr]
  congr 1
  refine Finset.sum_congr rfl fun r _ => ?_
  ring

omit H in
/-- The reference's first result, in these terms. -/
theorem res_out (m : (ℓ : Loc nD τ sig) → Buf (Elt Ideal) ℓ) (c : Dev nD) :
    Value.res_main_v59 m c = rOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

theorem ref_out : rOut a0 a1 a2 a3 a4 a5 = G0 D := by
  funext y
  obtain ⟨r, k, rfl⟩ : ∃ (r : Fin 4160) (k : Fin 1024), y = ix2 r k := ⟨y 0, y 1, eta y⟩
  exact rOut_at H r k

theorem ref_dp : (truncf .bf16 (rDp a0 a3 a5) bitsLt_bf16_f32 : FVec Ideal S4160x4096 .bf16) = G1 D := by
  funext y
  obtain ⟨r, k, rfl⟩ : ∃ (r : Fin 4160) (k : Fin 4096), y = ix2 r k := ⟨y 0, y 1, eta y⟩
  exact rDp_at H r k

theorem ref_dg : rDg a0 a1 a3 a4 a5 = G2 D := by
  funext y
  obtain ⟨r, k, rfl⟩ : ∃ (r : Fin 1) (k : Fin 1024), y = ix2 r k := ⟨y 0, y 1, eta y⟩
  obtain rfl : r = 0 := Subsingleton.elim _ _
  exact rDg_at H k

end

end Cert.Proof.Ff

end
-- ==== Proof.W1Point.lean ====
/- The first weight's gradient: what a grid point leaves, from the blocks it reads. -/
module

public import proofs.«01_k».proof.Proof.Gen.Kernel3Ideal.Value
public import proofs.«01_k».proof.Proof.Push

@[expose] public section

set_option maxRecDepth 16384

noncomputable section

namespace Cert.Proof.W1

open Idealize.ShloMosaic Idealize.SL.Sem Cert.Kernel3Ideal Cert.Kernel3Ideal.Gen

theorem z2 : (![0, 0] : Fin 2 → ℕ) = fun _ => 0 := by
  funext a
  match a with
  | ⟨0, _⟩ => rfl
  | ⟨1, _⟩ => rfl

theorem z3 : (![0, 0, 0] : Fin 3 → ℕ) = fun _ => 0 := by
  funext a
  match a with
  | ⟨0, _⟩ => rfl
  | ⟨1, _⟩ => rfl
  | ⟨2, _⟩ => rfl

theorem at_point (m : (ℓ : Loc nD τ sig) → Buf (Elt Ideal) ℓ) (c : Dev nD) (t : Fin cfg0.N) :
    outsAt0 m c t = k0_pay4 (k0_pay2 (iblk m c 2 t) (iblk m c 3 t) (iblk m c 0 t) (iblk m c 1 t)) := by
  unfold outsAt0 out0_A_4
  rw [View.read_writes_junk_eq_canon]
  unfold kernelRun0_A
  dsimp only
  rw [View.canon_unit_zero z3]
  unfold kernelRun0_A.sl.v12 kernelRun0_A.sl.HS0_1
  rw [View.readCov_unit_zero _ z2]
  rw [View.readAt_eq_ld, View.readAt_eq_ld, View.readAt_eq_ld, View.readAt_eq_ld]
  rw [(hs0_0 t).read_unread, (hs0_1 t).read_unread, (hs0_2 t).read_unread, (hs0_3 t).read_unread]
  rw [View.ld_unit_zero z2, View.ld_unit_zero z2, View.ld_unit_zero z2, View.ld_unit_zero z2]

end Cert.Proof.W1

end
-- ==== Proof.W1Grid.lean ====
/- The gradient of the first feed-forward weight: what the grid leaves, at an index, and the reference's product at the same index. -/
module

public import proofs.«01_k».proof.Proof.W1Point
public import proofs.«01_k».proof.Proof.Gen.Reference3Ideal.Run

@[expose] public section

set_option maxRecDepth 16384

noncomputable section

namespace Cert.Proof.W1

open Idealize.ShloMosaic Idealize.SL.Sem Cert.Kernel3Ideal Cert.Kernel3Ideal.Gen

variable {m : (ℓ : Loc nD τ sig) → Buf (Elt Ideal) ℓ} {c : Dev nD}

theorem pts (t : Fin cfg0.N) : t = ⟨0, by decide⟩ ∨ t = ⟨1, by decide⟩ ∨ t = ⟨2, by decide⟩ ∨ t = ⟨3, by decide⟩ := by
  have h : t.val < 4 := t.isLt
  rcases (by omega : t.val = 0 ∨ t.val = 1 ∨ t.val = 2 ∨ t.val = 3) with h | h | h | h
  · exact .inl (Fin.ext h)
  · exact .inr (.inl (Fin.ext h))
  · exact .inr (.inr (.inl (Fin.ext h)))
  · exact .inr (.inr (.inr (Fin.ext h)))

theorem wi0 (t : Fin cfg0.N) : win0_0.index t 0 = 0 ∧ win0_0.index t 1 = 0 := by
  rcases pts t with rfl | rfl | rfl | rfl <;> decide
theorem wi1 (t : Fin cfg0.N) : win0_1.index t 0 = 0 ∧ win0_1.index t 1 = t.val := by
  rcases pts t with rfl | rfl | rfl | rfl <;> decide
theorem wi2 (t : Fin cfg0.N) : win0_2.index t 0 = 64 ∧ win0_2.index t 1 = 0 := by
  rcases pts t with rfl | rfl | rfl | rfl <;> decide
theorem wi3 (t : Fin cfg0.N) : win0_3.index t 0 = 64 ∧ win0_3.index t 1 = 1024 * t.val := by
  rcases pts t with rfl | rfl | rfl | rfl <;> decide
theorem wi4 (t : Fin cfg0.N) : win0_4.index t 0 = t.val ∧ win0_4.index t 1 = 0 ∧ win0_4.index t 2 = 0 := by
  rcases pts t with rfl | rfl | rfl | rfl <;> decide

theorem lt4 (t : Fin cfg0.N) : t.val < 4 := t.isLt

theorem blk0 (t : Fin cfg0.N) (r : Fin 64) (k : Fin 1024) :
    iblk m c 0 t (ix2 r k) = m ((c.tc : Thread nD τ).loc main_arg0) (ix2 (⟨r, by omega⟩ : Fin 4160) k) := by
  have hi := wi0 t
  unfold iblk
  rw [View.read_apply]
  show V m c main_arg0 _ = m (c.tc.loc main_arg0) _
  unfold V
  congr 1
  funext a
  apply Fin.ext
  match a with
  | ⟨0, _⟩ => show win0_0.index t 0 * 64 + 1 * (r : ℕ) = (r : ℕ); rw [hi.1]; omega
  | ⟨1, _⟩ => show win0_0.index t 1 * 1024 + 1 * (k : ℕ) = k; rw [hi.2]; omega

theorem blk1 (t : Fin cfg0.N) (r : Fin 64) (k : Fin 1024) :
    iblk m c 1 t (ix2 r k) = m ((c.tc : Thread nD τ).loc main_arg1)
      (ix2 (⟨r, by omega⟩ : Fin 4160) (⟨1024 * t.val + k, by have := lt4 t; omega⟩ : Fin 4096)) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 64 + 1 * (r : ℕ) = (r : ℕ); rw [hi.1]; omega
  | ⟨1, _⟩ => show win0_1.index t 1 * 1024 + 1 * (k : ℕ) = 1024 * t.val + k; rw [hi.2]; omega

theorem blk2 (t : Fin cfg0.N) (r : Fin 4096) (k : Fin 1024) :
    iblk m c 2 t (ix2 r k) = m ((c.tc : Thread nD τ).loc main_arg0) (ix2 (⟨64 + r, by omega⟩ : Fin 4160) k) := by
  have hi := wi2 t
  unfold iblk
  rw [View.read_apply]
  show V m c main_arg0 _ = m (c.tc.loc main_arg0) _
  unfold V
  congr 1
  funext a
  apply Fin.ext
  match a with
  | ⟨0, _⟩ => show win0_2.index t 0 + 1 * (r : ℕ) = 64 + (r : ℕ); rw [hi.1]; omega
  | ⟨1, _⟩ => show win0_2.index t 1 + 1 * (k : ℕ) = k; rw [hi.2]; omega

theorem blk3 (t : Fin cfg0.N) (r : Fin 4096) (k : Fin 1024) :
    iblk m c 3 t (ix2 r k) = m ((c.tc : Thread nD τ).loc main_arg1)
      (ix2 (⟨64 + r, by omega⟩ : Fin 4160) (⟨1024 * t.val + k, by have := lt4 t; omega⟩ : Fin 4096)) := by
  have hi := wi3 t
  unfold iblk
  rw [View.read_apply]
  show V m c main_arg1 _ = m (c.tc.loc main_arg1) _
  unfold V
  congr 1
  funext a
  apply Fin.ext
  match a with
  | ⟨0, _⟩ => show win0_3.index t 0 + 1 * (r : ℕ) = 64 + (r : ℕ); rw [hi.1]; omega
  | ⟨1, _⟩ => show win0_3.index t 1 + 1 * (k : ℕ) = 1024 * t.val + k; rw [hi.2]; omega

theorem emb4 (t : Fin cfg0.N) (i j : Fin 1024) :
    ((cfg0.win 4).blk t).view.emb (ix3 (0 : Fin 1) i j) = (ix3 (⟨t.val, lt4 t⟩ : Fin 4) i j : S4x1024x1024.Idx) := by
  have hi := wi4 t
  funext a
  apply Fin.ext
  match a with
  | ⟨0, _⟩ => show win0_4.index t 0 * 1 + 1 * 0 = t.val; rw [hi.1]; omega
  | ⟨1, _⟩ => show win0_4.index t 1 * 1024 + 1 * (i : ℕ) = i; rw [hi.2.1]; omega
  | ⟨2, _⟩ => show win0_4.index t 2 * 1024 + 1 * (j : ℕ) = j; rw [hi.2.2]; omega

/-- The gradient, from the input rows and the gradient of the product: a sum over all rows. -/
def grad (u : S4160x1024.Idx → EReal) (d : S4160x4096.Idx → EReal) : S4x1024x1024.Idx → EReal := fun y =>
  ∑ r : Fin 4160, u (ix2 r (⟨y 1, (y 1).isLt⟩ : Fin 1024)) * d (ix2 r (⟨1024 * (y 0 : ℕ) + y 2, by
    have h0 : (y 0 : ℕ) < 4 := (y 0).isLt
    have h2 : (y 2 : ℕ) < 1024 := (y 2).isLt
    omega⟩ : Fin 4096))

theorem rows (f : Fin 4160 → EReal) :
    (∑ r : Fin 4096, f ⟨64 + r, by omega⟩) + ∑ r : Fin 64, f ⟨r, by omega⟩ = ∑ r, f r := by
  have h := Fin.sum_univ_add (M := EReal) (a := 64) (b := 4096) f
  rw [add_comm]
  exact h.symm

theorem grad_rows (u : S4160x1024.Idx → EReal) (d : S4160x4096.Idx → EReal) (b : Fin 4) (i j : Fin 1024) :
    (∑ r : Fin 4096, u (ix2 (⟨64 + r, by omega⟩ : Fin 4160) i)
        * d (ix2 (⟨64 + r, by omega⟩ : Fin 4160) (⟨1024 * b + j, by omega⟩ : Fin 4096)))
      + ∑ r : Fin 64, u (ix2 (⟨r, by omega⟩ : Fin 4160) i)
        * d (ix2 (⟨r, by omega⟩ : Fin 4160) (⟨1024 * b + j, by omega⟩ : Fin 4096))
      = grad u d (ix3 b i j) :=
  rows (fun r => u (ix2 r i) * d (ix2 r (⟨1024 * b + j, by omega⟩ : Fin 4096)))

theorem pay_at (u d : Vec Ideal S4096x1024 .bf16) (u' d' : Vec Ideal S64x1024 .bf16) (i j : Fin 1024) :
    k0_pay4 (k0_pay2 u d u' d') (ix3 (0 : Fin 1) i j)
      = (∑ r : Fin 4096, u (ix2 r i) * d (ix2 r j)) + ∑ r : Fin 64, u' (ix2 r i) * d' (ix2 r j) := by
  pointwise [k0_pay4, k0_pay2, k0_pay1]

theorem out_at (t : Fin cfg0.N) (i j : Fin 1024) :
    outsAt0 m c t (ix3 (0 : Fin 1) i j) = grad (m ((c.tc : Thread nD τ).loc main_arg0))
      (m ((c.tc : Thread nD τ).loc main_arg1)) (ix3 (⟨t.val, lt4 t⟩ : Fin 4) i j) := by
  rw [at_point, pay_at]
  simp only [blk0, blk1, blk2, blk3]
  exact grad_rows _ _ ⟨t.val, lt4 t⟩ i j

theorem flushed_eq (t : Fin cfg0.N) (hf : (cfg0.win 4).flush t = true) :
    (dats m 0 c).flushed 4 t = ((cfg0.win 4).blk t).view.read (Elt Ideal)
      (grad (m ((c.tc : Thread nD τ).loc main_arg0)) (m ((c.tc : Thread nD τ).loc main_arg1))) := by
  rw [Value.flushed4]
  funext y
  obtain ⟨i, j, rfl⟩ : ∃ i j : Fin 1024, y = ix3 (0 : Fin 1) i j := ⟨y 1, y 2, by
    funext a
    match a with
    | ⟨0, _⟩ => exact Subsingleton.elim (α := Fin 1) _ _
    | ⟨1, _⟩ => rfl
    | ⟨2, _⟩ => rfl⟩
  rw [View.read_apply, emb4]
  exact out_at t i j

theorem final : (dats m 0 c).arrAt 4 cfg0.N
    = grad (m ((c.tc : Thread nD τ).loc main_arg0)) (m ((c.tc : Thread nD τ).loc main_arg1)) :=
  (dats m 0 c).arrAt_eq_of_cover 4 _ flushed_eq fun y => by
    have h0 : (y 0 : ℕ) < 4 := (y 0).isLt
    refine ⟨⟨y 0, h0⟩, flush0_4 _, ?_⟩
    have h := ((cfg0.win 4).blk (⟨y 0, h0⟩ : Fin cfg0.N)).view.emb_mem_set
      (ix3 (0 : Fin 1) (⟨y 1, (y 1).isLt⟩ : Fin 1024) (⟨y 2, (y 2).isLt⟩ : Fin 1024))
    rw [emb4] at h
    refine Eq.mp (congrArg (· ∈ _) ?_) h
    funext a
    match a with
    | ⟨0, _⟩ => rfl
    | ⟨1, _⟩ => rfl
    | ⟨2, _⟩ => rfl

end Cert.Proof.W1

namespace Cert.Proof.W1

open Idealize.ShloMosaic Cert.Reference3Ideal Cert.Reference3Ideal.Gen

theorem ref_grad (u : FVec Ideal S4160x1024 .bf16) (d : FVec Ideal S4160x4096 .bf16) :
    (truncf .bf16 (transpose S4x1024x1024 [1, 0, 2] (shapeCast _ (transpose S1024x4096 [1, 0] (Host.dotGeneral dot_S4160x4096_S4160x1024_S4096x1024_0_0_1_1_n_n none (extf .f32 d bitsLt_bf16_f32) (extf .f32 u bitsLt_bf16_f32)) transposes_S4096x1024_S1024x4096_1_0) shapeCasts_S1024x4096_S1024x4x1024) transposes_S1024x4x1024_S4x1024x1024_1_0_2) bitsLt_bf16_f32 : FVec Ideal S4x1024x1024 .bf16)
      = grad u d := by
  funext y
  obtain ⟨b, i, j, rfl⟩ : ∃ (b : Fin 4) (i j : Fin 1024), y = ix3 b i j := ⟨y 0, y 1, y 2, by
    funext a
    match a with
    | ⟨0, _⟩ => rfl
    | ⟨1, _⟩ => rfl
    | ⟨2, _⟩ => rfl⟩
  pointwise []
  unfold grad
  refine Finset.sum_congr rfl fun r _ => ?_
  rw [mul_comm]
  congr 4
  show (b : ℕ) * 1024 + (j : ℕ) = 1024 * (b : ℕ) + (j : ℕ)
  omega

end Cert.Proof.W1

end
-- ==== Proof.W2Point.lean ====
/- The second weight's gradient: what a grid point leaves, from the blocks it reads. -/
module

public import proofs.«01_k».proof.Proof.Gen.Kernel4Ideal.Value
public import proofs.«01_k».proof.Proof.Push

@[expose] public section

set_option maxRecDepth 16384

noncomputable section

namespace Cert.Proof.W2

open Idealize.ShloMosaic Idealize.SL.Sem Cert.Kernel4Ideal Cert.Kernel4Ideal.Gen

theorem z2 : (![0, 0] : Fin 2 → ℕ) = fun _ => 0 := by
  funext a
  match a with
  | ⟨0, _⟩ => rfl
  | ⟨1, _⟩ => rfl

theorem z3 : (![0, 0, 0] : Fin 3 → ℕ) = fun _ => 0 := by
  funext a
  match a with
  | ⟨0, _⟩ => rfl
  | ⟨1, _⟩ => rfl
  | ⟨2, _⟩ => rfl

theorem at_first (m : (ℓ : Loc nD τ sig) → Buf (Elt Ideal) ℓ) (c : Dev nD) (t : Fin cfg0.N) (h : t.val % 2 = 0) :
    (outsAt0 m c t.val t.isLt).2 = k0_pay2 (iblk m c 2 t) (iblk m c 3 t) (iblk m c 0 t) (iblk m c 1 t) := by
  rw [outsAt0_A m c t h (by omega) (by omega)]
  dsimp only
  unfold sout0_A_0
  rw [View.read_writes_junk_eq_canon]
  unfold kernelRun0_A
  dsimp only
  rw [View.canon_unit_zero z2]
  rw [View.readAt_eq_ld, View.readAt_eq_ld, View.readAt_eq_ld, View.readAt_eq_ld]
  rw [(hs0_0 t).read_unread, (hs0_1 t).read_unread, (hs0_2 t).read_unread, (hs0_3 t).read_unread]
  rw [View.ld_unit_zero z2, View.ld_unit_zero z2, View.ld_unit_zero z2, View.ld_unit_zero z2]

theorem at_second (m : (ℓ : Loc nD τ sig) → Buf (Elt Ideal) ℓ) (c : Dev nD) (t : Fin cfg0.N) (h : t.val % 2 = 1) :
    (outsAt0 m c t.val t.isLt).1 = k0_pay4 (k0_pay3 (iblk m c 2 t) (iblk m c 3 t)
      (outsAt0 m c (t.val - 1) (Nat.lt_of_le_of_lt (Nat.sub_le _ _) t.isLt)).2) := by
  rw [outsAt0_B m c t (by omega) h h]
  dsimp only
  unfold out0_B_4
  rw [View.read_writes_junk_eq_canon]
  unfold kernelRun0_B
  dsimp only
  rw [View.canon_unit_zero z3]
  unfold kernelRun0_B.sl.v18 kernelRun0_B.sl.HS0_1
  rw [View.readCov_unit_zero _ z2]
  rw [View.readAt_eq_ld, View.readAt_eq_ld, View.readAt_eq_ld]
  rw [(hs0_2 t).read_unread, (hs0_3 t).read_unread, Memref.IsWhole.read_unread]
  rw [View.ld_unit_zero z2, View.ld_unit_zero z2, View.ld_unit_zero z2]

end Cert.Proof.W2

end
-- ==== Proof.W2Grid.lean ====
/- The gradient of the second feed-forward weight: what the grid leaves, at an index, and the reference's product at the same index. -/
module

public import proofs.«01_k».proof.Proof.W2Point
public import proofs.«01_k».proof.Proof.Gen.Reference4Ideal.Run

@[expose] public section

set_option maxRecDepth 16384

noncomputable section

namespace Cert.Proof.W2

open Idealize.ShloMosaic Idealize.SL.Sem Cert.Kernel4Ideal Cert.Kernel4Ideal.Gen

variable {m : (ℓ : Loc nD τ sig) → Buf (Elt Ideal) ℓ} {c : Dev nD}

theorem lt8 (t : Fin cfg0.N) : t.val < 8 := t.isLt

theorem pts (t : Fin cfg0.N) : t = ⟨0, by decide⟩ ∨ t = ⟨1, by decide⟩ ∨ t = ⟨2, by decide⟩ ∨ t = ⟨3, by decide⟩
    ∨ t = ⟨4, by decide⟩ ∨ t = ⟨5, by decide⟩ ∨ t = ⟨6, by decide⟩ ∨ t = ⟨7, by decide⟩ := by
  have h := lt8 t
  rcases (by omega : t.val = 0 ∨ t.val = 1 ∨ t.val = 2 ∨ t.val = 3 ∨ t.val = 4 ∨ t.val = 5 ∨ t.val = 6 ∨ t.val = 7)
    with h | h | h | h | h | h | h | h
  · exact .inl (Fin.ext h)
  · exact .inr (.inl (Fin.ext h))
  · exact .inr (.inr (.inl (Fin.ext h)))
  · exact .inr (.inr (.inr (.inl (Fin.ext h))))
  · exact .inr (.inr (.inr (.inr (.inl (Fin.ext h)))))
  · exact .inr (.inr (.inr (.inr (.inr (.inl (Fin.ext h))))))
  · exact .inr (.inr (.inr (.inr (.inr (.inr (.inl (Fin.ext h)))))))
  · exact .inr (.inr (.inr (.inr (.inr (.inr (.inr (Fin.ext h)))))))

theorem wi0 (t : Fin cfg0.N) : win0_0.index t 0 = 0 ∧ win0_0.index t 1 = t.val / 2 := by
  rcases pts t with rfl | rfl | rfl | rfl | rfl | rfl | rfl | rfl <;> decide
theorem wi1 (t : Fin cfg0.N) : win0_1.index t 0 = 0 ∧ win0_1.index t 1 = 0 := by
  rcases pts t with rfl | rfl | rfl | rfl | rfl | rfl | rfl | rfl <;> decide
theorem wi2 (t : Fin cfg0.N) : win0_2.index t 0 = 64 + 2048 * (t.val % 2) ∧ win0_2.index t 1 = 1024 * (t.val / 2) := by
  rcases pts t with rfl | rfl | rfl | rfl | rfl | rfl | rfl | rfl <;> decide
theorem wi3 (t : Fin cfg0.N) : win0_3.index t 0 = 64 + 2048 * (t.val % 2) ∧ win0_3.index t 1 = 0 := by
  rcases pts t with rfl | rfl | rfl | rfl | rfl | rfl | rfl | rfl <;> decide
theorem wi4 (t : Fin cfg0.N) : win0_4.index t 0 = t.val / 2 ∧ win0_4.index t 1 = 0 ∧ win0_4.index t 2 = 0 := by
  rcases pts t with rfl | rfl | rfl | rfl | rfl | rfl | rfl | rfl <;> decide

theorem blk0 (t : Fin cfg0.N) (r : Fin 64) (k : Fin 1024) :
    iblk m c 0 t (ix2 r k) = m ((c.tc : Thread nD τ).loc main_arg0)
      (ix2 (⟨r, by omega⟩ : Fin 4160) (⟨1024 * (t.val / 2) + k, by have := lt8 t; omega⟩ : Fin 4096)) := by
  have hi := wi0 t
  unfold iblk
  rw [View.read_apply]
  show V m c main_arg0 _ = m (c.tc.loc main_arg0) _
  unfold V
  congr 1
  funext a
  apply Fin.ext
  match a with
  | ⟨0, _⟩ => show win0_0.index t 0 * 64 + 1 * (r : ℕ) = (r : ℕ); rw [hi.1]; omega
  | ⟨1, _⟩ => show win0_0.index t 1 * 1024 + 1 * (k : ℕ) = 1024 * (t.val / 2) + k; rw [hi.2]; omega

theorem blk1 (t : Fin cfg0.N) (r : Fin 64) (k : Fin 1024) :
    iblk m c 1 t (ix2 r k) = m ((c.tc : Thread nD τ).loc main_arg1)
      (ix2 (⟨r, by omega⟩ : Fin 4160) (k : Fin 1024)) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 64 + 1 * (r : ℕ) = (r : ℕ); rw [hi.1]; omega
  | ⟨1, _⟩ => show win0_1.index t 1 * 1024 + 1 * (k : ℕ) = k; rw [hi.2]; omega

theorem blk2 (t : Fin cfg0.N) (r : Fin 2048) (k : Fin 1024) :
    iblk m c 2 t (ix2 r k) = m ((c.tc : Thread nD τ).loc main_arg0)
      (ix2 (⟨64 + 2048 * (t.val % 2) + r, by omega⟩ : Fin 4160) (⟨1024 * (t.val / 2) + k, by have := lt8 t; omega⟩ : Fin 4096)) := by
  have hi := wi2 t
  unfold iblk
  rw [View.read_apply]
  show V m c main_arg0 _ = m (c.tc.loc main_arg0) _
  unfold V
  congr 1
  funext a
  apply Fin.ext
  match a with
  | ⟨0, _⟩ => show win0_2.index t 0 + 1 * (r : ℕ) = 64 + 2048 * (t.val % 2) + (r : ℕ); rw [hi.1]; omega
  | ⟨1, _⟩ => show win0_2.index t 1 + 1 * (k : ℕ) = 1024 * (t.val / 2) + k; rw [hi.2]; omega

theorem blk3 (t : Fin cfg0.N) (r : Fin 2048) (k : Fin 1024) :
    iblk m c 3 t (ix2 r k) = m ((c.tc : Thread nD τ).loc main_arg1)
      (ix2 (⟨64 + 2048 * (t.val % 2) + r, by omega⟩ : Fin 4160) (k : Fin 1024)) := by
  have hi := wi3 t
  unfold iblk
  rw [View.read_apply]
  show V m c main_arg1 _ = m (c.tc.loc main_arg1) _
  unfold V
  congr 1
  funext a
  apply Fin.ext
  match a with
  | ⟨0, _⟩ => show win0_3.index t 0 + 1 * (r : ℕ) = 64 + 2048 * (t.val % 2) + (r : ℕ); rw [hi.1]; omega
  | ⟨1, _⟩ => show win0_3.index t 1 + 1 * (k : ℕ) = k; rw [hi.2]; omega

theorem lth (t : Fin cfg0.N) : t.val / 2 < 4 := by have := lt8 t; omega

theorem emb4 (t : Fin cfg0.N) (i j : Fin 1024) :
    ((cfg0.win 4).blk t).view.emb (ix3 (0 : Fin 1) i j) = (ix3 (⟨t.val / 2, lth t⟩ : Fin 4) i j : S4x1024x1024.Idx) := by
  have hi := wi4 t
  funext a
  apply Fin.ext
  match a with
  | ⟨0, _⟩ => show win0_4.index t 0 * 1 + 1 * 0 = t.val / 2; rw [hi.1]; omega
  | ⟨1, _⟩ => show win0_4.index t 1 * 1024 + 1 * (i : ℕ) = i; rw [hi.2.1]; omega
  | ⟨2, _⟩ => show win0_4.index t 2 * 1024 + 1 * (j : ℕ) = j; rw [hi.2.2]; omega

/-- The square of the positive part. -/
def sq (x : EReal) : EReal := max x 0 * max x 0

/-- The gradient, from the values before the activation and the gradient of the layer's result: a sum over all rows. -/
def grad (p : S4160x4096.Idx → EReal) (d : S4160x1024.Idx → EReal) : S4x1024x1024.Idx → EReal := fun y =>
  ∑ r : Fin 4160, sq (p (ix2 r (⟨1024 * (y 0 : ℕ) + y 1, by
    have h0 : (y 0 : ℕ) < 4 := (y 0).isLt
    have h1 : (y 1 : ℕ) < 1024 := (y 1).isLt
    omega⟩ : Fin 4096))) * d (ix2 r (⟨y 2, (y 2).isLt⟩ : Fin 1024))

theorem rows (f : Fin 4160 → EReal) :
    ((∑ r : Fin 2048, f ⟨64 + 2048 * 0 + r, by omega⟩) + ∑ r : Fin 64, f ⟨r, by omega⟩)
      + ∑ r : Fin 2048, f ⟨64 + 2048 * 1 + r, by omega⟩ = ∑ r, f r := by
  have h := Fin.sum_univ_add (M := EReal) (a := 2112) (b := 2048) f
  have h' := Fin.sum_univ_add (M := EReal) (a := 64) (b := 2048) (fun r => f (Fin.castAdd 2048 r))
  rw [h'] at h
  rw [h, add_comm (∑ r : Fin 2048, f ⟨64 + 2048 * 0 + r, _⟩)]
  rfl

theorem grad_rows (p : S4160x4096.Idx → EReal) (d : S4160x1024.Idx → EReal) (b : Fin 4) (i j : Fin 1024) :
    ((∑ r : Fin 2048, sq (p (ix2 (⟨64 + 2048 * 0 + r, by omega⟩ : Fin 4160) (⟨1024 * b + i, by omega⟩ : Fin 4096)))
        * d (ix2 (⟨64 + 2048 * 0 + r, by omega⟩ : Fin 4160) j))
      + ∑ r : Fin 64, sq (p (ix2 (⟨r, by omega⟩ : Fin 4160) (⟨1024 * b + i, by omega⟩ : Fin 4096)))
        * d (ix2 (⟨r, by omega⟩ : Fin 4160) j))
      + (∑ r : Fin 2048, sq (p (ix2 (⟨64 + 2048 * 1 + r, by omega⟩ : Fin 4160) (⟨1024 * b + i, by omega⟩ : Fin 4096)))
        * d (ix2 (⟨64 + 2048 * 1 + r, by omega⟩ : Fin 4160) j))
      = grad p d (ix3 b i j) :=
  rows (fun r => sq (p (ix2 r (⟨1024 * b + i, by omega⟩ : Fin 4096))) * d (ix2 r j))

theorem pay2_at (p : Vec Ideal S2048x1024 .bf16) (d : Vec Ideal S2048x1024 .f32) (p' : Vec Ideal S64x1024 .bf16)
    (d' : Vec Ideal S64x1024 .f32) (i j : Fin 1024) :
    k0_pay2 p d p' d' (ix2 i j)
      = (∑ r : Fin 2048, sq (p (ix2 r i)) * d (ix2 r j)) + ∑ r : Fin 64, sq (p' (ix2 r i)) * d' (ix2 r j) := by
  pointwise [k0_pay2, k0_pay1]
  simp only [sq]

theorem pay3_at (p : Vec Ideal S2048x1024 .bf16) (d : Vec Ideal S2048x1024 .f32) (a : Vec Ideal S1024x1024 .f32)
    (i j : Fin 1024) :
    k0_pay4 (k0_pay3 p d a) (ix3 (0 : Fin 1) i j)
      = a (ix2 i j) + ∑ r : Fin 2048, sq (p (ix2 r i)) * d (ix2 r j) := by
  pointwise [k0_pay4, k0_pay3, k0_pay1]
  simp only [sq]

theorem lt_snd (b : Fin 4) : 2 * (b : ℕ) + 1 < cfg0.N := by have := b.isLt; show _ < 8; omega
theorem lt_fst (b : Fin 4) : 2 * (b : ℕ) < cfg0.N := by have := b.isLt; show _ < 8; omega

theorem out_snd (b : Fin 4) (i j : Fin 1024) :
    (outsAt0 m c (2 * b + 1) (lt_snd b)).1 (ix3 (0 : Fin 1) i j) = grad (m ((c.tc : Thread nD τ).loc main_arg0))
      (m ((c.tc : Thread nD τ).loc main_arg1)) (ix3 b i j) := by
  have e := at_second m c ⟨2 * b + 1, lt_snd b⟩ (show (2 * (b : ℕ) + 1) % 2 = 1 by omega)
  have e' := at_first m c ⟨2 * b, lt_fst b⟩ (show 2 * (b : ℕ) % 2 = 0 by omega)
  dsimp only at e e'
  simp only [Nat.add_sub_cancel] at e
  rw [e, pay3_at, e', pay2_at]
  simp only [blk0, blk1, blk2, blk3]
  simp only [show (2 * (b : ℕ) + 1) % 2 = 1 by omega, show (2 * (b : ℕ)) % 2 = 0 by omega,
    show (2 * (b : ℕ) + 1) / 2 = b by omega, show (2 * (b : ℕ)) / 2 = b by omega]
  exact grad_rows _ _ b i j

theorem out_at (t : Fin cfg0.N) (h : t.val % 2 = 1) (i j : Fin 1024) :
    (outsAt0 m c t.val t.isLt).1 (ix3 (0 : Fin 1) i j) = grad (m ((c.tc : Thread nD τ).loc main_arg0))
      (m ((c.tc : Thread nD τ).loc main_arg1)) (ix3 (⟨t.val / 2, lth t⟩ : Fin 4) i j) := by
  have e := out_snd (m := m) (c := c) ⟨t.val / 2, lth t⟩ i j
  rw [← e]
  simp only [show 2 * (t.val / 2) + 1 = t.val by omega]

theorem flushed_eq (t : Fin cfg0.N) (hf : (cfg0.win 4).flush t = true) :
    (dats m 0 c).flushed 4 t = ((cfg0.win 4).blk t).view.read (Elt Ideal)
      (grad (m ((c.tc : Thread nD τ).loc main_arg0)) (m ((c.tc : Thread nD τ).loc main_arg1))) := by
  rw [Value.flushed4]
  funext y
  obtain ⟨i, j, rfl⟩ : ∃ i j : Fin 1024, y = ix3 (0 : Fin 1) i j := ⟨y 1, y 2, by
    funext a
    match a with
    | ⟨0, _⟩ => exact Subsingleton.elim (α := Fin 1) _ _
    | ⟨1, _⟩ => rfl
    | ⟨2, _⟩ => rfl⟩
  rw [View.read_apply, emb4]
  exact out_at t ((flush0_4 t).mp hf) i j

theorem final : (dats m 0 c).arrAt 4 cfg0.N
    = grad (m ((c.tc : Thread nD τ).loc main_arg0)) (m ((c.tc : Thread nD τ).loc main_arg1)) :=
  (dats m 0 c).arrAt_eq_of_cover 4 _ flushed_eq fun y => by
    have h0 : (y 0 : ℕ) < 4 := (y 0).isLt
    have hN : 2 * (y 0 : ℕ) + 1 < cfg0.N := by show _ < 8; omega
    refine ⟨⟨2 * (y 0 : ℕ) + 1, hN⟩, (flush0_4 _).mpr (by show (2 * (y 0 : ℕ) + 1) % 2 = 1; omega), ?_⟩
    have h := ((cfg0.win 4).blk (⟨2 * (y 0 : ℕ) + 1, hN⟩ : Fin cfg0.N)).view.emb_mem_set
      (ix3 (0 : Fin 1) (⟨y 1, (y 1).isLt⟩ : Fin 1024) (⟨y 2, (y 2).isLt⟩ : Fin 1024))
    rw [emb4] at h
    refine Eq.mp (congrArg (· ∈ _) ?_) h
    funext a
    apply Fin.ext
    match a with
    | ⟨0, _⟩ => show (2 * (y 0 : ℕ) + 1) / 2 = y 0; omega
    | ⟨1, _⟩ => rfl
    | ⟨2, _⟩ => rfl

end Cert.Proof.W2

namespace Cert.Proof.W2

open Idealize.ShloMosaic Cert.Reference4Ideal Cert.Reference4Ideal.Gen

theorem ref_grad (p : FVec Ideal S4160x4096 .bf16) (d : FVec Ideal S4160x1024 .f32) :
    (truncf .bf16 (shapeCast _ (transpose S4096x1024 [1, 0] (Host.dotGeneral dot_S4160x1024_S4160x4096_S1024x4096_0_0_1_1_n_n none d (mulf (maximumf (extf .f32 p bitsLt_bf16_f32) (broadcastInDim S4160x4096 ![] bcast_S_S4160x4096 (constant S_ .f32 0x00000000#32))) (maximumf (extf .f32 p bitsLt_bf16_f32) (broadcastInDim S4160x4096 ![] bcast_S_S4160x4096 (constant S_ .f32 0x00000000#32))))) transposes_S1024x4096_S4096x1024_1_0) shapeCasts_S4096x1024_S4x1024x1024) bitsLt_bf16_f32 : FVec Ideal S4x1024x1024 .bf16)
      = grad p d := by
  funext y
  obtain ⟨b, i, j, rfl⟩ : ∃ (b : Fin 4) (i j : Fin 1024), y = ix3 b i j := ⟨y 0, y 1, y 2, by
    funext a
    match a with
    | ⟨0, _⟩ => rfl
    | ⟨1, _⟩ => rfl
    | ⟨2, _⟩ => rfl⟩
  pointwise []
  unfold grad sq
  refine Finset.sum_congr rfl fun r _ => ?_
  rw [mul_comm]
  have e : (⟨(b : ℕ) * 1024 + (i : ℕ), by omega⟩ : Fin 4096) = ⟨1024 * (b : ℕ) + (i : ℕ), by omega⟩ :=
    Fin.ext (by show (b : ℕ) * 1024 + (i : ℕ) = 1024 * (b : ℕ) + (i : ℕ); omega)
  rw [e]
  rfl

end Cert.Proof.W2

end
-- ==== Proof.WOut.lean ====
/- The gradient of an output projection: what a grid point leaves, what the grid leaves, and the reference's product at the same index. -/
module

public import proofs.«01_k».proof.Proof.Gen.Kernel5Ideal.Value
public import proofs.«01_k».proof.Proof.Gen.Reference5Ideal.Run
public import proofs.«01_k».proof.Proof.Push

@[expose] public section

set_option maxRecDepth 16384

noncomputable section

namespace Cert.Proof.WOut

open Idealize.ShloMosaic Idealize.SL.Sem Cert.Kernel5Ideal Cert.Kernel5Ideal.Gen

theorem z2 : (![0, 0] : Fin 2 → ℕ) = fun _ => 0 := by
  funext a
  match a with
  | ⟨0, _⟩ => rfl
  | ⟨1, _⟩ => rfl

theorem z3 : (![0, 0, 0] : Fin 3 → ℕ) = fun _ => 0 := by
  funext a
  match a with
  | ⟨0, _⟩ => rfl
  | ⟨1, _⟩ => rfl
  | ⟨2, _⟩ => rfl

theorem at_first (m : (ℓ : Loc nD τ sig) → Buf (Elt Ideal) ℓ) (c : Dev nD) (t : Fin cfg0.N) (h : t.val % 2 = 0) :
    (outsAt0 m c t.val t.isLt).2 = k0_pay2 (iblk m c 2 t) (iblk m c 3 t) (iblk m c 0 t) (iblk m c 1 t) := by
  rw [outsAt0_A m c t h (by omega) (by omega)]
  dsimp only
  unfold sout0_A_0
  rw [View.read_writes_junk_eq_canon]
  unfold kernelRun0_A
  dsimp only
  rw [View.canon_unit_zero z2]
  rw [View.readAt_eq_ld, View.readAt_eq_ld, View.readAt_eq_ld, View.readAt_eq_ld]
  rw [(hs0_0 t).read_unread, (hs0_1 t).read_unread, (hs0_2 t).read_unread, (hs0_3 t).read_unread]
  rw [View.ld_unit_zero z2, View.ld_unit_zero z2, View.ld_unit_zero z2, View.ld_unit_zero z2]

theorem at_second (m : (ℓ : Loc nD τ sig) → Buf (Elt Ideal) ℓ) (c : Dev nD) (t : Fin cfg0.N) (h : t.val % 2 = 1) :
    (outsAt0 m c t.val t.isLt).1 = k0_pay4 (k0_pay3 (iblk m c 2 t) (iblk m c 3 t)
      (outsAt0 m c (t.val - 1) (Nat.lt_of_le_of_lt (Nat.sub_le _ _) t.isLt)).2) := by
  rw [outsAt0_B m c t (by omega) h h]
  dsimp only
  unfold out0_B_4
  rw [View.read_writes_junk_eq_canon]
  unfold kernelRun0_B
  dsimp only
  rw [View.canon_unit_zero z3]
  unfold kernelRun0_B.sl.v13 kernelRun0_B.sl.HS0_1
  rw [View.readCov_unit_zero _ z2]
  rw [View.readAt_eq_ld, View.readAt_eq_ld, View.readAt_eq_ld]
  rw [(hs0_2 t).read_unread, (hs0_3 t).read_unread, Memref.IsWhole.read_unread]
  rw [View.ld_unit_zero z2, View.ld_unit_zero z2, View.ld_unit_zero z2]

variable {m : (ℓ : Loc nD τ sig) → Buf (Elt Ideal) ℓ} {c : Dev nD}

theorem lt2 (t : Fin cfg0.N) : t.val < 2 := t.isLt

theorem wi0 : ∀ t : Fin cfg0.N, win0_0.index t 0 = 0 ∧ win0_0.index t 1 = 0 :=
  (by decide +kernel : ∀ t : Fin grid0.N, win0_0.index t 0 = 0 ∧ win0_0.index t 1 = 0)
theorem wi1 : ∀ t : Fin cfg0.N, win0_1.index t 0 = 0 ∧ win0_1.index t 1 = 0 :=
  (by decide +kernel : ∀ t : Fin grid0.N, win0_1.index t 0 = 0 ∧ win0_1.index t 1 = 0)
theorem wi2 : ∀ t : Fin cfg0.N, win0_2.index t 0 = 64 + 2048 * t.val ∧ win0_2.index t 1 = 0 :=
  (by decide +kernel : ∀ t : Fin grid0.N, win0_2.index t 0 = 64 + 2048 * t.val ∧ win0_2.index t 1 = 0)
theorem wi3 : ∀ t : Fin cfg0.N, win0_3.index t 0 = 64 + 2048 * t.val ∧ win0_3.index t 1 = 0 :=
  (by decide +kernel : ∀ t : Fin grid0.N, win0_3.index t 0 = 64 + 2048 * t.val ∧ win0_3.index t 1 = 0)
theorem wi4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

theorem blk0 (t : Fin cfg0.N) (r : Fin 64) (k : Fin 1024) :
    iblk m c 0 t (ix2 r k) = m ((c.tc : Thread nD τ).loc main_arg0) (ix2 (⟨r, by omega⟩ : Fin 4160) k) := by
  have hi := wi0 t
  unfold iblk
  rw [View.read_apply]
  show V m c main_arg0 _ = m (c.tc.loc main_arg0) _
  unfold V
  congr 1
  funext a
  apply Fin.ext
  match a with
  | ⟨0, _⟩ => show win0_0.index t 0 * 64 + 1 * (r : ℕ) = (r : ℕ); rw [hi.1]; omega
  | ⟨1, _⟩ => show win0_0.index t 1 * 1024 + 1 * (k : ℕ) = k; rw [hi.2]; omega

theorem blk1 (t : Fin cfg0.N) (r : Fin 64) (k : Fin 1024) :
    iblk m c 1 t (ix2 r k) = m ((c.tc : Thread nD τ).loc main_arg1) (ix2 (⟨r, by omega⟩ : Fin 4160) k) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 64 + 1 * (r : ℕ) = (r : ℕ); rw [hi.1]; omega
  | ⟨1, _⟩ => show win0_1.index t 1 * 1024 + 1 * (k : ℕ) = k; rw [hi.2]; omega

theorem blk2 (t : Fin cfg0.N) (r : Fin 2048) (k : Fin 1024) :
    iblk m c 2 t (ix2 r k) = m ((c.tc : Thread nD τ).loc main_arg0) (ix2 (⟨64 + 2048 * t.val + r, by have := lt2 t; omega⟩ : Fin 4160) k) := by
  have hi := wi2 t
  unfold iblk
  rw [View.read_apply]
  show V m c main_arg0 _ = m (c.tc.loc main_arg0) _
  unfold V
  congr 1
  funext a
  apply Fin.ext
  match a with
  | ⟨0, _⟩ => show win0_2.index t 0 + 1 * (r : ℕ) = 64 + 2048 * t.val + (r : ℕ); rw [hi.1]; omega
  | ⟨1, _⟩ => show win0_2.index t 1 + 1 * (k : ℕ) = k; rw [hi.2]; omega

theorem blk3 (t : Fin cfg0.N) (r : Fin 2048) (k : Fin 1024) :
    iblk m c 3 t (ix2 r k) = m ((c.tc : Thread nD τ).loc main_arg1) (ix2 (⟨64 + 2048 * t.val + r, by have := lt2 t; omega⟩ : Fin 4160) k) := by
  have hi := wi3 t
  unfold iblk
  rw [View.read_apply]
  show V m c main_arg1 _ = m (c.tc.loc main_arg1) _
  unfold V
  congr 1
  funext a
  apply Fin.ext
  match a with
  | ⟨0, _⟩ => show win0_3.index t 0 + 1 * (r : ℕ) = 64 + 2048 * t.val + (r : ℕ); rw [hi.1]; omega
  | ⟨1, _⟩ => show win0_3.index t 1 + 1 * (k : ℕ) = k; rw [hi.2]; omega

theorem emb4 (t : Fin cfg0.N) (i : Fin 1024) (j : Fin 1024) :
    ((cfg0.win 4).blk t).view.emb (ix3 (0 : Fin 1) i j) = (ix3 (0 : Fin 1) i j : S1x1024x1024.Idx) := by
  have hi := wi4 t
  funext a
  apply Fin.ext
  match a with
  | ⟨0, _⟩ => show win0_4.index t 0 * 1 + 1 * 0 = 0; rw [hi.1]
  | ⟨1, _⟩ => show win0_4.index t 1 * 1024 + 1 * (i : ℕ) = i; rw [hi.2.1]; omega
  | ⟨2, _⟩ => show win0_4.index t 2 * 1024 + 1 * (j : ℕ) = j; rw [hi.2.2]; omega

/-- The gradient, from the input rows and the gradient of the product: a sum over all rows. -/
def grad (u : S4160x1024.Idx → EReal) (d : S4160x1024.Idx → EReal) : S1x1024x1024.Idx → EReal := fun y =>
  ∑ r : Fin 4160, u (ix2 r (⟨y 1, (y 1).isLt⟩ : Fin 1024)) * d (ix2 r (⟨y 2, (y 2).isLt⟩ : Fin 1024))

theorem rows (f : Fin 4160 → EReal) :
    ((∑ r : Fin 2048, f ⟨64 + 2048 * 0 + r, by omega⟩) + ∑ r : Fin 64, f ⟨r, by omega⟩)
      + ∑ r : Fin 2048, f ⟨64 + 2048 * 1 + r, by omega⟩ = ∑ r, f r := by
  have h := Fin.sum_univ_add (M := EReal) (a := 2112) (b := 2048) f
  have h' := Fin.sum_univ_add (M := EReal) (a := 64) (b := 2048) (fun r => f (Fin.castAdd 2048 r))
  rw [h'] at h
  rw [h, add_comm (∑ r : Fin 2048, f ⟨64 + 2048 * 0 + r, _⟩)]
  rfl

theorem grad_rows (u : S4160x1024.Idx → EReal) (d : S4160x1024.Idx → EReal) (i : Fin 1024) (j : Fin 1024) :
    ((∑ r : Fin 2048, u (ix2 (⟨64 + 2048 * 0 + r, by omega⟩ : Fin 4160) i)
        * d (ix2 (⟨64 + 2048 * 0 + r, by omega⟩ : Fin 4160) j))
      + ∑ r : Fin 64, u (ix2 (⟨r, by omega⟩ : Fin 4160) i) * d (ix2 (⟨r, by omega⟩ : Fin 4160) j))
      + (∑ r : Fin 2048, u (ix2 (⟨64 + 2048 * 1 + r, by omega⟩ : Fin 4160) i)
        * d (ix2 (⟨64 + 2048 * 1 + r, by omega⟩ : Fin 4160) j))
      = grad u d (ix3 (0 : Fin 1) i j) :=
  rows (fun r => u (ix2 r i) * d (ix2 r j))

theorem pay2_at (u : Vec Ideal S2048x1024 .bf16) (d : Vec Ideal S2048x1024 .f32) (u' : Vec Ideal S64x1024 .bf16)
    (d' : Vec Ideal S64x1024 .f32) (i : Fin 1024) (j : Fin 1024) :
    k0_pay2 u d u' d' (ix2 i j)
      = (∑ r : Fin 2048, u (ix2 r i) * d (ix2 r j)) + ∑ r : Fin 64, u' (ix2 r i) * d' (ix2 r j) := by
  pointwise [k0_pay2, k0_pay1]

theorem pay3_at (u : Vec Ideal S2048x1024 .bf16) (d : Vec Ideal S2048x1024 .f32) (a : Vec Ideal S1024x1024 .f32)
    (i : Fin 1024) (j : Fin 1024) :
    k0_pay4 (k0_pay3 u d a) (ix3 (0 : Fin 1) i j)
      = a (ix2 i j) + ∑ r : Fin 2048, u (ix2 r i) * d (ix2 r j) := by
  pointwise [k0_pay4, k0_pay3, k0_pay1]

theorem out_snd (h1 : 1 < cfg0.N) (i : Fin 1024) (j : Fin 1024) :
    (outsAt0 m c 1 h1).1 (ix3 (0 : Fin 1) i j) = grad (m ((c.tc : Thread nD τ).loc main_arg0))
      (m ((c.tc : Thread nD τ).loc main_arg1)) (ix3 (0 : Fin 1) i j) := by
  have e := at_second m c ⟨1, h1⟩ rfl
  have e' := at_first m c ⟨0, Nat.lt_of_succ_lt h1⟩ rfl
  dsimp only at e e'
  simp only [Nat.sub_self] at e
  rw [e, pay3_at, e', pay2_at]
  simp only [blk0, blk1, blk2, blk3]
  exact grad_rows _ _ i j

theorem out_at (t : Fin cfg0.N) (h : t.val % 2 = 1) (i : Fin 1024) (j : Fin 1024) :
    (outsAt0 m c t.val t.isLt).1 (ix3 (0 : Fin 1) i j) = grad (m ((c.tc : Thread nD τ).loc main_arg0))
      (m ((c.tc : Thread nD τ).loc main_arg1)) (ix3 (0 : Fin 1) i j) := by
  have e : t.val = 1 := by have := lt2 t; omega
  have h1 : 1 < cfg0.N := by show _ < 2; omega
  rw [← out_snd h1 i j]
  simp only [e]

theorem flushed_eq (t : Fin cfg0.N) (hf : (cfg0.win 4).flush t = true) :
    (dats m 0 c).flushed 4 t = ((cfg0.win 4).blk t).view.read (Elt Ideal)
      (grad (m ((c.tc : Thread nD τ).loc main_arg0)) (m ((c.tc : Thread nD τ).loc main_arg1))) := by
  rw [Value.flushed4]
  funext y
  obtain ⟨i, j, rfl⟩ : ∃ (i : Fin 1024) (j : Fin 1024), y = ix3 (0 : Fin 1) i j := ⟨y 1, y 2, by
    funext a
    match a with
    | ⟨0, _⟩ => exact Subsingleton.elim (α := Fin 1) _ _
    | ⟨1, _⟩ => rfl
    | ⟨2, _⟩ => rfl⟩
  rw [View.read_apply, emb4]
  exact out_at t ((flush0_4 t).mp hf) i j

theorem final : (dats m 0 c).arrAt 4 cfg0.N
    = grad (m ((c.tc : Thread nD τ).loc main_arg0)) (m ((c.tc : Thread nD τ).loc main_arg1)) :=
  (dats m 0 c).arrAt_eq_of_cover 4 _ flushed_eq fun y => by
    have hN : 1 < cfg0.N := by show _ < 2; omega
    refine ⟨⟨1, hN⟩, (flush0_4 _).mpr rfl, ?_⟩
    have h := ((cfg0.win 4).blk (⟨1, hN⟩ : Fin cfg0.N)).view.emb_mem_set
      (ix3 (0 : Fin 1) (⟨y 1, (y 1).isLt⟩ : Fin 1024) (⟨y 2, (y 2).isLt⟩ : Fin 1024))
    rw [emb4] at h
    refine Eq.mp (congrArg (· ∈ _) ?_) h
    funext a
    match a with
    | ⟨0, _⟩ => exact Subsingleton.elim (α := Fin 1) _ _
    | ⟨1, _⟩ => rfl
    | ⟨2, _⟩ => rfl

end Cert.Proof.WOut

namespace Cert.Proof.WOut

open Idealize.ShloMosaic Cert.Reference5Ideal Cert.Reference5Ideal.Gen

theorem ref_grad (u : FVec Ideal S4160x1024 .bf16) (d : FVec Ideal S4160x1024 .f32) :
    (truncf .bf16 (broadcastInDim S1x1024x1024 ![1, 2] bcast_S1024x1024_S1x1024x1024_1_2 (transpose S1024x1024 [1, 0] (Host.dotGeneral dot_S4160x1024_S4160x1024_S1024x1024_0_0_1_1_n_n none d (extf .f32 u bitsLt_bf16_f32)) transposes_S1024x1024_S1024x1024_1_0)) bitsLt_bf16_f32 : FVec Ideal S1x1024x1024 .bf16)
      = grad u d := by
  funext y
  obtain ⟨b, i, j, rfl⟩ : ∃ (b : Fin 1) (i : Fin 1024) (j : Fin 1024), y = ix3 b i j := ⟨y 0, y 1, y 2, by
    funext a
    match a with
    | ⟨0, _⟩ => rfl
    | ⟨1, _⟩ => rfl
    | ⟨2, _⟩ => rfl⟩
  pointwise []
  unfold grad
  refine Finset.sum_congr rfl fun r _ => ?_
  rw [mul_comm]
  rfl

end Cert.Proof.WOut

end
-- ==== Proof.WGla.lean ====
/- The gradient of the gated linear attention's input projection: what a grid point leaves, what the grid leaves, and the reference's product at the same index. -/
module

public import proofs.«01_k».proof.Proof.Gen.Kernel6Ideal.Value
public import proofs.«01_k».proof.Proof.Gen.Reference6Ideal.Run
public import proofs.«01_k».proof.Proof.Push

@[expose] public section

set_option maxRecDepth 16384

noncomputable section

namespace Cert.Proof.WGla

open Idealize.ShloMosaic Idealize.SL.Sem Cert.Kernel6Ideal Cert.Kernel6Ideal.Gen

theorem z2 : (![0, 0] : Fin 2 → ℕ) = fun _ => 0 := by
  funext a
  match a with
  | ⟨0, _⟩ => rfl
  | ⟨1, _⟩ => rfl

theorem z3 : (![0, 0, 0] : Fin 3 → ℕ) = fun _ => 0 := by
  funext a
  match a with
  | ⟨0, _⟩ => rfl
  | ⟨1, _⟩ => rfl
  | ⟨2, _⟩ => rfl

theorem at_point (m : (ℓ : Loc nD τ sig) → Buf (Elt Ideal) ℓ) (c : Dev nD) (t : Fin cfg0.N) :
    outsAt0 m c t = k0_pay4 (k0_pay2 (iblk m c 2 t) (iblk m c 3 t) (iblk m c 0 t) (iblk m c 1 t)) := by
  unfold outsAt0 out0_A_4
  rw [View.read_writes_junk_eq_canon]
  unfold kernelRun0_A
  dsimp only
  rw [View.canon_unit_zero z3]
  unfold kernelRun0_A.sl.v12 kernelRun0_A.sl.HS0_1
  rw [View.readCov_unit_zero _ z2]
  rw [View.readAt_eq_ld, View.readAt_eq_ld, View.readAt_eq_ld, View.readAt_eq_ld]
  rw [(hs0_0 t).read_unread, (hs0_1 t).read_unread, (hs0_2 t).read_unread, (hs0_3 t).read_unread]
  rw [View.ld_unit_zero z2, View.ld_unit_zero z2, View.ld_unit_zero z2, View.ld_unit_zero z2]

variable {m : (ℓ : Loc nD τ sig) → Buf (Elt Ideal) ℓ} {c : Dev nD}

theorem wi0 : ∀ t : Fin cfg0.N, win0_0.index t 0 = 0 ∧ win0_0.index t 1 = 0 :=
  (by decide +kernel : ∀ t : Fin grid0.N, win0_0.index t 0 = 0 ∧ win0_0.index t 1 = 0)
theorem wi1 : ∀ t : Fin cfg0.N, win0_1.index t 0 = 0 ∧ win0_1.index t 1 = t.val :=
  (by decide +kernel : ∀ t : Fin grid0.N, win0_1.index t 0 = 0 ∧ win0_1.index t 1 = t.val)
theorem wi2 : ∀ t : Fin cfg0.N, win0_2.index t 0 = 64 ∧ win0_2.index t 1 = 0 :=
  (by decide +kernel : ∀ t : Fin grid0.N, win0_2.index t 0 = 64 ∧ win0_2.index t 1 = 0)
theorem wi3 : ∀ t : Fin cfg0.N, win0_3.index t 0 = 64 ∧ win0_3.index t 1 = 640 * t.val :=
  (by decide +kernel : ∀ t : Fin grid0.N, win0_3.index t 0 = 64 ∧ win0_3.index t 1 = 640 * t.val)
theorem wi4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

theorem lt5 (t : Fin cfg0.N) : t.val < 5 := t.isLt

theorem blk0 (t : Fin cfg0.N) (r : Fin 64) (k : Fin 1024) :
    iblk m c 0 t (ix2 r k) = m ((c.tc : Thread nD τ).loc main_arg0) (ix2 (⟨r, by omega⟩ : Fin 4160) k) := by
  have hi := wi0 t
  unfold iblk
  rw [View.read_apply]
  show V m c main_arg0 _ = m (c.tc.loc main_arg0) _
  unfold V
  congr 1
  funext a
  apply Fin.ext
  match a with
  | ⟨0, _⟩ => show win0_0.index t 0 * 64 + 1 * (r : ℕ) = (r : ℕ); rw [hi.1]; omega
  | ⟨1, _⟩ => show win0_0.index t 1 * 1024 + 1 * (k : ℕ) = k; rw [hi.2]; omega

theorem blk1 (t : Fin cfg0.N) (r : Fin 64) (k : Fin 640) :
    iblk m c 1 t (ix2 r k) = m ((c.tc : Thread nD τ).loc main_arg1)
      (ix2 (⟨r, by omega⟩ : Fin 4160) (⟨640 * t.val + k, by have := lt5 t; omega⟩ : Fin 3200)) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 64 + 1 * (r : ℕ) = (r : ℕ); rw [hi.1]; omega
  | ⟨1, _⟩ => show win0_1.index t 1 * 640 + 1 * (k : ℕ) = 640 * t.val + k; rw [hi.2]; omega

theorem blk2 (t : Fin cfg0.N) (r : Fin 4096) (k : Fin 1024) :
    iblk m c 2 t (ix2 r k) = m ((c.tc : Thread nD τ).loc main_arg0) (ix2 (⟨64 + r, by omega⟩ : Fin 4160) k) := by
  have hi := wi2 t
  unfold iblk
  rw [View.read_apply]
  show V m c main_arg0 _ = m (c.tc.loc main_arg0) _
  unfold V
  congr 1
  funext a
  apply Fin.ext
  match a with
  | ⟨0, _⟩ => show win0_2.index t 0 + 1 * (r : ℕ) = 64 + (r : ℕ); rw [hi.1]; omega
  | ⟨1, _⟩ => show win0_2.index t 1 + 1 * (k : ℕ) = k; rw [hi.2]; omega

theorem blk3 (t : Fin cfg0.N) (r : Fin 4096) (k : Fin 640) :
    iblk m c 3 t (ix2 r k) = m ((c.tc : Thread nD τ).loc main_arg1)
      (ix2 (⟨64 + r, by omega⟩ : Fin 4160) (⟨640 * t.val + k, by have := lt5 t; omega⟩ : Fin 3200)) := by
  have hi := wi3 t
  unfold iblk
  rw [View.read_apply]
  show V m c main_arg1 _ = m (c.tc.loc main_arg1) _
  unfold V
  congr 1
  funext a
  apply Fin.ext
  match a with
  | ⟨0, _⟩ => show win0_3.index t 0 + 1 * (r : ℕ) = 64 + (r : ℕ); rw [hi.1]; omega
  | ⟨1, _⟩ => show win0_3.index t 1 + 1 * (k : ℕ) = 640 * t.val + k; rw [hi.2]; omega

theorem emb4 (t : Fin cfg0.N) (i : Fin 1024) (j : Fin 640) :
    ((cfg0.win 4).blk t).view.emb (ix3 (0 : Fin 1) i j) = (ix3 (⟨t.val, lt5 t⟩ : Fin 5) i j : S5x1024x640.Idx) := by
  have hi := wi4 t
  funext a
  apply Fin.ext
  match a with
  | ⟨0, _⟩ => show win0_4.index t 0 * 1 + 1 * 0 = t.val; rw [hi.1]; omega
  | ⟨1, _⟩ => show win0_4.index t 1 * 1024 + 1 * (i : ℕ) = i; rw [hi.2.1]; omega
  | ⟨2, _⟩ => show win0_4.index t 2 * 640 + 1 * (j : ℕ) = j; rw [hi.2.2]; omega

/-- The gradient, from the input rows and the gradient of the product: a sum over all rows. -/
def grad (u : S4160x1024.Idx → EReal) (d : S4160x3200.Idx → EReal) : S5x1024x640.Idx → EReal := fun y =>
  ∑ r : Fin 4160, u (ix2 r (⟨y 1, (y 1).isLt⟩ : Fin 1024)) * d (ix2 r (⟨640 * (y 0 : ℕ) + y 2, by
    have h0 : (y 0 : ℕ) < 5 := (y 0).isLt
    have h2 : (y 2 : ℕ) < 640 := (y 2).isLt
    omega⟩ : Fin 3200))

theorem rows (f : Fin 4160 → EReal) :
    (∑ r : Fin 4096, f ⟨64 + r, by omega⟩) + ∑ r : Fin 64, f ⟨r, by omega⟩ = ∑ r, f r := by
  have h := Fin.sum_univ_add (M := EReal) (a := 64) (b := 4096) f
  rw [add_comm]
  exact h.symm

theorem grad_rows (u : S4160x1024.Idx → EReal) (d : S4160x3200.Idx → EReal) (b : Fin 5) (i : Fin 1024) (j : Fin 640) :
    (∑ r : Fin 4096, u (ix2 (⟨64 + r, by omega⟩ : Fin 4160) i)
        * d (ix2 (⟨64 + r, by omega⟩ : Fin 4160) (⟨640 * b + j, by omega⟩ : Fin 3200)))
      + ∑ r : Fin 64, u (ix2 (⟨r, by omega⟩ : Fin 4160) i)
        * d (ix2 (⟨r, by omega⟩ : Fin 4160) (⟨640 * b + j, by omega⟩ : Fin 3200))
      = grad u d (ix3 b i j) :=
  rows (fun r => u (ix2 r i) * d (ix2 r (⟨640 * b + j, by omega⟩ : Fin 3200)))

theorem pay_at (u : Vec Ideal S4096x1024 .bf16) (d : Vec Ideal S4096x640 .bf16) (u' : Vec Ideal S64x1024 .bf16) (d' : Vec Ideal S64x640 .bf16) (i : Fin 1024) (j : Fin 640) :
    k0_pay4 (k0_pay2 u d u' d') (ix3 (0 : Fin 1) i j)
      = (∑ r : Fin 4096, u (ix2 r i) * d (ix2 r j)) + ∑ r : Fin 64, u' (ix2 r i) * d' (ix2 r j) := by
  pointwise [k0_pay4, k0_pay2, k0_pay1]

theorem out_at (t : Fin cfg0.N) (i : Fin 1024) (j : Fin 640) :
    outsAt0 m c t (ix3 (0 : Fin 1) i j) = grad (m ((c.tc : Thread nD τ).loc main_arg0))
      (m ((c.tc : Thread nD τ).loc main_arg1)) (ix3 (⟨t.val, lt5 t⟩ : Fin 5) i j) := by
  rw [at_point, pay_at]
  simp only [blk0, blk1, blk2, blk3]
  exact grad_rows _ _ ⟨t.val, lt5 t⟩ i j

theorem flushed_eq (t : Fin cfg0.N) (hf : (cfg0.win 4).flush t = true) :
    (dats m 0 c).flushed 4 t = ((cfg0.win 4).blk t).view.read (Elt Ideal)
      (grad (m ((c.tc : Thread nD τ).loc main_arg0)) (m ((c.tc : Thread nD τ).loc main_arg1))) := by
  rw [Value.flushed4]
  funext y
  obtain ⟨i, j, rfl⟩ : ∃ (i : Fin 1024) (j : Fin 640), y = ix3 (0 : Fin 1) i j := ⟨y 1, y 2, by
    funext a
    match a with
    | ⟨0, _⟩ => exact Subsingleton.elim (α := Fin 1) _ _
    | ⟨1, _⟩ => rfl
    | ⟨2, _⟩ => rfl⟩
  rw [View.read_apply, emb4]
  exact out_at t i j

theorem final : (dats m 0 c).arrAt 4 cfg0.N
    = grad (m ((c.tc : Thread nD τ).loc main_arg0)) (m ((c.tc : Thread nD τ).loc main_arg1)) :=
  (dats m 0 c).arrAt_eq_of_cover 4 _ flushed_eq fun y => by
    have h0 : (y 0 : ℕ) < 5 := (y 0).isLt
    refine ⟨⟨y 0, h0⟩, flush0_4 _, ?_⟩
    have h := ((cfg0.win 4).blk (⟨y 0, h0⟩ : Fin cfg0.N)).view.emb_mem_set
      (ix3 (0 : Fin 1) (⟨y 1, (y 1).isLt⟩ : Fin 1024) (⟨y 2, (y 2).isLt⟩ : Fin 640))
    rw [emb4] at h
    refine Eq.mp (congrArg (· ∈ _) ?_) h
    funext a
    match a with
    | ⟨0, _⟩ => rfl
    | ⟨1, _⟩ => rfl
    | ⟨2, _⟩ => rfl

end Cert.Proof.WGla

namespace Cert.Proof.WGla

open Idealize.ShloMosaic Cert.Reference6Ideal Cert.Reference6Ideal.Gen

theorem ref_grad (u : FVec Ideal S4160x1024 .bf16) (d : FVec Ideal S4160x3200 .bf16) :
    (truncf .bf16 (transpose S5x1024x640 [1, 0, 2] (shapeCast _ (transpose S1024x3200 [1, 0] (Host.dotGeneral dot_S4160x3200_S4160x1024_S3200x1024_0_0_1_1_n_n none (extf .f32 d bitsLt_bf16_f32) (extf .f32 u bitsLt_bf16_f32)) transposes_S3200x1024_S1024x3200_1_0) shapeCasts_S1024x3200_S1024x5x640) transposes_S1024x5x640_S5x1024x640_1_0_2) bitsLt_bf16_f32 : FVec Ideal S5x1024x640 .bf16)
      = grad u d := by
  funext y
  obtain ⟨b, i, j, rfl⟩ : ∃ (b : Fin 5) (i : Fin 1024) (j : Fin 640), y = ix3 b i j := ⟨y 0, y 1, y 2, by
    funext a
    match a with
    | ⟨0, _⟩ => rfl
    | ⟨1, _⟩ => rfl
    | ⟨2, _⟩ => rfl⟩
  pointwise []
  unfold grad
  refine Finset.sum_congr rfl fun r _ => ?_
  rw [mul_comm]
  congr 4
  show (b : ℕ) * 640 + (j : ℕ) = 640 * (b : ℕ) + (j : ℕ)
  omega

end Cert.Proof.WGla

end
-- ==== Proof.WCp.lean ====
/- The gradient of the convolution and pooling layer's input projection: what a grid point leaves, what the grid leaves, and the reference's product at the same index. -/
module

public import proofs.«01_k».proof.Proof.Gen.Kernel7Ideal.Value
public import proofs.«01_k».proof.Proof.Gen.Reference7Ideal.Run
public import proofs.«01_k».proof.Proof.Push

@[expose] public section

set_option maxRecDepth 16384

noncomputable section

namespace Cert.Proof.WCp

open Idealize.ShloMosaic Idealize.SL.Sem Cert.Kernel7Ideal Cert.Kernel7Ideal.Gen

theorem z2 : (![0, 0] : Fin 2 → ℕ) = fun _ => 0 := by
  funext a
  match a with
  | ⟨0, _⟩ => rfl
  | ⟨1, _⟩ => rfl

theorem z3 : (![0, 0, 0] : Fin 3 → ℕ) = fun _ => 0 := by
  funext a
  match a with
  | ⟨0, _⟩ => rfl
  | ⟨1, _⟩ => rfl
  | ⟨2, _⟩ => rfl

theorem at_first (m : (ℓ : Loc nD τ sig) → Buf (Elt Ideal) ℓ) (c : Dev nD) (t : Fin cfg0.N) (h : t.val % 2 = 0) :
    (outsAt0 m c t.val t.isLt).2 = k0_pay2 (iblk m c 2 t) (iblk m c 3 t) (iblk m c 0 t) (iblk m c 1 t) := by
  rw [outsAt0_A m c t h (by omega) (by omega)]
  dsimp only
  unfold sout0_A_0
  rw [View.read_writes_junk_eq_canon]
  unfold kernelRun0_A
  dsimp only
  rw [View.canon_unit_zero z2]
  rw [View.readAt_eq_ld, View.readAt_eq_ld, View.readAt_eq_ld, View.readAt_eq_ld]
  rw [(hs0_0 t).read_unread, (hs0_1 t).read_unread, (hs0_2 t).read_unread, (hs0_3 t).read_unread]
  rw [View.ld_unit_zero z2, View.ld_unit_zero z2, View.ld_unit_zero z2, View.ld_unit_zero z2]

theorem at_second (m : (ℓ : Loc nD τ sig) → Buf (Elt Ideal) ℓ) (c : Dev nD) (t : Fin cfg0.N) (h : t.val % 2 = 1) :
    (outsAt0 m c t.val t.isLt).1 = k0_pay4 (k0_pay3 (iblk m c 2 t) (iblk m c 3 t)
      (outsAt0 m c (t.val - 1) (Nat.lt_of_le_of_lt (Nat.sub_le _ _) t.isLt)).2) := by
  rw [outsAt0_B m c t (by omega) h h]
  dsimp only
  unfold out0_B_4
  rw [View.read_writes_junk_eq_canon]
  unfold kernelRun0_B
  dsimp only
  rw [View.canon_unit_zero z3]
  unfold kernelRun0_B.sl.v12 kernelRun0_B.sl.HS0_1
  rw [View.readCov_unit_zero _ z2]
  rw [View.readAt_eq_ld, View.readAt_eq_ld, View.readAt_eq_ld]
  rw [(hs0_2 t).read_unread, (hs0_3 t).read_unread, Memref.IsWhole.read_unread]
  rw [View.ld_unit_zero z2, View.ld_unit_zero z2, View.ld_unit_zero z2]

variable {m : (ℓ : Loc nD τ sig) → Buf (Elt Ideal) ℓ} {c : Dev nD}

theorem lt2 (t : Fin cfg0.N) : t.val < 2 := t.isLt

theorem wi0 : ∀ t : Fin cfg0.N, win0_0.index t 0 = 0 ∧ win0_0.index t 1 = 0 :=
  (by decide +kernel : ∀ t : Fin grid0.N, win0_0.index t 0 = 0 ∧ win0_0.index t 1 = 0)
theorem wi1 : ∀ t : Fin cfg0.N, win0_1.index t 0 = 0 ∧ win0_1.index t 1 = 0 :=
  (by decide +kernel : ∀ t : Fin grid0.N, win0_1.index t 0 = 0 ∧ win0_1.index t 1 = 0)
theorem wi2 : ∀ t : Fin cfg0.N, win0_2.index t 0 = 64 + 2048 * t.val ∧ win0_2.index t 1 = 0 :=
  (by decide +kernel : ∀ t : Fin grid0.N, win0_2.index t 0 = 64 + 2048 * t.val ∧ win0_2.index t 1 = 0)
theorem wi3 : ∀ t : Fin cfg0.N, win0_3.index t 0 = 64 + 2048 * t.val ∧ win0_3.index t 1 = 0 :=
  (by decide +kernel : ∀ t : Fin grid0.N, win0_3.index t 0 = 64 + 2048 * t.val ∧ win0_3.index t 1 = 0)
theorem wi4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

theorem blk0 (t : Fin cfg0.N) (r : Fin 64) (k : Fin 1024) :
    iblk m c 0 t (ix2 r k) = m ((c.tc : Thread nD τ).loc main_arg0) (ix2 (⟨r, by omega⟩ : Fin 4160) k) := by
  have hi := wi0 t
  unfold iblk
  rw [View.read_apply]
  show V m c main_arg0 _ = m (c.tc.loc main_arg0) _
  unfold V
  congr 1
  funext a
  apply Fin.ext
  match a with
  | ⟨0, _⟩ => show win0_0.index t 0 * 64 + 1 * (r : ℕ) = (r : ℕ); rw [hi.1]; omega
  | ⟨1, _⟩ => show win0_0.index t 1 * 1024 + 1 * (k : ℕ) = k; rw [hi.2]; omega

theorem blk1 (t : Fin cfg0.N) (r : Fin 64) (k : Fin 1536) :
    iblk m c 1 t (ix2 r k) = m ((c.tc : Thread nD τ).loc main_arg1) (ix2 (⟨r, by omega⟩ : Fin 4160) k) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 64 + 1 * (r : ℕ) = (r : ℕ); rw [hi.1]; omega
  | ⟨1, _⟩ => show win0_1.index t 1 * 1536 + 1 * (k : ℕ) = k; rw [hi.2]; omega

theorem blk2 (t : Fin cfg0.N) (r : Fin 2048) (k : Fin 1024) :
    iblk m c 2 t (ix2 r k) = m ((c.tc : Thread nD τ).loc main_arg0) (ix2 (⟨64 + 2048 * t.val + r, by have := lt2 t; omega⟩ : Fin 4160) k) := by
  have hi := wi2 t
  unfold iblk
  rw [View.read_apply]
  show V m c main_arg0 _ = m (c.tc.loc main_arg0) _
  unfold V
  congr 1
  funext a
  apply Fin.ext
  match a with
  | ⟨0, _⟩ => show win0_2.index t 0 + 1 * (r : ℕ) = 64 + 2048 * t.val + (r : ℕ); rw [hi.1]; omega
  | ⟨1, _⟩ => show win0_2.index t 1 + 1 * (k : ℕ) = k; rw [hi.2]; omega

theorem blk3 (t : Fin cfg0.N) (r : Fin 2048) (k : Fin 1536) :
    iblk m c 3 t (ix2 r k) = m ((c.tc : Thread nD τ).loc main_arg1) (ix2 (⟨64 + 2048 * t.val + r, by have := lt2 t; omega⟩ : Fin 4160) k) := by
  have hi := wi3 t
  unfold iblk
  rw [View.read_apply]
  show V m c main_arg1 _ = m (c.tc.loc main_arg1) _
  unfold V
  congr 1
  funext a
  apply Fin.ext
  match a with
  | ⟨0, _⟩ => show win0_3.index t 0 + 1 * (r : ℕ) = 64 + 2048 * t.val + (r : ℕ); rw [hi.1]; omega
  | ⟨1, _⟩ => show win0_3.index t 1 + 1 * (k : ℕ) = k; rw [hi.2]; omega

theorem emb4 (t : Fin cfg0.N) (i : Fin 1024) (j : Fin 1536) :
    ((cfg0.win 4).blk t).view.emb (ix3 (0 : Fin 1) i j) = (ix3 (0 : Fin 1) i j : S1x1024x1536.Idx) := by
  have hi := wi4 t
  funext a
  apply Fin.ext
  match a with
  | ⟨0, _⟩ => show win0_4.index t 0 * 1 + 1 * 0 = 0; rw [hi.1]
  | ⟨1, _⟩ => show win0_4.index t 1 * 1024 + 1 * (i : ℕ) = i; rw [hi.2.1]; omega
  | ⟨2, _⟩ => show win0_4.index t 2 * 1536 + 1 * (j : ℕ) = j; rw [hi.2.2]; omega

/-- The gradient, from the input rows and the gradient of the product: a sum over all rows. -/
def grad (u : S4160x1024.Idx → EReal) (d : S4160x1536.Idx → EReal) : S1x1024x1536.Idx → EReal := fun y =>
  ∑ r : Fin 4160, u (ix2 r (⟨y 1, (y 1).isLt⟩ : Fin 1024)) * d (ix2 r (⟨y 2, (y 2).isLt⟩ : Fin 1536))

theorem rows (f : Fin 4160 → EReal) :
    ((∑ r : Fin 2048, f ⟨64 + 2048 * 0 + r, by omega⟩) + ∑ r : Fin 64, f ⟨r, by omega⟩)
      + ∑ r : Fin 2048, f ⟨64 + 2048 * 1 + r, by omega⟩ = ∑ r, f r := by
  have h := Fin.sum_univ_add (M := EReal) (a := 2112) (b := 2048) f
  have h' := Fin.sum_univ_add (M := EReal) (a := 64) (b := 2048) (fun r => f (Fin.castAdd 2048 r))
  rw [h'] at h
  rw [h, add_comm (∑ r : Fin 2048, f ⟨64 + 2048 * 0 + r, _⟩)]
  rfl

theorem grad_rows (u : S4160x1024.Idx → EReal) (d : S4160x1536.Idx → EReal) (i : Fin 1024) (j : Fin 1536) :
    ((∑ r : Fin 2048, u (ix2 (⟨64 + 2048 * 0 + r, by omega⟩ : Fin 4160) i)
        * d (ix2 (⟨64 + 2048 * 0 + r, by omega⟩ : Fin 4160) j))
      + ∑ r : Fin 64, u (ix2 (⟨r, by omega⟩ : Fin 4160) i) * d (ix2 (⟨r, by omega⟩ : Fin 4160) j))
      + (∑ r : Fin 2048, u (ix2 (⟨64 + 2048 * 1 + r, by omega⟩ : Fin 4160) i)
        * d (ix2 (⟨64 + 2048 * 1 + r, by omega⟩ : Fin 4160) j))
      = grad u d (ix3 (0 : Fin 1) i j) :=
  rows (fun r => u (ix2 r i) * d (ix2 r j))

theorem pay2_at (u : Vec Ideal S2048x1024 .bf16) (d : Vec Ideal S2048x1536 .bf16) (u' : Vec Ideal S64x1024 .bf16)
    (d' : Vec Ideal S64x1536 .bf16) (i : Fin 1024) (j : Fin 1536) :
    k0_pay2 u d u' d' (ix2 i j)
      = (∑ r : Fin 2048, u (ix2 r i) * d (ix2 r j)) + ∑ r : Fin 64, u' (ix2 r i) * d' (ix2 r j) := by
  pointwise [k0_pay2, k0_pay1]

theorem pay3_at (u : Vec Ideal S2048x1024 .bf16) (d : Vec Ideal S2048x1536 .bf16) (a : Vec Ideal S1024x1536 .f32)
    (i : Fin 1024) (j : Fin 1536) :
    k0_pay4 (k0_pay3 u d a) (ix3 (0 : Fin 1) i j)
      = a (ix2 i j) + ∑ r : Fin 2048, u (ix2 r i) * d (ix2 r j) := by
  pointwise [k0_pay4, k0_pay3, k0_pay1]

theorem out_snd (h1 : 1 < cfg0.N) (i : Fin 1024) (j : Fin 1536) :
    (outsAt0 m c 1 h1).1 (ix3 (0 : Fin 1) i j) = grad (m ((c.tc : Thread nD τ).loc main_arg0))
      (m ((c.tc : Thread nD τ).loc main_arg1)) (ix3 (0 : Fin 1) i j) := by
  have e := at_second m c ⟨1, h1⟩ rfl
  have e' := at_first m c ⟨0, Nat.lt_of_succ_lt h1⟩ rfl
  dsimp only at e e'
  simp only [Nat.sub_self] at e
  rw [e, pay3_at, e', pay2_at]
  simp only [blk0, blk1, blk2, blk3]
  exact grad_rows _ _ i j

theorem out_at (t : Fin cfg0.N) (h : t.val % 2 = 1) (i : Fin 1024) (j : Fin 1536) :
    (outsAt0 m c t.val t.isLt).1 (ix3 (0 : Fin 1) i j) = grad (m ((c.tc : Thread nD τ).loc main_arg0))
      (m ((c.tc : Thread nD τ).loc main_arg1)) (ix3 (0 : Fin 1) i j) := by
  have e : t.val = 1 := by have := lt2 t; omega
  have h1 : 1 < cfg0.N := by show _ < 2; omega
  rw [← out_snd h1 i j]
  simp only [e]

theorem flushed_eq (t : Fin cfg0.N) (hf : (cfg0.win 4).flush t = true) :
    (dats m 0 c).flushed 4 t = ((cfg0.win 4).blk t).view.read (Elt Ideal)
      (grad (m ((c.tc : Thread nD τ).loc main_arg0)) (m ((c.tc : Thread nD τ).loc main_arg1))) := by
  rw [Value.flushed4]
  funext y
  obtain ⟨i, j, rfl⟩ : ∃ (i : Fin 1024) (j : Fin 1536), y = ix3 (0 : Fin 1) i j := ⟨y 1, y 2, by
    funext a
    match a with
    | ⟨0, _⟩ => exact Subsingleton.elim (α := Fin 1) _ _
    | ⟨1, _⟩ => rfl
    | ⟨2, _⟩ => rfl⟩
  rw [View.read_apply, emb4]
  exact out_at t ((flush0_4 t).mp hf) i j

theorem final : (dats m 0 c).arrAt 4 cfg0.N
    = grad (m ((c.tc : Thread nD τ).loc main_arg0)) (m ((c.tc : Thread nD τ).loc main_arg1)) :=
  (dats m 0 c).arrAt_eq_of_cover 4 _ flushed_eq fun y => by
    have hN : 1 < cfg0.N := by show _ < 2; omega
    refine ⟨⟨1, hN⟩, (flush0_4 _).mpr rfl, ?_⟩
    have h := ((cfg0.win 4).blk (⟨1, hN⟩ : Fin cfg0.N)).view.emb_mem_set
      (ix3 (0 : Fin 1) (⟨y 1, (y 1).isLt⟩ : Fin 1024) (⟨y 2, (y 2).isLt⟩ : Fin 1536))
    rw [emb4] at h
    refine Eq.mp (congrArg (· ∈ _) ?_) h
    funext a
    match a with
    | ⟨0, _⟩ => exact Subsingleton.elim (α := Fin 1) _ _
    | ⟨1, _⟩ => rfl
    | ⟨2, _⟩ => rfl

end Cert.Proof.WCp

namespace Cert.Proof.WCp

open Idealize.ShloMosaic Cert.Reference7Ideal Cert.Reference7Ideal.Gen

theorem ref_grad (u : FVec Ideal S4160x1024 .bf16) (d : FVec Ideal S4160x1536 .bf16) :
    (truncf .bf16 (broadcastInDim S1x1024x1536 ![1, 2] bcast_S1024x1536_S1x1024x1536_1_2 (transpose S1024x1536 [1, 0] (Host.dotGeneral dot_S4160x1536_S4160x1024_S1536x1024_0_0_1_1_n_n none (extf .f32 d bitsLt_bf16_f32) (extf .f32 u bitsLt_bf16_f32)) transposes_S1536x1024_S1024x1536_1_0)) bitsLt_bf16_f32 : FVec Ideal S1x1024x1536 .bf16)
      = grad u d := by
  funext y
  obtain ⟨b, i, j, rfl⟩ : ∃ (b : Fin 1) (i : Fin 1024) (j : Fin 1536), y = ix3 b i j := ⟨y 0, y 1, y 2, by
    funext a
    match a with
    | ⟨0, _⟩ => rfl
    | ⟨1, _⟩ => rfl
    | ⟨2, _⟩ => rfl⟩
  pointwise []
  unfold grad
  refine Finset.sum_congr rfl fun r _ => ?_
  rw [mul_comm]
  rfl

end Cert.Proof.WCp

end
-- ==== Proof.DnSpec.lean ====
/- The backward pass of a normalised projection to its input, on real numbers: through the product, through the
   normalisation, and to the normalisation's gain. -/
module

public import proofs.«01_k».proof.Proof.FfSpec

@[expose] public section

noncomputable section

namespace Cert.Proof.Dn

open Idealize.ShloMosaic

/-- The real numbers the arguments hold. -/
structure Data where
  dz : ℕ → ℕ → ℝ
  w : ℕ → ℕ → ℝ
  h : ℕ → ℕ → ℝ
  g : ℕ → ℝ
  dh : ℕ → ℕ → ℝ
  eps : ℝ
  eps_pos : 0 < eps

variable (D : Data)

/-- The gradient of the scaled normalised input, in three pieces of columns. -/
def acc (r c : ℕ) : ℝ :=
  (∑ f : Fin 1280, D.dz r f * D.w c f) + (∑ f : Fin 1280, D.dz r (1280 + f) * D.w c (1280 + f))
    + ∑ f : Fin 640, D.dz r (2560 + f) * D.w c (2560 + f)

theorem acc_eq (r c : ℕ) : acc D r c = ∑ f : Fin 3200, D.dz r f * D.w c f := by
  unfold acc
  rw [Fin.sum_univ_eq_sum_range (fun f => D.dz r f * D.w c f) 1280,
    Fin.sum_univ_eq_sum_range (fun f => D.dz r (1280 + f) * D.w c (1280 + f)) 1280,
    Fin.sum_univ_eq_sum_range (fun f => D.dz r (2560 + f) * D.w c (2560 + f)) 640,
    Fin.sum_univ_eq_sum_range (fun f => D.dz r f * D.w c f) 3200,
    show 3200 = 2560 + 640 from rfl, Finset.sum_range_add, show 2560 = 1280 + 1280 from rfl, Finset.sum_range_add]

/-- The mean square of a row. -/
def ms (r : ℕ) : ℝ := (∑ c : Fin 1024, D.h r c * D.h r c) / 1024 + D.eps

theorem ms_pos (r : ℕ) : 0 < ms D r := by
  have : 0 ≤ ∑ c : Fin 1024, D.h r c * D.h r c := Finset.sum_nonneg fun c _ => mul_self_nonneg _
  have := D.eps_pos
  unfold ms; positivity

/-- One over the root mean square. -/
def rr (r : ℕ) : ℝ := (Real.sqrt (ms D r))⁻¹

theorem rr_sq (r : ℕ) : rr D r * rr D r = 1 / ms D r := by
  rw [rr, ← mul_inv, Real.mul_self_sqrt (ms_pos D r).le, one_div]

/-- The normalised input. -/
def xh (r c : ℕ) : ℝ := D.h r c * rr D r

/-- The mean of the gradient along the normalised input. -/
def proj (r : ℕ) : ℝ := (∑ c : Fin 1024, acc D r c * D.g c * xh D r c) / 1024

/-- The gradient of the input: what came past the layer and what came through it; zero on the padding rows. -/
def out (r c : ℕ) : ℝ :=
  if 48 ≤ r then D.dh r c + rr D r * (acc D r c * D.g c - xh D r c * proj D r) else 0

/-- A block of rows' part of the gradient of the gain. -/
def dgB (i c : ℕ) : ℝ := ∑ r : Fin 416, acc D (416 * i + r) c * xh D (416 * i + r) c

/-- The first blocks' part. -/
def dgN (n c : ℕ) : ℝ := ∑ i ∈ Finset.range n, dgB D i c

/-- The gradient of the gain. -/
def dg (c : ℕ) : ℝ := dgN D 10 c

theorem dg_eq (c : ℕ) : dg D c = ∑ r : Fin 4160, acc D r c * xh D r c :=
  Ff.sum_blocks (fun r => acc D r c * xh D r c) 416 10

/-- Arguments that hold the data. -/
structure Args (D : Data) (a0 : FVec Ideal ⟨2, ![4160, 3200]⟩ .bf16) (a1 : FVec Ideal ⟨2, ![1024, 3200]⟩ .bf16)
    (a2 : FVec Ideal ⟨2, ![4160, 1024]⟩ .f32) (a3 : FVec Ideal ⟨2, ![1, 1024]⟩ .f32)
    (a4 : FVec Ideal ⟨2, ![4160, 1024]⟩ .f32) : Prop where
  dz : ∀ (r : Fin 4160) (f : Fin 3200), a0 (ix2 r f) = ((D.dz r f : ℝ) : EReal)
  w : ∀ (c : Fin 1024) (f : Fin 3200), a1 (ix2 c f) = ((D.w c f : ℝ) : EReal)
  h : ∀ (r : Fin 4160) (c : Fin 1024), a2 (ix2 r c) = ((D.h r c : ℝ) : EReal)
  g : ∀ c : Fin 1024, a3 (ix2 0 c) = ((D.g c : ℝ) : EReal)
  dh : ∀ (r : Fin 4160) (c : Fin 1024), a4 (ix2 r c) = ((D.dh r c : ℝ) : EReal)
  eps : Ideal.ofBits .f32 0x3727C5AC#32 = ((D.eps : ℝ) : EReal)

/-- The data the arguments hold. -/
def dataOf (a0 : FVec Ideal ⟨2, ![4160, 3200]⟩ .bf16) (a1 : FVec Ideal ⟨2, ![1024, 3200]⟩ .bf16)
    (a2 : FVec Ideal ⟨2, ![4160, 1024]⟩ .f32) (a3 : FVec Ideal ⟨2, ![1, 1024]⟩ .f32)
    (a4 : FVec Ideal ⟨2, ![4160, 1024]⟩ .f32) : Data where
  dz := Gla.arr2 a0
  w := Gla.arr2 a1
  h := Gla.arr2 a2
  g := Gla.arr2 a3 0
  dh := Gla.arr2 a4
  eps := 10995116 / 1099511627776
  eps_pos := by norm_num

theorem args_of {a0 : FVec Ideal ⟨2, ![4160, 3200]⟩ .bf16} {a1 : FVec Ideal ⟨2, ![1024, 3200]⟩ .bf16}
    {a2 : FVec Ideal ⟨2, ![4160, 1024]⟩ .f32} {a3 : FVec Ideal ⟨2, ![1, 1024]⟩ .f32}
    {a4 : FVec Ideal ⟨2, ![4160, 1024]⟩ .f32}
    (h0 : ∀ y, (((a0 y).toReal : ℝ) : EReal) = a0 y) (h1 : ∀ y, (((a1 y).toReal : ℝ) : EReal) = a1 y)
    (h2 : ∀ y, (((a2 y).toReal : ℝ) : EReal) = a2 y) (h3 : ∀ y, (((a3 y).toReal : ℝ) : EReal) = a3 y)
    (h4 : ∀ y, (((a4 y).toReal : ℝ) : EReal) = a4 y) : Args (dataOf a0 a1 a2 a3 a4) a0 a1 a2 a3 a4 where
  dz := Gla.arr2_at h0
  w := Gla.arr2_at h1
  h := Gla.arr2_at h2
  g := Gla.arr2_at h3 0
  dh := Gla.arr2_at h4
  eps := Gla.ofBits_eps

theorem finite9_facts : Cert.Pre_finite9.Facts :=
  ⟨by decide, by decide, by decide, by decide, by decide⟩

/-- The precondition read: every element of every argument is a real. -/
theorem args_of_finite9 (m : (ℓ : Loc Cert.Kernel9Ideal.nD Cert.Kernel9Ideal.τ Cert.Kernel9Ideal.sig) → Buf (Elt Ideal) ℓ)
    (h : Cert.Pre_Kernel9Ideal_finite9 (hPre_finite9 := finite9_facts) m) (c : Dev Cert.Kernel9Ideal.nD) :
    ∃ D : Data, Args D (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2))
      (m ((c.tc : Thread Cert.Kernel9Ideal.nD Cert.Kernel9Ideal.τ).loc Cert.Kernel9Ideal.main_arg3))
      (m ((c.tc : Thread Cert.Kernel9Ideal.nD Cert.Kernel9Ideal.τ).loc Cert.Kernel9Ideal.main_arg4)) := by
  obtain ⟨h0, h1, h2, h3, h4⟩ := h c
  exact ⟨_, args_of (fun y => Gla.real_of_lt (congrFun h0 y)) (fun y => Gla.real_of_lt (congrFun h1 y))
    (fun y => Gla.real_of_lt (congrFun h2 y)) (fun y => Gla.real_of_lt (congrFun h3 y))
    (fun y => Gla.real_of_lt (congrFun h4 y))⟩

/-- The two results, as arrays. -/
def G0 : FVec Ideal ⟨2, ![4160, 1024]⟩ .f32 := fun y => ((out D (y 0 : ℕ) (y 1 : ℕ) : ℝ) : EReal)
def G1 : FVec Ideal ⟨2, ![1, 1024]⟩ .f32 := fun y => ((dg D (y 1 : ℕ) : ℝ) : EReal)

end Cert.Proof.Dn

end
-- ==== Proof.DnPoint.lean ====
/- The projection's backward pass to its input: what a grid point leaves, from the blocks it reads. -/
module

public import proofs.«01_k».proof.Proof.Gen.Kernel9Ideal.Value
public import proofs.«01_k».proof.Proof.DnSpec
public import proofs.«01_k».proof.Proof.Push

@[expose] public section

set_option maxRecDepth 16384

noncomputable section

namespace Cert.Proof.Dn

open Idealize.ShloMosaic Idealize.SL.Sem Cert.Kernel9Ideal Cert.Kernel9Ideal.Gen Cert.Proof.Gla

theorem z2 : (![0, 0] : Fin 2 → ℕ) = fun _ => 0 := by
  funext a
  match a with
  | ⟨0, _⟩ => rfl
  | ⟨1, _⟩ => rfl

/-- The product of a block of rows with the weight, in the kernel's three pieces of columns. -/
abbrev kAcc (b0 : Vec Ideal S416x3200 .bf16) (b1 : Vec Ideal S1024x3200 .bf16) : FVec Ideal S416x1024 .f32 :=
  k0_pay4 (View.ld b0 (Rect.unit (s := S416x3200) ![0, 0] S416x1280.size inb_S416x3200_S416x1280_0_0))
    (View.ld b1 (Rect.unit (s := S1024x3200) ![0, 0] S1024x1280.size inb_S1024x3200_S1024x1280_0_0)) (View.ld b0 (Rect.unit (s := S416x3200) ![0, 1280] S416x1280.size inb_S416x3200_S416x1280_0_1280))
    (View.ld b1 (Rect.unit (s := S1024x3200) ![0, 1280] S1024x1280.size inb_S1024x3200_S1024x1280_0_1280)) (View.ld b0 (Rect.unit (s := S416x3200) ![0, 2560] S416x640.size inb_S416x3200_S416x640_0_2560))
    (View.ld b1 (Rect.unit (s := S1024x3200) ![0, 2560] S1024x640.size inb_S1024x3200_S1024x640_0_2560))

/-- The product scaled by the gain. -/
abbrev kSc (b0 : Vec Ideal S416x3200 .bf16) (b1 : Vec Ideal S1024x3200 .bf16) (b3 : Vec Ideal S1x1024 .f32) :
    FVec Ideal S416x1024 .f32 :=
  k0_pay7 (View.ld b0 (Rect.unit (s := S416x3200) ![0, 0] S416x1280.size inb_S416x3200_S416x1280_0_0))
    (View.ld b1 (Rect.unit (s := S1024x3200) ![0, 0] S1024x1280.size inb_S1024x3200_S1024x1280_0_0)) (View.ld b0 (Rect.unit (s := S416x3200) ![0, 1280] S416x1280.size inb_S416x3200_S416x1280_0_1280))
    (View.ld b1 (Rect.unit (s := S1024x3200) ![0, 1280] S1024x1280.size inb_S1024x3200_S1024x1280_0_1280)) (View.ld b0 (Rect.unit (s := S416x3200) ![0, 2560] S416x640.size inb_S416x3200_S416x640_0_2560))
    (View.ld b1 (Rect.unit (s := S1024x3200) ![0, 2560] S1024x640.size inb_S1024x3200_S1024x640_0_2560)) b3

/-- The part along the normalised input. -/
abbrev kAl (b0 : Vec Ideal S416x3200 .bf16) (b1 : Vec Ideal S1024x3200 .bf16) (b2 : Vec Ideal S416x1024 .f32)
    (b3 : Vec Ideal S1x1024 .f32) : FVec Ideal S416x1024 .f32 :=
  k0_pay8 (View.ld b0 (Rect.unit (s := S416x3200) ![0, 0] S416x1280.size inb_S416x3200_S416x1280_0_0))
    (View.ld b1 (Rect.unit (s := S1024x3200) ![0, 0] S1024x1280.size inb_S1024x3200_S1024x1280_0_0)) (View.ld b0 (Rect.unit (s := S416x3200) ![0, 1280] S416x1280.size inb_S416x3200_S416x1280_0_1280))
    (View.ld b1 (Rect.unit (s := S1024x3200) ![0, 1280] S1024x1280.size inb_S1024x3200_S1024x1280_0_1280)) (View.ld b0 (Rect.unit (s := S416x3200) ![0, 2560] S416x640.size inb_S416x3200_S416x640_0_2560))
    (View.ld b1 (Rect.unit (s := S1024x3200) ![0, 2560] S1024x640.size inb_S1024x3200_S1024x640_0_2560)) b2 b3

theorem lt10 (t : Fin cfg0.N) : t.val < 10 := t.isLt

theorem out_A (m : (ℓ : Loc nD τ sig) → Buf (Elt Ideal) ℓ) (c : Dev nD) (t : Fin cfg0.N) (h : t.val = 0) :
    (outsAt0 m c t.val t.isLt).1 = k0_pay1 (BitVec.ofNat 32 (grid0.coords t 0).val) (k0_pay5 (iblk m c 2 t)) (kSc (iblk m c 0 t) (iblk m c 1 t) (iblk m c 3 t))
      (kAl (iblk m c 0 t) (iblk m c 1 t) (iblk m c 2 t) (iblk m c 3 t)) (iblk m c 4 t) := by
  rw [outsAt0_A m c t (by omega) (by omega)]
  dsimp only
  unfold out0_A_5
  rw [View.read_writes_junk_eq_canon]
  unfold kernelRun0_A
  dsimp only
  rw [View.canon_unit_zero z2]
  unfold kernelRun0_A.sl.r_1 kernelRun0_A.sl.r_3 kernelRun0_A.sl.r_4
  repeat rw [View.readAt_eq_ld]
  rw [(hs0_0 t).read_unread, (hs0_1 t).read_unread, (hs0_2 t).read_unread, (hs0_3 t).read_unread, (hs0_4 t).read_unread]
  repeat rw [View.ld_unit_zero z2]

theorem out_B (m : (ℓ : Loc nD τ sig) → Buf (Elt Ideal) ℓ) (c : Dev nD) (t : Fin cfg0.N) (h : t.val ≠ 0) :
    (outsAt0 m c t.val t.isLt).1 = k0_pay1 (BitVec.ofNat 32 (grid0.coords t 0).val) (k0_pay5 (iblk m c 2 t)) (kSc (iblk m c 0 t) (iblk m c 1 t) (iblk m c 3 t))
      (kAl (iblk m c 0 t) (iblk m c 1 t) (iblk m c 2 t) (iblk m c 3 t)) (iblk m c 4 t) := by
  rw [outsAt0_B m c t (by have := lt10 t; omega) (by omega)]
  dsimp only
  unfold out0_B_5
  rw [View.read_writes_junk_eq_canon]
  unfold kernelRun0_B
  dsimp only
  rw [View.canon_unit_zero z2]
  unfold kernelRun0_B.sl.r_1 kernelRun0_B.sl.r_3 kernelRun0_B.sl.r_4
  repeat rw [View.readAt_eq_ld]
  rw [(hs0_0 t).read_unread, (hs0_1 t).read_unread, (hs0_2 t).read_unread, (hs0_3 t).read_unread, (hs0_4 t).read_unread]
  repeat rw [View.ld_unit_zero z2]

theorem dg_A (m : (ℓ : Loc nD τ sig) → Buf (Elt Ideal) ℓ) (c : Dev nD) (t : Fin cfg0.N) (h : t.val = 0) :
    (outsAt0 m c t.val t.isLt).2 = k0_pay2 (kAcc (iblk m c 0 t) (iblk m c 1 t)) (k0_pay6 (iblk m c 2 t)) := by
  rw [outsAt0_A m c t (by omega) (by omega)]
  dsimp only
  unfold out0_A_6
  rw [View.read_writes_junk_eq_canon]
  unfold kernelRun0_A
  dsimp only
  rw [View.canon_unit_zero z2]
  unfold kernelRun0_A.sl.r kernelRun0_A.sl.r_2
  repeat rw [View.readAt_eq_ld]
  rw [(hs0_0 t).read_unread, (hs0_1 t).read_unread, (hs0_2 t).read_unread]
  repeat rw [View.ld_unit_zero z2]

theorem dg_B (m : (ℓ : Loc nD τ sig) → Buf (Elt Ideal) ℓ) (c : Dev nD) (t : Fin cfg0.N) (h : t.val ≠ 0) :
    (outsAt0 m c t.val t.isLt).2 = k0_pay3 (kAcc (iblk m c 0 t) (iblk m c 1 t)) (k0_pay6 (iblk m c 2 t))
      (outsAt0 m c (t.val - 1) (Nat.lt_of_le_of_lt (Nat.sub_le _ _) t.isLt)).2 := by
  rw [outsAt0_B m c t (by have := lt10 t; omega) (by omega)]
  dsimp only
  unfold out0_B_6
  rw [View.read_writes_junk_eq_canon]
  unfold kernelRun0_B
  dsimp only
  rw [View.canon_unit_zero z2]
  unfold kernelRun0_B.sl.r kernelRun0_B.sl.r_2
  repeat rw [View.readAt_eq_ld]
  rw [(hs0_0 t).read_unread, (hs0_1 t).read_unread, (hs0_2 t).read_unread, (hs0_6 t).read_unread]
  repeat rw [View.ld_unit_zero z2]

/-- The blocks of row block `i` hold the data. -/
structure In (D : Data) (i : ℕ) (b0 : Vec Ideal S416x3200 .bf16) (b1 : Vec Ideal S1024x3200 .bf16)
    (b2 : Vec Ideal S416x1024 .f32) (b3 : Vec Ideal S1x1024 .f32) (b4 : Vec Ideal S416x1024 .f32) : Prop where
  dz : ∀ (r : Fin 416) (f : Fin 3200), b0 (ix2 r f) = ((D.dz (416 * i + r) f : ℝ) : EReal)
  w : ∀ (c : Fin 1024) (f : Fin 3200), b1 (ix2 c f) = ((D.w c f : ℝ) : EReal)
  h : ∀ (r : Fin 416) (c : Fin 1024), b2 (ix2 r c) = ((D.h (416 * i + r) c : ℝ) : EReal)
  g : ∀ c : Fin 1024, b3 (ix2 0 c) = ((D.g c : ℝ) : EReal)
  dh : ∀ (r : Fin 416) (c : Fin 1024), b4 (ix2 r c) = ((D.dh (416 * i + r) c : ℝ) : EReal)
  eps : Ideal.ofBits .f32 0x3727C5AC#32 = ((D.eps : ℝ) : EReal)

section
variable {D : Data} {i : ℕ} {b0 : Vec Ideal S416x3200 .bf16} {b1 : Vec Ideal S1024x3200 .bf16}
  {b2 : Vec Ideal S416x1024 .f32} {b3 : Vec Ideal S1x1024 .f32} {b4 : Vec Ideal S416x1024 .f32}
  (H : In D i b0 b1 b2 b3 b4)
include H

theorem acc_at (r : Fin 416) (c : Fin 1024) : kAcc b0 b1 (ix2 r c) = ((acc D (416 * i + r) c : ℝ) : EReal) := by
  pointwise [k0_pay4]
  simp only [H.dz, H.w, czero, cmul, csum, cadd, acc, Fin.val_mk, zero_add]

theorem pay5_at (r : Fin 416) : k0_pay5 b2 (ix2 r 0) = ((rr D (416 * i + r) : ℝ) : EReal) := by
  pointwise [k0_pay5]
  simp only [H.h, H.eps, Ff.word_1024, cmul, csum, cadd, cdiv _ _ (by norm_num : (1024 : ℝ) ≠ 0)]
  rw [← ms, crsqrt _ (ms_pos _ _), rr]

theorem pay6_at (r : Fin 416) (c : Fin 1024) : k0_pay6 b2 (ix2 r c) = ((xh D (416 * i + r) c : ℝ) : EReal) := by
  pointwise [k0_pay6]
  simp only [pay5_at H, H.h, cmul, xh]

theorem sc_at (r : Fin 416) (c : Fin 1024) : kSc b0 b1 b3 (ix2 r c) = ((acc D (416 * i + r) c * D.g c : ℝ) : EReal) := by
  have e := acc_at H r c
  pointwise [k0_pay7]
  rw [H.g]
  exact (congrArg (fun x : EReal => x * ((D.g c : ℝ) : EReal)) e).trans (cmul _ _)

theorem al_at (r : Fin 416) (c : Fin 1024) :
    kAl b0 b1 b2 b3 (ix2 r c) = ((xh D (416 * i + r) c * proj D (416 * i + r) : ℝ) : EReal) := by
  have e := fun k => sc_at H r k
  pointwise [k0_pay8]
  simp only [pay6_at H, e, Ff.word_1024, cmul, csum, cdiv _ _ (by norm_num : (1024 : ℝ) ≠ 0)]
  rfl

theorem part_at (c : Fin 1024) : k0_pay2 (kAcc b0 b1) (k0_pay6 b2) (ix2 0 c) = ((dgB D i c : ℝ) : EReal) := by
  have e := fun r => acc_at H r c
  pointwise [k0_pay2]
  simp only [pay6_at H, e, cmul, csum, dgB]

theorem sum_at {p : Vec Ideal S1x1024 .f32} (hp : ∀ c : Fin 1024, p (ix2 0 c) = ((dgN D i c : ℝ) : EReal)) (c : Fin 1024) :
    k0_pay3 (kAcc b0 b1) (k0_pay6 b2) p (ix2 0 c) = ((dgN D (i + 1) c : ℝ) : EReal) := by
  have e := part_at H c
  pointwise [k0_pay3]
  rw [e, hp, cadd, dgN, dgN, Finset.sum_range_succ]

theorem res_at (hi : i < 10) (r : Fin 416) (c : Fin 1024) :
    k0_pay1 (BitVec.ofNat 32 i) (k0_pay5 b2) (kSc b0 b1 b3) (kAl b0 b1 b2 b3) b4 (ix2 r c)
      = ((out D (416 * i + r) c : ℝ) : EReal) := by
  have e : BitVec.ofNat 32 i * 416#32 + BitVec.ofNat 32 (r : ℕ) = BitVec.ofNat 32 (416 * i + r) := by
    apply BitVec.eq_of_toNat_eq
    simp only [BitVec.toNat_add, BitVec.toNat_mul, BitVec.toNat_ofNat]
    omega
  have e1 := sc_at H r c
  have e2 := al_at H r c
  pointwise [k0_pay1]
  simp only [pay5_at H, e1, e2, H.dh, cmul, cadd, csub, Ff.word_0]
  rw [show IntOp.addi (Scalar.muli (BitVec.ofNat 32 i) 416#32) (BitVec.ofNat 32 (r : ℕ)) = BitVec.ofNat 32 (416 * i + r) from e]
  refine (Ff.select_48 _ (by omega) _).trans ?_
  rfl
end

end Cert.Proof.Dn

end
-- ==== Proof.DnGrid.lean ====
/- The projection's backward pass to its input over its grid: the running sum after each point, and what the grid leaves. -/
module

public import proofs.«01_k».proof.Proof.DnPoint

@[expose] public section

set_option maxRecDepth 16384

noncomputable section

namespace Cert.Proof.Dn

open Idealize.ShloMosaic Idealize.SL.Sem Cert.Kernel9Ideal Cert.Kernel9Ideal.Gen

theorem row_lt (t : Fin cfg0.N) (r : Fin 416) : 416 * t.val + (r : ℕ) < 4160 := by have := lt10 t; omega

theorem wi0 : ∀ t : Fin cfg0.N, win0_0.index t 0 = t.val ∧ win0_0.index t 1 = 0 :=
  (by decide +kernel : ∀ t : Fin grid0.N, win0_0.index t 0 = t.val ∧ win0_0.index t 1 = 0)
theorem wi1 : ∀ t : Fin cfg0.N, win0_1.index t 0 = 0 ∧ win0_1.index t 1 = 0 :=
  (by decide +kernel : ∀ t : Fin grid0.N, win0_1.index t 0 = 0 ∧ win0_1.index t 1 = 0)
theorem wi2 : ∀ t : Fin cfg0.N, win0_2.index t 0 = t.val ∧ win0_2.index t 1 = 0 :=
  (by decide +kernel : ∀ t : Fin grid0.N, win0_2.index t 0 = t.val ∧ win0_2.index t 1 = 0)
theorem wi3 : ∀ t : Fin cfg0.N, win0_3.index t 0 = 0 ∧ win0_3.index t 1 = 0 :=
  (by decide +kernel : ∀ t : Fin grid0.N, win0_3.index t 0 = 0 ∧ win0_3.index t 1 = 0)
theorem wi4 : ∀ t : Fin cfg0.N, win0_4.index t 0 = t.val ∧ win0_4.index t 1 = 0 :=
  (by decide +kernel : ∀ t : Fin grid0.N, win0_4.index t 0 = t.val ∧ win0_4.index t 1 = 0)
theorem wi5 : ∀ t : Fin cfg0.N, win0_5.index t 0 = t.val ∧ win0_5.index t 1 = 0 :=
  (by decide +kernel : ∀ t : Fin grid0.N, win0_5.index t 0 = t.val ∧ win0_5.index t 1 = 0)
theorem wi6 : ∀ t : Fin cfg0.N, win0_6.index t 0 = 0 ∧ win0_6.index t 1 = 0 :=
  (by decide +kernel : ∀ t : Fin grid0.N, win0_6.index t 0 = 0 ∧ win0_6.index t 1 = 0)
theorem row_coord : ∀ t : Fin cfg0.N, (grid0.coords t 0).val = t.val :=
  (by decide +kernel : ∀ t : Fin grid0.N, (grid0.coords t 0).val = t.val)

section blocks
variable (m : (ℓ : Loc nD τ sig) → Buf (Elt Ideal) ℓ) (c : Dev nD) (t : Fin cfg0.N)

theorem blk0 (r : Fin 416) (k : Fin 3200) :
    iblk m c 0 t (ix2 r k) = m ((c.tc : Thread nD τ).loc main_arg0) (ix2 (⟨416 * t.val + r, row_lt t r⟩ : Fin 4160) k) := by
  have hi := wi0 t
  unfold iblk
  rw [View.read_apply]
  show V m c main_arg0 _ = m (c.tc.loc main_arg0) _
  unfold V
  congr 1
  funext a
  apply Fin.ext
  match a with
  | ⟨0, _⟩ => show win0_0.index t 0 * 416 + 1 * (r : ℕ) = 416 * t.val + (r : ℕ); rw [hi.1]; omega
  | ⟨1, _⟩ => show win0_0.index t 1 * 3200 + 1 * (k : ℕ) = k; rw [hi.2]; omega

theorem blk1 (r : Fin 1024) (k : Fin 3200) :
    iblk m c 1 t (ix2 r k) = m ((c.tc : Thread nD τ).loc main_arg1) (ix2 r k) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 1024 + 1 * (r : ℕ) = (r : ℕ); rw [hi.1]; omega
  | ⟨1, _⟩ => show win0_1.index t 1 * 3200 + 1 * (k : ℕ) = k; rw [hi.2]; omega

theorem blk2 (r : Fin 416) (k : Fin 1024) :
    iblk m c 2 t (ix2 r k) = m ((c.tc : Thread nD τ).loc main_arg2) (ix2 (⟨416 * t.val + r, row_lt t r⟩ : Fin 4160) k) := by
  have hi := wi2 t
  unfold iblk
  rw [View.read_apply]
  show V m c main_arg2 _ = m (c.tc.loc main_arg2) _
  unfold V
  congr 1
  funext a
  apply Fin.ext
  match a with
  | ⟨0, _⟩ => show win0_2.index t 0 * 416 + 1 * (r : ℕ) = 416 * t.val + (r : ℕ); rw [hi.1]; omega
  | ⟨1, _⟩ => show win0_2.index t 1 * 1024 + 1 * (k : ℕ) = k; rw [hi.2]; omega

theorem blk3 (r : Fin 1) (k : Fin 1024) :
    iblk m c 3 t (ix2 r k) = m ((c.tc : Thread nD τ).loc main_arg3) (ix2 r k) := by
  have hi := wi3 t
  unfold iblk
  rw [View.read_apply]
  show V m c main_arg3 _ = m (c.tc.loc main_arg3) _
  unfold V
  congr 1
  funext a
  apply Fin.ext
  match a with
  | ⟨0, _⟩ => show win0_3.index t 0 * 1 + 1 * (r : ℕ) = (r : ℕ); rw [hi.1]; omega
  | ⟨1, _⟩ => show win0_3.index t 1 * 1024 + 1 * (k : ℕ) = k; rw [hi.2]; omega

theorem blk4 (r : Fin 416) (k : Fin 1024) :
    iblk m c 4 t (ix2 r k) = m ((c.tc : Thread nD τ).loc main_arg4) (ix2 (⟨416 * t.val + r, row_lt t r⟩ : Fin 4160) k) := by
  have hi := wi4 t
  unfold iblk
  rw [View.read_apply]
  show V m c main_arg4 _ = m (c.tc.loc main_arg4) _
  unfold V
  congr 1
  funext a
  apply Fin.ext
  match a with
  | ⟨0, _⟩ => show win0_4.index t 0 * 416 + 1 * (r : ℕ) = 416 * t.val + (r : ℕ); rw [hi.1]; omega
  | ⟨1, _⟩ => show win0_4.index t 1 * 1024 + 1 * (k : ℕ) = k; rw [hi.2]; omega
end blocks

theorem emb5 (t : Fin cfg0.N) (r : Fin 416) (k : Fin 1024) : ((cfg0.win 5).blk t).view.emb (ix2 r k)
    = (ix2 (⟨416 * t.val + r, row_lt t r⟩ : Fin 4160) k : S4160x1024.Idx) := by
  have hi := wi5 t
  funext a
  apply Fin.ext
  match a with
  | ⟨0, _⟩ => show win0_5.index t 0 * 416 + 1 * (r : ℕ) = 416 * t.val + (r : ℕ); rw [hi.1]; omega
  | ⟨1, _⟩ => show win0_5.index t 1 * 1024 + 1 * (k : ℕ) = k; rw [hi.2]; omega

theorem emb6 (t : Fin cfg0.N) (k : Fin 1024) : ((cfg0.win 6).blk t).view.emb (ix2 (0 : Fin 1) k)
    = (ix2 (0 : Fin 1) k : S1x1024.Idx) := by
  have hi := wi6 t
  funext a
  apply Fin.ext
  match a with
  | ⟨0, _⟩ => show win0_6.index t 0 * 1 + 1 * 0 = 0; rw [hi.1]
  | ⟨1, _⟩ => show win0_6.index t 1 * 1024 + 1 * (k : ℕ) = k; rw [hi.2]; omega

section run
variable {m : (ℓ : Loc nD τ sig) → Buf (Elt Ideal) ℓ} {c : Dev nD} {D : Data}
  (H : Args D (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)))
include H

/-- The blocks a point reads hold the data. -/
theorem inAt (t : Fin cfg0.N) : In D t.val (iblk m c 0 t) (iblk m c 1 t) (iblk m c 2 t) (iblk m c 3 t) (iblk m c 4 t) where
  dz := fun r f => (blk0 m c t r f).trans (H.dz _ f)
  w := fun k f => (blk1 m c t k f).trans (H.w k f)
  h := fun r k => (blk2 m c t r k).trans (H.h _ k)
  g := fun k => (blk3 m c t 0 k).trans (H.g k)
  dh := fun r k => (blk4 m c t r k).trans (H.dh _ k)
  eps := H.eps

/-- The running sum over the row blocks. -/
theorem dg_run (n : ℕ) : ∀ (hn : n < cfg0.N) (k : Fin 1024),
    (outsAt0 m c n hn).2 (ix2 (0 : Fin 1) k) = ((dgN D (n + 1) k : ℝ) : EReal) := by
  induction n with
  | zero =>
    intro hn k
    have e := dg_A m c ⟨0, hn⟩ rfl
    dsimp only at e
    rw [e]
    refine (part_at (inAt H ⟨0, hn⟩) k).trans ?_
    rw [dgN, Finset.sum_range_one]
  | succ n ih =>
    intro hn k
    have e := dg_B m c ⟨n + 1, hn⟩ (Nat.succ_ne_zero n)
    dsimp only at e
    rw [e]
    exact sum_at (inAt H ⟨n + 1, hn⟩) (ih (Nat.lt_of_succ_lt hn)) k

theorem out_at (t : Fin cfg0.N) (r : Fin 416) (k : Fin 1024) :
    (outsAt0 m c t.val t.isLt).1 (ix2 r k) = ((out D (416 * t.val + r) k : ℝ) : EReal) := by
  have e : (outsAt0 m c t.val t.isLt).1 = k0_pay1 (BitVec.ofNat 32 (grid0.coords t 0).val) (k0_pay5 (iblk m c 2 t))
      (kSc (iblk m c 0 t) (iblk m c 1 t) (iblk m c 3 t))
      (kAl (iblk m c 0 t) (iblk m c 1 t) (iblk m c 2 t) (iblk m c 3 t)) (iblk m c 4 t) := by
    by_cases h : t.val = 0
    · exact out_A m c t h
    · exact out_B m c t h
  rw [e, row_coord t]
  exact res_at (inAt H t) (lt10 t) r k

theorem flushed5_eq (t : Fin cfg0.N) (hf : (cfg0.win 5).flush t = true) :
    (dats m 0 c).flushed 5 t = ((cfg0.win 5).blk t).view.read (Elt Ideal) (G0 D) := by
  rw [Value.flushed5]
  funext y
  obtain ⟨r, k, rfl⟩ : ∃ (r : Fin 416) (k : Fin 1024), y = ix2 r k := ⟨y 0, y 1, Ff.eta y⟩
  rw [View.read_apply, emb5]
  exact out_at H t r k

theorem flushed6_eq (t : Fin cfg0.N) (hf : (cfg0.win 6).flush t = true) :
    (dats m 0 c).flushed 6 t = ((cfg0.win 6).blk t).view.read (Elt Ideal) (G1 D) := by
  have h := (flush0_6 t).mp hf
  have hl := lt10 t
  rw [Value.flushed6]
  funext y
  obtain ⟨r, k, rfl⟩ : ∃ (r : Fin 1) (k : Fin 1024), y = ix2 r k := ⟨y 0, y 1, Ff.eta y⟩
  obtain rfl : r = 0 := Subsingleton.elim _ _
  rw [View.read_apply, emb6]
  refine (dg_run H t.val t.isLt k).trans ?_
  rw [show t.val + 1 = 10 by omega]
  rfl

theorem final5 : (dats m 0 c).arrAt 5 cfg0.N = G0 D :=
  (dats m 0 c).arrAt_eq_of_cover 5 _ (flushed5_eq H) fun y => by
    have h0 : (y 0 : ℕ) < 4160 := (y 0).isLt
    have hN : (y 0 : ℕ) / 416 < cfg0.N := by show _ < 10; omega
    refine ⟨⟨(y 0 : ℕ) / 416, hN⟩, flush0_5 _, ?_⟩
    have h := ((cfg0.win 5).blk (⟨(y 0 : ℕ) / 416, hN⟩ : Fin cfg0.N)).view.emb_mem_set
      (ix2 (⟨(y 0 : ℕ) % 416, Nat.mod_lt _ (by decide)⟩ : Fin 416) (⟨y 1, (y 1).isLt⟩ : Fin 1024))
    rw [emb5] at h
    refine Eq.mp (congrArg (· ∈ _) ?_) h
    funext a
    apply Fin.ext
    match a with
    | ⟨0, _⟩ => show 416 * ((y 0 : ℕ) / 416) + (y 0 : ℕ) % 416 = y 0; omega
    | ⟨1, _⟩ => rfl

theorem final6 : (dats m 0 c).arrAt 6 cfg0.N = G1 D :=
  (dats m 0 c).arrAt_eq_of_cover 6 _ (flushed6_eq H) fun y => by
    have hN : 9 < cfg0.N := by show _ < 10; omega
    refine ⟨⟨9, hN⟩, (flush0_6 _).mpr rfl, ?_⟩
    have h := ((cfg0.win 6).blk (⟨9, hN⟩ : Fin cfg0.N)).view.emb_mem_set (ix2 (0 : Fin 1) (⟨y 1, (y 1).isLt⟩ : Fin 1024))
    rw [emb6] at h
    refine Eq.mp (congrArg (· ∈ _) ?_) h
    funext a
    match a with
    | ⟨0, _⟩ => exact Subsingleton.elim (α := Fin 1) _ _
    | ⟨1, _⟩ => rfl

end run

end Cert.Proof.Dn

end
-- ==== Proof.DnRef.lean ====
/- The reference's backward pass of the normalised projection at an index: each value is the real number of the specification. -/
module

public import proofs.«01_k».proof.Proof.DnSpec
public import proofs.«01_k».proof.Proof.FfRef
public import proofs.«01_k».proof.Proof.Gen.Reference9Ideal.Run

@[expose] public section

set_option maxRecDepth 16384

noncomputable section

namespace Cert.Proof.Dn

open Idealize.ShloMosaic Cert.Reference9Ideal Cert.Reference9Ideal.Gen Cert.Proof.Gla

/-- The gradient of the scaled normalised input. -/
def rAcc (a0 : FVec Ideal S4160x3200 .bf16) (a1 : FVec Ideal S1024x3200 .bf16) : FVec Ideal S4160x1024 .f32 :=
  Host.dotGeneral dot_S4160x3200_S1024x3200_S4160x1024_1_1_0_0_n_n none (extf .f32 a0 bitsLt_bf16_f32)
    (extf .f32 a1 bitsLt_bf16_f32)

/-- The mean square of each row. -/
def rMs (a2 : FVec Ideal S4160x1024 .f32) : FVec Ideal S4160x1 .f32 :=
  addf (Host.divf (broadcastInDim S4160x1 ![0] bcast_S4160_S4160x1_0 (Host.reduceAdd (mulf a2 a2) (constant S_ .f32
    0x00000000#32) reducesTo_S4160x1024_S4160_d1 h_S_)) (broadcastInDim S4160x1 ![] bcast_S_S4160x1 (constant S_ .f32
    0x44800000#32))) (broadcastInDim S4160x1 ![] bcast_S_S4160x1 (constant S_ .f32 0x3727C5AC#32))

/-- The gradient through the mean square, of half of each element. -/
def rTan (a0 : FVec Ideal S4160x3200 .bf16) (a1 : FVec Ideal S1024x3200 .bf16) (a2 : FVec Ideal S4160x1024 .f32)
    (a3 : FVec Ideal S1x1024 .f32) : FVec Ideal S4160 .f32 :=
  Host.reduceAdd (Host.divf (mulf (shapeCast _ (Host.reduceAdd (mulf a2 (mulf (rAcc a0 a1) (broadcastInDim
    S4160x1024 ![0, 1] bcast_S1x1024_S4160x1024_0_1 a3))) (constant S_ .f32 0x00000000#32)
    reducesTo_S4160x1024_S4160_d1 h_S_) shapeCasts_S4160_S4160x1) (mulf (broadcastInDim S4160x1 ![] bcast_S_S4160x1
    (constant S_ .f32 0xBF000000#32)) (Host.divf (Host.rsqrt (rMs a2)) (rMs a2)))) (broadcastInDim S4160x1 ![]
    bcast_S_S4160x1 (constant S_ .f32 0x44800000#32))) (constant S_ .f32 0x00000000#32) reducesTo_S4160x1_S4160_d1 h_S_

/-- The gradient of the input. -/
def rOut (a0 : FVec Ideal S4160x3200 .bf16) (a1 : FVec Ideal S1024x3200 .bf16) (a2 : FVec Ideal S4160x1024 .f32)
    (a3 : FVec Ideal S1x1024 .f32) (a4 : FVec Ideal S4160x1024 .f32) : FVec Ideal S4160x1024 .f32 :=
  select (broadcastInDim S4160x1024 ![0, 1] bcast_S4160x1_S4160x1024_0_1 (broadcastInDim S4160x1 ![0]
    bcast_S4160_S4160x1_0 (cmpi .sge (iotaInDim S4160 32 0) (broadcastInDim S4160 ![] bcast_S_S4160 (constantI S_ 32
    48#32))))) (addf a4 (addf (addf (mulf (mulf (rAcc a0 a1) (broadcastInDim S4160x1024 ![0, 1]
    bcast_S1x1024_S4160x1024_0_1 a3)) (broadcastInDim S4160x1024 ![0, 1] bcast_S4160x1_S4160x1024_0_1 (Host.rsqrt (rMs
    a2)))) (mulf a2 (broadcastInDim S4160x1024 ![0] bcast_S4160_S4160x1024_0 (rTan a0 a1 a2 a3)))) (mulf
    (broadcastInDim S4160x1024 ![0] bcast_S4160_S4160x1024_0 (rTan a0 a1 a2 a3)) a2))) (broadcastInDim S4160x1024
    ![] bcast_S_S4160x1024 (id (constant S_ .f32 0x00000000#32)))

/-- The gradient of the gain. -/
def rDg (a0 : FVec Ideal S4160x3200 .bf16) (a1 : FVec Ideal S1024x3200 .bf16) (a2 : FVec Ideal S4160x1024 .f32) :
    FVec Ideal S1x1024 .f32 :=
  shapeCast _ (Host.reduceAdd (mulf (mulf a2 (broadcastInDim S4160x1024 ![0, 1] bcast_S4160x1_S4160x1024_0_1
    (Host.rsqrt (rMs a2)))) (rAcc a0 a1)) (constant S_ .f32 0x00000000#32) reducesTo_S4160x1024_S1024_d0 h_S_)
    shapeCasts_S1024_S1x1024

section
variable {D : Data} {a0 : FVec Ideal S4160x3200 .bf16} {a1 : FVec Ideal S1024x3200 .bf16}
  {a2 : FVec Ideal S4160x1024 .f32} {a3 : FVec Ideal S1x1024 .f32} {a4 : FVec Ideal S4160x1024 .f32}
  (H : Args D a0 a1 a2 a3 a4)
include H

theorem rAcc_at (r : Fin 4160) (c : Fin 1024) : rAcc a0 a1 (ix2 r c) = ((acc D r c : ℝ) : EReal) := by
  pointwise [rAcc]
  simp only [H.dz, H.w, cmul, csum, acc_eq]

theorem rMs_at (r : Fin 4160) : rMs a2 (ix2 r 0) = ((ms D r : ℝ) : EReal) := by
  pointwise [rMs]
  simp only [H.h, H.eps, Ff.word_1024, cmul, csum, cadd, cdiv _ _ (by norm_num : (1024 : ℝ) ≠ 0), ms]

theorem rTan_at (r : Fin 4160) : rTan a0 a1 a2 a3 (ix1 r)
    = (((∑ c : Fin 1024, D.h r c * (acc D r c * D.g c)) * (-(1 / 2) * (rr D r / ms D r)) / 1024 : ℝ) : EReal) := by
  pointwise [rTan]
  simp only [Finset.univ_unique, Fin.default_eq_zero, Finset.sum_singleton]
  simp only [rMs_at H, rAcc_at H, H.h, H.g, crsqrt _ (ms_pos _ _), cdiv _ _ (ms_pos _ _).ne', word_neg_half, Ff.word_1024, cmul,
    csum, cdiv _ _ (by norm_num : (1024 : ℝ) ≠ 0)]
  rfl

theorem rOut_at (r : Fin 4160) (c : Fin 1024) : rOut a0 a1 a2 a3 a4 (ix2 r c) = ((out D r c : ℝ) : EReal) := by
  pointwise [rOut]
  simp only [rMs_at H, rAcc_at H, rTan_at H, H.dh, H.h, H.g, crsqrt _ (ms_pos _ _), cmul, cadd]
  rw [show id (constant (F := Ideal) S_ FTy.f32 0#32) ix0 = (0 : EReal) from Ff.word_0]
  refine (Ff.select_48 _ r.isLt _).trans ?_
  rw [out]
  by_cases hr : 48 ≤ (r : ℕ)
  · rw [if_pos hr, if_pos hr, ← rr]
    have e := rr_sq D r
    have e2 : proj D r = (∑ c : Fin 1024, D.h r c * (acc D r c * D.g c)) * rr D r / 1024 := by
      rw [proj, Finset.sum_mul]
      congr 2
      funext c
      rw [xh]; ring
    rw [e2, xh, div_eq_mul_one_div (rr D r), ← e]
    congr 1; ring
  · rw [if_neg hr, if_neg hr]

theorem rDg_at (c : Fin 1024) : rDg a0 a1 a2 (ix2 0 c) = ((dg D c : ℝ) : EReal) := by
  pointwise [rDg]
  simp only [rMs_at H, rAcc_at H, H.h, crsqrt _ (ms_pos _ _), cmul, csum, dg_eq, xh, rr]
  congr 1
  refine Finset.sum_congr rfl fun r _ => ?_
  ring

omit H in
/-- The reference's first result, in these terms. -/
theorem res_out (m : (ℓ : Loc nD τ sig) → Buf (Elt Ideal) ℓ) (c : Dev nD) :
    Value.res_main_v43 m c = rOut (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := rfl

theorem ref_out : rOut a0 a1 a2 a3 a4 = G0 D := by
  funext y
  obtain ⟨r, k, rfl⟩ : ∃ (r : Fin 4160) (k : Fin 1024), y = ix2 r k := ⟨y 0, y 1, Ff.eta y⟩
  exact rOut_at H r k

theorem ref_dg : rDg a0 a1 a2 = G1 D := by
  funext y
  obtain ⟨r, k, rfl⟩ : ∃ (r : Fin 1) (k : Fin 1024), y = ix2 r k := ⟨y 0, y 1, Ff.eta y⟩
  obtain rfl : r = 0 := Subsingleton.elim _ _
  exact rDg_at H k

end

end Cert.Proof.Dn

end
-- ==== Proof.NGla.lean ====
/- The GLA layer's normalisation and input projection: what a grid point leaves, what the grid leaves, and the reference at the same index. -/
module

public import proofs.«01_k».proof.Proof.Gen.Kernel10Ideal.Value
public import proofs.«01_k».proof.Proof.Gen.Reference10Ideal.Run
public import proofs.«01_k».proof.Proof.KerFacts

@[expose] public section

set_option maxRecDepth 16384

noncomputable section

namespace Cert.Proof.Ng

open Idealize.ShloMosaic Idealize.SL.Sem Cert.Kernel10Ideal Cert.Kernel10Ideal.Gen

theorem z2 : (![0, 0] : Fin 2 → ℕ) = fun _ => 0 := by
  funext a
  match a with
  | ⟨0, _⟩ => rfl
  | ⟨1, _⟩ => rfl

theorem eta {A B : ℕ} (y : (⟨2, ![A, B]⟩ : Shape).Idx) : y = ix2 (n0 := A) (n1 := B) (y 0) (y 1) := by
  funext a
  match a with
  | ⟨0, _⟩ => rfl
  | ⟨1, _⟩ => rfl

/-- The normalised and scaled input at a row and a column. -/
def nrm (h : S4160x1024.Idx → EReal) (g : S1x1024.Idx → EReal) (r : Fin 4160) (k : Fin 1024) : EReal :=
  h (ix2 r k) * Ideal.rsqrt (Ideal.div (∑ x : Fin 1024, h (ix2 r x) * h (ix2 r x)) (Ideal.ofBits FTy.f32 0x44800000#32)
    + Ideal.ofBits FTy.f32 0x3727C5AC#32) * g (ix2 0 k)

/-- The normalised input. -/
def norm (h : S4160x1024.Idx → EReal) (g : S1x1024.Idx → EReal) : S4160x1024.Idx → EReal := fun y =>
  nrm h g (⟨y 0, (y 0).isLt⟩ : Fin 4160) (⟨y 1, (y 1).isLt⟩ : Fin 1024)

/-- The projection of the normalised input. -/
def proj (h : S4160x1024.Idx → EReal) (g : S1x1024.Idx → EReal) (w : S1024x3200.Idx → EReal) : S4160x3200.Idx → EReal := fun y =>
  ∑ k : Fin 1024, nrm h g (⟨y 0, (y 0).isLt⟩ : Fin 4160) k * w (ix2 k (⟨y 1, (y 1).isLt⟩ : Fin 3200))

theorem cut_at (m : (ℓ : Loc nD τ sig) → Buf (Elt Ideal) ℓ) (c : Dev nD) (t : Fin cfg0.N) :
    (outsAt0 m c t).1 = View.canon [⟨Rect.unit (s := S1040x3200) ![0, 2560] S1040x640.size inb_S1040x3200_S1040x640_0_2560,
        k0_pay4 (iblk m c 0 t) (iblk m c 1 t) (View.ld (iblk m c 2 t) (Rect.unit (s := S1024x3200) ![0, 2560] S1024x640.size inb_S1024x3200_S1024x640_0_2560))⟩,
      ⟨Rect.unit (s := S1040x3200) ![0, 1280] S1040x1280.size inb_S1040x3200_S1040x1280_0_1280,
        k0_pay3 (iblk m c 0 t) (iblk m c 1 t) (View.ld (iblk m c 2 t) (Rect.unit (s := S1024x3200) ![0, 1280] S1024x1280.size inb_S1024x3200_S1024x1280_0_1280))⟩,
      ⟨Rect.unit (s := S1040x3200) ![0, 0] S1040x1280.size inb_S1040x3200_S1040x1280_0_0,
        k0_pay2 (iblk m c 0 t) (iblk m c 1 t) (View.ld (iblk m c 2 t) (Rect.unit (s := S1024x3200) ![0, 0] S1024x1280.size inb_S1024x3200_S1024x1280_0_0))⟩] := by
  unfold outsAt0
  dsimp only
  unfold out0_A_3
  rw [View.read_writes_junk_eq_canon]
  unfold kernelRun0_A
  dsimp only
  repeat rw [View.readAt_eq_ld]
  rw [(hs0_0 t).read_unread, (hs0_1 t).read_unread, (hs0_2 t).read_unread]
  repeat rw [View.ld_unit_zero z2]
  rfl

theorem norm_at (m : (ℓ : Loc nD τ sig) → Buf (Elt Ideal) ℓ) (c : Dev nD) (t : Fin cfg0.N) :
    (outsAt0 m c t).2 = k0_pay1 (iblk m c 0 t) (iblk m c 1 t) := by
  unfold outsAt0
  dsimp only
  unfold out0_A_4
  rw [View.read_writes_junk_eq_canon]
  unfold kernelRun0_A
  dsimp only
  rw [View.canon_unit_zero z2]
  repeat rw [View.readAt_eq_ld]
  rw [(hs0_0 t).read_unread, (hs0_1 t).read_unread]
  repeat rw [View.ld_unit_zero z2]

variable {m : (ℓ : Loc nD τ sig) → Buf (Elt Ideal) ℓ} {c : Dev nD}

theorem lt4 (t : Fin cfg0.N) : t.val < 4 := t.isLt
theorem row_lt (t : Fin cfg0.N) (r : Fin 1040) : 1040 * t.val + (r : ℕ) < 4160 := by have := lt4 t; omega

theorem wi0 : ∀ t : Fin cfg0.N, win0_0.index t 0 = t.val ∧ win0_0.index t 1 = 0 :=
  (by decide +kernel : ∀ t : Fin grid0.N, win0_0.index t 0 = t.val ∧ win0_0.index t 1 = 0)
theorem wi1 : ∀ t : Fin cfg0.N, win0_1.index t 0 = 0 ∧ win0_1.index t 1 = 0 :=
  (by decide +kernel : ∀ t : Fin grid0.N, win0_1.index t 0 = 0 ∧ win0_1.index t 1 = 0)
theorem wi2 : ∀ t : Fin cfg0.N, win0_2.index t 0 = 0 ∧ win0_2.index t 1 = 0 :=
  (by decide +kernel : ∀ t : Fin grid0.N, win0_2.index t 0 = 0 ∧ win0_2.index t 1 = 0)
theorem wi3 : ∀ t : Fin cfg0.N, win0_3.index t 0 = t.val ∧ win0_3.index t 1 = 0 :=
  (by decide +kernel : ∀ t : Fin grid0.N, win0_3.index t 0 = t.val ∧ win0_3.index t 1 = 0)
theorem wi4 : ∀ t : Fin cfg0.N, win0_4.index t 0 = t.val ∧ win0_4.index t 1 = 0 :=
  (by decide +kernel : ∀ t : Fin grid0.N, win0_4.index t 0 = t.val ∧ win0_4.index t 1 = 0)

theorem blk0 (t : Fin cfg0.N) (r : Fin 1040) (k : Fin 1024) :
    iblk m c 0 t (ix2 r k) = m ((c.tc : Thread nD τ).loc main_arg0) (ix2 (⟨1040 * t.val + r, row_lt t r⟩ : Fin 4160) k) := by
  have hi := wi0 t
  unfold iblk
  rw [View.read_apply]
  show V m c main_arg0 _ = m (c.tc.loc main_arg0) _
  unfold V
  congr 1
  funext a
  apply Fin.ext
  match a with
  | ⟨0, _⟩ => show win0_0.index t 0 * 1040 + 1 * (r : ℕ) = 1040 * t.val + (r : ℕ); rw [hi.1]; omega
  | ⟨1, _⟩ => show win0_0.index t 1 * 1024 + 1 * (k : ℕ) = k; rw [hi.2]; omega

theorem blk1 (t : Fin cfg0.N) (r : Fin 1) (k : Fin 1024) :
    iblk m c 1 t (ix2 r k) = m ((c.tc : Thread nD τ).loc main_arg1) (ix2 r k) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 1 + 1 * (r : ℕ) = (r : ℕ); rw [hi.1]; omega
  | ⟨1, _⟩ => show win0_1.index t 1 * 1024 + 1 * (k : ℕ) = k; rw [hi.2]; omega

theorem blk2 (t : Fin cfg0.N) (r : Fin 1024) (k : Fin 3200) :
    iblk m c 2 t (ix2 r k) = m ((c.tc : Thread nD τ).loc main_arg2) (ix2 r k) := by
  have hi := wi2 t
  unfold iblk
  rw [View.read_apply]
  show V m c main_arg2 _ = m (c.tc.loc main_arg2) _
  unfold V
  congr 1
  funext a
  apply Fin.ext
  match a with
  | ⟨0, _⟩ => show win0_2.index t 0 * 1024 + 1 * (r : ℕ) = (r : ℕ); rw [hi.1]; omega
  | ⟨1, _⟩ => show win0_2.index t 1 * 3200 + 1 * (k : ℕ) = k; rw [hi.2]; omega

theorem emb3 (t : Fin cfg0.N) (r : Fin 1040) (k : Fin 3200) : ((cfg0.win 3).blk t).view.emb (ix2 r k)
    = (ix2 (⟨1040 * t.val + r, row_lt t r⟩ : Fin 4160) k : S4160x3200.Idx) := by
  have hi := wi3 t
  funext a
  apply Fin.ext
  match a with
  | ⟨0, _⟩ => show win0_3.index t 0 * 1040 + 1 * (r : ℕ) = 1040 * t.val + (r : ℕ); rw [hi.1]; omega
  | ⟨1, _⟩ => show win0_3.index t 1 * 3200 + 1 * (k : ℕ) = k; rw [hi.2]; omega

theorem emb4 (t : Fin cfg0.N) (r : Fin 1040) (k : Fin 1024) : ((cfg0.win 4).blk t).view.emb (ix2 r k)
    = (ix2 (⟨1040 * t.val + r, row_lt t r⟩ : Fin 4160) k : S4160x1024.Idx) := by
  have hi := wi4 t
  funext a
  apply Fin.ext
  match a with
  | ⟨0, _⟩ => show win0_4.index t 0 * 1040 + 1 * (r : ℕ) = 1040 * t.val + (r : ℕ); rw [hi.1]; omega
  | ⟨1, _⟩ => show win0_4.index t 1 * 1024 + 1 * (k : ℕ) = k; rw [hi.2]; omega

theorem pay1_at (t : Fin cfg0.N) (r : Fin 1040) (k : Fin 1024) : k0_pay1 (iblk m c 0 t) (iblk m c 1 t) (ix2 r k)
    = nrm (m ((c.tc : Thread nD τ).loc main_arg0)) (m ((c.tc : Thread nD τ).loc main_arg1))
      (⟨1040 * t.val + r, row_lt t r⟩ : Fin 4160) k := by
  pointwise [k0_pay1]
  simp only [blk0, blk1]
  rfl

theorem pay2_at (t : Fin cfg0.N) (r : Fin 1040) (q : Fin 1280) (j : Fin 3200) (hj : (j : ℕ) = 0 + q) :
    k0_pay2 (iblk m c 0 t) (iblk m c 1 t) (View.ld (iblk m c 2 t) (Rect.unit (s := S1024x3200) ![0, 0] S1024x1280.size inb_S1024x3200_S1024x1280_0_0)) (ix2 r q)
      = proj (m ((c.tc : Thread nD τ).loc main_arg0)) (m ((c.tc : Thread nD τ).loc main_arg1)) (m ((c.tc : Thread nD τ).loc main_arg2))
        (ix2 (⟨1040 * t.val + r, row_lt t r⟩ : Fin 4160) j) := by
  obtain rfl : j = ⟨q, by clear hj; omega⟩ := Fin.ext (hj.trans (Nat.zero_add _))
  pointwise [k0_pay2]
  refine Finset.sum_congr rfl fun x _ => ?_
  rw [pay1_at]
  exact congrArg (fun a : EReal => nrm (m ((c.tc : Thread nD τ).loc main_arg0)) (m ((c.tc : Thread nD τ).loc main_arg1)) (⟨1040 * t.val + r, row_lt t r⟩ : Fin 4160) x * a) (blk2 t x _)

theorem pay3_at (t : Fin cfg0.N) (r : Fin 1040) (q : Fin 1280) (j : Fin 3200) (hj : (j : ℕ) = 1280 + q) :
    k0_pay3 (iblk m c 0 t) (iblk m c 1 t) (View.ld (iblk m c 2 t) (Rect.unit (s := S1024x3200) ![0, 1280] S1024x1280.size inb_S1024x3200_S1024x1280_0_1280)) (ix2 r q)
      = proj (m ((c.tc : Thread nD τ).loc main_arg0)) (m ((c.tc : Thread nD τ).loc main_arg1)) (m ((c.tc : Thread nD τ).loc main_arg2))
        (ix2 (⟨1040 * t.val + r, row_lt t r⟩ : Fin 4160) j) := by
  obtain rfl : j = ⟨1280 + q, by clear hj; omega⟩ := Fin.ext (hj)
  pointwise [k0_pay3]
  refine Finset.sum_congr rfl fun x _ => ?_
  rw [pay1_at]
  exact congrArg (fun a : EReal => nrm (m ((c.tc : Thread nD τ).loc main_arg0)) (m ((c.tc : Thread nD τ).loc main_arg1)) (⟨1040 * t.val + r, row_lt t r⟩ : Fin 4160) x * a) (blk2 t x _)

theorem pay4_at (t : Fin cfg0.N) (r : Fin 1040) (q : Fin 640) (j : Fin 3200) (hj : (j : ℕ) = 2560 + q) :
    k0_pay4 (iblk m c 0 t) (iblk m c 1 t) (View.ld (iblk m c 2 t) (Rect.unit (s := S1024x3200) ![0, 2560] S1024x640.size inb_S1024x3200_S1024x640_0_2560)) (ix2 r q)
      = proj (m ((c.tc : Thread nD τ).loc main_arg0)) (m ((c.tc : Thread nD τ).loc main_arg1)) (m ((c.tc : Thread nD τ).loc main_arg2))
        (ix2 (⟨1040 * t.val + r, row_lt t r⟩ : Fin 4160) j) := by
  obtain rfl : j = ⟨2560 + q, by clear hj; omega⟩ := Fin.ext (hj)
  pointwise [k0_pay4]
  refine Finset.sum_congr rfl fun x _ => ?_
  rw [pay1_at]
  exact congrArg (fun a : EReal => nrm (m ((c.tc : Thread nD τ).loc main_arg0)) (m ((c.tc : Thread nD τ).loc main_arg1)) (⟨1040 * t.val + r, row_lt t r⟩ : Fin 4160) x * a) (blk2 t x _)

theorem out_at (t : Fin cfg0.N) (r : Fin 1040) (j : Fin 3200) : (outsAt0 m c t).1 (ix2 r j)
    = proj (m ((c.tc : Thread nD τ).loc main_arg0)) (m ((c.tc : Thread nD τ).loc main_arg1)) (m ((c.tc : Thread nD τ).loc main_arg2))
      (ix2 (⟨1040 * t.val + r, row_lt t r⟩ : Fin 4160) j) := by
  rw [cut_at]
  by_cases h3 : 2560 ≤ (j : ℕ)
  · refine (Gla.hit2' (n := 1040) (m := 640) _ _ _ r (⟨(j : ℕ) - 2560, by omega⟩ : Fin 640) r j (Nat.zero_add _).symm
      (by show (j : ℕ) = 2560 + ((j : ℕ) - 2560); omega)).trans ?_
    exact pay4_at t r _ j (by show (j : ℕ) = 2560 + ((j : ℕ) - 2560); omega)
  refine (Gla.miss2 _ _ _ r j (.inr (.inr (.inl (by show (j : ℕ) < 2560; omega))))).trans ?_
  by_cases h2 : 1280 ≤ (j : ℕ)
  · refine (Gla.hit2' (n := 1040) (m := 1280) _ _ _ r (⟨(j : ℕ) - 1280, by omega⟩ : Fin 1280) r j (Nat.zero_add _).symm
      (by show (j : ℕ) = 1280 + ((j : ℕ) - 1280); omega)).trans ?_
    exact pay3_at t r _ j (by show (j : ℕ) = 1280 + ((j : ℕ) - 1280); omega)
  refine (Gla.miss2 _ _ _ r j (.inr (.inr (.inl (by show (j : ℕ) < 1280; omega))))).trans ?_
  refine (Gla.hit2' (n := 1040) (m := 1280) _ _ _ r (⟨(j : ℕ), by omega⟩ : Fin 1280) r j (Nat.zero_add _).symm
    (by show (j : ℕ) = 0 + (j : ℕ); omega)).trans ?_
  exact pay2_at t r _ j (by show (j : ℕ) = 0 + (j : ℕ); omega)

theorem flushed3_eq (t : Fin cfg0.N) (hf : (cfg0.win 3).flush t = true) :
    (dats m 0 c).flushed 3 t = ((cfg0.win 3).blk t).view.read (Elt Ideal) (proj (m ((c.tc : Thread nD τ).loc main_arg0)) (m ((c.tc : Thread nD τ).loc main_arg1)) (m ((c.tc : Thread nD τ).loc main_arg2))) := by
  rw [Value.flushed3]
  funext y
  obtain ⟨r, k, rfl⟩ : ∃ (r : Fin 1040) (k : Fin 3200), y = ix2 r k := ⟨y 0, y 1, eta y⟩
  rw [View.read_apply, emb3]
  exact out_at t r k

theorem flushed4_eq (t : Fin cfg0.N) (hf : (cfg0.win 4).flush t = true) :
    (dats m 0 c).flushed 4 t = ((cfg0.win 4).blk t).view.read (Elt Ideal) (norm (m ((c.tc : Thread nD τ).loc main_arg0)) (m ((c.tc : Thread nD τ).loc main_arg1))) := by
  rw [Value.flushed4, norm_at]
  funext y
  obtain ⟨r, k, rfl⟩ : ∃ (r : Fin 1040) (k : Fin 1024), y = ix2 r k := ⟨y 0, y 1, eta y⟩
  rw [View.read_apply, emb4]
  exact pay1_at t r k

theorem final3 : (dats m 0 c).arrAt 3 cfg0.N = proj (m ((c.tc : Thread nD τ).loc main_arg0)) (m ((c.tc : Thread nD τ).loc main_arg1)) (m ((c.tc : Thread nD τ).loc main_arg2)) :=
  (dats m 0 c).arrAt_eq_of_cover 3 _ flushed3_eq fun y => by
    have h0 : (y 0 : ℕ) < 4160 := (y 0).isLt
    have hN : (y 0 : ℕ) / 1040 < cfg0.N := by show _ < 4; omega
    refine ⟨⟨(y 0 : ℕ) / 1040, hN⟩, flush0_3 _, ?_⟩
    have h := ((cfg0.win 3).blk (⟨(y 0 : ℕ) / 1040, hN⟩ : Fin cfg0.N)).view.emb_mem_set
      (ix2 (⟨(y 0 : ℕ) % 1040, Nat.mod_lt _ (by decide)⟩ : Fin 1040) (⟨y 1, (y 1).isLt⟩ : Fin 3200))
    rw [emb3] at h
    refine Eq.mp (congrArg (· ∈ _) ?_) h
    funext a
    apply Fin.ext
    match a with
    | ⟨0, _⟩ => show 1040 * ((y 0 : ℕ) / 1040) + (y 0 : ℕ) % 1040 = y 0; omega
    | ⟨1, _⟩ => rfl

theorem final4 : (dats m 0 c).arrAt 4 cfg0.N = norm (m ((c.tc : Thread nD τ).loc main_arg0)) (m ((c.tc : Thread nD τ).loc main_arg1)) :=
  (dats m 0 c).arrAt_eq_of_cover 4 _ flushed4_eq fun y => by
    have h0 : (y 0 : ℕ) < 4160 := (y 0).isLt
    have hN : (y 0 : ℕ) / 1040 < cfg0.N := by show _ < 4; omega
    refine ⟨⟨(y 0 : ℕ) / 1040, hN⟩, flush0_4 _, ?_⟩
    have h := ((cfg0.win 4).blk (⟨(y 0 : ℕ) / 1040, hN⟩ : Fin cfg0.N)).view.emb_mem_set
      (ix2 (⟨(y 0 : ℕ) % 1040, Nat.mod_lt _ (by decide)⟩ : Fin 1040) (⟨y 1, (y 1).isLt⟩ : Fin 1024))
    rw [emb4] at h
    refine Eq.mp (congrArg (· ∈ _) ?_) h
    funext a
    apply Fin.ext
    match a with
    | ⟨0, _⟩ => show 1040 * ((y 0 : ℕ) / 1040) + (y 0 : ℕ) % 1040 = y 0; omega
    | ⟨1, _⟩ => rfl

end Cert.Proof.Ng

namespace Cert.Proof.Ng

open Idealize.ShloMosaic Cert.Reference10Ideal Cert.Reference10Ideal.Gen

theorem ref_norm_at (h : FVec Ideal S4160x1024 .f32) (g : FVec Ideal S1x1024 .f32) (r : Fin 4160) (k : Fin 1024) :
    (mulf (mulf h (broadcastInDim S4160x1024 ![0, 1] bcast_S4160x1_S4160x1024_0_1 (Host.rsqrt (addf (Host.divf (broadcastInDim S4160x1 ![0] bcast_S4160_S4160x1_0 (Host.reduceAdd (mulf h h) (constant S_ .f32 0x00000000#32) reducesTo_S4160x1024_S4160_d1 h_S_)) (broadcastInDim S4160x1 ![] bcast_S_S4160x1 (constant S_ .f32 0x44800000#32))) (broadcastInDim S4160x1 ![] bcast_S_S4160x1 (constant S_ .f32 0x3727C5AC#32)))))) (broadcastInDim S4160x1024 ![0, 1] bcast_S1x1024_S4160x1024_0_1 g)) (ix2 r k)
      = nrm h g r k := by
  pointwise []
  rfl

theorem ref_norm (h : FVec Ideal S4160x1024 .f32) (g : FVec Ideal S1x1024 .f32) :
    (truncf .bf16 (mulf (mulf h (broadcastInDim S4160x1024 ![0, 1] bcast_S4160x1_S4160x1024_0_1 (Host.rsqrt (addf (Host.divf (broadcastInDim S4160x1 ![0] bcast_S4160_S4160x1_0 (Host.reduceAdd (mulf h h) (constant S_ .f32 0x00000000#32) reducesTo_S4160x1024_S4160_d1 h_S_)) (broadcastInDim S4160x1 ![] bcast_S_S4160x1 (constant S_ .f32 0x44800000#32))) (broadcastInDim S4160x1 ![] bcast_S_S4160x1 (constant S_ .f32 0x3727C5AC#32)))))) (broadcastInDim S4160x1024 ![0, 1] bcast_S1x1024_S4160x1024_0_1 g)) bitsLt_bf16_f32
      : FVec Ideal S4160x1024 .bf16) = norm h g := by
  funext y
  obtain ⟨r, k, rfl⟩ : ∃ (r : Fin 4160) (k : Fin 1024), y = ix2 r k := ⟨y 0, y 1, eta y⟩
  exact ref_norm_at h g r k

theorem ref_proj (h : FVec Ideal S4160x1024 .f32) (g : FVec Ideal S1x1024 .f32) (w : FVec Ideal S1024x3200 .bf16) :
    (truncf .bf16 (Host.dotGeneral dot_S4160x1024_S1024x3200_S4160x3200_1_0_0_1_n_n none (mulf (mulf h (broadcastInDim S4160x1024 ![0, 1] bcast_S4160x1_S4160x1024_0_1 (Host.rsqrt (addf (Host.divf (broadcastInDim S4160x1 ![0] bcast_S4160_S4160x1_0 (Host.reduceAdd (mulf h h) (constant S_ .f32 0x00000000#32) reducesTo_S4160x1024_S4160_d1 h_S_)) (broadcastInDim S4160x1 ![] bcast_S_S4160x1 (constant S_ .f32 0x44800000#32))) (broadcastInDim S4160x1 ![] bcast_S_S4160x1 (constant S_ .f32 0x3727C5AC#32)))))) (broadcastInDim S4160x1024 ![0, 1] bcast_S1x1024_S4160x1024_0_1 g))
      (extf .f32 w bitsLt_bf16_f32)) bitsLt_bf16_f32 : FVec Ideal S4160x3200 .bf16) = proj h g w := by
  funext y
  obtain ⟨r, j, rfl⟩ : ∃ (r : Fin 4160) (j : Fin 3200), y = ix2 r j := ⟨y 0, y 1, eta y⟩
  pointwise []
  rfl

end Cert.Proof.Ng

end
-- ==== Proof.NCp.lean ====
/- The convolution layer's normalisation and input projection: what a grid point leaves, what the grid leaves, and the reference at the same index. -/
module

public import proofs.«01_k».proof.Proof.Gen.Kernel11Ideal.Value
public import proofs.«01_k».proof.Proof.Gen.Reference11Ideal.Run
public import proofs.«01_k».proof.Proof.KerFacts

@[expose] public section

set_option maxRecDepth 16384

noncomputable section

namespace Cert.Proof.Nc

open Idealize.ShloMosaic Idealize.SL.Sem Cert.Kernel11Ideal Cert.Kernel11Ideal.Gen

theorem z2 : (![0, 0] : Fin 2 → ℕ) = fun _ => 0 := by
  funext a
  match a with
  | ⟨0, _⟩ => rfl
  | ⟨1, _⟩ => rfl

theorem eta {A B : ℕ} (y : (⟨2, ![A, B]⟩ : Shape).Idx) : y = ix2 (n0 := A) (n1 := B) (y 0) (y 1) := by
  funext a
  match a with
  | ⟨0, _⟩ => rfl
  | ⟨1, _⟩ => rfl

/-- The normalised and scaled input at a row and a column. -/
def nrm (h : S4160x1024.Idx → EReal) (g : S1x1024.Idx → EReal) (r : Fin 4160) (k : Fin 1024) : EReal :=
  h (ix2 r k) * Ideal.rsqrt (Ideal.div (∑ x : Fin 1024, h (ix2 r x) * h (ix2 r x)) (Ideal.ofBits FTy.f32 0x44800000#32)
    + Ideal.ofBits FTy.f32 0x3727C5AC#32) * g (ix2 0 k)

/-- The normalised input. -/
def norm (h : S4160x1024.Idx → EReal) (g : S1x1024.Idx → EReal) : S4160x1024.Idx → EReal := fun y =>
  nrm h g (⟨y 0, (y 0).isLt⟩ : Fin 4160) (⟨y 1, (y 1).isLt⟩ : Fin 1024)

/-- The projection of the normalised input. -/
def proj (h : S4160x1024.Idx → EReal) (g : S1x1024.Idx → EReal) (w : S1024x1536.Idx → EReal) : S4160x1536.Idx → EReal := fun y =>
  ∑ k : Fin 1024, nrm h g (⟨y 0, (y 0).isLt⟩ : Fin 4160) k * w (ix2 k (⟨y 1, (y 1).isLt⟩ : Fin 1536))

theorem cut_at (m : (ℓ : Loc nD τ sig) → Buf (Elt Ideal) ℓ) (c : Dev nD) (t : Fin cfg0.N) :
    out0_3 (iblk m c 0 t) (iblk m c 1 t) (iblk m c 2 t) = View.canon [⟨Rect.unit (s := S1040x1536) ![0, 1024] S1040x512.size inb_S1040x1536_S1040x512_0_1024,
        k0_pay4 (iblk m c 0 t) (iblk m c 1 t) (View.ld (iblk m c 2 t) (Rect.unit (s := S1024x1536) ![0, 1024] S1024x512.size inb_S1024x1536_S1024x512_0_1024))⟩,
      ⟨Rect.unit (s := S1040x1536) ![0, 512] S1040x512.size inb_S1040x1536_S1040x512_0_512,
        k0_pay3 (iblk m c 0 t) (iblk m c 1 t) (View.ld (iblk m c 2 t) (Rect.unit (s := S1024x1536) ![0, 512] S1024x512.size inb_S1024x1536_S1024x512_0_512))⟩,
      ⟨Rect.unit (s := S1040x1536) ![0, 0] S1040x512.size inb_S1040x1536_S1040x512_0_0,
        k0_pay2 (iblk m c 0 t) (iblk m c 1 t) (View.ld (iblk m c 2 t) (Rect.unit (s := S1024x1536) ![0, 0] S1024x512.size inb_S1024x1536_S1024x512_0_0))⟩] := by
  unfold out0_3
  repeat rw [View.ld_unit_zero z2]
  rfl

theorem norm_at (m : (ℓ : Loc nD τ sig) → Buf (Elt Ideal) ℓ) (c : Dev nD) (t : Fin cfg0.N) :
    out0_4 (iblk m c 0 t) (iblk m c 1 t) (iblk m c 2 t) = k0_pay1 (iblk m c 0 t) (iblk m c 1 t) := by
  unfold out0_4
  rw [View.canon_unit_zero z2]
  repeat rw [View.ld_unit_zero z2]

variable {m : (ℓ : Loc nD τ sig) → Buf (Elt Ideal) ℓ} {c : Dev nD}

theorem lt4 (t : Fin cfg0.N) : t.val < 4 := t.isLt
theorem row_lt (t : Fin cfg0.N) (r : Fin 1040) : 1040 * t.val + (r : ℕ) < 4160 := by have := lt4 t; omega

theorem wi0 : ∀ t : Fin cfg0.N, win0_0.index t 0 = t.val ∧ win0_0.index t 1 = 0 :=
  (by decide +kernel : ∀ t : Fin grid0.N, win0_0.index t 0 = t.val ∧ win0_0.index t 1 = 0)
theorem wi1 : ∀ t : Fin cfg0.N, win0_1.index t 0 = 0 ∧ win0_1.index t 1 = 0 :=
  (by decide +kernel : ∀ t : Fin grid0.N, win0_1.index t 0 = 0 ∧ win0_1.index t 1 = 0)
theorem wi2 : ∀ t : Fin cfg0.N, win0_2.index t 0 = 0 ∧ win0_2.index t 1 = 0 :=
  (by decide +kernel : ∀ t : Fin grid0.N, win0_2.index t 0 = 0 ∧ win0_2.index t 1 = 0)
theorem wi3 : ∀ t : Fin cfg0.N, win0_3.index t 0 = t.val ∧ win0_3.index t 1 = 0 :=
  (by decide +kernel : ∀ t : Fin grid0.N, win0_3.index t 0 = t.val ∧ win0_3.index t 1 = 0)
theorem wi4 : ∀ t : Fin cfg0.N, win0_4.index t 0 = t.val ∧ win0_4.index t 1 = 0 :=
  (by decide +kernel : ∀ t : Fin grid0.N, win0_4.index t 0 = t.val ∧ win0_4.index t 1 = 0)

theorem blk0 (t : Fin cfg0.N) (r : Fin 1040) (k : Fin 1024) :
    iblk m c 0 t (ix2 r k) = m ((c.tc : Thread nD τ).loc main_arg0) (ix2 (⟨1040 * t.val + r, row_lt t r⟩ : Fin 4160) k) := by
  have hi := wi0 t
  unfold iblk
  rw [View.read_apply]
  show V m c main_arg0 _ = m (c.tc.loc main_arg0) _
  unfold V
  congr 1
  funext a
  apply Fin.ext
  match a with
  | ⟨0, _⟩ => show win0_0.index t 0 * 1040 + 1 * (r : ℕ) = 1040 * t.val + (r : ℕ); rw [hi.1]; omega
  | ⟨1, _⟩ => show win0_0.index t 1 * 1024 + 1 * (k : ℕ) = k; rw [hi.2]; omega

theorem blk1 (t : Fin cfg0.N) (r : Fin 1) (k : Fin 1024) :
    iblk m c 1 t (ix2 r k) = m ((c.tc : Thread nD τ).loc main_arg1) (ix2 r k) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 1 + 1 * (r : ℕ) = (r : ℕ); rw [hi.1]; omega
  | ⟨1, _⟩ => show win0_1.index t 1 * 1024 + 1 * (k : ℕ) = k; rw [hi.2]; omega

theorem blk2 (t : Fin cfg0.N) (r : Fin 1024) (k : Fin 1536) :
    iblk m c 2 t (ix2 r k) = m ((c.tc : Thread nD τ).loc main_arg2) (ix2 r k) := by
  have hi := wi2 t
  unfold iblk
  rw [View.read_apply]
  show V m c main_arg2 _ = m (c.tc.loc main_arg2) _
  unfold V
  congr 1
  funext a
  apply Fin.ext
  match a with
  | ⟨0, _⟩ => show win0_2.index t 0 * 1024 + 1 * (r : ℕ) = (r : ℕ); rw [hi.1]; omega
  | ⟨1, _⟩ => show win0_2.index t 1 * 1536 + 1 * (k : ℕ) = k; rw [hi.2]; omega

theorem emb3 (t : Fin cfg0.N) (r : Fin 1040) (k : Fin 1536) : ((cfg0.win 3).blk t).view.emb (ix2 r k)
    = (ix2 (⟨1040 * t.val + r, row_lt t r⟩ : Fin 4160) k : S4160x1536.Idx) := by
  have hi := wi3 t
  funext a
  apply Fin.ext
  match a with
  | ⟨0, _⟩ => show win0_3.index t 0 * 1040 + 1 * (r : ℕ) = 1040 * t.val + (r : ℕ); rw [hi.1]; omega
  | ⟨1, _⟩ => show win0_3.index t 1 * 1536 + 1 * (k : ℕ) = k; rw [hi.2]; omega

theorem emb4 (t : Fin cfg0.N) (r : Fin 1040) (k : Fin 1024) : ((cfg0.win 4).blk t).view.emb (ix2 r k)
    = (ix2 (⟨1040 * t.val + r, row_lt t r⟩ : Fin 4160) k : S4160x1024.Idx) := by
  have hi := wi4 t
  funext a
  apply Fin.ext
  match a with
  | ⟨0, _⟩ => show win0_4.index t 0 * 1040 + 1 * (r : ℕ) = 1040 * t.val + (r : ℕ); rw [hi.1]; omega
  | ⟨1, _⟩ => show win0_4.index t 1 * 1024 + 1 * (k : ℕ) = k; rw [hi.2]; omega

theorem pay1_at (t : Fin cfg0.N) (r : Fin 1040) (k : Fin 1024) : k0_pay1 (iblk m c 0 t) (iblk m c 1 t) (ix2 r k)
    = nrm (m ((c.tc : Thread nD τ).loc main_arg0)) (m ((c.tc : Thread nD τ).loc main_arg1))
      (⟨1040 * t.val + r, row_lt t r⟩ : Fin 4160) k := by
  pointwise [k0_pay1]
  simp only [blk0, blk1]
  rfl

theorem pay2_at (t : Fin cfg0.N) (r : Fin 1040) (q : Fin 512) (j : Fin 1536) (hj : (j : ℕ) = 0 + q) :
    k0_pay2 (iblk m c 0 t) (iblk m c 1 t) (View.ld (iblk m c 2 t) (Rect.unit (s := S1024x1536) ![0, 0] S1024x512.size inb_S1024x1536_S1024x512_0_0)) (ix2 r q)
      = proj (m ((c.tc : Thread nD τ).loc main_arg0)) (m ((c.tc : Thread nD τ).loc main_arg1)) (m ((c.tc : Thread nD τ).loc main_arg2))
        (ix2 (⟨1040 * t.val + r, row_lt t r⟩ : Fin 4160) j) := by
  obtain rfl : j = ⟨q, by clear hj; omega⟩ := Fin.ext (hj.trans (Nat.zero_add _))
  pointwise [k0_pay2]
  refine Finset.sum_congr rfl fun x _ => ?_
  rw [pay1_at]
  exact congrArg (fun a : EReal => nrm (m ((c.tc : Thread nD τ).loc main_arg0)) (m ((c.tc : Thread nD τ).loc main_arg1)) (⟨1040 * t.val + r, row_lt t r⟩ : Fin 4160) x * a) (blk2 t x _)

theorem pay3_at (t : Fin cfg0.N) (r : Fin 1040) (q : Fin 512) (j : Fin 1536) (hj : (j : ℕ) = 512 + q) :
    k0_pay3 (iblk m c 0 t) (iblk m c 1 t) (View.ld (iblk m c 2 t) (Rect.unit (s := S1024x1536) ![0, 512] S1024x512.size inb_S1024x1536_S1024x512_0_512)) (ix2 r q)
      = proj (m ((c.tc : Thread nD τ).loc main_arg0)) (m ((c.tc : Thread nD τ).loc main_arg1)) (m ((c.tc : Thread nD τ).loc main_arg2))
        (ix2 (⟨1040 * t.val + r, row_lt t r⟩ : Fin 4160) j) := by
  obtain rfl : j = ⟨512 + q, by clear hj; omega⟩ := Fin.ext (hj)
  pointwise [k0_pay3]
  refine Finset.sum_congr rfl fun x _ => ?_
  rw [pay1_at]
  exact congrArg (fun a : EReal => nrm (m ((c.tc : Thread nD τ).loc main_arg0)) (m ((c.tc : Thread nD τ).loc main_arg1)) (⟨1040 * t.val + r, row_lt t r⟩ : Fin 4160) x * a) (blk2 t x _)

theorem pay4_at (t : Fin cfg0.N) (r : Fin 1040) (q : Fin 512) (j : Fin 1536) (hj : (j : ℕ) = 1024 + q) :
    k0_pay4 (iblk m c 0 t) (iblk m c 1 t) (View.ld (iblk m c 2 t) (Rect.unit (s := S1024x1536) ![0, 1024] S1024x512.size inb_S1024x1536_S1024x512_0_1024)) (ix2 r q)
      = proj (m ((c.tc : Thread nD τ).loc main_arg0)) (m ((c.tc : Thread nD τ).loc main_arg1)) (m ((c.tc : Thread nD τ).loc main_arg2))
        (ix2 (⟨1040 * t.val + r, row_lt t r⟩ : Fin 4160) j) := by
  obtain rfl : j = ⟨1024 + q, by clear hj; omega⟩ := Fin.ext (hj)
  pointwise [k0_pay4]
  refine Finset.sum_congr rfl fun x _ => ?_
  rw [pay1_at]
  exact congrArg (fun a : EReal => nrm (m ((c.tc : Thread nD τ).loc main_arg0)) (m ((c.tc : Thread nD τ).loc main_arg1)) (⟨1040 * t.val + r, row_lt t r⟩ : Fin 4160) x * a) (blk2 t x _)

theorem out_at (t : Fin cfg0.N) (r : Fin 1040) (j : Fin 1536) : out0_3 (iblk m c 0 t) (iblk m c 1 t) (iblk m c 2 t) (ix2 r j)
    = proj (m ((c.tc : Thread nD τ).loc main_arg0)) (m ((c.tc : Thread nD τ).loc main_arg1)) (m ((c.tc : Thread nD τ).loc main_arg2))
      (ix2 (⟨1040 * t.val + r, row_lt t r⟩ : Fin 4160) j) := by
  rw [cut_at]
  by_cases h3 : 1024 ≤ (j : ℕ)
  · refine (Gla.hit2' (n := 1040) (m := 512) _ _ _ r (⟨(j : ℕ) - 1024, by omega⟩ : Fin 512) r j (Nat.zero_add _).symm
      (by show (j : ℕ) = 1024 + ((j : ℕ) - 1024); omega)).trans ?_
    exact pay4_at t r _ j (by show (j : ℕ) = 1024 + ((j : ℕ) - 1024); omega)
  refine (Gla.miss2 _ _ _ r j (.inr (.inr (.inl (by show (j : ℕ) < 1024; omega))))).trans ?_
  by_cases h2 : 512 ≤ (j : ℕ)
  · refine (Gla.hit2' (n := 1040) (m := 512) _ _ _ r (⟨(j : ℕ) - 512, by omega⟩ : Fin 512) r j (Nat.zero_add _).symm
      (by show (j : ℕ) = 512 + ((j : ℕ) - 512); omega)).trans ?_
    exact pay3_at t r _ j (by show (j : ℕ) = 512 + ((j : ℕ) - 512); omega)
  refine (Gla.miss2 _ _ _ r j (.inr (.inr (.inl (by show (j : ℕ) < 512; omega))))).trans ?_
  refine (Gla.hit2' (n := 1040) (m := 512) _ _ _ r (⟨(j : ℕ), by omega⟩ : Fin 512) r j (Nat.zero_add _).symm
    (by show (j : ℕ) = 0 + (j : ℕ); omega)).trans ?_
  exact pay2_at t r _ j (by show (j : ℕ) = 0 + (j : ℕ); omega)

theorem flushed3_eq (t : Fin cfg0.N) (hf : (cfg0.win 3).flush t = true) :
    (dats m 0 c).flushed 3 t = ((cfg0.win 3).blk t).view.read (Elt Ideal) (proj (m ((c.tc : Thread nD τ).loc main_arg0)) (m ((c.tc : Thread nD τ).loc main_arg1)) (m ((c.tc : Thread nD τ).loc main_arg2))) := by
  rw [Value.flushed3]
  funext y
  obtain ⟨r, k, rfl⟩ : ∃ (r : Fin 1040) (k : Fin 1536), y = ix2 r k := ⟨y 0, y 1, eta y⟩
  rw [View.read_apply, emb3]
  exact out_at t r k

theorem flushed4_eq (t : Fin cfg0.N) (hf : (cfg0.win 4).flush t = true) :
    (dats m 0 c).flushed 4 t = ((cfg0.win 4).blk t).view.read (Elt Ideal) (norm (m ((c.tc : Thread nD τ).loc main_arg0)) (m ((c.tc : Thread nD τ).loc main_arg1))) := by
  rw [Value.flushed4, norm_at]
  funext y
  obtain ⟨r, k, rfl⟩ : ∃ (r : Fin 1040) (k : Fin 1024), y = ix2 r k := ⟨y 0, y 1, eta y⟩
  rw [View.read_apply, emb4]
  exact pay1_at t r k

theorem final3 : (dats m 0 c).arrAt 3 cfg0.N = proj (m ((c.tc : Thread nD τ).loc main_arg0)) (m ((c.tc : Thread nD τ).loc main_arg1)) (m ((c.tc : Thread nD τ).loc main_arg2)) :=
  (dats m 0 c).arrAt_eq_of_cover 3 _ flushed3_eq fun y => by
    have h0 : (y 0 : ℕ) < 4160 := (y 0).isLt
    have hN : (y 0 : ℕ) / 1040 < cfg0.N := by show _ < 4; omega
    refine ⟨⟨(y 0 : ℕ) / 1040, hN⟩, flush0_3 _, ?_⟩
    have h := ((cfg0.win 3).blk (⟨(y 0 : ℕ) / 1040, hN⟩ : Fin cfg0.N)).view.emb_mem_set
      (ix2 (⟨(y 0 : ℕ) % 1040, Nat.mod_lt _ (by decide)⟩ : Fin 1040) (⟨y 1, (y 1).isLt⟩ : Fin 1536))
    rw [emb3] at h
    refine Eq.mp (congrArg (· ∈ _) ?_) h
    funext a
    apply Fin.ext
    match a with
    | ⟨0, _⟩ => show 1040 * ((y 0 : ℕ) / 1040) + (y 0 : ℕ) % 1040 = y 0; omega
    | ⟨1, _⟩ => rfl

theorem final4 : (dats m 0 c).arrAt 4 cfg0.N = norm (m ((c.tc : Thread nD τ).loc main_arg0)) (m ((c.tc : Thread nD τ).loc main_arg1)) :=
  (dats m 0 c).arrAt_eq_of_cover 4 _ flushed4_eq fun y => by
    have h0 : (y 0 : ℕ) < 4160 := (y 0).isLt
    have hN : (y 0 : ℕ) / 1040 < cfg0.N := by show _ < 4; omega
    refine ⟨⟨(y 0 : ℕ) / 1040, hN⟩, flush0_4 _, ?_⟩
    have h := ((cfg0.win 4).blk (⟨(y 0 : ℕ) / 1040, hN⟩ : Fin cfg0.N)).view.emb_mem_set
      (ix2 (⟨(y 0 : ℕ) % 1040, Nat.mod_lt _ (by decide)⟩ : Fin 1040) (⟨y 1, (y 1).isLt⟩ : Fin 1024))
    rw [emb4] at h
    refine Eq.mp (congrArg (· ∈ _) ?_) h
    funext a
    apply Fin.ext
    match a with
    | ⟨0, _⟩ => show 1040 * ((y 0 : ℕ) / 1040) + (y 0 : ℕ) % 1040 = y 0; omega
    | ⟨1, _⟩ => rfl

end Cert.Proof.Nc

namespace Cert.Proof.Nc

open Idealize.ShloMosaic Cert.Reference11Ideal Cert.Reference11Ideal.Gen

theorem ref_norm_at (h : FVec Ideal S4160x1024 .f32) (g : FVec Ideal S1x1024 .f32) (r : Fin 4160) (k : Fin 1024) :
    (mulf (mulf h (broadcastInDim S4160x1024 ![0, 1] bcast_S4160x1_S4160x1024_0_1 (Host.rsqrt (addf (Host.divf (broadcastInDim S4160x1 ![0] bcast_S4160_S4160x1_0 (Host.reduceAdd (mulf h h) (constant S_ .f32 0x00000000#32) reducesTo_S4160x1024_S4160_d1 h_S_)) (broadcastInDim S4160x1 ![] bcast_S_S4160x1 (constant S_ .f32 0x44800000#32))) (broadcastInDim S4160x1 ![] bcast_S_S4160x1 (constant S_ .f32 0x3727C5AC#32)))))) (broadcastInDim S4160x1024 ![0, 1] bcast_S1x1024_S4160x1024_0_1 g)) (ix2 r k)
      = nrm h g r k := by
  pointwise []
  rfl

theorem ref_norm (h : FVec Ideal S4160x1024 .f32) (g : FVec Ideal S1x1024 .f32) :
    (truncf .bf16 (mulf (mulf h (broadcastInDim S4160x1024 ![0, 1] bcast_S4160x1_S4160x1024_0_1 (Host.rsqrt (addf (Host.divf (broadcastInDim S4160x1 ![0] bcast_S4160_S4160x1_0 (Host.reduceAdd (mulf h h) (constant S_ .f32 0x00000000#32) reducesTo_S4160x1024_S4160_d1 h_S_)) (broadcastInDim S4160x1 ![] bcast_S_S4160x1 (constant S_ .f32 0x44800000#32))) (broadcastInDim S4160x1 ![] bcast_S_S4160x1 (constant S_ .f32 0x3727C5AC#32)))))) (broadcastInDim S4160x1024 ![0, 1] bcast_S1x1024_S4160x1024_0_1 g)) bitsLt_bf16_f32
      : FVec Ideal S4160x1024 .bf16) = norm h g := by
  funext y
  obtain ⟨r, k, rfl⟩ : ∃ (r : Fin 4160) (k : Fin 1024), y = ix2 r k := ⟨y 0, y 1, eta y⟩
  exact ref_norm_at h g r k

theorem ref_proj (h : FVec Ideal S4160x1024 .f32) (g : FVec Ideal S1x1024 .f32) (w : FVec Ideal S1024x1536 .bf16) :
    (truncf .bf16 (Host.dotGeneral dot_S4160x1024_S1024x1536_S4160x1536_1_0_0_1_n_n none (mulf (mulf h (broadcastInDim S4160x1024 ![0, 1] bcast_S4160x1_S4160x1024_0_1 (Host.rsqrt (addf (Host.divf (broadcastInDim S4160x1 ![0] bcast_S4160_S4160x1_0 (Host.reduceAdd (mulf h h) (constant S_ .f32 0x00000000#32) reducesTo_S4160x1024_S4160_d1 h_S_)) (broadcastInDim S4160x1 ![] bcast_S_S4160x1 (constant S_ .f32 0x44800000#32))) (broadcastInDim S4160x1 ![] bcast_S_S4160x1 (constant S_ .f32 0x3727C5AC#32)))))) (broadcastInDim S4160x1024 ![0, 1] bcast_S1x1024_S4160x1024_0_1 g))
      (extf .f32 w bitsLt_bf16_f32)) bitsLt_bf16_f32 : FVec Ideal S4160x1536 .bf16) = proj h g w := by
  funext y
  obtain ⟨r, j, rfl⟩ : ∃ (r : Fin 4160) (j : Fin 1536), y = ix2 r j := ⟨y 0, y 1, eta y⟩
  pointwise []
  rfl

end Cert.Proof.Nc

end
-- ==== Proof.Mr.lean ====
/- The output projection with its residual: what a grid point leaves, what the grid leaves, and the reference at the same index. -/
module

public import proofs.«01_k».proof.Proof.Gen.Kernel12Ideal.Value
public import proofs.«01_k».proof.Proof.Gen.Reference12Ideal.Run
public import proofs.«01_k».proof.Proof.Push

@[expose] public section

set_option maxRecDepth 16384

noncomputable section

namespace Cert.Proof.Mr

open Idealize.ShloMosaic Idealize.SL.Sem Cert.Kernel12Ideal Cert.Kernel12Ideal.Gen

theorem z2 : (![0, 0] : Fin 2 → ℕ) = fun _ => 0 := by
  funext a
  match a with
  | ⟨0, _⟩ => rfl
  | ⟨1, _⟩ => rfl

theorem eta {A B : ℕ} (y : (⟨2, ![A, B]⟩ : Shape).Idx) : y = ix2 (n0 := A) (n1 := B) (y 0) (y 1) := by
  funext a
  match a with
  | ⟨0, _⟩ => rfl
  | ⟨1, _⟩ => rfl

/-- The residual and the product. -/
def grad (a : S4160x1024.Idx → EReal) (w : S1024x1024.Idx → EReal) (h : S4160x1024.Idx → EReal) : S4160x1024.Idx → EReal := fun y =>
  h y + ∑ k : Fin 1024, a (ix2 (⟨y 0, (y 0).isLt⟩ : Fin 4160) k) * w (ix2 k (⟨y 1, (y 1).isLt⟩ : Fin 1024))

theorem out_pay (m : (ℓ : Loc nD τ sig) → Buf (Elt Ideal) ℓ) (c : Dev nD) (t : Fin cfg0.N) :
    out0_3 (iblk m c 0 t) (iblk m c 1 t) (iblk m c 2 t) = k0_pay1 (iblk m c 2 t) (iblk m c 0 t) (iblk m c 1 t) := by
  unfold out0_3
  rw [View.canon_unit_zero z2]
  repeat rw [View.ld_unit_zero z2]

variable {m : (ℓ : Loc nD τ sig) → Buf (Elt Ideal) ℓ} {c : Dev nD}

theorem lt4 (t : Fin cfg0.N) : t.val < 4 := t.isLt
theorem row_lt (t : Fin cfg0.N) (r : Fin 1040) : 1040 * t.val + (r : ℕ) < 4160 := by have := lt4 t; omega

theorem wi0 : ∀ t : Fin cfg0.N, win0_0.index t 0 = t.val ∧ win0_0.index t 1 = 0 :=
  (by decide +kernel : ∀ t : Fin grid0.N, win0_0.index t 0 = t.val ∧ win0_0.index t 1 = 0)
theorem wi1 : ∀ t : Fin cfg0.N, win0_1.index t 0 = 0 ∧ win0_1.index t 1 = 0 :=
  (by decide +kernel : ∀ t : Fin grid0.N, win0_1.index t 0 = 0 ∧ win0_1.index t 1 = 0)
theorem wi2 : ∀ t : Fin cfg0.N, win0_2.index t 0 = t.val ∧ win0_2.index t 1 = 0 :=
  (by decide +kernel : ∀ t : Fin grid0.N, win0_2.index t 0 = t.val ∧ win0_2.index t 1 = 0)
theorem wi3 : ∀ t : Fin cfg0.N, win0_3.index t 0 = t.val ∧ win0_3.index t 1 = 0 :=
  (by decide +kernel : ∀ t : Fin grid0.N, win0_3.index t 0 = t.val ∧ win0_3.index t 1 = 0)

theorem blk0 (t : Fin cfg0.N) (r : Fin 1040) (k : Fin 1024) :
    iblk m c 0 t (ix2 r k) = m ((c.tc : Thread nD τ).loc main_arg0) (ix2 (⟨1040 * t.val + r, row_lt t r⟩ : Fin 4160) k) := by
  have hi := wi0 t
  unfold iblk
  rw [View.read_apply]
  show V m c main_arg0 _ = m (c.tc.loc main_arg0) _
  unfold V
  congr 1
  funext a
  apply Fin.ext
  match a with
  | ⟨0, _⟩ => show win0_0.index t 0 * 1040 + 1 * (r : ℕ) = 1040 * t.val + (r : ℕ); rw [hi.1]; omega
  | ⟨1, _⟩ => show win0_0.index t 1 * 1024 + 1 * (k : ℕ) = k; rw [hi.2]; omega

theorem blk1 (t : Fin cfg0.N) (r : Fin 1024) (k : Fin 1024) :
    iblk m c 1 t (ix2 r k) = m ((c.tc : Thread nD τ).loc main_arg1) (ix2 r k) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 1024 + 1 * (r : ℕ) = (r : ℕ); rw [hi.1]; omega
  | ⟨1, _⟩ => show win0_1.index t 1 * 1024 + 1 * (k : ℕ) = k; rw [hi.2]; omega

theorem blk2 (t : Fin cfg0.N) (r : Fin 1040) (k : Fin 1024) :
    iblk m c 2 t (ix2 r k) = m ((c.tc : Thread nD τ).loc main_arg2) (ix2 (⟨1040 * t.val + r, row_lt t r⟩ : Fin 4160) k) := by
  have hi := wi2 t
  unfold iblk
  rw [View.read_apply]
  show V m c main_arg2 _ = m (c.tc.loc main_arg2) _
  unfold V
  congr 1
  funext a
  apply Fin.ext
  match a with
  | ⟨0, _⟩ => show win0_2.index t 0 * 1040 + 1 * (r : ℕ) = 1040 * t.val + (r : ℕ); rw [hi.1]; omega
  | ⟨1, _⟩ => show win0_2.index t 1 * 1024 + 1 * (k : ℕ) = k; rw [hi.2]; omega

theorem emb3 (t : Fin cfg0.N) (r : Fin 1040) (k : Fin 1024) : ((cfg0.win 3).blk t).view.emb (ix2 r k)
    = (ix2 (⟨1040 * t.val + r, row_lt t r⟩ : Fin 4160) k : S4160x1024.Idx) := by
  have hi := wi3 t
  funext a
  apply Fin.ext
  match a with
  | ⟨0, _⟩ => show win0_3.index t 0 * 1040 + 1 * (r : ℕ) = 1040 * t.val + (r : ℕ); rw [hi.1]; omega
  | ⟨1, _⟩ => show win0_3.index t 1 * 1024 + 1 * (k : ℕ) = k; rw [hi.2]; omega

theorem pay_at (t : Fin cfg0.N) (r : Fin 1040) (k : Fin 1024) : k0_pay1 (iblk m c 2 t) (iblk m c 0 t) (iblk m c 1 t) (ix2 r k)
    = grad (m ((c.tc : Thread nD τ).loc main_arg0)) (m ((c.tc : Thread nD τ).loc main_arg1)) (m ((c.tc : Thread nD τ).loc main_arg2))
      (ix2 (⟨1040 * t.val + r, row_lt t r⟩ : Fin 4160) k) := by
  pointwise [k0_pay1]
  simp only [blk0, blk1, blk2]
  rfl

theorem flushed_eq (t : Fin cfg0.N) (hf : (cfg0.win 3).flush t = true) :
    (dats m 0 c).flushed 3 t = ((cfg0.win 3).blk t).view.read (Elt Ideal) (grad (m ((c.tc : Thread nD τ).loc main_arg0)) (m ((c.tc : Thread nD τ).loc main_arg1)) (m ((c.tc : Thread nD τ).loc main_arg2))) := by
  rw [Value.flushed3, out_pay]
  funext y
  obtain ⟨r, k, rfl⟩ : ∃ (r : Fin 1040) (k : Fin 1024), y = ix2 r k := ⟨y 0, y 1, eta y⟩
  rw [View.read_apply, emb3]
  exact pay_at t r k

theorem final : (dats m 0 c).arrAt 3 cfg0.N = grad (m ((c.tc : Thread nD τ).loc main_arg0)) (m ((c.tc : Thread nD τ).loc main_arg1)) (m ((c.tc : Thread nD τ).loc main_arg2)) :=
  (dats m 0 c).arrAt_eq_of_cover 3 _ flushed_eq fun y => by
    have h0 : (y 0 : ℕ) < 4160 := (y 0).isLt
    have hN : (y 0 : ℕ) / 1040 < cfg0.N := by show _ < 4; omega
    refine ⟨⟨(y 0 : ℕ) / 1040, hN⟩, flush0_3 _, ?_⟩
    have h := ((cfg0.win 3).blk (⟨(y 0 : ℕ) / 1040, hN⟩ : Fin cfg0.N)).view.emb_mem_set
      (ix2 (⟨(y 0 : ℕ) % 1040, Nat.mod_lt _ (by decide)⟩ : Fin 1040) (⟨y 1, (y 1).isLt⟩ : Fin 1024))
    rw [emb3] at h
    refine Eq.mp (congrArg (· ∈ _) ?_) h
    funext a
    apply Fin.ext
    match a with
    | ⟨0, _⟩ => show 1040 * ((y 0 : ℕ) / 1040) + (y 0 : ℕ) % 1040 = y 0; omega
    | ⟨1, _⟩ => rfl

end Cert.Proof.Mr

namespace Cert.Proof.Mr

open Idealize.ShloMosaic Cert.Reference12Ideal Cert.Reference12Ideal.Gen

theorem ref_grad (a : FVec Ideal S4160x1024 .bf16) (w : FVec Ideal S1024x1024 .bf16) (h : FVec Ideal S4160x1024 .f32) :
    (addf h (Host.dotGeneral dot_S4160x1024_S1024x1024_S4160x1024_1_0_0_1_n_n none (extf .f32 a bitsLt_bf16_f32)
      (extf .f32 w bitsLt_bf16_f32)) : FVec Ideal S4160x1024 .f32) = grad a w h := by
  funext y
  obtain ⟨r, j, rfl⟩ : ∃ (r : Fin 4160) (j : Fin 1024), y = ix2 r j := ⟨y 0, y 1, eta y⟩
  pointwise []
  rfl

end Cert.Proof.Mr

end
-- ==== Proof.DiSpec.lean ====
/- The backward pass of the convolution layer's normalised projection to its input, on real numbers: the rows of the first
   chunk and the rows after it. -/
module

public import proofs.«01_k».proof.Proof.DnSpec
public import proofs.«01_k».proof.Proof.Push

@[expose] public section

noncomputable section

namespace Cert.Proof.Di

open Idealize.ShloMosaic
open Cert.Proof.Dn (Data ms rr xh rr_sq)

variable (D : Data)

/-- The gradient of the scaled normalised input, in three pieces of columns. -/
def acc (r c : ℕ) : ℝ :=
  (∑ f : Fin 512, D.dz r f * D.w c f) + (∑ f : Fin 512, D.dz r (512 + f) * D.w c (512 + f))
    + ∑ f : Fin 512, D.dz r (1024 + f) * D.w c (1024 + f)

theorem acc_eq (r c : ℕ) : acc D r c = ∑ f : Fin 1536, D.dz r f * D.w c f := by
  unfold acc
  rw [Fin.sum_univ_eq_sum_range (fun f => D.dz r f * D.w c f) 512,
    Fin.sum_univ_eq_sum_range (fun f => D.dz r (512 + f) * D.w c (512 + f)) 512,
    Fin.sum_univ_eq_sum_range (fun f => D.dz r (1024 + f) * D.w c (1024 + f)) 512,
    Fin.sum_univ_eq_sum_range (fun f => D.dz r f * D.w c f) 1536,
    show 1536 = 1024 + 512 from rfl, Finset.sum_range_add, show 1024 = 512 + 512 from rfl, Finset.sum_range_add]

/-- The mean of the gradient along the normalised input. -/
def proj (r : ℕ) : ℝ := (∑ c : Fin 1024, acc D r c * D.g c * xh D r c) / 1024

/-- The gradient of the input on a row: what came past the layer and what came through it. -/
def thru (r c : ℕ) : ℝ := D.dh r c + rr D r * (acc D r c * D.g c - xh D r c * proj D r)

/-- The same on the first chunk, zero on the padding rows. -/
def out (r c : ℕ) : ℝ := if 48 ≤ r then thru D r c else 0

/-- The first chunk's part of the gradient of the gain. -/
def dgH (c : ℕ) : ℝ := ∑ r : Fin 64, acc D r c * xh D r c

/-- A block of rows' part of it, after the first chunk. -/
def dgB (i c : ℕ) : ℝ := ∑ r : Fin 512, acc D (64 + (512 * i + r)) c * xh D (64 + (512 * i + r)) c

/-- The first blocks' part. -/
def dgN (n c : ℕ) : ℝ := ∑ i ∈ Finset.range n, dgB D i c

theorem dgN_eq (c : ℕ) : dgN D 8 c = ∑ r : Fin 4096, acc D (64 + r) c * xh D (64 + r) c :=
  Ff.sum_blocks (fun r => acc D (64 + r) c * xh D (64 + r) c) 512 8

/-- The gradient through the mean square against the gradient through the product. -/
theorem thru_eq (r c : ℕ) : D.dh r c + (acc D r c * D.g c * rr D r
      + D.h r c * ((∑ k : Fin 1024, D.h r k * (acc D r k * D.g k)) * (-(1 / 2) * (rr D r / ms D r)) / 1024)
      + (∑ k : Fin 1024, D.h r k * (acc D r k * D.g k)) * (-(1 / 2) * (rr D r / ms D r)) / 1024 * D.h r c) = thru D r c := by
  have e := rr_sq D r
  have e2 : proj D r = (∑ c : Fin 1024, D.h r c * (acc D r c * D.g c)) * rr D r / 1024 := by
    rw [proj, Finset.sum_mul]
    congr 2
    funext c
    rw [xh]; ring
  rw [thru, e2, xh, div_eq_mul_one_div (rr D r), ← e]
  ring

/-- Arguments that hold the data. -/
structure Args (D : Data) (a0 : FVec Ideal ⟨2, ![4160, 1536]⟩ .bf16) (a1 : FVec Ideal ⟨2, ![1024, 1536]⟩ .bf16)
    (a2 : FVec Ideal ⟨2, ![4160, 1024]⟩ .f32) (a3 : FVec Ideal ⟨2, ![1, 1024]⟩ .f32)
    (a4 : FVec Ideal ⟨2, ![4160, 1024]⟩ .f32) : Prop where
  dz : ∀ (r : Fin 4160) (f : Fin 1536), a0 (ix2 r f) = ((D.dz r f : ℝ) : EReal)
  w : ∀ (c : Fin 1024) (f : Fin 1536), a1 (ix2 c f) = ((D.w c f : ℝ) : EReal)
  h : ∀ (r : Fin 4160) (c : Fin 1024), a2 (ix2 r c) = ((D.h r c : ℝ) : EReal)
  g : ∀ c : Fin 1024, a3 (ix2 0 c) = ((D.g c : ℝ) : EReal)
  dh : ∀ (r : Fin 4160) (c : Fin 1024), a4 (ix2 r c) = ((D.dh r c : ℝ) : EReal)
  eps : Ideal.ofBits .f32 0x3727C5AC#32 = ((D.eps : ℝ) : EReal)

/-- The data the arguments hold. -/
def dataOf (a0 : FVec Ideal ⟨2, ![4160, 1536]⟩ .bf16) (a1 : FVec Ideal ⟨2, ![1024, 1536]⟩ .bf16)
    (a2 : FVec Ideal ⟨2, ![4160, 1024]⟩ .f32) (a3 : FVec Ideal ⟨2, ![1, 1024]⟩ .f32)
    (a4 : FVec Ideal ⟨2, ![4160, 1024]⟩ .f32) : Data where
  dz := Gla.arr2 a0
  w := Gla.arr2 a1
  h := Gla.arr2 a2
  g := Gla.arr2 a3 0
  dh := Gla.arr2 a4
  eps := 10995116 / 1099511627776
  eps_pos := by norm_num

theorem args_of {a0 : FVec Ideal ⟨2, ![4160, 1536]⟩ .bf16} {a1 : FVec Ideal ⟨2, ![1024, 1536]⟩ .bf16}
    {a2 : FVec Ideal ⟨2, ![4160, 1024]⟩ .f32} {a3 : FVec Ideal ⟨2, ![1, 1024]⟩ .f32}
    {a4 : FVec Ideal ⟨2, ![4160, 1024]⟩ .f32}
    (h0 : ∀ y, (((a0 y).toReal : ℝ) : EReal) = a0 y) (h1 : ∀ y, (((a1 y).toReal : ℝ) : EReal) = a1 y)
    (h2 : ∀ y, (((a2 y).toReal : ℝ) : EReal) = a2 y) (h3 : ∀ y, (((a3 y).toReal : ℝ) : EReal) = a3 y)
    (h4 : ∀ y, (((a4 y).toReal : ℝ) : EReal) = a4 y) : Args (dataOf a0 a1 a2 a3 a4) a0 a1 a2 a3 a4 where
  dz := Gla.arr2_at h0
  w := Gla.arr2_at h1
  h := Gla.arr2_at h2
  g := Gla.arr2_at h3 0
  dh := Gla.arr2_at h4
  eps := Gla.ofBits_eps

theorem finite13_facts : Cert.Pre_finite13.Facts :=
  ⟨by decide, by decide, by decide, by decide, by decide⟩

theorem finite14_facts : Cert.Pre_finite14.Facts :=
  ⟨by decide, by decide, by decide, by decide, by decide, by decide⟩

/-- The precondition read: every element of every argument is a real. -/
theorem args_of_finite13 (m : (ℓ : Loc Cert.Kernel13Ideal.nD Cert.Kernel13Ideal.τ Cert.Kernel13Ideal.sig) → Buf (Elt Ideal) ℓ)
    (h : Cert.Pre_Kernel13Ideal_finite13 (hPre_finite13 := finite13_facts) m) (c : Dev Cert.Kernel13Ideal.nD) :
    ∃ D : Data, Args D (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1))
      (m ((c.tc : Thread Cert.Kernel13Ideal.nD Cert.Kernel13Ideal.τ).loc Cert.Kernel13Ideal.main_arg2))
      (m ((c.tc : Thread Cert.Kernel13Ideal.nD Cert.Kernel13Ideal.τ).loc Cert.Kernel13Ideal.main_arg3))
      (m ((c.tc : Thread Cert.Kernel13Ideal.nD Cert.Kernel13Ideal.τ).loc Cert.Kernel13Ideal.main_arg4)) := by
  obtain ⟨h0, h1, h2, h3, h4⟩ := h c
  exact ⟨_, args_of (fun y => Gla.real_of_lt (congrFun h0 y)) (fun y => Gla.real_of_lt (congrFun h1 y))
    (fun y => Gla.real_of_lt (congrFun h2 y)) (fun y => Gla.real_of_lt (congrFun h3 y))
    (fun y => Gla.real_of_lt (congrFun h4 y))⟩

/-- The gain's gradient so far, held by an argument. -/
def Held (p : ℕ → ℝ) (a5 : FVec Ideal ⟨2, ![1, 1024]⟩ .f32) : Prop := ∀ c : Fin 1024, a5 (ix2 0 c) = ((p c : ℝ) : EReal)

theorem args_of_finite14 (m : (ℓ : Loc Cert.Kernel14Ideal.nD Cert.Kernel14Ideal.τ Cert.Kernel14Ideal.sig) → Buf (Elt Ideal) ℓ)
    (h : Cert.Pre_Kernel14Ideal_finite14 (hPre_finite14 := finite14_facts) m) (c : Dev Cert.Kernel14Ideal.nD) :
    ∃ X : Data × (ℕ → ℝ), Args X.1 (m ((c.tc : Thread Cert.Kernel14Ideal.nD Cert.Kernel14Ideal.τ).loc Cert.Kernel14Ideal.main_arg0))
      (m ((c.tc : Thread Cert.Kernel14Ideal.nD Cert.Kernel14Ideal.τ).loc Cert.Kernel14Ideal.main_arg1))
      (m ((c.tc : Thread Cert.Kernel14Ideal.nD Cert.Kernel14Ideal.τ).loc Cert.Kernel14Ideal.main_arg2))
      (m ((c.tc : Thread Cert.Kernel14Ideal.nD Cert.Kernel14Ideal.τ).loc Cert.Kernel14Ideal.main_arg3))
      (m ((c.tc : Thread Cert.Kernel14Ideal.nD Cert.Kernel14Ideal.τ).loc Cert.Kernel14Ideal.main_arg4))
      ∧ Held X.2 (m ((c.tc : Thread Cert.Kernel14Ideal.nD Cert.Kernel14Ideal.τ).loc Cert.Kernel14Ideal.main_arg5)) := by
  obtain ⟨h0, h1, h2, h3, h4, h5⟩ := h c
  exact ⟨⟨_, Gla.arr2 (m ((c.tc : Thread Cert.Kernel14Ideal.nD Cert.Kernel14Ideal.τ).loc Cert.Kernel14Ideal.main_arg5)) 0⟩,
    args_of (fun y => Gla.real_of_lt (congrFun h0 y)) (fun y => Gla.real_of_lt (congrFun h1 y))
    (fun y => Gla.real_of_lt (congrFun h2 y)) (fun y => Gla.real_of_lt (congrFun h3 y))
    (fun y => Gla.real_of_lt (congrFun h4 y)), Gla.arr2_at (fun y => Gla.real_of_lt (congrFun h5 y)) 0⟩

/-- The results of the first chunk, as arrays. -/
def H0 : FVec Ideal ⟨2, ![64, 1024]⟩ .f32 := fun y => ((out D (y 0 : ℕ) (y 1 : ℕ) : ℝ) : EReal)
def H1 : FVec Ideal ⟨2, ![1, 1024]⟩ .f32 := fun y => ((dgH D (y 1 : ℕ) : ℝ) : EReal)

/-- The results of the rows after it. -/
def G0 : FVec Ideal ⟨2, ![4096, 1024]⟩ .f32 := fun y => ((thru D (64 + (y 0 : ℕ)) (y 1 : ℕ) : ℝ) : EReal)
def G1 (p : ℕ → ℝ) : FVec Ideal ⟨2, ![1, 1024]⟩ .f32 := fun y => ((p (y 1 : ℕ) + dgN D 8 (y 1 : ℕ) : ℝ) : EReal)

end Cert.Proof.Di

end
-- ==== Proof.DhGrid.lean ====
/- The first chunk of the convolution projection's backward pass: what the grid's one point leaves, and what the grid leaves. -/
module

public import proofs.«01_k».proof.Proof.Gen.Kernel13Ideal.Value
public import proofs.«01_k».proof.Proof.DiSpec

@[expose] public section

set_option maxRecDepth 16384

noncomputable section

namespace Cert.Proof.Dh

open Idealize.ShloMosaic Idealize.SL.Sem Cert.Kernel13Ideal Cert.Kernel13Ideal.Gen Cert.Proof.Di
open Cert.Proof.Gla (cadd csub cmul csum cdiv crsqrt czero word_neg_half)
open Cert.Proof.Dn (Data ms ms_pos rr xh)

/-- The product of a block of rows with the weight, in the kernel's three pieces of columns. -/
abbrev kAcc (b0 : Vec Ideal S64x1536 .bf16) (b1 : Vec Ideal S1024x1536 .bf16) : FVec Ideal S64x1024 .f32 :=
  k0_pay3 (View.ld b0 (Rect.unit (s := S64x1536) ![0, 0] S64x512.size inb_S64x1536_S64x512_0_0))
    (View.ld b1 (Rect.unit (s := S1024x1536) ![0, 0] S1024x512.size inb_S1024x1536_S1024x512_0_0))
    (View.ld b0 (Rect.unit (s := S64x1536) ![0, 512] S64x512.size inb_S64x1536_S64x512_0_512))
    (View.ld b1 (Rect.unit (s := S1024x1536) ![0, 512] S1024x512.size inb_S1024x1536_S1024x512_0_512))
    (View.ld b0 (Rect.unit (s := S64x1536) ![0, 1024] S64x512.size inb_S64x1536_S64x512_0_1024))
    (View.ld b1 (Rect.unit (s := S1024x1536) ![0, 1024] S1024x512.size inb_S1024x1536_S1024x512_0_1024))

/-- The product scaled by the gain. -/
abbrev kSc (b0 : Vec Ideal S64x1536 .bf16) (b1 : Vec Ideal S1024x1536 .bf16) (b3 : Vec Ideal S1x1024 .f32) :
    FVec Ideal S64x1024 .f32 :=
  k0_pay6 (View.ld b0 (Rect.unit (s := S64x1536) ![0, 0] S64x512.size inb_S64x1536_S64x512_0_0))
    (View.ld b1 (Rect.unit (s := S1024x1536) ![0, 0] S1024x512.size inb_S1024x1536_S1024x512_0_0))
    (View.ld b0 (Rect.unit (s := S64x1536) ![0, 512] S64x512.size inb_S64x1536_S64x512_0_512))
    (View.ld b1 (Rect.unit (s := S1024x1536) ![0, 512] S1024x512.size inb_S1024x1536_S1024x512_0_512))
    (View.ld b0 (Rect.unit (s := S64x1536) ![0, 1024] S64x512.size inb_S64x1536_S64x512_0_1024))
    (View.ld b1 (Rect.unit (s := S1024x1536) ![0, 1024] S1024x512.size inb_S1024x1536_S1024x512_0_1024)) b3

/-- The part along the normalised input. -/
abbrev kAl (b0 : Vec Ideal S64x1536 .bf16) (b1 : Vec Ideal S1024x1536 .bf16) (b2 : Vec Ideal S64x1024 .f32)
    (b3 : Vec Ideal S1x1024 .f32) : FVec Ideal S64x1024 .f32 :=
  k0_pay7 (View.ld b0 (Rect.unit (s := S64x1536) ![0, 0] S64x512.size inb_S64x1536_S64x512_0_0))
    (View.ld b1 (Rect.unit (s := S1024x1536) ![0, 0] S1024x512.size inb_S1024x1536_S1024x512_0_0))
    (View.ld b0 (Rect.unit (s := S64x1536) ![0, 512] S64x512.size inb_S64x1536_S64x512_0_512))
    (View.ld b1 (Rect.unit (s := S1024x1536) ![0, 512] S1024x512.size inb_S1024x1536_S1024x512_0_512))
    (View.ld b0 (Rect.unit (s := S64x1536) ![0, 1024] S64x512.size inb_S64x1536_S64x512_0_1024))
    (View.ld b1 (Rect.unit (s := S1024x1536) ![0, 1024] S1024x512.size inb_S1024x1536_S1024x512_0_1024)) b2 b3

theorem z2 : (![0, 0] : Fin 2 → ℕ) = fun _ => 0 := by
  funext a
  match a with
  | ⟨0, _⟩ => rfl
  | ⟨1, _⟩ => rfl

theorem out_eq (b0 : Vec Ideal S64x1536 .bf16) (b1 : Vec Ideal S1024x1536 .bf16) (b2 : Vec Ideal S64x1024 .f32)
    (b3 : Vec Ideal S1x1024 .f32) (b4 : Vec Ideal S64x1024 .f32) :
    out0_5 b0 b1 b2 b3 b4 = k0_pay2 (k0_pay4 b2) (kSc b0 b1 b3) (kAl b0 b1 b2 b3) b4 := by
  unfold out0_5
  rw [View.canon_unit_zero z2]
  repeat rw [View.ld_unit_zero z2]

theorem dg_eq (b0 : Vec Ideal S64x1536 .bf16) (b1 : Vec Ideal S1024x1536 .bf16) (b2 : Vec Ideal S64x1024 .f32)
    (b3 : Vec Ideal S1x1024 .f32) (b4 : Vec Ideal S64x1024 .f32) :
    out0_6 b0 b1 b2 b3 b4 = k0_pay1 (kAcc b0 b1) (k0_pay5 b2) := by
  unfold out0_6
  rw [View.canon_unit_zero z2]
  repeat rw [View.ld_unit_zero z2]

/-- The blocks a point reads hold the data. -/
structure In (D : Data) (i : ℕ) (b0 : Vec Ideal S64x1536 .bf16) (b1 : Vec Ideal S1024x1536 .bf16)
    (b2 : Vec Ideal S64x1024 .f32) (b3 : Vec Ideal S1x1024 .f32) (b4 : Vec Ideal S64x1024 .f32) : Prop where
  dz : ∀ (r : Fin 64) (f : Fin 1536), b0 (ix2 r f) = ((D.dz r f : ℝ) : EReal)
  w : ∀ (c : Fin 1024) (f : Fin 1536), b1 (ix2 c f) = ((D.w c f : ℝ) : EReal)
  h : ∀ (r : Fin 64) (c : Fin 1024), b2 (ix2 r c) = ((D.h r c : ℝ) : EReal)
  g : ∀ c : Fin 1024, b3 (ix2 0 c) = ((D.g c : ℝ) : EReal)
  dh : ∀ (r : Fin 64) (c : Fin 1024), b4 (ix2 r c) = ((D.dh r c : ℝ) : EReal)
  eps : Ideal.ofBits .f32 0x3727C5AC#32 = ((D.eps : ℝ) : EReal)

section
variable {D : Data} {i : ℕ} {b0 : Vec Ideal S64x1536 .bf16} {b1 : Vec Ideal S1024x1536 .bf16}
  {b2 : Vec Ideal S64x1024 .f32} {b3 : Vec Ideal S1x1024 .f32} {b4 : Vec Ideal S64x1024 .f32}
  (H : In D i b0 b1 b2 b3 b4)
include H

theorem acc_at (r : Fin 64) (c : Fin 1024) : kAcc b0 b1 (ix2 r c) = ((acc D r c : ℝ) : EReal) := by
  pointwise [k0_pay3]
  simp only [H.dz, H.w, czero, cmul, csum, cadd, acc, Fin.val_mk, zero_add]

theorem rr_at (r : Fin 64) : k0_pay4 b2 (ix2 r 0) = ((rr D r : ℝ) : EReal) := by
  pointwise [k0_pay4]
  simp only [H.h, H.eps, Ff.word_1024, cmul, csum, cadd, cdiv _ _ (by norm_num : (1024 : ℝ) ≠ 0)]
  rw [← ms, crsqrt _ (ms_pos _ _), rr]

theorem xh_at (r : Fin 64) (c : Fin 1024) : k0_pay5 b2 (ix2 r c) = ((xh D r c : ℝ) : EReal) := by
  pointwise [k0_pay5]
  simp only [rr_at H, H.h, cmul, xh]

theorem sc_at (r : Fin 64) (c : Fin 1024) : kSc b0 b1 b3 (ix2 r c) = ((acc D r c * D.g c : ℝ) : EReal) := by
  have e := acc_at H r c
  pointwise [k0_pay6]
  rw [H.g]
  exact (congrArg (fun x : EReal => x * ((D.g c : ℝ) : EReal)) e).trans (cmul _ _)

theorem al_at (r : Fin 64) (c : Fin 1024) :
    kAl b0 b1 b2 b3 (ix2 r c) = ((xh D r c * proj D r : ℝ) : EReal) := by
  have e := fun k => sc_at H r k
  pointwise [k0_pay7]
  simp only [xh_at H, e, Ff.word_1024, cmul, csum, cdiv _ _ (by norm_num : (1024 : ℝ) ≠ 0)]
  rfl

theorem part_at (c : Fin 1024) : k0_pay1 (kAcc b0 b1) (k0_pay5 b2) (ix2 0 c) = ((dgH D c : ℝ) : EReal) := by
  have e := fun r => acc_at H r c
  pointwise [k0_pay1]
  simp only [xh_at H, e, cmul, csum, dgH]

theorem res_at (r : Fin 64) (c : Fin 1024) :
    k0_pay2 (k0_pay4 b2) (kSc b0 b1 b3) (kAl b0 b1 b2 b3) b4 (ix2 r c) = ((out D r c : ℝ) : EReal) := by
  have e1 := sc_at H r c
  have e2 := al_at H r c
  pointwise [k0_pay2]
  simp only [rr_at H, e1, e2, H.dh, cmul, cadd, csub, Ff.word_0]
  rw [show IntOp.addi 0#32 (BitVec.ofNat 32 (r : ℕ)) = BitVec.ofNat 32 (r : ℕ) from BitVec.zero_add _]
  refine (Ff.select_48 _ (by omega) _).trans ?_
  rfl

end

theorem wi0 : ∀ t : Fin cfg0.N, win0_0.index t 0 = 0 ∧ win0_0.index t 1 = 0 :=
  (by decide +kernel : ∀ t : Fin grid0.N, win0_0.index t 0 = 0 ∧ win0_0.index t 1 = 0)
theorem wi1 : ∀ t : Fin cfg0.N, win0_1.index t 0 = 0 ∧ win0_1.index t 1 = 0 :=
  (by decide +kernel : ∀ t : Fin grid0.N, win0_1.index t 0 = 0 ∧ win0_1.index t 1 = 0)
theorem wi2 : ∀ t : Fin cfg0.N, win0_2.index t 0 = 0 ∧ win0_2.index t 1 = 0 :=
  (by decide +kernel : ∀ t : Fin grid0.N, win0_2.index t 0 = 0 ∧ win0_2.index t 1 = 0)
theorem wi3 : ∀ t : Fin cfg0.N, win0_3.index t 0 = 0 ∧ win0_3.index t 1 = 0 :=
  (by decide +kernel : ∀ t : Fin grid0.N, win0_3.index t 0 = 0 ∧ win0_3.index t 1 = 0)
theorem wi4 : ∀ t : Fin cfg0.N, win0_4.index t 0 = 0 ∧ win0_4.index t 1 = 0 :=
  (by decide +kernel : ∀ t : Fin grid0.N, win0_4.index t 0 = 0 ∧ win0_4.index t 1 = 0)
theorem wi5 : ∀ t : Fin cfg0.N, win0_5.index t 0 = 0 ∧ win0_5.index t 1 = 0 :=
  (by decide +kernel : ∀ t : Fin grid0.N, win0_5.index t 0 = 0 ∧ win0_5.index t 1 = 0)
theorem wi6 : ∀ t : Fin cfg0.N, win0_6.index t 0 = 0 ∧ win0_6.index t 1 = 0 :=
  (by decide +kernel : ∀ t : Fin grid0.N, win0_6.index t 0 = 0 ∧ win0_6.index t 1 = 0)

section blocks
variable (m : (ℓ : Loc nD τ sig) → Buf (Elt Ideal) ℓ) (c : Dev nD) (t : Fin cfg0.N)

theorem blk0 (r : Fin 64) (k : Fin 1536) :
    iblk m c 0 t (ix2 r k) = m ((c.tc : Thread nD τ).loc main_arg0) (ix2 (⟨r, by omega⟩ : Fin 4160) k) := by
  have hi := wi0 t
  unfold iblk
  rw [View.read_apply]
  show V m c main_arg0 _ = m (c.tc.loc main_arg0) _
  unfold V
  congr 1
  funext a
  apply Fin.ext
  match a with
  | ⟨0, _⟩ => show win0_0.index t 0 * 64 + 1 * (r : ℕ) = (r : ℕ); rw [hi.1]; omega
  | ⟨1, _⟩ => show win0_0.index t 1 * 1536 + 1 * (k : ℕ) = k; rw [hi.2]; omega

theorem blk1 (r : Fin 1024) (k : Fin 1536) :
    iblk m c 1 t (ix2 r k) = m ((c.tc : Thread nD τ).loc main_arg1) (ix2 r k) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 1024 + 1 * (r : ℕ) = (r : ℕ); rw [hi.1]; omega
  | ⟨1, _⟩ => show win0_1.index t 1 * 1536 + 1 * (k : ℕ) = k; rw [hi.2]; omega

theorem blk2 (r : Fin 64) (k : Fin 1024) :
    iblk m c 2 t (ix2 r k) = m ((c.tc : Thread nD τ).loc main_arg2) (ix2 (⟨r, by omega⟩ : Fin 4160) k) := by
  have hi := wi2 t
  unfold iblk
  rw [View.read_apply]
  show V m c main_arg2 _ = m (c.tc.loc main_arg2) _
  unfold V
  congr 1
  funext a
  apply Fin.ext
  match a with
  | ⟨0, _⟩ => show win0_2.index t 0 * 64 + 1 * (r : ℕ) = (r : ℕ); rw [hi.1]; omega
  | ⟨1, _⟩ => show win0_2.index t 1 * 1024 + 1 * (k : ℕ) = k; rw [hi.2]; omega

theorem blk3 (r : Fin 1) (k : Fin 1024) :
    iblk m c 3 t (ix2 r k) = m ((c.tc : Thread nD τ).loc main_arg3) (ix2 r k) := by
  have hi := wi3 t
  unfold iblk
  rw [View.read_apply]
  show V m c main_arg3 _ = m (c.tc.loc main_arg3) _
  unfold V
  congr 1
  funext a
  apply Fin.ext
  match a with
  | ⟨0, _⟩ => show win0_3.index t 0 * 1 + 1 * (r : ℕ) = (r : ℕ); rw [hi.1]; omega
  | ⟨1, _⟩ => show win0_3.index t 1 * 1024 + 1 * (k : ℕ) = k; rw [hi.2]; omega

theorem blk4 (r : Fin 64) (k : Fin 1024) :
    iblk m c 4 t (ix2 r k) = m ((c.tc : Thread nD τ).loc main_arg4) (ix2 (⟨r, by omega⟩ : Fin 4160) k) := by
  have hi := wi4 t
  unfold iblk
  rw [View.read_apply]
  show V m c main_arg4 _ = m (c.tc.loc main_arg4) _
  unfold V
  congr 1
  funext a
  apply Fin.ext
  match a with
  | ⟨0, _⟩ => show win0_4.index t 0 * 64 + 1 * (r : ℕ) = (r : ℕ); rw [hi.1]; omega
  | ⟨1, _⟩ => show win0_4.index t 1 * 1024 + 1 * (k : ℕ) = k; rw [hi.2]; omega

end blocks

theorem emb5 (t : Fin cfg0.N) (r : Fin 64) (k : Fin 1024) : ((cfg0.win 5).blk t).view.emb (ix2 r k)
    = (ix2 r k : S64x1024.Idx) := by
  have hi := wi5 t
  funext a
  apply Fin.ext
  match a with
  | ⟨0, _⟩ => show win0_5.index t 0 * 64 + 1 * (r : ℕ) = (r : ℕ); rw [hi.1]; omega
  | ⟨1, _⟩ => show win0_5.index t 1 * 1024 + 1 * (k : ℕ) = k; rw [hi.2]; omega

theorem emb6 (t : Fin cfg0.N) (r : Fin 1) (k : Fin 1024) : ((cfg0.win 6).blk t).view.emb (ix2 r k)
    = (ix2 r k : S1x1024.Idx) := by
  have hi := wi6 t
  funext a
  apply Fin.ext
  match a with
  | ⟨0, _⟩ => show win0_6.index t 0 * 1 + 1 * (r : ℕ) = (r : ℕ); rw [hi.1]; omega
  | ⟨1, _⟩ => show win0_6.index t 1 * 1024 + 1 * (k : ℕ) = k; rw [hi.2]; omega

section run
variable {m : (ℓ : Loc nD τ sig) → Buf (Elt Ideal) ℓ} {c : Dev nD} {D : Data}
  (H : Args D (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)))
include H

/-- The blocks a point reads hold the data. -/
theorem inAt (t : Fin cfg0.N) : In D t.val (iblk m c 0 t) (iblk m c 1 t) (iblk m c 2 t) (iblk m c 3 t) (iblk m c 4 t) where
  dz := fun r f => (blk0 m c t r f).trans (H.dz _ f)
  w := fun k f => (blk1 m c t k f).trans (H.w k f)
  h := fun r k => (blk2 m c t r k).trans (H.h _ k)
  g := fun k => (blk3 m c t 0 k).trans (H.g k)
  dh := fun r k => (blk4 m c t r k).trans (H.dh _ k)
  eps := H.eps

theorem flushed5_eq (t : Fin cfg0.N) (hf : (cfg0.win 5).flush t = true) :
    (dats m 0 c).flushed 5 t = ((cfg0.win 5).blk t).view.read (Elt Ideal) (H0 D) := by
  rw [Value.flushed5, out_eq]
  funext y
  obtain ⟨r, k, rfl⟩ : ∃ (r : Fin 64) (k : Fin 1024), y = ix2 r k := ⟨y 0, y 1, Ff.eta y⟩
  rw [View.read_apply, emb5]
  exact res_at (inAt H t) r k

theorem final5 : (dats m 0 c).arrAt 5 cfg0.N = H0 D :=
  (dats m 0 c).arrAt_eq_of_cover 5 _ (flushed5_eq H) fun y => by
    have hN : 0 < cfg0.N := by show _ < 1; omega
    refine ⟨⟨0, hN⟩, (by decide +kernel : ∀ t : Fin grid0.N, (cfg0.win 5).flush t = true) _, ?_⟩
    have h := ((cfg0.win 5).blk (⟨0, hN⟩ : Fin cfg0.N)).view.emb_mem_set (ix2 (⟨y 0, (y 0).isLt⟩ : Fin 64) (⟨y 1, (y 1).isLt⟩ : Fin 1024))
    rw [emb5] at h
    refine Eq.mp (congrArg (· ∈ _) ?_) h
    funext a
    match a with
    | ⟨0, _⟩ => rfl
    | ⟨1, _⟩ => rfl

theorem flushed6_eq (t : Fin cfg0.N) (hf : (cfg0.win 6).flush t = true) :
    (dats m 0 c).flushed 6 t = ((cfg0.win 6).blk t).view.read (Elt Ideal) (H1 D) := by
  rw [Value.flushed6, dg_eq]
  funext y
  obtain ⟨r, k, rfl⟩ : ∃ (r : Fin 1) (k : Fin 1024), y = ix2 r k := ⟨y 0, y 1, Ff.eta y⟩
  obtain rfl : r = 0 := Subsingleton.elim _ _
  rw [View.read_apply, emb6]
  exact part_at (inAt H t) k

theorem final6 : (dats m 0 c).arrAt 6 cfg0.N = H1 D :=
  (dats m 0 c).arrAt_eq_of_cover 6 _ (flushed6_eq H) fun y => by
    have hN : 0 < cfg0.N := by show _ < 1; omega
    refine ⟨⟨0, hN⟩, (by decide +kernel : ∀ t : Fin grid0.N, (cfg0.win 6).flush t = true) _, ?_⟩
    have h := ((cfg0.win 6).blk (⟨0, hN⟩ : Fin cfg0.N)).view.emb_mem_set (ix2 (⟨y 0, (y 0).isLt⟩ : Fin 1) (⟨y 1, (y 1).isLt⟩ : Fin 1024))
    rw [emb6] at h
    refine Eq.mp (congrArg (· ∈ _) ?_) h
    funext a
    match a with
    | ⟨0, _⟩ => rfl
    | ⟨1, _⟩ => rfl

end run

end Cert.Proof.Dh

end
-- ==== Proof.DhRef.lean ====
/- The reference's backward pass of the normalised projection at an index, on the first chunk: each value is the real number of the specification. -/
module

public import proofs.«01_k».proof.Proof.DiSpec
public import proofs.«01_k».proof.Proof.FfRef
public import proofs.«01_k».proof.Proof.Gen.Reference13Ideal.Run

@[expose] public section

set_option maxRecDepth 16384

noncomputable section

namespace Cert.Proof.Dh

open Idealize.ShloMosaic Cert.Reference13Ideal Cert.Reference13Ideal.Gen Cert.Proof.Di
open Cert.Proof.Gla (cadd csub cmul csum cdiv crsqrt czero word_neg_half)
open Cert.Proof.Dn (Data ms ms_pos rr xh)

/-- The rows' input. -/
def rH (a2 : FVec Ideal S4160x1024 .f32) : FVec Ideal S64x1024 .f32 :=
  extractStridedSlice S64x1024 ![0, 0] a2 slices_S4160x1024_S64x1024_0_0

/-- The gradient of the scaled normalised input. -/
def rAcc (a0 : FVec Ideal S4160x1536 .bf16) (a1 : FVec Ideal S1024x1536 .bf16) : FVec Ideal S64x1024 .f32 :=
  Host.dotGeneral dot_S64x1536_S1024x1536_S64x1024_1_1_0_0_n_n none (extf .f32 (extractStridedSlice S64x1536 ![0, 0] a0
    slices_S4160x1536_S64x1536_0_0) bitsLt_bf16_f32) (extf .f32 a1 bitsLt_bf16_f32)

/-- The mean square of each row. -/
def rMs (a2 : FVec Ideal S4160x1024 .f32) : FVec Ideal S64x1 .f32 :=
  addf (Host.divf (broadcastInDim S64x1 ![0] bcast_S64_S64x1_0 (Host.reduceAdd (mulf (rH a2) (rH a2)) (constant S_ .f32
    0x00000000#32) reducesTo_S64x1024_S64_d1 h_S_)) (broadcastInDim S64x1 ![] bcast_S_S64x1 (constant S_ .f32
    0x44800000#32))) (broadcastInDim S64x1 ![] bcast_S_S64x1 (constant S_ .f32 0x3727C5AC#32))

/-- The gradient through the mean square, of half of each element. -/
def rTan (a0 : FVec Ideal S4160x1536 .bf16) (a1 : FVec Ideal S1024x1536 .bf16) (a2 : FVec Ideal S4160x1024 .f32)
    (a3 : FVec Ideal S1x1024 .f32) : FVec Ideal S64 .f32 :=
  Host.reduceAdd (Host.divf (mulf (shapeCast _ (Host.reduceAdd (mulf (rH a2) (mulf (rAcc a0 a1) (broadcastInDim
    S64x1024 ![0, 1] bcast_S1x1024_S64x1024_0_1 a3))) (constant S_ .f32 0x00000000#32)
    reducesTo_S64x1024_S64_d1 h_S_) shapeCasts_S64_S64x1) (mulf (broadcastInDim S64x1 ![] bcast_S_S64x1
    (constant S_ .f32 0xBF000000#32)) (Host.divf (Host.rsqrt (rMs a2)) (rMs a2)))) (broadcastInDim S64x1 ![]
    bcast_S_S64x1 (constant S_ .f32 0x44800000#32))) (constant S_ .f32 0x00000000#32) reducesTo_S64x1_S64_d1 h_S_

/-- The gradient of the input, before the padding rows are cleared. -/
def rThru (a0 : FVec Ideal S4160x1536 .bf16) (a1 : FVec Ideal S1024x1536 .bf16) (a2 : FVec Ideal S4160x1024 .f32)
    (a3 : FVec Ideal S1x1024 .f32) (a4 : FVec Ideal S4160x1024 .f32) : FVec Ideal S64x1024 .f32 :=
  addf (extractStridedSlice S64x1024 ![0, 0] a4 slices_S4160x1024_S64x1024_0_0) (addf (addf (mulf (mulf (rAcc a0 a1)
    (broadcastInDim S64x1024 ![0, 1] bcast_S1x1024_S64x1024_0_1 a3)) (broadcastInDim S64x1024 ![0, 1]
    bcast_S64x1_S64x1024_0_1 (Host.rsqrt (rMs a2)))) (mulf (rH a2) (broadcastInDim S64x1024 ![0]
    bcast_S64_S64x1024_0 (rTan a0 a1 a2 a3)))) (mulf (broadcastInDim S64x1024 ![0] bcast_S64_S64x1024_0 (rTan a0 a1 a2 a3)) (rH a2)))

/-- The gradient of the gain. -/
def rDg (a0 : FVec Ideal S4160x1536 .bf16) (a1 : FVec Ideal S1024x1536 .bf16) (a2 : FVec Ideal S4160x1024 .f32) :
    FVec Ideal S1x1024 .f32 :=
  shapeCast _ (Host.reduceAdd (mulf (mulf (rH a2) (broadcastInDim S64x1024 ![0, 1] bcast_S64x1_S64x1024_0_1
    (Host.rsqrt (rMs a2)))) (rAcc a0 a1)) (constant S_ .f32 0x00000000#32) reducesTo_S64x1024_S1024_d0 h_S_)
    shapeCasts_S1024_S1x1024

section
variable {D : Data} {a0 : FVec Ideal S4160x1536 .bf16} {a1 : FVec Ideal S1024x1536 .bf16}
  {a2 : FVec Ideal S4160x1024 .f32} {a3 : FVec Ideal S1x1024 .f32} {a4 : FVec Ideal S4160x1024 .f32}
  (H : Args D a0 a1 a2 a3 a4)
include H

theorem rH_at (r : Fin 64) (c : Fin 1024) : rH a2 (ix2 r c) = ((D.h r c : ℝ) : EReal) := by
  pointwise [rH]
  simp only [H.h, Fin.val_mk, zero_add]

theorem rAcc_at (r : Fin 64) (c : Fin 1024) : rAcc a0 a1 (ix2 r c) = ((acc D r c : ℝ) : EReal) := by
  pointwise [rAcc]
  simp only [H.dz, H.w, cmul, csum, acc_eq, Fin.val_mk, zero_add]

theorem rMs_at (r : Fin 64) : rMs a2 (ix2 r 0) = ((ms D r : ℝ) : EReal) := by
  pointwise [rMs]
  simp only [rH_at H, H.eps, Ff.word_1024, cmul, csum, cadd, cdiv _ _ (by norm_num : (1024 : ℝ) ≠ 0), ms]

theorem rTan_at (r : Fin 64) : rTan a0 a1 a2 a3 (ix1 r)
    = (((∑ c : Fin 1024, D.h r c * (acc D r c * D.g c)) * (-(1 / 2) * (rr D r / ms D r)) / 1024 : ℝ) : EReal) := by
  pointwise [rTan]
  simp only [Finset.univ_unique, Fin.default_eq_zero, Finset.sum_singleton]
  simp only [rMs_at H, rAcc_at H, rH_at H, H.g, crsqrt _ (ms_pos _ _), cdiv _ _ (ms_pos _ _).ne', word_neg_half, Ff.word_1024, cmul,
    csum, cdiv _ _ (by norm_num : (1024 : ℝ) ≠ 0)]
  rfl

theorem rThru_at (r : Fin 64) (c : Fin 1024) : rThru a0 a1 a2 a3 a4 (ix2 r c) = ((thru D r c : ℝ) : EReal) := by
  pointwise [rThru]
  simp only [rMs_at H, rAcc_at H, rTan_at H, H.dh, rH_at H, H.g, crsqrt _ (ms_pos _ _), cmul, cadd, Fin.val_mk, zero_add]
  rw [← thru_eq]
  rfl

theorem rDg_at (c : Fin 1024) : rDg a0 a1 a2 (ix2 0 c)
    = ((∑ r : Fin 64, acc D r c * xh D r c : ℝ) : EReal) := by
  pointwise [rDg]
  simp only [rMs_at H, rAcc_at H, rH_at H, crsqrt _ (ms_pos _ _), cmul, csum, xh, rr]
  congr 1
  refine Finset.sum_congr rfl fun r _ => ?_
  ring

omit H in
/-- The reference's first result, in these terms. -/
theorem res_out (m : (ℓ : Loc nD τ sig) → Buf (Elt Ideal) ℓ) (c : Dev nD) :
    Value.res_out0 m c = select (broadcastInDim S64x1024 ![0, 1] bcast_S64x1_S64x1024_0_1 (broadcastInDim S64x1 ![0]
      bcast_S64_S64x1_0 (cmpi .sge (iotaInDim S64 32 0) (broadcastInDim S64 ![] bcast_S_S64 (constantI S_ 32 48#32)))))
      (rThru (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      (broadcastInDim S64x1024 ![] bcast_S_S64x1024 (id (constant S_ .f32 0x00000000#32))) := rfl

theorem ref_out : select (broadcastInDim S64x1024 ![0, 1] bcast_S64x1_S64x1024_0_1 (broadcastInDim S64x1 ![0]
      bcast_S64_S64x1_0 (cmpi .sge (iotaInDim S64 32 0) (broadcastInDim S64 ![] bcast_S_S64 (constantI S_ 32 48#32)))))
      (rThru a0 a1 a2 a3 a4) (broadcastInDim S64x1024 ![] bcast_S_S64x1024 (id (constant S_ .f32 0x00000000#32))) = H0 D := by
  funext y
  obtain ⟨r, k, rfl⟩ : ∃ (r : Fin 64) (k : Fin 1024), y = ix2 r k := ⟨y 0, y 1, Ff.eta y⟩
  have e := rThru_at H r k
  pointwise []
  rw [e, show id (constant (F := Ideal) S_ FTy.f32 0#32) ix0 = (0 : EReal) from Ff.word_0]
  exact Ff.select_48 _ (by omega) _

theorem ref_dg : rDg a0 a1 a2 = H1 D := by
  funext y
  obtain ⟨r, k, rfl⟩ : ∃ (r : Fin 1) (k : Fin 1024), y = ix2 r k := ⟨y 0, y 1, Ff.eta y⟩
  obtain rfl : r = 0 := Subsingleton.elim _ _
  exact rDg_at H k

end

end Cert.Proof.Dh

end
-- ==== Proof.DrPoint.lean ====
/- The convolution projection's backward pass after the first chunk: what a grid point leaves, from the blocks it reads. -/
module

public import proofs.«01_k».proof.Proof.Gen.Kernel14Ideal.Value
public import proofs.«01_k».proof.Proof.DiSpec

@[expose] public section

set_option maxRecDepth 16384

noncomputable section

namespace Cert.Proof.Dr

open Idealize.ShloMosaic Idealize.SL.Sem Cert.Kernel14Ideal Cert.Kernel14Ideal.Gen Cert.Proof.Di
open Cert.Proof.Gla (cadd csub cmul csum cdiv crsqrt czero word_neg_half)
open Cert.Proof.Dn (Data ms ms_pos rr xh)

/-- The product of a block of rows with the weight, in the kernel's three pieces of columns. -/
abbrev kAcc (b0 : Vec Ideal S512x1536 .bf16) (b1 : Vec Ideal S1024x1536 .bf16) : FVec Ideal S512x1024 .f32 :=
  k0_pay5 (View.ld b0 (Rect.unit (s := S512x1536) ![0, 0] S512x512.size inb_S512x1536_S512x512_0_0))
    (View.ld b1 (Rect.unit (s := S1024x1536) ![0, 0] S1024x512.size inb_S1024x1536_S1024x512_0_0))
    (View.ld b0 (Rect.unit (s := S512x1536) ![0, 512] S512x512.size inb_S512x1536_S512x512_0_512))
    (View.ld b1 (Rect.unit (s := S1024x1536) ![0, 512] S1024x512.size inb_S1024x1536_S1024x512_0_512))
    (View.ld b0 (Rect.unit (s := S512x1536) ![0, 1024] S512x512.size inb_S512x1536_S512x512_0_1024))
    (View.ld b1 (Rect.unit (s := S1024x1536) ![0, 1024] S1024x512.size inb_S1024x1536_S1024x512_0_1024))

/-- The product scaled by the gain. -/
abbrev kSc (b0 : Vec Ideal S512x1536 .bf16) (b1 : Vec Ideal S1024x1536 .bf16) (b3 : Vec Ideal S1x1024 .f32) :
    FVec Ideal S512x1024 .f32 :=
  k0_pay8 (View.ld b0 (Rect.unit (s := S512x1536) ![0, 0] S512x512.size inb_S512x1536_S512x512_0_0))
    (View.ld b1 (Rect.unit (s := S1024x1536) ![0, 0] S1024x512.size inb_S1024x1536_S1024x512_0_0))
    (View.ld b0 (Rect.unit (s := S512x1536) ![0, 512] S512x512.size inb_S512x1536_S512x512_0_512))
    (View.ld b1 (Rect.unit (s := S1024x1536) ![0, 512] S1024x512.size inb_S1024x1536_S1024x512_0_512))
    (View.ld b0 (Rect.unit (s := S512x1536) ![0, 1024] S512x512.size inb_S512x1536_S512x512_0_1024))
    (View.ld b1 (Rect.unit (s := S1024x1536) ![0, 1024] S1024x512.size inb_S1024x1536_S1024x512_0_1024)) b3

/-- The part along the normalised input. -/
abbrev kAl (b0 : Vec Ideal S512x1536 .bf16) (b1 : Vec Ideal S1024x1536 .bf16) (b2 : Vec Ideal S512x1024 .f32)
    (b3 : Vec Ideal S1x1024 .f32) : FVec Ideal S512x1024 .f32 :=
  k0_pay9 (View.ld b0 (Rect.unit (s := S512x1536) ![0, 0] S512x512.size inb_S512x1536_S512x512_0_0))
    (View.ld b1 (Rect.unit (s := S1024x1536) ![0, 0] S1024x512.size inb_S1024x1536_S1024x512_0_0))
    (View.ld b0 (Rect.unit (s := S512x1536) ![0, 512] S512x512.size inb_S512x1536_S512x512_0_512))
    (View.ld b1 (Rect.unit (s := S1024x1536) ![0, 512] S1024x512.size inb_S1024x1536_S1024x512_0_512))
    (View.ld b0 (Rect.unit (s := S512x1536) ![0, 1024] S512x512.size inb_S512x1536_S512x512_0_1024))
    (View.ld b1 (Rect.unit (s := S1024x1536) ![0, 1024] S1024x512.size inb_S1024x1536_S1024x512_0_1024)) b2 b3

theorem z2 : (![0, 0] : Fin 2 → ℕ) = fun _ => 0 := by
  funext a
  match a with
  | ⟨0, _⟩ => rfl
  | ⟨1, _⟩ => rfl

theorem lt8 (t : Fin cfg0.N) : t.val < 8 := t.isLt

theorem out_A (m : (ℓ : Loc nD τ sig) → Buf (Elt Ideal) ℓ) (c : Dev nD) (t : Fin cfg0.N) (h : t.val = 0) :
    (outsAt0 m c t.val t.isLt).1 = k0_pay1 (k0_pay6 (iblk m c 2 t)) (kSc (iblk m c 0 t) (iblk m c 1 t) (iblk m c 3 t))
      (kAl (iblk m c 0 t) (iblk m c 1 t) (iblk m c 2 t) (iblk m c 3 t)) (iblk m c 4 t) := by
  rw [outsAt0_A m c t (by omega) (by omega)]
  dsimp only
  unfold out0_A_6
  rw [View.read_writes_junk_eq_canon]
  unfold kernelRun0_A
  dsimp only
  rw [View.canon_unit_zero z2]
  unfold kernelRun0_A.sl.r_1 kernelRun0_A.sl.r_3 kernelRun0_A.sl.r_4
  repeat rw [View.readAt_eq_ld]
  rw [(hs0_0 t).read_unread, (hs0_1 t).read_unread, (hs0_2 t).read_unread, (hs0_3 t).read_unread, (hs0_4 t).read_unread]
  repeat rw [View.ld_unit_zero z2]

theorem out_B (m : (ℓ : Loc nD τ sig) → Buf (Elt Ideal) ℓ) (c : Dev nD) (t : Fin cfg0.N) (h : t.val ≠ 0) :
    (outsAt0 m c t.val t.isLt).1 = k0_pay1 (k0_pay6 (iblk m c 2 t)) (kSc (iblk m c 0 t) (iblk m c 1 t) (iblk m c 3 t))
      (kAl (iblk m c 0 t) (iblk m c 1 t) (iblk m c 2 t) (iblk m c 3 t)) (iblk m c 4 t) := by
  rw [outsAt0_B m c t (by have := lt8 t; omega) (by omega)]
  dsimp only
  unfold out0_B_6
  rw [View.read_writes_junk_eq_canon]
  unfold kernelRun0_B
  dsimp only
  rw [View.canon_unit_zero z2]
  unfold kernelRun0_B.sl.r_1 kernelRun0_B.sl.r_3 kernelRun0_B.sl.r_4
  repeat rw [View.readAt_eq_ld]
  rw [(hs0_0 t).read_unread, (hs0_1 t).read_unread, (hs0_2 t).read_unread, (hs0_3 t).read_unread, (hs0_4 t).read_unread]
  repeat rw [View.ld_unit_zero z2]

theorem dg_A (m : (ℓ : Loc nD τ sig) → Buf (Elt Ideal) ℓ) (c : Dev nD) (t : Fin cfg0.N) (h : t.val = 0) :
    (outsAt0 m c t.val t.isLt).2 = k0_pay3 (kAcc (iblk m c 0 t) (iblk m c 1 t)) (k0_pay7 (iblk m c 2 t)) (iblk m c 5 t) := by
  rw [outsAt0_A m c t (by omega) (by omega)]
  dsimp only
  unfold out0_A_7
  rw [View.read_writes_junk_eq_canon]
  unfold kernelRun0_A
  dsimp only
  rw [View.canon_unit_zero z2]
  unfold kernelRun0_A.sl.r kernelRun0_A.sl.r_2
  repeat rw [View.readAt_eq_ld]
  rw [(hs0_0 t).read_unread, (hs0_1 t).read_unread, (hs0_2 t).read_unread, (hs0_5 t).read_unread]
  repeat rw [View.ld_unit_zero z2]

theorem dg_B (m : (ℓ : Loc nD τ sig) → Buf (Elt Ideal) ℓ) (c : Dev nD) (t : Fin cfg0.N) (h : t.val ≠ 0) :
    (outsAt0 m c t.val t.isLt).2 = k0_pay4 (kAcc (iblk m c 0 t) (iblk m c 1 t)) (k0_pay7 (iblk m c 2 t))
      (outsAt0 m c (t.val - 1) (Nat.lt_of_le_of_lt (Nat.sub_le _ _) t.isLt)).2 := by
  rw [outsAt0_B m c t (by have := lt8 t; omega) (by omega)]
  dsimp only
  unfold out0_B_7
  rw [View.read_writes_junk_eq_canon]
  unfold kernelRun0_B
  dsimp only
  rw [View.canon_unit_zero z2]
  unfold kernelRun0_B.sl.r kernelRun0_B.sl.r_2
  repeat rw [View.readAt_eq_ld]
  rw [(hs0_0 t).read_unread, (hs0_1 t).read_unread, (hs0_2 t).read_unread, (hs0_7 t).read_unread]
  repeat rw [View.ld_unit_zero z2]

/-- The blocks a point reads hold the data. -/
structure In (D : Data) (i : ℕ) (b0 : Vec Ideal S512x1536 .bf16) (b1 : Vec Ideal S1024x1536 .bf16)
    (b2 : Vec Ideal S512x1024 .f32) (b3 : Vec Ideal S1x1024 .f32) (b4 : Vec Ideal S512x1024 .f32) : Prop where
  dz : ∀ (r : Fin 512) (f : Fin 1536), b0 (ix2 r f) = ((D.dz (64 + (512 * i + r)) f : ℝ) : EReal)
  w : ∀ (c : Fin 1024) (f : Fin 1536), b1 (ix2 c f) = ((D.w c f : ℝ) : EReal)
  h : ∀ (r : Fin 512) (c : Fin 1024), b2 (ix2 r c) = ((D.h (64 + (512 * i + r)) c : ℝ) : EReal)
  g : ∀ c : Fin 1024, b3 (ix2 0 c) = ((D.g c : ℝ) : EReal)
  dh : ∀ (r : Fin 512) (c : Fin 1024), b4 (ix2 r c) = ((D.dh (64 + (512 * i + r)) c : ℝ) : EReal)
  eps : Ideal.ofBits .f32 0x3727C5AC#32 = ((D.eps : ℝ) : EReal)

section
variable {D : Data} {i : ℕ} {b0 : Vec Ideal S512x1536 .bf16} {b1 : Vec Ideal S1024x1536 .bf16}
  {b2 : Vec Ideal S512x1024 .f32} {b3 : Vec Ideal S1x1024 .f32} {b4 : Vec Ideal S512x1024 .f32}
  (H : In D i b0 b1 b2 b3 b4)
include H

theorem acc_at (r : Fin 512) (c : Fin 1024) : kAcc b0 b1 (ix2 r c) = ((acc D (64 + (512 * i + r)) c : ℝ) : EReal) := by
  pointwise [k0_pay5]
  simp only [H.dz, H.w, czero, cmul, csum, cadd, acc, Fin.val_mk, zero_add]

theorem rr_at (r : Fin 512) : k0_pay6 b2 (ix2 r 0) = ((rr D (64 + (512 * i + r)) : ℝ) : EReal) := by
  pointwise [k0_pay6]
  simp only [H.h, H.eps, Ff.word_1024, cmul, csum, cadd, cdiv _ _ (by norm_num : (1024 : ℝ) ≠ 0)]
  rw [← ms, crsqrt _ (ms_pos _ _), rr]

theorem xh_at (r : Fin 512) (c : Fin 1024) : k0_pay7 b2 (ix2 r c) = ((xh D (64 + (512 * i + r)) c : ℝ) : EReal) := by
  pointwise [k0_pay7]
  simp only [rr_at H, H.h, cmul, xh]

theorem sc_at (r : Fin 512) (c : Fin 1024) : kSc b0 b1 b3 (ix2 r c) = ((acc D (64 + (512 * i + r)) c * D.g c : ℝ) : EReal) := by
  have e := acc_at H r c
  pointwise [k0_pay8]
  rw [H.g]
  exact (congrArg (fun x : EReal => x * ((D.g c : ℝ) : EReal)) e).trans (cmul _ _)

theorem al_at (r : Fin 512) (c : Fin 1024) :
    kAl b0 b1 b2 b3 (ix2 r c) = ((xh D (64 + (512 * i + r)) c * proj D (64 + (512 * i + r)) : ℝ) : EReal) := by
  have e := fun k => sc_at H r k
  pointwise [k0_pay9]
  simp only [xh_at H, e, Ff.word_1024, cmul, csum, cdiv _ _ (by norm_num : (1024 : ℝ) ≠ 0)]
  rfl

theorem part_at (c : Fin 1024) : k0_pay2 (kAcc b0 b1) (k0_pay7 b2) (ix2 0 c) = ((dgB D i c : ℝ) : EReal) := by
  have e := fun r => acc_at H r c
  pointwise [k0_pay2]
  simp only [xh_at H, e, cmul, csum, dgB]

theorem first_at {p : ℕ → ℝ} {b5 : Vec Ideal S1x1024 .f32} (hp : Held p b5) (c : Fin 1024) :
    k0_pay3 (kAcc b0 b1) (k0_pay7 b2) b5 (ix2 0 c) = ((p c + dgB D i c : ℝ) : EReal) := by
  have e := part_at H c
  pointwise [k0_pay3]
  rw [e, hp, cadd]

theorem sum_at {p : ℕ → ℝ} {b : Vec Ideal S1x1024 .f32} (hp : ∀ c : Fin 1024, b (ix2 0 c) = ((p c + dgN D i c : ℝ) : EReal))
    (c : Fin 1024) :
    k0_pay4 (kAcc b0 b1) (k0_pay7 b2) b (ix2 0 c) = ((p c + dgN D (i + 1) c : ℝ) : EReal) := by
  have e := part_at H c
  pointwise [k0_pay4]
  rw [e, hp, cadd, dgN, dgN, Finset.sum_range_succ, add_assoc]

theorem res_at (r : Fin 512) (c : Fin 1024) :
    k0_pay1 (k0_pay6 b2) (kSc b0 b1 b3) (kAl b0 b1 b2 b3) b4 (ix2 r c)
      = ((thru D (64 + (512 * i + r)) c : ℝ) : EReal) := by
  have e1 := sc_at H r c
  have e2 := al_at H r c
  pointwise [k0_pay1]
  simp only [rr_at H, e1, e2, H.dh, cmul, cadd, csub]
  rfl

end

end Cert.Proof.Dr

end
-- ==== Proof.DrGrid.lean ====
/- The convolution projection's backward pass after the first chunk over its grid: the running sum after each point, and what the grid leaves. -/
module

public import proofs.«01_k».proof.Proof.DrPoint

@[expose] public section

set_option maxRecDepth 16384

noncomputable section

namespace Cert.Proof.Dr

open Idealize.ShloMosaic Idealize.SL.Sem Cert.Kernel14Ideal Cert.Kernel14Ideal.Gen Cert.Proof.Di
open Cert.Proof.Dn (Data)

theorem row_lt (t : Fin cfg0.N) (r : Fin 512) : 64 + (512 * t.val + (r : ℕ)) < 4160 := by have := lt8 t; omega
theorem row_lt' (t : Fin cfg0.N) (r : Fin 512) : 512 * t.val + (r : ℕ) < 4096 := by have := lt8 t; omega

theorem wi0 : ∀ t : Fin cfg0.N, win0_0.index t 0 = 64 + 512 * t.val ∧ win0_0.index t 1 = 0 :=
  (by decide +kernel : ∀ t : Fin grid0.N, win0_0.index t 0 = 64 + 512 * t.val ∧ win0_0.index t 1 = 0)
theorem wi2 : ∀ t : Fin cfg0.N, win0_2.index t 0 = 64 + 512 * t.val ∧ win0_2.index t 1 = 0 :=
  (by decide +kernel : ∀ t : Fin grid0.N, win0_2.index t 0 = 64 + 512 * t.val ∧ win0_2.index t 1 = 0)
theorem wi4 : ∀ t : Fin cfg0.N, win0_4.index t 0 = 64 + 512 * t.val ∧ win0_4.index t 1 = 0 :=
  (by decide +kernel : ∀ t : Fin grid0.N, win0_4.index t 0 = 64 + 512 * t.val ∧ win0_4.index t 1 = 0)
theorem wi1 : ∀ t : Fin cfg0.N, win0_1.index t 0 = 0 ∧ win0_1.index t 1 = 0 :=
  (by decide +kernel : ∀ t : Fin grid0.N, win0_1.index t 0 = 0 ∧ win0_1.index t 1 = 0)
theorem wi3 : ∀ t : Fin cfg0.N, win0_3.index t 0 = 0 ∧ win0_3.index t 1 = 0 :=
  (by decide +kernel : ∀ t : Fin grid0.N, win0_3.index t 0 = 0 ∧ win0_3.index t 1 = 0)
theorem wi5 : ∀ t : Fin cfg0.N, win0_5.index t 0 = 0 ∧ win0_5.index t 1 = 0 :=
  (by decide +kernel : ∀ t : Fin grid0.N, win0_5.index t 0 = 0 ∧ win0_5.index t 1 = 0)
theorem wi7 : ∀ t : Fin cfg0.N, win0_7.index t 0 = 0 ∧ win0_7.index t 1 = 0 :=
  (by decide +kernel : ∀ t : Fin grid0.N, win0_7.index t 0 = 0 ∧ win0_7.index t 1 = 0)
theorem wi6 : ∀ t : Fin cfg0.N, win0_6.index t 0 = t.val ∧ win0_6.index t 1 = 0 :=
  (by decide +kernel : ∀ t : Fin grid0.N, win0_6.index t 0 = t.val ∧ win0_6.index t 1 = 0)

section blocks
variable (m : (ℓ : Loc nD τ sig) → Buf (Elt Ideal) ℓ) (c : Dev nD) (t : Fin cfg0.N)

theorem blk0 (r : Fin 512) (k : Fin 1536) :
    iblk m c 0 t (ix2 r k) = m ((c.tc : Thread nD τ).loc main_arg0) (ix2 (⟨64 + (512 * t.val + r), row_lt t r⟩ : Fin 4160) k) := by
  have hi := wi0 t
  unfold iblk
  rw [View.read_apply]
  show V m c main_arg0 _ = m (c.tc.loc main_arg0) _
  unfold V
  congr 1
  funext a
  apply Fin.ext
  match a with
  | ⟨0, _⟩ => show win0_0.index t 0 + 1 * (r : ℕ) = 64 + (512 * t.val + (r : ℕ)); rw [hi.1]; omega
  | ⟨1, _⟩ => show win0_0.index t 1 + 1 * (k : ℕ) = k; rw [hi.2]; omega

theorem blk1 (r : Fin 1024) (k : Fin 1536) :
    iblk m c 1 t (ix2 r k) = m ((c.tc : Thread nD τ).loc main_arg1) (ix2 r k) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 1024 + 1 * (r : ℕ) = (r : ℕ); rw [hi.1]; omega
  | ⟨1, _⟩ => show win0_1.index t 1 * 1536 + 1 * (k : ℕ) = k; rw [hi.2]; omega

theorem blk2 (r : Fin 512) (k : Fin 1024) :
    iblk m c 2 t (ix2 r k) = m ((c.tc : Thread nD τ).loc main_arg2) (ix2 (⟨64 + (512 * t.val + r), row_lt t r⟩ : Fin 4160) k) := by
  have hi := wi2 t
  unfold iblk
  rw [View.read_apply]
  show V m c main_arg2 _ = m (c.tc.loc main_arg2) _
  unfold V
  congr 1
  funext a
  apply Fin.ext
  match a with
  | ⟨0, _⟩ => show win0_2.index t 0 + 1 * (r : ℕ) = 64 + (512 * t.val + (r : ℕ)); rw [hi.1]; omega
  | ⟨1, _⟩ => show win0_2.index t 1 + 1 * (k : ℕ) = k; rw [hi.2]; omega

theorem blk3 (r : Fin 1) (k : Fin 1024) :
    iblk m c 3 t (ix2 r k) = m ((c.tc : Thread nD τ).loc main_arg3) (ix2 r k) := by
  have hi := wi3 t
  unfold iblk
  rw [View.read_apply]
  show V m c main_arg3 _ = m (c.tc.loc main_arg3) _
  unfold V
  congr 1
  funext a
  apply Fin.ext
  match a with
  | ⟨0, _⟩ => show win0_3.index t 0 * 1 + 1 * (r : ℕ) = (r : ℕ); rw [hi.1]; omega
  | ⟨1, _⟩ => show win0_3.index t 1 * 1024 + 1 * (k : ℕ) = k; rw [hi.2]; omega

theorem blk4 (r : Fin 512) (k : Fin 1024) :
    iblk m c 4 t (ix2 r k) = m ((c.tc : Thread nD τ).loc main_arg4) (ix2 (⟨64 + (512 * t.val + r), row_lt t r⟩ : Fin 4160) k) := by
  have hi := wi4 t
  unfold iblk
  rw [View.read_apply]
  show V m c main_arg4 _ = m (c.tc.loc main_arg4) _
  unfold V
  congr 1
  funext a
  apply Fin.ext
  match a with
  | ⟨0, _⟩ => show win0_4.index t 0 + 1 * (r : ℕ) = 64 + (512 * t.val + (r : ℕ)); rw [hi.1]; omega
  | ⟨1, _⟩ => show win0_4.index t 1 + 1 * (k : ℕ) = k; rw [hi.2]; omega

theorem blk5 (r : Fin 1) (k : Fin 1024) :
    iblk m c 5 t (ix2 r k) = m ((c.tc : Thread nD τ).loc main_arg5) (ix2 r k) := by
  have hi := wi5 t
  unfold iblk
  rw [View.read_apply]
  show V m c main_arg5 _ = m (c.tc.loc main_arg5) _
  unfold V
  congr 1
  funext a
  apply Fin.ext
  match a with
  | ⟨0, _⟩ => show win0_5.index t 0 * 1 + 1 * (r : ℕ) = (r : ℕ); rw [hi.1]; omega
  | ⟨1, _⟩ => show win0_5.index t 1 * 1024 + 1 * (k : ℕ) = k; rw [hi.2]; omega

end blocks

theorem emb6 (t : Fin cfg0.N) (r : Fin 512) (k : Fin 1024) : ((cfg0.win 6).blk t).view.emb (ix2 r k)
    = (ix2 (⟨512 * t.val + r, row_lt' t r⟩ : Fin 4096) k : S4096x1024.Idx) := by
  have hi := wi6 t
  funext a
  apply Fin.ext
  match a with
  | ⟨0, _⟩ => show win0_6.index t 0 * 512 + 1 * (r : ℕ) = 512 * t.val + (r : ℕ); rw [hi.1]; omega
  | ⟨1, _⟩ => show win0_6.index t 1 * 1024 + 1 * (k : ℕ) = k; rw [hi.2]; omega

theorem emb7 (t : Fin cfg0.N) (r : Fin 1) (k : Fin 1024) : ((cfg0.win 7).blk t).view.emb (ix2 r k)
    = (ix2 r k : S1x1024.Idx) := by
  have hi := wi7 t
  funext a
  apply Fin.ext
  match a with
  | ⟨0, _⟩ => show win0_7.index t 0 * 1 + 1 * (r : ℕ) = (r : ℕ); rw [hi.1]; omega
  | ⟨1, _⟩ => show win0_7.index t 1 * 1024 + 1 * (k : ℕ) = k; rw [hi.2]; omega

section run
variable {m : (ℓ : Loc nD τ sig) → Buf (Elt Ideal) ℓ} {c : Dev nD} {D : Data}
  (H : Args D (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)))
include H

/-- The blocks a point reads hold the data. -/
theorem inAt (t : Fin cfg0.N) : In D t.val (iblk m c 0 t) (iblk m c 1 t) (iblk m c 2 t) (iblk m c 3 t) (iblk m c 4 t) where
  dz := fun r f => (blk0 m c t r f).trans (H.dz _ f)
  w := fun k f => (blk1 m c t k f).trans (H.w k f)
  h := fun r k => (blk2 m c t r k).trans (H.h _ k)
  g := fun k => (blk3 m c t 0 k).trans (H.g k)
  dh := fun r k => (blk4 m c t r k).trans (H.dh _ k)
  eps := H.eps

theorem out_at (t : Fin cfg0.N) (r : Fin 512) (k : Fin 1024) :
    (outsAt0 m c t.val t.isLt).1 (ix2 r k) = ((thru D (64 + (512 * t.val + r)) k : ℝ) : EReal) := by
  by_cases h : t.val = 0
  · rw [out_A m c t h]
    exact res_at (inAt H t) r k
  · rw [out_B m c t h]
    exact res_at (inAt H t) r k

theorem flushed6_eq (t : Fin cfg0.N) (hf : (cfg0.win 6).flush t = true) :
    (dats m 0 c).flushed 6 t = ((cfg0.win 6).blk t).view.read (Elt Ideal) (Di.G0 D) := by
  rw [Value.flushed6]
  funext y
  obtain ⟨r, k, rfl⟩ : ∃ (r : Fin 512) (k : Fin 1024), y = ix2 r k := ⟨y 0, y 1, Ff.eta y⟩
  rw [View.read_apply, emb6]
  exact out_at H t r k

theorem final6 : (dats m 0 c).arrAt 6 cfg0.N = Di.G0 D :=
  (dats m 0 c).arrAt_eq_of_cover 6 _ (flushed6_eq H) fun y => by
    have h0 : (y 0 : ℕ) < 4096 := (y 0).isLt
    have hN : (y 0 : ℕ) / 512 < cfg0.N := by show _ < 8; omega
    refine ⟨⟨(y 0 : ℕ) / 512, hN⟩, flush0_6 _, ?_⟩
    have h := ((cfg0.win 6).blk (⟨(y 0 : ℕ) / 512, hN⟩ : Fin cfg0.N)).view.emb_mem_set
      (ix2 (⟨(y 0 : ℕ) % 512, Nat.mod_lt _ (by decide)⟩ : Fin 512) (⟨y 1, (y 1).isLt⟩ : Fin 1024))
    rw [emb6] at h
    refine Eq.mp (congrArg (· ∈ _) ?_) h
    funext a
    apply Fin.ext
    match a with
    | ⟨0, _⟩ => show 512 * ((y 0 : ℕ) / 512) + (y 0 : ℕ) % 512 = y 0; omega
    | ⟨1, _⟩ => rfl

section gain
variable {p : ℕ → ℝ} (Hp : Held p (m ((c.tc : Thread nD τ).loc main_arg5)))
include Hp

/-- The running sum over the row blocks. -/
theorem dg_run (n : ℕ) : ∀ (hn : n < cfg0.N) (k : Fin 1024),
    (outsAt0 m c n hn).2 (ix2 (0 : Fin 1) k) = ((p k + dgN D (n + 1) k : ℝ) : EReal) := by
  induction n with
  | zero =>
    intro hn k
    have e := dg_A m c ⟨0, hn⟩ rfl
    dsimp only at e
    rw [e]
    refine (first_at (inAt H ⟨0, hn⟩) (fun x => (blk5 m c _ 0 x).trans (Hp x)) k).trans ?_
    rw [dgN, Finset.sum_range_one]
  | succ n ih =>
    intro hn k
    have e := dg_B m c ⟨n + 1, hn⟩ (Nat.succ_ne_zero n)
    dsimp only at e
    rw [e]
    exact sum_at (inAt H ⟨n + 1, hn⟩) (ih (Nat.lt_of_succ_lt hn)) k

theorem flushed7_eq (t : Fin cfg0.N) (hf : (cfg0.win 7).flush t = true) :
    (dats m 0 c).flushed 7 t = ((cfg0.win 7).blk t).view.read (Elt Ideal) (Di.G1 D p) := by
  have h := (flush0_7 t).mp hf
  have hl := lt8 t
  rw [Value.flushed7]
  funext y
  obtain ⟨r, k, rfl⟩ : ∃ (r : Fin 1) (k : Fin 1024), y = ix2 r k := ⟨y 0, y 1, Ff.eta y⟩
  obtain rfl : r = 0 := Subsingleton.elim _ _
  rw [View.read_apply, emb7]
  refine (dg_run H Hp t.val t.isLt k).trans ?_
  rw [show t.val + 1 = 8 by omega]
  rfl

theorem final7 : (dats m 0 c).arrAt 7 cfg0.N = Di.G1 D p :=
  (dats m 0 c).arrAt_eq_of_cover 7 _ (flushed7_eq H Hp) fun y => by
    have hN : 7 < cfg0.N := by show _ < 8; omega
    refine ⟨⟨7, hN⟩, (flush0_7 _).mpr rfl, ?_⟩
    have h := ((cfg0.win 7).blk (⟨7, hN⟩ : Fin cfg0.N)).view.emb_mem_set (ix2 (0 : Fin 1) (⟨y 1, (y 1).isLt⟩ : Fin 1024))
    rw [emb7] at h
    refine Eq.mp (congrArg (· ∈ _) ?_) h
    funext a
    match a with
    | ⟨0, _⟩ => exact Subsingleton.elim (α := Fin 1) _ _
    | ⟨1, _⟩ => rfl

end gain

end run

end Cert.Proof.Dr

end
-- ==== Proof.DrRef.lean ====
/- The reference's backward pass of the normalised projection at an index, on the rows after the first chunk: each value is the real number of the specification. -/
module

public import proofs.«01_k».proof.Proof.DiSpec
public import proofs.«01_k».proof.Proof.FfRef
public import proofs.«01_k».proof.Proof.Gen.Reference14Ideal.Run

@[expose] public section

set_option maxRecDepth 16384

noncomputable section

namespace Cert.Proof.Dr

open Idealize.ShloMosaic Cert.Reference14Ideal Cert.Reference14Ideal.Gen Cert.Proof.Di
open Cert.Proof.Gla (cadd csub cmul csum cdiv crsqrt czero word_neg_half)
open Cert.Proof.Dn (Data ms ms_pos rr xh)

/-- The rows' input. -/
def rH (a2 : FVec Ideal S4160x1024 .f32) : FVec Ideal S4096x1024 .f32 :=
  extractStridedSlice S4096x1024 ![64, 0] a2 slices_S4160x1024_S4096x1024_64_0

/-- The gradient of the scaled normalised input. -/
def rAcc (a0 : FVec Ideal S4160x1536 .bf16) (a1 : FVec Ideal S1024x1536 .bf16) : FVec Ideal S4096x1024 .f32 :=
  Host.dotGeneral dot_S4096x1536_S1024x1536_S4096x1024_1_1_0_0_n_n none (extf .f32 (extractStridedSlice S4096x1536 ![64, 0] a0
    slices_S4160x1536_S4096x1536_64_0) bitsLt_bf16_f32) (extf .f32 a1 bitsLt_bf16_f32)

/-- The mean square of each row. -/
def rMs (a2 : FVec Ideal S4160x1024 .f32) : FVec Ideal S4096x1 .f32 :=
  addf (Host.divf (broadcastInDim S4096x1 ![0] bcast_S4096_S4096x1_0 (Host.reduceAdd (mulf (rH a2) (rH a2)) (constant S_ .f32
    0x00000000#32) reducesTo_S4096x1024_S4096_d1 h_S_)) (broadcastInDim S4096x1 ![] bcast_S_S4096x1 (constant S_ .f32
    0x44800000#32))) (broadcastInDim S4096x1 ![] bcast_S_S4096x1 (constant S_ .f32 0x3727C5AC#32))

/-- The gradient through the mean square, of half of each element. -/
def rTan (a0 : FVec Ideal S4160x1536 .bf16) (a1 : FVec Ideal S1024x1536 .bf16) (a2 : FVec Ideal S4160x1024 .f32)
    (a3 : FVec Ideal S1x1024 .f32) : FVec Ideal S4096 .f32 :=
  Host.reduceAdd (Host.divf (mulf (shapeCast _ (Host.reduceAdd (mulf (rH a2) (mulf (rAcc a0 a1) (broadcastInDim
    S4096x1024 ![0, 1] bcast_S1x1024_S4096x1024_0_1 a3))) (constant S_ .f32 0x00000000#32)
    reducesTo_S4096x1024_S4096_d1 h_S_) shapeCasts_S4096_S4096x1) (mulf (broadcastInDim S4096x1 ![] bcast_S_S4096x1
    (constant S_ .f32 0xBF000000#32)) (Host.divf (Host.rsqrt (rMs a2)) (rMs a2)))) (broadcastInDim S4096x1 ![]
    bcast_S_S4096x1 (constant S_ .f32 0x44800000#32))) (constant S_ .f32 0x00000000#32) reducesTo_S4096x1_S4096_d1 h_S_

/-- The gradient of the input, before the padding rows are cleared. -/
def rThru (a0 : FVec Ideal S4160x1536 .bf16) (a1 : FVec Ideal S1024x1536 .bf16) (a2 : FVec Ideal S4160x1024 .f32)
    (a3 : FVec Ideal S1x1024 .f32) (a4 : FVec Ideal S4160x1024 .f32) : FVec Ideal S4096x1024 .f32 :=
  addf (extractStridedSlice S4096x1024 ![64, 0] a4 slices_S4160x1024_S4096x1024_64_0) (addf (addf (mulf (mulf (rAcc a0 a1)
    (broadcastInDim S4096x1024 ![0, 1] bcast_S1x1024_S4096x1024_0_1 a3)) (broadcastInDim S4096x1024 ![0, 1]
    bcast_S4096x1_S4096x1024_0_1 (Host.rsqrt (rMs a2)))) (mulf (rH a2) (broadcastInDim S4096x1024 ![0]
    bcast_S4096_S4096x1024_0 (rTan a0 a1 a2 a3)))) (mulf (broadcastInDim S4096x1024 ![0] bcast_S4096_S4096x1024_0 (rTan a0 a1 a2 a3)) (rH a2)))

/-- The gradient of the gain. -/
def rDg (a0 : FVec Ideal S4160x1536 .bf16) (a1 : FVec Ideal S1024x1536 .bf16) (a2 : FVec Ideal S4160x1024 .f32) :
    FVec Ideal S1x1024 .f32 :=
  shapeCast _ (Host.reduceAdd (mulf (mulf (rH a2) (broadcastInDim S4096x1024 ![0, 1] bcast_S4096x1_S4096x1024_0_1
    (Host.rsqrt (rMs a2)))) (rAcc a0 a1)) (constant S_ .f32 0x00000000#32) reducesTo_S4096x1024_S1024_d0 h_S_)
    shapeCasts_S1024_S1x1024

section
variable {D : Data} {a0 : FVec Ideal S4160x1536 .bf16} {a1 : FVec Ideal S1024x1536 .bf16}
  {a2 : FVec Ideal S4160x1024 .f32} {a3 : FVec Ideal S1x1024 .f32} {a4 : FVec Ideal S4160x1024 .f32}
  (H : Args D a0 a1 a2 a3 a4)
include H

theorem rH_at (r : Fin 4096) (c : Fin 1024) : rH a2 (ix2 r c) = ((D.h (64 + r) c : ℝ) : EReal) := by
  pointwise [rH]
  simp only [H.h, Fin.val_mk, zero_add]

theorem rAcc_at (r : Fin 4096) (c : Fin 1024) : rAcc a0 a1 (ix2 r c) = ((acc D (64 + r) c : ℝ) : EReal) := by
  pointwise [rAcc]
  simp only [H.dz, H.w, cmul, csum, acc_eq, Fin.val_mk, zero_add]

theorem rMs_at (r : Fin 4096) : rMs a2 (ix2 r 0) = ((ms D (64 + r) : ℝ) : EReal) := by
  pointwise [rMs]
  simp only [rH_at H, H.eps, Ff.word_1024, cmul, csum, cadd, cdiv _ _ (by norm_num : (1024 : ℝ) ≠ 0), ms]

theorem rTan_at (r : Fin 4096) : rTan a0 a1 a2 a3 (ix1 r)
    = (((∑ c : Fin 1024, D.h (64 + r) c * (acc D (64 + r) c * D.g c)) * (-(1 / 2) * (rr D (64 + r) / ms D (64 + r))) / 1024 : ℝ) : EReal) := by
  pointwise [rTan]
  simp only [Finset.univ_unique, Fin.default_eq_zero, Finset.sum_singleton]
  simp only [rMs_at H, rAcc_at H, rH_at H, H.g, crsqrt _ (ms_pos _ _), cdiv _ _ (ms_pos _ _).ne', word_neg_half, Ff.word_1024, cmul,
    csum, cdiv _ _ (by norm_num : (1024 : ℝ) ≠ 0)]
  rfl

theorem rThru_at (r : Fin 4096) (c : Fin 1024) : rThru a0 a1 a2 a3 a4 (ix2 r c) = ((thru D (64 + r) c : ℝ) : EReal) := by
  pointwise [rThru]
  simp only [rMs_at H, rAcc_at H, rTan_at H, H.dh, rH_at H, H.g, crsqrt _ (ms_pos _ _), cmul, cadd, Fin.val_mk, zero_add]
  rw [← thru_eq]
  rfl

theorem rDg_at (c : Fin 1024) : rDg a0 a1 a2 (ix2 0 c)
    = ((∑ r : Fin 4096, acc D (64 + r) c * xh D (64 + r) c : ℝ) : EReal) := by
  pointwise [rDg]
  simp only [rMs_at H, rAcc_at H, rH_at H, crsqrt _ (ms_pos _ _), cmul, csum, xh, rr]
  congr 1
  refine Finset.sum_congr rfl fun r _ => ?_
  ring

omit H in
/-- The reference's first result, in these terms. -/
theorem res_out (m : (ℓ : Loc nD τ sig) → Buf (Elt Ideal) ℓ) (c : Dev nD) :
    Value.res_out0 m c = rThru (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem ref_out : rThru a0 a1 a2 a3 a4 = Di.G0 D := by
  funext y
  obtain ⟨r, k, rfl⟩ : ∃ (r : Fin 4096) (k : Fin 1024), y = ix2 r k := ⟨y 0, y 1, Ff.eta y⟩
  exact rThru_at H r k

theorem ref_dg {p : ℕ → ℝ} {a5 : FVec Ideal S1x1024 .f32} (Hp : Held p a5) : addf a5 (rDg a0 a1 a2) = Di.G1 D p := by
  funext y
  obtain ⟨r, k, rfl⟩ : ∃ (r : Fin 1) (k : Fin 1024), y = ix2 r k := ⟨y 0, y 1, Ff.eta y⟩
  obtain rfl : r = 0 := Subsingleton.elim _ _
  have e := rDg_at H k
  pointwise []
  rw [e, Hp, cadd, ← dgN_eq]
  rfl

end

end Cert.Proof.Dr

end
-- ==== Proof.LoSpec.lean ====
/- The loss and its backward pass through the final normalisation, on real numbers. -/
module

public import proofs.«01_k».proof.Proof.FfSpec
public import proofs.«01_k».proof.Proof.Push

@[expose] public section

noncomputable section

namespace Cert.Proof.Lo

open Idealize.ShloMosaic

/-- The word of one over 1024. -/
theorem word_1024th : Ideal.ofBits .f32 0x3A800000#32 = ((1 / 1024 : ℝ) : EReal) := by
  simp [Ideal.ofBits, Ideal.ieee, -EReal.coe_mul]; norm_num

/-- The word of one. -/
theorem word_1 : Ideal.ofBits .f32 0x3F800000#32 = ((1 : ℝ) : EReal) := by
  simp [Ideal.ofBits, Ideal.ieee, -EReal.coe_mul]; norm_num

/-- The real numbers the arguments hold; the rows are counted from the end of the first chunk. -/
structure Data where
  h : ℕ → ℕ → ℝ
  g : ℕ → ℝ
  tgt : ℕ → ℕ → ℝ
  eps : ℝ
  eps_pos : 0 < eps

variable (D : Data)

/-- The mean square of a row. -/
def ms (r : ℕ) : ℝ := (∑ c : Fin 1024, D.h r c * D.h r c) / 1024 + D.eps

theorem ms_pos (r : ℕ) : 0 < ms D r := by
  have : 0 ≤ ∑ c : Fin 1024, D.h r c * D.h r c := Finset.sum_nonneg fun c _ => mul_self_nonneg _
  have := D.eps_pos
  unfold ms; positivity

/-- One over the root mean square. -/
def rr (r : ℕ) : ℝ := (Real.sqrt (ms D r))⁻¹

theorem rr_sq (r : ℕ) : rr D r * rr D r = 1 / ms D r := by
  rw [rr, ← mul_inv, Real.mul_self_sqrt (ms_pos D r).le, one_div]

/-- The normalised input. -/
def xh (r c : ℕ) : ℝ := D.h r c * rr D r

/-- The error of the scaled normalised input. -/
def err (r c : ℕ) : ℝ := D.h r c * rr D r * D.g c - D.tgt r c

/-- A row's mean squared error. -/
def mse (r : ℕ) : ℝ := (∑ c : Fin 1024, err D r c * err D r c) / 1024

/-- A block of rows' part of the loss, the first blocks' part, and the loss. -/
def lossB (i : ℕ) : ℝ := 1 / 2 * ∑ r : Fin 1024, mse D (1024 * i + r)
def lossN (n : ℕ) : ℝ := ∑ i ∈ Finset.range n, lossB D i
def loss : ℝ := lossN D 4

theorem loss_eq : loss D = 1 / 2 * ∑ r : Fin 4096, mse D r := by
  rw [loss, lossN]
  simp only [lossB]
  rw [← Finset.mul_sum, Ff.sum_blocks (fun r => mse D r) 1024 4]

/-- The loss's gradient in the scaled normalised input. -/
def de (r c : ℕ) : ℝ := err D r c * (1 / 1024)

/-- The mean of the gradient along the normalised input. -/
def proj (r : ℕ) : ℝ := (∑ c : Fin 1024, de D r c * D.g c * xh D r c) / 1024

/-- The gradient of the input. -/
def dh (r c : ℕ) : ℝ := rr D r * (de D r c * D.g c - xh D r c * proj D r)

theorem dh_eq (r c : ℕ) : de D r c * D.g c * rr D r
      + D.h r c * ((∑ k : Fin 1024, D.h r k * (de D r k * D.g k)) * (-(1 / 2) * (rr D r / ms D r)) / 1024)
      + (∑ k : Fin 1024, D.h r k * (de D r k * D.g k)) * (-(1 / 2) * (rr D r / ms D r)) / 1024 * D.h r c = dh D r c := by
  have e := rr_sq D r
  have e2 : proj D r = (∑ c : Fin 1024, D.h r c * (de D r c * D.g c)) * rr D r / 1024 := by
    rw [proj, Finset.sum_mul]
    congr 2
    funext c
    rw [xh]; ring
  rw [dh, e2, xh, div_eq_mul_one_div (rr D r), ← e]
  ring

/-- A block of rows' part of the gradient of the gain, and the first blocks' part. -/
def dgB (i c : ℕ) : ℝ := ∑ r : Fin 1024, de D (1024 * i + r) c * xh D (1024 * i + r) c
def dgN (n c : ℕ) : ℝ := ∑ i ∈ Finset.range n, dgB D i c

theorem dgN_eq (c : ℕ) : dgN D 4 c = ∑ r : Fin 4096, de D r c * xh D r c :=
  Ff.sum_blocks (fun r => de D r c * xh D r c) 1024 4

/-- Arguments that hold the data. -/
structure Args (D : Data) (a0 : FVec Ideal ⟨2, ![4160, 1024]⟩ .f32) (a1 : FVec Ideal ⟨2, ![1, 1024]⟩ .f32)
    (a2 : FVec Ideal ⟨2, ![4096, 1024]⟩ .f32) : Prop where
  h : ∀ (r : ℕ) (hr : 64 + r < 4160) (c : Fin 1024), a0 (ix2 (⟨64 + r, hr⟩ : Fin 4160) c) = ((D.h r c : ℝ) : EReal)
  g : ∀ c : Fin 1024, a1 (ix2 0 c) = ((D.g c : ℝ) : EReal)
  tgt : ∀ (r : Fin 4096) (c : Fin 1024), a2 (ix2 r c) = ((D.tgt r c : ℝ) : EReal)
  eps : Ideal.ofBits .f32 0x3727C5AC#32 = ((D.eps : ℝ) : EReal)

/-- The data the arguments hold. -/
def dataOf (a0 : FVec Ideal ⟨2, ![4160, 1024]⟩ .f32) (a1 : FVec Ideal ⟨2, ![1, 1024]⟩ .f32)
    (a2 : FVec Ideal ⟨2, ![4096, 1024]⟩ .f32) : Data where
  h := fun r c => Gla.arr2 a0 (64 + r) c
  g := Gla.arr2 a1 0
  tgt := Gla.arr2 a2
  eps := 10995116 / 1099511627776
  eps_pos := by norm_num

theorem args_of {a0 : FVec Ideal ⟨2, ![4160, 1024]⟩ .f32} {a1 : FVec Ideal ⟨2, ![1, 1024]⟩ .f32}
    {a2 : FVec Ideal ⟨2, ![4096, 1024]⟩ .f32}
    (h0 : ∀ y, (((a0 y).toReal : ℝ) : EReal) = a0 y) (h1 : ∀ y, (((a1 y).toReal : ℝ) : EReal) = a1 y)
    (h2 : ∀ y, (((a2 y).toReal : ℝ) : EReal) = a2 y) : Args (dataOf a0 a1 a2) a0 a1 a2 where
  h := fun r hr c => Gla.arr2_at h0 (⟨64 + r, hr⟩ : Fin 4160) c
  g := Gla.arr2_at h1 0
  tgt := Gla.arr2_at h2
  eps := Gla.ofBits_eps

theorem finite15_facts : Cert.Pre_finite15.Facts :=
  ⟨by decide, by decide, by decide⟩

/-- The precondition read: every element of every argument is a real. -/
theorem args_of_finite15 (m : (ℓ : Loc Cert.Kernel15Ideal.nD Cert.Kernel15Ideal.τ Cert.Kernel15Ideal.sig) → Buf (Elt Ideal) ℓ)
    (h : Cert.Pre_Kernel15Ideal_finite15 (hPre_finite15 := finite15_facts) m) (c : Dev Cert.Kernel15Ideal.nD) :
    ∃ D : Data, Args D (m ((c.tc : Thread Cert.Kernel15Ideal.nD Cert.Kernel15Ideal.τ).loc Cert.Kernel15Ideal.main_arg0))
      (m ((c.tc : Thread Cert.Kernel15Ideal.nD Cert.Kernel15Ideal.τ).loc Cert.Kernel15Ideal.main_arg1))
      (m ((c.tc : Thread Cert.Kernel15Ideal.nD Cert.Kernel15Ideal.τ).loc Cert.Kernel15Ideal.main_arg2)) := by
  obtain ⟨h0, h1, h2⟩ := h c
  exact ⟨_, args_of (fun y => Gla.real_of_lt (congrFun h0 y)) (fun y => Gla.real_of_lt (congrFun h1 y))
    (fun y => Gla.real_of_lt (congrFun h2 y))⟩

/-- The three results, as arrays. -/
def G0 : FVec Ideal ⟨2, ![4096, 1024]⟩ .f32 := fun y => ((dh D (y 0 : ℕ) (y 1 : ℕ) : ℝ) : EReal)
def G1 : FVec Ideal ⟨2, ![1, 1024]⟩ .f32 := fun y => ((dgN D 4 (y 1 : ℕ) : ℝ) : EReal)
def G2 : FVec Ideal ⟨2, ![8, 128]⟩ .f32 := fun _ => ((loss D : ℝ) : EReal)

end Cert.Proof.Lo

end
-- ==== Proof.LoGrid.lean ====
/- The loss and its backward pass through the final normalisation: what a grid point leaves, from the blocks it reads, and what
   the grid leaves. -/
module

public import proofs.«01_k».proof.Proof.Gen.Kernel15Ideal.Value
public import proofs.«01_k».proof.Proof.LoSpec

@[expose] public section

set_option maxRecDepth 16384

noncomputable section

namespace Cert.Proof.Lo

open Idealize.ShloMosaic Idealize.SL.Sem Cert.Kernel15Ideal Cert.Kernel15Ideal.Gen
open Cert.Proof.Gla (cadd csub cmul csum cdiv crsqrt czero word_half)

theorem z2 : (![0, 0] : Fin 2 → ℕ) = fun _ => 0 := by
  funext a
  match a with
  | ⟨0, _⟩ => rfl
  | ⟨1, _⟩ => rfl

theorem lt4 (t : Fin cfg0.N) : t.val < 4 := t.isLt

theorem out_A (m : (ℓ : Loc nD τ sig) → Buf (Elt Ideal) ℓ) (c : Dev nD) (t : Fin cfg0.N) (h : t.val = 0) :
    (outsAt0 m c t.val t.isLt).1 = k0_pay1 (k0_pay9 (iblk m c 0 t)) (k0_pay10 (iblk m c 0 t)) (k0_pay11 (iblk m c 0 t) (iblk m c 1 t) (iblk m c 2 t))
      (k0_pay12 (iblk m c 0 t) (iblk m c 1 t) (iblk m c 2 t)) := by
  rw [outsAt0_A m c t (by omega) (by omega) (by omega) (by omega)]
  dsimp only
  unfold out0_A_3
  rw [View.read_writes_junk_eq_canon]
  unfold kernelRun0_A
  dsimp only
  rw [View.canon_unit_zero z2]
  unfold kernelRun0_A.sl.r_2 kernelRun0_A.sl.r_3 kernelRun0_A.sl.r_4 kernelRun0_A.sl.r_5
  repeat rw [View.readAt_eq_ld]
  rw [(hs0_0 t).read_unread, (hs0_1 t).read_unread, (hs0_2 t).read_unread]
  repeat rw [View.ld_unit_zero z2]

theorem dg_A (m : (ℓ : Loc nD τ sig) → Buf (Elt Ideal) ℓ) (c : Dev nD) (t : Fin cfg0.N) (h : t.val = 0) :
    (outsAt0 m c t.val t.isLt).2.1 = k0_pay2 (k0_pay8 (iblk m c 0 t) (iblk m c 1 t) (iblk m c 2 t)) (k0_pay10 (iblk m c 0 t)) := by
  rw [outsAt0_A m c t (by omega) (by omega) (by omega) (by omega)]
  dsimp only
  unfold out0_A_4
  rw [View.read_writes_junk_eq_canon]
  unfold kernelRun0_A
  dsimp only
  rw [View.canon_unit_zero z2]
  unfold kernelRun0_A.sl.r_1 kernelRun0_A.sl.r_3
  repeat rw [View.readAt_eq_ld]
  rw [(hs0_0 t).read_unread, (hs0_1 t).read_unread, (hs0_2 t).read_unread]
  repeat rw [View.ld_unit_zero z2]

theorem loss_A (m : (ℓ : Loc nD τ sig) → Buf (Elt Ideal) ℓ) (c : Dev nD) (t : Fin cfg0.N) (h : t.val = 0) :
    (outsAt0 m c t.val t.isLt).2.2 = k0_pay4 (k0_pay7 (iblk m c 0 t) (iblk m c 1 t) (iblk m c 2 t)) := by
  rw [outsAt0_A m c t (by omega) (by omega) (by omega) (by omega)]
  dsimp only
  unfold out0_A_5
  rw [View.read_writes_junk_eq_canon]
  unfold kernelRun0_A
  dsimp only
  rw [View.canon_unit_zero z2]
  unfold kernelRun0_A.sl.r
  repeat rw [View.readAt_eq_ld]
  rw [(hs0_0 t).read_unread, (hs0_1 t).read_unread, (hs0_2 t).read_unread]
  repeat rw [View.ld_unit_zero z2]

theorem out_B (m : (ℓ : Loc nD τ sig) → Buf (Elt Ideal) ℓ) (c : Dev nD) (t : Fin cfg0.N) (h : t.val ≠ 0) :
    (outsAt0 m c t.val t.isLt).1 = k0_pay1 (k0_pay9 (iblk m c 0 t)) (k0_pay10 (iblk m c 0 t)) (k0_pay11 (iblk m c 0 t) (iblk m c 1 t) (iblk m c 2 t))
      (k0_pay12 (iblk m c 0 t) (iblk m c 1 t) (iblk m c 2 t)) := by
  rw [outsAt0_B m c t (by have := lt4 t; omega) (by omega) (by have := lt4 t; omega) (by omega)]
  dsimp only
  unfold out0_B_3
  rw [View.read_writes_junk_eq_canon]
  unfold kernelRun0_B
  dsimp only
  rw [View.canon_unit_zero z2]
  unfold kernelRun0_B.sl.r_2 kernelRun0_B.sl.r_3 kernelRun0_B.sl.r_4 kernelRun0_B.sl.r_5
  repeat rw [View.readAt_eq_ld]
  rw [(hs0_0 t).read_unread, (hs0_1 t).read_unread, (hs0_2 t).read_unread]
  repeat rw [View.ld_unit_zero z2]

theorem dg_B (m : (ℓ : Loc nD τ sig) → Buf (Elt Ideal) ℓ) (c : Dev nD) (t : Fin cfg0.N) (h : t.val ≠ 0) :
    (outsAt0 m c t.val t.isLt).2.1 = k0_pay3 (k0_pay8 (iblk m c 0 t) (iblk m c 1 t) (iblk m c 2 t)) (k0_pay10 (iblk m c 0 t))
      (outsAt0 m c (t.val - 1) (Nat.lt_of_le_of_lt (Nat.sub_le _ _) t.isLt)).2.1 := by
  rw [outsAt0_B m c t (by have := lt4 t; omega) (by omega) (by have := lt4 t; omega) (by omega)]
  dsimp only
  unfold out0_B_4
  rw [View.read_writes_junk_eq_canon]
  unfold kernelRun0_B
  dsimp only
  rw [View.canon_unit_zero z2]
  unfold kernelRun0_B.sl.r_1 kernelRun0_B.sl.r_3
  repeat rw [View.readAt_eq_ld]
  rw [(hs0_0 t).read_unread, (hs0_1 t).read_unread, (hs0_2 t).read_unread, (hs0_4 t).read_unread]
  repeat rw [View.ld_unit_zero z2]

theorem loss_B (m : (ℓ : Loc nD τ sig) → Buf (Elt Ideal) ℓ) (c : Dev nD) (t : Fin cfg0.N) (h : t.val ≠ 0) :
    (outsAt0 m c t.val t.isLt).2.2 = k0_pay5 (k0_pay7 (iblk m c 0 t) (iblk m c 1 t) (iblk m c 2 t))
      (outsAt0 m c (t.val - 1) (Nat.lt_of_le_of_lt (Nat.sub_le _ _) t.isLt)).2.2 := by
  rw [outsAt0_B m c t (by have := lt4 t; omega) (by omega) (by have := lt4 t; omega) (by omega)]
  dsimp only
  unfold out0_B_5
  rw [View.read_writes_junk_eq_canon]
  unfold kernelRun0_B
  dsimp only
  rw [View.canon_unit_zero z2]
  unfold kernelRun0_B.sl.r
  repeat rw [View.readAt_eq_ld]
  rw [(hs0_0 t).read_unread, (hs0_1 t).read_unread, (hs0_2 t).read_unread, (hs0_5 t).read_unread]
  repeat rw [View.ld_unit_zero z2]

/-- The blocks of row block `i` hold the data. -/
structure In (D : Data) (i : ℕ) (b0 : Vec Ideal S1024x1024 .f32) (b1 : Vec Ideal S1x1024 .f32)
    (b2 : Vec Ideal S1024x1024 .f32) : Prop where
  h : ∀ (r : Fin 1024) (c : Fin 1024), b0 (ix2 r c) = ((D.h (1024 * i + r) c : ℝ) : EReal)
  g : ∀ c : Fin 1024, b1 (ix2 0 c) = ((D.g c : ℝ) : EReal)
  tgt : ∀ (r : Fin 1024) (c : Fin 1024), b2 (ix2 r c) = ((D.tgt (1024 * i + r) c : ℝ) : EReal)
  eps : Ideal.ofBits .f32 0x3727C5AC#32 = ((D.eps : ℝ) : EReal)

section
variable {D : Data} {i : ℕ} {b0 : Vec Ideal S1024x1024 .f32} {b1 : Vec Ideal S1x1024 .f32} {b2 : Vec Ideal S1024x1024 .f32}
  (H : In D i b0 b1 b2)
include H

theorem err_at (r c : Fin 1024) : k0_pay6 b0 b1 b2 (ix2 r c) = ((err D (1024 * i + r) c : ℝ) : EReal) := by
  pointwise [k0_pay6]
  simp only [H.h, H.g, H.tgt, H.eps, Ff.word_1024, cmul, csum, cadd, cdiv _ _ (by norm_num : (1024 : ℝ) ≠ 0)]
  rw [← ms, crsqrt _ (ms_pos _ _), cmul, cmul, csub]
  rfl

theorem lossPart_at : k0_pay7 b0 b1 b2 (ix2 0 0) = ((lossB D i : ℝ) : EReal) := by
  pointwise [k0_pay7]
  simp only [err_at H, word_half, Ff.word_1024, cmul, csum, cdiv _ _ (by norm_num : (1024 : ℝ) ≠ 0)]
  rfl

theorem de_at (r c : Fin 1024) : k0_pay8 b0 b1 b2 (ix2 r c) = ((de D (1024 * i + r) c : ℝ) : EReal) := by
  pointwise [k0_pay8]
  simp only [err_at H, word_1024th, cmul]
  rfl

theorem rr_at (r : Fin 1024) : k0_pay9 b0 (ix2 r 0) = ((rr D (1024 * i + r) : ℝ) : EReal) := by
  pointwise [k0_pay9]
  simp only [H.h, H.eps, Ff.word_1024, cmul, csum, cadd, cdiv _ _ (by norm_num : (1024 : ℝ) ≠ 0)]
  rw [← ms, crsqrt _ (ms_pos _ _), rr]

theorem xh_at (r c : Fin 1024) : k0_pay10 b0 (ix2 r c) = ((xh D (1024 * i + r) c : ℝ) : EReal) := by
  pointwise [k0_pay10]
  simp only [rr_at H, H.h, cmul, xh]

theorem sc_at (r c : Fin 1024) : k0_pay11 b0 b1 b2 (ix2 r c) = ((de D (1024 * i + r) c * D.g c : ℝ) : EReal) := by
  pointwise [k0_pay11]
  simp only [de_at H, H.g, cmul]

theorem al_at (r : Fin 1024) : k0_pay12 b0 b1 b2 (ix1 r)
    = ((∑ c : Fin 1024, de D (1024 * i + r) c * D.g c * xh D (1024 * i + r) c : ℝ) : EReal) := by
  pointwise [k0_pay12]
  simp only [sc_at H, xh_at H, cmul, csum]

theorem res_at (r c : Fin 1024) : k0_pay1 (k0_pay9 b0) (k0_pay10 b0) (k0_pay11 b0 b1 b2) (k0_pay12 b0 b1 b2) (ix2 r c)
    = ((dh D (1024 * i + r) c : ℝ) : EReal) := by
  pointwise [k0_pay1]
  simp only [rr_at H, xh_at H, sc_at H, al_at H, Ff.word_1024, cmul, csub, cdiv _ _ (by norm_num : (1024 : ℝ) ≠ 0)]
  rfl

theorem part_at (c : Fin 1024) : k0_pay2 (k0_pay8 b0 b1 b2) (k0_pay10 b0) (ix2 0 c) = ((dgB D i c : ℝ) : EReal) := by
  pointwise [k0_pay2]
  simp only [xh_at H, de_at H, cmul, csum, dgB]

theorem sum_at {p : Vec Ideal S1x1024 .f32} (hp : ∀ c : Fin 1024, p (ix2 0 c) = ((dgN D i c : ℝ) : EReal)) (c : Fin 1024) :
    k0_pay3 (k0_pay8 b0 b1 b2) (k0_pay10 b0) p (ix2 0 c) = ((dgN D (i + 1) c : ℝ) : EReal) := by
  have e := part_at H c
  pointwise [k0_pay3]
  rw [e, hp, cadd, dgN, dgN, Finset.sum_range_succ]

theorem lfirst_at (r : Fin 8) (c : Fin 128) : k0_pay4 (k0_pay7 b0 b1 b2) (ix2 r c) = ((lossB D i : ℝ) : EReal) := by
  have e := lossPart_at H
  pointwise [k0_pay4]
  exact e

theorem lsum_at {p : Vec Ideal S8x128 .f32} (hp : ∀ (r : Fin 8) (c : Fin 128), p (ix2 r c) = ((lossN D i : ℝ) : EReal))
    (r : Fin 8) (c : Fin 128) : k0_pay5 (k0_pay7 b0 b1 b2) p (ix2 r c) = ((lossN D (i + 1) : ℝ) : EReal) := by
  have e := lfirst_at H r c
  pointwise [k0_pay5]
  rw [e, hp, cadd, lossN, lossN, Finset.sum_range_succ]
end

theorem row_lt (t : Fin cfg0.N) (r : Fin 1024) : 64 + (1024 * t.val + (r : ℕ)) < 4160 := by have := lt4 t; omega
theorem row_lt' (t : Fin cfg0.N) (r : Fin 1024) : 1024 * t.val + (r : ℕ) < 4096 := by have := lt4 t; omega

theorem wi0 : ∀ t : Fin cfg0.N, win0_0.index t 0 = 64 + 1024 * t.val ∧ win0_0.index t 1 = 0 :=
  (by decide +kernel : ∀ t : Fin grid0.N, win0_0.index t 0 = 64 + 1024 * t.val ∧ win0_0.index t 1 = 0)
theorem wi1 : ∀ t : Fin cfg0.N, win0_1.index t 0 = 0 ∧ win0_1.index t 1 = 0 :=
  (by decide +kernel : ∀ t : Fin grid0.N, win0_1.index t 0 = 0 ∧ win0_1.index t 1 = 0)
theorem wi2 : ∀ t : Fin cfg0.N, win0_2.index t 0 = t.val ∧ win0_2.index t 1 = 0 :=
  (by decide +kernel : ∀ t : Fin grid0.N, win0_2.index t 0 = t.val ∧ win0_2.index t 1 = 0)
theorem wi3 : ∀ t : Fin cfg0.N, win0_3.index t 0 = t.val ∧ win0_3.index t 1 = 0 :=
  (by decide +kernel : ∀ t : Fin grid0.N, win0_3.index t 0 = t.val ∧ win0_3.index t 1 = 0)
theorem wi4 : ∀ t : Fin cfg0.N, win0_4.index t 0 = 0 ∧ win0_4.index t 1 = 0 :=
  (by decide +kernel : ∀ t : Fin grid0.N, win0_4.index t 0 = 0 ∧ win0_4.index t 1 = 0)
theorem wi5 : ∀ t : Fin cfg0.N, win0_5.index t 0 = 0 ∧ win0_5.index t 1 = 0 :=
  (by decide +kernel : ∀ t : Fin grid0.N, win0_5.index t 0 = 0 ∧ win0_5.index t 1 = 0)

section blocks
variable (m : (ℓ : Loc nD τ sig) → Buf (Elt Ideal) ℓ) (c : Dev nD) (t : Fin cfg0.N)

theorem blk0 (r : Fin 1024) (k : Fin 1024) :
    iblk m c 0 t (ix2 r k) = m ((c.tc : Thread nD τ).loc main_arg0) (ix2 (⟨64 + (1024 * t.val + r), row_lt t r⟩ : Fin 4160) k) := by
  have hi := wi0 t
  unfold iblk
  rw [View.read_apply]
  show V m c main_arg0 _ = m (c.tc.loc main_arg0) _
  unfold V
  congr 1
  funext a
  apply Fin.ext
  match a with
  | ⟨0, _⟩ => show win0_0.index t 0 + 1 * (r : ℕ) = 64 + (1024 * t.val + (r : ℕ)); rw [hi.1]; omega
  | ⟨1, _⟩ => show win0_0.index t 1 + 1 * (k : ℕ) = k; rw [hi.2]; omega

theorem blk1 (r : Fin 1) (k : Fin 1024) :
    iblk m c 1 t (ix2 r k) = m ((c.tc : Thread nD τ).loc main_arg1) (ix2 r k) := by
  have hi := wi1 t
  unfold iblk
  rw [View.read_apply]
  show V m c main_arg1 _ = m (c.tc.loc main_arg1) _
  unfold V
  congr 1
  funext a
  apply Fin.ext
  match a with
  | ⟨0, _⟩ => show win0_1.index t 0 * 1 + 1 * (r : ℕ) = (r : ℕ); rw [hi.1]; omega
  | ⟨1, _⟩ => show win0_1.index t 1 * 1024 + 1 * (k : ℕ) = k; rw [hi.2]; omega

theorem blk2 (r : Fin 1024) (k : Fin 1024) :
    iblk m c 2 t (ix2 r k) = m ((c.tc : Thread nD τ).loc main_arg2) (ix2 (⟨1024 * t.val + r, row_lt' t r⟩ : Fin 4096) k) := by
  have hi := wi2 t
  unfold iblk
  rw [View.read_apply]
  show V m c main_arg2 _ = m (c.tc.loc main_arg2) _
  unfold V
  congr 1
  funext a
  apply Fin.ext
  match a with
  | ⟨0, _⟩ => show win0_2.index t 0 * 1024 + 1 * (r : ℕ) = 1024 * t.val + (r : ℕ); rw [hi.1]; omega
  | ⟨1, _⟩ => show win0_2.index t 1 * 1024 + 1 * (k : ℕ) = k; rw [hi.2]; omega

end blocks

theorem emb3 (t : Fin cfg0.N) (r : Fin 1024) (k : Fin 1024) : ((cfg0.win 3).blk t).view.emb (ix2 r k)
    = (ix2 (⟨1024 * t.val + r, row_lt' t r⟩ : Fin 4096) k : S4096x1024.Idx) := by
  have hi := wi3 t
  funext a
  apply Fin.ext
  match a with
  | ⟨0, _⟩ => show win0_3.index t 0 * 1024 + 1 * (r : ℕ) = 1024 * t.val + (r : ℕ); rw [hi.1]; omega
  | ⟨1, _⟩ => show win0_3.index t 1 * 1024 + 1 * (k : ℕ) = k; rw [hi.2]; omega

theorem emb4 (t : Fin cfg0.N) (r : Fin 1) (k : Fin 1024) : ((cfg0.win 4).blk t).view.emb (ix2 r k)
    = (ix2 r k : S1x1024.Idx) := by
  have hi := wi4 t
  funext a
  apply Fin.ext
  match a with
  | ⟨0, _⟩ => show win0_4.index t 0 * 1 + 1 * (r : ℕ) = (r : ℕ); rw [hi.1]; omega
  | ⟨1, _⟩ => show win0_4.index t 1 * 1024 + 1 * (k : ℕ) = k; rw [hi.2]; omega

theorem emb5 (t : Fin cfg0.N) (r : Fin 8) (k : Fin 128) : ((cfg0.win 5).blk t).view.emb (ix2 r k)
    = (ix2 r k : S8x128.Idx) := by
  have hi := wi5 t
  funext a
  apply Fin.ext
  match a with
  | ⟨0, _⟩ => show win0_5.index t 0 * 8 + 1 * (r : ℕ) = (r : ℕ); rw [hi.1]; omega
  | ⟨1, _⟩ => show win0_5.index t 1 * 128 + 1 * (k : ℕ) = k; rw [hi.2]; omega

section run
variable {m : (ℓ : Loc nD τ sig) → Buf (Elt Ideal) ℓ} {c : Dev nD} {D : Data}
  (H : Args D (m ((c.tc : Thread nD τ).loc main_arg0)) (m ((c.tc : Thread nD τ).loc main_arg1))
    (m ((c.tc : Thread nD τ).loc main_arg2)))
include H

/-- The blocks a point reads hold the data. -/
theorem inAt (t : Fin cfg0.N) : In D t.val (iblk m c 0 t) (iblk m c 1 t) (iblk m c 2 t) where
  h := fun r k => (blk0 m c t r k).trans (H.h _ _ k)
  g := fun k => (blk1 m c t 0 k).trans (H.g k)
  tgt := fun r k => (blk2 m c t r k).trans (H.tgt _ k)
  eps := H.eps

theorem out_at (t : Fin cfg0.N) (r k : Fin 1024) :
    (outsAt0 m c t.val t.isLt).1 (ix2 r k) = ((dh D (1024 * t.val + r) k : ℝ) : EReal) := by
  by_cases h : t.val = 0
  · rw [out_A m c t h]
    exact res_at (inAt H t) r k
  · rw [out_B m c t h]
    exact res_at (inAt H t) r k

/-- The running sum of the gain's gradient over the row blocks. -/
theorem dg_run (n : ℕ) : ∀ (hn : n < cfg0.N) (k : Fin 1024),
    (outsAt0 m c n hn).2.1 (ix2 (0 : Fin 1) k) = ((dgN D (n + 1) k : ℝ) : EReal) := by
  induction n with
  | zero =>
    intro hn k
    have e := dg_A m c ⟨0, hn⟩ rfl
    dsimp only at e
    rw [e]
    refine (part_at (inAt H ⟨0, hn⟩) k).trans ?_
    rw [dgN, Finset.sum_range_one]
  | succ n ih =>
    intro hn k
    have e := dg_B m c ⟨n + 1, hn⟩ (Nat.succ_ne_zero n)
    dsimp only at e
    rw [e]
    exact sum_at (inAt H ⟨n + 1, hn⟩) (ih (Nat.lt_of_succ_lt hn)) k

/-- The running sum of the loss over the row blocks. -/
theorem loss_run (n : ℕ) : ∀ (hn : n < cfg0.N) (r : Fin 8) (k : Fin 128),
    (outsAt0 m c n hn).2.2 (ix2 r k) = ((lossN D (n + 1) : ℝ) : EReal) := by
  induction n with
  | zero =>
    intro hn r k
    have e := loss_A m c ⟨0, hn⟩ rfl
    dsimp only at e
    rw [e]
    refine (lfirst_at (inAt H ⟨0, hn⟩) r k).trans ?_
    rw [lossN, Finset.sum_range_one]
  | succ n ih =>
    intro hn r k
    have e := loss_B m c ⟨n + 1, hn⟩ (Nat.succ_ne_zero n)
    dsimp only at e
    rw [e]
    exact lsum_at (inAt H ⟨n + 1, hn⟩) (ih (Nat.lt_of_succ_lt hn)) r k

theorem flushed3_eq (t : Fin cfg0.N) (hf : (cfg0.win 3).flush t = true) :
    (dats m 0 c).flushed 3 t = ((cfg0.win 3).blk t).view.read (Elt Ideal) (G0 D) := by
  rw [Value.flushed3]
  funext y
  obtain ⟨r, k, rfl⟩ : ∃ (r : Fin 1024) (k : Fin 1024), y = ix2 r k := ⟨y 0, y 1, Ff.eta y⟩
  rw [View.read_apply, emb3]
  exact out_at H t r k

theorem final3 : (dats m 0 c).arrAt 3 cfg0.N = G0 D :=
  (dats m 0 c).arrAt_eq_of_cover 3 _ (flushed3_eq H) fun y => by
    have h0 : (y 0 : ℕ) < 4096 := (y 0).isLt
    have hN : (y 0 : ℕ) / 1024 < cfg0.N := by show _ < 4; omega
    refine ⟨⟨(y 0 : ℕ) / 1024, hN⟩, flush0_3 _, ?_⟩
    have h := ((cfg0.win 3).blk (⟨(y 0 : ℕ) / 1024, hN⟩ : Fin cfg0.N)).view.emb_mem_set
      (ix2 (⟨(y 0 : ℕ) % 1024, Nat.mod_lt _ (by decide)⟩ : Fin 1024) (⟨y 1, (y 1).isLt⟩ : Fin 1024))
    rw [emb3] at h
    refine Eq.mp (congrArg (· ∈ _) ?_) h
    funext a
    apply Fin.ext
    match a with
    | ⟨0, _⟩ => show 1024 * ((y 0 : ℕ) / 1024) + (y 0 : ℕ) % 1024 = y 0; omega
    | ⟨1, _⟩ => rfl

theorem flushed4_eq (t : Fin cfg0.N) (hf : (cfg0.win 4).flush t = true) :
    (dats m 0 c).flushed 4 t = ((cfg0.win 4).blk t).view.read (Elt Ideal) (G1 D) := by
  have h := (flush0_4 t).mp hf
  have hl := lt4 t
  rw [Value.flushed4]
  funext y
  obtain ⟨r, k, rfl⟩ : ∃ (r : Fin 1) (k : Fin 1024), y = ix2 r k := ⟨y 0, y 1, Ff.eta y⟩
  obtain rfl : r = 0 := Subsingleton.elim _ _
  rw [View.read_apply, emb4]
  refine (dg_run H t.val t.isLt k).trans ?_
  rw [show t.val + 1 = 4 by omega]
  rfl

theorem final4 : (dats m 0 c).arrAt 4 cfg0.N = G1 D :=
  (dats m 0 c).arrAt_eq_of_cover 4 _ (flushed4_eq H) fun y => by
    have hN : 3 < cfg0.N := by show _ < 4; omega
    refine ⟨⟨3, hN⟩, (flush0_4 _).mpr rfl, ?_⟩
    have h := ((cfg0.win 4).blk (⟨3, hN⟩ : Fin cfg0.N)).view.emb_mem_set (ix2 (⟨y 0, (y 0).isLt⟩ : Fin 1) (⟨y 1, (y 1).isLt⟩ : Fin 1024))
    rw [emb4] at h
    refine Eq.mp (congrArg (· ∈ _) ?_) h
    funext a
    match a with
    | ⟨0, _⟩ => rfl
    | ⟨1, _⟩ => rfl

theorem flushed5_eq (t : Fin cfg0.N) (hf : (cfg0.win 5).flush t = true) :
    (dats m 0 c).flushed 5 t = ((cfg0.win 5).blk t).view.read (Elt Ideal) (G2 D) := by
  have h := (flush0_5 t).mp hf
  have hl := lt4 t
  rw [Value.flushed5]
  funext y
  obtain ⟨r, k, rfl⟩ : ∃ (r : Fin 8) (k : Fin 128), y = ix2 r k := ⟨y 0, y 1, Ff.eta y⟩
  rw [View.read_apply, emb5]
  refine (loss_run H t.val t.isLt r k).trans ?_
  rw [show t.val + 1 = 4 by omega]
  rfl

theorem final5 : (dats m 0 c).arrAt 5 cfg0.N = G2 D :=
  (dats m 0 c).arrAt_eq_of_cover 5 _ (flushed5_eq H) fun y => by
    have hN : 3 < cfg0.N := by show _ < 4; omega
    refine ⟨⟨3, hN⟩, (flush0_5 _).mpr rfl, ?_⟩
    have h := ((cfg0.win 5).blk (⟨3, hN⟩ : Fin cfg0.N)).view.emb_mem_set (ix2 (⟨y 0, (y 0).isLt⟩ : Fin 8) (⟨y 1, (y 1).isLt⟩ : Fin 128))
    rw [emb5] at h
    refine Eq.mp (congrArg (· ∈ _) ?_) h
    funext a
    match a with
    | ⟨0, _⟩ => rfl
    | ⟨1, _⟩ => rfl

end run

end Cert.Proof.Lo

end
-- ==== Proof.LoRef.lean ====
/- The reference's loss and backward pass at an index: each value is the real number of the specification. -/
module

public import proofs.«01_k».proof.Proof.LoSpec
public import proofs.«01_k».proof.Proof.FfRef
public import proofs.«01_k».proof.Proof.Gen.Reference15Ideal.Run

@[expose] public section

set_option maxRecDepth 16384

noncomputable section

namespace Cert.Proof.Lo

open Idealize.ShloMosaic Cert.Reference15Ideal Cert.Reference15Ideal.Gen
open Cert.Proof.Gla (cadd csub cmul csum cdiv crsqrt czero word_neg_half word_half)

/-- The rows' input. -/
def rH (a0 : FVec Ideal S4160x1024 .f32) : FVec Ideal S4096x1024 .f32 :=
  extractStridedSlice S4096x1024 ![64, 0] a0 slices_S4160x1024_S4096x1024_64_0

/-- The mean square of each row. -/
def rMs (a0 : FVec Ideal S4160x1024 .f32) : FVec Ideal S4096x1 .f32 :=
  addf (Host.divf (broadcastInDim S4096x1 ![0] bcast_S4096_S4096x1_0 (Host.reduceAdd (mulf (rH a0) (rH a0)) (constant S_ .f32
    0x00000000#32) reducesTo_S4096x1024_S4096_d1 h_S_)) (broadcastInDim S4096x1 ![] bcast_S_S4096x1 (constant S_ .f32
    0x44800000#32))) (broadcastInDim S4096x1 ![] bcast_S_S4096x1 (constant S_ .f32 0x3727C5AC#32))

/-- The error. -/
def rErr (a0 : FVec Ideal S4160x1024 .f32) (a1 : FVec Ideal S1x1024 .f32) (a2 : FVec Ideal S4096x1024 .f32) :
    FVec Ideal S4096x1024 .f32 :=
  subf (mulf (mulf (rH a0) (broadcastInDim S4096x1024 ![0, 1] bcast_S4096x1_S4096x1024_0_1 (Host.rsqrt (rMs a0))))
    (broadcastInDim S4096x1024 ![0, 1] bcast_S1x1024_S4096x1024_0_1 a1)) a2

/-- The loss's gradient in the scaled normalised input. -/
def rDe (a0 : FVec Ideal S4160x1024 .f32) (a1 : FVec Ideal S1x1024 .f32) (a2 : FVec Ideal S4096x1024 .f32) :
    FVec Ideal S4096x1024 .f32 :=
  mulf (broadcastInDim S4096x1024 ![0] bcast_S4096_S4096x1024_0 (Host.divf (broadcastInDim S4096 ![] bcast_S_S4096
    (mulf (constant S_ .f32 0x3F000000#32) (constant S_ .f32 0x3F800000#32))) (broadcastInDim S4096 ![] bcast_S_S4096
    (constant S_ .f32 0x44800000#32)))) (mulf (broadcastInDim S4096x1024 ![] bcast_S_S4096x1024 (constant S_ .f32
    0x40000000#32)) (rErr a0 a1 a2))

/-- The gradient through the mean square, of half of each element. -/
def rTan (a0 : FVec Ideal S4160x1024 .f32) (a1 : FVec Ideal S1x1024 .f32) (a2 : FVec Ideal S4096x1024 .f32) :
    FVec Ideal S4096 .f32 :=
  Host.reduceAdd (Host.divf (mulf (shapeCast _ (Host.reduceAdd (mulf (rH a0) (mulf (rDe a0 a1 a2) (broadcastInDim
    S4096x1024 ![0, 1] bcast_S1x1024_S4096x1024_0_1 a1))) (constant S_ .f32 0x00000000#32)
    reducesTo_S4096x1024_S4096_d1 h_S_) shapeCasts_S4096_S4096x1) (mulf (broadcastInDim S4096x1 ![] bcast_S_S4096x1
    (constant S_ .f32 0xBF000000#32)) (Host.divf (Host.rsqrt (rMs a0)) (rMs a0)))) (broadcastInDim S4096x1 ![]
    bcast_S_S4096x1 (constant S_ .f32 0x44800000#32))) (constant S_ .f32 0x00000000#32) reducesTo_S4096x1_S4096_d1 h_S_

/-- The gradient of the input. -/
def rDh (a0 : FVec Ideal S4160x1024 .f32) (a1 : FVec Ideal S1x1024 .f32) (a2 : FVec Ideal S4096x1024 .f32) :
    FVec Ideal S4096x1024 .f32 :=
  addf (addf (mulf (mulf (rDe a0 a1 a2) (broadcastInDim S4096x1024 ![0, 1] bcast_S1x1024_S4096x1024_0_1 a1))
    (broadcastInDim S4096x1024 ![0, 1] bcast_S4096x1_S4096x1024_0_1 (Host.rsqrt (rMs a0)))) (mulf (rH a0)
    (broadcastInDim S4096x1024 ![0] bcast_S4096_S4096x1024_0 (rTan a0 a1 a2)))) (mulf (broadcastInDim S4096x1024 ![0]
    bcast_S4096_S4096x1024_0 (rTan a0 a1 a2)) (rH a0))

/-- The gradient of the gain. -/
def rDg (a0 : FVec Ideal S4160x1024 .f32) (a1 : FVec Ideal S1x1024 .f32) (a2 : FVec Ideal S4096x1024 .f32) :
    FVec Ideal S1x1024 .f32 :=
  shapeCast _ (Host.reduceAdd (mulf (mulf (rH a0) (broadcastInDim S4096x1024 ![0, 1] bcast_S4096x1_S4096x1024_0_1
    (Host.rsqrt (rMs a0)))) (rDe a0 a1 a2)) (constant S_ .f32 0x00000000#32) reducesTo_S4096x1024_S1024_d0 h_S_)
    shapeCasts_S1024_S1x1024

/-- Each row's mean squared error. -/
def rMse (a0 : FVec Ideal S4160x1024 .f32) (a1 : FVec Ideal S1x1024 .f32) (a2 : FVec Ideal S4096x1024 .f32) :
    FVec Ideal S4096 .f32 :=
  Host.divf (Host.reduceAdd (mulf (rErr a0 a1 a2) (rErr a0 a1 a2)) (constant S_ .f32 0x00000000#32)
    reducesTo_S4096x1024_S4096_d1 h_S_) (broadcastInDim S4096 ![] bcast_S_S4096 (constant S_ .f32 0x44800000#32))

/-- The loss. -/
def rLoss (a0 : FVec Ideal S4160x1024 .f32) (a1 : FVec Ideal S1x1024 .f32) (a2 : FVec Ideal S4096x1024 .f32) :
    FVec Ideal S8x128 .f32 :=
  broadcastInDim S8x128 ![] bcast_S_S8x128 (mulf (constant S_ .f32 0x3F000000#32) (Host.reduceAdd (rMse a0 a1 a2)
    (constant S_ .f32 0x00000000#32) reducesTo_S4096_S_d0 h_S_))

section
variable {D : Data} {a0 : FVec Ideal S4160x1024 .f32} {a1 : FVec Ideal S1x1024 .f32} {a2 : FVec Ideal S4096x1024 .f32}
  (H : Args D a0 a1 a2)
include H

theorem rH_at (r : Fin 4096) (c : Fin 1024) : rH a0 (ix2 r c) = ((D.h r c : ℝ) : EReal) := by
  pointwise [rH]
  exact H.h r (by omega) c

theorem rMs_at (r : Fin 4096) : rMs a0 (ix2 r 0) = ((ms D r : ℝ) : EReal) := by
  pointwise [rMs]
  simp only [rH_at H, H.eps, Ff.word_1024, cmul, csum, cadd, cdiv _ _ (by norm_num : (1024 : ℝ) ≠ 0), ms]

theorem rErr_at (r : Fin 4096) (c : Fin 1024) : rErr a0 a1 a2 (ix2 r c) = ((err D r c : ℝ) : EReal) := by
  pointwise [rErr]
  simp only [rH_at H, rMs_at H, H.g, H.tgt, crsqrt _ (ms_pos _ _), cmul, csub]
  rfl

theorem rDe_at (r : Fin 4096) (c : Fin 1024) : rDe a0 a1 a2 (ix2 r c) = ((de D r c : ℝ) : EReal) := by
  pointwise [rDe]
  simp only [rErr_at H, word_half, word_1, Ff.word_2, Ff.word_1024, cmul, cdiv _ _ (by norm_num : (1024 : ℝ) ≠ 0), de]
  congr 1
  ring

theorem rTan_at (r : Fin 4096) : rTan a0 a1 a2 (ix1 r)
    = (((∑ c : Fin 1024, D.h r c * (de D r c * D.g c)) * (-(1 / 2) * (rr D r / ms D r)) / 1024 : ℝ) : EReal) := by
  pointwise [rTan]
  simp only [Finset.univ_unique, Fin.default_eq_zero, Finset.sum_singleton]
  simp only [rMs_at H, rDe_at H, rH_at H, H.g, crsqrt _ (ms_pos _ _), cdiv _ _ (ms_pos _ _).ne', word_neg_half, Ff.word_1024, cmul,
    csum, cdiv _ _ (by norm_num : (1024 : ℝ) ≠ 0)]
  rfl

theorem rDh_at (r : Fin 4096) (c : Fin 1024) : rDh a0 a1 a2 (ix2 r c) = ((dh D r c : ℝ) : EReal) := by
  pointwise [rDh]
  simp only [rMs_at H, rDe_at H, rTan_at H, rH_at H, H.g, crsqrt _ (ms_pos _ _), cmul, cadd]
  rw [← dh_eq]
  rfl

theorem rDg_at (c : Fin 1024) : rDg a0 a1 a2 (ix2 0 c) = ((dgN D 4 c : ℝ) : EReal) := by
  pointwise [rDg]
  simp only [rMs_at H, rDe_at H, rH_at H, crsqrt _ (ms_pos _ _), cmul, csum, dgN_eq, xh, rr]
  congr 1
  refine Finset.sum_congr rfl fun r _ => ?_
  ring

theorem rMse_at (r : Fin 4096) : rMse a0 a1 a2 (ix1 r) = ((mse D r : ℝ) : EReal) := by
  pointwise [rMse]
  simp only [rErr_at H, Ff.word_1024, cmul, csum, cdiv _ _ (by norm_num : (1024 : ℝ) ≠ 0), mse]

theorem rLoss_at (r : Fin 8) (c : Fin 128) : rLoss a0 a1 a2 (ix2 r c) = ((loss D : ℝ) : EReal) := by
  have e := rMse_at H
  pointwise [rLoss]
  simp only [e, word_half, cmul, csum, loss_eq]

omit H in
/-- The reference's first result, in these terms. -/
theorem res_out (m : (ℓ : Loc nD τ sig) → Buf (Elt Ideal) ℓ) (c : Dev nD) :
    Value.res_out0 m c = rDh (m ((c.tc : Thread nD τ).loc main_arg0)) (m ((c.tc : Thread nD τ).loc main_arg1))
      (m ((c.tc : Thread nD τ).loc main_arg2)) := rfl

theorem ref_out : rDh a0 a1 a2 = G0 D := by
  funext y
  obtain ⟨r, k, rfl⟩ : ∃ (r : Fin 4096) (k : Fin 1024), y = ix2 r k := ⟨y 0, y 1, Ff.eta y⟩
  exact rDh_at H r k

theorem ref_dg : rDg a0 a1 a2 = G1 D := by
  funext y
  obtain ⟨r, k, rfl⟩ : ∃ (r : Fin 1) (k : Fin 1024), y = ix2 r k := ⟨y 0, y 1, Ff.eta y⟩
  obtain rfl : r = 0 := Subsingleton.elim _ _
  exact rDg_at H k

theorem ref_loss : rLoss a0 a1 a2 = G2 D := by
  funext y
  obtain ⟨r, k, rfl⟩ : ∃ (r : Fin 8) (k : Fin 128), y = ix2 r k := ⟨y 0, y 1, Ff.eta y⟩
  exact rLoss_at H r k

end

end Cert.Proof.Lo

end
-- ==== Proof.lean ====
/- The claims of this certificate, assembled. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.StepRun
public import proofs.«01_k».proof.Proof.KerGrid
public import proofs.«01_k».proof.Proof.Finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.FfGrid
public import proofs.«01_k».proof.Proof.FfRef
public import proofs.«01_k».proof.Proof.W1Grid
public import proofs.«01_k».proof.Proof.W2Grid
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.WOut
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.WGla
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.WCp
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.DnGrid
public import proofs.«01_k».proof.Proof.DnRef
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.NGla
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.NCp
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Mr
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.DhGrid
public import proofs.«01_k».proof.Proof.DhRef
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.DrGrid
public import proofs.«01_k».proof.Proof.DrRef
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.LoGrid
public import proofs.«01_k».proof.Proof.LoRef
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame: its run's last conjunct; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- What the reference leaves, of arguments that hold the data. -/
theorem reference_values (m : (ℓ : Loc Cert.ReferenceIdeal.nD Cert.ReferenceIdeal.τ Cert.ReferenceIdeal.sig) → Buf (Elt Ideal) ℓ)
    (c : Dev Cert.ReferenceIdeal.nD) {D : Gla.Data} {a0 a1 a2 a3 a4 a5 a6 a7} (H : Gla.Args D a0 a1 a2 a3 a4 a5 a6 a7) :
    Cert.ReferenceIdeal.Step.R_main_v27 (Gla.refIter a0 a1 a2 a3 a4 a5 a6 a7 65) = Gla.G8 D
    ∧ (Gla.refIter a0 a1 a2 a3 a4 a5 a6 a7 65).main_v20_11 = Gla.G9 D
    ∧ (Gla.refIter a0 a1 a2 a3 a4 a5 a6 a7 65).main_v20_12 = Gla.G10 D
    ∧ (Gla.refIter a0 a1 a2 a3 a4 a5 a6 a7 65).main_v20_13 = Gla.G11 D := by
  have S := Gla.done_iter H 65 le_rfl
  refine ⟨?_, ?_, ?_, ?_⟩
  · funext y
    obtain ⟨r, k, rfl⟩ : ∃ (r : Fin 4160) (k : Fin 3200), y = ix2 r k := ⟨y 0, y 1, Gla.eta2 y⟩
    exact Gla.ref_dz S r k
  · funext y
    obtain ⟨r, k, rfl⟩ : ∃ (r : Fin 128) (k : Fin 512), y = ix2 r k := ⟨y 0, y 1, Gla.eta2 y⟩
    exact S.gw r k
  · funext y
    obtain ⟨r, k, rfl⟩ : ∃ (r : Fin 1) (k : Fin 512), y = ix2 r k := ⟨y 0, y 1, Gla.eta2 y⟩
    obtain rfl : r = 0 := Subsingleton.elim _ _
    exact S.gb k
  · funext y
    obtain ⟨r, k, rfl⟩ : ∃ (r : Fin 1) (k : Fin 256), y = ix2 r k := ⟨y 0, y 1, Gla.eta2 y⟩
    obtain rfl : r = 0 := Subsingleton.elim _ _
    exact S.hg k

/-- The kernel's results are the reference's. -/
theorem algebraic : Cert.algebraic_KernelIdeal_ReferenceIdeal_pre_finite (hKernelIdeal := Cert.KernelIdeal.Gen.facts)
    (hReferenceIdeal := Cert.ReferenceIdeal.Gen.facts) (hPre_finite := Gla.finite_facts) := by
  intro m g m' g' hp he
  choose D H using Gla.args_of_finite m hp
  refine ⟨fun c => Gla.G8 (D c), fun c => Gla.G9 (D c), fun c => Gla.G10 (D c), fun c => Gla.G11 (D c), ?_, ?_⟩
  · exact (θ_run Cert.KernelIdeal.defs _ _).mono (fun _ h c =>
      ⟨(h c).1.trans (Gla.final8 (H c)), (h c).2.1.trans (Gla.final9 (H c)), (h c).2.2.1.trans (Gla.final10 (H c)),
        (h c).2.2.2.1.trans (Gla.final11 (H c)), (h c).2.2.2.2⟩) (Cert.KernelIdeal.Value.run_blocks m g)
  · let A := fun (c : Dev Cert.KernelIdeal.nD) => Gla.refIter
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
    have hA : ∀ c, A c 0 = Cert.ReferenceIdeal.StepRun.initState m' c := fun c => by
      obtain ⟨h0, h1, h2, h3, h4, h5, h6, h7⟩ := he c
      show Cert.ReferenceIdeal.Step.init _ _ _ _ _ _ _ _ = Cert.ReferenceIdeal.Step.init _ _ _ _ _ _ _ _
      rw [← h0, ← h1, ← h2, ← h3, ← h4, ← h5, ← h6, ← h7]
    exact (θ_run Cert.ReferenceIdeal.defs _ _).mono (fun _ h c => by
      have R := reference_values m' c (H c)
      exact ⟨(h c).1.trans R.1, (h c).2.1.trans R.2.1, (h c).2.2.1.trans R.2.2.1,
        (h c).2.2.2.1.trans R.2.2.2, (h c).2.2.2.2⟩)
      (Cert.ReferenceIdeal.StepRun.run_iter m' g' A hA fun _ _ => rfl)

theorem frame_reference2 : Cert.quiescent_Reference2Ideal (hReference2Ideal := Cert.Reference2Ideal.Gen.facts) := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

theorem frame_reference3 : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem frame_reference4 : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The feed-forward backward kernel's results are the reference's. -/
theorem algebraic2 : Cert.algebraic_Kernel2Ideal_Reference2Ideal_pre_finite2 (hKernel2Ideal := Cert.Kernel2Ideal.Gen.facts)
    (hReference2Ideal := Cert.Reference2Ideal.Gen.facts) (hPre_finite2 := Ff.finite2_facts) := by
  intro m g m' g' hp he
  choose D H using fun c => Ff.args_of_finite2 m hp c
  refine ⟨fun c => Ff.G0 (D c), fun c => Ff.G1 (D c), fun c => Ff.G2 (D c), ?_, ?_⟩
  · exact (θ_run Cert.Kernel2Ideal.defs _ _).mono (fun _ h c =>
      ⟨(h c).1.trans (Ff.final6 (H c)), (h c).2.1.trans (Ff.final7 (H c)), (h c).2.2.1.trans (Ff.final8 (H c)),
        (h c).2.2.2⟩) (Cert.Kernel2Ideal.Value.run_blocks m g)
  · exact (θ_run Cert.Reference2Ideal.defs _ _).mono (fun _ h c => by
      have E := H c
      obtain ⟨e0, e1, e2, e3, e4, e5⟩ := he c
      rw [← e0, ← e1, ← e2, ← e3, ← e4, ← e5] at E
      exact ⟨(h c).1.trans ((Ff.res_out m' c).trans (Ff.ref_out E)), (h c).2.1.trans (Ff.ref_dp E),
        (h c).2.2.1.trans (Ff.ref_dg E), (h c).2.2.2⟩) (Cert.Reference2Ideal.Value.run (F := Ideal) m' g')

/-- The first feed-forward weight's gradient is the reference's. -/
theorem algebraic3 : Cert.algebraic_Kernel3Ideal_Reference3Ideal (hKernel3Ideal := Cert.Kernel3Ideal.Gen.facts)
    (hReference3Ideal := Cert.Reference3Ideal.Gen.facts) := by
  intro m g m' g' _ he
  refine ⟨fun c => W1.grad
    (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · exact (θ_run Cert.Kernel3Ideal.defs _ _).mono (fun _ h c => ⟨(h c).1.trans W1.final, (h c).2⟩)
      (Cert.Kernel3Ideal.Value.run_blocks m g)
  · exact (θ_run Cert.Reference3Ideal.defs _ _).mono (fun _ h c => by
      obtain ⟨e0, e1⟩ := he c
      refine ⟨(h c).1.trans ?_, (h c).2⟩
      beta_reduce
      rw [← e0, ← e1]
      exact W1.ref_grad _ _) (Cert.Reference3Ideal.Value.run (F := Ideal) m' g')

/-- The second feed-forward weight's gradient is the reference's. -/
theorem algebraic4 : Cert.algebraic_Kernel4Ideal_Reference4Ideal (hKernel4Ideal := Cert.Kernel4Ideal.Gen.facts)
    (hReference4Ideal := Cert.Reference4Ideal.Gen.facts) := by
  intro m g m' g' _ he
  refine ⟨fun c => W2.grad
    (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), ?_, ?_⟩
  · exact (θ_run Cert.Kernel4Ideal.defs _ _).mono (fun _ h c => ⟨(h c).1.trans W2.final, (h c).2⟩)
      (Cert.Kernel4Ideal.Value.run_blocks m g)
  · exact (θ_run Cert.Reference4Ideal.defs _ _).mono (fun _ h c => by
      obtain ⟨e0, e1⟩ := he c
      refine ⟨(h c).1.trans ?_, (h c).2⟩
      beta_reduce
      rw [← e0, ← e1]
      exact W2.ref_grad _ _) (Cert.Reference4Ideal.Value.run (F := Ideal) m' g')

theorem frame_reference5 : Cert.quiescent_Reference5Ideal (hReference5Ideal := Cert.Reference5Ideal.Gen.facts) := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem frame_reference6 : Cert.quiescent_Reference6Ideal (hReference6Ideal := Cert.Reference6Ideal.Gen.facts) := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem frame_reference7 : Cert.quiescent_Reference7Ideal (hReference7Ideal := Cert.Reference7Ideal.Gen.facts) := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem frame_reference9 : Cert.quiescent_Reference9Ideal (hReference9Ideal := Cert.Reference9Ideal.Gen.facts) := fun m ρ _ =>
  (θ_run Cert.Reference9Ideal.defs _ _).mono (fun r h => ⟨fun c => (h c).2.2,
      Idealize.ShloMosaic.sem_eq_zero_of_no_sems (by decide) r.2⟩)
    (Cert.Reference9Ideal.Value.run (F := Ideal) m ρ)

theorem frame_reference10 : Cert.quiescent_Reference10Ideal (hReference10Ideal := Cert.Reference10Ideal.Gen.facts) := fun m ρ _ =>
  (θ_run Cert.Reference10Ideal.defs _ _).mono (fun r h => ⟨fun c => (h c).2.2,
      Idealize.ShloMosaic.sem_eq_zero_of_no_sems (by decide) r.2⟩)
    (Cert.Reference10Ideal.Value.run (F := Ideal) m ρ)

theorem frame_reference11 : Cert.quiescent_Reference11Ideal (hReference11Ideal := Cert.Reference11Ideal.Gen.facts) := fun m ρ _ =>
  (θ_run Cert.Reference11Ideal.defs _ _).mono (fun r h => ⟨fun c => (h c).2.2,
      Idealize.ShloMosaic.sem_eq_zero_of_no_sems (by decide) r.2⟩)
    (Cert.Reference11Ideal.Value.run (F := Ideal) m ρ)

theorem frame_reference12 : Cert.quiescent_Reference12Ideal (hReference12Ideal := Cert.Reference12Ideal.Gen.facts) := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

theorem frame_reference13 : Cert.quiescent_Reference13Ideal (hReference13Ideal := Cert.Reference13Ideal.Gen.facts) := fun m ρ _ =>
  (θ_run Cert.Reference13Ideal.defs _ _).mono (fun r h => ⟨fun c => (h c).2.2,
      Idealize.ShloMosaic.sem_eq_zero_of_no_sems (by decide) r.2⟩)
    (Cert.Reference13Ideal.Value.run (F := Ideal) m ρ)

theorem frame_reference14 : Cert.quiescent_Reference14Ideal (hReference14Ideal := Cert.Reference14Ideal.Gen.facts) := fun m ρ _ =>
  (θ_run Cert.Reference14Ideal.defs _ _).mono (fun r h => ⟨fun c => (h c).2.2,
      Idealize.ShloMosaic.sem_eq_zero_of_no_sems (by decide) r.2⟩)
    (Cert.Reference14Ideal.Value.run (F := Ideal) m ρ)

theorem frame_reference15 : Cert.quiescent_Reference15Ideal (hReference15Ideal := Cert.Reference15Ideal.Gen.facts) := fun m ρ _ =>
  (θ_run Cert.Reference15Ideal.defs _ _).mono (fun r h => ⟨fun c => (h c).2.2.2,
      Idealize.ShloMosaic.sem_eq_zero_of_no_sems (by decide) r.2⟩)
    (Cert.Reference15Ideal.Value.run (F := Ideal) m ρ)

/-- An output projection's gradient is the reference's. -/
theorem algebraic5 : Cert.algebraic_Kernel5Ideal_Reference5Ideal (hKernel5Ideal := Cert.Kernel5Ideal.Gen.facts)
    (hReference5Ideal := Cert.Reference5Ideal.Gen.facts) := by
  intro m g m' g' _ he
  refine ⟨fun c => WOut.grad
    (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · exact (θ_run Cert.Kernel5Ideal.defs _ _).mono (fun _ h c => ⟨(h c).1.trans WOut.final, (h c).2⟩)
      (Cert.Kernel5Ideal.Value.run_blocks m g)
  · exact (θ_run Cert.Reference5Ideal.defs _ _).mono (fun _ h c => by
      obtain ⟨e0, e1⟩ := he c
      refine ⟨(h c).1.trans ?_, (h c).2⟩
      beta_reduce
      rw [← e0, ← e1]
      exact WOut.ref_grad _ _) (Cert.Reference5Ideal.Value.run (F := Ideal) m' g')

/-- The GLA input projection's gradient is the reference's. -/
theorem algebraic6 : Cert.algebraic_Kernel6Ideal_Reference6Ideal (hKernel6Ideal := Cert.Kernel6Ideal.Gen.facts)
    (hReference6Ideal := Cert.Reference6Ideal.Gen.facts) := by
  intro m g m' g' _ he
  refine ⟨fun c => WGla.grad
    (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · exact (θ_run Cert.Kernel6Ideal.defs _ _).mono (fun _ h c => ⟨(h c).1.trans WGla.final, (h c).2⟩)
      (Cert.Kernel6Ideal.Value.run_blocks m g)
  · exact (θ_run Cert.Reference6Ideal.defs _ _).mono (fun _ h c => by
      obtain ⟨e0, e1⟩ := he c
      refine ⟨(h c).1.trans ?_, (h c).2⟩
      beta_reduce
      rw [← e0, ← e1]
      exact WGla.ref_grad _ _) (Cert.Reference6Ideal.Value.run (F := Ideal) m' g')

/-- The convolution layer's input projection's gradient is the reference's. -/
theorem algebraic7 : Cert.algebraic_Kernel7Ideal_Reference7Ideal (hKernel7Ideal := Cert.Kernel7Ideal.Gen.facts)
    (hReference7Ideal := Cert.Reference7Ideal.Gen.facts) := by
  intro m g m' g' _ he
  refine ⟨fun c => WCp.grad
    (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1)), ?_, ?_⟩
  · exact (θ_run Cert.Kernel7Ideal.defs _ _).mono (fun _ h c => ⟨(h c).1.trans WCp.final, (h c).2⟩)
      (Cert.Kernel7Ideal.Value.run_blocks m g)
  · exact (θ_run Cert.Reference7Ideal.defs _ _).mono (fun _ h c => by
      obtain ⟨e0, e1⟩ := he c
      refine ⟨(h c).1.trans ?_, (h c).2⟩
      beta_reduce
      rw [← e0, ← e1]
      exact WCp.ref_grad _ _) (Cert.Reference7Ideal.Value.run (F := Ideal) m' g')

/-- The GLA input projection's backward pass to its input is the reference's. -/
theorem algebraic9 : Cert.algebraic_Kernel9Ideal_Reference9Ideal_pre_finite9 (hKernel9Ideal := Cert.Kernel9Ideal.Gen.facts)
    (hReference9Ideal := Cert.Reference9Ideal.Gen.facts) (hPre_finite9 := Dn.finite9_facts) := by
  intro m g m' g' hp he
  choose D H using fun c => Dn.args_of_finite9 m hp c
  refine ⟨fun c => Dn.G0 (D c), fun c => Dn.G1 (D c), ?_, ?_⟩
  · exact (θ_run Cert.Kernel9Ideal.defs _ _).mono (fun _ h c =>
      ⟨(h c).1.trans (Dn.final5 (H c)), (h c).2.1.trans (Dn.final6 (H c)), (h c).2.2⟩) (Cert.Kernel9Ideal.Value.run_blocks m g)
  · exact (θ_run Cert.Reference9Ideal.defs _ _).mono (fun _ h c => by
      have E := H c
      obtain ⟨e0, e1, e2, e3, e4⟩ := he c
      rw [← e0, ← e1, ← e2, ← e3, ← e4] at E
      exact ⟨(h c).1.trans ((Dn.res_out m' c).trans (Dn.ref_out E)), (h c).2.1.trans (Dn.ref_dg E), (h c).2.2⟩)
      (Cert.Reference9Ideal.Value.run (F := Ideal) m' g')

/-- The GLA layer's normalised input and its projection are the reference's. -/
theorem algebraic10 : Cert.algebraic_Kernel10Ideal_Reference10Ideal (hKernel10Ideal := Cert.Kernel10Ideal.Gen.facts)
    (hReference10Ideal := Cert.Reference10Ideal.Gen.facts) := by
  intro m g m' g' _ he
  refine ⟨fun c => Ng.proj
    (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1))
    (m ((c.tc : Thread Cert.Kernel10Ideal.nD Cert.Kernel10Ideal.τ).loc Cert.Kernel10Ideal.main_arg2)),
    fun c => Ng.norm
    (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1)), ?_, ?_⟩
  · exact (θ_run Cert.Kernel10Ideal.defs _ _).mono (fun _ h c =>
      ⟨(h c).1.trans Ng.final3, (h c).2.1.trans Ng.final4, (h c).2.2⟩) (Cert.Kernel10Ideal.Value.run_blocks m g)
  · exact (θ_run Cert.Reference10Ideal.defs _ _).mono (fun _ h c => by
      obtain ⟨e0, e1, e2⟩ := he c
      refine ⟨(h c).1.trans ?_, (h c).2.1.trans ?_, (h c).2.2⟩
      · beta_reduce
        rw [← e0, ← e1, ← e2]
        exact Ng.ref_proj _ _ _
      · beta_reduce
        rw [← e0, ← e1]
        exact Ng.ref_norm _ _) (Cert.Reference10Ideal.Value.run (F := Ideal) m' g')

/-- The convolution layer's normalised input and its projection are the reference's. -/
theorem algebraic11 : Cert.algebraic_Kernel11Ideal_Reference11Ideal (hKernel11Ideal := Cert.Kernel11Ideal.Gen.facts)
    (hReference11Ideal := Cert.Reference11Ideal.Gen.facts) := by
  intro m g m' g' _ he
  refine ⟨fun c => Nc.proj
    (m ((c.tc : Thread Cert.Kernel11Ideal.nD Cert.Kernel11Ideal.τ).loc Cert.Kernel11Ideal.main_arg0))
    (m ((c.tc : Thread Cert.Kernel11Ideal.nD Cert.Kernel11Ideal.τ).loc Cert.Kernel11Ideal.main_arg1))
    (m ((c.tc : Thread Cert.Kernel11Ideal.nD Cert.Kernel11Ideal.τ).loc Cert.Kernel11Ideal.main_arg2)),
    fun c => Nc.norm
    (m ((c.tc : Thread Cert.Kernel11Ideal.nD Cert.Kernel11Ideal.τ).loc Cert.Kernel11Ideal.main_arg0))
    (m ((c.tc : Thread Cert.Kernel11Ideal.nD Cert.Kernel11Ideal.τ).loc Cert.Kernel11Ideal.main_arg1)), ?_, ?_⟩
  · exact (θ_run Cert.Kernel11Ideal.defs _ _).mono (fun _ h c =>
      ⟨(h c).1.trans Nc.final3, (h c).2.1.trans Nc.final4, (h c).2.2⟩) (Cert.Kernel11Ideal.Value.run_blocks m g)
  · exact (θ_run Cert.Reference11Ideal.defs _ _).mono (fun _ h c => by
      obtain ⟨e0, e1, e2⟩ := he c
      refine ⟨(h c).1.trans ?_, (h c).2.1.trans ?_, (h c).2.2⟩
      · beta_reduce
        rw [← e0, ← e1, ← e2]
        exact Nc.ref_proj _ _ _
      · beta_reduce
        rw [← e0, ← e1]
        exact Nc.ref_norm _ _) (Cert.Reference11Ideal.Value.run (F := Ideal) m' g')

/-- An output projection with the residual is the reference's. -/
theorem algebraic12 : Cert.algebraic_Kernel12Ideal_Reference12Ideal (hKernel12Ideal := Cert.Kernel12Ideal.Gen.facts)
    (hReference12Ideal := Cert.Reference12Ideal.Gen.facts) := by
  intro m g m' g' _ he
  refine ⟨fun c => Mr.grad
    (m ((c.tc : Thread Cert.Kernel12Ideal.nD Cert.Kernel12Ideal.τ).loc Cert.Kernel12Ideal.main_arg0))
    (m ((c.tc : Thread Cert.Kernel12Ideal.nD Cert.Kernel12Ideal.τ).loc Cert.Kernel12Ideal.main_arg1))
    (m ((c.tc : Thread Cert.Kernel12Ideal.nD Cert.Kernel12Ideal.τ).loc Cert.Kernel12Ideal.main_arg2)), ?_, ?_⟩
  · exact (θ_run Cert.Kernel12Ideal.defs _ _).mono (fun _ h c => ⟨(h c).1.trans Mr.final, (h c).2⟩)
      (Cert.Kernel12Ideal.Value.run_blocks m g)
  · exact (θ_run Cert.Reference12Ideal.defs _ _).mono (fun _ h c => by
      obtain ⟨e0, e1, e2⟩ := he c
      refine ⟨(h c).1.trans ?_, (h c).2⟩
      beta_reduce
      rw [← e0, ← e1, ← e2]
      exact Mr.ref_grad _ _ _) (Cert.Reference12Ideal.Value.run (F := Ideal) m' g')

/-- The convolution layer's input projection's backward pass on the first chunk's rows is the reference's. -/
theorem algebraic13 : Cert.algebraic_Kernel13Ideal_Reference13Ideal_pre_finite13 (hKernel13Ideal := Cert.Kernel13Ideal.Gen.facts)
    (hReference13Ideal := Cert.Reference13Ideal.Gen.facts) (hPre_finite13 := Di.finite13_facts) := by
  intro m g m' g' hp he
  choose D H using fun c => Di.args_of_finite13 m hp c
  refine ⟨fun c => Di.H0 (D c), fun c => Di.H1 (D c), ?_, ?_⟩
  · exact (θ_run Cert.Kernel13Ideal.defs _ _).mono (fun _ h c =>
      ⟨(h c).1.trans (Dh.final5 (H c)), (h c).2.1.trans (Dh.final6 (H c)), (h c).2.2⟩) (Cert.Kernel13Ideal.Value.run_blocks m g)
  · exact (θ_run Cert.Reference13Ideal.defs _ _).mono (fun _ h c => by
      have E := H c
      obtain ⟨e0, e1, e2, e3, e4⟩ := he c
      rw [← e0, ← e1, ← e2, ← e3, ← e4] at E
      exact ⟨(h c).1.trans ((Dh.res_out m' c).trans (Dh.ref_out E)), (h c).2.1.trans (Dh.ref_dg E), (h c).2.2⟩)
      (Cert.Reference13Ideal.Value.run (F := Ideal) m' g')

/-- The convolution layer's input projection's backward pass on the other rows is the reference's. -/
theorem algebraic14 : Cert.algebraic_Kernel14Ideal_Reference14Ideal_pre_finite14 (hKernel14Ideal := Cert.Kernel14Ideal.Gen.facts)
    (hReference14Ideal := Cert.Reference14Ideal.Gen.facts) (hPre_finite14 := Di.finite14_facts) := by
  intro m g m' g' hp he
  choose D H using fun c => Di.args_of_finite14 m hp c
  refine ⟨fun c => Di.G0 (D c).1, fun c => Di.G1 (D c).1 (D c).2, ?_, ?_⟩
  · exact (θ_run Cert.Kernel14Ideal.defs _ _).mono (fun _ h c =>
      ⟨(h c).1.trans (Dr.final6 (H c).1), (h c).2.1.trans (Dr.final7 (H c).1 (H c).2), (h c).2.2⟩) (Cert.Kernel14Ideal.Value.run_blocks m g)
  · exact (θ_run Cert.Reference14Ideal.defs _ _).mono (fun _ h c => by
      have E := H c
      obtain ⟨e0, e1, e2, e3, e4, e5⟩ := he c
      rw [← e0, ← e1, ← e2, ← e3, ← e4, ← e5] at E
      exact ⟨(h c).1.trans ((Dr.res_out m' c).trans (Dr.ref_out E.1)), (h c).2.1.trans (Dr.ref_dg E.1 E.2), (h c).2.2⟩)
      (Cert.Reference14Ideal.Value.run (F := Ideal) m' g')

/-- The loss and its backward pass through the final normalisation are the reference's. -/
theorem algebraic15 : Cert.algebraic_Kernel15Ideal_Reference15Ideal_pre_finite15 (hKernel15Ideal := Cert.Kernel15Ideal.Gen.facts)
    (hReference15Ideal := Cert.Reference15Ideal.Gen.facts) (hPre_finite15 := Lo.finite15_facts) := by
  intro m g m' g' hp he
  choose D H using fun c => Lo.args_of_finite15 m hp c
  refine ⟨fun c => Lo.G0 (D c), fun c => Lo.G1 (D c), fun c => Lo.G2 (D c), ?_, ?_⟩
  · exact (θ_run Cert.Kernel15Ideal.defs _ _).mono (fun _ h c =>
      ⟨(h c).1.trans (Lo.final3 (H c)), (h c).2.1.trans (Lo.final4 (H c)), (h c).2.2.1.trans (Lo.final5 (H c)), (h c).2.2.2⟩) (Cert.Kernel15Ideal.Value.run_blocks m g)
  · exact (θ_run Cert.Reference15Ideal.defs _ _).mono (fun _ h c => by
      have E := H c
      obtain ⟨e0, e1, e2⟩ := he c
      rw [← e0, ← e1, ← e2] at E
      exact ⟨(h c).1.trans ((Lo.res_out m' c).trans (Lo.ref_out E)), (h c).2.1.trans (Lo.ref_dg E), (h c).2.2.1.trans (Lo.ref_loss E), (h c).2.2.2⟩)
      (Cert.Reference15Ideal.Value.run (F := Ideal) m' g')

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Gla.finite_facts, Ff.finite2_facts, Dn.finite9_facts, Di.finite13_facts, Di.finite14_facts, Lo.finite15_facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ,
    fun m ρ _ => Cert.Kernel2Ideal.Gen.frame m ρ, frame_reference2, fun m ρ _ => frame_reference2 m ρ trivial,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel9.Gen.frame m ρ, fun m ρ _ => Cert.Kernel9Ideal.Gen.frame m ρ,
    fun m ρ _ => Cert.Kernel9Ideal.Gen.frame m ρ, frame_reference9, fun m ρ _ => frame_reference9 m ρ trivial,
    fun m ρ _ => Cert.Kernel10.Gen.frame m ρ, fun m ρ _ => Cert.Kernel10Ideal.Gen.frame m ρ, frame_reference10,
    fun m ρ _ => Cert.Kernel11.Gen.frame m ρ, fun m ρ _ => Cert.Kernel11Ideal.Gen.frame m ρ, frame_reference11,
    fun m ρ _ => Cert.Kernel12.Gen.frame m ρ, fun m ρ _ => Cert.Kernel12Ideal.Gen.frame m ρ, frame_reference12,
    fun m ρ _ => Cert.Kernel13.Gen.frame m ρ, fun m ρ _ => Cert.Kernel13Ideal.Gen.frame m ρ,
    fun m ρ _ => Cert.Kernel13Ideal.Gen.frame m ρ, frame_reference13, fun m ρ _ => frame_reference13 m ρ trivial,
    fun m ρ _ => Cert.Kernel14.Gen.frame m ρ, fun m ρ _ => Cert.Kernel14Ideal.Gen.frame m ρ,
    fun m ρ _ => Cert.Kernel14Ideal.Gen.frame m ρ, frame_reference14, fun m ρ _ => frame_reference14 m ρ trivial,
    fun m ρ _ => Cert.Kernel15.Gen.frame m ρ, fun m ρ _ => Cert.Kernel15Ideal.Gen.frame m ρ,
    fun m ρ _ => Cert.Kernel15Ideal.Gen.frame m ρ, frame_reference15, fun m ρ _ => frame_reference15 m ρ trivial,
    trivial, algebraic, trivial, algebraic2, trivial, algebraic3, trivial, algebraic4,
    trivial, algebraic5,
    trivial, algebraic6,
    trivial, algebraic7,
    trivial, algebraic9,
    trivial, algebraic10,
    trivial, algebraic11,
    trivial, algebraic12,
    trivial, algebraic13,
    trivial, algebraic14,
    trivial, algebraic15⟩

end Cert.Proof

end
